-- ==== Defs.lean ====
def Pre_GqaBwd (m : (ℓ : Loc Cert.GqaBwd.nD Cert.GqaBwd.τ Cert.GqaBwd.sig) → Buf (Elt Bits) ℓ) : Prop :=
  True

def Pre_GqaBwdIdeal (m : (ℓ : Loc Cert.GqaBwdIdeal.nD Cert.GqaBwdIdeal.τ Cert.GqaBwdIdeal.sig) → Buf (Elt Ideal) ℓ) : Prop :=
  True

def Pre_GqaBwdIdeal_finite_qk [hPre_finite_qk : Cert.Pre_finite_qk.Facts] (m : (ℓ : Loc Cert.GqaBwdIdeal.nD Cert.GqaBwdIdeal.τ Cert.GqaBwdIdeal.sig) → Buf (Elt Ideal) ℓ) : Prop :=
  ∀ c : Dev Cert.GqaBwdIdeal.nD,
    (Cert.Pre_finite_qk.fn (F := Ideal) (m ((c.tc : Thread Cert.GqaBwdIdeal.nD Cert.GqaBwdIdeal.τ).loc Cert.GqaBwdIdeal.main_arg0)) (m ((c.tc : Thread Cert.GqaBwdIdeal.nD Cert.GqaBwdIdeal.τ).loc Cert.GqaBwdIdeal.main_arg1)) (m ((c.tc : Thread Cert.GqaBwdIdeal.nD Cert.GqaBwdIdeal.τ).loc Cert.GqaBwdIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Db (m : (ℓ : Loc Cert.Db.nD Cert.Db.τ Cert.Db.sig) → Buf (Elt Bits) ℓ) : Prop :=
  True

def Pre_DbIdeal (m : (ℓ : Loc Cert.DbIdeal.nD Cert.DbIdeal.τ Cert.DbIdeal.sig) → Buf (Elt Ideal) ℓ) : Prop :=
  True

def Pre_DbRefIdeal (m : (ℓ : Loc Cert.DbRefIdeal.nD Cert.DbRefIdeal.τ Cert.DbRefIdeal.sig) → Buf (Elt Ideal) ℓ) : Prop :=
  True

def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_GqaPr (m : (ℓ : Loc Cert.GqaPr.nD Cert.GqaPr.τ Cert.GqaPr.sig) → Buf (Elt Bits) ℓ) : Prop :=
  True

def Pre_GqaPrIdeal (m : (ℓ : Loc Cert.GqaPrIdeal.nD Cert.GqaPrIdeal.τ Cert.GqaPrIdeal.sig) → Buf (Elt Ideal) ℓ) : Prop :=
  True

def Pre_GqaPrRefIdeal (m : (ℓ : Loc Cert.GqaPrRefIdeal.nD Cert.GqaPrRefIdeal.τ Cert.GqaPrRefIdeal.sig) → Buf (Elt Ideal) ℓ) : Prop :=
  True

def Pre_GqaDa (m : (ℓ : Loc Cert.GqaDa.nD Cert.GqaDa.τ Cert.GqaDa.sig) → Buf (Elt Bits) ℓ) : Prop :=
  True

def Pre_GqaDaIdeal (m : (ℓ : Loc Cert.GqaDaIdeal.nD Cert.GqaDaIdeal.τ Cert.GqaDaIdeal.sig) → Buf (Elt Ideal) ℓ) : Prop :=
  True

def Pre_GqaDaRefIdeal (m : (ℓ : Loc Cert.GqaDaRefIdeal.nD Cert.GqaDaRefIdeal.τ Cert.GqaDaRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GqaFwd (m : (ℓ : Loc Cert.GqaFwd.nD Cert.GqaFwd.τ Cert.GqaFwd.sig) → Buf (Elt Bits) ℓ) : Prop :=
  True

def Pre_GqaFwdIdeal (m : (ℓ : Loc Cert.GqaFwdIdeal.nD Cert.GqaFwdIdeal.τ Cert.GqaFwdIdeal.sig) → Buf (Elt Ideal) ℓ) : Prop :=
  True

def Pre_GqaFwdIdeal_finite_qk_fwd [hPre_finite_qk_fwd : Cert.Pre_finite_qk_fwd.Facts] (m : (ℓ : Loc Cert.GqaFwdIdeal.nD Cert.GqaFwdIdeal.τ Cert.GqaFwdIdeal.sig) → Buf (Elt Ideal) ℓ) : Prop :=
  ∀ c : Dev Cert.GqaFwdIdeal.nD,
    (Cert.Pre_finite_qk_fwd.fn (F := Ideal) (m ((c.tc : Thread Cert.GqaFwdIdeal.nD Cert.GqaFwdIdeal.τ).loc Cert.GqaFwdIdeal.main_arg0)) (m ((c.tc : Thread Cert.GqaFwdIdeal.nD Cert.GqaFwdIdeal.τ).loc Cert.GqaFwdIdeal.main_arg1))) = (fun _ => 1#1)

def Pre_GqaFwdRefIdeal (m : (ℓ : Loc Cert.GqaFwdRefIdeal.nD Cert.GqaFwdRefIdeal.τ Cert.GqaFwdRefIdeal.sig) → Buf (Elt Ideal) ℓ) : Prop :=
  True

def Pre_GqaFwdRefIdeal_finite_qk_fwd [hPre_finite_qk_fwd : Cert.Pre_finite_qk_fwd.Facts] (m : (ℓ : Loc Cert.GqaFwdRefIdeal.nD Cert.GqaFwdRefIdeal.τ Cert.GqaFwdRefIdeal.sig) → Buf (Elt Ideal) ℓ) : Prop :=
  ∀ c : Dev Cert.GqaFwdRefIdeal.nD,
    (Cert.Pre_finite_qk_fwd.fn (F := Ideal) (m ((c.tc : Thread Cert.GqaFwdRefIdeal.nD Cert.GqaFwdRefIdeal.τ).loc Cert.GqaFwdRefIdeal.main_arg0)) (m ((c.tc : Thread Cert.GqaFwdRefIdeal.nD Cert.GqaFwdRefIdeal.τ).loc Cert.GqaFwdRefIdeal.main_arg1))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_NaFwd (m : (ℓ : Loc Cert.NaFwd.nD Cert.NaFwd.τ Cert.NaFwd.sig) → Buf (Elt Bits) ℓ) : Prop :=
  True

def Pre_NaFwdIdeal (m : (ℓ : Loc Cert.NaFwdIdeal.nD Cert.NaFwdIdeal.τ Cert.NaFwdIdeal.sig) → Buf (Elt Ideal) ℓ) : Prop :=
  True

def Pre_NaFwdIdeal_finite_na [hPre_finite_na : Cert.Pre_finite_na.Facts] (m : (ℓ : Loc Cert.NaFwdIdeal.nD Cert.NaFwdIdeal.τ Cert.NaFwdIdeal.sig) → Buf (Elt Ideal) ℓ) : Prop :=
  ∀ c : Dev Cert.NaFwdIdeal.nD,
    (Cert.Pre_finite_na.fn (F := Ideal) (m ((c.tc : Thread Cert.NaFwdIdeal.nD Cert.NaFwdIdeal.τ).loc Cert.NaFwdIdeal.main_arg0)) (m ((c.tc : Thread Cert.NaFwdIdeal.nD Cert.NaFwdIdeal.τ).loc Cert.NaFwdIdeal.main_arg1))).1 = (fun _ => 1#1)
    ∧ (Cert.Pre_finite_na.fn (F := Ideal) (m ((c.tc : Thread Cert.NaFwdIdeal.nD Cert.NaFwdIdeal.τ).loc Cert.NaFwdIdeal.main_arg0)) (m ((c.tc : Thread Cert.NaFwdIdeal.nD Cert.NaFwdIdeal.τ).loc Cert.NaFwdIdeal.main_arg1))).2 = (fun _ => 1#1)

def Pre_NaFwdRefIdeal (m : (ℓ : Loc Cert.NaFwdRefIdeal.nD Cert.NaFwdRefIdeal.τ Cert.NaFwdRefIdeal.sig) → Buf (Elt Ideal) ℓ) : Prop :=
  True

def Pre_NaFwdRefIdeal_finite_na [hPre_finite_na : Cert.Pre_finite_na.Facts] (m : (ℓ : Loc Cert.NaFwdRefIdeal.nD Cert.NaFwdRefIdeal.τ Cert.NaFwdRefIdeal.sig) → Buf (Elt Ideal) ℓ) : Prop :=
  ∀ c : Dev Cert.NaFwdRefIdeal.nD,
    (Cert.Pre_finite_na.fn (F := Ideal) (m ((c.tc : Thread Cert.NaFwdRefIdeal.nD Cert.NaFwdRefIdeal.τ).loc Cert.NaFwdRefIdeal.main_arg0)) (m ((c.tc : Thread Cert.NaFwdRefIdeal.nD Cert.NaFwdRefIdeal.τ).loc Cert.NaFwdRefIdeal.main_arg1))).1 = (fun _ => 1#1)
    ∧ (Cert.Pre_finite_na.fn (F := Ideal) (m ((c.tc : Thread Cert.NaFwdRefIdeal.nD Cert.NaFwdRefIdeal.τ).loc Cert.NaFwdRefIdeal.main_arg0)) (m ((c.tc : Thread Cert.NaFwdRefIdeal.nD Cert.NaFwdRefIdeal.τ).loc Cert.NaFwdRefIdeal.main_arg1))).2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_GqaBwd [hGqaBwd : Cert.GqaBwd.Facts] : Prop :=
  ∀ (m : (ℓ : Loc Cert.GqaBwd.nD Cert.GqaBwd.τ Cert.GqaBwd.sig) → Buf (Elt Bits) ℓ) (g : Dev Cert.GqaBwd.nD → PrngReg), Pre_GqaBwd m →
    θ_run (Cert.GqaBwd.defs (F := Bits)) (onTc (τ := Cert.GqaBwd.τ) (Cert.GqaBwd.main (F := Bits))) ⟨m, fun _ => 0, g⟩ (fun r => (∀ c : Dev Cert.GqaBwd.nD,
      r.2.mem ((c.tc : Thread Cert.GqaBwd.nD Cert.GqaBwd.τ).loc Cert.GqaBwd.main_arg0) = m ((c.tc : Thread Cert.GqaBwd.nD Cert.GqaBwd.τ).loc Cert.GqaBwd.main_arg0)
      ∧ r.2.mem ((c.tc : Thread Cert.GqaBwd.nD Cert.GqaBwd.τ).loc Cert.GqaBwd.main_arg1) = m ((c.tc : Thread Cert.GqaBwd.nD Cert.GqaBwd.τ).loc Cert.GqaBwd.main_arg1)
      ∧ r.2.mem ((c.tc : Thread Cert.GqaBwd.nD Cert.GqaBwd.τ).loc Cert.GqaBwd.main_arg2) = m ((c.tc : Thread Cert.GqaBwd.nD Cert.GqaBwd.τ).loc Cert.GqaBwd.main_arg2))
      ∧ r.2.sem = fun _ => 0)

def quiescent_GqaBwdIdeal [hGqaBwdIdeal : Cert.GqaBwdIdeal.Facts] : Prop :=
  ∀ (m : (ℓ : Loc Cert.GqaBwdIdeal.nD Cert.GqaBwdIdeal.τ Cert.GqaBwdIdeal.sig) → Buf (Elt Ideal) ℓ) (g : Dev Cert.GqaBwdIdeal.nD → PrngReg), Pre_GqaBwdIdeal m →
    θ_run (Cert.GqaBwdIdeal.defs (F := Ideal)) (onTc (τ := Cert.GqaBwdIdeal.τ) (Cert.GqaBwdIdeal.main (F := Ideal))) ⟨m, fun _ => 0, g⟩ (fun r => (∀ c : Dev Cert.GqaBwdIdeal.nD,
      r.2.mem ((c.tc : Thread Cert.GqaBwdIdeal.nD Cert.GqaBwdIdeal.τ).loc Cert.GqaBwdIdeal.main_arg0) = m ((c.tc : Thread Cert.GqaBwdIdeal.nD Cert.GqaBwdIdeal.τ).loc Cert.GqaBwdIdeal.main_arg0)
      ∧ r.2.mem ((c.tc : Thread Cert.GqaBwdIdeal.nD Cert.GqaBwdIdeal.τ).loc Cert.GqaBwdIdeal.main_arg1) = m ((c.tc : Thread Cert.GqaBwdIdeal.nD Cert.GqaBwdIdeal.τ).loc Cert.GqaBwdIdeal.main_arg1)
      ∧ r.2.mem ((c.tc : Thread Cert.GqaBwdIdeal.nD Cert.GqaBwdIdeal.τ).loc Cert.GqaBwdIdeal.main_arg2) = m ((c.tc : Thread Cert.GqaBwdIdeal.nD Cert.GqaBwdIdeal.τ).loc Cert.GqaBwdIdeal.main_arg2))
      ∧ r.2.sem = fun _ => 0)

def quiescent_GqaBwdIdeal_pre_finite_qk [hGqaBwdIdeal : Cert.GqaBwdIdeal.Facts] [hPre_finite_qk : Cert.Pre_finite_qk.Facts] : Prop :=
  ∀ (m : (ℓ : Loc Cert.GqaBwdIdeal.nD Cert.GqaBwdIdeal.τ Cert.GqaBwdIdeal.sig) → Buf (Elt Ideal) ℓ) (g : Dev Cert.GqaBwdIdeal.nD → PrngReg), Pre_GqaBwdIdeal_finite_qk m →
    θ_run (Cert.GqaBwdIdeal.defs (F := Ideal)) (onTc (τ := Cert.GqaBwdIdeal.τ) (Cert.GqaBwdIdeal.main (F := Ideal))) ⟨m, fun _ => 0, g⟩ (fun r => (∀ c : Dev Cert.GqaBwdIdeal.nD,
      r.2.mem ((c.tc : Thread Cert.GqaBwdIdeal.nD Cert.GqaBwdIdeal.τ).loc Cert.GqaBwdIdeal.main_arg0) = m ((c.tc : Thread Cert.GqaBwdIdeal.nD Cert.GqaBwdIdeal.τ).loc Cert.GqaBwdIdeal.main_arg0)
      ∧ r.2.mem ((c.tc : Thread Cert.GqaBwdIdeal.nD Cert.GqaBwdIdeal.τ).loc Cert.GqaBwdIdeal.main_arg1) = m ((c.tc : Thread Cert.GqaBwdIdeal.nD Cert.GqaBwdIdeal.τ).loc Cert.GqaBwdIdeal.main_arg1)
      ∧ r.2.mem ((c.tc : Thread Cert.GqaBwdIdeal.nD Cert.GqaBwdIdeal.τ).loc Cert.GqaBwdIdeal.main_arg2) = m ((c.tc : Thread Cert.GqaBwdIdeal.nD Cert.GqaBwdIdeal.τ).loc Cert.GqaBwdIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_Db [hDb : Cert.Db.Facts] : Prop :=
  ∀ (m : (ℓ : Loc Cert.Db.nD Cert.Db.τ Cert.Db.sig) → Buf (Elt Bits) ℓ) (g : Dev Cert.Db.nD → PrngReg), Pre_Db m →
    θ_run (Cert.Db.defs (F := Bits)) (onTc (τ := Cert.Db.τ) (Cert.Db.main (F := Bits))) ⟨m, fun _ => 0, g⟩ (fun r => (∀ c : Dev Cert.Db.nD,
      r.2.mem ((c.tc : Thread Cert.Db.nD Cert.Db.τ).loc Cert.Db.main_arg0) = m ((c.tc : Thread Cert.Db.nD Cert.Db.τ).loc Cert.Db.main_arg0)
      ∧ r.2.mem ((c.tc : Thread Cert.Db.nD Cert.Db.τ).loc Cert.Db.main_arg1) = m ((c.tc : Thread Cert.Db.nD Cert.Db.τ).loc Cert.Db.main_arg1)
      ∧ r.2.mem ((c.tc : Thread Cert.Db.nD Cert.Db.τ).loc Cert.Db.main_arg2) = m ((c.tc : Thread Cert.Db.nD Cert.Db.τ).loc Cert.Db.main_arg2))
      ∧ r.2.sem = fun _ => 0)

def quiescent_DbIdeal [hDbIdeal : Cert.DbIdeal.Facts] : Prop :=
  ∀ (m : (ℓ : Loc Cert.DbIdeal.nD Cert.DbIdeal.τ Cert.DbIdeal.sig) → Buf (Elt Ideal) ℓ) (g : Dev Cert.DbIdeal.nD → PrngReg), Pre_DbIdeal m →
    θ_run (Cert.DbIdeal.defs (F := Ideal)) (onTc (τ := Cert.DbIdeal.τ) (Cert.DbIdeal.main (F := Ideal))) ⟨m, fun _ => 0, g⟩ (fun r => (∀ c : Dev Cert.DbIdeal.nD,
      r.2.mem ((c.tc : Thread Cert.DbIdeal.nD Cert.DbIdeal.τ).loc Cert.DbIdeal.main_arg0) = m ((c.tc : Thread Cert.DbIdeal.nD Cert.DbIdeal.τ).loc Cert.DbIdeal.main_arg0)
      ∧ r.2.mem ((c.tc : Thread Cert.DbIdeal.nD Cert.DbIdeal.τ).loc Cert.DbIdeal.main_arg1) = m ((c.tc : Thread Cert.DbIdeal.nD Cert.DbIdeal.τ).loc Cert.DbIdeal.main_arg1)
      ∧ r.2.mem ((c.tc : Thread Cert.DbIdeal.nD Cert.DbIdeal.τ).loc Cert.DbIdeal.main_arg2) = m ((c.tc : Thread Cert.DbIdeal.nD Cert.DbIdeal.τ).loc Cert.DbIdeal.main_arg2))
      ∧ r.2.sem = fun _ => 0)

def quiescent_DbRefIdeal [hDbRefIdeal : Cert.DbRefIdeal.Facts] : Prop :=
  ∀ (m : (ℓ : Loc Cert.DbRefIdeal.nD Cert.DbRefIdeal.τ Cert.DbRefIdeal.sig) → Buf (Elt Ideal) ℓ) (g : Dev Cert.DbRefIdeal.nD → PrngReg), Pre_DbRefIdeal m →
    θ_run (Cert.DbRefIdeal.defs (F := Ideal)) (onTc (τ := Cert.DbRefIdeal.τ) (Cert.DbRefIdeal.main (F := Ideal))) ⟨m, fun _ => 0, g⟩ (fun r => (∀ c : Dev Cert.DbRefIdeal.nD,
      r.2.mem ((c.tc : Thread Cert.DbRefIdeal.nD Cert.DbRefIdeal.τ).loc Cert.DbRefIdeal.main_arg0) = m ((c.tc : Thread Cert.DbRefIdeal.nD Cert.DbRefIdeal.τ).loc Cert.DbRefIdeal.main_arg0)
      ∧ r.2.mem ((c.tc : Thread Cert.DbRefIdeal.nD Cert.DbRefIdeal.τ).loc Cert.DbRefIdeal.main_arg1) = m ((c.tc : Thread Cert.DbRefIdeal.nD Cert.DbRefIdeal.τ).loc Cert.DbRefIdeal.main_arg1)
      ∧ r.2.mem ((c.tc : Thread Cert.DbRefIdeal.nD Cert.DbRefIdeal.τ).loc Cert.DbRefIdeal.main_arg2) = m ((c.tc : Thread Cert.DbRefIdeal.nD Cert.DbRefIdeal.τ).loc Cert.DbRefIdeal.main_arg2))
      ∧ r.2.sem = fun _ => 0)

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2)
      ∧ r.2.mem ((c.tc : Thread Cert.ScBwd.nD Cert.ScBwd.τ).loc Cert.ScBwd.main_arg3) = m ((c.tc : Thread Cert.ScBwd.nD Cert.ScBwd.τ).loc Cert.ScBwd.main_arg3)
      ∧ r.2.mem ((c.tc : Thread Cert.ScBwd.nD Cert.ScBwd.τ).loc Cert.ScBwd.main_arg4) = m ((c.tc : Thread Cert.ScBwd.nD Cert.ScBwd.τ).loc Cert.ScBwd.main_arg4)
      ∧ r.2.mem ((c.tc : Thread Cert.ScBwd.nD Cert.ScBwd.τ).loc Cert.ScBwd.main_arg5) = m ((c.tc : Thread Cert.ScBwd.nD Cert.ScBwd.τ).loc Cert.ScBwd.main_arg5))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
      ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3)
      ∧ r.2.mem ((c.tc : Thread Cert.ScBwdIdeal.nD Cert.ScBwdIdeal.τ).loc Cert.ScBwdIdeal.main_arg4) = m ((c.tc : Thread Cert.ScBwdIdeal.nD Cert.ScBwdIdeal.τ).loc Cert.ScBwdIdeal.main_arg4)
      ∧ r.2.mem ((c.tc : Thread Cert.ScBwdIdeal.nD Cert.ScBwdIdeal.τ).loc Cert.ScBwdIdeal.main_arg5) = m ((c.tc : Thread Cert.ScBwdIdeal.nD Cert.ScBwdIdeal.τ).loc Cert.ScBwdIdeal.main_arg5))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2)
      ∧ r.2.mem ((c.tc : Thread Cert.ScRefIdeal.nD Cert.ScRefIdeal.τ).loc Cert.ScRefIdeal.main_arg3) = m ((c.tc : Thread Cert.ScRefIdeal.nD Cert.ScRefIdeal.τ).loc Cert.ScRefIdeal.main_arg3)
      ∧ r.2.mem ((c.tc : Thread Cert.ScRefIdeal.nD Cert.ScRefIdeal.τ).loc Cert.ScRefIdeal.main_arg4) = m ((c.tc : Thread Cert.ScRefIdeal.nD Cert.ScRefIdeal.τ).loc Cert.ScRefIdeal.main_arg4)
      ∧ r.2.mem ((c.tc : Thread Cert.ScRefIdeal.nD Cert.ScRefIdeal.τ).loc Cert.ScRefIdeal.main_arg5) = m ((c.tc : Thread Cert.ScRefIdeal.nD Cert.ScRefIdeal.τ).loc Cert.ScRefIdeal.main_arg5))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_GqaPr [hGqaPr : Cert.GqaPr.Facts] : Prop :=
  ∀ (m : (ℓ : Loc Cert.GqaPr.nD Cert.GqaPr.τ Cert.GqaPr.sig) → Buf (Elt Bits) ℓ) (g : Dev Cert.GqaPr.nD → PrngReg), Pre_GqaPr m →
    θ_run (Cert.GqaPr.defs (F := Bits)) (onTc (τ := Cert.GqaPr.τ) (Cert.GqaPr.main (F := Bits))) ⟨m, fun _ => 0, g⟩ (fun r => (∀ c : Dev Cert.GqaPr.nD,
      r.2.mem ((c.tc : Thread Cert.GqaPr.nD Cert.GqaPr.τ).loc Cert.GqaPr.main_arg0) = m ((c.tc : Thread Cert.GqaPr.nD Cert.GqaPr.τ).loc Cert.GqaPr.main_arg0)
      ∧ r.2.mem ((c.tc : Thread Cert.GqaPr.nD Cert.GqaPr.τ).loc Cert.GqaPr.main_arg1) = m ((c.tc : Thread Cert.GqaPr.nD Cert.GqaPr.τ).loc Cert.GqaPr.main_arg1)
      ∧ r.2.mem ((c.tc : Thread Cert.GqaPr.nD Cert.GqaPr.τ).loc Cert.GqaPr.main_arg2) = m ((c.tc : Thread Cert.GqaPr.nD Cert.GqaPr.τ).loc Cert.GqaPr.main_arg2))
      ∧ r.2.sem = fun _ => 0)

def quiescent_GqaPrIdeal [hGqaPrIdeal : Cert.GqaPrIdeal.Facts] : Prop :=
  ∀ (m : (ℓ : Loc Cert.GqaPrIdeal.nD Cert.GqaPrIdeal.τ Cert.GqaPrIdeal.sig) → Buf (Elt Ideal) ℓ) (g : Dev Cert.GqaPrIdeal.nD → PrngReg), Pre_GqaPrIdeal m →
    θ_run (Cert.GqaPrIdeal.defs (F := Ideal)) (onTc (τ := Cert.GqaPrIdeal.τ) (Cert.GqaPrIdeal.main (F := Ideal))) ⟨m, fun _ => 0, g⟩ (fun r => (∀ c : Dev Cert.GqaPrIdeal.nD,
      r.2.mem ((c.tc : Thread Cert.GqaPrIdeal.nD Cert.GqaPrIdeal.τ).loc Cert.GqaPrIdeal.main_arg0) = m ((c.tc : Thread Cert.GqaPrIdeal.nD Cert.GqaPrIdeal.τ).loc Cert.GqaPrIdeal.main_arg0)
      ∧ r.2.mem ((c.tc : Thread Cert.GqaPrIdeal.nD Cert.GqaPrIdeal.τ).loc Cert.GqaPrIdeal.main_arg1) = m ((c.tc : Thread Cert.GqaPrIdeal.nD Cert.GqaPrIdeal.τ).loc Cert.GqaPrIdeal.main_arg1)
      ∧ r.2.mem ((c.tc : Thread Cert.GqaPrIdeal.nD Cert.GqaPrIdeal.τ).loc Cert.GqaPrIdeal.main_arg2) = m ((c.tc : Thread Cert.GqaPrIdeal.nD Cert.GqaPrIdeal.τ).loc Cert.GqaPrIdeal.main_arg2))
      ∧ r.2.sem = fun _ => 0)

def quiescent_GqaPrRefIdeal [hGqaPrRefIdeal : Cert.GqaPrRefIdeal.Facts] : Prop :=
  ∀ (m : (ℓ : Loc Cert.GqaPrRefIdeal.nD Cert.GqaPrRefIdeal.τ Cert.GqaPrRefIdeal.sig) → Buf (Elt Ideal) ℓ) (g : Dev Cert.GqaPrRefIdeal.nD → PrngReg), Pre_GqaPrRefIdeal m →
    θ_run (Cert.GqaPrRefIdeal.defs (F := Ideal)) (onTc (τ := Cert.GqaPrRefIdeal.τ) (Cert.GqaPrRefIdeal.main (F := Ideal))) ⟨m, fun _ => 0, g⟩ (fun r => (∀ c : Dev Cert.GqaPrRefIdeal.nD,
      r.2.mem ((c.tc : Thread Cert.GqaPrRefIdeal.nD Cert.GqaPrRefIdeal.τ).loc Cert.GqaPrRefIdeal.main_arg0) = m ((c.tc : Thread Cert.GqaPrRefIdeal.nD Cert.GqaPrRefIdeal.τ).loc Cert.GqaPrRefIdeal.main_arg0)
      ∧ r.2.mem ((c.tc : Thread Cert.GqaPrRefIdeal.nD Cert.GqaPrRefIdeal.τ).loc Cert.GqaPrRefIdeal.main_arg1) = m ((c.tc : Thread Cert.GqaPrRefIdeal.nD Cert.GqaPrRefIdeal.τ).loc Cert.GqaPrRefIdeal.main_arg1)
      ∧ r.2.mem ((c.tc : Thread Cert.GqaPrRefIdeal.nD Cert.GqaPrRefIdeal.τ).loc Cert.GqaPrRefIdeal.main_arg2) = m ((c.tc : Thread Cert.GqaPrRefIdeal.nD Cert.GqaPrRefIdeal.τ).loc Cert.GqaPrRefIdeal.main_arg2))
      ∧ r.2.sem = fun _ => 0)

def quiescent_GqaDa [hGqaDa : Cert.GqaDa.Facts] : Prop :=
  ∀ (m : (ℓ : Loc Cert.GqaDa.nD Cert.GqaDa.τ Cert.GqaDa.sig) → Buf (Elt Bits) ℓ) (g : Dev Cert.GqaDa.nD → PrngReg), Pre_GqaDa m →
    θ_run (Cert.GqaDa.defs (F := Bits)) (onTc (τ := Cert.GqaDa.τ) (Cert.GqaDa.main (F := Bits))) ⟨m, fun _ => 0, g⟩ (fun r => (∀ c : Dev Cert.GqaDa.nD,
      r.2.mem ((c.tc : Thread Cert.GqaDa.nD Cert.GqaDa.τ).loc Cert.GqaDa.main_arg0) = m ((c.tc : Thread Cert.GqaDa.nD Cert.GqaDa.τ).loc Cert.GqaDa.main_arg0)
      ∧ r.2.mem ((c.tc : Thread Cert.GqaDa.nD Cert.GqaDa.τ).loc Cert.GqaDa.main_arg1) = m ((c.tc : Thread Cert.GqaDa.nD Cert.GqaDa.τ).loc Cert.GqaDa.main_arg1))
      ∧ r.2.sem = fun _ => 0)

def quiescent_GqaDaIdeal [hGqaDaIdeal : Cert.GqaDaIdeal.Facts] : Prop :=
  ∀ (m : (ℓ : Loc Cert.GqaDaIdeal.nD Cert.GqaDaIdeal.τ Cert.GqaDaIdeal.sig) → Buf (Elt Ideal) ℓ) (g : Dev Cert.GqaDaIdeal.nD → PrngReg), Pre_GqaDaIdeal m →
    θ_run (Cert.GqaDaIdeal.defs (F := Ideal)) (onTc (τ := Cert.GqaDaIdeal.τ) (Cert.GqaDaIdeal.main (F := Ideal))) ⟨m, fun _ => 0, g⟩ (fun r => (∀ c : Dev Cert.GqaDaIdeal.nD,
      r.2.mem ((c.tc : Thread Cert.GqaDaIdeal.nD Cert.GqaDaIdeal.τ).loc Cert.GqaDaIdeal.main_arg0) = m ((c.tc : Thread Cert.GqaDaIdeal.nD Cert.GqaDaIdeal.τ).loc Cert.GqaDaIdeal.main_arg0)
      ∧ r.2.mem ((c.tc : Thread Cert.GqaDaIdeal.nD Cert.GqaDaIdeal.τ).loc Cert.GqaDaIdeal.main_arg1) = m ((c.tc : Thread Cert.GqaDaIdeal.nD Cert.GqaDaIdeal.τ).loc Cert.GqaDaIdeal.main_arg1))
      ∧ r.2.sem = fun _ => 0)

def quiescent_GqaDaRefIdeal [hGqaDaRefIdeal : Cert.GqaDaRefIdeal.Facts] : Prop :=
  ∀ (m : (ℓ : Loc Cert.GqaDaRefIdeal.nD Cert.GqaDaRefIdeal.τ Cert.GqaDaRefIdeal.sig) → Buf (Elt Ideal) ℓ) (g : Dev Cert.GqaDaRefIdeal.nD → PrngReg), Pre_GqaDaRefIdeal m →
    θ_run (Cert.GqaDaRefIdeal.defs (F := Ideal)) (onTc (τ := Cert.GqaDaRefIdeal.τ) (Cert.GqaDaRefIdeal.main (F := Ideal))) ⟨m, fun _ => 0, g⟩ (fun r => (∀ c : Dev Cert.GqaDaRefIdeal.nD,
      r.2.mem ((c.tc : Thread Cert.GqaDaRefIdeal.nD Cert.GqaDaRefIdeal.τ).loc Cert.GqaDaRefIdeal.main_arg0) = m ((c.tc : Thread Cert.GqaDaRefIdeal.nD Cert.GqaDaRefIdeal.τ).loc Cert.GqaDaRefIdeal.main_arg0)
      ∧ r.2.mem ((c.tc : Thread Cert.GqaDaRefIdeal.nD Cert.GqaDaRefIdeal.τ).loc Cert.GqaDaRefIdeal.main_arg1) = m ((c.tc : Thread Cert.GqaDaRefIdeal.nD Cert.GqaDaRefIdeal.τ).loc Cert.GqaDaRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_GqaFwd [hGqaFwd : Cert.GqaFwd.Facts] : Prop :=
  ∀ (m : (ℓ : Loc Cert.GqaFwd.nD Cert.GqaFwd.τ Cert.GqaFwd.sig) → Buf (Elt Bits) ℓ) (g : Dev Cert.GqaFwd.nD → PrngReg), Pre_GqaFwd m →
    θ_run (Cert.GqaFwd.defs (F := Bits)) (onTc (τ := Cert.GqaFwd.τ) (Cert.GqaFwd.main (F := Bits))) ⟨m, fun _ => 0, g⟩ (fun r => (∀ c : Dev Cert.GqaFwd.nD,
      r.2.mem ((c.tc : Thread Cert.GqaFwd.nD Cert.GqaFwd.τ).loc Cert.GqaFwd.main_arg0) = m ((c.tc : Thread Cert.GqaFwd.nD Cert.GqaFwd.τ).loc Cert.GqaFwd.main_arg0)
      ∧ r.2.mem ((c.tc : Thread Cert.GqaFwd.nD Cert.GqaFwd.τ).loc Cert.GqaFwd.main_arg1) = m ((c.tc : Thread Cert.GqaFwd.nD Cert.GqaFwd.τ).loc Cert.GqaFwd.main_arg1))
      ∧ r.2.sem = fun _ => 0)

def quiescent_GqaFwdIdeal [hGqaFwdIdeal : Cert.GqaFwdIdeal.Facts] : Prop :=
  ∀ (m : (ℓ : Loc Cert.GqaFwdIdeal.nD Cert.GqaFwdIdeal.τ Cert.GqaFwdIdeal.sig) → Buf (Elt Ideal) ℓ) (g : Dev Cert.GqaFwdIdeal.nD → PrngReg), Pre_GqaFwdIdeal m →
    θ_run (Cert.GqaFwdIdeal.defs (F := Ideal)) (onTc (τ := Cert.GqaFwdIdeal.τ) (Cert.GqaFwdIdeal.main (F := Ideal))) ⟨m, fun _ => 0, g⟩ (fun r => (∀ c : Dev Cert.GqaFwdIdeal.nD,
      r.2.mem ((c.tc : Thread Cert.GqaFwdIdeal.nD Cert.GqaFwdIdeal.τ).loc Cert.GqaFwdIdeal.main_arg0) = m ((c.tc : Thread Cert.GqaFwdIdeal.nD Cert.GqaFwdIdeal.τ).loc Cert.GqaFwdIdeal.main_arg0)
      ∧ r.2.mem ((c.tc : Thread Cert.GqaFwdIdeal.nD Cert.GqaFwdIdeal.τ).loc Cert.GqaFwdIdeal.main_arg1) = m ((c.tc : Thread Cert.GqaFwdIdeal.nD Cert.GqaFwdIdeal.τ).loc Cert.GqaFwdIdeal.main_arg1))
      ∧ r.2.sem = fun _ => 0)

def quiescent_GqaFwdIdeal_pre_finite_qk_fwd [hGqaFwdIdeal : Cert.GqaFwdIdeal.Facts] [hPre_finite_qk_fwd : Cert.Pre_finite_qk_fwd.Facts] : Prop :=
  ∀ (m : (ℓ : Loc Cert.GqaFwdIdeal.nD Cert.GqaFwdIdeal.τ Cert.GqaFwdIdeal.sig) → Buf (Elt Ideal) ℓ) (g : Dev Cert.GqaFwdIdeal.nD → PrngReg), Pre_GqaFwdIdeal_finite_qk_fwd m →
    θ_run (Cert.GqaFwdIdeal.defs (F := Ideal)) (onTc (τ := Cert.GqaFwdIdeal.τ) (Cert.GqaFwdIdeal.main (F := Ideal))) ⟨m, fun _ => 0, g⟩ (fun r => (∀ c : Dev Cert.GqaFwdIdeal.nD,
      r.2.mem ((c.tc : Thread Cert.GqaFwdIdeal.nD Cert.GqaFwdIdeal.τ).loc Cert.GqaFwdIdeal.main_arg0) = m ((c.tc : Thread Cert.GqaFwdIdeal.nD Cert.GqaFwdIdeal.τ).loc Cert.GqaFwdIdeal.main_arg0)
      ∧ r.2.mem ((c.tc : Thread Cert.GqaFwdIdeal.nD Cert.GqaFwdIdeal.τ).loc Cert.GqaFwdIdeal.main_arg1) = m ((c.tc : Thread Cert.GqaFwdIdeal.nD Cert.GqaFwdIdeal.τ).loc Cert.GqaFwdIdeal.main_arg1))
      ∧ r.2.sem = fun _ => 0)

def quiescent_GqaFwdRefIdeal [hGqaFwdRefIdeal : Cert.GqaFwdRefIdeal.Facts] : Prop :=
  ∀ (m : (ℓ : Loc Cert.GqaFwdRefIdeal.nD Cert.GqaFwdRefIdeal.τ Cert.GqaFwdRefIdeal.sig) → Buf (Elt Ideal) ℓ) (g : Dev Cert.GqaFwdRefIdeal.nD → PrngReg), Pre_GqaFwdRefIdeal m →
    θ_run (Cert.GqaFwdRefIdeal.defs (F := Ideal)) (onTc (τ := Cert.GqaFwdRefIdeal.τ) (Cert.GqaFwdRefIdeal.main (F := Ideal))) ⟨m, fun _ => 0, g⟩ (fun r => (∀ c : Dev Cert.GqaFwdRefIdeal.nD,
      r.2.mem ((c.tc : Thread Cert.GqaFwdRefIdeal.nD Cert.GqaFwdRefIdeal.τ).loc Cert.GqaFwdRefIdeal.main_arg0) = m ((c.tc : Thread Cert.GqaFwdRefIdeal.nD Cert.GqaFwdRefIdeal.τ).loc Cert.GqaFwdRefIdeal.main_arg0)
      ∧ r.2.mem ((c.tc : Thread Cert.GqaFwdRefIdeal.nD Cert.GqaFwdRefIdeal.τ).loc Cert.GqaFwdRefIdeal.main_arg1) = m ((c.tc : Thread Cert.GqaFwdRefIdeal.nD Cert.GqaFwdRefIdeal.τ).loc Cert.GqaFwdRefIdeal.main_arg1))
      ∧ r.2.sem = fun _ => 0)

def quiescent_GqaFwdRefIdeal_pre_finite_qk_fwd [hGqaFwdRefIdeal : Cert.GqaFwdRefIdeal.Facts] [hPre_finite_qk_fwd : Cert.Pre_finite_qk_fwd.Facts] : Prop :=
  ∀ (m : (ℓ : Loc Cert.GqaFwdRefIdeal.nD Cert.GqaFwdRefIdeal.τ Cert.GqaFwdRefIdeal.sig) → Buf (Elt Ideal) ℓ) (g : Dev Cert.GqaFwdRefIdeal.nD → PrngReg), Pre_GqaFwdRefIdeal_finite_qk_fwd m →
    θ_run (Cert.GqaFwdRefIdeal.defs (F := Ideal)) (onTc (τ := Cert.GqaFwdRefIdeal.τ) (Cert.GqaFwdRefIdeal.main (F := Ideal))) ⟨m, fun _ => 0, g⟩ (fun r => (∀ c : Dev Cert.GqaFwdRefIdeal.nD,
      r.2.mem ((c.tc : Thread Cert.GqaFwdRefIdeal.nD Cert.GqaFwdRefIdeal.τ).loc Cert.GqaFwdRefIdeal.main_arg0) = m ((c.tc : Thread Cert.GqaFwdRefIdeal.nD Cert.GqaFwdRefIdeal.τ).loc Cert.GqaFwdRefIdeal.main_arg0)
      ∧ r.2.mem ((c.tc : Thread Cert.GqaFwdRefIdeal.nD Cert.GqaFwdRefIdeal.τ).loc Cert.GqaFwdRefIdeal.main_arg1) = m ((c.tc : Thread Cert.GqaFwdRefIdeal.nD Cert.GqaFwdRefIdeal.τ).loc Cert.GqaFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5))
      ∧ r.2.sem = fun _ => 0)

def quiescent_NaFwd [hNaFwd : Cert.NaFwd.Facts] : Prop :=
  ∀ (m : (ℓ : Loc Cert.NaFwd.nD Cert.NaFwd.τ Cert.NaFwd.sig) → Buf (Elt Bits) ℓ) (g : Dev Cert.NaFwd.nD → PrngReg), Pre_NaFwd m →
    θ_run (Cert.NaFwd.defs (F := Bits)) (onTc (τ := Cert.NaFwd.τ) (Cert.NaFwd.main (F := Bits))) ⟨m, fun _ => 0, g⟩ (fun r => (∀ c : Dev Cert.NaFwd.nD,
      r.2.mem ((c.tc : Thread Cert.NaFwd.nD Cert.NaFwd.τ).loc Cert.NaFwd.main_arg0) = m ((c.tc : Thread Cert.NaFwd.nD Cert.NaFwd.τ).loc Cert.NaFwd.main_arg0)
      ∧ r.2.mem ((c.tc : Thread Cert.NaFwd.nD Cert.NaFwd.τ).loc Cert.NaFwd.main_arg1) = m ((c.tc : Thread Cert.NaFwd.nD Cert.NaFwd.τ).loc Cert.NaFwd.main_arg1))
      ∧ r.2.sem = fun _ => 0)

def quiescent_NaFwdIdeal [hNaFwdIdeal : Cert.NaFwdIdeal.Facts] : Prop :=
  ∀ (m : (ℓ : Loc Cert.NaFwdIdeal.nD Cert.NaFwdIdeal.τ Cert.NaFwdIdeal.sig) → Buf (Elt Ideal) ℓ) (g : Dev Cert.NaFwdIdeal.nD → PrngReg), Pre_NaFwdIdeal m →
    θ_run (Cert.NaFwdIdeal.defs (F := Ideal)) (onTc (τ := Cert.NaFwdIdeal.τ) (Cert.NaFwdIdeal.main (F := Ideal))) ⟨m, fun _ => 0, g⟩ (fun r => (∀ c : Dev Cert.NaFwdIdeal.nD,
      r.2.mem ((c.tc : Thread Cert.NaFwdIdeal.nD Cert.NaFwdIdeal.τ).loc Cert.NaFwdIdeal.main_arg0) = m ((c.tc : Thread Cert.NaFwdIdeal.nD Cert.NaFwdIdeal.τ).loc Cert.NaFwdIdeal.main_arg0)
      ∧ r.2.mem ((c.tc : Thread Cert.NaFwdIdeal.nD Cert.NaFwdIdeal.τ).loc Cert.NaFwdIdeal.main_arg1) = m ((c.tc : Thread Cert.NaFwdIdeal.nD Cert.NaFwdIdeal.τ).loc Cert.NaFwdIdeal.main_arg1))
      ∧ r.2.sem = fun _ => 0)

def quiescent_NaFwdIdeal_pre_finite_na [hNaFwdIdeal : Cert.NaFwdIdeal.Facts] [hPre_finite_na : Cert.Pre_finite_na.Facts] : Prop :=
  ∀ (m : (ℓ : Loc Cert.NaFwdIdeal.nD Cert.NaFwdIdeal.τ Cert.NaFwdIdeal.sig) → Buf (Elt Ideal) ℓ) (g : Dev Cert.NaFwdIdeal.nD → PrngReg), Pre_NaFwdIdeal_finite_na m →
    θ_run (Cert.NaFwdIdeal.defs (F := Ideal)) (onTc (τ := Cert.NaFwdIdeal.τ) (Cert.NaFwdIdeal.main (F := Ideal))) ⟨m, fun _ => 0, g⟩ (fun r => (∀ c : Dev Cert.NaFwdIdeal.nD,
      r.2.mem ((c.tc : Thread Cert.NaFwdIdeal.nD Cert.NaFwdIdeal.τ).loc Cert.NaFwdIdeal.main_arg0) = m ((c.tc : Thread Cert.NaFwdIdeal.nD Cert.NaFwdIdeal.τ).loc Cert.NaFwdIdeal.main_arg0)
      ∧ r.2.mem ((c.tc : Thread Cert.NaFwdIdeal.nD Cert.NaFwdIdeal.τ).loc Cert.NaFwdIdeal.main_arg1) = m ((c.tc : Thread Cert.NaFwdIdeal.nD Cert.NaFwdIdeal.τ).loc Cert.NaFwdIdeal.main_arg1))
      ∧ r.2.sem = fun _ => 0)

def quiescent_NaFwdRefIdeal [hNaFwdRefIdeal : Cert.NaFwdRefIdeal.Facts] : Prop :=
  ∀ (m : (ℓ : Loc Cert.NaFwdRefIdeal.nD Cert.NaFwdRefIdeal.τ Cert.NaFwdRefIdeal.sig) → Buf (Elt Ideal) ℓ) (g : Dev Cert.NaFwdRefIdeal.nD → PrngReg), Pre_NaFwdRefIdeal m →
    θ_run (Cert.NaFwdRefIdeal.defs (F := Ideal)) (onTc (τ := Cert.NaFwdRefIdeal.τ) (Cert.NaFwdRefIdeal.main (F := Ideal))) ⟨m, fun _ => 0, g⟩ (fun r => (∀ c : Dev Cert.NaFwdRefIdeal.nD,
      r.2.mem ((c.tc : Thread Cert.NaFwdRefIdeal.nD Cert.NaFwdRefIdeal.τ).loc Cert.NaFwdRefIdeal.main_arg0) = m ((c.tc : Thread Cert.NaFwdRefIdeal.nD Cert.NaFwdRefIdeal.τ).loc Cert.NaFwdRefIdeal.main_arg0)
      ∧ r.2.mem ((c.tc : Thread Cert.NaFwdRefIdeal.nD Cert.NaFwdRefIdeal.τ).loc Cert.NaFwdRefIdeal.main_arg1) = m ((c.tc : Thread Cert.NaFwdRefIdeal.nD Cert.NaFwdRefIdeal.τ).loc Cert.NaFwdRefIdeal.main_arg1))
      ∧ r.2.sem = fun _ => 0)

def quiescent_NaFwdRefIdeal_pre_finite_na [hNaFwdRefIdeal : Cert.NaFwdRefIdeal.Facts] [hPre_finite_na : Cert.Pre_finite_na.Facts] : Prop :=
  ∀ (m : (ℓ : Loc Cert.NaFwdRefIdeal.nD Cert.NaFwdRefIdeal.τ Cert.NaFwdRefIdeal.sig) → Buf (Elt Ideal) ℓ) (g : Dev Cert.NaFwdRefIdeal.nD → PrngReg), Pre_NaFwdRefIdeal_finite_na m →
    θ_run (Cert.NaFwdRefIdeal.defs (F := Ideal)) (onTc (τ := Cert.NaFwdRefIdeal.τ) (Cert.NaFwdRefIdeal.main (F := Ideal))) ⟨m, fun _ => 0, g⟩ (fun r => (∀ c : Dev Cert.NaFwdRefIdeal.nD,
      r.2.mem ((c.tc : Thread Cert.NaFwdRefIdeal.nD Cert.NaFwdRefIdeal.τ).loc Cert.NaFwdRefIdeal.main_arg0) = m ((c.tc : Thread Cert.NaFwdRefIdeal.nD Cert.NaFwdRefIdeal.τ).loc Cert.NaFwdRefIdeal.main_arg0)
      ∧ r.2.mem ((c.tc : Thread Cert.NaFwdRefIdeal.nD Cert.NaFwdRefIdeal.τ).loc Cert.NaFwdRefIdeal.main_arg1) = m ((c.tc : Thread Cert.NaFwdRefIdeal.nD Cert.NaFwdRefIdeal.τ).loc Cert.NaFwdRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def preserves_GqaBwd_GqaBwdIdeal : Prop :=
  True

def algebraic_GqaBwdIdeal_GqaRefIdeal_pre_finite_qk [hGqaBwdIdeal : Cert.GqaBwdIdeal.Facts] [hGqaRefIdeal : Cert.GqaRefIdeal.Facts] [hPre_finite_qk : Cert.Pre_finite_qk.Facts] : Prop :=
  ∀ (m : (ℓ : Loc Cert.GqaBwdIdeal.nD Cert.GqaBwdIdeal.τ Cert.GqaBwdIdeal.sig) → Buf (Elt Ideal) ℓ) (g : Dev Cert.GqaBwdIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaBwdIdeal_finite_qk m →
    (∀ c : Dev Cert.GqaBwdIdeal.nD,
      m' ((c.tc : Thread Cert.GqaRefIdeal.nD Cert.GqaRefIdeal.τ).loc Cert.GqaRefIdeal.main_arg0) = m ((c.tc : Thread Cert.GqaBwdIdeal.nD Cert.GqaBwdIdeal.τ).loc Cert.GqaBwdIdeal.main_arg0)
      ∧ m' ((c.tc : Thread Cert.GqaRefIdeal.nD Cert.GqaRefIdeal.τ).loc Cert.GqaRefIdeal.main_arg1) = m ((c.tc : Thread Cert.GqaBwdIdeal.nD Cert.GqaBwdIdeal.τ).loc Cert.GqaBwdIdeal.main_arg1)
      ∧ m' ((c.tc : Thread Cert.GqaRefIdeal.nD Cert.GqaRefIdeal.τ).loc Cert.GqaRefIdeal.main_arg2) = m ((c.tc : Thread Cert.GqaBwdIdeal.nD Cert.GqaBwdIdeal.τ).loc Cert.GqaBwdIdeal.main_arg2)) →
    ∃ (v0 : (c : Dev Cert.GqaBwdIdeal.nD) → Buf (Elt Ideal) ((c.tc : Thread Cert.GqaBwdIdeal.nD Cert.GqaBwdIdeal.τ).loc Cert.GqaBwdIdeal.main_v0_0)) (v1 : (c : Dev Cert.GqaBwdIdeal.nD) → Buf (Elt Ideal) ((c.tc : Thread Cert.GqaBwdIdeal.nD Cert.GqaBwdIdeal.τ).loc Cert.GqaBwdIdeal.main_v0_1)) (v2 : (c : Dev Cert.GqaBwdIdeal.nD) → Buf (Elt Ideal) ((c.tc : Thread Cert.GqaBwdIdeal.nD Cert.GqaBwdIdeal.τ).loc Cert.GqaBwdIdeal.main_v0_2)),
      θ_run (Cert.GqaBwdIdeal.defs (F := Ideal)) (onTc (τ := Cert.GqaBwdIdeal.τ) (Cert.GqaBwdIdeal.main (F := Ideal))) ⟨m, fun _ => 0, g⟩ (fun r => ∀ c : Dev Cert.GqaBwdIdeal.nD,
          r.2.mem ((c.tc : Thread Cert.GqaBwdIdeal.nD Cert.GqaBwdIdeal.τ).loc Cert.GqaBwdIdeal.main_v0_0) = v0 c
          ∧ r.2.mem ((c.tc : Thread Cert.GqaBwdIdeal.nD Cert.GqaBwdIdeal.τ).loc Cert.GqaBwdIdeal.main_v0_1) = v1 c
          ∧ r.2.mem ((c.tc : Thread Cert.GqaBwdIdeal.nD Cert.GqaBwdIdeal.τ).loc Cert.GqaBwdIdeal.main_v0_2) = v2 c
          ∧ r.2.mem ((c.tc : Thread Cert.GqaBwdIdeal.nD Cert.GqaBwdIdeal.τ).loc Cert.GqaBwdIdeal.main_arg0) = m ((c.tc : Thread Cert.GqaBwdIdeal.nD Cert.GqaBwdIdeal.τ).loc Cert.GqaBwdIdeal.main_arg0)
          ∧ r.2.mem ((c.tc : Thread Cert.GqaBwdIdeal.nD Cert.GqaBwdIdeal.τ).loc Cert.GqaBwdIdeal.main_arg1) = m ((c.tc : Thread Cert.GqaBwdIdeal.nD Cert.GqaBwdIdeal.τ).loc Cert.GqaBwdIdeal.main_arg1)
          ∧ r.2.mem ((c.tc : Thread Cert.GqaBwdIdeal.nD Cert.GqaBwdIdeal.τ).loc Cert.GqaBwdIdeal.main_arg2) = m ((c.tc : Thread Cert.GqaBwdIdeal.nD Cert.GqaBwdIdeal.τ).loc Cert.GqaBwdIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v65) = v0 c
          ∧ r.2.mem ((c.tc : Thread Cert.GqaRefIdeal.nD Cert.GqaRefIdeal.τ).loc Cert.GqaRefIdeal.main_v67) = v1 c
          ∧ r.2.mem ((c.tc : Thread Cert.GqaRefIdeal.nD Cert.GqaRefIdeal.τ).loc Cert.GqaRefIdeal.main_v69) = v2 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v6_0)) (v1 : (c : Dev Cert.FfnBwdIdeal.nD) → Buf (Elt Ideal) ((c.tc : Thread Cert.FfnBwdIdeal.nD Cert.FfnBwdIdeal.τ).loc Cert.FfnBwdIdeal.main_v6_1)) (v2 : (c : Dev Cert.FfnBwdIdeal.nD) → Buf (Elt Ideal) ((c.tc : Thread Cert.FfnBwdIdeal.nD Cert.FfnBwdIdeal.τ).loc Cert.FfnBwdIdeal.main_v7)) (v3 : (c : Dev Cert.FfnBwdIdeal.nD) → Buf (Elt Ideal) ((c.tc : Thread Cert.FfnBwdIdeal.nD Cert.FfnBwdIdeal.τ).loc Cert.FfnBwdIdeal.main_v8)) (v4 : (c : Dev Cert.FfnBwdIdeal.nD) → Buf (Elt Ideal) ((c.tc : Thread Cert.FfnBwdIdeal.nD Cert.FfnBwdIdeal.τ).loc Cert.FfnBwdIdeal.main_v2)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v6_0) = v0 c
          ∧ r.2.mem ((c.tc : Thread Cert.FfnBwdIdeal.nD Cert.FfnBwdIdeal.τ).loc Cert.FfnBwdIdeal.main_v6_1) = v1 c
          ∧ r.2.mem ((c.tc : Thread Cert.FfnBwdIdeal.nD Cert.FfnBwdIdeal.τ).loc Cert.FfnBwdIdeal.main_v7) = v2 c
          ∧ r.2.mem ((c.tc : Thread Cert.FfnBwdIdeal.nD Cert.FfnBwdIdeal.τ).loc Cert.FfnBwdIdeal.main_v8) = v3 c
          ∧ r.2.mem ((c.tc : Thread Cert.FfnBwdIdeal.nD Cert.FfnBwdIdeal.τ).loc Cert.FfnBwdIdeal.main_v2) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v90) = v0 c
          ∧ r.2.mem ((c.tc : Thread Cert.FfnRefIdeal.nD Cert.FfnRefIdeal.τ).loc Cert.FfnRefIdeal.main_v91) = v1 c
          ∧ r.2.mem ((c.tc : Thread Cert.FfnRefIdeal.nD Cert.FfnRefIdeal.τ).loc Cert.FfnRefIdeal.main_v83) = v2 c
          ∧ r.2.mem ((c.tc : Thread Cert.FfnRefIdeal.nD Cert.FfnRefIdeal.τ).loc Cert.FfnRefIdeal.main_v92) = v3 c
          ∧ r.2.mem ((c.tc : Thread Cert.FfnRefIdeal.nD Cert.FfnRefIdeal.τ).loc Cert.FfnRefIdeal.main_v95) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v11) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_Db_DbIdeal : Prop :=
  True

def algebraic_DbIdeal_DbRefIdeal [hDbIdeal : Cert.DbIdeal.Facts] [hDbRefIdeal : Cert.DbRefIdeal.Facts] : Prop :=
  ∀ (m : (ℓ : Loc Cert.DbIdeal.nD Cert.DbIdeal.τ Cert.DbIdeal.sig) → Buf (Elt Ideal) ℓ) (g : Dev Cert.DbIdeal.nD → PrngReg)
    (m' : (ℓ : Loc Cert.DbRefIdeal.nD Cert.DbRefIdeal.τ Cert.DbRefIdeal.sig) → Buf (Elt Ideal) ℓ) (g' : Dev Cert.DbRefIdeal.nD → PrngReg), Pre_DbIdeal m →
    (∀ c : Dev Cert.DbIdeal.nD,
      m' ((c.tc : Thread Cert.DbRefIdeal.nD Cert.DbRefIdeal.τ).loc Cert.DbRefIdeal.main_arg0) = m ((c.tc : Thread Cert.DbIdeal.nD Cert.DbIdeal.τ).loc Cert.DbIdeal.main_arg0)
      ∧ m' ((c.tc : Thread Cert.DbRefIdeal.nD Cert.DbRefIdeal.τ).loc Cert.DbRefIdeal.main_arg1) = m ((c.tc : Thread Cert.DbIdeal.nD Cert.DbIdeal.τ).loc Cert.DbIdeal.main_arg1)
      ∧ m' ((c.tc : Thread Cert.DbRefIdeal.nD Cert.DbRefIdeal.τ).loc Cert.DbRefIdeal.main_arg2) = m ((c.tc : Thread Cert.DbIdeal.nD Cert.DbIdeal.τ).loc Cert.DbIdeal.main_arg2)) →
    ∃ (v0 : (c : Dev Cert.DbIdeal.nD) → Buf (Elt Ideal) ((c.tc : Thread Cert.DbIdeal.nD Cert.DbIdeal.τ).loc Cert.DbIdeal.main_v0)),
      θ_run (Cert.DbIdeal.defs (F := Ideal)) (onTc (τ := Cert.DbIdeal.τ) (Cert.DbIdeal.main (F := Ideal))) ⟨m, fun _ => 0, g⟩ (fun r => ∀ c : Dev Cert.DbIdeal.nD,
          r.2.mem ((c.tc : Thread Cert.DbIdeal.nD Cert.DbIdeal.τ).loc Cert.DbIdeal.main_v0) = v0 c
          ∧ r.2.mem ((c.tc : Thread Cert.DbIdeal.nD Cert.DbIdeal.τ).loc Cert.DbIdeal.main_arg0) = m ((c.tc : Thread Cert.DbIdeal.nD Cert.DbIdeal.τ).loc Cert.DbIdeal.main_arg0)
          ∧ r.2.mem ((c.tc : Thread Cert.DbIdeal.nD Cert.DbIdeal.τ).loc Cert.DbIdeal.main_arg1) = m ((c.tc : Thread Cert.DbIdeal.nD Cert.DbIdeal.τ).loc Cert.DbIdeal.main_arg1)
          ∧ r.2.mem ((c.tc : Thread Cert.DbIdeal.nD Cert.DbIdeal.τ).loc Cert.DbIdeal.main_arg2) = m ((c.tc : Thread Cert.DbIdeal.nD Cert.DbIdeal.τ).loc Cert.DbIdeal.main_arg2))
      ∧ θ_run (Cert.DbRefIdeal.defs (F := Ideal)) (onTc (τ := Cert.DbRefIdeal.τ) (Cert.DbRefIdeal.main (F := Ideal))) ⟨m', fun _ => 0, g'⟩ (fun r => ∀ c : Dev Cert.DbRefIdeal.nD,
          r.2.mem ((c.tc : Thread Cert.DbRefIdeal.nD Cert.DbRefIdeal.τ).loc Cert.DbRefIdeal.main_v10) = v0 c
          ∧ r.2.mem ((c.tc : Thread Cert.DbRefIdeal.nD Cert.DbRefIdeal.τ).loc Cert.DbRefIdeal.main_arg0) = m' ((c.tc : Thread Cert.DbRefIdeal.nD Cert.DbRefIdeal.τ).loc Cert.DbRefIdeal.main_arg0)
          ∧ r.2.mem ((c.tc : Thread Cert.DbRefIdeal.nD Cert.DbRefIdeal.τ).loc Cert.DbRefIdeal.main_arg1) = m' ((c.tc : Thread Cert.DbRefIdeal.nD Cert.DbRefIdeal.τ).loc Cert.DbRefIdeal.main_arg1)
          ∧ r.2.mem ((c.tc : Thread Cert.DbRefIdeal.nD Cert.DbRefIdeal.τ).loc Cert.DbRefIdeal.main_arg2) = m' ((c.tc : Thread Cert.DbRefIdeal.nD Cert.DbRefIdeal.τ).loc Cert.DbRefIdeal.main_arg2))

def preserves_ScBwd_ScBwdIdeal : Prop :=
  True

def algebraic_ScBwdIdeal_ScRefIdeal [hScBwdIdeal : Cert.ScBwdIdeal.Facts] [hScRefIdeal : Cert.ScRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScBwdIdeal m →
    (∀ c : Dev Cert.ScBwdIdeal.nD,
      m' ((c.tc : Thread Cert.ScRefIdeal.nD Cert.ScRefIdeal.τ).loc Cert.ScRefIdeal.main_arg0) = m ((c.tc : Thread Cert.ScBwdIdeal.nD Cert.ScBwdIdeal.τ).loc Cert.ScBwdIdeal.main_arg0)
      ∧ m' ((c.tc : Thread Cert.ScRefIdeal.nD Cert.ScRefIdeal.τ).loc Cert.ScRefIdeal.main_arg1) = m ((c.tc : Thread Cert.ScBwdIdeal.nD Cert.ScBwdIdeal.τ).loc Cert.ScBwdIdeal.main_arg1)
      ∧ m' ((c.tc : Thread Cert.ScRefIdeal.nD Cert.ScRefIdeal.τ).loc Cert.ScRefIdeal.main_arg2) = m ((c.tc : Thread Cert.ScBwdIdeal.nD Cert.ScBwdIdeal.τ).loc Cert.ScBwdIdeal.main_arg2)
      ∧ m' ((c.tc : Thread Cert.ScRefIdeal.nD Cert.ScRefIdeal.τ).loc Cert.ScRefIdeal.main_arg3) = m ((c.tc : Thread Cert.ScBwdIdeal.nD Cert.ScBwdIdeal.τ).loc Cert.ScBwdIdeal.main_arg3)
      ∧ m' ((c.tc : Thread Cert.ScRefIdeal.nD Cert.ScRefIdeal.τ).loc Cert.ScRefIdeal.main_arg4) = m ((c.tc : Thread Cert.ScBwdIdeal.nD Cert.ScBwdIdeal.τ).loc Cert.ScBwdIdeal.main_arg4)
      ∧ m' ((c.tc : Thread Cert.ScRefIdeal.nD Cert.ScRefIdeal.τ).loc Cert.ScRefIdeal.main_arg5) = m ((c.tc : Thread Cert.ScBwdIdeal.nD Cert.ScBwdIdeal.τ).loc Cert.ScBwdIdeal.main_arg5)) →
    ∃ (v0 : (c : Dev Cert.ScBwdIdeal.nD) → Buf (Elt Ideal) ((c.tc : Thread Cert.ScBwdIdeal.nD Cert.ScBwdIdeal.τ).loc Cert.ScBwdIdeal.main_v5)) (v1 : (c : Dev Cert.ScBwdIdeal.nD) → Buf (Elt Ideal) ((c.tc : Thread Cert.ScBwdIdeal.nD Cert.ScBwdIdeal.τ).loc Cert.ScBwdIdeal.main_v4_3)) (v2 : (c : Dev Cert.ScBwdIdeal.nD) → Buf (Elt Ideal) ((c.tc : Thread Cert.ScBwdIdeal.nD Cert.ScBwdIdeal.τ).loc Cert.ScBwdIdeal.main_v3)) (v3 : (c : Dev Cert.ScBwdIdeal.nD) → Buf (Elt Ideal) ((c.tc : Thread Cert.ScBwdIdeal.nD Cert.ScBwdIdeal.τ).loc Cert.ScBwdIdeal.main_v6)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v5) = v0 c
          ∧ r.2.mem ((c.tc : Thread Cert.ScBwdIdeal.nD Cert.ScBwdIdeal.τ).loc Cert.ScBwdIdeal.main_v4_3) = v1 c
          ∧ r.2.mem ((c.tc : Thread Cert.ScBwdIdeal.nD Cert.ScBwdIdeal.τ).loc Cert.ScBwdIdeal.main_v3) = v2 c
          ∧ r.2.mem ((c.tc : Thread Cert.ScBwdIdeal.nD Cert.ScBwdIdeal.τ).loc Cert.ScBwdIdeal.main_v6) = v3 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
          ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3)
          ∧ r.2.mem ((c.tc : Thread Cert.ScBwdIdeal.nD Cert.ScBwdIdeal.τ).loc Cert.ScBwdIdeal.main_arg4) = m ((c.tc : Thread Cert.ScBwdIdeal.nD Cert.ScBwdIdeal.τ).loc Cert.ScBwdIdeal.main_arg4)
          ∧ r.2.mem ((c.tc : Thread Cert.ScBwdIdeal.nD Cert.ScBwdIdeal.τ).loc Cert.ScBwdIdeal.main_arg5) = m ((c.tc : Thread Cert.ScBwdIdeal.nD Cert.ScBwdIdeal.τ).loc Cert.ScBwdIdeal.main_arg5))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v88) = v0 c
          ∧ r.2.mem ((c.tc : Thread Cert.ScRefIdeal.nD Cert.ScRefIdeal.τ).loc Cert.ScRefIdeal.main_v75) = v1 c
          ∧ r.2.mem ((c.tc : Thread Cert.ScRefIdeal.nD Cert.ScRefIdeal.τ).loc Cert.ScRefIdeal.main_v91) = v2 c
          ∧ r.2.mem ((c.tc : Thread Cert.ScRefIdeal.nD Cert.ScRefIdeal.τ).loc Cert.ScRefIdeal.main_v94) = v3 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2)
          ∧ r.2.mem ((c.tc : Thread Cert.ScRefIdeal.nD Cert.ScRefIdeal.τ).loc Cert.ScRefIdeal.main_arg3) = m' ((c.tc : Thread Cert.ScRefIdeal.nD Cert.ScRefIdeal.τ).loc Cert.ScRefIdeal.main_arg3)
          ∧ r.2.mem ((c.tc : Thread Cert.ScRefIdeal.nD Cert.ScRefIdeal.τ).loc Cert.ScRefIdeal.main_arg4) = m' ((c.tc : Thread Cert.ScRefIdeal.nD Cert.ScRefIdeal.τ).loc Cert.ScRefIdeal.main_arg4)
          ∧ r.2.mem ((c.tc : Thread Cert.ScRefIdeal.nD Cert.ScRefIdeal.τ).loc Cert.ScRefIdeal.main_arg5) = m' ((c.tc : Thread Cert.ScRefIdeal.nD Cert.ScRefIdeal.τ).loc Cert.ScRefIdeal.main_arg5))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v8) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v0)) (v1 : (c : Dev Cert.MixIdeal.nD) → Buf (Elt Ideal) ((c.tc : Thread Cert.MixIdeal.nD Cert.MixIdeal.τ).loc Cert.MixIdeal.main_v1)) (v2 : (c : Dev Cert.MixIdeal.nD) → Buf (Elt Ideal) ((c.tc : Thread Cert.MixIdeal.nD Cert.MixIdeal.τ).loc Cert.MixIdeal.main_v2)) (v3 : (c : Dev Cert.MixIdeal.nD) → Buf (Elt Ideal) ((c.tc : Thread Cert.MixIdeal.nD Cert.MixIdeal.τ).loc Cert.MixIdeal.main_v3)) (v4 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_v1) = v1 c
          ∧ r.2.mem ((c.tc : Thread Cert.MixIdeal.nD Cert.MixIdeal.τ).loc Cert.MixIdeal.main_v2) = v2 c
          ∧ r.2.mem ((c.tc : Thread Cert.MixIdeal.nD Cert.MixIdeal.τ).loc Cert.MixIdeal.main_v3) = v3 c
          ∧ r.2.mem ((c.tc : Thread Cert.MixIdeal.nD Cert.MixIdeal.τ).loc Cert.MixIdeal.main_v4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v19) = v0 c
          ∧ r.2.mem ((c.tc : Thread Cert.MixRefIdeal.nD Cert.MixRefIdeal.τ).loc Cert.MixRefIdeal.main_v21) = v1 c
          ∧ r.2.mem ((c.tc : Thread Cert.MixRefIdeal.nD Cert.MixRefIdeal.τ).loc Cert.MixRefIdeal.main_v22) = v2 c
          ∧ r.2.mem ((c.tc : Thread Cert.MixRefIdeal.nD Cert.MixRefIdeal.τ).loc Cert.MixRefIdeal.main_v25) = v3 c
          ∧ r.2.mem ((c.tc : Thread Cert.MixRefIdeal.nD Cert.MixRefIdeal.τ).loc Cert.MixRefIdeal.main_v28) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_GqaPr_GqaPrIdeal : Prop :=
  True

def algebraic_GqaPrIdeal_GqaPrRefIdeal [hGqaPrIdeal : Cert.GqaPrIdeal.Facts] [hGqaPrRefIdeal : Cert.GqaPrRefIdeal.Facts] : Prop :=
  ∀ (m : (ℓ : Loc Cert.GqaPrIdeal.nD Cert.GqaPrIdeal.τ Cert.GqaPrIdeal.sig) → Buf (Elt Ideal) ℓ) (g : Dev Cert.GqaPrIdeal.nD → PrngReg)
    (m' : (ℓ : Loc Cert.GqaPrRefIdeal.nD Cert.GqaPrRefIdeal.τ Cert.GqaPrRefIdeal.sig) → Buf (Elt Ideal) ℓ) (g' : Dev Cert.GqaPrRefIdeal.nD → PrngReg), Pre_GqaPrIdeal m →
    (∀ c : Dev Cert.GqaPrIdeal.nD,
      m' ((c.tc : Thread Cert.GqaPrRefIdeal.nD Cert.GqaPrRefIdeal.τ).loc Cert.GqaPrRefIdeal.main_arg0) = m ((c.tc : Thread Cert.GqaPrIdeal.nD Cert.GqaPrIdeal.τ).loc Cert.GqaPrIdeal.main_arg0)
      ∧ m' ((c.tc : Thread Cert.GqaPrRefIdeal.nD Cert.GqaPrRefIdeal.τ).loc Cert.GqaPrRefIdeal.main_arg1) = m ((c.tc : Thread Cert.GqaPrIdeal.nD Cert.GqaPrIdeal.τ).loc Cert.GqaPrIdeal.main_arg1)
      ∧ m' ((c.tc : Thread Cert.GqaPrRefIdeal.nD Cert.GqaPrRefIdeal.τ).loc Cert.GqaPrRefIdeal.main_arg2) = m ((c.tc : Thread Cert.GqaPrIdeal.nD Cert.GqaPrIdeal.τ).loc Cert.GqaPrIdeal.main_arg2)) →
    ∃ (v0 : (c : Dev Cert.GqaPrIdeal.nD) → Buf (Elt Ideal) ((c.tc : Thread Cert.GqaPrIdeal.nD Cert.GqaPrIdeal.τ).loc Cert.GqaPrIdeal.main_v0)) (v1 : (c : Dev Cert.GqaPrIdeal.nD) → Buf (Elt Ideal) ((c.tc : Thread Cert.GqaPrIdeal.nD Cert.GqaPrIdeal.τ).loc Cert.GqaPrIdeal.main_v1)),
      θ_run (Cert.GqaPrIdeal.defs (F := Ideal)) (onTc (τ := Cert.GqaPrIdeal.τ) (Cert.GqaPrIdeal.main (F := Ideal))) ⟨m, fun _ => 0, g⟩ (fun r => ∀ c : Dev Cert.GqaPrIdeal.nD,
          r.2.mem ((c.tc : Thread Cert.GqaPrIdeal.nD Cert.GqaPrIdeal.τ).loc Cert.GqaPrIdeal.main_v0) = v0 c
          ∧ r.2.mem ((c.tc : Thread Cert.GqaPrIdeal.nD Cert.GqaPrIdeal.τ).loc Cert.GqaPrIdeal.main_v1) = v1 c
          ∧ r.2.mem ((c.tc : Thread Cert.GqaPrIdeal.nD Cert.GqaPrIdeal.τ).loc Cert.GqaPrIdeal.main_arg0) = m ((c.tc : Thread Cert.GqaPrIdeal.nD Cert.GqaPrIdeal.τ).loc Cert.GqaPrIdeal.main_arg0)
          ∧ r.2.mem ((c.tc : Thread Cert.GqaPrIdeal.nD Cert.GqaPrIdeal.τ).loc Cert.GqaPrIdeal.main_arg1) = m ((c.tc : Thread Cert.GqaPrIdeal.nD Cert.GqaPrIdeal.τ).loc Cert.GqaPrIdeal.main_arg1)
          ∧ r.2.mem ((c.tc : Thread Cert.GqaPrIdeal.nD Cert.GqaPrIdeal.τ).loc Cert.GqaPrIdeal.main_arg2) = m ((c.tc : Thread Cert.GqaPrIdeal.nD Cert.GqaPrIdeal.τ).loc Cert.GqaPrIdeal.main_arg2))
      ∧ θ_run (Cert.GqaPrRefIdeal.defs (F := Ideal)) (onTc (τ := Cert.GqaPrRefIdeal.τ) (Cert.GqaPrRefIdeal.main (F := Ideal))) ⟨m', fun _ => 0, g'⟩ (fun r => ∀ c : Dev Cert.GqaPrRefIdeal.nD,
          r.2.mem ((c.tc : Thread Cert.GqaPrRefIdeal.nD Cert.GqaPrRefIdeal.τ).loc Cert.GqaPrRefIdeal.main_v5) = v0 c
          ∧ r.2.mem ((c.tc : Thread Cert.GqaPrRefIdeal.nD Cert.GqaPrRefIdeal.τ).loc Cert.GqaPrRefIdeal.main_v13) = v1 c
          ∧ r.2.mem ((c.tc : Thread Cert.GqaPrRefIdeal.nD Cert.GqaPrRefIdeal.τ).loc Cert.GqaPrRefIdeal.main_arg0) = m' ((c.tc : Thread Cert.GqaPrRefIdeal.nD Cert.GqaPrRefIdeal.τ).loc Cert.GqaPrRefIdeal.main_arg0)
          ∧ r.2.mem ((c.tc : Thread Cert.GqaPrRefIdeal.nD Cert.GqaPrRefIdeal.τ).loc Cert.GqaPrRefIdeal.main_arg1) = m' ((c.tc : Thread Cert.GqaPrRefIdeal.nD Cert.GqaPrRefIdeal.τ).loc Cert.GqaPrRefIdeal.main_arg1)
          ∧ r.2.mem ((c.tc : Thread Cert.GqaPrRefIdeal.nD Cert.GqaPrRefIdeal.τ).loc Cert.GqaPrRefIdeal.main_arg2) = m' ((c.tc : Thread Cert.GqaPrRefIdeal.nD Cert.GqaPrRefIdeal.τ).loc Cert.GqaPrRefIdeal.main_arg2))

def preserves_GqaDa_GqaDaIdeal : Prop :=
  True

def algebraic_GqaDaIdeal_GqaDaRefIdeal [hGqaDaIdeal : Cert.GqaDaIdeal.Facts] [hGqaDaRefIdeal : Cert.GqaDaRefIdeal.Facts] : Prop :=
  ∀ (m : (ℓ : Loc Cert.GqaDaIdeal.nD Cert.GqaDaIdeal.τ Cert.GqaDaIdeal.sig) → Buf (Elt Ideal) ℓ) (g : Dev Cert.GqaDaIdeal.nD → PrngReg)
    (m' : (ℓ : Loc Cert.GqaDaRefIdeal.nD Cert.GqaDaRefIdeal.τ Cert.GqaDaRefIdeal.sig) → Buf (Elt Ideal) ℓ) (g' : Dev Cert.GqaDaRefIdeal.nD → PrngReg), Pre_GqaDaIdeal m →
    (∀ c : Dev Cert.GqaDaIdeal.nD,
      m' ((c.tc : Thread Cert.GqaDaRefIdeal.nD Cert.GqaDaRefIdeal.τ).loc Cert.GqaDaRefIdeal.main_arg0) = m ((c.tc : Thread Cert.GqaDaIdeal.nD Cert.GqaDaIdeal.τ).loc Cert.GqaDaIdeal.main_arg0)
      ∧ m' ((c.tc : Thread Cert.GqaDaRefIdeal.nD Cert.GqaDaRefIdeal.τ).loc Cert.GqaDaRefIdeal.main_arg1) = m ((c.tc : Thread Cert.GqaDaIdeal.nD Cert.GqaDaIdeal.τ).loc Cert.GqaDaIdeal.main_arg1)) →
    ∃ (v0 : (c : Dev Cert.GqaDaIdeal.nD) → Buf (Elt Ideal) ((c.tc : Thread Cert.GqaDaIdeal.nD Cert.GqaDaIdeal.τ).loc Cert.GqaDaIdeal.main_v0)),
      θ_run (Cert.GqaDaIdeal.defs (F := Ideal)) (onTc (τ := Cert.GqaDaIdeal.τ) (Cert.GqaDaIdeal.main (F := Ideal))) ⟨m, fun _ => 0, g⟩ (fun r => ∀ c : Dev Cert.GqaDaIdeal.nD,
          r.2.mem ((c.tc : Thread Cert.GqaDaIdeal.nD Cert.GqaDaIdeal.τ).loc Cert.GqaDaIdeal.main_v0) = v0 c
          ∧ r.2.mem ((c.tc : Thread Cert.GqaDaIdeal.nD Cert.GqaDaIdeal.τ).loc Cert.GqaDaIdeal.main_arg0) = m ((c.tc : Thread Cert.GqaDaIdeal.nD Cert.GqaDaIdeal.τ).loc Cert.GqaDaIdeal.main_arg0)
          ∧ r.2.mem ((c.tc : Thread Cert.GqaDaIdeal.nD Cert.GqaDaIdeal.τ).loc Cert.GqaDaIdeal.main_arg1) = m ((c.tc : Thread Cert.GqaDaIdeal.nD Cert.GqaDaIdeal.τ).loc Cert.GqaDaIdeal.main_arg1))
      ∧ θ_run (Cert.GqaDaRefIdeal.defs (F := Ideal)) (onTc (τ := Cert.GqaDaRefIdeal.τ) (Cert.GqaDaRefIdeal.main (F := Ideal))) ⟨m', fun _ => 0, g'⟩ (fun r => ∀ c : Dev Cert.GqaDaRefIdeal.nD,
          r.2.mem ((c.tc : Thread Cert.GqaDaRefIdeal.nD Cert.GqaDaRefIdeal.τ).loc Cert.GqaDaRefIdeal.main_v8) = v0 c
          ∧ r.2.mem ((c.tc : Thread Cert.GqaDaRefIdeal.nD Cert.GqaDaRefIdeal.τ).loc Cert.GqaDaRefIdeal.main_arg0) = m' ((c.tc : Thread Cert.GqaDaRefIdeal.nD Cert.GqaDaRefIdeal.τ).loc Cert.GqaDaRefIdeal.main_arg0)
          ∧ r.2.mem ((c.tc : Thread Cert.GqaDaRefIdeal.nD Cert.GqaDaRefIdeal.τ).loc Cert.GqaDaRefIdeal.main_arg1) = m' ((c.tc : Thread Cert.GqaDaRefIdeal.nD Cert.GqaDaRefIdeal.τ).loc Cert.GqaDaRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_GqaFwd_GqaFwdIdeal : Prop :=
  True

def algebraic_GqaFwdIdeal_GqaFwdRefIdeal_pre_finite_qk_fwd [hGqaFwdIdeal : Cert.GqaFwdIdeal.Facts] [hGqaFwdRefIdeal : Cert.GqaFwdRefIdeal.Facts] [hPre_finite_qk_fwd : Cert.Pre_finite_qk_fwd.Facts] : Prop :=
  ∀ (m : (ℓ : Loc Cert.GqaFwdIdeal.nD Cert.GqaFwdIdeal.τ Cert.GqaFwdIdeal.sig) → Buf (Elt Ideal) ℓ) (g : Dev Cert.GqaFwdIdeal.nD → PrngReg)
    (m' : (ℓ : Loc Cert.GqaFwdRefIdeal.nD Cert.GqaFwdRefIdeal.τ Cert.GqaFwdRefIdeal.sig) → Buf (Elt Ideal) ℓ) (g' : Dev Cert.GqaFwdRefIdeal.nD → PrngReg), Pre_GqaFwdIdeal_finite_qk_fwd m →
    (∀ c : Dev Cert.GqaFwdIdeal.nD,
      m' ((c.tc : Thread Cert.GqaFwdRefIdeal.nD Cert.GqaFwdRefIdeal.τ).loc Cert.GqaFwdRefIdeal.main_arg0) = m ((c.tc : Thread Cert.GqaFwdIdeal.nD Cert.GqaFwdIdeal.τ).loc Cert.GqaFwdIdeal.main_arg0)
      ∧ m' ((c.tc : Thread Cert.GqaFwdRefIdeal.nD Cert.GqaFwdRefIdeal.τ).loc Cert.GqaFwdRefIdeal.main_arg1) = m ((c.tc : Thread Cert.GqaFwdIdeal.nD Cert.GqaFwdIdeal.τ).loc Cert.GqaFwdIdeal.main_arg1)) →
    ∃ (v0 : (c : Dev Cert.GqaFwdIdeal.nD) → Buf (Elt Ideal) ((c.tc : Thread Cert.GqaFwdIdeal.nD Cert.GqaFwdIdeal.τ).loc Cert.GqaFwdIdeal.main_v0)),
      θ_run (Cert.GqaFwdIdeal.defs (F := Ideal)) (onTc (τ := Cert.GqaFwdIdeal.τ) (Cert.GqaFwdIdeal.main (F := Ideal))) ⟨m, fun _ => 0, g⟩ (fun r => ∀ c : Dev Cert.GqaFwdIdeal.nD,
          r.2.mem ((c.tc : Thread Cert.GqaFwdIdeal.nD Cert.GqaFwdIdeal.τ).loc Cert.GqaFwdIdeal.main_v0) = v0 c
          ∧ r.2.mem ((c.tc : Thread Cert.GqaFwdIdeal.nD Cert.GqaFwdIdeal.τ).loc Cert.GqaFwdIdeal.main_arg0) = m ((c.tc : Thread Cert.GqaFwdIdeal.nD Cert.GqaFwdIdeal.τ).loc Cert.GqaFwdIdeal.main_arg0)
          ∧ r.2.mem ((c.tc : Thread Cert.GqaFwdIdeal.nD Cert.GqaFwdIdeal.τ).loc Cert.GqaFwdIdeal.main_arg1) = m ((c.tc : Thread Cert.GqaFwdIdeal.nD Cert.GqaFwdIdeal.τ).loc Cert.GqaFwdIdeal.main_arg1))
      ∧ θ_run (Cert.GqaFwdRefIdeal.defs (F := Ideal)) (onTc (τ := Cert.GqaFwdRefIdeal.τ) (Cert.GqaFwdRefIdeal.main (F := Ideal))) ⟨m', fun _ => 0, g'⟩ (fun r => ∀ c : Dev Cert.GqaFwdRefIdeal.nD,
          r.2.mem ((c.tc : Thread Cert.GqaFwdRefIdeal.nD Cert.GqaFwdRefIdeal.τ).loc Cert.GqaFwdRefIdeal.main_v25) = v0 c
          ∧ r.2.mem ((c.tc : Thread Cert.GqaFwdRefIdeal.nD Cert.GqaFwdRefIdeal.τ).loc Cert.GqaFwdRefIdeal.main_arg0) = m' ((c.tc : Thread Cert.GqaFwdRefIdeal.nD Cert.GqaFwdRefIdeal.τ).loc Cert.GqaFwdRefIdeal.main_arg0)
          ∧ r.2.mem ((c.tc : Thread Cert.GqaFwdRefIdeal.nD Cert.GqaFwdRefIdeal.τ).loc Cert.GqaFwdRefIdeal.main_arg1) = m' ((c.tc : Thread Cert.GqaFwdRefIdeal.nD Cert.GqaFwdRefIdeal.τ).loc Cert.GqaFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v5) = v0 c
          ∧ r.2.mem ((c.tc : Thread Cert.AdamRefIdeal.nD Cert.AdamRefIdeal.τ).loc Cert.AdamRefIdeal.main_v30) = v1 c
          ∧ r.2.mem ((c.tc : Thread Cert.AdamRefIdeal.nD Cert.AdamRefIdeal.τ).loc Cert.AdamRefIdeal.main_v11) = v2 c
          ∧ r.2.mem ((c.tc : Thread Cert.AdamRefIdeal.nD Cert.AdamRefIdeal.τ).loc Cert.AdamRefIdeal.main_v17) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5))

def preserves_NaFwd_NaFwdIdeal : Prop :=
  True

def algebraic_NaFwdIdeal_NaFwdRefIdeal_pre_finite_na [hNaFwdIdeal : Cert.NaFwdIdeal.Facts] [hNaFwdRefIdeal : Cert.NaFwdRefIdeal.Facts] [hPre_finite_na : Cert.Pre_finite_na.Facts] : Prop :=
  ∀ (m : (ℓ : Loc Cert.NaFwdIdeal.nD Cert.NaFwdIdeal.τ Cert.NaFwdIdeal.sig) → Buf (Elt Ideal) ℓ) (g : Dev Cert.NaFwdIdeal.nD → PrngReg)
    (m' : (ℓ : Loc Cert.NaFwdRefIdeal.nD Cert.NaFwdRefIdeal.τ Cert.NaFwdRefIdeal.sig) → Buf (Elt Ideal) ℓ) (g' : Dev Cert.NaFwdRefIdeal.nD → PrngReg), Pre_NaFwdIdeal_finite_na m →
    (∀ c : Dev Cert.NaFwdIdeal.nD,
      m' ((c.tc : Thread Cert.NaFwdRefIdeal.nD Cert.NaFwdRefIdeal.τ).loc Cert.NaFwdRefIdeal.main_arg0) = m ((c.tc : Thread Cert.NaFwdIdeal.nD Cert.NaFwdIdeal.τ).loc Cert.NaFwdIdeal.main_arg0)
      ∧ m' ((c.tc : Thread Cert.NaFwdRefIdeal.nD Cert.NaFwdRefIdeal.τ).loc Cert.NaFwdRefIdeal.main_arg1) = m ((c.tc : Thread Cert.NaFwdIdeal.nD Cert.NaFwdIdeal.τ).loc Cert.NaFwdIdeal.main_arg1)) →
    ∃ (v0 : (c : Dev Cert.NaFwdIdeal.nD) → Buf (Elt Ideal) ((c.tc : Thread Cert.NaFwdIdeal.nD Cert.NaFwdIdeal.τ).loc Cert.NaFwdIdeal.main_v0)),
      θ_run (Cert.NaFwdIdeal.defs (F := Ideal)) (onTc (τ := Cert.NaFwdIdeal.τ) (Cert.NaFwdIdeal.main (F := Ideal))) ⟨m, fun _ => 0, g⟩ (fun r => ∀ c : Dev Cert.NaFwdIdeal.nD,
          r.2.mem ((c.tc : Thread Cert.NaFwdIdeal.nD Cert.NaFwdIdeal.τ).loc Cert.NaFwdIdeal.main_v0) = v0 c
          ∧ r.2.mem ((c.tc : Thread Cert.NaFwdIdeal.nD Cert.NaFwdIdeal.τ).loc Cert.NaFwdIdeal.main_arg0) = m ((c.tc : Thread Cert.NaFwdIdeal.nD Cert.NaFwdIdeal.τ).loc Cert.NaFwdIdeal.main_arg0)
          ∧ r.2.mem ((c.tc : Thread Cert.NaFwdIdeal.nD Cert.NaFwdIdeal.τ).loc Cert.NaFwdIdeal.main_arg1) = m ((c.tc : Thread Cert.NaFwdIdeal.nD Cert.NaFwdIdeal.τ).loc Cert.NaFwdIdeal.main_arg1))
      ∧ θ_run (Cert.NaFwdRefIdeal.defs (F := Ideal)) (onTc (τ := Cert.NaFwdRefIdeal.τ) (Cert.NaFwdRefIdeal.main (F := Ideal))) ⟨m', fun _ => 0, g'⟩ (fun r => ∀ c : Dev Cert.NaFwdRefIdeal.nD,
          r.2.mem ((c.tc : Thread Cert.NaFwdRefIdeal.nD Cert.NaFwdRefIdeal.τ).loc Cert.NaFwdRefIdeal.main_v76) = v0 c
          ∧ r.2.mem ((c.tc : Thread Cert.NaFwdRefIdeal.nD Cert.NaFwdRefIdeal.τ).loc Cert.NaFwdRefIdeal.main_arg0) = m' ((c.tc : Thread Cert.NaFwdRefIdeal.nD Cert.NaFwdRefIdeal.τ).loc Cert.NaFwdRefIdeal.main_arg0)
          ∧ r.2.mem ((c.tc : Thread Cert.NaFwdRefIdeal.nD Cert.NaFwdRefIdeal.τ).loc Cert.NaFwdRefIdeal.main_arg1) = m' ((c.tc : Thread Cert.NaFwdRefIdeal.nD Cert.NaFwdRefIdeal.τ).loc Cert.NaFwdRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v0)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v72) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v5) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def Claim : Prop :=
  ∃ (hGqaBwd : Cert.GqaBwd.Facts) (hGqaBwdIdeal : Cert.GqaBwdIdeal.Facts) (hGqaRefIdeal : Cert.GqaRefIdeal.Facts) (hFfnBwd : Cert.FfnBwd.Facts) (hFfnBwdIdeal : Cert.FfnBwdIdeal.Facts) (hFfnRefIdeal : Cert.FfnRefIdeal.Facts) (hDwUp : Cert.DwUp.Facts) (hDwUpIdeal : Cert.DwUpIdeal.Facts) (hDwUpRefIdeal : Cert.DwUpRefIdeal.Facts) (hDb : Cert.Db.Facts) (hDbIdeal : Cert.DbIdeal.Facts) (hDbRefIdeal : Cert.DbRefIdeal.Facts) (hScBwd : Cert.ScBwd.Facts) (hScBwdIdeal : Cert.ScBwdIdeal.Facts) (hScRefIdeal : Cert.ScRefIdeal.Facts) (hDa : Cert.Da.Facts) (hDaIdeal : Cert.DaIdeal.Facts) (hDaRefIdeal : Cert.DaRefIdeal.Facts) (hMix : Cert.Mix.Facts) (hMixIdeal : Cert.MixIdeal.Facts) (hMixRefIdeal : Cert.MixRefIdeal.Facts) (hGqaPr : Cert.GqaPr.Facts) (hGqaPrIdeal : Cert.GqaPrIdeal.Facts) (hGqaPrRefIdeal : Cert.GqaPrRefIdeal.Facts) (hGqaDa : Cert.GqaDa.Facts) (hGqaDaIdeal : Cert.GqaDaIdeal.Facts) (hGqaDaRefIdeal : Cert.GqaDaRefIdeal.Facts) (hDown : Cert.Down.Facts) (hDownIdeal : Cert.DownIdeal.Facts) (hDownRefIdeal : Cert.DownRefIdeal.Facts) (hGqaFwd : Cert.GqaFwd.Facts) (hGqaFwdIdeal : Cert.GqaFwdIdeal.Facts) (hGqaFwdRefIdeal : Cert.GqaFwdRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hAdam : Cert.Adam.Facts) (hAdamIdeal : Cert.AdamIdeal.Facts) (hAdamRefIdeal : Cert.AdamRefIdeal.Facts) (hNaFwd : Cert.NaFwd.Facts) (hNaFwdIdeal : Cert.NaFwdIdeal.Facts) (hNaFwdRefIdeal : Cert.NaFwdRefIdeal.Facts) (hPrep : Cert.Prep.Facts) (hPrepIdeal : Cert.PrepIdeal.Facts) (hPrepRefIdeal : Cert.PrepRefIdeal.Facts) (hAdamOut : Cert.AdamOut.Facts) (hAdamOutIdeal : Cert.AdamOutIdeal.Facts) (hAdamOutRefIdeal : Cert.AdamOutRefIdeal.Facts) (hPre_finite_qk : Cert.Pre_finite_qk.Facts) (hPre_finite_ffn : Cert.Pre_finite_ffn.Facts) (hPre_finite_qk_fwd : Cert.Pre_finite_qk_fwd.Facts) (hPre_finite_na : Cert.Pre_finite_na.Facts),
    quiescent_GqaBwd (hGqaBwd := hGqaBwd)
    ∧ quiescent_GqaBwdIdeal (hGqaBwdIdeal := hGqaBwdIdeal)
    ∧ quiescent_GqaBwdIdeal_pre_finite_qk (hGqaBwdIdeal := hGqaBwdIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Db (hDb := hDb)
    ∧ quiescent_DbIdeal (hDbIdeal := hDbIdeal)
    ∧ quiescent_DbRefIdeal (hDbRefIdeal := hDbRefIdeal)
    ∧ quiescent_ScBwd (hScBwd := hScBwd)
    ∧ quiescent_ScBwdIdeal (hScBwdIdeal := hScBwdIdeal)
    ∧ quiescent_ScRefIdeal (hScRefIdeal := hScRefIdeal)
    ∧ quiescent_Da (hDa := hDa)
    ∧ quiescent_DaIdeal (hDaIdeal := hDaIdeal)
    ∧ quiescent_DaRefIdeal (hDaRefIdeal := hDaRefIdeal)
    ∧ quiescent_Mix (hMix := hMix)
    ∧ quiescent_MixIdeal (hMixIdeal := hMixIdeal)
    ∧ quiescent_MixRefIdeal (hMixRefIdeal := hMixRefIdeal)
    ∧ quiescent_GqaPr (hGqaPr := hGqaPr)
    ∧ quiescent_GqaPrIdeal (hGqaPrIdeal := hGqaPrIdeal)
    ∧ quiescent_GqaPrRefIdeal (hGqaPrRefIdeal := hGqaPrRefIdeal)
    ∧ quiescent_GqaDa (hGqaDa := hGqaDa)
    ∧ quiescent_GqaDaIdeal (hGqaDaIdeal := hGqaDaIdeal)
    ∧ quiescent_GqaDaRefIdeal (hGqaDaRefIdeal := hGqaDaRefIdeal)
    ∧ quiescent_Down (hDown := hDown)
    ∧ quiescent_DownIdeal (hDownIdeal := hDownIdeal)
    ∧ quiescent_DownRefIdeal (hDownRefIdeal := hDownRefIdeal)
    ∧ quiescent_GqaFwd (hGqaFwd := hGqaFwd)
    ∧ quiescent_GqaFwdIdeal (hGqaFwdIdeal := hGqaFwdIdeal)
    ∧ quiescent_GqaFwdIdeal_pre_finite_qk_fwd (hGqaFwdIdeal := hGqaFwdIdeal) (hPre_finite_qk_fwd := hPre_finite_qk_fwd)
    ∧ quiescent_GqaFwdRefIdeal (hGqaFwdRefIdeal := hGqaFwdRefIdeal)
    ∧ quiescent_GqaFwdRefIdeal_pre_finite_qk_fwd (hGqaFwdRefIdeal := hGqaFwdRefIdeal) (hPre_finite_qk_fwd := hPre_finite_qk_fwd)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Adam (hAdam := hAdam)
    ∧ quiescent_AdamIdeal (hAdamIdeal := hAdamIdeal)
    ∧ quiescent_AdamRefIdeal (hAdamRefIdeal := hAdamRefIdeal)
    ∧ quiescent_NaFwd (hNaFwd := hNaFwd)
    ∧ quiescent_NaFwdIdeal (hNaFwdIdeal := hNaFwdIdeal)
    ∧ quiescent_NaFwdIdeal_pre_finite_na (hNaFwdIdeal := hNaFwdIdeal) (hPre_finite_na := hPre_finite_na)
    ∧ quiescent_NaFwdRefIdeal (hNaFwdRefIdeal := hNaFwdRefIdeal)
    ∧ quiescent_NaFwdRefIdeal_pre_finite_na (hNaFwdRefIdeal := hNaFwdRefIdeal) (hPre_finite_na := hPre_finite_na)
    ∧ quiescent_Prep (hPrep := hPrep)
    ∧ quiescent_PrepIdeal (hPrepIdeal := hPrepIdeal)
    ∧ quiescent_PrepRefIdeal (hPrepRefIdeal := hPrepRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_GqaBwd_GqaBwdIdeal
    ∧ algebraic_GqaBwdIdeal_GqaRefIdeal_pre_finite_qk (hGqaBwdIdeal := hGqaBwdIdeal) (hGqaRefIdeal := hGqaRefIdeal) (hPre_finite_qk := hPre_finite_qk)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_DwUp_DwUpIdeal
    ∧ algebraic_DwUpIdeal_DwUpRefIdeal (hDwUpIdeal := hDwUpIdeal) (hDwUpRefIdeal := hDwUpRefIdeal)
    ∧ preserves_Db_DbIdeal
    ∧ algebraic_DbIdeal_DbRefIdeal (hDbIdeal := hDbIdeal) (hDbRefIdeal := hDbRefIdeal)
    ∧ preserves_ScBwd_ScBwdIdeal
    ∧ algebraic_ScBwdIdeal_ScRefIdeal (hScBwdIdeal := hScBwdIdeal) (hScRefIdeal := hScRefIdeal)
    ∧ preserves_Da_DaIdeal
    ∧ algebraic_DaIdeal_DaRefIdeal (hDaIdeal := hDaIdeal) (hDaRefIdeal := hDaRefIdeal)
    ∧ preserves_Mix_MixIdeal
    ∧ algebraic_MixIdeal_MixRefIdeal (hMixIdeal := hMixIdeal) (hMixRefIdeal := hMixRefIdeal)
    ∧ preserves_GqaPr_GqaPrIdeal
    ∧ algebraic_GqaPrIdeal_GqaPrRefIdeal (hGqaPrIdeal := hGqaPrIdeal) (hGqaPrRefIdeal := hGqaPrRefIdeal)
    ∧ preserves_GqaDa_GqaDaIdeal
    ∧ algebraic_GqaDaIdeal_GqaDaRefIdeal (hGqaDaIdeal := hGqaDaIdeal) (hGqaDaRefIdeal := hGqaDaRefIdeal)
    ∧ preserves_Down_DownIdeal
    ∧ algebraic_DownIdeal_DownRefIdeal (hDownIdeal := hDownIdeal) (hDownRefIdeal := hDownRefIdeal)
    ∧ preserves_GqaFwd_GqaFwdIdeal
    ∧ algebraic_GqaFwdIdeal_GqaFwdRefIdeal_pre_finite_qk_fwd (hGqaFwdIdeal := hGqaFwdIdeal) (hGqaFwdRefIdeal := hGqaFwdRefIdeal) (hPre_finite_qk_fwd := hPre_finite_qk_fwd)
    ∧ preserves_NormBwd_NormBwdIdeal
    ∧ algebraic_NormBwdIdeal_NormBwdRefIdeal (hNormBwdIdeal := hNormBwdIdeal) (hNormBwdRefIdeal := hNormBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_Adam_AdamIdeal
    ∧ algebraic_AdamIdeal_AdamRefIdeal (hAdamIdeal := hAdamIdeal) (hAdamRefIdeal := hAdamRefIdeal)
    ∧ preserves_NaFwd_NaFwdIdeal
    ∧ algebraic_NaFwdIdeal_NaFwdRefIdeal_pre_finite_na (hNaFwdIdeal := hNaFwdIdeal) (hNaFwdRefIdeal := hNaFwdRefIdeal) (hPre_finite_na := hPre_finite_na)
    ∧ preserves_Prep_PrepIdeal
    ∧ algebraic_PrepIdeal_PrepRefIdeal (hPrepIdeal := hPrepIdeal) (hPrepRefIdeal := hPrepRefIdeal)
    ∧ preserves_AdamOut_AdamOutIdeal
    ∧ algebraic_AdamOutIdeal_AdamOutRefIdeal (hAdamOutIdeal := hAdamOutIdeal) (hAdamOutRefIdeal := hAdamOutRefIdeal)
-- ==== Pre_finite_ffn.lean ====
abbrev S2048x2048 : Shape := ⟨2, ![2048, 2048]⟩
abbrev S4x2048x2816 : Shape := ⟨3, ![4, 2048, 2816]⟩
abbrev S4x3x2816 : Shape := ⟨3, ![4, 3, 2816]⟩
abbrev S1x11264 : Shape := ⟨2, ![1, 11264]⟩
abbrev S1x5632x2048 : Shape := ⟨3, ![1, 5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S4x2048x2816 : S_.BroadcastsInDim S4x2048x2816 (![] : Fin 0 → Fin S4x2048x2816.rank)
  bcast_S_S4x3x2816 : S_.BroadcastsInDim S4x3x2816 (![] : Fin 0 → Fin S4x3x2816.rank)
  bcast_S_S1x11264 : S_.BroadcastsInDim S1x11264 (![] : Fin 0 → Fin S1x11264.rank)
  bcast_S_S1x5632x2048 : S_.BroadcastsInDim S1x5632x2048 (![] : Fin 0 → Fin S1x5632x2048.rank)

variable [Facts]

def fn_part1 {F : FTy → Type} [FloatOps F] (main_v3 : IVec S2048x2048 1) (main_v7 : IVec S4x2048x2816 1) (main_v10 : IVec S4x3x2816 1) (main_v13 : IVec S1x11264 1) (main_v17 : IVec S1x5632x2048 1) (main_v18 : FVec F S2048x2048 .f32) : IVec S2048x2048 1 × IVec S4x2048x2816 1 × IVec S4x3x2816 1 × IVec S1x11264 1 × IVec S1x5632x2048 1 × IVec S2048x2048 1 :=
  let main_v19 : FVec F S2048x2048 .f32 := Host.absf main_v18
  let main_cst_4 : FVec F S_ .f32 := constant S_ .f32 0x7F800000#32
  let main_v20 : FVec F S2048x2048 .f32 := broadcastInDim S2048x2048 ![] bcast_S_S2048x2048 main_cst_4
  let main_v21 : IVec S2048x2048 1 := cmpf .olt main_v19 main_v20
  (main_v3, main_v7, main_v10, main_v13, main_v17, main_v21)

def fn {F : FTy → Type} [FloatOps F] (main_arg0 : FVec F S2048x2048 .bf16) (main_arg1 : FVec F S4x2048x2816 .bf16) (main_arg2 : FVec F S4x3x2816 .f32) (main_arg3 : FVec F S1x11264 .f32) (main_arg4 : FVec F S1x5632x2048 .bf16) (main_arg5 : FVec F S2048x2048 .bf16) : IVec S2048x2048 1 × IVec S4x2048x2816 1 × IVec S4x3x2816 1 × IVec S1x11264 1 × IVec S1x5632x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S4x2048x2816 .f32 := (extf .f32 · bitsLt_bf16_f32) main_arg1
  let main_v5 : FVec F S4x2048x2816 .f32 := Host.absf main_v4
  let main_cst_0 : FVec F S_ .f32 := constant S_ .f32 0x7F800000#32
  let main_v6 : FVec F S4x2048x2816 .f32 := broadcastInDim S4x2048x2816 ![] bcast_S_S4x2048x2816 main_cst_0
  let main_v7 : IVec S4x2048x2816 1 := cmpf .olt main_v5 main_v6
  let main_v8 : FVec F S4x3x2816 .f32 := Host.absf main_arg2
  let main_cst_1 : FVec F S_ .f32 := constant S_ .f32 0x7F800000#32
  let main_v9 : FVec F S4x3x2816 .f32 := broadcastInDim S4x3x2816 ![] bcast_S_S4x3x2816 main_cst_1
  let main_v10 : IVec S4x3x2816 1 := cmpf .olt main_v8 main_v9
  let main_v11 : FVec F S1x11264 .f32 := Host.absf main_arg3
  let main_cst_2 : FVec F S_ .f32 := constant S_ .f32 0x7F800000#32
  let main_v12 : FVec F S1x11264 .f32 := broadcastInDim S1x11264 ![] bcast_S_S1x11264 main_cst_2
  let main_v13 : IVec S1x11264 1 := cmpf .olt main_v11 main_v12
  let main_v14 : FVec F S1x5632x2048 .f32 := (extf .f32 · bitsLt_bf16_f32) main_arg4
  let main_v15 : FVec F S1x5632x2048 .f32 := Host.absf main_v14
  let main_cst_3 : FVec F S_ .f32 := constant S_ .f32 0x7F800000#32
  let main_v16 : FVec F S1x5632x2048 .f32 := broadcastInDim S1x5632x2048 ![] bcast_S_S1x5632x2048 main_cst_3
  let main_v17 : IVec S1x5632x2048 1 := cmpf .olt main_v15 main_v16
  let main_v18 : FVec F S2048x2048 .f32 := (extf .f32 · bitsLt_bf16_f32) main_arg5
  fn_part1 (F := F) main_v3 main_v7 main_v10 main_v13 main_v17 main_v18
-- ==== Pre_finite_na.lean ====
abbrev S2048x6144 : Shape := ⟨2, ![2048, 6144]⟩
abbrev S16x3x256x768 : Shape := ⟨4, ![16, 3, 256, 768]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S16x3x256x768 : S_.BroadcastsInDim S16x3x256x768 (![] : Fin 0 → Fin S16x3x256x768.rank)

variable [Facts]

def fn {F : FTy → Type} [FloatOps F] (main_arg0 : FVec F S2048x6144 .bf16) (main_arg1 : FVec F S16x3x256x768 .f32) : IVec S2048x6144 1 × IVec S16x3x256x768 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S16x3x256x768 .f32 := Host.absf main_arg1
  let main_cst_0 : FVec F S_ .f32 := constant S_ .f32 0x7F800000#32
  let main_v5 : FVec F S16x3x256x768 .f32 := broadcastInDim S16x3x256x768 ![] bcast_S_S16x3x256x768 main_cst_0
  let main_v6 : IVec S16x3x256x768 1 := cmpf .olt main_v4 main_v5
  (main_v3, main_v6)
-- ==== Pre_finite_qk.lean ====
abbrev S2048x2560 : Shape := ⟨2, ![2048, 2560]⟩
abbrev S2048x3072 : Shape := ⟨2, ![2048, 3072]⟩
abbrev S2048x2048 : Shape := ⟨2, ![2048, 2048]⟩
abbrev S_ : Shape := ⟨0, ![]⟩

class Facts : Prop where
  bitsLt_bf16_f32 : FTy.bits .bf16 < FTy.bits .f32
  bcast_S_S2048x2560 : S_.BroadcastsInDim S2048x2560 (![] : Fin 0 → Fin S2048x2560.rank)

variable [Facts]

def fn {F : FTy → Type} [FloatOps F] (main_arg0 : FVec F S2048x2560 .bf16) (main_arg1 : FVec F S2048x3072 .bf16) (main_arg2 : FVec F S2048x2048 .bf16) : IVec S2048x2560 1 :=
  let main_v0 : FVec F S2048x2560 .f32 := (extf .f32 · bitsLt_bf16_f32) main_arg0
  let main_v1 : FVec F S2048x2560 .f32 := Host.absf main_v0
  let main_cst : FVec F S_ .f32 := constant S_ .f32 0x7F800000#32
  let main_v2 : FVec F S2048x2560 .f32 := broadcastInDim S2048x2560 ![] bcast_S_S2048x2560 main_cst
  let main_v3 : IVec S2048x2560 1 := cmpf .olt main_v1 main_v2
  main_v3
-- ==== Pre_finite_qk_fwd.lean ====
abbrev S2048x2560 : Shape := ⟨2, ![2048, 2560]⟩
abbrev S2048x3072 : Shape := ⟨2, ![2048, 3072]⟩
abbrev S_ : Shape := ⟨0, ![]⟩

class Facts : Prop where
  bitsLt_bf16_f32 : FTy.bits .bf16 < FTy.bits .f32
  bcast_S_S2048x2560 : S_.BroadcastsInDim S2048x2560 (![] : Fin 0 → Fin S2048x2560.rank)

variable [Facts]

def fn {F : FTy → Type} [FloatOps F] (main_arg0 : FVec F S2048x2560 .bf16) (main_arg1 : FVec F S2048x3072 .bf16) : IVec S2048x2560 1 :=
  let main_v0 : FVec F S2048x2560 .f32 := (extf .f32 · bitsLt_bf16_f32) main_arg0
  let main_v1 : FVec F S2048x2560 .f32 := Host.absf main_v0
  let main_cst : FVec F S_ .f32 := constant S_ .f32 0x7F800000#32
  let main_v2 : FVec F S2048x2560 .f32 := broadcastInDim S2048x2560 ![] bcast_S_S2048x2560 main_cst
  let main_v3 : IVec S2048x2560 1 := cmpf .olt main_v1 main_v2
  main_v3
-- ==== GqaBwd.lean ====
abbrev S2048x2560 : Shape := ⟨2, ![2048, 2560]⟩
abbrev S2048x3072 : Shape := ⟨2, ![2048, 3072]⟩
abbrev S2048x2048 : Shape := ⟨2, ![2048, 2048]⟩
abbrev S2048x512 : Shape := ⟨2, ![2048, 512]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S2048x2560, .bf16⟩
  | .hbm, ⟨1, _⟩ => ⟨S2048x3072, .bf16⟩
  | .hbm, ⟨2, _⟩ => ⟨S2048x2048, .bf16⟩
  | .hbm, ⟨3, _⟩ => ⟨S2048x2048, .bf16⟩
  | .hbm, ⟨4, _⟩ => ⟨S2048x512, .bf16⟩
  | .hbm, ⟨5, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let arg2 : BitVec 32 := BitVec.ofNat 32 (i 2).val
  let c3_i32_26 : BitVec 32 := 3#32
  let v44 : BitVec 1 := Scalar.cmpi .eq arg2 c3_i32_26
  let v45 : BitVec 1 := Scalar.andi v43 v44
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== GqaRefIdeal.lean ====
abbrev S2048x2560 : Shape := ⟨2, ![2048, 2560]⟩
abbrev S2048x3072 : Shape := ⟨2, ![2048, 3072]⟩
abbrev S2048x2048 : Shape := ⟨2, ![2048, 2048]⟩
abbrev S2048x4x4x128 : Shape := ⟨4, ![2048, 4, 4, 128]⟩
abbrev S2048x512 : Shape := ⟨2, ![2048, 512]⟩
abbrev S2048x4x128 : Shape := ⟨3, ![2048, 4, 128]⟩
abbrev S4x2048x2048x4 : Shape := ⟨4, ![4, 2048, 2048, 4]⟩
abbrev S4x4x2048x2048 : Shape := ⟨4, ![4, 4, 2048, 2048]⟩
abbrev S_ : Shape := ⟨0, ![]⟩
abbrev S4x4x2048 : Shape := ⟨3, ![4, 4, 2048]⟩
abbrev S4x4x2048x1 : Shape := ⟨4, ![4, 4, 2048, 1]⟩
abbrev S4x128x4x2048 : Shape := ⟨4, ![4, 128, 4, 2048]⟩
abbrev S4x128x2048 : Shape := ⟨3, ![4, 128, 2048]⟩
abbrev S4x2048x4x128 : Shape := ⟨4, ![4, 2048, 4, 128]⟩
abbrev S4x2048x128 : Shape := ⟨3, ![4, 2048, 128]⟩

abbrev nBuf : Space → Nat
  | .hbm => 85
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x3072, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x4x4x128, .f32⟩
  | .hbm, ⟨6, _⟩ => ⟨S2048x512, .bf16⟩
  | .hbm, ⟨7, _⟩ => ⟨S2048x512, .f32⟩
  | .hbm, ⟨8, _⟩ => ⟨S2048x4x128, .f32⟩
  | .hbm, ⟨9, _⟩ => ⟨S2048x512, .bf16⟩
  | .hbm, ⟨10, _⟩ => ⟨S2048x512, .f32⟩
  | .hbm, ⟨11, _⟩ => ⟨S2048x4x128, .f32⟩
  | .hbm, ⟨12, _⟩ => ⟨S4x2048x2048x4, .f32⟩
  | .hbm, ⟨13, _⟩ => ⟨S4x4x2048x2048, .f32⟩
  | .hbm, ⟨14, _⟩ => ⟨S_, .f32⟩
  | .hbm, ⟨15, _⟩ => ⟨S4x4x2048, .f32⟩
  | .hbm, ⟨16, _⟩ => ⟨S4x4x2048x1, .f32⟩
  | .hbm, ⟨17, _⟩ => ⟨S4x4x2048x2048, .f32⟩
  | .hbm, ⟨18, _⟩ => ⟨S4x4x2048x2048, .i1⟩
  | .hbm, ⟨19, _⟩ => ⟨S4x4x2048x2048, .f32⟩
  | .hbm, ⟨20, _⟩ => ⟨S_, .f32⟩
  | .hbm, ⟨21, _⟩ => ⟨S4x4x2048, .f32⟩
  | .hbm, ⟨22, _⟩ => ⟨S_, .f32⟩
  | .hbm, ⟨23, _⟩ => ⟨S4x4x2048, .f32⟩
  | .hbm, ⟨24, _⟩ => ⟨S4x4x2048, .f32⟩
  | .hbm, ⟨25, _⟩ => ⟨S_, .f32⟩
  | .hbm, ⟨26, _⟩ => ⟨S4x4x2048, .f32⟩
  | .hbm, ⟨27, _⟩ => ⟨S4x4x2048, .i1⟩
  | .hbm, ⟨28, _⟩ => ⟨S_, .f32⟩
  | .hbm, ⟨29, _⟩ => ⟨S4x4x2048, .f32⟩
  | .hbm, ⟨30, _⟩ => ⟨S4x4x2048, .i1⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S4x4x2048, .f32⟩
  | .hbm, ⟨39, _⟩ => ⟨S4x4x2048x1, .f32⟩
  | .hbm, ⟨40, _⟩ => ⟨S4x4x2048x2048, .f32⟩
  | .hbm, ⟨41, _⟩ => ⟨S4x4x2048x2048, .f32⟩
  | .hbm, ⟨42, _⟩ => ⟨S4x4x2048x2048, .f32⟩
  | .hbm, ⟨43, _⟩ => ⟨S_, .f32⟩
  | .hbm, ⟨44, _⟩ => ⟨S4x4x2048, .f32⟩
  | .hbm, ⟨45, _⟩ => ⟨S4x4x2048x1, .f32⟩
  | .hbm, ⟨46, _⟩ => ⟨S4x4x2048x2048, .f32⟩
  | .hbm, ⟨47, _⟩ => ⟨S4x4x2048x2048, .f32⟩
  | .hbm, ⟨48, _⟩ => ⟨S4x4x2048x1, .f32⟩
  | .hbm, ⟨49, _⟩ => ⟨S_, .f32⟩
  | .hbm, ⟨50, _⟩ => ⟨S4x4x2048x1, .f32⟩
  | .hbm, ⟨51, _⟩ => ⟨S4x4x2048x1, .f32⟩
  | .hbm, ⟨52, _⟩ => ⟨S4x128x4x2048, .f32⟩
  | .hbm, ⟨53, _⟩ => ⟨S2048x4x4x128, .f32⟩
  | .hbm, ⟨54, _⟩ => ⟨S2048x2048, .f32⟩
  | .hbm, ⟨55, _⟩ => ⟨S2048x4x4x128, .f32⟩
  | .hbm, ⟨56, _⟩ => ⟨S4x128x4x2048, .f32⟩
  | .hbm, ⟨57, _⟩ => ⟨S4x4x2048x2048, .f32⟩
  | .hbm, ⟨58, _⟩ => ⟨S4x128x2048, .f32⟩
  | .hbm, ⟨59, _⟩ => ⟨S2048x4x128, .f32⟩
  | .hbm, ⟨60, _⟩ => ⟨S4x4x2048x2048, .f32⟩
  | .hbm, ⟨61, _⟩ => ⟨S4x4x2048x2048, .f32⟩
  | .hbm, ⟨62, _⟩ => ⟨S4x4x2048x2048, .f32⟩
  | .hbm, ⟨63, _⟩ => ⟨S_, .f32⟩
  | .hbm, ⟨64, _⟩ => ⟨S4x4x2048, .f32⟩
  | .hbm, ⟨65, _⟩ => ⟨S4x4x2048x1, .f32⟩
  | .hbm, ⟨66, _⟩ => ⟨S4x4x2048x1, .f32⟩
  | .hbm, ⟨67, _⟩ => ⟨S4x4x2048x2048, .f32⟩
  | .hbm, ⟨68, _⟩ => ⟨S4x4x2048x2048, .f32⟩
  | .hbm, ⟨69, _⟩ => ⟨S_, .f32⟩
  | .hbm, ⟨70, _⟩ => ⟨S4x4x2048, .f32⟩
  | .hbm, ⟨71, _⟩ => ⟨S4x4x2048x2048, .f32⟩
  | .hbm, ⟨72, _⟩ => ⟨S4x4x2048x2048, .f32⟩
  | .hbm, ⟨73, _⟩ => ⟨S4x4x2048x2048, .f32⟩
  | .hbm, ⟨74, _⟩ => ⟨S4x2048x2048x4, .f32⟩
  | .hbm, ⟨75, _⟩ => ⟨S4x2048x4x128, .f32⟩
  | .hbm, ⟨76, _⟩ => ⟨S2048x4x4x128, .f32⟩
  | .hbm, ⟨77, _⟩ => ⟨S4x2048x128, .f32⟩
  | .hbm, ⟨78, _⟩ => ⟨S2048x4x128, .f32⟩
  | .hbm, ⟨79, _⟩ => ⟨S2048x2048, .f32⟩
  | .hbm, ⟨80, _⟩ => ⟨S2048x2048, .bf16⟩
  | .hbm, ⟨81, _⟩ => ⟨S2048x512, .f32⟩
  | .hbm, ⟨82, _⟩ => ⟨S2048x512, .bf16⟩
  | .hbm, ⟨83, _⟩ => ⟨S2048x512, .f32⟩
  | .hbm, ⟨84, _⟩ => ⟨S2048x512, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]
-- ==== FfnBwd.lean ====
abbrev S2048x2048 : Shape := ⟨2, ![2048, 2048]⟩
abbrev S4x2048x2816 : Shape := ⟨3, ![4, 2048, 2816]⟩
abbrev S4x3x2816 : Shape := ⟨3, ![4, 3, 2816]⟩
abbrev S1x11264 : Shape := ⟨2, ![1, 11264]⟩
abbrev S1x5632x2048 : Shape := ⟨3, ![1, 5632, 2048]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S2048x5632 : Shape := ⟨2, ![2048, 5632]⟩
abbrev S2048x256 : Shape := ⟨2, ![2048, 256]⟩
abbrev S1x3x256 : Shape := ⟨3, ![1, 3, 256]⟩
abbrev S1x256 : Shape := ⟨2, ![1, 256]⟩
abbrev S3x256 : Shape := ⟨2, ![3, 256]⟩
abbrev S2048x512 : Shape := ⟨2, ![2048, 512]⟩
abbrev S1x512x2048 : Shape := ⟨3, ![1, 512, 2048]⟩
abbrev S512x2048 : Shape := ⟨2, ![512, 2048]⟩
abbrev S1x16x128 : Shape := ⟨3, ![1, 16, 128]⟩
abbrev S16x128 : Shape := ⟨2, ![16, 128]⟩
abbrev S1024x512 : Shape := ⟨2, ![1024, 512]⟩
abbrev S3x5632 : Shape := ⟨2, ![3, 5632]⟩
abbrev S1x5632 : Shape := ⟨2, ![1, 5632]⟩
abbrev S256 : Shape := ⟨1, ![256]⟩
abbrev S3x11264 : Shape := ⟨2, ![3, 11264]⟩

abbrev nBuf : Space → Nat
  | .hbm => 22
  | .vmem => 62
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S4x3x2816, .f32⟩
  | .hbm, ⟨3, _⟩ => ⟨S1x11264, .f32⟩
  | .hbm, ⟨4, _⟩ => ⟨S1x5632x2048, .bf16⟩
  | .hbm, ⟨5, _⟩ => ⟨S2048x2048, .bf16⟩
  | .hbm, ⟨6, _⟩ => ⟨S2048x11264, .bf16⟩
  | .hbm, ⟨7, _⟩ => ⟨S2048x5632, .bf16⟩
  | .hbm, ⟨8, _⟩ => ⟨S2048x5632, .bf16⟩
  | .hbm, ⟨9, _⟩ => ⟨S2048x5632, .bf16⟩
  | .hbm, ⟨10, _⟩ => ⟨S1x5632x2048, .bf16⟩
  | .hbm, ⟨11, _⟩ => ⟨S1x16x128, .bf16⟩
  | .hbm, ⟨12, _⟩ => ⟨S16x128, .bf16⟩
  | .hbm, ⟨13, _⟩ => ⟨S2048x5632, .bf16⟩
  | .hbm, ⟨14, _⟩ => ⟨S2048x5632, .bf16⟩
  | .hbm, ⟨15, _⟩ => ⟨S2048x5632, .bf16⟩
  | .hbm, ⟨16, _⟩ => ⟨S3x5632, .f32⟩
  | .hbm, ⟨17, _⟩ => ⟨S3x5632, .f32⟩
  | .hbm, ⟨18, _⟩ => ⟨S1x5632, .f32⟩
  | .hbm, ⟨19, _⟩ => ⟨S1x5632, .f32⟩
  | .hbm, ⟨20, _⟩ => ⟨S3x11264, .f32⟩
  | .hbm, ⟨21, _⟩ => ⟨S1x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x3x256, .f32⟩
  | .local _ .vmem, ⟨11, _⟩ => ⟨S1x3x256, .f32⟩
  | .local _ .vmem, ⟨12, _⟩ => ⟨S1x3x256, .f32⟩
  | .local _ .vmem, ⟨13, _⟩ => ⟨S1x3x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x512, .bf16⟩
  | .local _ .vmem, ⟨25, _⟩ => ⟨S2048x512, .bf16⟩
  | .local _ .vmem, ⟨26, _⟩ => ⟨S2048x2048, .bf16⟩
  | .local _ .vmem, ⟨27, _⟩ => ⟨S1x512x2048, .bf16⟩
  | .local _ .vmem, ⟨28, _⟩ => ⟨S1x512x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1x512x2048, .bf16⟩
  | .local _ .vmem, ⟨32, _⟩ => ⟨S1x512x2048, .bf16⟩
  | .local _ .vmem, ⟨33, _⟩ => ⟨S16x128, .bf16⟩
  | .local _ .vmem, ⟨34, _⟩ => ⟨S1024x512, .bf16⟩
  | .local _ .vmem, ⟨35, _⟩ => ⟨S1024x512, .bf16⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S2048x256, .bf16⟩
  | .local _ .vmem, ⟨41, _⟩ => ⟨S2048x256, .bf16⟩
  | .local _ .vmem, ⟨42, _⟩ => ⟨S2048x256, .bf16⟩
  | .local _ .vmem, ⟨43, _⟩ => ⟨S2048x256, .bf16⟩
  | .local _ .vmem, ⟨44, _⟩ => ⟨S1x3x256, .f32⟩
  | .local _ .vmem, ⟨45, _⟩ => ⟨S1x3x256, .f32⟩
  | .local _ .vmem, ⟨46, _⟩ => ⟨S1x3x256, .f32⟩
  | .local _ .vmem, ⟨47, _⟩ => ⟨S1x3x256, .f32⟩
  | .local _ .vmem, ⟨48, _⟩ => ⟨S2048x256, .bf16⟩
  | .local _ .vmem, ⟨49, _⟩ => ⟨S2048x256, .bf16⟩
  | .local _ .vmem, ⟨50, _⟩ => ⟨S2048x256, .bf16⟩
  | .local _ .vmem, ⟨51, _⟩ => ⟨S2048x256, .bf16⟩
  | .local _ .vmem, ⟨52, _⟩ => ⟨S2048x256, .bf16⟩
  | .local _ .vmem, ⟨53, _⟩ => ⟨S2048x256, .bf16⟩
  | .local _ .vmem, ⟨54, _⟩ => ⟨S3x256, .f32⟩
  | .local _ .vmem, ⟨55, _⟩ => ⟨S3x256, .f32⟩
  | .local _ .vmem, ⟨56, _⟩ => ⟨S3x256, .f32⟩
  | .local _ .vmem, ⟨57, _⟩ => ⟨S3x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg7_1 : Ref sig .tc := ⟨.vmem, 51, rfl⟩
abbrev cc4_stg8_0 : Ref sig .tc := ⟨.vmem, 52, rfl⟩
abbrev cc4_stg8_1 : Ref sig .tc := ⟨.vmem, 53, rfl⟩
abbrev cc4_stg9_0 : Ref sig .tc := ⟨.vmem, 54, rfl⟩
abbrev cc4_stg9_1 : Ref sig .tc := ⟨.vmem, 55, rfl⟩
abbrev cc4_stg10_0 : Ref sig .tc := ⟨.vmem, 56, rfl⟩
abbrev cc4_stg10_1 : Ref sig .tc := ⟨.vmem, 57, rfl⟩
abbrev cc4_stg11_0 : Ref sig .tc := ⟨.vmem, 58, rfl⟩
abbrev cc4_stg11_1 : Ref sig .tc := ⟨.vmem, 59, rfl⟩
abbrev cc4_stg12_0 : Ref sig .tc := ⟨.vmem, 60, rfl⟩
abbrev cc4_stg12_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45
abbrev cc4_sem5_0 : DmaSem sig := 46
abbrev cc4_sem5_1 : DmaSem sig := 47
abbrev cc4_sem6_0 : DmaSem sig := 48
abbrev cc4_sem6_1 : DmaSem sig := 49
abbrev cc4_sem7_0 : DmaSem sig := 50
abbrev cc4_sem7_1 : DmaSem sig := 51
abbrev cc4_sem8_0 : DmaSem sig := 52
abbrev cc4_sem8_1 : DmaSem sig := 53
abbrev cc4_sem9_0 : DmaSem sig := 54
abbrev cc4_sem9_1 : DmaSem sig := 55
abbrev cc4_sem10_0 : DmaSem sig := 56
abbrev cc4_sem10_1 : DmaSem sig := 57
abbrev cc4_sem11_0 : DmaSem sig := 58
abbrev cc4_sem11_1 : DmaSem sig := 59
abbrev cc4_sem12_0 : DmaSem sig := 60
abbrev cc4_sem12_1 : DmaSem sig := 61

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_2 (i : grid1.Coords) : Fin 3 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_3 (i : grid1.Coords) : Fin 3 → Nat :=
  let arg0 : BitVec 32 := BitVec.ofNat 32 (i 0).val
  let c22_i32 : BitVec 32 := 22#32
  let v0 : BitVec 32 := Scalar.addi c22_i32 arg0
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi c22_i32_4 arg0
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨3, ![11, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S16x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false, false]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![22], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 3 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc4_transform_5 (i : grid4.Coords) : Fin 3 → Nat :=
  let arg0 : BitVec 32 := BitVec.ofNat 32 (i 0).val
  let c22_i32 : BitVec 32 := 22#32
  let v0 : BitVec 32 := Scalar.addi c22_i32 arg0
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi c22_i32_4 arg0
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x3x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x3x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2048x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2048x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2048x256 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S3x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S3x256 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S1x256 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S1x256 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]
-- ==== FfnRefIdeal.lean ====
abbrev S2048x2048 : Shape := ⟨2, ![2048, 2048]⟩
abbrev S4x2048x2816 : Shape := ⟨3, ![4, 2048, 2816]⟩
abbrev S4x3x2816 : Shape := ⟨3, ![4, 3, 2816]⟩
abbrev S1x11264 : Shape := ⟨2, ![1, 11264]⟩
abbrev S1x5632x2048 : Shape := ⟨3, ![1, 5632, 2048]⟩
abbrev S2048x4x2816 : Shape := ⟨3, ![2048, 4, 2816]⟩
abbrev S2048x11264 : Shape := ⟨2, ![2048, 11264]⟩
abbrev S3x4x2816 : Shape := ⟨3, ![3, 4, 2816]⟩
abbrev S3x11264 : Shape := ⟨2, ![3, 11264]⟩
abbrev S11264 : Shape := ⟨1, ![11264]⟩
abbrev S5632x1x2048 : Shape := ⟨3, ![5632, 1, 2048]⟩
abbrev S5632x2048 : Shape := ⟨2, ![5632, 2048]⟩
abbrev S_ : Shape := ⟨0, ![]⟩
abbrev S2050x11264 : Shape := ⟨2, ![2050, 11264]⟩
abbrev S2048x5632 : Shape := ⟨2, ![2048, 5632]⟩

abbrev nBuf : Space → Nat
  | .hbm => 135
  | .vmem => 0
  | .smem => 0
  | _ => 0

abbrev hbmTy0_0 (i : Nat) : BufTy := match i % 128 with
  | 0 => ⟨S2048x2048, .bf16⟩
  | 1 => ⟨S4x2048x2816, .bf16⟩
  | 2 => ⟨S4x3x2816, .f32⟩
  | 3 => ⟨S1x11264, .f32⟩
  | 4 => ⟨S1x5632x2048, .bf16⟩
  | 5 => ⟨S2048x2048, .bf16⟩
  | 6 => ⟨S2048x2048, .f32⟩
  | 7 => ⟨S4x2048x2816, .f32⟩
  | 8 => ⟨S2048x4x2816, .f32⟩
  | 9 => ⟨S2048x11264, .f32⟩
  | 10 => ⟨S2048x11264, .f32⟩
  | 11 => ⟨S3x4x2816, .f32⟩
  | 12 => ⟨S3x11264, .f32⟩
  | 13 => ⟨S11264, .f32⟩
  | 14 => ⟨S1x5632x2048, .f32⟩
  | 15 => ⟨S5632x1x2048, .f32⟩
  | 16 => ⟨S5632x2048, .f32⟩
  | 17 => ⟨S_, .f32⟩
  | 18 => ⟨S1x11264, .f32⟩
  | 19 => ⟨S_, .f32⟩
  | 20 => ⟨S1x11264, .f32⟩
  | 21 => ⟨S2050x11264, .f32⟩
  | 22 => ⟨S_, .f32⟩
  | 23 => ⟨S1x11264, .f32⟩
  | 24 => ⟨S_, .f32⟩
  | 25 => ⟨S1x11264, .f32⟩
  | 26 => ⟨S2048x11264, .f32⟩
  | 27 => ⟨S1x11264, .f32⟩
  | 28 => ⟨S11264, .f32⟩
  | 29 => ⟨S1x11264, .f32⟩
  | 30 => ⟨S2048x11264, .f32⟩
  | 31 => ⟨S2048x11264, .f32⟩
  | 32 => ⟨S2048x11264, .f32⟩
  | 33 => ⟨S1x11264, .f32⟩
  | 34 => ⟨S11264, .f32⟩
  | 35 => ⟨S1x11264, .f32⟩
  | 36 => ⟨S2048x11264, .f32⟩
  | 37 => ⟨S2048x11264, .f32⟩
  | 38 => ⟨S2048x11264, .f32⟩
  | 39 => ⟨S2048x11264, .f32⟩
  | 40 => ⟨S1x11264, .f32⟩
  | 41 => ⟨S11264, .f32⟩
  | 42 => ⟨S1x11264, .f32⟩
  | 43 => ⟨S2048x11264, .f32⟩
  | 44 => ⟨S2048x11264, .f32⟩
  | 45 => ⟨S2048x11264, .f32⟩
  | 46 => ⟨S1x11264, .f32⟩
  | 47 => ⟨S2048x11264, .f32⟩
  | 48 => ⟨S2048x11264, .f32⟩
  | 49 => ⟨S2048x5632, .f32⟩
  | 50 => ⟨S2048x5632, .f32⟩
  | 51 => ⟨S2048x5632, .f32⟩
  | 52 => ⟨S2048x5632, .f32⟩
  | 53 => ⟨S_, .f32⟩
  | 54 => ⟨S2048x5632, .f32⟩
  | 55 => ⟨S2048x5632, .f32⟩
  | 56 => ⟨S_, .f32⟩
  | 57 => ⟨S2048x5632, .f32⟩
  | 58 => ⟨S2048x5632, .f32⟩
  | 59 => ⟨S_, .f32⟩
  | 60 => ⟨S2048x5632, .f32⟩
  | 61 => ⟨S2048x5632, .f32⟩
  | 62 => ⟨S2048x5632, .f32⟩
  | 63 => ⟨S2048x5632, .f32⟩
  | 64 => ⟨S2048x5632, .f32⟩
  | 65 => ⟨S2048x2048, .f32⟩
  | 66 => ⟨S2048x2048, .f32⟩
  | 67 => ⟨S2048x5632, .f32⟩
  | 68 => ⟨S5632x2048, .f32⟩
  | 69 => ⟨S2048x5632, .f32⟩
  | 70 => ⟨S2048x5632, .f32⟩
  | 71 => ⟨S2048x5632, .f32⟩
  | 72 => ⟨S2048x5632, .f32⟩
  | 73 => ⟨S2048x5632, .f32⟩
  | 74 => ⟨S2048x5632, .f32⟩
  | 75 => ⟨S2048x5632, .f32⟩
  | 76 => ⟨S2048x11264, .f32⟩
  | 77 => ⟨S_, .f32⟩
  | 78 => ⟨S11264, .f32⟩
  | 79 => ⟨S1x11264, .f32⟩
  | 80 => ⟨S_, .f32⟩
  | 81 => ⟨S11264, .f32⟩
  | 82 => ⟨S2048x11264, .f32⟩
  | 83 => ⟨S_, .f32⟩
  | 84 => ⟨S11264, .f32⟩
  | 85 => ⟨S1x11264, .f32⟩
  | 86 => ⟨S2048x11264, .f32⟩
  | 87 => ⟨S2048x11264, .f32⟩
  | 88 => ⟨S_, .f32⟩
  | 89 => ⟨S11264, .f32⟩
  | 90 => ⟨S1x11264, .f32⟩
  | 91 => ⟨S_, .f32⟩
  | 92 => ⟨S3x11264, .f32⟩
  | 93 => ⟨S_, .f32⟩
  | 94 => ⟨S2050x11264, .f32⟩
  | 95 => ⟨S2048x11264, .f32⟩
  | 96 => ⟨S_, .f32⟩
  | 97 => ⟨S11264, .f32⟩
  | 98 => ⟨S1x11264, .f32⟩
  | 99 => ⟨S2048x11264, .f32⟩
  | 100 => ⟨S2048x11264, .f32⟩
  | 101 => ⟨S_, .f32⟩
  | 102 => ⟨S11264, .f32⟩
  | 103 => ⟨S1x11264, .f32⟩
  | 104 => ⟨S_, .f32⟩
  | 105 => ⟨S3x11264, .f32⟩
  | 106 => ⟨S3x11264, .f32⟩
  | 107 => ⟨S_, .f32⟩
  | 108 => ⟨S2050x11264, .f32⟩
  | 109 => ⟨S2050x11264, .f32⟩
  | 110 => ⟨S2048x11264, .f32⟩
  | 111 => ⟨S_, .f32⟩
  | 112 => ⟨S11264, .f32⟩
  | 113 => ⟨S1x11264, .f32⟩
  | 114 => ⟨S2048x11264, .f32⟩
  | 115 => ⟨S2048x11264, .f32⟩
  | 116 => ⟨S_, .f32⟩
  | 117 => ⟨S11264, .f32⟩
  | 118 => ⟨S1x11264, .f32⟩
  | 119 => ⟨S_, .f32⟩
  | 120 => ⟨S3x11264, .f32⟩
  | 121 => ⟨S3x11264, .f32⟩
  | 122 => ⟨S_, .f32⟩
  | 123 => ⟨S2050x11264, .f32⟩
  | 124 => ⟨S2050x11264, .f32⟩
  | 125 => ⟨S1x11264, .f32⟩
  | 126 => ⟨S2048x11264, .f32⟩
  | 127 => ⟨S1x11264, .f32⟩
  | _ => ⟨S2048x2048, .bf16⟩

abbrev hbmTy0_1 (i : Nat) : BufTy := match i % 128 with
  | 0 => ⟨S2048x11264, .bf16⟩
  | 1 => ⟨S2048x5632, .bf16⟩
  | 2 => ⟨S2048x5632, .bf16⟩
  | 3 => ⟨S1x11264, .f32⟩
  | 4 => ⟨S5632x1x2048, .f32⟩
  | 5 => ⟨S1x5632x2048, .f32⟩
  | 6 => ⟨S1x5632x2048, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v41_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v41_1 : Ref sig .tc := ⟨.hbm, 62, rfl⟩
abbrev main_v41_0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_cst_5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_6 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_10 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_cst_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== DwUp.lean ====
abbrev S2048x2048 : Shape := ⟨2, ![2048, 2048]⟩
abbrev S2048x5632 : Shape := ⟨2, ![2048, 5632]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwUpRefIdeal.lean ====
abbrev S2048x2048 : Shape := ⟨2, ![2048, 2048]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x11264, .f32⟩
  | .hbm, ⟨7, _⟩ => ⟨S_, .f32⟩
  | .hbm, ⟨8, _⟩ => ⟨S2048x11264, .f32⟩
  | .hbm, ⟨9, _⟩ => ⟨S2048x11264, .f32⟩
  | .hbm, ⟨10, _⟩ => ⟨S11264x2048, .f32⟩
  | .hbm, ⟨11, _⟩ => ⟨S2048x11264, .f32⟩
  | .hbm, ⟨12, _⟩ => ⟨S2048x2048, .f32⟩
  | .hbm, ⟨13, _⟩ => ⟨S2048x4x2816, .f32⟩
  | .hbm, ⟨14, _⟩ => ⟨S4x2048x2816, .f32⟩
  | .hbm, ⟨15, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Db.lean ====
abbrev S2048x5632 : Shape := ⟨2, ![2048, 5632]⟩
abbrev S4x2048x2816 : Shape := ⟨3, ![4, 2048, 2816]⟩
abbrev S2048x2048 : Shape := ⟨2, ![2048, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x2816, .bf16⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond4 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_16 : BitVec 32 := 0#32
  let v35 : BitVec 1 := Scalar.cmpi .ne v34 c0_i32_16
  v35

def k0_cond5 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond8 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DbRefIdeal.lean ====
abbrev S2048x5632 : Shape := ⟨2, ![2048, 5632]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S_ : Shape := ⟨0, ![]⟩
abbrev S2048x2048 : Shape := ⟨2, ![2048, 2048]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x2816, .bf16⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S2048x11264, .f32⟩
  | .hbm, ⟨9, _⟩ => ⟨S_, .f32⟩
  | .hbm, ⟨10, _⟩ => ⟨S2048x2048, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ScBwd.lean ====
abbrev S2048x2048 : Shape := ⟨2, ![2048, 2048]⟩
abbrev S4x2048x1536 : Shape := ⟨3, ![4, 2048, 1536]⟩
abbrev S4x3x512 : Shape := ⟨3, ![4, 3, 512]⟩
abbrev S1x2048x2048 : Shape := ⟨3, ![1, 2048, 2048]⟩
abbrev S16x128 : Shape := ⟨2, ![16, 128]⟩
abbrev S2048x6144 : Shape := ⟨2, ![2048, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩
abbrev S2048x256 : Shape := ⟨2, ![2048, 256]⟩
abbrev S1x3x256 : Shape := ⟨3, ![1, 3, 256]⟩
abbrev S3x256 : Shape := ⟨2, ![3, 256]⟩
abbrev S1x256 : Shape := ⟨2, ![1, 256]⟩
abbrev S1x1024x2048 : Shape := ⟨3, ![1, 1024, 2048]⟩
abbrev S1024x1024 : Shape := ⟨2, ![1024, 1024]⟩
abbrev S2048x1024 : Shape := ⟨2, ![2048, 1024]⟩
abbrev S3x2048 : Shape := ⟨2, ![3, 2048]⟩
abbrev S256 : Shape := ⟨1, ![256]⟩
abbrev S1x1024x1536 : Shape := ⟨3, ![1, 1024, 1536]⟩

abbrev nBuf : Space → Nat
  | .hbm => 16
  | .vmem => 52
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S4x3x512, .f32⟩
  | .hbm, ⟨3, _⟩ => ⟨S1x2048x2048, .bf16⟩
  | .hbm, ⟨4, _⟩ => ⟨S2048x2048, .bf16⟩
  | .hbm, ⟨5, _⟩ => ⟨S16x128, .bf16⟩
  | .hbm, ⟨6, _⟩ => ⟨S2048x6144, .bf16⟩
  | .hbm, ⟨7, _⟩ => ⟨S2048x2048, .bf16⟩
  | .hbm, ⟨8, _⟩ => ⟨S2048x2048, .bf16⟩
  | .hbm, ⟨9, _⟩ => ⟨S1x2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S3x2048, .f32⟩
  | .hbm, ⟨14, _⟩ => ⟨S2048x6144, .bf16⟩
  | .hbm, ⟨15, _⟩ => ⟨S4x2048x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S1x3x256, .f32⟩
  | .local _ .vmem, ⟨13, _⟩ => ⟨S1x3x256, .f32⟩
  | .local _ .vmem, ⟨14, _⟩ => ⟨S2048x256, .bf16⟩
  | .local _ .vmem, ⟨15, _⟩ => ⟨S2048x256, .bf16⟩
  | .local _ .vmem, ⟨16, _⟩ => ⟨S1024x2048, .bf16⟩
  | .local _ .vmem, ⟨17, _⟩ => ⟨S1024x2048, .bf16⟩
  | .local _ .vmem, ⟨18, _⟩ => ⟨S1x1024x2048, .bf16⟩
  | .local _ .vmem, ⟨19, _⟩ => ⟨S1x1024x2048, .bf16⟩
  | .local _ .vmem, ⟨20, _⟩ => ⟨S16x128, .bf16⟩
  | .local _ .vmem, ⟨21, _⟩ => ⟨S1024x1024, .bf16⟩
  | .local _ .vmem, ⟨22, _⟩ => ⟨S1024x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x2048, .bf16⟩
  | .local _ .vmem, ⟨26, _⟩ => ⟨S1x1024x2048, .bf16⟩
  | .local _ .vmem, ⟨27, _⟩ => ⟨S1x1024x2048, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S1x3x256, .f32⟩
  | .local _ .vmem, ⟨35, _⟩ => ⟨S1x3x256, .f32⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S2048x256, .bf16⟩
  | .local _ .vmem, ⟨41, _⟩ => ⟨S2048x256, .bf16⟩
  | .local _ .vmem, ⟨42, _⟩ => ⟨S2048x256, .bf16⟩
  | .local _ .vmem, ⟨43, _⟩ => ⟨S2048x256, .bf16⟩
  | .local _ .vmem, ⟨44, _⟩ => ⟨S3x256, .f32⟩
  | .local _ .vmem, ⟨45, _⟩ => ⟨S3x256, .f32⟩
  | .local _ .vmem, ⟨46, _⟩ => ⟨S2048x1024, .bf16⟩
  | .local _ .vmem, ⟨47, _⟩ => ⟨S2048x1024, .bf16⟩
  | .local _ .vmem, ⟨48, _⟩ => ⟨S2048x1536, .bf16⟩
  | .local _ .vmem, ⟨49, _⟩ => ⟨S2048x1536, .bf16⟩
  | .local _ .vmem, ⟨50, _⟩ => ⟨S1x1024x1536, .bf16⟩
  | .local _ .vmem, ⟨51, _⟩ => ⟨S1x1024x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg7_1 : Ref sig .tc := ⟨.vmem, 43, rfl⟩
abbrev cc4_stg8_0 : Ref sig .tc := ⟨.vmem, 44, rfl⟩
abbrev cc4_stg8_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39
abbrev cc4_sem6_0 : DmaSem sig := 40
abbrev cc4_sem6_1 : DmaSem sig := 41
abbrev cc4_sem7_0 : DmaSem sig := 42
abbrev cc4_sem7_1 : DmaSem sig := 43
abbrev cc4_sem8_0 : DmaSem sig := 44
abbrev cc4_sem8_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S16x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc4_transform_3 (i : grid4.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x3x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2048x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2048x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S3x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1536 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1536 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ScRefIdeal.lean ====
abbrev S2048x2048 : Shape := ⟨2, ![2048, 2048]⟩
abbrev S4x2048x1536 : Shape := ⟨3, ![4, 2048, 1536]⟩
abbrev S4x3x512 : Shape := ⟨3, ![4, 3, 512]⟩
abbrev S1x2048x2048 : Shape := ⟨3, ![1, 2048, 2048]⟩
abbrev S16x128 : Shape := ⟨2, ![16, 128]⟩
abbrev S2048x4x1536 : Shape := ⟨3, ![2048, 4, 1536]⟩
abbrev S2048x6144 : Shape := ⟨2, ![2048, 6144]⟩
abbrev S3x4x512 : Shape := ⟨3, ![3, 4, 512]⟩
abbrev S3x2048 : Shape := ⟨2, ![3, 2048]⟩
abbrev S2048x1x2048 : Shape := ⟨3, ![2048, 1, 2048]⟩
abbrev S_ : Shape := ⟨0, ![]⟩
abbrev S1x2048 : Shape := ⟨2, ![1, 2048]⟩
abbrev S2050x2048 : Shape := ⟨2, ![2050, 2048]⟩
abbrev S2048 : Shape := ⟨1, ![2048]⟩
abbrev S6144x2048 : Shape := ⟨2, ![6144, 2048]⟩

abbrev nBuf : Space → Nat
  | .hbm => 117
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S4x3x512, .f32⟩
  | .hbm, ⟨3, _⟩ => ⟨S1x2048x2048, .bf16⟩
  | .hbm, ⟨4, _⟩ => ⟨S2048x2048, .bf16⟩
  | .hbm, ⟨5, _⟩ => ⟨S16x128, .bf16⟩
  | .hbm, ⟨6, _⟩ => ⟨S2048x2048, .f32⟩
  | .hbm, ⟨7, _⟩ => ⟨S4x2048x1536, .f32⟩
  | .hbm, ⟨8, _⟩ => ⟨S2048x4x1536, .f32⟩
  | .hbm, ⟨9, _⟩ => ⟨S2048x6144, .f32⟩
  | .hbm, ⟨10, _⟩ => ⟨S2048x6144, .f32⟩
  | .hbm, ⟨11, _⟩ => ⟨S3x4x512, .f32⟩
  | .hbm, ⟨12, _⟩ => ⟨S3x2048, .f32⟩
  | .hbm, ⟨13, _⟩ => ⟨S1x2048x2048, .f32⟩
  | .hbm, ⟨14, _⟩ => ⟨S2048x1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S2050x2048, .f32⟩
  | .hbm, ⟨25, _⟩ => ⟨S_, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S2048x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S_, .f32⟩
  | .hbm, ⟨67, _⟩ => ⟨S3x2048, .f32⟩
  | .hbm, ⟨68, _⟩ => ⟨S_, .f32⟩
  | .hbm, ⟨69, _⟩ => ⟨S2050x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S3x2048, .f32⟩
  | .hbm, ⟨81, _⟩ => ⟨S3x2048, .f32⟩
  | .hbm, ⟨82, _⟩ => ⟨S_, .f32⟩
  | .hbm, ⟨83, _⟩ => ⟨S2050x2048, .f32⟩
  | .hbm, ⟨84, _⟩ => ⟨S2050x2048, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S2048x2048, .f32⟩
  | .hbm, ⟨90, _⟩ => ⟨S2048x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S_, .f32⟩
  | .hbm, ⟨95, _⟩ => ⟨S3x2048, .f32⟩
  | .hbm, ⟨96, _⟩ => ⟨S3x2048, .f32⟩
  | .hbm, ⟨97, _⟩ => ⟨S_, .f32⟩
  | .hbm, ⟨98, _⟩ => ⟨S2050x2048, .f32⟩
  | .hbm, ⟨99, _⟩ => ⟨S2050x2048, .f32⟩
  | .hbm, ⟨100, _⟩ => ⟨S1x2048, .f32⟩
  | .hbm, ⟨101, _⟩ => ⟨S2048x2048, .f32⟩
  | .hbm, ⟨102, _⟩ => ⟨S1x2048, .f32⟩
  | .hbm, ⟨103, _⟩ => ⟨S2048x2048, .f32⟩
  | .hbm, ⟨104, _⟩ => ⟨S2048x2048, .f32⟩
  | .hbm, ⟨105, _⟩ => ⟨S2048x6144, .f32⟩
  | .hbm, ⟨106, _⟩ => ⟨S2048x6144, .f32⟩
  | .hbm, ⟨107, _⟩ => ⟨S6144x2048, .f32⟩
  | .hbm, ⟨108, _⟩ => ⟨S2048x6144, .f32⟩
  | .hbm, ⟨109, _⟩ => ⟨S2048x2048, .f32⟩
  | .hbm, ⟨110, _⟩ => ⟨S2048x6144, .bf16⟩
  | .hbm, ⟨111, _⟩ => ⟨S2048x1x2048, .f32⟩
  | .hbm, ⟨112, _⟩ => ⟨S1x2048x2048, .f32⟩
  | .hbm, ⟨113, _⟩ => ⟨S1x2048x2048, .bf16⟩
  | .hbm, ⟨114, _⟩ => ⟨S2048x4x1536, .f32⟩
  | .hbm, ⟨115, _⟩ => ⟨S4x2048x1536, .f32⟩
  | .hbm, ⟨116, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩

abbrev nD : Nat := 1
abbrev τ : Topo := Topo.v7x

variable {F : FTy → Type} [FloatOps F]
-- ==== Da.lean ====
abbrev S2048x6144 : Shape := ⟨2, ![2048, 6144]⟩
abbrev S4x2048x1536 : Shape := ⟨3, ![4, 2048, 1536]⟩
abbrev S2048x2048 : Shape := ⟨2, ![2048, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaRefIdeal.lean ====
abbrev S2048x6144 : Shape := ⟨2, ![2048, 6144]⟩
abbrev S4x2048x1536 : Shape := ⟨3, ![4, 2048, 1536]⟩
abbrev S2048x4x1536 : Shape := ⟨3, ![2048, 4, 1536]⟩
abbrev S_ : Shape := ⟨0, ![]⟩
abbrev S2048x2048 : Shape := ⟨2, ![2048, 2048]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S4x2048x1536, .f32⟩
  | .hbm, ⟨3, _⟩ => ⟨S2048x4x1536, .f32⟩
  | .hbm, ⟨4, _⟩ => ⟨S2048x6144, .f32⟩
  | .hbm, ⟨5, _⟩ => ⟨S2048x6144, .f32⟩
  | .hbm, ⟨6, _⟩ => ⟨S_, .f32⟩
  | .hbm, ⟨7, _⟩ => ⟨S2048x2048, .f32⟩
  | .hbm, ⟨8, _⟩ => ⟨S2048x6144, .f32⟩
  | .hbm, ⟨9, _⟩ => ⟨S6144x2048, .f32⟩
  | .hbm, ⟨10, _⟩ => ⟨S2048x6144, .f32⟩
  | .hbm, ⟨11, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Mix.lean ====
abbrev S2048x2048 : Shape := ⟨2, ![2048, 2048]⟩
abbrev S4x2048x1536 : Shape := ⟨3, ![4, 2048, 1536]⟩
abbrev S1x2048x2048 : Shape := ⟨3, ![1, 2048, 2048]⟩
abbrev S2048x6144 : Shape := ⟨2, ![2048, 6144]⟩
abbrev S16x128 : Shape := ⟨2, ![16, 128]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x2048 : Shape := ⟨3, ![1, 1024, 2048]⟩
abbrev S1x1024x1536 : Shape := ⟨3, ![1, 1024, 1536]⟩

abbrev nBuf : Space → Nat
  | .hbm => 13
  | .vmem => 32
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x2048, .bf16⟩
  | .hbm, ⟨3, _⟩ => ⟨S1x2048x2048, .bf16⟩
  | .hbm, ⟨4, _⟩ => ⟨S2048x2048, .f32⟩
  | .hbm, ⟨5, _⟩ => ⟨S2048x2048, .bf16⟩
  | .hbm, ⟨6, _⟩ => ⟨S2048x6144, .bf16⟩
  | .hbm, ⟨7, _⟩ => ⟨S16x128, .bf16⟩
  | .hbm, ⟨8, _⟩ => ⟨S2048x6144, .bf16⟩
  | .hbm, ⟨9, _⟩ => ⟨S2048x2048, .f32⟩
  | .hbm, ⟨10, _⟩ => ⟨S2048x2048, .bf16⟩
  | .hbm, ⟨11, _⟩ => ⟨S1x2048x2048, .bf16⟩
  | .hbm, ⟨12, _⟩ => ⟨S4x2048x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S16x128, .bf16⟩
  | .local _ .vmem, ⟨19, _⟩ => ⟨S1024x1024, .bf16⟩
  | .local _ .vmem, ⟨20, _⟩ => ⟨S1024x1024, .bf16⟩
  | .local _ .vmem, ⟨21, _⟩ => ⟨S2048x1024, .bf16⟩
  | .local _ .vmem, ⟨22, _⟩ => ⟨S2048x1024, .bf16⟩
  | .local _ .vmem, ⟨23, _⟩ => ⟨S2048x2048, .bf16⟩
  | .local _ .vmem, ⟨24, _⟩ => ⟨S1x1024x2048, .bf16⟩
  | .local _ .vmem, ⟨25, _⟩ => ⟨S1x1024x2048, .bf16⟩
  | .local _ .vmem, ⟨26, _⟩ => ⟨S2048x1024, .bf16⟩
  | .local _ .vmem, ⟨27, _⟩ => ⟨S2048x1024, .bf16⟩
  | .local _ .vmem, ⟨28, _⟩ => ⟨S2048x1536, .bf16⟩
  | .local _ .vmem, ⟨29, _⟩ => ⟨S2048x1536, .bf16⟩
  | .local _ .vmem, ⟨30, _⟩ => ⟨S1x1024x1536, .bf16⟩
  | .local _ .vmem, ⟨31, _⟩ => ⟨S1x1024x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S16x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1536 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1536 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== MixRefIdeal.lean ====
abbrev S2048x2048 : Shape := ⟨2, ![2048, 2048]⟩
abbrev S4x2048x1536 : Shape := ⟨3, ![4, 2048, 1536]⟩
abbrev S1x2048x2048 : Shape := ⟨3, ![1, 2048, 2048]⟩
abbrev S2048x6144 : Shape := ⟨2, ![2048, 6144]⟩
abbrev S16x128 : Shape := ⟨2, ![16, 128]⟩
abbrev S2048x4x1536 : Shape := ⟨3, ![2048, 4, 1536]⟩
abbrev S2048x1x2048 : Shape := ⟨3, ![2048, 1, 2048]⟩
abbrev S6144x2048 : Shape := ⟨2, ![6144, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x2048, .bf16⟩
  | .hbm, ⟨3, _⟩ => ⟨S1x2048x2048, .bf16⟩
  | .hbm, ⟨4, _⟩ => ⟨S2048x2048, .f32⟩
  | .hbm, ⟨5, _⟩ => ⟨S2048x2048, .bf16⟩
  | .hbm, ⟨6, _⟩ => ⟨S2048x6144, .bf16⟩
  | .hbm, ⟨7, _⟩ => ⟨S16x128, .bf16⟩
  | .hbm, ⟨8, _⟩ => ⟨S2048x2048, .f32⟩
  | .hbm, ⟨9, _⟩ => ⟨S4x2048x1536, .f32⟩
  | .hbm, ⟨10, _⟩ => ⟨S2048x4x1536, .f32⟩
  | .hbm, ⟨11, _⟩ => ⟨S2048x6144, .f32⟩
  | .hbm, ⟨12, _⟩ => ⟨S2048x2048, .f32⟩
  | .hbm, ⟨13, _⟩ => ⟨S1x2048x2048, .f32⟩
  | .hbm, ⟨14, _⟩ => ⟨S2048x1x2048, .f32⟩
  | .hbm, ⟨15, _⟩ => ⟨S2048x2048, .f32⟩
  | .hbm, ⟨16, _⟩ => ⟨S2048x6144, .f32⟩
  | .hbm, ⟨17, _⟩ => ⟨S2048x6144, .f32⟩
  | .hbm, ⟨18, _⟩ => ⟨S6144x2048, .f32⟩
  | .hbm, ⟨19, _⟩ => ⟨S2048x6144, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x6144, .f32⟩
  | .hbm, ⟨27, _⟩ => ⟨S2048x6144, .bf16⟩
  | .hbm, ⟨28, _⟩ => ⟨S2048x2048, .f32⟩
  | .hbm, ⟨29, _⟩ => ⟨S2048x2048, .f32⟩
  | .hbm, ⟨30, _⟩ => ⟨S2048x2048, .bf16⟩
  | .hbm, ⟨31, _⟩ => ⟨S2048x1x2048, .f32⟩
  | .hbm, ⟨32, _⟩ => ⟨S1x2048x2048, .f32⟩
  | .hbm, ⟨33, _⟩ => ⟨S1x2048x2048, .bf16⟩
  | .hbm, ⟨34, _⟩ => ⟨S2048x4x1536, .f32⟩
  | .hbm, ⟨35, _⟩ => ⟨S4x2048x1536, .f32⟩
  | .hbm, ⟨36, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== GqaPr.lean ====
abbrev S2048x2048 : Shape := ⟨2, ![2048, 2048]⟩
abbrev S4x2048x768 : Shape := ⟨3, ![4, 2048, 768]⟩
abbrev S2048x3072 : Shape := ⟨2, ![2048, 3072]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩
abbrev S2048x1024 : Shape := ⟨2, ![2048, 1024]⟩
abbrev S1x1024x768 : Shape := ⟨3, ![1, 1024, 768]⟩

abbrev nBuf : Space → Nat
  | .hbm => 5
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x2048x768, .bf16⟩
  | .hbm, ⟨2, _⟩ => ⟨S2048x3072, .bf16⟩
  | .hbm, ⟨3, _⟩ => ⟨S2048x3072, .bf16⟩
  | .hbm, ⟨4, _⟩ => ⟨S4x2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S2048x1024, .bf16⟩
  | .local _ .vmem, ⟨7, _⟩ => ⟨S2048x1024, .bf16⟩
  | .local _ .vmem, ⟨8, _⟩ => ⟨S2048x768, .bf16⟩
  | .local _ .vmem, ⟨9, _⟩ => ⟨S2048x768, .bf16⟩
  | .local _ .vmem, ⟨10, _⟩ => ⟨S1x1024x768, .bf16⟩
  | .local _ .vmem, ⟨11, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== GqaPrRefIdeal.lean ====
abbrev S2048x2048 : Shape := ⟨2, ![2048, 2048]⟩
abbrev S4x2048x768 : Shape := ⟨3, ![4, 2048, 768]⟩
abbrev S2048x3072 : Shape := ⟨2, ![2048, 3072]⟩
abbrev S2048x4x768 : Shape := ⟨3, ![2048, 4, 768]⟩
abbrev S3072x2048 : Shape := ⟨2, ![3072, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x768, .bf16⟩
  | .hbm, ⟨2, _⟩ => ⟨S2048x3072, .bf16⟩
  | .hbm, ⟨3, _⟩ => ⟨S2048x2048, .f32⟩
  | .hbm, ⟨4, _⟩ => ⟨S4x2048x768, .f32⟩
  | .hbm, ⟨5, _⟩ => ⟨S2048x4x768, .f32⟩
  | .hbm, ⟨6, _⟩ => ⟨S2048x3072, .f32⟩
  | .hbm, ⟨7, _⟩ => ⟨S2048x3072, .f32⟩
  | .hbm, ⟨8, _⟩ => ⟨S2048x3072, .bf16⟩
  | .hbm, ⟨9, _⟩ => ⟨S2048x3072, .f32⟩
  | .hbm, ⟨10, _⟩ => ⟨S2048x3072, .f32⟩
  | .hbm, ⟨11, _⟩ => ⟨S3072x2048, .f32⟩
  | .hbm, ⟨12, _⟩ => ⟨S2048x3072, .f32⟩
  | .hbm, ⟨13, _⟩ => ⟨S2048x2048, .f32⟩
  | .hbm, ⟨14, _⟩ => ⟨S2048x4x768, .f32⟩
  | .hbm, ⟨15, _⟩ => ⟨S4x2048x768, .f32⟩
  | .hbm, ⟨16, _⟩ => ⟨S4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GqaDa.lean ====
abbrev S2048x3072 : Shape := ⟨2, ![2048, 3072]⟩
abbrev S4x2048x768 : Shape := ⟨3, ![4, 2048, 768]⟩
abbrev S2048x2048 : Shape := ⟨2, ![2048, 2048]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S4x2048x768, .bf16⟩
  | .hbm, ⟨2, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GqaDaRefIdeal.lean ====
abbrev S2048x3072 : Shape := ⟨2, ![2048, 3072]⟩
abbrev S4x2048x768 : Shape := ⟨3, ![4, 2048, 768]⟩
abbrev S2048x4x768 : Shape := ⟨3, ![2048, 4, 768]⟩
abbrev S_ : Shape := ⟨0, ![]⟩
abbrev S2048x2048 : Shape := ⟨2, ![2048, 2048]⟩
abbrev S3072x2048 : Shape := ⟨2, ![3072, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S4x2048x768, .bf16⟩
  | .hbm, ⟨2, _⟩ => ⟨S4x2048x768, .f32⟩
  | .hbm, ⟨3, _⟩ => ⟨S2048x4x768, .f32⟩
  | .hbm, ⟨4, _⟩ => ⟨S2048x3072, .f32⟩
  | .hbm, ⟨5, _⟩ => ⟨S2048x3072, .f32⟩
  | .hbm, ⟨6, _⟩ => ⟨S_, .f32⟩
  | .hbm, ⟨7, _⟩ => ⟨S2048x2048, .f32⟩
  | .hbm, ⟨8, _⟩ => ⟨S2048x3072, .f32⟩
  | .hbm, ⟨9, _⟩ => ⟨S3072x2048, .f32⟩
  | .hbm, ⟨10, _⟩ => ⟨S2048x3072, .f32⟩
  | .hbm, ⟨11, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S2048x5632 : Shape := ⟨2, ![2048, 5632]⟩
abbrev S1x5632x2048 : Shape := ⟨3, ![1, 5632, 2048]⟩
abbrev S2048x2048 : Shape := ⟨2, ![2048, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S1x5632x2048 : Shape := ⟨3, ![1, 5632, 2048]⟩
abbrev S2048x2048 : Shape := ⟨2, ![2048, 2048]⟩
abbrev S5632x1x2048 : Shape := ⟨3, ![5632, 1, 2048]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x5632, .f32⟩
  | .hbm, ⟨4, _⟩ => ⟨S1x5632x2048, .f32⟩
  | .hbm, ⟨5, _⟩ => ⟨S5632x1x2048, .f32⟩
  | .hbm, ⟨6, _⟩ => ⟨S5632x2048, .f32⟩
  | .hbm, ⟨7, _⟩ => ⟨S2048x2048, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GqaFwd.lean ====
abbrev S2048x2560 : Shape := ⟨2, ![2048, 2560]⟩
abbrev S2048x3072 : Shape := ⟨2, ![2048, 3072]⟩
abbrev S2048x2048 : Shape := ⟨2, ![2048, 2048]⟩
abbrev S512x512 : Shape := ⟨2, ![512, 512]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x2560, .bf16⟩
  | .hbm, ⟨1, _⟩ => ⟨S2048x3072, .bf16⟩
  | .hbm, ⟨2, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .bf16⟩
  | .local _ .vmem, ⟨7, _⟩ => ⟨S512x512, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GqaFwdRefIdeal.lean ====
abbrev S2048x2560 : Shape := ⟨2, ![2048, 2560]⟩
abbrev S2048x3072 : Shape := ⟨2, ![2048, 3072]⟩
abbrev S2048x2048 : Shape := ⟨2, ![2048, 2048]⟩
abbrev S2048x4x4x128 : Shape := ⟨4, ![2048, 4, 4, 128]⟩
abbrev S2048x512 : Shape := ⟨2, ![2048, 512]⟩
abbrev S2048x4x128 : Shape := ⟨3, ![2048, 4, 128]⟩
abbrev S4x2048x2048x4 : Shape := ⟨4, ![4, 2048, 2048, 4]⟩
abbrev S4x4x2048x2048 : Shape := ⟨4, ![4, 4, 2048, 2048]⟩
abbrev S_ : Shape := ⟨0, ![]⟩
abbrev S4x4x2048 : Shape := ⟨3, ![4, 4, 2048]⟩
abbrev S4x4x2048x1 : Shape := ⟨4, ![4, 4, 2048, 1]⟩
abbrev S4x128x4x2048 : Shape := ⟨4, ![4, 128, 4, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x3072, .bf16⟩
  | .hbm, ⟨2, _⟩ => ⟨S2048x2048, .bf16⟩
  | .hbm, ⟨3, _⟩ => ⟨S2048x2048, .f32⟩
  | .hbm, ⟨4, _⟩ => ⟨S2048x4x4x128, .f32⟩
  | .hbm, ⟨5, _⟩ => ⟨S2048x512, .bf16⟩
  | .hbm, ⟨6, _⟩ => ⟨S2048x512, .f32⟩
  | .hbm, ⟨7, _⟩ => ⟨S2048x4x128, .f32⟩
  | .hbm, ⟨8, _⟩ => ⟨S2048x512, .bf16⟩
  | .hbm, ⟨9, _⟩ => ⟨S2048x512, .f32⟩
  | .hbm, ⟨10, _⟩ => ⟨S2048x4x128, .f32⟩
  | .hbm, ⟨11, _⟩ => ⟨S4x2048x2048x4, .f32⟩
  | .hbm, ⟨12, _⟩ => ⟨S4x4x2048x2048, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x2048, .f32⟩
  | .hbm, ⟨20, _⟩ => ⟨S4x4x2048x2048, .f32⟩
  | .hbm, ⟨21, _⟩ => ⟨S4x4x2048x2048, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x2048, .f32⟩
  | .hbm, ⟨26, _⟩ => ⟨S4x4x2048x2048, .f32⟩
  | .hbm, ⟨27, _⟩ => ⟨S4x128x4x2048, .f32⟩
  | .hbm, ⟨28, _⟩ => ⟨S2048x4x4x128, .f32⟩
  | .hbm, ⟨29, _⟩ => ⟨S2048x2048, .f32⟩
  | .hbm, ⟨30, _⟩ => ⟨S2048x2048, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .ne arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LossHead.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32_19 : BitVec 32 := 0#32
  let v46 : BitVec 1 := Scalar.cmpi .ne arg0 c0_i32_19
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S1x2048, .f32⟩
  | .hbm, ⟨74, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Adam.lean ====
abbrev S1x2048x768 : Shape := ⟨3, ![1, 2048, 768]⟩
abbrev S4x2048x768 : Shape := ⟨3, ![4, 2048, 768]⟩
abbrev S16x128 : Shape := ⟨2, ![16, 128]⟩
abbrev S1x128x768 : Shape := ⟨3, ![1, 128, 768]⟩
abbrev S4x128x768 : Shape := ⟨3, ![4, 128, 768]⟩
abbrev S128x768 : Shape := ⟨2, ![128, 768]⟩

abbrev nBuf : Space → Nat
  | .hbm => 10
  | .vmem => 19
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S4x2048x768, .bf16⟩
  | .hbm, ⟨5, _⟩ => ⟨S16x128, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S4x128x768, .bf16⟩
  | .local _ .vmem, ⟨7, _⟩ => ⟨S4x128x768, .bf16⟩
  | .local _ .vmem, ⟨8, _⟩ => ⟨S4x128x768, .bf16⟩
  | .local _ .vmem, ⟨9, _⟩ => ⟨S4x128x768, .bf16⟩
  | .local _ .vmem, ⟨10, _⟩ => ⟨S16x128, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | .local _ .vmem, ⟨16, _⟩ => ⟨S1x128x768, .f32⟩
  | .local _ .vmem, ⟨17, _⟩ => ⟨S1x128x768, .f32⟩
  | .local _ .vmem, ⟨18, _⟩ => ⟨S1x128x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamRefIdeal.lean ====
abbrev S1x2048x768 : Shape := ⟨3, ![1, 2048, 768]⟩
abbrev S4x2048x768 : Shape := ⟨3, ![4, 2048, 768]⟩
abbrev S16x128 : Shape := ⟨2, ![16, 128]⟩
abbrev S_ : Shape := ⟨0, ![]⟩
abbrev S2048x768 : Shape := ⟨2, ![2048, 768]⟩

abbrev nBuf : Space → Nat
  | .hbm => 48
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S4x2048x768, .bf16⟩
  | .hbm, ⟨5, _⟩ => ⟨S16x128, .f32⟩
  | .hbm, ⟨6, _⟩ => ⟨S4x2048x768, .f32⟩
  | .hbm, ⟨7, _⟩ => ⟨S_, .f32⟩
  | .hbm, ⟨8, _⟩ => ⟨S2048x768, .f32⟩
  | .hbm, ⟨9, _⟩ => ⟨S4x2048x768, .f32⟩
  | .hbm, ⟨10, _⟩ => ⟨S_, .f32⟩
  | .hbm, ⟨11, _⟩ => ⟨S2048x768, .f32⟩
  | .hbm, ⟨12, _⟩ => ⟨S2048x768, .f32⟩
  | .hbm, ⟨13, _⟩ => ⟨S1x2048x768, .f32⟩
  | .hbm, ⟨14, _⟩ => ⟨S1x2048x768, .f32⟩
  | .hbm, ⟨15, _⟩ => ⟨S_, .f32⟩
  | .hbm, ⟨16, _⟩ => ⟨S1x2048x768, .f32⟩
  | .hbm, ⟨17, _⟩ => ⟨S1x2048x768, .f32⟩
  | .hbm, ⟨18, _⟩ => ⟨S_, .f32⟩
  | .hbm, ⟨19, _⟩ => ⟨S1x2048x768, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S_, .f32⟩
  | .hbm, ⟨34, _⟩ => ⟨S1x2048x768, .f32⟩
  | .hbm, ⟨35, _⟩ => ⟨S1x2048x768, .f32⟩
  | .hbm, ⟨36, _⟩ => ⟨S1x2048x768, .f32⟩
  | .hbm, ⟨37, _⟩ => ⟨S_, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S_, .f32⟩
  | .hbm, ⟨42, _⟩ => ⟨S1x2048x768, .f32⟩
  | .hbm, ⟨43, _⟩ => ⟨S1x2048x768, .f32⟩
  | .hbm, ⟨44, _⟩ => ⟨S1x2048x768, .f32⟩
  | .hbm, ⟨45, _⟩ => ⟨S_, .f32⟩
  | .hbm, ⟨46, _⟩ => ⟨S1x2048x768, .f32⟩
  | .hbm, ⟨47, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== NaFwd.lean ====
abbrev S2048x6144 : Shape := ⟨2, ![2048, 6144]⟩
abbrev S16x3x256x768 : Shape := ⟨4, ![16, 3, 256, 768]⟩
abbrev S2048x2048 : Shape := ⟨2, ![2048, 2048]⟩
abbrev S256x512 : Shape := ⟨2, ![256, 512]⟩
abbrev S2048x512 : Shape := ⟨2, ![2048, 512]⟩
abbrev S4x1x256x768 : Shape := ⟨4, ![4, 1, 256, 768]⟩
abbrev S256x128 : Shape := ⟨2, ![256, 128]⟩
abbrev S768x128 : Shape := ⟨2, ![768, 128]⟩
abbrev S1x1x256x768 : Shape := ⟨4, ![1, 1, 256, 768]⟩
abbrev S256x768 : Shape := ⟨2, ![256, 768]⟩
abbrev S256 : Shape := ⟨1, ![256]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S16x3x256x768, .f32⟩
  | .hbm, ⟨2, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S4x1x256x768, .f32⟩
  | .local _ .vmem, ⟨7, _⟩ => ⟨S4x1x256x768, .f32⟩
  | .local _ .vmem, ⟨8, _⟩ => ⟨S256x512, .bf16⟩
  | .local _ .vmem, ⟨9, _⟩ => ⟨S256x512, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c24_i32 : BitVec 32 := 24#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c24_i32 v2
  let c20_i32 : BitVec 32 := 20#32
  let v4 : BitVec 32 := Scalar.minsi v3 c20_i32
  let c64_i32 : BitVec 32 := 64#32
  let v5 : BitVec 32 := Scalar.muli v4 c64_i32
  v5
def k0_off1 (i : grid0.Coords) : Fin 2 → Nat :=
  let c24_i32 : BitVec 32 := 24#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c24_i32 v2
  let c20_i32 : BitVec 32 := 20#32
  let v4 : BitVec 32 := Scalar.minsi v3 c20_i32
  let c64_i32 : BitVec 32 := 64#32
  let v5 : BitVec 32 := Scalar.muli v4 c64_i32
  let v6 : BitVec 32 := v5
  let v8 : Index := Scalar.indexCast v6
  let c0_2 : Index := 0#32
  ![v8.toNat, 0]
def k0_off2 (i : grid0.Coords) : Fin 2 → Nat :=
  let c24_i32 : BitVec 32 := 24#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c24_i32 v2
  let c20_i32 : BitVec 32 := 20#32
  let v4 : BitVec 32 := Scalar.minsi v3 c20_i32
  let c64_i32 : BitVec 32 := 64#32
  let v5 : BitVec 32 := Scalar.muli v4 c64_i32
  let v6 : BitVec 32 := v5
  let v32 : Index := Scalar.indexCast v6
  let c128_15 : Index := 128#32
  ![v32.toNat, 128]
def k0_off3 (i : grid0.Coords) : Fin 2 → Nat :=
  let c24_i32 : BitVec 32 := 24#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c24_i32 v2
  let c20_i32 : BitVec 32 := 20#32
  let v4 : BitVec 32 := Scalar.minsi v3 c20_i32
  let c64_i32 : BitVec 32 := 64#32
  let v5 : BitVec 32 := Scalar.muli v4 c64_i32
  let v6 : BitVec 32 := v5
  let v56 : Index := Scalar.indexCast v6
  let c256_28 : Index := 256#32
  ![v56.toNat, 256]
def k0_off4 (i : grid0.Coords) : Fin 2 → Nat :=
  let c24_i32 : BitVec 32 := 24#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c24_i32 v2
  let c20_i32 : BitVec 32 := 20#32
  let v4 : BitVec 32 := Scalar.minsi v3 c20_i32
  let c64_i32 : BitVec 32 := 64#32
  let v5 : BitVec 32 := Scalar.muli v4 c64_i32
  let v6 : BitVec 32 := v5
  let v80 : Index := Scalar.indexCast v6
  let c384_41 : Index := 384#32
  ![v80.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c7_i32 : BitVec 32 := 7#32
  let v1 : BitVec 1 := Scalar.cmpi .eq arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaFwdRefIdeal.lean ====
abbrev S2048x6144 : Shape := ⟨2, ![2048, 6144]⟩
abbrev S16x3x256x768 : Shape := ⟨4, ![16, 3, 256, 768]⟩
abbrev S2048x2048 : Shape := ⟨2, ![2048, 2048]⟩
abbrev S2048x16x128 : Shape := ⟨3, ![2048, 16, 128]⟩
abbrev S8x256x16x128 : Shape := ⟨4, ![8, 256, 16, 128]⟩
abbrev S16x1x256x768 : Shape := ⟨4, ![16, 1, 256, 768]⟩
abbrev S16x256x768 : Shape := ⟨3, ![16, 256, 768]⟩
abbrev S1x16x256x768 : Shape := ⟨4, ![1, 16, 256, 768]⟩
abbrev S8x16x256x768 : Shape := ⟨4, ![8, 16, 256, 768]⟩
abbrev S768x16x128 : Shape := ⟨3, ![768, 16, 128]⟩
abbrev S1x768x16x128 : Shape := ⟨4, ![1, 768, 16, 128]⟩
abbrev S8x768x16x128 : Shape := ⟨4, ![8, 768, 16, 128]⟩
abbrev S_ : Shape := ⟨0, ![]⟩
abbrev S8x16x256 : Shape := ⟨3, ![8, 16, 256]⟩
abbrev S8x16x256x1 : Shape := ⟨4, ![8, 16, 256, 1]⟩
abbrev S8x16x128x256 : Shape := ⟨4, ![8, 16, 128, 256]⟩

abbrev nBuf : Space → Nat
  | .hbm => 83
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S16x3x256x768, .f32⟩
  | .hbm, ⟨2, _⟩ => ⟨S2048x6144, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x16x128, .f32⟩
  | .hbm, ⟨7, _⟩ => ⟨S2048x16x128, .f32⟩
  | .hbm, ⟨8, _⟩ => ⟨S2048x16x128, .f32⟩
  | .hbm, ⟨9, _⟩ => ⟨S8x256x16x128, .f32⟩
  | .hbm, ⟨10, _⟩ => ⟨S16x1x256x768, .f32⟩
  | .hbm, ⟨11, _⟩ => ⟨S16x256x768, .f32⟩
  | .hbm, ⟨12, _⟩ => ⟨S16x1x256x768, .f32⟩
  | .hbm, ⟨13, _⟩ => ⟨S16x256x768, .f32⟩
  | .hbm, ⟨14, _⟩ => ⟨S16x1x256x768, .f32⟩
  | .hbm, ⟨15, _⟩ => ⟨S16x256x768, .f32⟩
  | .hbm, ⟨16, _⟩ => ⟨S1x16x256x768, .f32⟩
  | .hbm, ⟨17, _⟩ => ⟨S1x16x256x768, .f32⟩
  | .hbm, ⟨18, _⟩ => ⟨S1x16x256x768, .f32⟩
  | .hbm, ⟨19, _⟩ => ⟨S1x16x256x768, .f32⟩
  | .hbm, ⟨20, _⟩ => ⟨S1x16x256x768, .f32⟩
  | .hbm, ⟨21, _⟩ => ⟨S1x16x256x768, .f32⟩
  | .hbm, ⟨22, _⟩ => ⟨S1x16x256x768, .f32⟩
  | .hbm, ⟨23, _⟩ => ⟨S1x16x256x768, .f32⟩
  | .hbm, ⟨24, _⟩ => ⟨S8x16x256x768, .f32⟩
  | .hbm, ⟨25, _⟩ => ⟨S768x16x128, .f32⟩
  | .hbm, ⟨26, _⟩ => ⟨S768x16x128, .f32⟩
  | .hbm, ⟨27, _⟩ => ⟨S768x16x128, .f32⟩
  | .hbm, ⟨28, _⟩ => ⟨S768x16x128, .f32⟩
  | .hbm, ⟨29, _⟩ => ⟨S768x16x128, .f32⟩
  | .hbm, ⟨30, _⟩ => ⟨S768x16x128, .f32⟩
  | .hbm, ⟨31, _⟩ => ⟨S768x16x128, .f32⟩
  | .hbm, ⟨32, _⟩ => ⟨S768x16x128, .f32⟩
  | .hbm, ⟨33, _⟩ => ⟨S1x768x16x128, .f32⟩
  | .hbm, ⟨34, _⟩ => ⟨S1x768x16x128, .f32⟩
  | .hbm, ⟨35, _⟩ => ⟨S1x768x16x128, .f32⟩
  | .hbm, ⟨36, _⟩ => ⟨S1x768x16x128, .f32⟩
  | .hbm, ⟨37, _⟩ => ⟨S1x768x16x128, .f32⟩
  | .hbm, ⟨38, _⟩ => ⟨S1x768x16x128, .f32⟩
  | .hbm, ⟨39, _⟩ => ⟨S1x768x16x128, .f32⟩
  | .hbm, ⟨40, _⟩ => ⟨S1x768x16x128, .f32⟩
  | .hbm, ⟨41, _⟩ => ⟨S8x768x16x128, .f32⟩
  | .hbm, ⟨42, _⟩ => ⟨S8x16x256x768, .f32⟩
  | .hbm, ⟨43, _⟩ => ⟨S_, .f32⟩
  | .hbm, ⟨44, _⟩ => ⟨S8x16x256x768, .f32⟩
  | .hbm, ⟨45, _⟩ => ⟨S8x16x256x768, .f32⟩
  | .hbm, ⟨46, _⟩ => ⟨S8x16x256x768, .f32⟩
  | .hbm, ⟨47, _⟩ => ⟨S_, .f32⟩
  | .hbm, ⟨48, _⟩ => ⟨S8x16x256, .f32⟩
  | .hbm, ⟨49, _⟩ => ⟨S_, .f32⟩
  | .hbm, ⟨50, _⟩ => ⟨S8x16x256, .f32⟩
  | .hbm, ⟨51, _⟩ => ⟨S8x16x256, .f32⟩
  | .hbm, ⟨52, _⟩ => ⟨S8x16x256x1, .f32⟩
  | .hbm, ⟨53, _⟩ => ⟨S8x16x256x768, .f32⟩
  | .hbm, ⟨54, _⟩ => ⟨S8x16x256x768, .f32⟩
  | .hbm, ⟨55, _⟩ => ⟨S8x16x256x768, .f32⟩
  | .hbm, ⟨56, _⟩ => ⟨S_, .f32⟩
  | .hbm, ⟨57, _⟩ => ⟨S8x16x256, .f32⟩
  | .hbm, ⟨58, _⟩ => ⟨S8x16x256x1, .f32⟩
  | .hbm, ⟨59, _⟩ => ⟨S8x16x256x768, .f32⟩
  | .hbm, ⟨60, _⟩ => ⟨S8x16x256x768, .f32⟩
  | .hbm, ⟨61, _⟩ => ⟨S768x16x128, .f32⟩
  | .hbm, ⟨62, _⟩ => ⟨S768x16x128, .f32⟩
  | .hbm, ⟨63, _⟩ => ⟨S768x16x128, .f32⟩
  | .hbm, ⟨64, _⟩ => ⟨S768x16x128, .f32⟩
  | .hbm, ⟨65, _⟩ => ⟨S768x16x128, .f32⟩
  | .hbm, ⟨66, _⟩ => ⟨S768x16x128, .f32⟩
  | .hbm, ⟨67, _⟩ => ⟨S768x16x128, .f32⟩
  | .hbm, ⟨68, _⟩ => ⟨S768x16x128, .f32⟩
  | .hbm, ⟨69, _⟩ => ⟨S1x768x16x128, .f32⟩
  | .hbm, ⟨70, _⟩ => ⟨S1x768x16x128, .f32⟩
  | .hbm, ⟨71, _⟩ => ⟨S1x768x16x128, .f32⟩
  | .hbm, ⟨72, _⟩ => ⟨S1x768x16x128, .f32⟩
  | .hbm, ⟨73, _⟩ => ⟨S1x768x16x128, .f32⟩
  | .hbm, ⟨74, _⟩ => ⟨S1x768x16x128, .f32⟩
  | .hbm, ⟨75, _⟩ => ⟨S1x768x16x128, .f32⟩
  | .hbm, ⟨76, _⟩ => ⟨S1x768x16x128, .f32⟩
  | .hbm, ⟨77, _⟩ => ⟨S8x768x16x128, .f32⟩
  | .hbm, ⟨78, _⟩ => ⟨S8x16x128x256, .f32⟩
  | .hbm, ⟨79, _⟩ => ⟨S8x256x16x128, .f32⟩
  | .hbm, ⟨80, _⟩ => ⟨S2048x16x128, .f32⟩
  | .hbm, ⟨81, _⟩ => ⟨S2048x2048, .f32⟩
  | .hbm, ⟨82, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_cst : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_0 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩

abbrev nD : Nat := 1
abbrev τ : Topo := Topo.v7x

variable {F : FTy → Type} [FloatOps F]
-- ==== Prep.lean ====
abbrev S2048x3072 : Shape := ⟨2, ![2048, 3072]⟩
abbrev S1x128 : Shape := ⟨2, ![1, 128]⟩
abbrev S2048x128 : Shape := ⟨2, ![2048, 128]⟩
abbrev S2048x2560 : Shape := ⟨2, ![2048, 2560]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x3072, .bf16⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S2048x2560, .bf16⟩
  | .local _ .vmem, ⟨0, _⟩ => ⟨S2048x128, .bf16⟩
  | .local _ .vmem, ⟨1, _⟩ => ⟨S2048x128, .bf16⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepRefIdeal.lean ====
abbrev S2048x3072 : Shape := ⟨2, ![2048, 3072]⟩
abbrev S1x128 : Shape := ⟨2, ![1, 128]⟩
abbrev S2048x128 : Shape := ⟨2, ![2048, 128]⟩
abbrev S2048x2048 : Shape := ⟨2, ![2048, 2048]⟩
abbrev S2048x16x128 : Shape := ⟨3, ![2048, 16, 128]⟩
abbrev S2048x512 : Shape := ⟨2, ![2048, 512]⟩
abbrev S2048x4x128 : Shape := ⟨3, ![2048, 4, 128]⟩
abbrev S128 : Shape := ⟨1, ![128]⟩
abbrev S_ : Shape := ⟨0, ![]⟩
abbrev S2048x16 : Shape := ⟨2, ![2048, 16]⟩
abbrev S2048x16x1 : Shape := ⟨3, ![2048, 16, 1]⟩
abbrev S1x1x128 : Shape := ⟨3, ![1, 1, 128]⟩
abbrev S2048x1x128 : Shape := ⟨3, ![2048, 1, 128]⟩
abbrev S2048x16x2x2x32 : Shape := ⟨5, ![2048, 16, 2, 2, 32]⟩
abbrev S2048x16x2x1x32 : Shape := ⟨5, ![2048, 16, 2, 1, 32]⟩
abbrev S2048x16x2x32 : Shape := ⟨4, ![2048, 16, 2, 32]⟩
abbrev S2048x4 : Shape := ⟨2, ![2048, 4]⟩
abbrev S2048x4x1 : Shape := ⟨3, ![2048, 4, 1]⟩
abbrev S2048x4x2x2x32 : Shape := ⟨5, ![2048, 4, 2, 2, 32]⟩
abbrev S2048x4x2x1x32 : Shape := ⟨5, ![2048, 4, 2, 1, 32]⟩
abbrev S2048x4x2x32 : Shape := ⟨4, ![2048, 4, 2, 32]⟩
abbrev S2048x20x128 : Shape := ⟨3, ![2048, 20, 128]⟩
abbrev S2048x2560 : Shape := ⟨2, ![2048, 2560]⟩

abbrev nBuf : Space → Nat
  | .hbm => 85
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S2048x2048, .bf16⟩
  | .hbm, ⟨6, _⟩ => ⟨S2048x2048, .f32⟩
  | .hbm, ⟨7, _⟩ => ⟨S2048x16x128, .f32⟩
  | .hbm, ⟨8, _⟩ => ⟨S2048x512, .bf16⟩
  | .hbm, ⟨9, _⟩ => ⟨S2048x512, .f32⟩
  | .hbm, ⟨10, _⟩ => ⟨S2048x4x128, .f32⟩
  | .hbm, ⟨11, _⟩ => ⟨S128, .f32⟩
  | .hbm, ⟨12, _⟩ => ⟨S2048x16x128, .f32⟩
  | .hbm, ⟨13, _⟩ => ⟨S_, .f32⟩
  | .hbm, ⟨14, _⟩ => ⟨S2048x16, .f32⟩
  | .hbm, ⟨15, _⟩ => ⟨S2048x16x1, .f32⟩
  | .hbm, ⟨16, _⟩ => ⟨S_, .f32⟩
  | .hbm, ⟨17, _⟩ => ⟨S2048x16x1, .f32⟩
  | .hbm, ⟨18, _⟩ => ⟨S2048x16x1, .f32⟩
  | .hbm, ⟨19, _⟩ => ⟨S_, .f32⟩
  | .hbm, ⟨20, _⟩ => ⟨S2048x16x1, .f32⟩
  | .hbm, ⟨21, _⟩ => ⟨S2048x16x1, .f32⟩
  | .hbm, ⟨22, _⟩ => ⟨S2048x16x1, .f32⟩
  | .hbm, ⟨23, _⟩ => ⟨S2048x16x128, .f32⟩
  | .hbm, ⟨24, _⟩ => ⟨S2048x16x128, .f32⟩
  | .hbm, ⟨25, _⟩ => ⟨S1x1x128, .f32⟩
  | .hbm, ⟨26, _⟩ => ⟨S2048x16x128, .f32⟩
  | .hbm, ⟨27, _⟩ => ⟨S2048x16x128, .f32⟩
  | .hbm, ⟨28, _⟩ => ⟨S2048x1x128, .f32⟩
  | .hbm, ⟨29, _⟩ => ⟨S2048x16x128, .f32⟩
  | .hbm, ⟨30, _⟩ => ⟨S2048x16x128, .f32⟩
  | .hbm, ⟨31, _⟩ => ⟨S2048x16x2x2x32, .f32⟩
  | .hbm, ⟨32, _⟩ => ⟨S2048x16x2x1x32, .f32⟩
  | .hbm, ⟨33, _⟩ => ⟨S2048x16x2x32, .f32⟩
  | .hbm, ⟨34, _⟩ => ⟨S2048x16x2x1x32, .f32⟩
  | .hbm, ⟨35, _⟩ => ⟨S2048x16x2x32, .f32⟩
  | .hbm, ⟨36, _⟩ => ⟨S2048x16x2x32, .f32⟩
  | .hbm, ⟨37, _⟩ => ⟨S2048x16x2x1x32, .f32⟩
  | .hbm, ⟨38, _⟩ => ⟨S2048x16x2x1x32, .f32⟩
  | .hbm, ⟨39, _⟩ => ⟨S2048x16x2x2x32, .f32⟩
  | .hbm, ⟨40, _⟩ => ⟨S2048x16x128, .f32⟩
  | .hbm, ⟨41, _⟩ => ⟨S2048x1x128, .f32⟩
  | .hbm, ⟨42, _⟩ => ⟨S2048x16x128, .f32⟩
  | .hbm, ⟨43, _⟩ => ⟨S2048x16x128, .f32⟩
  | .hbm, ⟨44, _⟩ => ⟨S2048x16x128, .f32⟩
  | .hbm, ⟨45, _⟩ => ⟨S_, .f32⟩
  | .hbm, ⟨46, _⟩ => ⟨S2048x16x128, .f32⟩
  | .hbm, ⟨47, _⟩ => ⟨S2048x16x128, .f32⟩
  | .hbm, ⟨48, _⟩ => ⟨S128, .f32⟩
  | .hbm, ⟨49, _⟩ => ⟨S2048x4x128, .f32⟩
  | .hbm, ⟨50, _⟩ => ⟨S_, .f32⟩
  | .hbm, ⟨51, _⟩ => ⟨S2048x4, .f32⟩
  | .hbm, ⟨52, _⟩ => ⟨S2048x4x1, .f32⟩
  | .hbm, ⟨53, _⟩ => ⟨S_, .f32⟩
  | .hbm, ⟨54, _⟩ => ⟨S2048x4x1, .f32⟩
  | .hbm, ⟨55, _⟩ => ⟨S2048x4x1, .f32⟩
  | .hbm, ⟨56, _⟩ => ⟨S_, .f32⟩
  | .hbm, ⟨57, _⟩ => ⟨S2048x4x1, .f32⟩
  | .hbm, ⟨58, _⟩ => ⟨S2048x4x1, .f32⟩
  | .hbm, ⟨59, _⟩ => ⟨S2048x4x1, .f32⟩
  | .hbm, ⟨60, _⟩ => ⟨S2048x4x128, .f32⟩
  | .hbm, ⟨61, _⟩ => ⟨S2048x4x128, .f32⟩
  | .hbm, ⟨62, _⟩ => ⟨S1x1x128, .f32⟩
  | .hbm, ⟨63, _⟩ => ⟨S2048x4x128, .f32⟩
  | .hbm, ⟨64, _⟩ => ⟨S2048x4x128, .f32⟩
  | .hbm, ⟨65, _⟩ => ⟨S2048x1x128, .f32⟩
  | .hbm, ⟨66, _⟩ => ⟨S2048x4x128, .f32⟩
  | .hbm, ⟨67, _⟩ => ⟨S2048x4x128, .f32⟩
  | .hbm, ⟨68, _⟩ => ⟨S2048x4x2x2x32, .f32⟩
  | .hbm, ⟨69, _⟩ => ⟨S2048x4x2x1x32, .f32⟩
  | .hbm, ⟨70, _⟩ => ⟨S2048x4x2x32, .f32⟩
  | .hbm, ⟨71, _⟩ => ⟨S2048x4x2x1x32, .f32⟩
  | .hbm, ⟨72, _⟩ => ⟨S2048x4x2x32, .f32⟩
  | .hbm, ⟨73, _⟩ => ⟨S2048x4x2x32, .f32⟩
  | .hbm, ⟨74, _⟩ => ⟨S2048x4x2x1x32, .f32⟩
  | .hbm, ⟨75, _⟩ => ⟨S2048x4x2x1x32, .f32⟩
  | .hbm, ⟨76, _⟩ => ⟨S2048x4x2x2x32, .f32⟩
  | .hbm, ⟨77, _⟩ => ⟨S2048x4x128, .f32⟩
  | .hbm, ⟨78, _⟩ => ⟨S2048x1x128, .f32⟩
  | .hbm, ⟨79, _⟩ => ⟨S2048x4x128, .f32⟩
  | .hbm, ⟨80, _⟩ => ⟨S2048x4x128, .f32⟩
  | .hbm, ⟨81, _⟩ => ⟨S2048x4x128, .f32⟩
  | .hbm, ⟨82, _⟩ => ⟨S2048x20x128, .f32⟩
  | .hbm, ⟨83, _⟩ => ⟨S2048x2560, .f32⟩
  | .hbm, ⟨84, _⟩ => ⟨S2048x2560, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== AdamOut.lean ====
abbrev S1x512x2048 : Shape := ⟨3, ![1, 512, 2048]⟩
abbrev S4x512x2048 : Shape := ⟨3, ![4, 512, 2048]⟩
abbrev S16x128 : Shape := ⟨2, ![16, 128]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 10
  | .vmem => 19
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S4x512x2048, .bf16⟩
  | .hbm, ⟨5, _⟩ => ⟨S16x128, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .hbm, ⟨9, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S16x128, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamOutRefIdeal.lean ====
abbrev S1x512x2048 : Shape := ⟨3, ![1, 512, 2048]⟩
abbrev S4x512x2048 : Shape := ⟨3, ![4, 512, 2048]⟩
abbrev S16x128 : Shape := ⟨2, ![16, 128]⟩
abbrev S_ : Shape := ⟨0, ![]⟩
abbrev S512x2048 : Shape := ⟨2, ![512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S4x512x2048, .bf16⟩
  | .hbm, ⟨5, _⟩ => ⟨S16x128, .f32⟩
  | .hbm, ⟨6, _⟩ => ⟨S4x512x2048, .f32⟩
  | .hbm, ⟨7, _⟩ => ⟨S_, .f32⟩
  | .hbm, ⟨8, _⟩ => ⟨S512x2048, .f32⟩
  | .hbm, ⟨9, _⟩ => ⟨S4x512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S_, .f32⟩
  | .hbm, ⟨19, _⟩ => ⟨S1x512x2048, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S_, .f32⟩
  | .hbm, ⟨34, _⟩ => ⟨S1x512x2048, .f32⟩
  | .hbm, ⟨35, _⟩ => ⟨S1x512x2048, .f32⟩
  | .hbm, ⟨36, _⟩ => ⟨S1x512x2048, .f32⟩
  | .hbm, ⟨37, _⟩ => ⟨S_, .f32⟩
  | .hbm, ⟨38, _⟩ => ⟨S1x512x2048, .f32⟩
  | .hbm, ⟨39, _⟩ => ⟨S1x512x2048, .f32⟩
  | .hbm, ⟨40, _⟩ => ⟨S1x512x2048, .f32⟩
  | .hbm, ⟨41, _⟩ => ⟨S_, .f32⟩
  | .hbm, ⟨42, _⟩ => ⟨S1x512x2048, .f32⟩
  | .hbm, ⟨43, _⟩ => ⟨S1x512x2048, .f32⟩
  | .hbm, ⟨44, _⟩ => ⟨S1x512x2048, .f32⟩
  | .hbm, ⟨45, _⟩ => ⟨S_, .f32⟩
  | .hbm, ⟨46, _⟩ => ⟨S1x512x2048, .f32⟩
  | .hbm, ⟨47, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.GqaCases.lean ====
/-
  What one grid point of the grouped-query attention backward kernel leaves behind, at any float instance: in the window
  of dq, in the two accumulators of dk and dv, and (at the last point of a key head) in the windows of dk and dv.
-/
module

public import proofs.«01_k».proof.Proof.Gen.GqaBwdIdeal.Value
public import Idealize.ShloMosaic.Lib.Pipeline.Value
public import Idealize.ShloMosaic.Lib.Tactic

@[expose] public section

set_option maxRecDepth 16384

noncomputable section

namespace Cert.GqaBwdIdeal.Cases

open Idealize.ShloMosaic Idealize.ShloMosaic.TcCoe Idealize.SL.Sem
open Cert.GqaBwdIdeal Cert.GqaBwdIdeal.Gen

variable {F : FTy → Type} [FloatOps F]

/-- The offsets of a load or store of a whole window. -/
theorem hz : (![0, 0] : Fin 2 → Nat) = fun _ => 0 := funext fun a => by fin_cases a <;> rfl

variable (c : Dev nD) (i : grid0.Coords)
  (arg3 : Memref sig .tc .vmem S512x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .f32) (harg10 : arg10.IsWhole)
  (arg11 : Memref sig .tc .vmem S2048x128 .f32) (harg11 : arg11.IsWhole)
  (x0 : Vec F S512x128 .bf16) (x1 : Vec F S2048x128 .bf16) (x2 : Vec F S2048x128 .bf16) (x3 : Vec F S512x128 .bf16)
  (xs0 : Vec F S2048x128 .f32) (xs1 : Vec F S2048x128 .f32)

/-- The block of dq at the first point of a key head, where the accumulators start at zero. -/
theorem out0_A_4_eq (hc0 : cond0_0 i) (hc1 : ¬cond0_1 i) :
    out0_A_4 c i arg3 harg3 arg4 harg4 arg5 harg5 arg6 harg6 arg7 harg7 arg8 harg8 arg9 harg9 arg10 harg10 arg11 harg11 hc0 hc1 x0 x1 x2 x3 = k0_pay9 x0 x1 x2 x3 := by
  unfold out0_A_4
  rw [View.read_writes_eq_canon _ _ _ (cover0_A_4 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The accumulator of dk after the first point of a key head, where the accumulators start at zero. -/
theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 = k0_pay1 (k0_pay10 x0 x1 x2 x3 k0_pay5) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The accumulator of dv after the first point of a key head, where the accumulators start at zero. -/
theorem sout0_A_1_eq (hc0 : cond0_0 i) (hc1 : ¬cond0_1 i) :
    sout0_A_1 c i arg3 harg3 arg4 harg4 arg5 harg5 arg6 harg6 arg7 harg7 arg8 harg8 arg9 harg9 arg10 harg10 arg11 harg11 hc0 hc1 x0 x1 x2 x3 = k0_pay2 x3 (k0_pay7 x0 x1) k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The block of dq at an inner point of a key head. -/
theorem out0_B_4_eq (hc0 : ¬cond0_0 i) (hc1 : ¬cond0_1 i) :
    out0_B_4 c i arg3 harg3 arg4 harg4 arg5 harg5 arg6 harg6 arg7 harg7 arg8 harg8 arg9 harg9 arg10 harg10 arg11 harg11 hc0 hc1 x0 x1 x2 x3 xs0 xs1 = k0_pay9 x0 x1 x2 x3 := by
  unfold out0_B_4
  rw [View.read_writes_eq_canon _ _ _ (cover0_B_4 c i arg3 harg3 arg4 harg4 arg5 harg5 arg6 harg6 arg7 harg7 arg8 harg8 arg9 harg9 arg10 harg10 arg11 harg11 hc0 hc1 x0 x1 x2 x3 xs0 xs1)]
  unfold kernelRun0_B
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The accumulator of dk after an inner point of a key head. -/
theorem sout0_B_0_eq (hc0 : ¬cond0_0 i) (hc1 : ¬cond0_1 i) :
    sout0_B_0 c i arg3 harg3 arg4 harg4 arg5 harg5 arg6 harg6 arg7 harg7 arg8 harg8 arg9 harg9 arg10 harg10 arg11 harg11 hc0 hc1 x0 x1 x2 x3 xs0 xs1 = k0_pay1 (k0_pay10 x0 x1 x2 x3 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 xs0 xs1)]
  unfold kernelRun0_B
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The accumulator of dv after an inner point of a key head. -/
theorem sout0_B_1_eq (hc0 : ¬cond0_0 i) (hc1 : ¬cond0_1 i) :
    sout0_B_1 c i arg3 harg3 arg4 harg4 arg5 harg5 arg6 harg6 arg7 harg7 arg8 harg8 arg9 harg9 arg10 harg10 arg11 harg11 hc0 hc1 x0 x1 x2 x3 xs0 xs1 = k0_pay2 x3 (k0_pay7 x0 x1) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 xs0 xs1)]
  unfold kernelRun0_B
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The block of dq at the last point of a key head. -/
theorem out0_C_4_eq (hc0 : ¬cond0_0 i) (hc1 : cond0_1 i) :
    out0_C_4 c i arg3 harg3 arg4 harg4 arg5 harg5 arg6 harg6 arg7 harg7 arg8 harg8 arg9 harg9 arg10 harg10 arg11 harg11 hc0 hc1 x0 x1 x2 x3 xs0 xs1 = k0_pay9 x0 x1 x2 x3 := by
  unfold out0_C_4
  rw [View.read_writes_eq_canon _ _ _ (cover0_C_4 c i arg3 harg3 arg4 harg4 arg5 harg5 arg6 harg6 arg7 harg7 arg8 harg8 arg9 harg9 arg10 harg10 arg11 harg11 hc0 hc1 x0 x1 x2 x3 xs0 xs1)]
  unfold kernelRun0_C
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The accumulator of dk after the last point of a key head. -/
theorem sout0_C_0_eq (hc0 : ¬cond0_0 i) (hc1 : cond0_1 i) :
    sout0_C_0 c i arg3 harg3 arg4 harg4 arg5 harg5 arg6 harg6 arg7 harg7 arg8 harg8 arg9 harg9 arg10 harg10 arg11 harg11 hc0 hc1 x0 x1 x2 x3 xs0 xs1 = k0_pay1 (k0_pay10 x0 x1 x2 x3 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 xs0 xs1)]
  unfold kernelRun0_C
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The accumulator of dv after the last point of a key head. -/
theorem sout0_C_1_eq (hc0 : ¬cond0_0 i) (hc1 : cond0_1 i) :
    sout0_C_1 c i arg3 harg3 arg4 harg4 arg5 harg5 arg6 harg6 arg7 harg7 arg8 harg8 arg9 harg9 arg10 harg10 arg11 harg11 hc0 hc1 x0 x1 x2 x3 xs0 xs1 = k0_pay2 x3 (k0_pay7 x0 x1) xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 xs0 xs1)]
  unfold kernelRun0_C
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The block of dk, written at the last point of a key head. -/
theorem out0_C_5_eq (hc0 : ¬cond0_0 i) (hc1 : cond0_1 i) :
    out0_C_5 c i arg3 harg3 arg4 harg4 arg5 harg5 arg6 harg6 arg7 harg7 arg8 harg8 arg9 harg9 arg10 harg10 arg11 harg11 hc0 hc1 x0 x1 x2 x3 xs0 xs1 = k0_pay3 (k0_pay1 (k0_pay10 x0 x1 x2 x3 xs0)) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 x0 x1 x2 x3 xs0 xs1)]
  unfold kernelRun0_C
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

/-- The block of dv, written at the last point of a key head. -/
theorem out0_C_6_eq (hc0 : ¬cond0_0 i) (hc1 : cond0_1 i) :
    out0_C_6 c i arg3 harg3 arg4 harg4 arg5 harg5 arg6 harg6 arg7 harg7 arg8 harg8 arg9 harg9 arg10 harg10 arg11 harg11 hc0 hc1 x0 x1 x2 x3 xs0 xs1 = k0_pay4 (k0_pay2 x3 (k0_pay7 x0 x1) xs1) := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 xs0 xs1)]
  unfold kernelRun0_C
  dsimp only
  sl_unfold_words
  simp only [View.canon_unit_zero (S := S512x128) hz, View.canon_unit_zero (S := S2048x128) hz, View.canon_cons_unit_zero (S := S2048x128) hz,
    View.readCov_unit_zero (S := S2048x128) _ hz, View.readAt_eq_ld, harg3.read_unread, harg4.read_unread, harg5.read_unread, harg6.read_unread, harg7.read_unread, harg8.read_unread, harg9.read_unread, harg10.read_unread, harg11.read_unread,
    View.ld_unit_zero (S := S512x128) hz, View.ld_unit_zero (S := S2048x128) hz]

end Cert.GqaBwdIdeal.Cases

end
-- ==== Proof.Rows.lean ====
/-
  The rows of an attention backward pass over the extended reals: a row of scores and a row of products of the output's
  gradient with the values, both indexed by the keys. `soft` is the row's softmax, `dscore` the gradient of the scores as
  the backward kernels compute it, `dscoreVjp` the gradient as reverse differentiation of a softmax writes it, and
  `dscoreVjp_eq` says that the two agree wherever the scores are finite; the other row may hold infinities.
-/
module

public import Idealize.ShloMosaic.PureOps.Ideal.Laws

@[expose] public section

set_option maxRecDepth 16384

noncomputable section

namespace Cert.Rows

open Idealize.ShloMosaic

variable {n : ℕ}

/-- The largest entry of a row. -/
def top (sc : Fin n → EReal) : EReal := Finset.univ.fold max ⊥ sc

/-- The weight of an entry before normalisation: the exponential of its distance to the largest. -/
def wgt (sc : Fin n → EReal) (s : Fin n) : EReal := Ideal.exp (sc s - top sc)

/-- The sum of a row's weights. -/
def mass (sc : Fin n → EReal) : EReal := ∑ s, wgt sc s

/-- The softmax of a row. -/
def soft (sc : Fin n → EReal) (s : Fin n) : EReal := Ideal.div (wgt sc s) (mass sc)

/-- The gradient of a row's scores: `p · (dp − Σ p · dp)`. -/
def dscore (sc dp : Fin n → EReal) (s : Fin n) : EReal := soft sc s * (dp s - ∑ u, soft sc u * dp u)

/-- The gradient of a row's scores as reverse differentiation writes it: the quotient's two partial derivatives, then the
    exponential's. -/
def dscoreVjp (sc dp : Fin n → EReal) (s : Fin n) : EReal :=
  (Ideal.div (dp s) (mass sc) + -∑ u, dp u * Ideal.div 1 (mass sc * mass sc) * wgt sc u) * wgt sc s

/-- A nonnegative real factor goes into a sum of extended reals. -/
theorem coe_mul_sum {ι : Type} (A : Finset ι) (a : ℝ) (ha : 0 ≤ a) (f : ι → EReal) :
    (a : EReal) * ∑ i ∈ A, f i = ∑ i ∈ A, (a : EReal) * f i := by
  classical
  induction A using Finset.induction_on with
  | empty => simp
  | insert i A hi ih =>
    rw [Finset.sum_insert hi, Finset.sum_insert hi, ← ih]
    exact EReal.left_distrib_of_nonneg_of_ne_top (EReal.coe_nonneg.mpr ha) (EReal.coe_ne_top a) _ _

/-- A sum of reals among the extended reals is the real sum. -/
theorem coe_sum {ι : Type} (A : Finset ι) (f : ι → ℝ) : ∑ i ∈ A, ((f i : ℝ) : EReal) = ((∑ i ∈ A, f i : ℝ) : EReal) := by
  classical
  induction A using Finset.induction_on with
  | empty => simp
  | insert i A hi ih => rw [Finset.sum_insert hi, Finset.sum_insert hi, ih, EReal.coe_add]

/-- The largest entry of a nonempty row of reals is a real. -/
theorem top_real (h : 0 < n) (r : Fin n → ℝ) : ∃ M : ℝ, top (fun s => (r s : EReal)) = M := by
  classical
  have key : ∀ A : Finset (Fin n), A.Nonempty → ∃ M : ℝ, A.fold max ⊥ (fun s => (r s : EReal)) = M := by
    intro A hA
    induction hA using Finset.Nonempty.cons_induction with
    | singleton a => exact ⟨r a, by simp⟩
    | cons a A ha _ ih =>
      obtain ⟨M, hM⟩ := ih
      refine ⟨max (r a) M, ?_⟩
      rw [Finset.fold_cons, hM]
      exact (EReal.coe_strictMono.monotone.map_max).symm
  exact key _ ⟨⟨0, h⟩, Finset.mem_univ _⟩

/-- The weights of a nonempty row of reals are positive reals, and so is their sum. -/
theorem wgt_real (h : 0 < n) (sc : Fin n → EReal) (hs : ∀ s, ∃ r : ℝ, sc s = r) :
    ∃ e : Fin n → ℝ, (∀ s, 0 < e s) ∧ (∀ s, wgt sc s = e s) ∧ 0 < ∑ s, e s ∧ mass sc = ((∑ s, e s : ℝ) : EReal) := by
  choose r hr using hs
  obtain rfl : sc = fun s => (r s : EReal) := funext hr
  obtain ⟨M, hM⟩ := top_real h r
  have hw : ∀ s, wgt (fun s => (r s : EReal)) s = (Real.exp (r s - M) : ℝ) := by
    intro s
    unfold wgt
    rw [hM, ← EReal.coe_sub]
    rfl
  refine ⟨fun s => Real.exp (r s - M), fun s => Real.exp_pos _, hw, ?_, ?_⟩
  · exact Finset.sum_pos (fun s _ => Real.exp_pos _) ⟨⟨0, h⟩, Finset.mem_univ _⟩
  · unfold mass
    rw [Finset.sum_congr rfl fun s _ => hw s, coe_sum]

/-- Where the scores are finite the two forms of the scores' gradient agree, whatever the other row holds. -/
theorem dscoreVjp_eq (h : 0 < n) (sc dp : Fin n → EReal) (hs : ∀ s, ∃ r : ℝ, sc s = r) (s : Fin n) :
    dscoreVjp sc dp s = dscore sc dp s := by
  obtain ⟨e, he, hw, hL, hm⟩ := wgt_real h sc hs
  set L : ℝ := ∑ s, e s with hLdef
  have hL0 : L ≠ 0 := hL.ne'
  have hsoft : ∀ u, soft sc u = ((e u / L : ℝ) : EReal) := by
    intro u
    unfold soft
    rw [hw, hm, Ideal.div_coe hL0, ← EReal.coe_mul]
    congr 1
    field_simp
  unfold dscoreVjp dscore
  rw [hsoft s, hm, ← EReal.coe_mul, Ideal.div_coe hL0, Ideal.div_coe (mul_ne_zero hL0 hL0), hw s]
  rw [show (∑ u, soft sc u * dp u) = ∑ u, ((e u / L : ℝ) : EReal) * dp u from Finset.sum_congr rfl fun u _ => by rw [hsoft u]]
  have hpos : (0 : ℝ) ≤ 1 / L := by positivity
  have h1 : (∑ u, dp u * (1 * ((1 / (L * L) : ℝ) : EReal)) * wgt sc u)
      = ((1 / L : ℝ) : EReal) * ∑ u, ((e u / L : ℝ) : EReal) * dp u := by
    rw [coe_mul_sum _ _ hpos]
    refine Finset.sum_congr rfl fun u _ => ?_
    rw [hw u, one_mul, mul_assoc, ← EReal.coe_mul, ← mul_assoc, ← EReal.coe_mul, mul_comm]
    congr 2
    field_simp
  rw [h1, ← mul_neg, mul_comm (dp s), ← EReal.left_distrib_of_nonneg_of_ne_top (EReal.coe_nonneg.mpr hpos) (EReal.coe_ne_top _),
    mul_comm, ← mul_assoc, ← EReal.coe_mul, ← sub_eq_add_neg]
  congr 2
  field_simp

/-- Where the scores are finite the normalisation may follow the weighted sum. -/
theorem soft_sum (h : 0 < n) (sc v : Fin n → EReal) (hs : ∀ s, ∃ r : ℝ, sc s = r) :
    ∑ s, soft sc s * v s = Ideal.div (∑ s, wgt sc s * v s) (mass sc) := by
  obtain ⟨e, he, hw, hL, hm⟩ := wgt_real h sc hs
  have hpos : (0 : ℝ) ≤ 1 / ∑ s, e s := by positivity
  rw [hm, Ideal.div_coe hL.ne', mul_comm, coe_mul_sum _ _ hpos]
  refine Finset.sum_congr rfl fun s _ => ?_
  unfold soft
  rw [hw, hm, Ideal.div_coe hL.ne', ← mul_assoc, mul_comm ((_ : ℝ) : EReal) (e s : EReal)]

/-- A sum of products of reals is a real. -/
theorem dot_real {ι : Type} [Fintype ι] (a b : ι → EReal) (ha : ∀ i, ∃ r : ℝ, a i = r) (hb : ∀ i, ∃ r : ℝ, b i = r) :
    ∃ r : ℝ, ∑ i, a i * b i = r := by
  choose r hr using ha
  choose q hq using hb
  exact ⟨∑ i, r i * q i, by rw [← coe_sum]; exact Finset.sum_congr rfl fun i _ => by rw [hr, hq, EReal.coe_mul]⟩

end Cert.Rows

end
-- ==== Proof.GqaSpec.lean ====
/-
  The gradients of grouped-query attention over the extended reals, read off the three arrays the backward kernel takes:
  `X` holds the sixteen query heads and then the four key heads side by side, `Y` the values in its last four head columns,
  `Z` the gradient of the output. Four query heads share a key head, so the gradients of the keys and values sum over the
  four query heads of a key head and over the query rows.
-/
module

public import proofs.«01_k».proof.Proof.Rows
public import Idealize.ShloMosaic.Lib.Pointwise

@[expose] public section

set_option maxRecDepth 16384

noncomputable section

namespace Cert.Gqa

open Idealize.ShloMosaic Cert.Rows

/-- An array of extended reals of `a` rows and `b` columns. -/
abbrev Arr (a b : ℕ) : Type := (⟨2, ![a, b]⟩ : Shape).Idx → EReal

/-- The key head of a query head. -/
def kvOf (h : Fin 16) : Fin 4 := ⟨h.val / 4, by have := h.isLt; omega⟩

/-- The query head `g` of a key head. -/
def headOf (kv g : Fin 4) : Fin 16 := ⟨4 * kv.val + g.val, by have := kv.isLt; have := g.isLt; omega⟩

/-- The column of feature `d` of query head `h`. -/
def col (h : Fin 16) (d : Fin 128) : Fin 2048 := ⟨128 * h.val + d.val, by have := h.isLt; have := d.isLt; omega⟩

/-- A query, feature `d`. -/
def qrow (X : Arr 2048 2560) (h : Fin 16) (q : Fin 2048) (d : Fin 128) : EReal :=
  X (ix2 q ⟨128 * h.val + d.val, by have := h.isLt; have := d.isLt; omega⟩)

/-- A key, feature `d`. -/
def krow (X : Arr 2048 2560) (kv : Fin 4) (s : Fin 2048) (d : Fin 128) : EReal :=
  X (ix2 s ⟨2048 + 128 * kv.val + d.val, by have := kv.isLt; have := d.isLt; omega⟩)

/-- A value, feature `d`. -/
def vrow (Y : Arr 2048 3072) (kv : Fin 4) (s : Fin 2048) (d : Fin 128) : EReal :=
  Y (ix2 s ⟨2560 + 128 * kv.val + d.val, by have := kv.isLt; have := d.isLt; omega⟩)

/-- The output's gradient at a query, feature `d`. -/
def drow (Z : Arr 2048 2048) (h : Fin 16) (q : Fin 2048) (d : Fin 128) : EReal := Z (ix2 q (col h d))

/-- The scores of a query. -/
def sc (X : Arr 2048 2560) (h : Fin 16) (q s : Fin 2048) : EReal := ∑ d, qrow X h q d * krow X (kvOf h) s d

/-- The products of a query's output gradient with the values. -/
def dp (Y : Arr 2048 3072) (Z : Arr 2048 2048) (h : Fin 16) (q s : Fin 2048) : EReal := ∑ d, drow Z h q d * vrow Y (kvOf h) s d

/-- The gradient of the scores. -/
def ds (X : Arr 2048 2560) (Y : Arr 2048 3072) (Z : Arr 2048 2048) (h : Fin 16) (q s : Fin 2048) : EReal :=
  dscore (sc X h q) (dp Y Z h q) s

/-- The gradient of the queries. -/
def dq (X : Arr 2048 2560) (Y : Arr 2048 3072) (Z : Arr 2048 2048) (h : Fin 16) (q : Fin 2048) (d : Fin 128) : EReal :=
  ∑ s, ds X Y Z h q s * krow X (kvOf h) s d

/-- The gradient of the keys. -/
def dk (X : Arr 2048 2560) (Y : Arr 2048 3072) (Z : Arr 2048 2048) (kv : Fin 4) (s : Fin 2048) (d : Fin 128) : EReal :=
  ∑ g, ∑ q, ds X Y Z (headOf kv g) q s * qrow X (headOf kv g) q d

/-- The gradient of the values. -/
def dv (X : Arr 2048 2560) (Z : Arr 2048 2048) (kv : Fin 4) (s : Fin 2048) (d : Fin 128) : EReal :=
  ∑ g, ∑ q, soft (sc X (headOf kv g) q) s * drow Z (headOf kv g) q d

/-- The query head of grid point `n`. -/
def headAt (n : ℕ) : Fin 16 := ⟨n / 4 % 16, by omega⟩

/-- The query in row `r` of the tile of grid point `n`. -/
def rowAt (n : ℕ) (r : Fin 512) : Fin 2048 := ⟨512 * (n % 4) + r.val, by have := r.isLt; omega⟩

/-- A sum over `a * b` indices is the sum over `a` runs of `b`. -/
theorem sum_runs {M : Type} [AddCommMonoid M] (a b : ℕ) {N : ℕ} (hN : N = a * b) (f : Fin N → M) :
    ∑ i, f i = ∑ x : Fin a, ∑ y : Fin b, f ⟨b * x.val + y.val, by
      subst hN
      have hx := x.isLt; have hy := y.isLt
      calc b * x.val + y.val < b * x.val + b := by omega
        _ = b * (x.val + 1) := by ring
        _ ≤ b * a := Nat.mul_le_mul_left _ hx
        _ = a * b := Nat.mul_comm _ _⟩ := by
  subst hN
  rw [← Equiv.sum_comp finProdFinEquiv, Fintype.sum_prod_type]
  refine Finset.sum_congr rfl fun x _ => Finset.sum_congr rfl fun y _ => congrArg f (Fin.ext ?_)
  show y.val + b * x.val = b * x.val + y.val
  omega

/-- The sixteen grid points of a key head run over its four query heads and the four tiles of the query rows. -/
theorem sum_points {M : Type} [AddCommMonoid M] (kv : Fin 4) (f : Fin 16 → Fin 2048 → M) :
    ∑ n ∈ Finset.range 16, ∑ r, f (headAt (16 * kv.val + n)) (rowAt (16 * kv.val + n) r)
      = ∑ g, ∑ q, f (headOf kv g) q := by
  rw [Finset.sum_range, sum_runs 4 4 (by norm_num)]
  refine Finset.sum_congr rfl fun g _ => ?_
  rw [sum_runs 4 512 (by norm_num) (f (headOf kv g))]
  refine Finset.sum_congr rfl fun i _ => Finset.sum_congr rfl fun r _ => ?_
  have h1 := kv.isLt; have h2 := g.isLt; have h3 := i.isLt; have h4 := r.isLt
  refine congrArg₂ f (Fin.ext ?_) (Fin.ext ?_)
  · show (16 * kv.val + (4 * g.val + i.val)) / 4 % 16 = 4 * kv.val + g.val
    omega
  · show 512 * ((16 * kv.val + (4 * g.val + i.val)) % 4) + r.val = 512 * i.val + r.val
    omega

end Cert.Gqa

end
-- ==== Proof.GqaKernel.lean ====
/-
  What the grouped-query attention backward kernel leaves in its three results over the extended reals, for all arguments:
  at every index the gradients of queries, keys and values as GqaSpec states them.
-/
module

public import proofs.«01_k».proof.Proof.GqaCases
public import proofs.«01_k».proof.Proof.GqaSpec

@[expose] public section

set_option maxRecDepth 16384

noncomputable section

namespace Cert.GqaBwdIdeal.Kernel

open Idealize.ShloMosaic Idealize.ShloMosaic.TcCoe Idealize.SL.Sem
open Cert.GqaBwdIdeal Cert.GqaBwdIdeal.Gen Cert.GqaBwdIdeal.Cases Cert.GqaBwdIdeal.Value Cert.Rows Cert.Gqa

/-! ## The payloads at an index -/

/-- The pattern of minus infinity denotes the least extended real. -/
theorem ofBits_bot : Ideal.ofBits .f32 4286578688#32 = ⊥ := by simp [Ideal.ofBits, Ideal.ieee]

/-- The block of probabilities. -/
theorem pay7_apply (q : Vec Ideal S512x128 .bf16) (k : Vec Ideal S2048x128 .bf16) (r : Fin 512) (s : Fin 2048) :
    k0_pay7 q k (ix2 r s) = soft (fun u => ∑ d : Fin 128, q (ix2 r d) * k (ix2 u d)) s := by
  unfold k0_pay7 soft mass wgt top
  pointwise [ofBits_bot]

/-- The block of the scores' gradients. -/
theorem pay8_apply (q : Vec Ideal S512x128 .bf16) (k v : Vec Ideal S2048x128 .bf16) (z : Vec Ideal S512x128 .bf16)
    (r : Fin 512) (s : Fin 2048) :
    k0_pay8 q k v z (ix2 r s) = dscore (fun u => ∑ d : Fin 128, q (ix2 r d) * k (ix2 u d))
      (fun u => ∑ d : Fin 128, z (ix2 r d) * v (ix2 u d)) s := by
  unfold k0_pay8 dscore
  pointwise [pay7_apply]

/-- The block of dq. -/
theorem pay9_apply (q : Vec Ideal S512x128 .bf16) (k v : Vec Ideal S2048x128 .bf16) (z : Vec Ideal S512x128 .bf16)
    (r : Fin 512) (d : Fin 128) :
    k0_pay9 q k v z (ix2 r d) = ∑ s : Fin 2048, k0_pay8 q k v z (ix2 r s) * k (ix2 s d) := by
  unfold k0_pay9
  pointwise

/-- One point's step of the accumulator of dk. -/
theorem step_dk (q : Vec Ideal S512x128 .bf16) (k v : Vec Ideal S2048x128 .bf16) (z : Vec Ideal S512x128 .bf16)
    (a : Vec Ideal S2048x128 .f32) (s : Fin 2048) (d : Fin 128) :
    k0_pay1 (k0_pay10 q k v z a) (ix2 s d) = a (ix2 s d) + ∑ r : Fin 512, k0_pay8 q k v z (ix2 r s) * q (ix2 r d) := by
  unfold k0_pay1 k0_pay10
  pointwise

/-- One point's step of the accumulator of dv. -/
theorem step_dv (q : Vec Ideal S512x128 .bf16) (k : Vec Ideal S2048x128 .bf16) (z : Vec Ideal S512x128 .bf16)
    (a : Vec Ideal S2048x128 .f32) (s : Fin 2048) (d : Fin 128) :
    k0_pay2 z (k0_pay7 q k) a (ix2 s d) = a (ix2 s d) + ∑ r : Fin 512, k0_pay7 q k (ix2 r s) * z (ix2 r d) := by
  unfold k0_pay2
  pointwise

/-- The accumulators start at zero. -/
theorem zero_dk (s : Fin 2048) (d : Fin 128) : k0_pay5 (F := Ideal) (ix2 s d) = 0 := by unfold k0_pay5; pointwise
theorem zero_dv (s : Fin 2048) (d : Fin 128) : k0_pay6 (F := Ideal) (ix2 s d) = 0 := by unfold k0_pay6; pointwise

/-- The results' last cast is the identity over the extended reals. -/
theorem pay3_apply (a : Vec Ideal S2048x128 .f32) (i : S2048x128.Idx) : k0_pay3 a i = a i := rfl
theorem pay4_apply (a : Vec Ideal S2048x128 .f32) (i : S2048x128.Idx) : k0_pay4 a i = a i := rfl

/-! ## The blocks of the arguments -/

/-- The block index of each argument at a grid point. -/
theorem idx0 : ∀ t : Fin grid0.N, win0_0.index t 0 = t.val % 4 ∧ win0_0.index t 1 = t.val / 4 := by decide +kernel
theorem idx1 : ∀ t : Fin grid0.N, win0_1.index t 0 = 0 ∧ win0_1.index t 1 = 16 + t.val / 16 := by decide +kernel
theorem idx2 : ∀ t : Fin grid0.N, win0_2.index t 0 = 0 ∧ win0_2.index t 1 = 20 + t.val / 16 := by decide +kernel
theorem idx3 : ∀ t : Fin grid0.N, win0_3.index t 0 = t.val % 4 ∧ win0_3.index t 1 = t.val / 4 := by decide +kernel

variable (m : (ℓ : Loc nD τ sig) → Buf (Elt Ideal) ℓ) (c : Dev nD)

/-- The arguments the kernel is run on. -/
abbrev argX : Arr 2048 2560 := m ((c : Thread nD τ).loc main_arg0)
abbrev argY : Arr 2048 3072 := m ((c : Thread nD τ).loc main_arg1)
abbrev argZ : Arr 2048 2048 := m ((c : Thread nD τ).loc main_arg2)

/-- A grid point is below 64. -/
theorem lt64 (t : Fin cfg0.N) : t.val < 64 := lt_of_lt_of_eq t.isLt N_0

/-- The block of queries of a grid point. -/
theorem blk_q (t : Fin cfg0.N) (r : Fin 512) (d : Fin 128) :
    (iblk m c 0 t : Vec Ideal S512x128 .bf16) (ix2 r d) = qrow (argX m c) (headAt t.val) (rowAt t.val r) d := by
  unfold iblk
  rw [View.read_apply]
  show V m c main_arg0 _ = _
  unfold V qrow
  refine congrArg (m ((c : Thread nD τ).loc main_arg0)) (funext fun a => Fin.ext ?_)
  have h := idx0 t; have ht := lt64 t
  match a with
  | ⟨0, _⟩ => show win0_0.index t 0 * 512 + 1 * r.val = 512 * (t.val % 4) + r.val; rw [h.1]; omega
  | ⟨1, _⟩ => show win0_0.index t 1 * 128 + 1 * d.val = 128 * (t.val / 4 % 16) + d.val; rw [h.2]; omega

/-- The block of keys of a grid point. -/
theorem blk_k (t : Fin cfg0.N) (s : Fin 2048) (d : Fin 128) :
    (iblk m c 1 t : Vec Ideal S2048x128 .bf16) (ix2 s d) = krow (argX m c) (kvOf (headAt t.val)) s d := by
  unfold iblk
  rw [View.read_apply]
  show V m c main_arg0 _ = _
  unfold V krow
  refine congrArg (m ((c : Thread nD τ).loc main_arg0)) (funext fun a => Fin.ext ?_)
  have h := idx1 t; have ht := lt64 t
  match a with
  | ⟨0, _⟩ => show win0_1.index t 0 * 2048 + 1 * s.val = s.val; rw [h.1]; omega
  | ⟨1, _⟩ => show win0_1.index t 1 * 128 + 1 * d.val = 2048 + 128 * (t.val / 4 % 16 / 4) + d.val; rw [h.2]; omega

/-- The block of values of a grid point. -/
theorem blk_v (t : Fin cfg0.N) (s : Fin 2048) (d : Fin 128) :
    (iblk m c 2 t : Vec Ideal S2048x128 .bf16) (ix2 s d) = vrow (argY m c) (kvOf (headAt t.val)) s d := by
  unfold iblk
  rw [View.read_apply]
  show V m c main_arg1 _ = _
  unfold V vrow
  refine congrArg (m ((c : Thread nD τ).loc main_arg1)) (funext fun a => Fin.ext ?_)
  have h := idx2 t; have ht := lt64 t
  match a with
  | ⟨0, _⟩ => show win0_2.index t 0 * 2048 + 1 * s.val = s.val; rw [h.1]; omega
  | ⟨1, _⟩ => show win0_2.index t 1 * 128 + 1 * d.val = 2560 + 128 * (t.val / 4 % 16 / 4) + d.val; rw [h.2]; omega

/-- The block of the output's gradient of a grid point. -/
theorem blk_d (t : Fin cfg0.N) (r : Fin 512) (d : Fin 128) :
    (iblk m c 3 t : Vec Ideal S512x128 .bf16) (ix2 r d) = drow (argZ m c) (headAt t.val) (rowAt t.val r) d := by
  unfold iblk
  rw [View.read_apply]
  show V m c main_arg2 _ = _
  unfold V drow col
  refine congrArg (m ((c : Thread nD τ).loc main_arg2)) (funext fun a => Fin.ext ?_)
  have h := idx3 t; have ht := lt64 t
  match a with
  | ⟨0, _⟩ => show win0_3.index t 0 * 512 + 1 * r.val = 512 * (t.val % 4) + r.val; rw [h.1]; omega
  | ⟨1, _⟩ => show win0_3.index t 1 * 128 + 1 * d.val = 128 * (t.val / 4 % 16) + d.val; rw [h.2]; omega

/-- The probabilities of a grid point's tile. -/
theorem soft_at (t : Fin cfg0.N) (r : Fin 512) (s : Fin 2048) :
    k0_pay7 (iblk m c 0 t) (iblk m c 1 t) (ix2 r s) = soft (sc (argX m c) (headAt t.val) (rowAt t.val r)) s := by
  rw [pay7_apply]
  refine congrArg (fun f => soft f s) (funext fun u => Finset.sum_congr rfl fun d _ => ?_)
  rw [blk_q, blk_k]

/-- The scores' gradients of a grid point's tile. -/
theorem ds_at (t : Fin cfg0.N) (r : Fin 512) (s : Fin 2048) :
    k0_pay8 (iblk m c 0 t) (iblk m c 1 t) (iblk m c 2 t) (iblk m c 3 t) (ix2 r s)
      = ds (argX m c) (argY m c) (argZ m c) (headAt t.val) (rowAt t.val r) s := by
  rw [pay8_apply]
  refine congrArg₂ (fun f g => dscore f g s) (funext fun u => Finset.sum_congr rfl fun d _ => ?_)
    (funext fun u => Finset.sum_congr rfl fun d _ => ?_)
  · rw [blk_q, blk_k]
  · rw [blk_d, blk_v]

/-! ## The three results -/

/-- The block of dq a grid point writes. -/
theorem out_dq (t : Fin cfg0.N) :
    (outsAt0 m c t.val t.isLt).1 = k0_pay9 (iblk m c 0 t) (iblk m c 1 t) (iblk m c 2 t) (iblk m c 3 t) := by
  have ht := lt64 t
  by_cases h0 : t.val % 16 = 0
  · rw [outsAt0_A m c t h0 (by omega)]; dsimp only; exact out0_A_4_eq (F := Ideal) ..
  · by_cases h1 : t.val % 16 = 15
    · rw [outsAt0_C m c t h0 h1]; dsimp only; exact out0_C_4_eq (F := Ideal) ..
    · rw [outsAt0_B m c t h0 h1]; dsimp only; exact out0_B_4_eq (F := Ideal) ..

/-- The block of dq at an index. -/
theorem tile_dq (t : Fin cfg0.N) (r : Fin 512) (d : Fin 128) :
    k0_pay9 (iblk m c 0 t) (iblk m c 1 t) (iblk m c 2 t) (iblk m c 3 t) (ix2 r d)
      = dq (argX m c) (argY m c) (argZ m c) (headAt t.val) (rowAt t.val r) d := by
  rw [pay9_apply]
  unfold dq
  refine Finset.sum_congr rfl fun s _ => ?_
  rw [ds_at, blk_k]

/-- The block of dk written at the last point of a key head is the accumulator there. -/
theorem out_dk (t : Fin cfg0.N) (h1 : t.val % 16 = 15) :
    (outsAt0 m c t.val t.isLt).2.1 = k0_pay3 (outsAt0 m c t.val t.isLt).2.2.2.1 := by
  rw [outsAt0_C m c t (by omega) h1]
  dsimp only
  rw [out0_C_5_eq, sout0_C_0_eq]

/-- The block of dv written at the last point of a key head is the accumulator there. -/
theorem out_dv (t : Fin cfg0.N) (h1 : t.val % 16 = 15) :
    (outsAt0 m c t.val t.isLt).2.2.1 = k0_pay4 (outsAt0 m c t.val t.isLt).2.2.2.2 := by
  rw [outsAt0_C m c t (by omega) h1]
  dsimp only
  rw [out0_C_6_eq, sout0_C_1_eq]

/-- What grid point `n` adds to the accumulator of dk. -/
def addK (n : ℕ) (i : S2048x128.Idx) : EReal :=
  ∑ r, ds (argX m c) (argY m c) (argZ m c) (headAt n) (rowAt n r) (i 0) * qrow (argX m c) (headAt n) (rowAt n r) (i 1)

/-- What grid point `n` adds to the accumulator of dv. -/
def addV (n : ℕ) (i : S2048x128.Idx) : EReal :=
  ∑ r, soft (sc (argX m c) (headAt n) (rowAt n r)) (i 0) * drow (argZ m c) (headAt n) (rowAt n r) (i 1)

/-- A step of the accumulator of dk adds the point's sum. -/
theorem addK_eq (t : Fin cfg0.N) (a : Vec Ideal S2048x128 .f32) (i : S2048x128.Idx) :
    k0_pay1 (k0_pay10 (iblk m c 0 t) (iblk m c 1 t) (iblk m c 2 t) (iblk m c 3 t) a) i = a i + addK m c t.val i := by
  obtain ⟨s, d, rfl⟩ : ∃ s d, i = ix2 s d := ⟨i 0, i 1, by funext a; match a with | ⟨0, _⟩ => rfl | ⟨1, _⟩ => rfl⟩
  rw [step_dk]
  refine congrArg (_ + ·) (Finset.sum_congr rfl fun r _ => ?_)
  rw [ds_at, blk_q]
  rfl

/-- A step of the accumulator of dv adds the point's sum. -/
theorem addV_eq (t : Fin cfg0.N) (a : Vec Ideal S2048x128 .f32) (i : S2048x128.Idx) :
    k0_pay2 (iblk m c 3 t) (k0_pay7 (iblk m c 0 t) (iblk m c 1 t)) a i = a i + addV m c t.val i := by
  obtain ⟨s, d, rfl⟩ : ∃ s d, i = ix2 s d := ⟨i 0, i 1, by funext a; match a with | ⟨0, _⟩ => rfl | ⟨1, _⟩ => rfl⟩
  rw [step_dv]
  refine congrArg (_ + ·) (Finset.sum_congr rfl fun r _ => ?_)
  rw [soft_at, blk_d]
  rfl

/-- The first point of a key head leaves its own sum in the accumulator of dk, whatever was there. -/
theorem first_dk (n : ℕ) (h : n < cfg0.N) (hn : n % 16 = 0) (a : Vec Ideal S2048x128 .f32) (i : S2048x128.Idx) :
    scAt0_0 m c n h a i = 0 + addK m c n i := by
  unfold scAt0_0
  rw [dif_pos hn, dif_neg (by omega), sout0_A_0_eq, addK_eq m c ⟨n, h⟩]
  refine congrArg (· + _) ?_
  obtain ⟨s, d, rfl⟩ : ∃ s d, i = ix2 s d := ⟨i 0, i 1, by funext a; match a with | ⟨0, _⟩ => rfl | ⟨1, _⟩ => rfl⟩
  exact zero_dk s d

/-- A later point of a key head adds its sum to the accumulator of dk. -/
theorem next_dk (n : ℕ) (h : n < cfg0.N) (hn : ¬n % 16 = 0) (a : Vec Ideal S2048x128 .f32) (i : S2048x128.Idx) :
    scAt0_0 m c n h a i = a i + addK m c n i := by
  unfold scAt0_0
  by_cases h1 : n % 16 = 15
  · rw [dif_neg hn, dif_pos h1, sout0_C_0_eq, addK_eq m c ⟨n, h⟩]
  · rw [dif_neg hn, dif_neg h1, sout0_B_0_eq, addK_eq m c ⟨n, h⟩]

/-- The first point of a key head leaves its own sum in the accumulator of dv, whatever was there. -/
theorem first_dv (n : ℕ) (h : n < cfg0.N) (hn : n % 16 = 0) (a : Vec Ideal S2048x128 .f32) (i : S2048x128.Idx) :
    scAt0_1 m c n h a i = 0 + addV m c n i := by
  unfold scAt0_1
  rw [dif_pos hn, dif_neg (by omega), sout0_A_1_eq, addV_eq m c ⟨n, h⟩]
  refine congrArg (· + _) ?_
  obtain ⟨s, d, rfl⟩ : ∃ s d, i = ix2 s d := ⟨i 0, i 1, by funext a; match a with | ⟨0, _⟩ => rfl | ⟨1, _⟩ => rfl⟩
  exact zero_dv s d

/-- A later point of a key head adds its sum to the accumulator of dv. -/
theorem next_dv (n : ℕ) (h : n < cfg0.N) (hn : ¬n % 16 = 0) (a : Vec Ideal S2048x128 .f32) (i : S2048x128.Idx) :
    scAt0_1 m c n h a i = a i + addV m c n i := by
  unfold scAt0_1
  by_cases h1 : n % 16 = 15
  · rw [dif_neg hn, dif_pos h1, sout0_C_1_eq, addV_eq m c ⟨n, h⟩]
  · rw [dif_neg hn, dif_neg h1, sout0_B_1_eq, addV_eq m c ⟨n, h⟩]

/-- The accumulator of dk at the last point of key head `kv`. -/
theorem acc_dk (t : Fin cfg0.N) (kv : Fin 4) (ht : t.val = 16 * kv.val + 15) (s : Fin 2048) (d : Fin 128) :
    (outsAt0 m c t.val t.isLt).2.2.2.1 (ix2 s d) = dk (argX m c) (argY m c) (argZ m c) kv s d := by
  rw [soutsAt0_0_eq]
  have hb : 16 * (t.val / 16) = 16 * kv.val := by omega
  rw [Pipeline.accAt_add_apply _ (scAt0_0 m c) (fun _ => 0) (addK m c) (16 * (t.val / 16)) 15
    (fun h i => first_dk m c _ h (by omega) _ i) (fun n h a i h1 h2 => next_dk m c n h (by omega) a i) (t.val % 16) (by omega),
    zero_add, show t.val % 16 + 1 = 16 by omega, hb]
  exact sum_points kv fun h q => ds (argX m c) (argY m c) (argZ m c) h q s * qrow (argX m c) h q d

/-- The accumulator of dv at the last point of key head `kv`. -/
theorem acc_dv (t : Fin cfg0.N) (kv : Fin 4) (ht : t.val = 16 * kv.val + 15) (s : Fin 2048) (d : Fin 128) :
    (outsAt0 m c t.val t.isLt).2.2.2.2 (ix2 s d) = dv (argX m c) (argZ m c) kv s d := by
  rw [soutsAt0_1_eq]
  have hb : 16 * (t.val / 16) = 16 * kv.val := by omega
  rw [Pipeline.accAt_add_apply _ (scAt0_1 m c) (fun _ => 0) (addV m c) (16 * (t.val / 16)) 15
    (fun h i => first_dv m c _ h (by omega) _ i) (fun n h a i h1 h2 => next_dv m c n h (by omega) a i) (t.val % 16) (by omega),
    zero_add, show t.val % 16 + 1 = 16 by omega, hb]
  exact sum_points kv fun h q => soft (sc (argX m c) h q) s * drow (argZ m c) h q d

/-- The head and the feature of a column of the queries' gradient. -/
def hd (j : Fin 2048) : Fin 16 := ⟨j.val / 128, by have := j.isLt; omega⟩
def ft {n : ℕ} (j : Fin n) : Fin 128 := ⟨j.val % 128, by omega⟩

/-- The key head of a column of the keys' and values' gradients. -/
def kvhd (j : Fin 512) : Fin 4 := ⟨j.val / 128, by have := j.isLt; omega⟩

/-- The gradient of the queries, index by index. -/
theorem G4_apply (q j : Fin 2048) : G4 m c (ix2 q j) = dq (argX m c) (argY m c) (argZ m c) (hd j) q (ft j) := by
  have hq := q.isLt; have hj := j.isLt
  have hp : pt4Of (ix2 q j) = q.val / 512 + 4 * (j.val / 128) := by
    show 1 * (q.val / 512 - 0) + 4 * (j.val / 128 - 0) = _; omega
  have hN : pt4Of (ix2 q j) < cfg0.N := by rw [hp]; exact lt_of_lt_of_eq (by omega : _ < 64) N_0.symm
  unfold G4
  rw [dif_pos hN, ← outsAt0_sweep m c _ hN, out_dq m c ⟨_, hN⟩]
  have hl : loc4Of (ix2 q j) = ix2 (⟨q.val % 512, by omega⟩ : Fin 512) (ft j) := by
    funext a; match a with | ⟨0, _⟩ => rfl | ⟨1, _⟩ => rfl
  rw [hl]
  have e1 : headAt (pt4Of (ix2 q j)) = hd j := Fin.ext (by
    show pt4Of (ix2 q j) / 4 % 16 = j.val / 128; rw [hp]; omega)
  have e2 : rowAt (pt4Of (ix2 q j)) ⟨q.val % 512, by omega⟩ = q := Fin.ext (by
    show 512 * (pt4Of (ix2 q j) % 4) + q.val % 512 = q.val; rw [hp]; omega)
  exact (tile_dq m c ⟨_, hN⟩ _ _).trans (by rw [e1, e2])

/-- The gradient of the keys, index by index. -/
theorem G5_apply (s : Fin 2048) (j : Fin 512) :
    G5 m c (ix2 s j) = dk (argX m c) (argY m c) (argZ m c) (kvhd j) s (ft j) := by
  have hs := s.isLt; have hj := j.isLt
  have hp : pt5Of (ix2 s j) = 16 * (j.val / 128) + 15 := by
    show 16 * (4 * (s.val / 2048 - 0) + 1 * (j.val / 128 - 0)) + 15 = _; omega
  have hN : pt5Of (ix2 s j) < cfg0.N := by rw [hp]; exact lt_of_lt_of_eq (by omega : _ < 64) N_0.symm
  unfold G5
  rw [dif_pos hN, ← outsAt0_sweep m c _ hN, out_dk m c ⟨_, hN⟩ (by show pt5Of (ix2 s j) % 16 = 15; rw [hp]; omega), pay3_apply]
  have hl : loc5Of (ix2 s j) = ix2 s (ft j) := by
    funext a; match a with | ⟨0, _⟩ => exact Fin.ext (Nat.mod_eq_of_lt hs) | ⟨1, _⟩ => rfl
  rw [hl]
  exact acc_dk m c ⟨_, hN⟩ (kvhd j) hp s (ft j)

/-- The gradient of the values, index by index. -/
theorem G6_apply (s : Fin 2048) (j : Fin 512) :
    G6 m c (ix2 s j) = dv (argX m c) (argZ m c) (kvhd j) s (ft j) := by
  have hs := s.isLt; have hj := j.isLt
  have hp : pt6Of (ix2 s j) = 16 * (j.val / 128) + 15 := by
    show 16 * (4 * (s.val / 2048 - 0) + 1 * (j.val / 128 - 0)) + 15 = _; omega
  have hN : pt6Of (ix2 s j) < cfg0.N := by rw [hp]; exact lt_of_lt_of_eq (by omega : _ < 64) N_0.symm
  unfold G6
  rw [dif_pos hN, ← outsAt0_sweep m c _ hN, out_dv m c ⟨_, hN⟩ (by show pt6Of (ix2 s j) % 16 = 15; rw [hp]; omega), pay4_apply]
  have hl : loc6Of (ix2 s j) = ix2 s (ft j) := by
    funext a; match a with | ⟨0, _⟩ => exact Fin.ext (Nat.mod_eq_of_lt hs) | ⟨1, _⟩ => rfl
  rw [hl]
  exact acc_dv m c ⟨_, hN⟩ (kvhd j) hp s (ft j)

end Cert.GqaBwdIdeal.Kernel

end
-- ==== Proof.GqaReference.lean ====
/-
  What the reference program — reverse differentiation of softmax attention — holds over the extended reals at each index,
  stage by stage, down to its three results. The stages after the softmax's own derivative need finite queries and keys.
-/
module

public import proofs.«01_k».proof.Proof.Gen.GqaRefIdeal.Read
public import proofs.«01_k».proof.Proof.GqaSpec
public import Idealize.ShloMosaic.Lib.KernelVsHost

@[expose] public section

set_option maxRecDepth 16384

noncomputable section

namespace Cert.GqaRefIdeal.Stages

open Idealize.ShloMosaic Idealize.ShloMosaic.TcCoe Idealize.SL.Sem Idealize.ShloMosaic.StableHlo
open Cert.GqaRefIdeal Cert.GqaRefIdeal.Gen Cert.GqaRefIdeal.Read Cert.Rows Cert.Gqa

variable (X : Arr 2048 2560) (Y : Arr 2048 3072) (Z : Arr 2048 2048)

/-- The pattern of minus infinity denotes the least extended real. -/
theorem ofBits_bot : Ideal.ofBits .f32 4286578688#32 = ⊥ := by simp [Ideal.ofBits, Ideal.ieee]

/-- A query head's key head is the one it was counted from. -/
theorem kvOf_headOf (a g : Fin 4) : kvOf (headOf a g) = a := Fin.ext (by
  have := g.isLt; show (4 * a.val + g.val) / 4 = a.val; omega)

/-- The queries, by key head and query head. -/
theorem q_apply (q : Fin 2048) (a g : Fin 4) (d : Fin 128) :
    val_main_v2 (F := Ideal) X (ix4 q a g d) = qrow X (headOf a g) q d := by
  rw [val_main_v2_apply, val_main_v1_apply, val_main_v0_apply]
  have h0 := q.isLt; have h1 := a.isLt; have h2 := g.isLt; have h3 := d.isLt
  refine congrArg X (funext fun i => Fin.ext ?_)
  match i with
  | ⟨0, _⟩ => show (((q.val * 4 + a.val) * 4 + g.val) * 128 + d.val) / 2048 = q.val; omega
  | ⟨1, _⟩ => show (((q.val * 4 + a.val) * 4 + g.val) * 128 + d.val) % 2048 = 128 * (4 * a.val + g.val) + d.val; omega

/-- The keys, by key head. -/
theorem k_apply (s : Fin 2048) (a : Fin 4) (d : Fin 128) : val_main_v5 (F := Ideal) X (ix3 s a d) = krow X a s d := by
  rw [val_main_v5_apply, val_main_v4_apply, val_main_v3_apply]
  have h0 := s.isLt; have h1 := a.isLt; have h3 := d.isLt
  refine congrArg X (funext fun i => Fin.ext ?_)
  match i with
  | ⟨0, _⟩ => show ((s.val * 4 + a.val) * 128 + d.val) / 512 = s.val; omega
  | ⟨1, _⟩ => show 2048 + ((s.val * 4 + a.val) * 128 + d.val) % 512 = 2048 + 128 * a.val + d.val; omega

/-- The values, by key head. -/
theorem v_apply (s : Fin 2048) (a : Fin 4) (d : Fin 128) : val_main_v8 (F := Ideal) Y (ix3 s a d) = vrow Y a s d := by
  rw [val_main_v8_apply, val_main_v7_apply, val_main_v6_apply]
  have h0 := s.isLt; have h1 := a.isLt; have h3 := d.isLt
  refine congrArg Y (funext fun i => Fin.ext ?_)
  match i with
  | ⟨0, _⟩ => show ((s.val * 4 + a.val) * 128 + d.val) / 512 = s.val; omega
  | ⟨1, _⟩ => show 2560 + ((s.val * 4 + a.val) * 128 + d.val) % 512 = 2560 + 128 * a.val + d.val; omega

/-- The output's gradient, by key head and query head. -/
theorem do_apply (q : Fin 2048) (a g : Fin 4) (d : Fin 128) :
    val_main_v42 (F := Ideal) Z (ix4 q a g d) = drow Z (headOf a g) q d := by
  rw [val_main_v42_apply, val_main_v41_apply]
  have h0 := q.isLt; have h1 := a.isLt; have h2 := g.isLt; have h3 := d.isLt
  refine congrArg Z (funext fun i => Fin.ext ?_)
  match i with
  | ⟨0, _⟩ => show (((q.val * 4 + a.val) * 4 + g.val) * 128 + d.val) / 2048 = q.val; omega
  | ⟨1, _⟩ => show (((q.val * 4 + a.val) * 4 + g.val) * 128 + d.val) % 2048 = 128 * (4 * a.val + g.val) + d.val; omega

/-- The scores. -/
theorem sc_apply (a g : Fin 4) (q s : Fin 2048) :
    val_main_v10 (F := Ideal) X (ix4 a g q s) = sc X (headOf a g) q s := by
  unfold val_main_v10 val_main_v9 sc
  pointwise [q_apply, k_apply, kvOf_headOf]
  exact Finset.sum_congr rfl fun d _ => mul_comm _ _

/-- The host's maximum over the last axis is the fold of the maximum over it. -/
theorem rowMax_apply (x : FVec Ideal S4x4x2048x2048 .f32) (a g : Fin 4) (q : Fin 2048) :
    Host.reduce FloatOps.maximumf x (constant S_ .f32 0xFF800000#32) reducesTo_S4x4x2048x2048_S4x4x2048_d3 h_S_ (ix3 a g q)
      = Finset.univ.fold max (Ideal.ofBits .f32 0xFF800000#32) fun s => x (ix4 a g q s) := by
  have hr : S4x4x2048x2048.Reduces [3] S4x4x2048 := by decide
  have h := hostReduce_maximumf_eq_multiReduction x 0xFF800000#32 reducesTo_S4x4x2048x2048_S4x4x2048_d3 h_S_ hr (.inl rfl) rfl
  rw [h]
  pointwise

/-- The largest score of a query. -/
theorem max_apply (a g : Fin 4) (q : Fin 2048) :
    val_main_v11 (F := Ideal) X (ix3 a g q) = top (sc X (headOf a g) q) := by
  unfold val_main_v11 val_main_cst top
  rw [rowMax_apply, ofBits_bot]
  exact congrArg (fun f => Finset.univ.fold max ⊥ f) (funext fun s => sc_apply X a g q s)

/-- The weights. -/
theorem wgt_apply (a g : Fin 4) (q s : Fin 2048) :
    val_main_v31 (F := Ideal) X (ix4 a g q s) = wgt (sc X (headOf a g) q) s := by
  have e : idx_main_v28 (idx_main_v29 (ix4 a g q s)) = ix3 a g q := funext fun i => match i with
    | ⟨0, _⟩ => rfl
    | ⟨1, _⟩ => rfl
    | ⟨2, _⟩ => rfl
  rw [val_main_v31_apply, val_main_v30_apply, val_main_v29_apply, val_main_v28_apply, val_main_v18_apply, val_main_v17_apply,
    val_main_cst_1_apply, e, sc_apply, max_apply, Ideal.ofBits_def, ofBits_bot, Ideal.maximumf_def, max_eq_right bot_le]
  rfl

/-- The sum of the weights. -/
theorem mass_apply (a g : Fin 4) (q : Fin 2048) :
    val_main_v32 (F := Ideal) X (ix3 a g q) = mass (sc X (headOf a g) q) := by
  unfold val_main_v32 val_main_cst_7 mass
  pointwise [wgt_apply]

/-- The probabilities. -/
theorem soft_apply (a g : Fin 4) (q s : Fin 2048) :
    val_main_v35 (F := Ideal) X (ix4 a g q s) = soft (sc X (headOf a g) q) s := by
  unfold val_main_v35 val_main_v34 val_main_v33 soft
  pointwise [wgt_apply, mass_apply]

/-- The products of the output's gradient with the values. -/
theorem dp_apply (a g : Fin 4) (q s : Fin 2048) :
    val_main_v44 (F := Ideal) Y Z (ix4 a g q s) = dp Y Z (headOf a g) q s := by
  unfold val_main_v44 val_main_v43 dp
  pointwise [do_apply, v_apply, kvOf_headOf]

/-- The scores' gradient as reverse differentiation writes it. -/
theorem dscore_apply (a g : Fin 4) (q s : Fin 2048) :
    val_main_v58 (F := Ideal) X Y Z (ix4 a g q s) = dscoreVjp (sc X (headOf a g) q) (dp Y Z (headOf a g) q) s := by
  unfold val_main_v58 val_main_v57 val_main_v56 val_main_v55 val_main_v54 val_main_v53 val_main_v52 val_main_v51 val_main_v50
    val_main_v49 val_main_v48 val_main_v47 val_main_v38 val_main_v37 val_main_v36 val_main_v33 val_main_cst_10 val_main_cst_9
    val_main_cst_8 dscoreVjp
  pointwise [wgt_apply, mass_apply, dp_apply]
  rw [Fin.sum_univ_one]

/-- The queries and keys are finite. -/
def Finite : Prop := ∀ i, ∃ r : ℝ, X i = r

variable {X}

/-- With finite queries and keys every score is a real. -/
theorem sc_real (hX : Finite X) (h : Fin 16) (q s : Fin 2048) : ∃ r : ℝ, sc X h q s = r :=
  dot_real _ _ (fun _ => hX _) fun _ => hX _

/-- With finite queries and keys the reference's scores' gradient is the kernels' form of it. -/
theorem ds_apply (hX : Finite X) (a g : Fin 4) (q s : Fin 2048) :
    val_main_v58 (F := Ideal) X Y Z (ix4 a g q s) = ds X Y Z (headOf a g) q s := by
  rw [dscore_apply, dscoreVjp_eq (by norm_num) _ _ (fun u => sc_real hX _ q u)]
  rfl

/-- The gradient of the queries. -/
theorem dq_apply (hX : Finite X) (q : Fin 2048) (a g : Fin 4) (d : Fin 128) :
    val_main_v61 (F := Ideal) X Y Z (ix4 q a g d) = dq X Y Z (headOf a g) q d := by
  unfold val_main_v61 val_main_v60 val_main_v59 dq
  pointwise [ds_apply Y Z hX, k_apply, kvOf_headOf]

/-- The gradient of the keys. -/
theorem dk_apply (hX : Finite X) (s : Fin 2048) (a : Fin 4) (d : Fin 128) :
    val_main_v63 (F := Ideal) X Y Z (ix3 s a d) = dk X Y Z a s d := by
  unfold val_main_v63 val_main_v62 val_main_v59 dk
  pointwise [ds_apply Y Z hX, q_apply]
  exact Finset.sum_comm

/-- The gradient of the values. -/
theorem dv_apply (s : Fin 2048) (a : Fin 4) (d : Fin 128) :
    val_main_v46 (F := Ideal) X Z (ix3 s a d) = dv X Z a s d := by
  unfold val_main_v46 val_main_v45 val_main_v43 dv
  pointwise [soft_apply, do_apply]
  exact Finset.sum_congr rfl fun g _ => Finset.sum_congr rfl fun q _ => mul_comm _ _

end Cert.GqaRefIdeal.Stages

end
-- ==== Proof.GqaClaim.lean ====
/-
  The certificate of the grouped-query attention backward kernel: its frames come with the generated runs; the value
  claim sets its three results beside the reference's, index by index.
-/
module

public import proofs.«01_k».proof.Proof.GqaKernel
public import proofs.«01_k».proof.Proof.GqaReference
public import proofs.«01_k».proof.Proof.Gen.Pre_finite_qk
public import proofs.«01_k».proof.Proof.Gen.GqaBwd.Frame
public import proofs.«01_k».proof.Defs

@[expose] public section

set_option maxRecDepth 16384

noncomputable section

namespace Cert.Gqa

open Idealize.ShloMosaic Idealize.ShloMosaic.TcCoe Idealize.SL.Sem Idealize.ShloMosaic.StableHlo

/-- A real whose absolute value lies below infinity: what the precondition says of each query and key. -/
theorem real_of_abs_lt (x : EReal) (h : max x (-x) < ⊤) : ∃ r : ℝ, x = r := by
  induction x using EReal.rec with
  | bot => simp at h
  | top => simp at h
  | coe r => exact ⟨r, rfl⟩

/-- The word of the infinity the preconditions compare with. -/
theorem ofBits_inf : Ideal.ofBits FTy.f32 2139095040#32 = ⊤ := by simp [Ideal.ofBits, Ideal.ieee]

/-- The precondition makes every query and key a real. -/
theorem finite_of_pre (X : Arr 2048 2560) (Y : Arr 2048 3072) (Z : Arr 2048 2048)
    (h : Cert.Pre_finite_qk.fn (F := Ideal) X Y Z = fun _ => 1#1) : Cert.GqaRefIdeal.Stages.Finite X := by
  intro i
  have hi := congrFun h i
  unfold Cert.Pre_finite_qk.fn at hi
  pointwise at hi
  rw [ofBits_inf] at hi
  by_cases hlt : max (X i) (-(X i)) < ⊤
  · exact real_of_abs_lt _ hlt
  · have hd : decide ((FloatOps.absf (X i) : Ideal .f32) < ⊤) = false := decide_eq_false hlt
    rw [hd] at hi
    exact absurd hi (by decide)

open Cert.GqaBwdIdeal Cert.GqaBwdIdeal.Kernel Cert.GqaRefIdeal.Stages Cert.GqaRefIdeal.Read in
section
variable (m : (ℓ : Loc Cert.GqaBwdIdeal.nD Cert.GqaBwdIdeal.τ Cert.GqaBwdIdeal.sig) → Buf (Elt Ideal) ℓ) (c : Dev Cert.GqaBwdIdeal.nD)

/-- The gradients of the queries agree. -/
theorem dq_eq (hX : Finite (argX m c)) : val_main_v65 (F := Ideal) (argX m c) (argY m c) (argZ m c) = Cert.GqaBwdIdeal.Value.G4 m c := by
  funext i
  obtain ⟨q, j, rfl⟩ : ∃ q j : Fin 2048, i = ix2 q j := ⟨i 0, i 1, funext fun a => match a with | ⟨0, _⟩ => rfl | ⟨1, _⟩ => rfl⟩
  rw [G4_apply, val_main_v65_apply, val_main_v64_apply]
  have hj := j.isLt
  have e : idx_main_v64 (ix2 q j) = ix4 q (⟨j.val / 512, by omega⟩ : Fin 4) (⟨j.val / 128 % 4, by omega⟩ : Fin 4) (ft j) :=
    funext fun a => Fin.ext (match a with
      | ⟨0, _⟩ => by show (q.val * 2048 + j.val) / 2048 = q.val; omega
      | ⟨1, _⟩ => by show (q.val * 2048 + j.val) / 512 % 4 = j.val / 512; omega
      | ⟨2, _⟩ => by show (q.val * 2048 + j.val) / 128 % 4 = j.val / 128 % 4; omega
      | ⟨3, _⟩ => by show (q.val * 2048 + j.val) % 128 = j.val % 128; omega)
  have eh : headOf (⟨j.val / 512, by omega⟩ : Fin 4) (⟨j.val / 128 % 4, by omega⟩ : Fin 4) = hd j :=
    Fin.ext (by show 4 * (j.val / 512) + j.val / 128 % 4 = j.val / 128; omega)
  rw [e, ← eh]
  exact dq_apply _ _ hX q _ _ _

/-- The index a column of the keys' or values' gradients comes from. -/
theorem kv_index (s : Fin 2048) (j : Fin 512) : idx_main_v66 (ix2 s j) = ix3 s (kvhd j) (ft j) := by
  have hj := j.isLt
  exact funext fun a => Fin.ext (match a with
      | ⟨0, _⟩ => by show (s.val * 512 + j.val) / 512 = s.val; omega
      | ⟨1, _⟩ => by show (s.val * 512 + j.val) / 128 % 4 = j.val / 128; omega
      | ⟨2, _⟩ => by show (s.val * 512 + j.val) % 128 = j.val % 128; omega)

/-- The gradients of the keys agree. -/
theorem dk_eq (hX : Finite (argX m c)) : val_main_v67 (F := Ideal) (argX m c) (argY m c) (argZ m c) = Cert.GqaBwdIdeal.Value.G5 m c := by
  funext i
  obtain ⟨s, j, rfl⟩ : ∃ (s : Fin 2048) (j : Fin 512), i = ix2 s j := ⟨i 0, i 1, funext fun a => match a with | ⟨0, _⟩ => rfl | ⟨1, _⟩ => rfl⟩
  rw [G5_apply, val_main_v67_apply, val_main_v66_apply, kv_index]
  exact dk_apply _ _ hX s _ _

/-- The gradients of the values agree. -/
theorem dv_eq : val_main_v69 (F := Ideal) (argX m c) (argZ m c) = Cert.GqaBwdIdeal.Value.G6 m c := by
  funext i
  obtain ⟨s, j, rfl⟩ : ∃ (s : Fin 2048) (j : Fin 512), i = ix2 s j := ⟨i 0, i 1, funext fun a => match a with | ⟨0, _⟩ => rfl | ⟨1, _⟩ => rfl⟩
  rw [G6_apply, val_main_v69_apply, val_main_v68_apply]
  have e : idx_main_v68 (ix2 s j) = ix3 s (kvhd j) (ft j) := kv_index s j
  rw [e]
  exact dv_apply _ s _ _

end

/-- The run of the kernel before its idealization keeps its arguments and leaves every semaphore at zero. -/
theorem frame_bits : Cert.quiescent_GqaBwd := fun m ρ _ => Cert.GqaBwd.Gen.frame m ρ

/-- So does its idealization's. -/
theorem frame_ideal : Cert.quiescent_GqaBwdIdeal := fun m ρ _ => Cert.GqaBwdIdeal.Gen.frame m ρ

/-- The reference's run keeps its arguments and leaves every semaphore at zero. -/
theorem frame_reference : Cert.quiescent_GqaRefIdeal := fun m ρ _ =>
  (θ_run Cert.GqaRefIdeal.defs _ _).mono (fun r h => ⟨fun c => (h c).2.2.2, sem_eq_zero_of_no_sems (by decide) r.2⟩)
    (Cert.GqaRefIdeal.Value.run (F := Ideal) m ρ)

/-- The kernel's three results are the reference's, wherever the queries and keys are finite. -/
theorem value : Cert.algebraic_GqaBwdIdeal_GqaRefIdeal_pre_finite_qk := by
  intro m g m' g' hpre hargs
  refine ⟨fun c => Cert.GqaBwdIdeal.Value.G4 m c, fun c => Cert.GqaBwdIdeal.Value.G5 m c, fun c => Cert.GqaBwdIdeal.Value.G6 m c,
    Cert.GqaBwdIdeal.Value.run m g, ?_⟩
  refine (θ_run _ _ _).mono (fun r h c => ?_) (Cert.GqaRefIdeal.Value.run (F := Ideal) m' g')
  obtain ⟨h0, h1, h2, ha⟩ := h c
  obtain ⟨e0, e1, e2⟩ := hargs c
  have hX := finite_of_pre _ _ _ (hpre c)
  refine ⟨h0.trans ?_, h1.trans ?_, h2.trans ?_, ha⟩
  · rw [Cert.GqaRefIdeal.Read.val_main_v65_eq, e0, e1, e2]
    exact dq_eq m c hX
  · rw [Cert.GqaRefIdeal.Read.val_main_v67_eq, e0, e1, e2]
    exact dk_eq m c hX
  · rw [Cert.GqaRefIdeal.Read.val_main_v69_eq, e0, e2]
    exact dv_eq m c

end Cert.Gqa

end
-- ==== Proof.Sums.lean ====
/-
  Sums of extended reals.
-/
module

public import Idealize.ShloMosaic.PureOps.Ideal.Laws

@[expose] public section

namespace Cert.Sums

/-- Sums agree when their terms do. -/
theorem sum_eq {n : ℕ} {f g : Fin n → EReal} (h : ∀ i, f i = g i) : ∑ i, f i = ∑ i, g i :=
  Finset.sum_congr rfl fun i _ => h i

/-- A sum over `a · b` terms in `a` runs of `b`. -/
theorem sum_runs {a b : ℕ} (f : Fin (a * b) → EReal) : ∑ i, f i = ∑ p : Fin a, ∑ q : Fin b, f (finProdFinEquiv (p, q)) := by
  rw [← Equiv.sum_comp finProdFinEquiv, Fintype.sum_prod_type]

/-- A sum over four runs of `b` terms, run by run. -/
theorem sum_four {n b : ℕ} (h : n = 4 * b) (f : Fin n → EReal) :
    ∑ i, f i = ∑ q : Fin b, f ⟨0 * b + q.val, by have := q.isLt; omega⟩ + ∑ q : Fin b, f ⟨1 * b + q.val, by have := q.isLt; omega⟩
      + ∑ q : Fin b, f ⟨2 * b + q.val, by have := q.isLt; omega⟩ + ∑ q : Fin b, f ⟨3 * b + q.val, by have := q.isLt; omega⟩ := by
  subst h
  rw [sum_runs, Fin.sum_univ_four]
  have e (p : Fin 4) : ∑ q : Fin b, f (finProdFinEquiv (p, q))
      = ∑ q : Fin b, f ⟨p.val * b + q.val, by have := q.isLt; have := p.isLt; nlinarith⟩ :=
    sum_eq fun q => congrArg f (Fin.ext (by simp [finProdFinEquiv, mul_comm, add_comm]))
  simp only [e]
  rfl

end Cert.Sums
-- ==== Proof.FfnProducts.lean ====
/-
  The feed-forward chain's three products at the buffers a launch is entered with: what the up projection, the
  down projection's weight gradient and the activation's gradient leave in their results, index by index.
-/
module

public import proofs.«01_k».proof.Proof.Gen.FfnBwdIdeal.Frame
public import proofs.«01_k».proof.Proof.Sums
public import Idealize.ShloMosaic.Lib.Pointwise

@[expose] public section

set_option maxRecDepth 16384

noncomputable section

namespace Cert.FfnBwdIdeal.Products

open Idealize.ShloMosaic Idealize.ShloMosaic.TcCoe Idealize.SL.Sem
open Cert.FfnBwdIdeal Cert.FfnBwdIdeal.Gen Cert.Sums

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)

/-! ## The up projection -/

theorem up_out (x : Vec Ideal S1024x2048 .bf16) (w : Vec Ideal S1x2048x1408 .bf16) (r : Fin 1024) (k : Fin 1408) :
    out0_2 x w (ix2 r k) = ∑ q : Fin 2048, x (ix2 r q) * w (ix3 (0 : Fin 1) q k) := by
  unfold out0_2
  rw [View.canon_unit_zero (S := S1024x1408) hz, View.ld_unit_zero (S := S1024x2048) hz, View.ld_unit_zero (S := S1x2048x1408) hz3]
  unfold k0_pay1
  pointwise

/-- The block index of each window at a grid point. -/
theorem up_i0 : ∀ t : Fin grid0.N, win0_0.index t 0 = t.val / 8 ∧ win0_0.index t 1 = 0 := by decide +kernel
theorem up_i1 : ∀ t : Fin grid0.N, win0_1.index t 0 = t.val % 8 / 2 ∧ win0_1.index t 1 = 0 ∧ win0_1.index t 2 = t.val % 2 := by
  decide +kernel
theorem up_i2 : ∀ t : Fin grid0.N, win0_2.index t 0 = t.val / 8 ∧ win0_2.index t 1 = t.val % 8 := by decide +kernel
theorem up_inj : ∀ t t' : Fin grid0.N, win0_2.index t = win0_2.index t' → t = t' := by decide +kernel
theorem up_flush : ∀ t : Fin grid0.N, win0_2.flush t = true := by decide +kernel

/-- The arrays the launch reads, and their blocks at a grid point. -/
abbrev upX : Vec Ideal S2048x2048 .bf16 := V c main_arg0
abbrev upW : Vec Ideal S4x2048x2816 .bf16 := V c main_arg1
abbrev up_bX (t : Fin cfg0.N) : Vec Ideal S1024x2048 .bf16 := iblk0 V c 0 t
abbrev up_bW (t : Fin cfg0.N) : Vec Ideal S1x2048x1408 .bf16 := iblk0 V c 1 t

theorem up_blkX (t : Fin cfg0.N) (r : Fin 1024) (q : Fin 2048) (i : Fin 2048) (hi : i.val = t.val / 8 * 1024 + r.val) :
    up_bX V c t (ix2 r q) = upX V c (ix2 i q) := by
  unfold up_bX iblk0
  rw [View.read_apply]
  refine congrArg (V c main_arg0) (funext fun a => Fin.ext ?_)
  have h := up_i0 t
  match a with
  | ⟨0, _⟩ => show win0_0.index t 0 * 1024 + 1 * r.val = i.val; rw [h.1]; omega
  | ⟨1, _⟩ => show win0_0.index t 1 * 2048 + 1 * q.val = q.val; rw [h.2]; omega

theorem up_blkW (t : Fin cfg0.N) (q : Fin 2048) (k : Fin 1408) (n : Fin 4) (j : Fin 2816)
    (hn : n.val = t.val % 8 / 2) (hj : j.val = t.val % 2 * 1408 + k.val) :
    up_bW V c t (ix3 (0 : Fin 1) q k) = upW V c (ix3 n q j) := by
  unfold up_bW iblk0
  rw [View.read_apply]
  refine congrArg (V c main_arg1) (funext fun a => Fin.ext ?_)
  have h := up_i1 t
  match a with
  | ⟨0, _⟩ => show win0_1.index t 0 * 1 + 1 * 0 = n.val; rw [h.1]; omega
  | ⟨1, _⟩ => show win0_1.index t 1 * 2048 + 1 * q.val = q.val; rw [h.2.1]; omega
  | ⟨2, _⟩ => show win0_1.index t 2 * 1408 + 1 * k.val = j.val; rw [h.2.2]; omega

/-- An entry of the result is the entry of the block its point writes back. -/
theorem up_entry (t : Fin cfg0.N) (r : Fin 1024) (s : Fin 1408) (i : Fin 2048) (j : Fin 11264)
    (hi : i.val = t.val / 8 * 1024 + r.val) (hj : j.val = t.val % 8 * 1408 + s.val) :
    ((dat0 V c).arrAt 2 cfg0.N : Vec Ideal S2048x11264 .bf16) (ix2 i j) = out0_2 (up_bX V c t) (up_bW V c t) (ix2 r s) := by
  have hb := congrFun ((dat0 V c).read_blk_arrAt_eq_flushed 2
    (fun t t' _ _ hne => (cfg0.win 2).disjoint_blk fun h => hne (up_inj t t' h)) cfg0.N t t.isLt (up_flush t)) (ix2 r s)
  have hf : (dat0 V c).flushed 2 t = (cfg0.win 2).cut (grid0.coords t) (out0_2 (up_bX V c t) (up_bW V c t)) := by
    show (cfg0.win 2).cut (grid0.coords t) ((dat0 V c).after 2 t) = _
    rw [after0_2]
  rw [hf, View.read_apply] at hb
  refine Eq.trans ?_ hb
  refine congrArg ((dat0 V c).arrAt 2 cfg0.N) (funext fun a => Fin.ext ?_)
  have h := up_i2 t
  match a with
  | ⟨0, _⟩ => show i.val = win0_2.index t 0 * 1024 + 1 * r.val; rw [h.1]; omega
  | ⟨1, _⟩ => show j.val = win0_2.index t 1 * 1408 + 1 * s.val; rw [h.2]; omega

/-- The up projection, index by index: its column `j` is column `j % 2816` of the weight's shard `j / 2816`. -/
theorem up_apply (i : Fin 2048) (j : Fin 11264) :
    ((dat0 V c).arrAt 2 cfg0.N : Vec Ideal S2048x11264 .bf16) (ix2 i j)
      = ∑ q : Fin 2048, upX V c (ix2 i q) * upW V c (ix3 (⟨j.val / 2816, by omega⟩ : Fin 4) q (⟨j.val % 2816, by omega⟩ : Fin 2816)) := by
  have hi := i.isLt; have hj := j.isLt
  let t : Fin cfg0.N := ⟨i.val / 1024 * 8 + j.val / 1408, lt_of_lt_of_eq (by omega : _ < 16) (by decide +kernel : 16 = grid0.N)⟩
  have ht : t.val = i.val / 1024 * 8 + j.val / 1408 := rfl
  rw [up_entry V c t ⟨i.val % 1024, by omega⟩ ⟨j.val % 1408, by omega⟩ i j (by show i.val = _ + i.val % 1024; omega)
    (by show j.val = _ + j.val % 1408; omega), up_out]
  refine sum_eq fun q => ?_
  rw [up_blkX V c t _ q i (by show i.val = _ + i.val % 1024; omega),
    up_blkW V c t q _ ⟨j.val / 2816, by omega⟩ ⟨j.val % 2816, by omega⟩ (by show j.val / 2816 = _; omega)
      (by show j.val % 2816 = _ + j.val % 1408; omega)]

/-! ## The down projection's weight gradient -/

theorem dw_out (x : Vec Ideal S2048x512 .bf16) (y : Vec Ideal S2048x2048 .bf16) (r : Fin 512) (k : Fin 2048) :
    out2_2 x y (ix3 (0 : Fin 1) r k) = ∑ q : Fin 2048, x (ix2 q r) * y (ix2 q k) := by
  unfold out2_2
  rw [View.canon_unit_zero (S := S1x512x2048) hz3, View.ld_unit_zero (S := S2048x512) hz, View.ld_unit_zero (S := S2048x2048) hz]
  unfold k2_pay1
  pointwise

theorem dw_i0 : ∀ t : Fin grid2.N, win2_0.index t 0 = 0 ∧ win2_0.index t 1 = t.val := by decide +kernel
theorem dw_i1 : ∀ t : Fin grid2.N, win2_1.index t 0 = 0 ∧ win2_1.index t 1 = 0 := by decide +kernel
theorem dw_i2 : ∀ t : Fin grid2.N, win2_2.index t 0 = 0 ∧ win2_2.index t 1 = t.val ∧ win2_2.index t 2 = 0 := by decide +kernel
theorem dw_inj : ∀ t t' : Fin grid2.N, win2_2.index t = win2_2.index t' → t = t' := by decide +kernel
theorem dw_flush : ∀ t : Fin grid2.N, win2_2.flush t = true := by decide +kernel

/-- The activation and the output's gradient, and their blocks at a grid point. -/
abbrev dwA : Vec Ideal S2048x5632 .bf16 := V c main_v1_0
abbrev dwD : Vec Ideal S2048x2048 .bf16 := V c main_arg5
abbrev dw_bA (t : Fin cfg2.N) : Vec Ideal S2048x512 .bf16 := iblk2 V c 0 t
abbrev dw_bD (t : Fin cfg2.N) : Vec Ideal S2048x2048 .bf16 := iblk2 V c 1 t

theorem dw_blkA (t : Fin cfg2.N) (q : Fin 2048) (r : Fin 512) (j : Fin 5632) (hj : j.val = t.val * 512 + r.val) :
    dw_bA V c t (ix2 q r) = dwA V c (ix2 q j) := by
  unfold dw_bA iblk2
  rw [View.read_apply]
  refine congrArg (V c main_v1_0) (funext fun a => Fin.ext ?_)
  have h := dw_i0 t
  match a with
  | ⟨0, _⟩ => show win2_0.index t 0 * 2048 + 1 * q.val = q.val; rw [h.1]; omega
  | ⟨1, _⟩ => show win2_0.index t 1 * 512 + 1 * r.val = j.val; rw [h.2]; omega

theorem dw_blkD (t : Fin cfg2.N) (q k : Fin 2048) : dw_bD V c t (ix2 q k) = dwD V c (ix2 q k) := by
  unfold dw_bD iblk2
  rw [View.read_apply]
  refine congrArg (V c main_arg5) (funext fun a => Fin.ext ?_)
  have h := dw_i1 t
  match a with
  | ⟨0, _⟩ => show win2_1.index t 0 * 2048 + 1 * q.val = q.val; rw [h.1]; omega
  | ⟨1, _⟩ => show win2_1.index t 1 * 2048 + 1 * k.val = k.val; rw [h.2]; omega

theorem dw_entry (t : Fin cfg2.N) (r : Fin 512) (j : Fin 5632) (k : Fin 2048) (hj : j.val = t.val * 512 + r.val) :
    ((dat2 V c).arrAt 2 cfg2.N : Vec Ideal S1x5632x2048 .bf16) (ix3 (0 : Fin 1) j k)
      = out2_2 (dw_bA V c t) (dw_bD V c t) (ix3 (0 : Fin 1) r k) := by
  have hb := congrFun ((dat2 V c).read_blk_arrAt_eq_flushed 2
    (fun t t' _ _ hne => (cfg2.win 2).disjoint_blk fun h => hne (dw_inj t t' h)) cfg2.N t t.isLt (dw_flush t)) (ix3 (0 : Fin 1) r k)
  have hf : (dat2 V c).flushed 2 t = (cfg2.win 2).cut (grid2.coords t) (out2_2 (dw_bA V c t) (dw_bD V c t)) := by
    show (cfg2.win 2).cut (grid2.coords t) ((dat2 V c).after 2 t) = _
    rw [after2_2]
  rw [hf, View.read_apply] at hb
  refine Eq.trans ?_ hb
  refine congrArg ((dat2 V c).arrAt 2 cfg2.N) (funext fun a => Fin.ext ?_)
  have h := dw_i2 t
  match a with
  | ⟨0, _⟩ => show 0 = win2_2.index t 0 * 1 + 1 * 0; rw [h.1]
  | ⟨1, _⟩ => show j.val = win2_2.index t 1 * 512 + 1 * r.val; rw [h.2.1]; omega
  | ⟨2, _⟩ => show k.val = win2_2.index t 2 * 2048 + 1 * k.val; rw [h.2.2]; omega

/-- The weight's gradient, index by index. -/
theorem dw_apply (j : Fin 5632) (k : Fin 2048) :
    ((dat2 V c).arrAt 2 cfg2.N : Vec Ideal S1x5632x2048 .bf16) (ix3 (0 : Fin 1) j k)
      = ∑ q : Fin 2048, dwA V c (ix2 q j) * dwD V c (ix2 q k) := by
  have hj := j.isLt
  let t : Fin cfg2.N := ⟨j.val / 512, lt_of_lt_of_eq (by omega : _ < 11) (by decide +kernel : 11 = grid2.N)⟩
  have ht : t.val = j.val / 512 := rfl
  rw [dw_entry V c t ⟨j.val % 512, by omega⟩ j k (by show j.val = _ + j.val % 512; omega), dw_out]
  refine sum_eq fun q => ?_
  rw [dw_blkA V c t q _ j (by show j.val = _ + j.val % 512; omega), dw_blkD]

/-! ## The activation's gradient -/

theorem da_out (x : Vec Ideal S1024x2048 .bf16) (w : Vec Ideal S1x512x2048 .bf16) (y : Vec Ideal S16x128 .bf16) (r : Fin 1024) (k : Fin 512) :
    out3_3 x w y (ix2 r k) = ∑ q : Fin 2048, x (ix2 r q) * w (ix3 (0 : Fin 1) k q) := by
  unfold out3_3
  rw [View.canon_unit_zero (S := S1024x512) hz, View.ld_unit_zero (S := S1024x2048) hz, View.ld_unit_zero (S := S1x512x2048) hz3]
  unfold k3_pay1
  pointwise

theorem da_i0 : ∀ t : Fin grid3.N, win3_0.index t 0 = t.val / 11 ∧ win3_0.index t 1 = 0 := by decide +kernel
theorem da_i1 : ∀ t : Fin grid3.N, win3_1.index t 0 = 0 ∧ win3_1.index t 1 = t.val % 11 ∧ win3_1.index t 2 = 0 := by decide +kernel
theorem da_i3 : ∀ t : Fin grid3.N, win3_3.index t 0 = t.val / 11 ∧ win3_3.index t 1 = t.val % 11 := by decide +kernel
theorem da_inj : ∀ t t' : Fin grid3.N, win3_3.index t = win3_3.index t' → t = t' := by decide +kernel
theorem da_flush : ∀ t : Fin grid3.N, win3_3.flush t = true := by decide +kernel

/-- The output's gradient and the weight, and their blocks at a grid point. -/
abbrev daD : Vec Ideal S2048x2048 .bf16 := V c main_arg5
abbrev daW : Vec Ideal S1x5632x2048 .bf16 := V c main_arg4
abbrev da_bD (t : Fin cfg3.N) : Vec Ideal S1024x2048 .bf16 := iblk3 V c 0 t
abbrev da_bW (t : Fin cfg3.N) : Vec Ideal S1x512x2048 .bf16 := iblk3 V c 1 t
abbrev da_bT (t : Fin cfg3.N) : Vec Ideal S16x128 .bf16 := iblk3 V c 2 t

theorem da_blkD (t : Fin cfg3.N) (r : Fin 1024) (q : Fin 2048) (i : Fin 2048) (hi : i.val = t.val / 11 * 1024 + r.val) :
    da_bD V c t (ix2 r q) = daD V c (ix2 i q) := by
  unfold da_bD iblk3
  rw [View.read_apply]
  refine congrArg (V c main_arg5) (funext fun a => Fin.ext ?_)
  have h := da_i0 t
  match a with
  | ⟨0, _⟩ => show win3_0.index t 0 * 1024 + 1 * r.val = i.val; rw [h.1]; omega
  | ⟨1, _⟩ => show win3_0.index t 1 * 2048 + 1 * q.val = q.val; rw [h.2]; omega

theorem da_blkW (t : Fin cfg3.N) (k : Fin 512) (q : Fin 2048) (j : Fin 5632) (hj : j.val = t.val % 11 * 512 + k.val) :
    da_bW V c t (ix3 (0 : Fin 1) k q) = daW V c (ix3 (0 : Fin 1) j q) := by
  unfold da_bW iblk3
  rw [View.read_apply]
  refine congrArg (V c main_arg4) (funext fun a => Fin.ext ?_)
  have h := da_i1 t
  match a with
  | ⟨0, _⟩ => show win3_1.index t 0 * 1 + 1 * 0 = 0; rw [h.1]
  | ⟨1, _⟩ => show win3_1.index t 1 * 512 + 1 * k.val = j.val; rw [h.2.1]; omega
  | ⟨2, _⟩ => show win3_1.index t 2 * 2048 + 1 * q.val = q.val; rw [h.2.2]; omega

theorem da_entry (t : Fin cfg3.N) (r : Fin 1024) (s : Fin 512) (i : Fin 2048) (j : Fin 5632)
    (hi : i.val = t.val / 11 * 1024 + r.val) (hj : j.val = t.val % 11 * 512 + s.val) :
    ((dat3 V c).arrAt 3 cfg3.N : Vec Ideal S2048x5632 .bf16) (ix2 i j)
      = out3_3 (da_bD V c t) (da_bW V c t) (da_bT V c t) (ix2 r s) := by
  have hb := congrFun ((dat3 V c).read_blk_arrAt_eq_flushed 3
    (fun t t' _ _ hne => (cfg3.win 3).disjoint_blk fun h => hne (da_inj t t' h)) cfg3.N t t.isLt (da_flush t)) (ix2 r s)
  have hf : (dat3 V c).flushed 3 t = (cfg3.win 3).cut (grid3.coords t) (out3_3 (da_bD V c t) (da_bW V c t) (da_bT V c t)) := by
    show (cfg3.win 3).cut (grid3.coords t) ((dat3 V c).after 3 t) = _
    rw [after3_3]
  rw [hf, View.read_apply] at hb
  refine Eq.trans ?_ hb
  refine congrArg ((dat3 V c).arrAt 3 cfg3.N) (funext fun a => Fin.ext ?_)
  have h := da_i3 t
  match a with
  | ⟨0, _⟩ => show i.val = win3_3.index t 0 * 1024 + 1 * r.val; rw [h.1]; omega
  | ⟨1, _⟩ => show j.val = win3_3.index t 1 * 512 + 1 * s.val; rw [h.2]; omega

/-- The activation's gradient, index by index. -/
theorem da_apply (i : Fin 2048) (j : Fin 5632) :
    ((dat3 V c).arrAt 3 cfg3.N : Vec Ideal S2048x5632 .bf16) (ix2 i j)
      = ∑ q : Fin 2048, daD V c (ix2 i q) * daW V c (ix3 (0 : Fin 1) j q) := by
  have hi := i.isLt; have hj := j.isLt
  let t : Fin cfg3.N := ⟨i.val / 1024 * 11 + j.val / 512, lt_of_lt_of_eq (by omega : _ < 22) (by decide +kernel : 22 = grid3.N)⟩
  have ht : t.val = i.val / 1024 * 11 + j.val / 512 := rfl
  rw [da_entry V c t ⟨i.val % 1024, by omega⟩ ⟨j.val % 512, by omega⟩ i j (by show i.val = _ + i.val % 1024; omega)
    (by show j.val = _ + j.val % 512; omega), da_out]
  refine sum_eq fun q => ?_
  rw [da_blkD V c t _ q i (by show i.val = _ + i.val % 1024; omega), da_blkW V c t _ q j (by show j.val = _ + j.val % 512; omega)]

end Cert.FfnBwdIdeal.Products

end
-- ==== Proof.Taps.lean ====
/-
  The three taps of a short convolution along the rows, as functions of a column: the row before, the row
  after, both zero beyond the ends, and what a kernel's rotate and select read.
-/
module

public import proofs.«01_k».proof.Proof.Sums
public import Idealize.ShloMosaic.Lib.Pointwise
public import Idealize.ShloMosaic.Lib.WordCmp

@[expose] public section

noncomputable section

namespace Cert.Taps

open Idealize.ShloMosaic

/-- A column's entry one row up, zero above the first row. -/
def prev (x : Fin 2048 → EReal) (i : Fin 2048) : EReal := if i.val = 0 then 0 else x ⟨i.val - 1, by omega⟩
/-- A column's entry one row down, zero below the last row. -/
def next (x : Fin 2048 → EReal) (i : Fin 2048) : EReal := if h : i.val < 2047 then x ⟨i.val + 1, by omega⟩ else 0
/-- The convolution: the taps times the row before, the row itself and the row after. -/
def conv (w : Fin 3 → EReal) (x : Fin 2048 → EReal) (i : Fin 2048) : EReal := prev x i * w 0 + x i * w 1 + next x i * w 2
/-- Its transpose: the taps times the row after, the row itself and the row before. -/
def convT (w : Fin 3 → EReal) (x : Fin 2048 → EReal) (i : Fin 2048) : EReal := next x i * w 0 + x i * w 1 + prev x i * w 2
/-- The gradient of each tap, from the gradient `d` of the convolution and the column `x` it was taken of. -/
def dtap (d x : Fin 2048 → EReal) (r : Fin 3) : EReal :=
  if r.val = 0 then ∑ i, next d i * x i else if r.val = 1 then ∑ i, d i * x i else ∑ i, prev d i * x i

theorem dtap_0 (d x : Fin 2048 → EReal) : dtap d x 0 = ∑ i, next d i * x i := if_pos rfl
theorem dtap_1 (d x : Fin 2048 → EReal) : dtap d x 1 = ∑ i, d i * x i := (if_neg (by decide)).trans (if_pos rfl)
theorem dtap_2 (d x : Fin 2048 → EReal) : dtap d x 2 = ∑ i, prev d i * x i := (if_neg (by decide)).trans (if_neg (by decide))

variable {n : Nat}

theorem prev_apply (v : FVec Ideal (⟨2, ![2048, n]⟩ : Shape) .f32) (hi hr) (i : Fin 2048) (k : Fin n) :
    select (cmpi .eq (iota .tc (⟨2, ![2048, n]⟩ : Shape) 32 [0] hi) (broadcast _ 0#32))
      (broadcast _ (Scalar.ofBits .f32 0x00000000#32 : Ideal .f32)) (dynamicRotate 0 1#32 none v hr) (ix2 i k)
      = prev (fun r => v (ix2 r k)) i := by
  pointwise
  have hi := i.isLt
  have hc := Idealize.ShloMosaic.WordCmp.cmpi_eq_ofNat (w := 32) (a := i.val) (b := 0) (by omega) (by omega)
  unfold prev
  by_cases h : i.val = 0
  · rw [if_pos h]
    have e : IntOp.cmpi CmpIPredicate.eq (BitVec.ofNat 32 i.val) 0#32 = 1#1 := by rw [hc, decide_eq_true h]; rfl
    rw [e]
    rfl
  · rw [if_neg h]
    have e : IntOp.cmpi CmpIPredicate.eq (BitVec.ofNat 32 i.val) 0#32 = 0#1 := by rw [hc, decide_eq_false h]; rfl
    rw [e]
    show v _ = v _
    refine congrArg v (funext fun b => Fin.ext ?_)
    match b with
    | ⟨0, _⟩ => show (i.val + 2048 - 1 % 2048) % 2048 = i.val - 1; omega
    | ⟨1, _⟩ => rfl

theorem next_apply (v : FVec Ideal (⟨2, ![2048, n]⟩ : Shape) .f32) (hi hr) (i : Fin 2048) (k : Fin n) :
    select (cmpi .eq (iota .tc (⟨2, ![2048, n]⟩ : Shape) 32 [0] hi) (broadcast _ 2047#32))
      (broadcast _ (Scalar.ofBits .f32 0x00000000#32 : Ideal .f32)) (dynamicRotate 0 2047#32 none v hr) (ix2 i k)
      = next (fun r => v (ix2 r k)) i := by
  pointwise
  have hi := i.isLt
  have hc := Idealize.ShloMosaic.WordCmp.cmpi_eq_ofNat (w := 32) (a := i.val) (b := 2047) (by omega) (by omega)
  unfold next
  by_cases h : i.val = 2047
  · rw [dif_neg (by omega)]
    have e : IntOp.cmpi CmpIPredicate.eq (BitVec.ofNat 32 i.val) 2047#32 = 1#1 := by rw [hc, decide_eq_true h]; rfl
    rw [e]
    rfl
  · rw [dif_pos (by omega)]
    have e : IntOp.cmpi CmpIPredicate.eq (BitVec.ofNat 32 i.val) 2047#32 = 0#1 := by rw [hc, decide_eq_false h]; rfl
    rw [e]
    show v _ = v _
    refine congrArg v (funext fun b => Fin.ext ?_)
    match b with
    | ⟨0, _⟩ => show (i.val + 2048 - 2047 % 2048) % 2048 = i.val + 1; omega
    | ⟨1, _⟩ => rfl

/-- The row before as a select on the row's number, times a factor. -/
theorem prev_mul (f : Fin 2048 → EReal) (c : EReal) (i : Fin 2048) (h) :
    Scalar.select (IntOp.cmpi CmpIPredicate.eq (BitVec.ofNat 32 i.val) 0#32) 0 (f ⟨(i.val + 2048 - 1) % 2048, h⟩ * c) = prev f i * c := by
  have hi := i.isLt
  have hc := WordCmp.cmpi_eq_ofNat (w := 32) (a := i.val) (b := 0) (by omega) (by omega)
  unfold prev
  by_cases h : i.val = 0
  · have e : IntOp.cmpi CmpIPredicate.eq (BitVec.ofNat 32 i.val) 0#32 = 1#1 := by rw [hc, decide_eq_true h]; rfl
    rw [if_pos h, e, zero_mul]
    rfl
  · have e : IntOp.cmpi CmpIPredicate.eq (BitVec.ofNat 32 i.val) 0#32 = 0#1 := by rw [hc, decide_eq_false h]; rfl
    rw [if_neg h, e]
    exact congrArg (fun r => f r * c) (Fin.ext (by show (i.val + 2048 - 1) % 2048 = i.val - 1; omega))

/-- The row after as a select on the row's number, times a factor. -/
theorem next_mul (f : Fin 2048 → EReal) (c : EReal) (i : Fin 2048) (h) :
    Scalar.select (IntOp.cmpi CmpIPredicate.eq (BitVec.ofNat 32 i.val) 2047#32) 0 (f ⟨(i.val + 2048 - 2047) % 2048, h⟩ * c) = next f i * c := by
  have hi := i.isLt
  have hc := WordCmp.cmpi_eq_ofNat (w := 32) (a := i.val) (b := 2047) (by omega) (by omega)
  unfold next
  by_cases h : i.val = 2047
  · have e : IntOp.cmpi CmpIPredicate.eq (BitVec.ofNat 32 i.val) 2047#32 = 1#1 := by rw [hc, decide_eq_true h]; rfl
    rw [dif_neg (by omega), e, zero_mul]
    rfl
  · have e : IntOp.cmpi CmpIPredicate.eq (BitVec.ofNat 32 i.val) 2047#32 = 0#1 := by rw [hc, decide_eq_false h]; rfl
    rw [dif_pos (by omega), e]
    exact congrArg (fun r => f r * c) (Fin.ext (by show (i.val + 2048 - 2047) % 2048 = i.val + 1; omega))

/-! ## The gate -/

/-- The logistic function as the programs compute it. -/
def sigm (x : EReal) : EReal := Ideal.div 1 (1 + Ideal.exp (0 - x))
theorem sigm_neg (x : EReal) : sigm x = Ideal.div 1 (1 + Ideal.exp (-x)) := by unfold sigm; rw [zero_sub]
/-- The gate's value times its logistic, times the value gated. -/
def gate (g u : EReal) : EReal := g * sigm g * u
/-- The gradient of the gate's value, as the kernel forms it. -/
def dgate (da g u : EReal) : EReal := da * u * (sigm g * (1 + g * (1 - sigm g)))
/-- The gradient of the value gated. -/
def dgated (da g : EReal) : EReal := da * (g * sigm g)

end Cert.Taps

end
-- ==== Proof.FfnGate.lean ====
/-
  The two convolution-and-gate kernels of the feed-forward chain on their blocks: what each output block holds, column
  by column.
-/
module

public import proofs.«01_k».proof.Proof.Gen.FfnBwdIdeal.Frame
public import proofs.«01_k».proof.Proof.Taps

@[expose] public section

set_option maxRecDepth 16384

noncomputable section

namespace Cert.FfnBwdIdeal.Gate

open Idealize.ShloMosaic Idealize.ShloMosaic.TcCoe Idealize.SL.Sem
open Cert.FfnBwdIdeal Cert.FfnBwdIdeal.Gen Cert.Sums Cert.Taps

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

/-- A column of a block, and the taps of a column. -/
abbrev col (x : Vec Ideal S2048x256 .bf16) (k : Fin 256) (i : Fin 2048) : EReal := x (ix2 i k)
abbrev tap (w : Vec Ideal S1x3x256 .f32) (k : Fin 256) (r : Fin 3) : EReal := w (ix3 (0 : Fin 1) r k)
/-- A column of the convolution with its bias. -/
abbrev cc (x : Vec Ideal S2048x256 .bf16) (w : Vec Ideal S1x3x256 .f32) (b : Vec Ideal S1x256 .f32) (k : Fin 256) (i : Fin 2048) : EReal :=
  conv (tap w k) (col x k) i + b (ix2 (0 : Fin 1) k)
/-- A column of the gradients of the two gated halves, from the forward's two halves `g`, `u` and the activation's gradient `d`. -/
abbrev dg (g u d : Vec Ideal S2048x256 .bf16) (k : Fin 256) (i : Fin 2048) : EReal := dgate (d (ix2 i k)) (g (ix2 i k)) (u (ix2 i k))
abbrev du (g d : Vec Ideal S2048x256 .bf16) (k : Fin 256) (i : Fin 2048) : EReal := dgated (d (ix2 i k)) (g (ix2 i k))

/-! ## The forward kernel -/

theorem fwd_gate (x : Vec Ideal S2048x256 .bf16) (w : Vec Ideal S1x3x256 .f32) (b : Vec Ideal S1x256 .f32) (i : Fin 2048) (k : Fin 256) :
    k1_pay5 x w b (ix2 i k) = cc x w b k i := by
  unfold k1_pay5
  pointwise
  exact congrArg₂ (· + ·) (congrArg₂ (· + ·) (congrArg (· + _) (prev_mul (fun i => x (ix2 i k)) _ i _))
    (next_mul (fun i => x (ix2 i k)) _ i _)) rfl

theorem fwd_gated (x : Vec Ideal S2048x256 .bf16) (w : Vec Ideal S1x3x256 .f32) (b : Vec Ideal S1x256 .f32) (i : Fin 2048) (k : Fin 256) :
    k1_pay1 (k1_pay6 x) (k1_pay7 w) k1_pay8 1#32 b (ix2 i k) = cc x w b k i := by
  unfold k1_pay1 k1_pay6 k1_pay7 k1_pay8
  pointwise
  exact congrArg₂ (· + ·) (congrArg₂ (· + ·) (congrArg (· + _) (prev_mul (fun i => x (ix2 i k)) _ i _))
    (next_mul (fun i => x (ix2 i k)) _ i _)) rfl

theorem fwd_act (g x : FVec Ideal S2048x256 .f32) (w : FVec Ideal S3x256 .f32) (c b) (i : Fin 2048) (k : Fin 256) :
    k1_pay2 g x w c 1#32 b (ix2 i k) = gate (g (ix2 i k)) (k1_pay1 x w c 1#32 b (ix2 i k)) := by
  unfold k1_pay2 gate sigm
  pointwise

section
variable (x0 x1 : Vec Ideal S2048x256 .bf16) (x2 x3 : Vec Ideal S1x3x256 .f32) (x4 x5 : Vec Ideal S1x256 .f32) (i : Fin 2048) (k : Fin 256)

theorem out_g : out1_7 x0 x1 x2 x3 x4 x5 (ix2 i k) = cc x0 x2 x4 k i := by
  unfold out1_7 k1_pay9 k1_pay3
  rw [View.canon_unit_zero (S := S2048x256) hz, View.ld_unit_zero (S := S2048x256) hz, View.ld_unit_zero (S := S1x3x256) hz3,
    View.ld_unit_zero (S := S1x256) hz]
  exact fwd_gate x0 x2 x4 i k

theorem out_u : out1_8 x0 x1 x2 x3 x4 x5 (ix2 i k) = cc x1 x3 x5 k i := by
  unfold out1_8 k1_pay10 k1_pay11 k1_pay12 k1_pay4
  rw [View.canon_unit_zero (S := S2048x256) hz, View.ld_unit_zero (S := S2048x256) hz, View.ld_unit_zero (S := S1x3x256) hz3,
    View.ld_unit_zero (S := S1x256) hz]
  exact fwd_gated x1 x3 x5 i k

theorem out_act : out1_6 x0 x1 x2 x3 x4 x5 (ix2 i k) = gate (cc x0 x2 x4 k i) (cc x1 x3 x5 k i) := by
  unfold out1_6 k1_pay9 k1_pay10 k1_pay11 k1_pay12
  rw [View.canon_unit_zero (S := S2048x256) hz, View.ld_unit_zero (S := S2048x256) hz, View.ld_unit_zero (S := S2048x256) hz,
    View.ld_unit_zero (S := S1x3x256) hz3, View.ld_unit_zero (S := S1x3x256) hz3, View.ld_unit_zero (S := S1x256) hz,
    View.ld_unit_zero (S := S1x256) hz, fwd_act, fwd_gate, fwd_gated]
end

/-! ## The backward kernel -/

theorem bwd_dg (g u d : Vec Ideal S2048x256 .bf16) (i : Fin 2048) (k : Fin 256) : k4_pay5 g u d (ix2 i k) = dg g u d k i := by
  unfold k4_pay5 k4_pay4 k4_pay3 k4_pay2 dg dgate sigm
  pointwise

theorem bwd_du (g d : Vec Ideal S2048x256 .bf16) (i : Fin 2048) (k : Fin 256) :
    k4_pay16 (k4_pay2 g) (k4_pay3 d) (k4_pay4 g) (ix2 i k) = du g d k i := by
  unfold k4_pay16 k4_pay4 k4_pay3 k4_pay2 du dgated sigm
  pointwise

theorem bwd_next (g u d : Vec Ideal S2048x256 .bf16) (i : Fin 2048) (k : Fin 256) : k4_pay8 g u d (ix2 i k) = next (dg g u d k) i := by
  refine (next_apply (k4_pay5 g u d) _ _ i k).trans ?_
  exact congrArg (fun f => next f i) (funext fun r => bwd_dg g u d r k)

theorem bwd_prev (g u d : Vec Ideal S2048x256 .bf16) (i : Fin 2048) (k : Fin 256) :
    k4_pay10 (k4_pay5 g u d) k4_pay9 1#32 (ix2 i k) = prev (dg g u d k) i := by
  refine (prev_apply (k4_pay5 g u d) _ _ i k).trans ?_
  exact congrArg (fun f => prev f i) (funext fun r => bwd_dg g u d r k)

theorem bwd_next' (v : FVec Ideal S2048x256 .f32) (i : Fin 2048) (k : Fin 256) : k4_pay19 v (ix2 i k) = next (fun r => v (ix2 r k)) i :=
  next_apply v _ _ i k
theorem bwd_prev' (v : FVec Ideal S2048x256 .f32) (i : Fin 2048) (k : Fin 256) : k4_pay20 v (ix2 i k) = prev (fun r => v (ix2 r k)) i :=
  prev_apply v _ _ i k

theorem pay11 (v : FVec Ideal S2048x256 .f32) (w v34 c a) (i : Fin 2048) (k : Fin 256) :
    k4_pay11 v w v34 c a (ix2 i k) = v34 (ix2 i k) * w (ix2 0 k) + v (ix2 i k) * w (ix2 1 k) + k4_pay10 v c a (ix2 i k) * w (ix2 2 k) := by
  unfold k4_pay11
  pointwise
theorem pay21 (v : FVec Ideal S2048x256 .f32) (w) (i : Fin 2048) (k : Fin 256) :
    k4_pay21 v w (ix2 i k) = k4_pay19 v (ix2 i k) * w (ix2 0 k) + v (ix2 i k) * w (ix2 1 k) + k4_pay20 v (ix2 i k) * w (ix2 2 k) := by
  unfold k4_pay21
  pointwise
theorem pay6 (w : Vec Ideal S1x3x256 .f32) (r : Fin 3) (k : Fin 256) : k4_pay6 w (ix2 r k) = tap w k r := by
  unfold k4_pay6
  pointwise
theorem pay17 (w : Vec Ideal S1x3x256 .f32) (r : Fin 3) (k : Fin 256) : k4_pay17 w (ix2 r k) = tap w k r := by
  unfold k4_pay17
  pointwise
theorem pay7 (x : Vec Ideal S2048x256 .bf16) (i : Fin 2048) (k : Fin 256) : k4_pay7 x (ix2 i k) = col x k i := by
  unfold k4_pay7
  pointwise
theorem pay12 (v v' : FVec Ideal S2048x256 .f32) (i : Fin 1) (k : Fin 256) : k4_pay12 v v' (ix2 i k) = ∑ r, v' (ix2 r k) * v (ix2 r k) := by
  unfold k4_pay12
  pointwise
theorem pay13 (v v' : FVec Ideal S2048x256 .f32) (i : Fin 1) (k : Fin 256) : k4_pay13 v v' (ix2 i k) = ∑ r, v (ix2 r k) * v' (ix2 r k) := by
  unfold k4_pay13
  pointwise
theorem pay14 (v v' : FVec Ideal S2048x256 .f32) (c a) (i : Fin 1) (k : Fin 256) :
    k4_pay14 v v' c a (ix2 i k) = ∑ r, k4_pay10 v c a (ix2 r k) * v' (ix2 r k) := by
  unfold k4_pay14
  pointwise
theorem pay15 (v : FVec Ideal S2048x256 .f32) (i : Fin 1) (k : Fin 256) : k4_pay15 v (ix2 i k) = ∑ r, v (ix2 r k) := by
  unfold k4_pay15
  pointwise
theorem pay1 (v : FVec Ideal S2048x256 .f32) (i : Fin 1) (k : Fin 256) : k4_pay1 v (ix2 i k) = ∑ r, v (ix2 r k) := by
  unfold k4_pay1
  pointwise
theorem pay18 (x : Vec Ideal S2048x256 .bf16) (i : Fin 2048) (k : Fin 256) : k4_pay18 x (ix2 i k) = col x k i := by
  unfold k4_pay18
  pointwise
theorem pay22 (v : FVec Ideal S2048x256 .f32) (x) (i : Fin 1) (k : Fin 256) :
    k4_pay22 v x (ix2 i k) = ∑ r, k4_pay19 v (ix2 r k) * k4_pay18 x (ix2 r k) := by
  unfold k4_pay22
  pointwise
theorem pay23 (v : FVec Ideal S2048x256 .f32) (x) (i : Fin 1) (k : Fin 256) :
    k4_pay23 v x (ix2 i k) = ∑ r, v (ix2 r k) * k4_pay18 x (ix2 r k) := by
  unfold k4_pay23
  pointwise
theorem pay24 (v : FVec Ideal S2048x256 .f32) (x) (i : Fin 1) (k : Fin 256) :
    k4_pay24 v x (ix2 i k) = ∑ r, k4_pay20 v (ix2 r k) * k4_pay18 x (ix2 r k) := by
  unfold k4_pay24
  pointwise

/-! Three rows stored one by one. -/

theorem notin1 (k : Fin 256) : (ix2 (1 : Fin 3) k : S3x256.Idx) ∉ r4_4.set := fun h => by
  obtain ⟨x, hx⟩ := r4_4.exists_idx_of_mem h
  have h0 := congrArg (fun y => (y 0).val) hx
  have : 2 + 1 * (x 0).val = 1 := h0
  omega
theorem notin0 (k : Fin 256) : (ix2 (0 : Fin 3) k : S3x256.Idx) ∉ r4_4.set := fun h => by
  obtain ⟨x, hx⟩ := r4_4.exists_idx_of_mem h
  have h0 := congrArg (fun y => (y 0).val) hx
  have : 2 + 1 * (x 0).val = 0 := h0
  omega
theorem notin0' (k : Fin 256) : (ix2 (0 : Fin 3) k : S3x256.Idx) ∉ r4_3.set := fun h => by
  obtain ⟨x, hx⟩ := r4_3.exists_idx_of_mem h
  have h0 := congrArg (fun y => (y 0).val) hx
  have : 1 + 1 * (x 0).val = 0 := h0
  omega
theorem in0 (k : Fin 256) : r4_2.emb (ix2 (0 : Fin 1) k : S1x256.Idx) = ix2 (0 : Fin 3) k := funext fun a => Fin.ext (by
  match a with
  | ⟨0, _⟩ => rfl
  | ⟨1, _⟩ => show 0 + 1 * k.val = k.val; omega)
theorem in1 (k : Fin 256) : r4_3.emb (ix2 (0 : Fin 1) k : S1x256.Idx) = ix2 (1 : Fin 3) k := funext fun a => Fin.ext (by
  match a with
  | ⟨0, _⟩ => rfl
  | ⟨1, _⟩ => show 0 + 1 * k.val = k.val; omega)
theorem in2 (k : Fin 256) : r4_4.emb (ix2 (0 : Fin 1) k : S1x256.Idx) = ix2 (2 : Fin 3) k := funext fun a => Fin.ext (by
  match a with
  | ⟨0, _⟩ => rfl
  | ⟨1, _⟩ => show 0 + 1 * k.val = k.val; omega)

/-- What three rows stored one by one leave. -/
abbrev three (p2 p1 p0 : Vec Ideal S1x256 .f32) : Vec Ideal S3x256 .f32 := View.canon [⟨r4_4, p2⟩, ⟨r4_3, p1⟩, ⟨r4_2, p0⟩]
theorem three_2 (p2 p1 p0 : Vec Ideal S1x256 .f32) (k : Fin 256) : three p2 p1 p0 (ix2 (2 : Fin 3) k) = p2 (ix2 (0 : Fin 1) k) := by
  rw [← in2 k]
  exact View.canon_cons_emb (Val := Elt Ideal) r4_4 p2 [⟨r4_3, p1⟩, ⟨r4_2, p0⟩] (ix2 (0 : Fin 1) k)
theorem three_1 (p2 p1 p0 : Vec Ideal S1x256 .f32) (k : Fin 256) : three p2 p1 p0 (ix2 (1 : Fin 3) k) = p1 (ix2 (0 : Fin 1) k) := by
  refine (View.canon_cons_of_not_mem (Val := Elt Ideal) ⟨r4_4, p2⟩ [⟨r4_3, p1⟩, ⟨r4_2, p0⟩] (notin1 k)).trans ?_
  rw [← in1 k]
  exact View.canon_cons_emb (Val := Elt Ideal) r4_3 p1 [⟨r4_2, p0⟩] (ix2 (0 : Fin 1) k)
theorem three_0 (p2 p1 p0 : Vec Ideal S1x256 .f32) (k : Fin 256) : three p2 p1 p0 (ix2 (0 : Fin 3) k) = p0 (ix2 (0 : Fin 1) k) := by
  refine (View.canon_cons_of_not_mem (Val := Elt Ideal) ⟨r4_4, p2⟩ [⟨r4_3, p1⟩, ⟨r4_2, p0⟩] (notin0 k)).trans ?_
  refine (View.canon_cons_of_not_mem (Val := Elt Ideal) ⟨r4_3, p1⟩ [⟨r4_2, p0⟩] (notin0' k)).trans ?_
  rw [← in0 k]
  exact View.canon_cons_emb (Val := Elt Ideal) r4_2 p0 [] (ix2 (0 : Fin 1) k)

theorem rows (p2 p1 p0 : Vec Ideal S1x256 .f32) (f : Fin 3 → EReal) (k : Fin 256) (h0 : p0 (ix2 (0 : Fin 1) k) = f 0)
    (h1 : p1 (ix2 (0 : Fin 1) k) = f 1) (h2 : p2 (ix2 (0 : Fin 1) k) = f 2) (r : Fin 3) : three p2 p1 p0 (ix2 r k) = f r := by
  match r with
  | ⟨0, _⟩ => exact (three_0 p2 p1 p0 k).trans h0
  | ⟨1, _⟩ => exact (three_1 p2 p1 p0 k).trans h1
  | ⟨2, _⟩ => exact (three_2 p2 p1 p0 k).trans h2

section
variable (x0 x1 x2 x3 : Vec Ideal S2048x256 .bf16) (x4 x5 : Vec Ideal S1x3x256 .f32) (x6 : Vec Ideal S2048x256 .bf16)

theorem e25 : k4_pay25 x0 x1 x2 x3 x4 x5 x6 = k4_pay5 x2 x3 x6 := by
  unfold k4_pay25; rw [View.ld_unit_zero (S := S2048x256) hz, View.ld_unit_zero (S := S2048x256) hz, View.ld_unit_zero (S := S2048x256) hz]
theorem e26 : k4_pay26 x0 x1 x2 x3 x4 x5 x6 = k4_pay7 x0 := by
  unfold k4_pay26; rw [View.ld_unit_zero (S := S2048x256) hz]
theorem e27 : k4_pay27 x0 x1 x2 x3 x4 x5 x6 = k4_pay8 x2 x3 x6 := by
  unfold k4_pay27; rw [View.ld_unit_zero (S := S2048x256) hz, View.ld_unit_zero (S := S2048x256) hz, View.ld_unit_zero (S := S2048x256) hz]
theorem e29 : k4_pay29 x0 x1 x2 x3 x4 x5 x6 = k4_pay16 (k4_pay2 x2) (k4_pay3 x6) (k4_pay4 x2) := by
  unfold k4_pay29; rw [View.ld_unit_zero (S := S2048x256) hz, View.ld_unit_zero (S := S2048x256) hz]

theorem out_dug (i : Fin 2048) (k : Fin 256) : out4_7 x0 x1 x2 x3 x4 x5 x6 (ix2 i k) = convT (tap x4 k) (dg x2 x3 x6 k) i := by
  unfold out4_7 k4_pay28
  rw [View.canon_unit_zero (S := S2048x256) hz, View.ld_unit_zero (S := S1x3x256) hz3, e25, e27, pay11, bwd_next, bwd_dg, bwd_prev, pay6, pay6, pay6]
  rfl

theorem out_duu (i : Fin 2048) (k : Fin 256) : out4_8 x0 x1 x2 x3 x4 x5 x6 (ix2 i k) = convT (tap x5 k) (du x2 x6 k) i := by
  unfold out4_8
  rw [View.canon_unit_zero (S := S2048x256) hz, View.ld_unit_zero (S := S1x3x256) hz3, e29, pay21, bwd_next', bwd_prev', pay17, pay17, pay17]
  simp only [bwd_du]
  rfl

theorem out_dwg (r : Fin 3) (k : Fin 256) : out4_9 x0 x1 x2 x3 x4 x5 x6 (ix2 r k) = dtap (dg x2 x3 x6 k) (col x0 k) r := by
  unfold out4_9 k4_pay28
  refine rows _ _ _ (dtap (dg x2 x3 x6 k) (col x0 k)) k ?_ ?_ ?_ r
  · rw [e26, e27, pay12, dtap_0]
    exact sum_eq fun i => by rw [bwd_next, pay7]
  · rw [e25, e26, pay13, dtap_1]
    exact sum_eq fun i => by rw [bwd_dg, pay7]
  · rw [e25, e26, pay14, dtap_2]
    exact sum_eq fun i => by rw [bwd_prev, pay7]

theorem out_dwu (r : Fin 3) (k : Fin 256) : out4_10 x0 x1 x2 x3 x4 x5 x6 (ix2 r k) = dtap (du x2 x6 k) (col x1 k) r := by
  unfold out4_10
  refine rows _ _ _ (dtap (du x2 x6 k) (col x1 k)) k ?_ ?_ ?_ r
  · rw [e29, View.ld_unit_zero (S := S2048x256) hz, pay22, dtap_0]
    exact sum_eq fun i => by rw [bwd_next', pay18]; simp only [bwd_du]
  · rw [e29, View.ld_unit_zero (S := S2048x256) hz, pay23, dtap_1]
    exact sum_eq fun i => by rw [bwd_du, pay18]
  · rw [e29, View.ld_unit_zero (S := S2048x256) hz, pay24, dtap_2]
    exact sum_eq fun i => by rw [bwd_prev', pay18]; simp only [bwd_du]

theorem out_dbg (k : Fin 256) : out4_11 x0 x1 x2 x3 x4 x5 x6 (ix2 (0 : Fin 1) k) = ∑ i, dg x2 x3 x6 k i := by
  unfold out4_11
  rw [View.canon_unit_zero (S := S1x256) hz, e25, pay15]
  exact sum_eq fun i => bwd_dg x2 x3 x6 i k

theorem out_dbu (k : Fin 256) : out4_12 x0 x1 x2 x3 x4 x5 x6 (ix2 (0 : Fin 1) k) = ∑ i, du x2 x6 k i := by
  unfold out4_12
  rw [View.canon_unit_zero (S := S1x256) hz, e29, pay1]
  exact sum_eq fun i => bwd_du x2 x6 i k
end

end Cert.FfnBwdIdeal.Gate

end
-- ==== Proof.FfnColumns.lean ====
/-
  The feed-forward chain's two convolution-and-gate launches at the buffers they are entered with: every entry of their
  results, column by column. Column `j` of a half lies in block `j / 256`, and the halves' blocks are 22 apart.
-/
module

public import proofs.«01_k».proof.Proof.FfnGate

@[expose] public section

set_option maxRecDepth 16384

noncomputable section

namespace Cert.FfnBwdIdeal.Columns

open Idealize.ShloMosaic Idealize.ShloMosaic.TcCoe Idealize.SL.Sem
open Cert.FfnBwdIdeal Cert.FfnBwdIdeal.Gen Cert.FfnBwdIdeal.Gate Cert.Sums Cert.Taps

/-- A column of the first half of the 11264, and of the second. -/
abbrev lo (j : Fin 5632) : Fin 11264 := ⟨j.val, by omega⟩
abbrev hi (j : Fin 5632) : Fin 11264 := ⟨j.val + 5632, by omega⟩
/-- Column `j` of an array, the taps of column `j` (taken from its shard), and the convolution of column `j` with its bias. -/
abbrev colA (X : Vec Ideal S2048x11264 .bf16) (j : Fin 11264) (i : Fin 2048) : EReal := X (ix2 i j)
abbrev tapA (W : Vec Ideal S4x3x2816 .f32) (j : Fin 11264) (r : Fin 3) : EReal :=
  W (ix3 (⟨j.val / 2816, by omega⟩ : Fin 4) r (⟨j.val % 2816, by omega⟩ : Fin 2816))
abbrev ccA (X : Vec Ideal S2048x11264 .bf16) (W : Vec Ideal S4x3x2816 .f32) (B : Vec Ideal S1x11264 .f32) (j : Fin 11264) (i : Fin 2048) : EReal :=
  conv (tapA W j) (colA X j) i + B (ix2 (0 : Fin 1) j)
/-- The gradients of column `j` of the two halves. -/
abbrev dgA (G U D : Vec Ideal S2048x5632 .bf16) (j : Fin 5632) (i : Fin 2048) : EReal := dgate (D (ix2 i j)) (G (ix2 i j)) (U (ix2 i j))
abbrev duA (G D : Vec Ideal S2048x5632 .bf16) (j : Fin 5632) (i : Fin 2048) : EReal := dgated (D (ix2 i j)) (G (ix2 i j))

variable (V : (c : Dev nD) → (b : Ref sig .tc) → Buf (Elt Ideal) ((c : Thread nD τ).loc b)) (c : Dev nD)

abbrev aX : Vec Ideal S2048x11264 .bf16 := V c main_v0
abbrev aW : Vec Ideal S4x3x2816 .f32 := V c main_arg2
abbrev aB : Vec Ideal S1x11264 .f32 := V c main_arg3
abbrev aG : Vec Ideal S2048x5632 .bf16 := V c main_v1_1
abbrev aU : Vec Ideal S2048x5632 .bf16 := V c main_v1_2
abbrev aD : Vec Ideal S2048x5632 .bf16 := V c main_v5

/-- The column of a block. -/
abbrev off (j : Fin 5632) : Fin 256 := ⟨j.val % 256, by omega⟩

/-! ## The forward launch -/

/-- The grid point whose block holds column `j`, and the column within it. -/
abbrev pt1 (j : Fin 5632) : Fin cfg1.N := ⟨j.val / 256, lt_of_lt_of_eq (by omega : _ < 22) (by decide +kernel : 22 = grid1.N)⟩
theorem pt1_eq (j : Fin 5632) : j.val = (pt1 j).val * 256 + (off j).val := by show j.val = j.val / 256 * 256 + j.val % 256; omega

theorem i1_0 : ∀ t : Fin grid1.N, win1_0.index t 0 = 0 ∧ win1_0.index t 1 = t.val := by decide +kernel
abbrev b1_0 (t : Fin cfg1.N) : Vec Ideal S2048x256 .bf16 := iblk1 V c 0 t
theorem col1_0 (t : Fin cfg1.N) (k : Fin 256) (j : Fin 5632) (hj : j.val = t.val * 256 + k.val) (i : Fin 2048) :
    b1_0 V c t (ix2 i k) = aX V c (ix2 i (lo j)) := by
  unfold b1_0 iblk1
  rw [View.read_apply]
  refine congrArg (V c main_v0) (funext fun a => Fin.ext ?_)
  have h := i1_0 t
  match a with
  | ⟨0, _⟩ => show win1_0.index t 0 * 2048 + 1 * i.val = i.val; rw [h.1]; omega
  | ⟨1, _⟩ => show win1_0.index t 1 * 256 + 1 * k.val = j.val; rw [h.2]; omega

theorem i1_1 : ∀ t : Fin grid1.N, win1_1.index t 0 = 0 ∧ win1_1.index t 1 = t.val + 22 := by decide +kernel
abbrev b1_1 (t : Fin cfg1.N) : Vec Ideal S2048x256 .bf16 := iblk1 V c 1 t
theorem col1_1 (t : Fin cfg1.N) (k : Fin 256) (j : Fin 5632) (hj : j.val = t.val * 256 + k.val) (i : Fin 2048) :
    b1_1 V c t (ix2 i k) = aX V c (ix2 i (hi j)) := by
  unfold b1_1 iblk1
  rw [View.read_apply]
  refine congrArg (V c main_v0) (funext fun a => Fin.ext ?_)
  have h := i1_1 t
  match a with
  | ⟨0, _⟩ => show win1_1.index t 0 * 2048 + 1 * i.val = i.val; rw [h.1]; omega
  | ⟨1, _⟩ => show win1_1.index t 1 * 256 + 1 * k.val = j.val + 5632; rw [h.2]; omega

theorem i1_2 : ∀ t : Fin grid1.N, win1_2.index t 0 = t.val / 11 ∧ win1_2.index t 1 = 0 ∧ win1_2.index t 2 = t.val % 11 := by decide +kernel
abbrev b1_2 (t : Fin cfg1.N) : Vec Ideal S1x3x256 .f32 := iblk1 V c 2 t
theorem tap1_2 (t : Fin cfg1.N) (k : Fin 256) (j : Fin 5632) (hj : j.val = t.val * 256 + k.val) (r : Fin 3) :
    b1_2 V c t (ix3 (0 : Fin 1) r k) = tapA (aW V c) (lo j) r := by
  unfold b1_2 iblk1
  rw [View.read_apply]
  refine congrArg (V c main_arg2) (funext fun a => Fin.ext ?_)
  have h := i1_2 t
  match a with
  | ⟨0, _⟩ => show win1_2.index t 0 * 1 + 1 * 0 = j.val / 2816; rw [h.1]; omega
  | ⟨1, _⟩ => show win1_2.index t 1 * 3 + 1 * r.val = r.val; rw [h.2.1]; omega
  | ⟨2, _⟩ => show win1_2.index t 2 * 256 + 1 * k.val = j.val % 2816; rw [h.2.2]; omega

theorem i1_3 : ∀ t : Fin grid1.N, win1_3.index t 0 = (t.val + 22) / 11 ∧ win1_3.index t 1 = 0 ∧ win1_3.index t 2 = t.val % 11 := by decide +kernel
abbrev b1_3 (t : Fin cfg1.N) : Vec Ideal S1x3x256 .f32 := iblk1 V c 3 t
theorem tap1_3 (t : Fin cfg1.N) (k : Fin 256) (j : Fin 5632) (hj : j.val = t.val * 256 + k.val) (r : Fin 3) :
    b1_3 V c t (ix3 (0 : Fin 1) r k) = tapA (aW V c) (hi j) r := by
  unfold b1_3 iblk1
  rw [View.read_apply]
  refine congrArg (V c main_arg2) (funext fun a => Fin.ext ?_)
  have h := i1_3 t
  match a with
  | ⟨0, _⟩ => show win1_3.index t 0 * 1 + 1 * 0 = (j.val + 5632) / 2816; rw [h.1]; omega
  | ⟨1, _⟩ => show win1_3.index t 1 * 3 + 1 * r.val = r.val; rw [h.2.1]; omega
  | ⟨2, _⟩ => show win1_3.index t 2 * 256 + 1 * k.val = (j.val + 5632) % 2816; rw [h.2.2]; omega

theorem i1_4 : ∀ t : Fin grid1.N, win1_4.index t 0 = 0 ∧ win1_4.index t 1 = t.val := by decide +kernel
abbrev b1_4 (t : Fin cfg1.N) : Vec Ideal S1x256 .f32 := iblk1 V c 4 t
theorem bias1_4 (t : Fin cfg1.N) (k : Fin 256) (j : Fin 5632) (hj : j.val = t.val * 256 + k.val) :
    b1_4 V c t (ix2 (0 : Fin 1) k) = aB V c (ix2 (0 : Fin 1) (lo j)) := by
  unfold b1_4 iblk1
  rw [View.read_apply]
  refine congrArg (V c main_arg3) (funext fun a => Fin.ext ?_)
  have h := i1_4 t
  match a with
  | ⟨0, _⟩ => show win1_4.index t 0 * 1 + 1 * 0 = 0; rw [h.1]
  | ⟨1, _⟩ => show win1_4.index t 1 * 256 + 1 * k.val = j.val; rw [h.2]; omega

theorem i1_5 : ∀ t : Fin grid1.N, win1_5.index t 0 = 0 ∧ win1_5.index t 1 = t.val + 22 := by decide +kernel
abbrev b1_5 (t : Fin cfg1.N) : Vec Ideal S1x256 .f32 := iblk1 V c 5 t
theorem bias1_5 (t : Fin cfg1.N) (k : Fin 256) (j : Fin 5632) (hj : j.val = t.val * 256 + k.val) :
    b1_5 V c t (ix2 (0 : Fin 1) k) = aB V c (ix2 (0 : Fin 1) (hi j)) := by
  unfold b1_5 iblk1
  rw [View.read_apply]
  refine congrArg (V c main_arg3) (funext fun a => Fin.ext ?_)
  have h := i1_5 t
  match a with
  | ⟨0, _⟩ => show win1_5.index t 0 * 1 + 1 * 0 = 0; rw [h.1]
  | ⟨1, _⟩ => show win1_5.index t 1 * 256 + 1 * k.val = j.val + 5632; rw [h.2]; omega

theorem i1_6 : ∀ t : Fin grid1.N, win1_6.index t 0 = 0 ∧ win1_6.index t 1 = t.val := by decide +kernel
theorem inj1_6 : ∀ t t' : Fin grid1.N, win1_6.index t = win1_6.index t' → t = t' := by decide +kernel
theorem flush1_6 : ∀ t : Fin grid1.N, win1_6.flush t = true := by decide +kernel
theorem entry1_6 (t : Fin cfg1.N) (k : Fin 256) (j : Fin 5632) (hj : j.val = t.val * 256 + k.val) (i : Fin 2048) :
    ((dat1 V c).arrAt 6 cfg1.N : Vec Ideal S2048x5632 .bf16) (ix2 i j) = out1_6 (b1_0 V c t) (b1_1 V c t) (b1_2 V c t) (b1_3 V c t) (b1_4 V c t) (b1_5 V c t) (ix2 i k) := by
  have hb := congrFun ((dat1 V c).read_blk_arrAt_eq_flushed 6
    (fun t t' _ _ hne => (cfg1.win 6).disjoint_blk fun h => hne (inj1_6 t t' h)) cfg1.N t t.isLt (flush1_6 t)) (ix2 i k)
  have hf : (dat1 V c).flushed 6 t = (cfg1.win 6).cut (grid1.coords t) (out1_6 (b1_0 V c t) (b1_1 V c t) (b1_2 V c t) (b1_3 V c t) (b1_4 V c t) (b1_5 V c t)) := by
    show (cfg1.win 6).cut (grid1.coords t) ((dat1 V c).after 6 t) = _
    rw [after1_6]
  rw [hf, View.read_apply] at hb
  refine Eq.trans ?_ hb
  refine congrArg ((dat1 V c).arrAt 6 cfg1.N) (funext fun a => Fin.ext ?_)
  have h := i1_6 t
  match a with
  | ⟨0, _⟩ => show i.val = win1_6.index t 0 * 2048 + 1 * i.val; rw [h.1]; omega
  | ⟨1, _⟩ => show j.val = win1_6.index t 1 * 256 + 1 * k.val; rw [h.2]; omega

theorem i1_7 : ∀ t : Fin grid1.N, win1_7.index t 0 = 0 ∧ win1_7.index t 1 = t.val := by decide +kernel
theorem inj1_7 : ∀ t t' : Fin grid1.N, win1_7.index t = win1_7.index t' → t = t' := by decide +kernel
theorem flush1_7 : ∀ t : Fin grid1.N, win1_7.flush t = true := by decide +kernel
theorem entry1_7 (t : Fin cfg1.N) (k : Fin 256) (j : Fin 5632) (hj : j.val = t.val * 256 + k.val) (i : Fin 2048) :
    ((dat1 V c).arrAt 7 cfg1.N : Vec Ideal S2048x5632 .bf16) (ix2 i j) = out1_7 (b1_0 V c t) (b1_1 V c t) (b1_2 V c t) (b1_3 V c t) (b1_4 V c t) (b1_5 V c t) (ix2 i k) := by
  have hb := congrFun ((dat1 V c).read_blk_arrAt_eq_flushed 7
    (fun t t' _ _ hne => (cfg1.win 7).disjoint_blk fun h => hne (inj1_7 t t' h)) cfg1.N t t.isLt (flush1_7 t)) (ix2 i k)
  have hf : (dat1 V c).flushed 7 t = (cfg1.win 7).cut (grid1.coords t) (out1_7 (b1_0 V c t) (b1_1 V c t) (b1_2 V c t) (b1_3 V c t) (b1_4 V c t) (b1_5 V c t)) := by
    show (cfg1.win 7).cut (grid1.coords t) ((dat1 V c).after 7 t) = _
    rw [after1_7]
  rw [hf, View.read_apply] at hb
  refine Eq.trans ?_ hb
  refine congrArg ((dat1 V c).arrAt 7 cfg1.N) (funext fun a => Fin.ext ?_)
  have h := i1_7 t
  match a with
  | ⟨0, _⟩ => show i.val = win1_7.index t 0 * 2048 + 1 * i.val; rw [h.1]; omega
  | ⟨1, _⟩ => show j.val = win1_7.index t 1 * 256 + 1 * k.val; rw [h.2]; omega

theorem i1_8 : ∀ t : Fin grid1.N, win1_8.index t 0 = 0 ∧ win1_8.index t 1 = t.val := by decide +kernel
theorem inj1_8 : ∀ t t' : Fin grid1.N, win1_8.index t = win1_8.index t' → t = t' := by decide +kernel
theorem flush1_8 : ∀ t : Fin grid1.N, win1_8.flush t = true := by decide +kernel
theorem entry1_8 (t : Fin cfg1.N) (k : Fin 256) (j : Fin 5632) (hj : j.val = t.val * 256 + k.val) (i : Fin 2048) :
    ((dat1 V c).arrAt 8 cfg1.N : Vec Ideal S2048x5632 .bf16) (ix2 i j) = out1_8 (b1_0 V c t) (b1_1 V c t) (b1_2 V c t) (b1_3 V c t) (b1_4 V c t) (b1_5 V c t) (ix2 i k) := by
  have hb := congrFun ((dat1 V c).read_blk_arrAt_eq_flushed 8
    (fun t t' _ _ hne => (cfg1.win 8).disjoint_blk fun h => hne (inj1_8 t t' h)) cfg1.N t t.isLt (flush1_8 t)) (ix2 i k)
  have hf : (dat1 V c).flushed 8 t = (cfg1.win 8).cut (grid1.coords t) (out1_8 (b1_0 V c t) (b1_1 V c t) (b1_2 V c t) (b1_3 V c t) (b1_4 V c t) (b1_5 V c t)) := by
    show (cfg1.win 8).cut (grid1.coords t) ((dat1 V c).after 8 t) = _
    rw [after1_8]
  rw [hf, View.read_apply] at hb
  refine Eq.trans ?_ hb
  refine congrArg ((dat1 V c).arrAt 8 cfg1.N) (funext fun a => Fin.ext ?_)
  have h := i1_8 t
  match a with
  | ⟨0, _⟩ => show i.val = win1_8.index t 0 * 2048 + 1 * i.val; rw [h.1]; omega
  | ⟨1, _⟩ => show j.val = win1_8.index t 1 * 256 + 1 * k.val; rw [h.2]; omega

theorem cc_lo (j : Fin 5632) (i : Fin 2048) : cc (b1_0 V c (pt1 j)) (b1_2 V c (pt1 j)) (b1_4 V c (pt1 j)) (off j) i = ccA (aX V c) (aW V c) (aB V c) (lo j) i := by
  unfold cc ccA
  rw [bias1_4 V c _ _ j (pt1_eq j), show tap (b1_2 V c (pt1 j)) (off j) = tapA (aW V c) (lo j) from funext fun r => tap1_2 V c _ _ j (pt1_eq j) r,
    show col (b1_0 V c (pt1 j)) (off j) = colA (aX V c) (lo j) from funext fun r => col1_0 V c _ _ j (pt1_eq j) r]
theorem cc_hi (j : Fin 5632) (i : Fin 2048) : cc (b1_1 V c (pt1 j)) (b1_3 V c (pt1 j)) (b1_5 V c (pt1 j)) (off j) i = ccA (aX V c) (aW V c) (aB V c) (hi j) i := by
  unfold cc ccA
  rw [bias1_5 V c _ _ j (pt1_eq j), show tap (b1_3 V c (pt1 j)) (off j) = tapA (aW V c) (hi j) from funext fun r => tap1_3 V c _ _ j (pt1_eq j) r,
    show col (b1_1 V c (pt1 j)) (off j) = colA (aX V c) (hi j) from funext fun r => col1_1 V c _ _ j (pt1_eq j) r]

/-- The activation: the gate of the two halves' convolutions. -/
theorem act_apply (i : Fin 2048) (j : Fin 5632) : ((dat1 V c).arrAt 6 cfg1.N : Vec Ideal S2048x5632 .bf16) (ix2 i j)
    = gate (ccA (aX V c) (aW V c) (aB V c) (lo j) i) (ccA (aX V c) (aW V c) (aB V c) (hi j) i) := by
  rw [entry1_6 V c (pt1 j) (off j) j (pt1_eq j) i, out_act, cc_lo, cc_hi]
/-- The gate's half of the convolution. -/
theorem g_apply (i : Fin 2048) (j : Fin 5632) : ((dat1 V c).arrAt 7 cfg1.N : Vec Ideal S2048x5632 .bf16) (ix2 i j)
    = ccA (aX V c) (aW V c) (aB V c) (lo j) i := by
  rw [entry1_7 V c (pt1 j) (off j) j (pt1_eq j) i, out_g, cc_lo]
/-- The gated half. -/
theorem u_apply (i : Fin 2048) (j : Fin 5632) : ((dat1 V c).arrAt 8 cfg1.N : Vec Ideal S2048x5632 .bf16) (ix2 i j)
    = ccA (aX V c) (aW V c) (aB V c) (hi j) i := by
  rw [entry1_8 V c (pt1 j) (off j) j (pt1_eq j) i, out_u, cc_hi]

/-! ## The backward launch -/

/-- The grid point whose block holds column `j`, and the column within it. -/
abbrev pt4 (j : Fin 5632) : Fin cfg4.N := ⟨j.val / 256, lt_of_lt_of_eq (by omega : _ < 22) (by decide +kernel : 22 = grid4.N)⟩
theorem pt4_eq (j : Fin 5632) : j.val = (pt4 j).val * 256 + (off j).val := by show j.val = j.val / 256 * 256 + j.val % 256; omega

theorem i4_0 : ∀ t : Fin grid4.N, win4_0.index t 0 = 0 ∧ win4_0.index t 1 = t.val := by decide +kernel
abbrev b4_0 (t : Fin cfg4.N) : Vec Ideal S2048x256 .bf16 := iblk4 V c 0 t
theorem col4_0 (t : Fin cfg4.N) (k : Fin 256) (j : Fin 5632) (hj : j.val = t.val * 256 + k.val) (i : Fin 2048) :
    b4_0 V c t (ix2 i k) = aX V c (ix2 i (lo j)) := by
  unfold b4_0 iblk4
  rw [View.read_apply]
  refine congrArg (V c main_v0) (funext fun a => Fin.ext ?_)
  have h := i4_0 t
  match a with
  | ⟨0, _⟩ => show win4_0.index t 0 * 2048 + 1 * i.val = i.val; rw [h.1]; omega
  | ⟨1, _⟩ => show win4_0.index t 1 * 256 + 1 * k.val = j.val; rw [h.2]; omega

theorem i4_1 : ∀ t : Fin grid4.N, win4_1.index t 0 = 0 ∧ win4_1.index t 1 = t.val + 22 := by decide +kernel
abbrev b4_1 (t : Fin cfg4.N) : Vec Ideal S2048x256 .bf16 := iblk4 V c 1 t
theorem col4_1 (t : Fin cfg4.N) (k : Fin 256) (j : Fin 5632) (hj : j.val = t.val * 256 + k.val) (i : Fin 2048) :
    b4_1 V c t (ix2 i k) = aX V c (ix2 i (hi j)) := by
  unfold b4_1 iblk4
  rw [View.read_apply]
  refine congrArg (V c main_v0) (funext fun a => Fin.ext ?_)
  have h := i4_1 t
  match a with
  | ⟨0, _⟩ => show win4_1.index t 0 * 2048 + 1 * i.val = i.val; rw [h.1]; omega
  | ⟨1, _⟩ => show win4_1.index t 1 * 256 + 1 * k.val = j.val + 5632; rw [h.2]; omega

theorem i4_2 : ∀ t : Fin grid4.N, win4_2.index t 0 = 0 ∧ win4_2.index t 1 = t.val := by decide +kernel
abbrev b4_2 (t : Fin cfg4.N) : Vec Ideal S2048x256 .bf16 := iblk4 V c 2 t
theorem col4_2 (t : Fin cfg4.N) (k : Fin 256) (j : Fin 5632) (hj : j.val = t.val * 256 + k.val) (i : Fin 2048) :
    b4_2 V c t (ix2 i k) = aG V c (ix2 i j) := by
  unfold b4_2 iblk4
  rw [View.read_apply]
  refine congrArg (V c main_v1_1) (funext fun a => Fin.ext ?_)
  have h := i4_2 t
  match a with
  | ⟨0, _⟩ => show win4_2.index t 0 * 2048 + 1 * i.val = i.val; rw [h.1]; omega
  | ⟨1, _⟩ => show win4_2.index t 1 * 256 + 1 * k.val = j.val; rw [h.2]; omega

theorem i4_3 : ∀ t : Fin grid4.N, win4_3.index t 0 = 0 ∧ win4_3.index t 1 = t.val := by decide +kernel
abbrev b4_3 (t : Fin cfg4.N) : Vec Ideal S2048x256 .bf16 := iblk4 V c 3 t
theorem col4_3 (t : Fin cfg4.N) (k : Fin 256) (j : Fin 5632) (hj : j.val = t.val * 256 + k.val) (i : Fin 2048) :
    b4_3 V c t (ix2 i k) = aU V c (ix2 i j) := by
  unfold b4_3 iblk4
  rw [View.read_apply]
  refine congrArg (V c main_v1_2) (funext fun a => Fin.ext ?_)
  have h := i4_3 t
  match a with
  | ⟨0, _⟩ => show win4_3.index t 0 * 2048 + 1 * i.val = i.val; rw [h.1]; omega
  | ⟨1, _⟩ => show win4_3.index t 1 * 256 + 1 * k.val = j.val; rw [h.2]; omega

theorem i4_4 : ∀ t : Fin grid4.N, win4_4.index t 0 = t.val / 11 ∧ win4_4.index t 1 = 0 ∧ win4_4.index t 2 = t.val % 11 := by decide +kernel
abbrev b4_4 (t : Fin cfg4.N) : Vec Ideal S1x3x256 .f32 := iblk4 V c 4 t
theorem tap4_4 (t : Fin cfg4.N) (k : Fin 256) (j : Fin 5632) (hj : j.val = t.val * 256 + k.val) (r : Fin 3) :
    b4_4 V c t (ix3 (0 : Fin 1) r k) = tapA (aW V c) (lo j) r := by
  unfold b4_4 iblk4
  rw [View.read_apply]
  refine congrArg (V c main_arg2) (funext fun a => Fin.ext ?_)
  have h := i4_4 t
  match a with
  | ⟨0, _⟩ => show win4_4.index t 0 * 1 + 1 * 0 = j.val / 2816; rw [h.1]; omega
  | ⟨1, _⟩ => show win4_4.index t 1 * 3 + 1 * r.val = r.val; rw [h.2.1]; omega
  | ⟨2, _⟩ => show win4_4.index t 2 * 256 + 1 * k.val = j.val % 2816; rw [h.2.2]; omega

theorem i4_5 : ∀ t : Fin grid4.N, win4_5.index t 0 = (t.val + 22) / 11 ∧ win4_5.index t 1 = 0 ∧ win4_5.index t 2 = t.val % 11 := by decide +kernel
abbrev b4_5 (t : Fin cfg4.N) : Vec Ideal S1x3x256 .f32 := iblk4 V c 5 t
theorem tap4_5 (t : Fin cfg4.N) (k : Fin 256) (j : Fin 5632) (hj : j.val = t.val * 256 + k.val) (r : Fin 3) :
    b4_5 V c t (ix3 (0 : Fin 1) r k) = tapA (aW V c) (hi j) r := by
  unfold b4_5 iblk4
  rw [View.read_apply]
  refine congrArg (V c main_arg2) (funext fun a => Fin.ext ?_)
  have h := i4_5 t
  match a with
  | ⟨0, _⟩ => show win4_5.index t 0 * 1 + 1 * 0 = (j.val + 5632) / 2816; rw [h.1]; omega
  | ⟨1, _⟩ => show win4_5.index t 1 * 3 + 1 * r.val = r.val; rw [h.2.1]; omega
  | ⟨2, _⟩ => show win4_5.index t 2 * 256 + 1 * k.val = (j.val + 5632) % 2816; rw [h.2.2]; omega

theorem i4_6 : ∀ t : Fin grid4.N, win4_6.index t 0 = 0 ∧ win4_6.index t 1 = t.val := by decide +kernel
abbrev b4_6 (t : Fin cfg4.N) : Vec Ideal S2048x256 .bf16 := iblk4 V c 6 t
theorem col4_6 (t : Fin cfg4.N) (k : Fin 256) (j : Fin 5632) (hj : j.val = t.val * 256 + k.val) (i : Fin 2048) :
    b4_6 V c t (ix2 i k) = aD V c (ix2 i j) := by
  unfold b4_6 iblk4
  rw [View.read_apply]
  refine congrArg (V c main_v5) (funext fun a => Fin.ext ?_)
  have h := i4_6 t
  match a with
  | ⟨0, _⟩ => show win4_6.index t 0 * 2048 + 1 * i.val = i.val; rw [h.1]; omega
  | ⟨1, _⟩ => show win4_6.index t 1 * 256 + 1 * k.val = j.val; rw [h.2]; omega

theorem i4_7 : ∀ t : Fin grid4.N, win4_7.index t 0 = 0 ∧ win4_7.index t 1 = t.val := by decide +kernel
theorem inj4_7 : ∀ t t' : Fin grid4.N, win4_7.index t = win4_7.index t' → t = t' := by decide +kernel
theorem flush4_7 : ∀ t : Fin grid4.N, win4_7.flush t = true := by decide +kernel
theorem entry4_7 (t : Fin cfg4.N) (k : Fin 256) (j : Fin 5632) (hj : j.val = t.val * 256 + k.val) (i : Fin 2048) :
    ((dat4 V c).arrAt 7 cfg4.N : Vec Ideal S2048x5632 .bf16) (ix2 i j) = out4_7 (b4_0 V c t) (b4_1 V c t) (b4_2 V c t) (b4_3 V c t) (b4_4 V c t) (b4_5 V c t) (b4_6 V c t) (ix2 i k) := by
  have hb := congrFun ((dat4 V c).read_blk_arrAt_eq_flushed 7
    (fun t t' _ _ hne => (cfg4.win 7).disjoint_blk fun h => hne (inj4_7 t t' h)) cfg4.N t t.isLt (flush4_7 t)) (ix2 i k)
  have hf : (dat4 V c).flushed 7 t = (cfg4.win 7).cut (grid4.coords t) (out4_7 (b4_0 V c t) (b4_1 V c t) (b4_2 V c t) (b4_3 V c t) (b4_4 V c t) (b4_5 V c t) (b4_6 V c t)) := by
    show (cfg4.win 7).cut (grid4.coords t) ((dat4 V c).after 7 t) = _
    rw [after4_7]
  rw [hf, View.read_apply] at hb
  refine Eq.trans ?_ hb
  refine congrArg ((dat4 V c).arrAt 7 cfg4.N) (funext fun a => Fin.ext ?_)
  have h := i4_7 t
  match a with
  | ⟨0, _⟩ => show i.val = win4_7.index t 0 * 2048 + 1 * i.val; rw [h.1]; omega
  | ⟨1, _⟩ => show j.val = win4_7.index t 1 * 256 + 1 * k.val; rw [h.2]; omega

theorem i4_8 : ∀ t : Fin grid4.N, win4_8.index t 0 = 0 ∧ win4_8.index t 1 = t.val := by decide +kernel
theorem inj4_8 : ∀ t t' : Fin grid4.N, win4_8.index t = win4_8.index t' → t = t' := by decide +kernel
theorem flush4_8 : ∀ t : Fin grid4.N, win4_8.flush t = true := by decide +kernel
theorem entry4_8 (t : Fin cfg4.N) (k : Fin 256) (j : Fin 5632) (hj : j.val = t.val * 256 + k.val) (i : Fin 2048) :
    ((dat4 V c).arrAt 8 cfg4.N : Vec Ideal S2048x5632 .bf16) (ix2 i j) = out4_8 (b4_0 V c t) (b4_1 V c t) (b4_2 V c t) (b4_3 V c t) (b4_4 V c t) (b4_5 V c t) (b4_6 V c t) (ix2 i k) := by
  have hb := congrFun ((dat4 V c).read_blk_arrAt_eq_flushed 8
    (fun t t' _ _ hne => (cfg4.win 8).disjoint_blk fun h => hne (inj4_8 t t' h)) cfg4.N t t.isLt (flush4_8 t)) (ix2 i k)
  have hf : (dat4 V c).flushed 8 t = (cfg4.win 8).cut (grid4.coords t) (out4_8 (b4_0 V c t) (b4_1 V c t) (b4_2 V c t) (b4_3 V c t) (b4_4 V c t) (b4_5 V c t) (b4_6 V c t)) := by
    show (cfg4.win 8).cut (grid4.coords t) ((dat4 V c).after 8 t) = _
    rw [after4_8]
  rw [hf, View.read_apply] at hb
  refine Eq.trans ?_ hb
  refine congrArg ((dat4 V c).arrAt 8 cfg4.N) (funext fun a => Fin.ext ?_)
  have h := i4_8 t
  match a with
  | ⟨0, _⟩ => show i.val = win4_8.index t 0 * 2048 + 1 * i.val; rw [h.1]; omega
  | ⟨1, _⟩ => show j.val = win4_8.index t 1 * 256 + 1 * k.val; rw [h.2]; omega

theorem i4_9 : ∀ t : Fin grid4.N, win4_9.index t 0 = 0 ∧ win4_9.index t 1 = t.val := by decide +kernel
theorem inj4_9 : ∀ t t' : Fin grid4.N, win4_9.index t = win4_9.index t' → t = t' := by decide +kernel
theorem flush4_9 : ∀ t : Fin grid4.N, win4_9.flush t = true := by decide +kernel
theorem entry4_9 (t : Fin cfg4.N) (k : Fin 256) (j : Fin 5632) (hj : j.val = t.val * 256 + k.val) (i : Fin 3) :
    ((dat4 V c).arrAt 9 cfg4.N : Vec Ideal S3x5632 .f32) (ix2 i j) = out4_9 (b4_0 V c t) (b4_1 V c t) (b4_2 V c t) (b4_3 V c t) (b4_4 V c t) (b4_5 V c t) (b4_6 V c t) (ix2 i k) := by
  have hb := congrFun ((dat4 V c).read_blk_arrAt_eq_flushed 9
    (fun t t' _ _ hne => (cfg4.win 9).disjoint_blk fun h => hne (inj4_9 t t' h)) cfg4.N t t.isLt (flush4_9 t)) (ix2 i k)
  have hf : (dat4 V c).flushed 9 t = (cfg4.win 9).cut (grid4.coords t) (out4_9 (b4_0 V c t) (b4_1 V c t) (b4_2 V c t) (b4_3 V c t) (b4_4 V c t) (b4_5 V c t) (b4_6 V c t)) := by
    show (cfg4.win 9).cut (grid4.coords t) ((dat4 V c).after 9 t) = _
    rw [after4_9]
  rw [hf, View.read_apply] at hb
  refine Eq.trans ?_ hb
  refine congrArg ((dat4 V c).arrAt 9 cfg4.N) (funext fun a => Fin.ext ?_)
  have h := i4_9 t
  match a with
  | ⟨0, _⟩ => show i.val = win4_9.index t 0 * 3 + 1 * i.val; rw [h.1]; omega
  | ⟨1, _⟩ => show j.val = win4_9.index t 1 * 256 + 1 * k.val; rw [h.2]; omega

theorem i4_10 : ∀ t : Fin grid4.N, win4_10.index t 0 = 0 ∧ win4_10.index t 1 = t.val := by decide +kernel
theorem inj4_10 : ∀ t t' : Fin grid4.N, win4_10.index t = win4_10.index t' → t = t' := by decide +kernel
theorem flush4_10 : ∀ t : Fin grid4.N, win4_10.flush t = true := by decide +kernel
theorem entry4_10 (t : Fin cfg4.N) (k : Fin 256) (j : Fin 5632) (hj : j.val = t.val * 256 + k.val) (i : Fin 3) :
    ((dat4 V c).arrAt 10 cfg4.N : Vec Ideal S3x5632 .f32) (ix2 i j) = out4_10 (b4_0 V c t) (b4_1 V c t) (b4_2 V c t) (b4_3 V c t) (b4_4 V c t) (b4_5 V c t) (b4_6 V c t) (ix2 i k) := by
  have hb := congrFun ((dat4 V c).read_blk_arrAt_eq_flushed 10
    (fun t t' _ _ hne => (cfg4.win 10).disjoint_blk fun h => hne (inj4_10 t t' h)) cfg4.N t t.isLt (flush4_10 t)) (ix2 i k)
  have hf : (dat4 V c).flushed 10 t = (cfg4.win 10).cut (grid4.coords t) (out4_10 (b4_0 V c t) (b4_1 V c t) (b4_2 V c t) (b4_3 V c t) (b4_4 V c t) (b4_5 V c t) (b4_6 V c t)) := by
    show (cfg4.win 10).cut (grid4.coords t) ((dat4 V c).after 10 t) = _
    rw [after4_10]
  rw [hf, View.read_apply] at hb
  refine Eq.trans ?_ hb
  refine congrArg ((dat4 V c).arrAt 10 cfg4.N) (funext fun a => Fin.ext ?_)
  have h := i4_10 t
  match a with
  | ⟨0, _⟩ => show i.val = win4_10.index t 0 * 3 + 1 * i.val; rw [h.1]; omega
  | ⟨1, _⟩ => show j.val = win4_10.index t 1 * 256 + 1 * k.val; rw [h.2]; omega

theorem i4_11 : ∀ t : Fin grid4.N, win4_11.index t 0 = 0 ∧ win4_11.index t 1 = t.val := by decide +kernel
theorem inj4_11 : ∀ t t' : Fin grid4.N, win4_11.index t = win4_11.index t' → t = t' := by decide +kernel
theorem flush4_11 : ∀ t : Fin grid4.N, win4_11.flush t = true := by decide +kernel
theorem entry4_11 (t : Fin cfg4.N) (k : Fin 256) (j : Fin 5632) (hj : j.val = t.val * 256 + k.val) (i : Fin 1) :
    ((dat4 V c).arrAt 11 cfg4.N : Vec Ideal S1x5632 .f32) (ix2 i j) = out4_11 (b4_0 V c t) (b4_1 V c t) (b4_2 V c t) (b4_3 V c t) (b4_4 V c t) (b4_5 V c t) (b4_6 V c t) (ix2 i k) := by
  have hb := congrFun ((dat4 V c).read_blk_arrAt_eq_flushed 11
    (fun t t' _ _ hne => (cfg4.win 11).disjoint_blk fun h => hne (inj4_11 t t' h)) cfg4.N t t.isLt (flush4_11 t)) (ix2 i k)
  have hf : (dat4 V c).flushed 11 t = (cfg4.win 11).cut (grid4.coords t) (out4_11 (b4_0 V c t) (b4_1 V c t) (b4_2 V c t) (b4_3 V c t) (b4_4 V c t) (b4_5 V c t) (b4_6 V c t)) := by
    show (cfg4.win 11).cut (grid4.coords t) ((dat4 V c).after 11 t) = _
    rw [after4_11]
  rw [hf, View.read_apply] at hb
  refine Eq.trans ?_ hb
  refine congrArg ((dat4 V c).arrAt 11 cfg4.N) (funext fun a => Fin.ext ?_)
  have h := i4_11 t
  match a with
  | ⟨0, _⟩ => show i.val = win4_11.index t 0 * 1 + 1 * i.val; rw [h.1]; omega
  | ⟨1, _⟩ => show j.val = win4_11.index t 1 * 256 + 1 * k.val; rw [h.2]; omega

theorem i4_12 : ∀ t : Fin grid4.N, win4_12.index t 0 = 0 ∧ win4_12.index t 1 = t.val := by decide +kernel
theorem inj4_12 : ∀ t t' : Fin grid4.N, win4_12.index t = win4_12.index t' → t = t' := by decide +kernel
theorem flush4_12 : ∀ t : Fin grid4.N, win4_12.flush t = true := by decide +kernel
theorem entry4_12 (t : Fin cfg4.N) (k : Fin 256) (j : Fin 5632) (hj : j.val = t.val * 256 + k.val) (i : Fin 1) :
    ((dat4 V c).arrAt 12 cfg4.N : Vec Ideal S1x5632 .f32) (ix2 i j) = out4_12 (b4_0 V c t) (b4_1 V c t) (b4_2 V c t) (b4_3 V c t) (b4_4 V c t) (b4_5 V c t) (b4_6 V c t) (ix2 i k) := by
  have hb := congrFun ((dat4 V c).read_blk_arrAt_eq_flushed 12
    (fun t t' _ _ hne => (cfg4.win 12).disjoint_blk fun h => hne (inj4_12 t t' h)) cfg4.N t t.isLt (flush4_12 t)) (ix2 i k)
  have hf : (dat4 V c).flushed 12 t = (cfg4.win 12).cut (grid4.coords t) (out4_12 (b4_0 V c t) (b4_1 V c t) (b4_2 V c t) (b4_3 V c t) (b4_4 V c t) (b4_5 V c t) (b4_6 V c t)) := by
    show (cfg4.win 12).cut (grid4.coords t) ((dat4 V c).after 12 t) = _
    rw [after4_12]
  rw [hf, View.read_apply] at hb
  refine Eq.trans ?_ hb
  refine congrArg ((dat4 V c).arrAt 12 cfg4.N) (funext fun a => Fin.ext ?_)
  have h := i4_12 t
  match a with
  | ⟨0, _⟩ => show i.val = win4_12.index t 0 * 1 + 1 * i.val; rw [h.1]; omega
  | ⟨1, _⟩ => show j.val = win4_12.index t 1 * 256 + 1 * k.val; rw [h.2]; omega

theorem dg_eq (j : Fin 5632) : dg (b4_2 V c (pt4 j)) (b4_3 V c (pt4 j)) (b4_6 V c (pt4 j)) (off j) = dgA (aG V c) (aU V c) (aD V c) j := by
  refine funext fun i => ?_
  unfold dg dgA
  rw [col4_2 V c _ _ j (pt4_eq j), col4_3 V c _ _ j (pt4_eq j), col4_6 V c _ _ j (pt4_eq j)]
theorem du_eq (j : Fin 5632) : du (b4_2 V c (pt4 j)) (b4_6 V c (pt4 j)) (off j) = duA (aG V c) (aD V c) j := by
  refine funext fun i => ?_
  unfold du duA
  rw [col4_2 V c _ _ j (pt4_eq j), col4_6 V c _ _ j (pt4_eq j)]
theorem x_lo (j : Fin 5632) : col (b4_0 V c (pt4 j)) (off j) = colA (aX V c) (lo j) := funext fun i => col4_0 V c _ _ j (pt4_eq j) i
theorem x_hi (j : Fin 5632) : col (b4_1 V c (pt4 j)) (off j) = colA (aX V c) (hi j) := funext fun i => col4_1 V c _ _ j (pt4_eq j) i
theorem w_lo (j : Fin 5632) : tap (b4_4 V c (pt4 j)) (off j) = tapA (aW V c) (lo j) := funext fun r => tap4_4 V c _ _ j (pt4_eq j) r
theorem w_hi (j : Fin 5632) : tap (b4_5 V c (pt4 j)) (off j) = tapA (aW V c) (hi j) := funext fun r => tap4_5 V c _ _ j (pt4_eq j) r

/-- The gradient of the up projection's first half: the convolution's transpose of the gate's gradient. -/
theorem dug_apply (i : Fin 2048) (j : Fin 5632) : ((dat4 V c).arrAt 7 cfg4.N : Vec Ideal S2048x5632 .bf16) (ix2 i j)
    = convT (tapA (aW V c) (lo j)) (dgA (aG V c) (aU V c) (aD V c) j) i := by
  rw [entry4_7 V c (pt4 j) (off j) j (pt4_eq j) i, out_dug, dg_eq, w_lo]
/-- The gradient of its second half. -/
theorem duu_apply (i : Fin 2048) (j : Fin 5632) : ((dat4 V c).arrAt 8 cfg4.N : Vec Ideal S2048x5632 .bf16) (ix2 i j)
    = convT (tapA (aW V c) (hi j)) (duA (aG V c) (aD V c) j) i := by
  rw [entry4_8 V c (pt4 j) (off j) j (pt4_eq j) i, out_duu, du_eq, w_hi]
/-- The taps' gradients. -/
theorem dwg_apply (r : Fin 3) (j : Fin 5632) : ((dat4 V c).arrAt 9 cfg4.N : Vec Ideal S3x5632 .f32) (ix2 r j)
    = dtap (dgA (aG V c) (aU V c) (aD V c) j) (colA (aX V c) (lo j)) r := by
  rw [entry4_9 V c (pt4 j) (off j) j (pt4_eq j) r, out_dwg, dg_eq, x_lo]
theorem dwu_apply (r : Fin 3) (j : Fin 5632) : ((dat4 V c).arrAt 10 cfg4.N : Vec Ideal S3x5632 .f32) (ix2 r j)
    = dtap (duA (aG V c) (aD V c) j) (colA (aX V c) (hi j)) r := by
  rw [entry4_10 V c (pt4 j) (off j) j (pt4_eq j) r, out_dwu, du_eq, x_hi]
/-- The biases' gradients. -/
theorem dbg_apply (j : Fin 5632) : ((dat4 V c).arrAt 11 cfg4.N : Vec Ideal S1x5632 .f32) (ix2 (0 : Fin 1) j)
    = ∑ i, dgA (aG V c) (aU V c) (aD V c) j i := by
  rw [entry4_11 V c (pt4 j) (off j) j (pt4_eq j) 0, out_dbg, dg_eq]
theorem dbu_apply (j : Fin 5632) : ((dat4 V c).arrAt 12 cfg4.N : Vec Ideal S1x5632 .f32) (ix2 (0 : Fin 1) j)
    = ∑ i, duA (aG V c) (aD V c) j i := by
  rw [entry4_12 V c (pt4 j) (off j) j (pt4_eq j) 0, out_dbu, du_eq]

end Cert.FfnBwdIdeal.Columns

end
-- ==== Proof.FfnRun.lean ====
/-
  The feed-forward chain's run, keeping what it leaves in its five results.
-/
module

public import proofs.«01_k».proof.Proof.Gen.FfnBwdIdeal.Frame

@[expose] public section

set_option maxRecDepth 16384

noncomputable section

namespace Cert.FfnBwdIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBwdIdeal Cert.FfnBwdIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution ends with the arguments as launched and the five results at the last boundary's contents. -/
theorem run : θ_run defs (onTc (τ := τ) (main (F := F))) ⟨m, fun _ => 0, ρ⟩ (fun r => ∀ c : Dev nD,
      (r.2.mem ((c.tc : Thread nD τ).loc main_v6_0) = W7 m ρ c main_v6_0
        ∧ r.2.mem ((c.tc : Thread nD τ).loc main_v6_1) = W7 m ρ c main_v6_1
        ∧ r.2.mem ((c.tc : Thread nD τ).loc main_v7) = W7 m ρ c main_v7
        ∧ r.2.mem ((c.tc : Thread nD τ).loc main_v8) = W7 m ρ c main_v8
        ∧ r.2.mem ((c.tc : Thread nD τ).loc main_v2) = W7 m ρ c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨⟨h c _ (mem_uc main_v6_0 (by decide)), h c _ (mem_uc main_v6_1 (by decide)), h c _ (mem_uc main_v7 (by decide)),
        h c _ (mem_uc main_v8 (by decide)), h c _ (mem_uc main_v2 (by decide))⟩,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.FfnBwdIdeal.Results

end
-- ==== Proof.FfnSpec.lean ====
/-
  The feed-forward layer and its gradients as functions of the arguments' entries: the up projection, the short
  convolution, the gate, and what the backward pass leaves, column by column.
-/
module

public import proofs.«01_k».proof.Proof.Taps

@[expose] public section

noncomputable section

namespace Cert.FfnSpec

open Cert.Taps

/-- A column of the first half of the 11264, and of the second. -/
abbrev lo (j : Fin 5632) : Fin 11264 := ⟨j.val, by omega⟩
abbrev hi (j : Fin 5632) : Fin 11264 := ⟨j.val + 5632, by omega⟩

/-- The arguments' entries: the layer's input, the up projection's shards, the taps, the biases, the down projection and
    the output's gradient. -/
structure Args where
  b : Fin 2048 → Fin 2048 → EReal
  wu : Fin 4 → Fin 2048 → Fin 2816 → EReal
  cw : Fin 4 → Fin 3 → Fin 2816 → EReal
  cb : Fin 11264 → EReal
  wd : Fin 5632 → Fin 2048 → EReal
  dh : Fin 2048 → Fin 2048 → EReal

variable (x : Args)

/-- The up projection's column `j`, its taps, and its convolution. -/
def up (j : Fin 11264) (i : Fin 2048) : EReal :=
  ∑ q, x.b i q * x.wu (⟨j.val / 2816, by omega⟩ : Fin 4) q (⟨j.val % 2816, by omega⟩ : Fin 2816)
def tap (j : Fin 11264) (r : Fin 3) : EReal := x.cw (⟨j.val / 2816, by omega⟩ : Fin 4) r (⟨j.val % 2816, by omega⟩ : Fin 2816)
def cc (j : Fin 11264) (i : Fin 2048) : EReal := conv (tap x j) (up x j) i + x.cb j
/-- The activation and its gradient. -/
def act (j : Fin 5632) (i : Fin 2048) : EReal := gate (cc x (lo j) i) (cc x (hi j) i)
def da (j : Fin 5632) (i : Fin 2048) : EReal := ∑ q, x.dh i q * x.wd j q
/-- The gradients of the convolution's two halves. -/
def dg (j : Fin 5632) (i : Fin 2048) : EReal := dgate (da x j i) (cc x (lo j) i) (cc x (hi j) i)
def du (j : Fin 5632) (i : Fin 2048) : EReal := dgated (da x j i) (cc x (lo j) i)
/-- The results: the up projection's gradient in halves, the taps' and the biases' gradients, and the down projection's. -/
def dug (i : Fin 2048) (j : Fin 5632) : EReal := convT (tap x (lo j)) (dg x j) i
def duu (i : Fin 2048) (j : Fin 5632) : EReal := convT (tap x (hi j)) (du x j) i
def dcw (r : Fin 3) (j : Fin 11264) : EReal :=
  if h : j.val < 5632 then dtap (dg x ⟨j.val, h⟩) (up x j) r else dtap (du x ⟨j.val - 5632, by omega⟩) (up x j) r
def dcb (j : Fin 11264) : EReal := if h : j.val < 5632 then ∑ i, dg x ⟨j.val, h⟩ i else ∑ i, du x ⟨j.val - 5632, by omega⟩ i
def dwd (j : Fin 5632) (k : Fin 2048) : EReal := ∑ q, act x j q * x.dh q k

end Cert.FfnSpec

end
-- ==== Proof.FfnKernel.lean ====
/-
  The feed-forward chain's results: each launch's results at the buffers the launches before it leave, down to the
  arguments.
-/
module

public import proofs.«01_k».proof.Proof.FfnProducts
public import proofs.«01_k».proof.Proof.FfnColumns
public import proofs.«01_k».proof.Proof.FfnRun
public import proofs.«01_k».proof.Proof.FfnSpec

@[expose] public section

set_option maxRecDepth 16384

noncomputable section

namespace Cert.FfnBwdIdeal.Kernel

open Idealize.ShloMosaic Idealize.ShloMosaic.TcCoe Idealize.SL.Sem
open Cert.FfnBwdIdeal Cert.FfnBwdIdeal.Gen Cert.FfnBwdIdeal.Products Cert.FfnBwdIdeal.Columns Cert.Sums Cert.Taps

variable (m : (ℓ : Loc nD τ sig) → Buf (Elt Ideal) ℓ) (ρ : Dev nD → PrngReg) (c : Dev nD)

/-- The arguments as launched, and their entries. -/
abbrev gB : Vec Ideal S2048x2048 .bf16 := m ((c.tc : Thread nD τ).loc main_arg0)
abbrev gWu : Vec Ideal S4x2048x2816 .bf16 := m ((c.tc : Thread nD τ).loc main_arg1)
abbrev gCw : Vec Ideal S4x3x2816 .f32 := m ((c.tc : Thread nD τ).loc main_arg2)
abbrev gCb : Vec Ideal S1x11264 .f32 := m ((c.tc : Thread nD τ).loc main_arg3)
abbrev gWd : Vec Ideal S1x5632x2048 .bf16 := m ((c.tc : Thread nD τ).loc main_arg4)
abbrev gDh : Vec Ideal S2048x2048 .bf16 := m ((c.tc : Thread nD τ).loc main_arg5)
def args : FfnSpec.Args where
  b i q := gB m c (ix2 i q)
  wu n q j := gWu m c (ix3 n q j)
  cw n r j := gCw m c (ix3 n r j)
  cb j := gCb m c (ix2 (0 : Fin 1) j)
  wd j q := gWd m c (ix3 (0 : Fin 1) j q)
  dh i q := gDh m c (ix2 i q)

/-! ## The up projection, wherever it is read -/

theorem up1 : W1 m ρ c main_v0 = (dat0 (V0 m ρ) c).arrAt 2 cfg0.N := W1_arr m ρ c 2
theorem up2 : W2 m ρ c main_v0 = (dat0 (V0 m ρ) c).arrAt 2 cfg0.N := (W2_of m ρ c main_v0 (by decide +kernel)).trans (up1 m ρ c)
theorem up5 : W5 m ρ c main_v0 = (dat0 (V0 m ρ) c).arrAt 2 cfg0.N :=
  (W5_of m ρ c main_v0 (by decide +kernel)).trans ((W4_of m ρ c main_v0 (by decide +kernel)).trans
    ((W3_of m ρ c main_v0 (by decide +kernel)).trans (up2 m ρ c)))

theorem col_eq (V : (c : Dev nD) → (b : Ref sig .tc) → Buf (Elt Ideal) ((c : Thread nD τ).loc b))
    (h : V c main_v0 = (dat0 (V0 m ρ) c).arrAt 2 cfg0.N) (j : Fin 11264) : colA (aX V c) j = FfnSpec.up (args m c) j := by
  refine funext fun i => ?_
  show (V c main_v0 : Vec Ideal S2048x11264 .bf16) (ix2 i j) = _
  rw [h]
  exact up_apply (V0 m ρ) c i j

/-! ## The convolution and the gate -/

theorem cc_eq (j : Fin 11264) (i : Fin 2048) :
    ccA (aX (V1 m ρ) c) (aW (V1 m ρ) c) (aB (V1 m ρ) c) j i = FfnSpec.cc (args m c) j i := by
  unfold ccA FfnSpec.cc
  rw [col_eq m ρ c (V1 m ρ) (up1 m ρ c) j,
    show aW (V1 m ρ) c = gCw m c from W1_args m ρ c main_arg2 (by decide +kernel),
    show aB (V1 m ρ) c = gCb m c from W1_args m ρ c main_arg3 (by decide +kernel)]
  rfl

theorem act2 : W2 m ρ c main_v1_0 = (dat1 (V1 m ρ) c).arrAt 6 cfg1.N := W2_arr m ρ c 6
theorem g5 : W5 m ρ c main_v1_1 = (dat1 (V1 m ρ) c).arrAt 7 cfg1.N :=
  (W5_of m ρ c main_v1_1 (by decide +kernel)).trans ((W4_of m ρ c main_v1_1 (by decide +kernel)).trans
    ((W3_of m ρ c main_v1_1 (by decide +kernel)).trans (W2_arr m ρ c 7)))
theorem u5 : W5 m ρ c main_v1_2 = (dat1 (V1 m ρ) c).arrAt 8 cfg1.N :=
  (W5_of m ρ c main_v1_2 (by decide +kernel)).trans ((W4_of m ρ c main_v1_2 (by decide +kernel)).trans
    ((W3_of m ρ c main_v1_2 (by decide +kernel)).trans (W2_arr m ρ c 8)))
theorem d5 : W5 m ρ c main_v5 = (dat3 (V4 m ρ) c).arrAt 3 cfg3.N := W5_arr m ρ c 3

theorem g_eq (i : Fin 2048) (j : Fin 5632) : aG (V5 m ρ) c (ix2 i j) = FfnSpec.cc (args m c) (lo j) i := by
  show (W5 m ρ c main_v1_1 : Vec Ideal S2048x5632 .bf16) (ix2 i j) = _
  rw [g5]
  exact (g_apply (V1 m ρ) c i j).trans (cc_eq m ρ c (lo j) i)
theorem u_eq (i : Fin 2048) (j : Fin 5632) : aU (V5 m ρ) c (ix2 i j) = FfnSpec.cc (args m c) (hi j) i := by
  show (W5 m ρ c main_v1_2 : Vec Ideal S2048x5632 .bf16) (ix2 i j) = _
  rw [u5]
  exact (u_apply (V1 m ρ) c i j).trans (cc_eq m ρ c (hi j) i)
theorem d_eq (i : Fin 2048) (j : Fin 5632) : aD (V5 m ρ) c (ix2 i j) = FfnSpec.da (args m c) j i := by
  show (W5 m ρ c main_v5 : Vec Ideal S2048x5632 .bf16) (ix2 i j) = _
  rw [d5, da_apply (V4 m ρ) c i j,
    show daD (V4 m ρ) c = gDh m c from W4_args m ρ c main_arg5 (by decide +kernel),
    show daW (V4 m ρ) c = gWd m c from W4_args m ρ c main_arg4 (by decide +kernel)]
  rfl
theorem dg_eq' (j : Fin 5632) : dgA (aG (V5 m ρ) c) (aU (V5 m ρ) c) (aD (V5 m ρ) c) j = FfnSpec.dg (args m c) j := by
  refine funext fun i => ?_
  unfold dgA FfnSpec.dg
  rw [g_eq, u_eq, d_eq]
theorem du_eq' (j : Fin 5632) : duA (aG (V5 m ρ) c) (aD (V5 m ρ) c) j = FfnSpec.du (args m c) j := by
  refine funext fun i => ?_
  unfold duA FfnSpec.du
  rw [g_eq, d_eq]
theorem tap_eq (j : Fin 11264) : tapA (aW (V5 m ρ) c) j = FfnSpec.tap (args m c) j := by
  rw [show aW (V5 m ρ) c = gCw m c from W5_args m ρ c main_arg2 (by decide +kernel)]
  rfl

/-! ## The results -/

/-- The gradient of the up projection's first half. -/
theorem res0 (i : Fin 2048) (j : Fin 5632) : (W7 m ρ c main_v6_0 : Vec Ideal S2048x5632 .bf16) (ix2 i j) = FfnSpec.dug (args m c) i j := by
  rw [show W7 m ρ c main_v6_0 = (dat4 (V5 m ρ) c).arrAt 7 cfg4.N from
    (W7_of m ρ c main_v6_0 (by decide +kernel)).trans (W6_arr m ρ c 7)]
  refine (dug_apply (V5 m ρ) c i j).trans ?_
  rw [tap_eq, dg_eq']
  rfl
/-- The gradient of its second half. -/
theorem res1 (i : Fin 2048) (j : Fin 5632) : (W7 m ρ c main_v6_1 : Vec Ideal S2048x5632 .bf16) (ix2 i j) = FfnSpec.duu (args m c) i j := by
  rw [show W7 m ρ c main_v6_1 = (dat4 (V5 m ρ) c).arrAt 8 cfg4.N from
    (W7_of m ρ c main_v6_1 (by decide +kernel)).trans (W6_arr m ρ c 8)]
  refine (duu_apply (V5 m ρ) c i j).trans ?_
  rw [tap_eq, du_eq']
  rfl
theorem cat7 : W7 m ρ c main_v7 = concatenate S3x11264 1
    [⟨S3x5632, (W6 m ρ c main_v6_2 : Vec Ideal S3x5632 .f32)⟩, ⟨S3x5632, (W6 m ρ c main_v6_3 : Vec Ideal S3x5632 .f32)⟩]
    concatenates_S3x5632_S3x5632_S3x11264_d1 := rfl
theorem cat8 : W7 m ρ c main_v8 = concatenate S1x11264 1
    [⟨S1x5632, (W6 m ρ c main_v6_4 : Vec Ideal S1x5632 .f32)⟩, ⟨S1x5632, (W6 m ρ c main_v6_5 : Vec Ideal S1x5632 .f32)⟩]
    concatenates_S1x5632_S1x5632_S1x11264_d1 := rfl
theorem cat3_apply (x y : Vec Ideal S3x5632 .f32) (r : Fin 3) (j : Fin 11264) :
    concatenate S3x11264 1 [⟨S3x5632, x⟩, ⟨S3x5632, y⟩] concatenates_S3x5632_S3x5632_S3x11264_d1 (ix2 r j)
      = if h : j.val < 5632 then x (ix2 r ⟨j.val, h⟩) else y (ix2 r ⟨j.val - 5632, by omega⟩) := by
  pointwise
theorem cat1_apply (x y : Vec Ideal S1x5632 .f32) (j : Fin 11264) :
    concatenate S1x11264 1 [⟨S1x5632, x⟩, ⟨S1x5632, y⟩] concatenates_S1x5632_S1x5632_S1x11264_d1 (ix2 (0 : Fin 1) j)
      = if h : j.val < 5632 then x (ix2 (0 : Fin 1) ⟨j.val, h⟩) else y (ix2 (0 : Fin 1) ⟨j.val - 5632, by omega⟩) := by
  pointwise

/-- The taps' gradients. -/
theorem res2 (r : Fin 3) (j : Fin 11264) : (W7 m ρ c main_v7 : Vec Ideal S3x11264 .f32) (ix2 r j) = FfnSpec.dcw (args m c) r j := by
  rw [cat7]
  refine (cat3_apply _ _ r j).trans ?_
  unfold FfnSpec.dcw
  by_cases h : j.val < 5632
  · rw [dif_pos h, dif_pos h, show W6 m ρ c main_v6_2 = (dat4 (V5 m ρ) c).arrAt 9 cfg4.N from W6_arr m ρ c 9]
    refine (dwg_apply (V5 m ρ) c r ⟨j.val, h⟩).trans ?_
    rw [dg_eq', col_eq m ρ c (V5 m ρ) (up5 m ρ c)]
  · have e : hi ⟨j.val - 5632, by omega⟩ = j := Fin.ext (by show j.val - 5632 + 5632 = j.val; omega)
    rw [dif_neg h, dif_neg h, show W6 m ρ c main_v6_3 = (dat4 (V5 m ρ) c).arrAt 10 cfg4.N from W6_arr m ρ c 10]
    refine (dwu_apply (V5 m ρ) c r ⟨j.val - 5632, by omega⟩).trans ?_
    rw [du_eq', col_eq m ρ c (V5 m ρ) (up5 m ρ c), e]
/-- The biases' gradients. -/
theorem res3 (j : Fin 11264) : (W7 m ρ c main_v8 : Vec Ideal S1x11264 .f32) (ix2 (0 : Fin 1) j) = FfnSpec.dcb (args m c) j := by
  rw [cat8]
  refine (cat1_apply _ _ j).trans ?_
  unfold FfnSpec.dcb
  by_cases h : j.val < 5632
  · rw [dif_pos h, dif_pos h, show W6 m ρ c main_v6_4 = (dat4 (V5 m ρ) c).arrAt 11 cfg4.N from W6_arr m ρ c 11]
    refine (dbg_apply (V5 m ρ) c ⟨j.val, h⟩).trans ?_
    rw [dg_eq']
  · rw [dif_neg h, dif_neg h, show W6 m ρ c main_v6_5 = (dat4 (V5 m ρ) c).arrAt 12 cfg4.N from W6_arr m ρ c 12]
    refine (dbu_apply (V5 m ρ) c ⟨j.val - 5632, by omega⟩).trans ?_
    rw [du_eq']
/-- The down projection's gradient. -/
theorem res4 (j : Fin 5632) (k : Fin 2048) : (W7 m ρ c main_v2 : Vec Ideal S1x5632x2048 .bf16) (ix3 (0 : Fin 1) j k) = FfnSpec.dwd (args m c) j k := by
  rw [show W7 m ρ c main_v2 = (dat2 (V2 m ρ) c).arrAt 2 cfg2.N from
    (W7_of m ρ c main_v2 (by decide +kernel)).trans ((W6_of m ρ c main_v2 (by decide +kernel)).trans
      ((W5_of m ρ c main_v2 (by decide +kernel)).trans ((W4_of m ρ c main_v2 (by decide +kernel)).trans (W3_arr m ρ c 2))))]
  refine (dw_apply (V2 m ρ) c j k).trans (sum_eq fun q => ?_)
  rw [show dwD (V2 m ρ) c = gDh m c from W2_args m ρ c main_arg5 (by decide +kernel),
    show dwA (V2 m ρ) c = (dat1 (V1 m ρ) c).arrAt 6 cfg1.N from act2 m ρ c]
  refine congrArg (· * _) ((act_apply (V1 m ρ) c q j).trans ?_)
  rw [cc_eq, cc_eq]
  rfl

end Cert.FfnBwdIdeal.Kernel

end
-- ==== Proof.FfnReal.lean ====
/-
  What the two forms of the feed-forward layer's backward pass need to agree: sums reindexed by a shift of the rows,
  and, between reals, the gate's derivative written as a product or as a sum of two.
-/
module

public import proofs.«01_k».proof.Proof.FfnSpec

@[expose] public section

noncomputable section

namespace Cert.Taps

open Idealize.ShloMosaic

/-- Shifting one factor down is shifting the other one up. -/
theorem sum_shift (d x : Fin 2048 → EReal) : ∑ i, prev x i * d i = ∑ i, next d i * x i := by
  rw [show (∑ i, prev x i * d i) = _ from Fin.sum_univ_succ (n := 2047) fun i => prev x i * d i,
    show (∑ i, next d i * x i) = _ from Fin.sum_univ_castSucc (n := 2047) fun i => next d i * x i]
  have e0 : prev x 0 = 0 := if_pos rfl
  have e1 : next d (Fin.last 2047) = 0 := dif_neg (by show ¬(2047 < 2047); omega)
  rw [e0, e1, zero_mul, zero_mul, zero_add, add_zero]
  refine Cert.Sums.sum_eq fun k => ?_
  have hk := k.isLt
  have ep : prev x k.succ = x k.castSucc := (if_neg (by show ¬(k.val + 1 = 0); omega)).trans (congrArg x (Fin.ext rfl))
  have en : next d k.castSucc = d k.succ := (dif_pos (by show k.val < 2047; omega)).trans (congrArg d (Fin.ext rfl))
  rw [ep, en, mul_comm]

/-- The gradients of the taps, with the column shifted and not its gradient. -/
theorem dtap_0' (d x : Fin 2048 → EReal) : ∑ i, prev x i * d i = dtap d x 0 := (sum_shift d x).trans (dtap_0 d x).symm
theorem dtap_1' (d x : Fin 2048 → EReal) : ∑ i, x i * d i = dtap d x 1 :=
  (Cert.Sums.sum_eq fun _ => mul_comm _ _).trans (dtap_1 d x).symm
theorem dtap_2' (d x : Fin 2048 → EReal) : ∑ i, next x i * d i = dtap d x 2 := (sum_shift x d).symm.trans (dtap_2 d x).symm

/-! ## Reals among the extended reals -/

/-- An extended real that is a real. -/
def IsReal (x : EReal) : Prop := ∃ r : ℝ, x = r

theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.zero : IsReal 0 := ⟨0, rfl⟩
theorem IsReal.sum {n : ℕ} {f : Fin n → EReal} (h : ∀ i, IsReal (f i)) : IsReal (∑ i, f i) :=
  Finset.sum_induction f IsReal (fun _ _ => IsReal.add) IsReal.zero fun i _ => h i
theorem IsReal.prev {x : Fin 2048 → EReal} (h : ∀ i, IsReal (x i)) (i : Fin 2048) : IsReal (prev x i) := by
  unfold Taps.prev; split; exacts [IsReal.zero, h _]
theorem IsReal.next {x : Fin 2048 → EReal} (h : ∀ i, IsReal (x i)) (i : Fin 2048) : IsReal (next x i) := by
  unfold Taps.next; split; exacts [h _, IsReal.zero]
theorem IsReal.conv {w : Fin 3 → EReal} {x : Fin 2048 → EReal} (hw : ∀ r, IsReal (w r)) (h : ∀ i, IsReal (x i)) (i : Fin 2048) :
    IsReal (conv w x i) := (((IsReal.prev h i).mul (hw 0)).add ((h i).mul (hw 1))).add ((IsReal.next h i).mul (hw 2))

/-- The logistic function of a real is a real. -/
theorem IsReal.sigm {x : EReal} (h : IsReal x) : IsReal (sigm x) := by
  obtain ⟨r, rfl⟩ := h
  have hp : (1 : ℝ) + Real.exp (-r) ≠ 0 := by positivity
  refine ⟨1 * (1 / (1 + Real.exp (-r))), ?_⟩
  rw [sigm_neg]
  have e : (1 : EReal) + Ideal.exp (-(r : EReal)) = ((1 + Real.exp (-r) : ℝ) : EReal) := rfl
  rw [e, Ideal.div_coe hp, EReal.coe_mul]
  rfl

/-- The gradient of the gate's value with the derivative multiplied out: one term for the value, one for its logistic. -/
def dgateSum (da g u : EReal) : EReal := da * u * sigm g + g * (da * u) * (sigm g * (1 - sigm g))

/-- Between reals it is the gradient the product gives. -/
theorem dgateSum_eq {da g u : EReal} (hd : IsReal da) (hg : IsReal g) (hu : IsReal u) : dgateSum da g u = dgate da g u := by
  obtain ⟨s, hs⟩ := hg.sigm
  obtain ⟨a, rfl⟩ := hd; obtain ⟨b, rfl⟩ := hg; obtain ⟨c, rfl⟩ := hu
  unfold dgateSum dgate
  rw [hs]
  have e1 : (1 : EReal) = ((1 : ℝ) : EReal) := rfl
  rw [e1]
  norm_cast
  ring

end Cert.Taps

namespace Cert.FfnSpec

open Cert.Taps

variable {x : Args}

/-- Every entry of every argument is a real. -/
structure Args.Finite (x : Args) : Prop where
  b : ∀ i q, IsReal (x.b i q)
  wu : ∀ n q j, IsReal (x.wu n q j)
  cw : ∀ n r j, IsReal (x.cw n r j)
  cb : ∀ j, IsReal (x.cb j)
  wd : ∀ j q, IsReal (x.wd j q)
  dh : ∀ i q, IsReal (x.dh i q)

theorem cc_real (h : x.Finite) (j : Fin 11264) (i : Fin 2048) : IsReal (cc x j i) :=
  (IsReal.conv (fun r => h.cw _ r _) (fun _ => IsReal.sum fun q => (h.b _ q).mul (h.wu _ q _)) i).add (h.cb j)
theorem da_real (h : x.Finite) (j : Fin 5632) (i : Fin 2048) : IsReal (da x j i) := IsReal.sum fun q => (h.dh i q).mul (h.wd j q)

/-- With finite arguments the multiplied-out gradient of the gate's value is the kernel's. -/
theorem dg_sum (h : x.Finite) (j : Fin 5632) (i : Fin 2048) :
    dgateSum (da x j i) (cc x (lo j) i) (cc x (hi j) i) = dg x j i := dgateSum_eq (da_real h j i) (cc_real h _ i) (cc_real h _ i)

end Cert.FfnSpec

end
-- ==== Proof.FfnReference.lean ====
/-
  What the reference of the feed-forward layer's backward pass computes, stage by stage, as the specification's
  functions of the arguments' entries.
-/
module

public import proofs.«01_k».proof.Proof.FfnReal
public import proofs.«01_k».proof.Proof.Gen.FfnRefIdeal.Read

@[expose] public section

set_option maxRecDepth 16384

noncomputable section

namespace Cert.FfnRefIdeal.Reference

open Idealize.ShloMosaic Idealize.ShloMosaic.TcCoe Idealize.SL.Sem
open Cert.FfnRefIdeal Cert.FfnRefIdeal.Read Cert.Sums Cert.Taps Cert.FfnSpec

variable (x0 : Vec Ideal S2048x2048 .bf16) (x1 : Vec Ideal S4x2048x2816 .bf16) (x2 : Vec Ideal S4x3x2816 .f32) (x3 : Vec Ideal S1x11264 .f32)
  (x4 : Vec Ideal S1x5632x2048 .bf16) (x5 : Vec Ideal S2048x2048 .bf16)

/-- The arguments' entries. -/
def args : FfnSpec.Args where
  b i q := x0 (ix2 i q)
  wu n q j := x1 (ix3 n q j)
  cw n r j := x2 (ix3 n r j)
  cb j := x3 (ix2 (0 : Fin 1) j)
  wd j q := x4 (ix3 (0 : Fin 1) j q)
  dh i q := x5 (ix2 i q)

/-! ## The forward lines -/

/-- The up projection. -/
theorem v4 (i : Fin 2048) (j : Fin 11264) : val_main_v4 (F := Ideal) x0 x1 (ix2 i j) = up (args x0 x1 x2 x3 x4 x5) j i := by
  unfold val_main_v4 val_main_v3 val_main_v2 val_main_v1 val_main_v0
  pointwise
  rfl

/-- Its rows shifted by the padding: the row before, the row, the row after. -/
theorem v16 (i : Fin 2048) (j : Fin 11264) : val_main_v16 (F := Ideal) x0 x1 (ix2 i j) = prev (up (args x0 x1 x2 x3 x4 x5) j) i := by
  have e : up (args x0 x1 x2 x3 x4 x5) j = fun i => val_main_v4 (F := Ideal) x0 x1 (ix2 i j) := funext fun i => (v4 x0 x1 x2 x3 x4 x5 i j).symm
  rw [e]
  unfold val_main_v16 val_main_v13 val_main_v12 val_main_v11 val_main_cst val_main_cst_0
  generalize val_main_v4 (F := Ideal) x0 x1 = y
  pointwise
  have hi := i.isLt
  unfold prev
  by_cases h : i.val = 0
  · rw [dif_pos (by omega), if_pos h]
  · rw [dif_neg (by omega), dif_pos (by omega), if_neg h]
theorem v22 (i : Fin 2048) (j : Fin 11264) : val_main_v22 (F := Ideal) x0 x1 (ix2 i j) = up (args x0 x1 x2 x3 x4 x5) j i := by
  rw [← v4 x0 x1 x2 x3 x4 x5 i j]
  unfold val_main_v22 val_main_v13 val_main_v12 val_main_v11 val_main_cst val_main_cst_0
  generalize val_main_v4 (F := Ideal) x0 x1 = y
  pointwise
theorem v29 (i : Fin 2048) (j : Fin 11264) : val_main_v29 (F := Ideal) x0 x1 (ix2 i j) = next (up (args x0 x1 x2 x3 x4 x5) j) i := by
  have e : up (args x0 x1 x2 x3 x4 x5) j = fun i => val_main_v4 (F := Ideal) x0 x1 (ix2 i j) := funext fun i => (v4 x0 x1 x2 x3 x4 x5 i j).symm
  rw [e]
  unfold val_main_v29 val_main_v13 val_main_v12 val_main_v11 val_main_cst val_main_cst_0
  generalize val_main_v4 (F := Ideal) x0 x1 = y
  pointwise
  have hi := i.isLt
  unfold next
  rw [dif_neg (by omega)]
  by_cases h : i.val < 2047
  · rw [dif_pos (by omega), dif_pos h]
    exact congrArg (fun k => y (ix2 k j)) (Fin.ext (by show 2 + i.val - 1 = i.val + 1; omega))
  · rw [dif_neg (by omega), dif_neg h]

/-- The taps along the rows. -/
theorem v20 (i : Fin 2048) (j : Fin 11264) : val_main_v20 (F := Ideal) x2 (ix2 i j) = tap (args x0 x1 x2 x3 x4 x5) j 0 := by
  unfold val_main_v20 val_main_v19 val_main_v18 val_main_v17 val_main_v6 val_main_v5
  pointwise
  rfl
theorem v26 (i : Fin 2048) (j : Fin 11264) : val_main_v26 (F := Ideal) x2 (ix2 i j) = tap (args x0 x1 x2 x3 x4 x5) j 1 := by
  unfold val_main_v26 val_main_v25 val_main_v24 val_main_v23 val_main_v6 val_main_v5
  pointwise
  rfl
theorem v33 (i : Fin 2048) (j : Fin 11264) : val_main_v33 (F := Ideal) x2 (ix2 i j) = tap (args x0 x1 x2 x3 x4 x5) j 2 := by
  unfold val_main_v33 val_main_v32 val_main_v31 val_main_v30 val_main_v6 val_main_v5
  pointwise
  rfl
theorem v78 (i : Fin 2048) (j : Fin 11264) : val_main_v78 (F := Ideal) x2 (ix2 i j) = tap (args x0 x1 x2 x3 x4 x5) j 0 := v20 x0 x1 x2 x3 x4 x5 i j
theorem v67 (i : Fin 2048) (j : Fin 11264) : val_main_v67 (F := Ideal) x2 (ix2 i j) = tap (args x0 x1 x2 x3 x4 x5) j 1 := v26 x0 x1 x2 x3 x4 x5 i j
theorem v58 (i : Fin 2048) (j : Fin 11264) : val_main_v58 (F := Ideal) x2 (ix2 i j) = tap (args x0 x1 x2 x3 x4 x5) j 2 := v33 x0 x1 x2 x3 x4 x5 i j

/-- The convolution and its halves. -/
theorem v38 (i : Fin 2048) (j : Fin 11264) : val_main_v38 (F := Ideal) x0 x1 x2 x3 (ix2 i j) = cc (args x0 x1 x2 x3 x4 x5) j i := by
  have h1 := v16 x0 x1 x2 x3 x4 x5 i j
  have h2 := v22 x0 x1 x2 x3 x4 x5 i j
  have h3 := v29 x0 x1 x2 x3 x4 x5 i j
  have w1 := v20 x0 x1 x2 x3 x4 x5 i j
  have w2 := v26 x0 x1 x2 x3 x4 x5 i j
  have w3 := v33 x0 x1 x2 x3 x4 x5 i j
  unfold val_main_v38 val_main_v37 val_main_v36 val_main_v7 val_main_v35 val_main_v28 val_main_v34 val_main_v27 val_main_v21
  generalize val_main_v16 (F := Ideal) x0 x1 = y1 at h1
  generalize val_main_v22 (F := Ideal) x0 x1 = y2 at h2
  generalize val_main_v29 (F := Ideal) x0 x1 = y3 at h3
  generalize val_main_v20 (F := Ideal) x2 = z1 at w1
  generalize val_main_v26 (F := Ideal) x2 = z2 at w2
  generalize val_main_v33 (F := Ideal) x2 = z3 at w3
  pointwise
  rw [h1, h2, h3, w1, w2, w3]
  rfl
theorem v39 (i : Fin 2048) (j : Fin 5632) : val_main_v39 (F := Ideal) x0 x1 x2 x3 (ix2 i j) = cc (args x0 x1 x2 x3 x4 x5) (lo j) i := by
  rw [← v38]
  unfold val_main_v39
  generalize val_main_v38 (F := Ideal) x0 x1 x2 x3 = y
  pointwise
theorem v40 (i : Fin 2048) (j : Fin 5632) : val_main_v40 (F := Ideal) x0 x1 x2 x3 (ix2 i j) = cc (args x0 x1 x2 x3 x4 x5) (hi j) i := by
  rw [← v38]
  unfold val_main_v40
  generalize val_main_v38 (F := Ideal) x0 x1 x2 x3 = y
  pointwise
  exact congrArg (fun k => y (ix2 i k)) (Fin.ext (Nat.add_comm 5632 j.val))

/-- The logistic of the first half, and the gated activation. -/
theorem v41_2 (i : Fin 2048) (j : Fin 5632) : val_main_v41_2 (F := Ideal) x0 x1 x2 x3 (ix2 i j) = sigm (cc (args x0 x1 x2 x3 x4 x5) (lo j) i) := by
  rw [← v39]
  unfold val_main_v41_2 val_main_call0_v4 val_main_call0_v3 val_main_call0_cst_0 val_main_call0_v2 val_main_call0_cst val_main_call0_v1 val_main_call0_v0
  generalize val_main_v39 (F := Ideal) x0 x1 x2 x3 = y
  pointwise
  exact (sigm_neg _).symm
theorem v42 (i : Fin 2048) (j : Fin 5632) : val_main_v42 (F := Ideal) x0 x1 x2 x3 (ix2 i j) = act (args x0 x1 x2 x3 x4 x5) j i := by
  have h1 := v39 x0 x1 x2 x3 x4 x5 i j
  have h2 := v40 x0 x1 x2 x3 x4 x5 i j
  have h3 := v41_2 x0 x1 x2 x3 x4 x5 i j
  unfold val_main_v42 val_main_v41_0
  generalize val_main_v39 (F := Ideal) x0 x1 x2 x3 = y1 at h1
  generalize val_main_v40 (F := Ideal) x0 x1 x2 x3 = y2 at h2
  generalize val_main_v41_2 (F := Ideal) x0 x1 x2 x3 = y3 at h3
  pointwise
  rw [h1, h2, h3]
  rfl

/-! ## The backward lines -/

/-- The activation's gradient, and the gradients of the convolution's halves. -/
theorem v47 (i : Fin 2048) (j : Fin 5632) : val_main_v47 (F := Ideal) x4 x5 (ix2 i j) = da (args x0 x1 x2 x3 x4 x5) j i := by
  unfold val_main_v47 val_main_v44 val_main_v10 val_main_v9 val_main_v8
  pointwise
  rfl
theorem v48 (i : Fin 2048) (j : Fin 5632) : val_main_v48 (F := Ideal) x0 x1 x2 x3 x4 x5 (ix2 i j) = du (args x0 x1 x2 x3 x4 x5) j i := by
  have h1 := v39 x0 x1 x2 x3 x4 x5 i j
  have h2 := v47 x0 x1 x2 x3 x4 x5 i j
  have h3 := v41_2 x0 x1 x2 x3 x4 x5 i j
  unfold val_main_v48 val_main_v41_0
  generalize val_main_v39 (F := Ideal) x0 x1 x2 x3 = y1 at h1
  generalize val_main_v47 (F := Ideal) x4 x5 = y2 at h2
  generalize val_main_v41_2 (F := Ideal) x0 x1 x2 x3 = y3 at h3
  pointwise
  rw [h1, h2, h3]
  exact mul_comm _ _
theorem v50 (h : (args x0 x1 x2 x3 x4 x5).Finite) (i : Fin 2048) (j : Fin 5632) : val_main_v50 (F := Ideal) x0 x1 x2 x3 x4 x5 (ix2 i j) = dg (args x0 x1 x2 x3 x4 x5) j i := by
  rw [← dg_sum h]
  have h1 := v39 x0 x1 x2 x3 x4 x5 i j
  have h2 := v40 x0 x1 x2 x3 x4 x5 i j
  have h3 := v41_2 x0 x1 x2 x3 x4 x5 i j
  have h4 := v47 x0 x1 x2 x3 x4 x5 i j
  unfold val_main_v50 val_main_call1_v2 val_main_call1_v1 val_main_call1_v0 val_main_v49 val_main_v41_1 val_main_call0_v7 val_main_call0_v6 val_main_call0_cst_1
  generalize val_main_v39 (F := Ideal) x0 x1 x2 x3 = y1 at h1
  generalize val_main_v40 (F := Ideal) x0 x1 x2 x3 = y2 at h2
  generalize val_main_v41_2 (F := Ideal) x0 x1 x2 x3 = y3 at h3
  generalize val_main_v47 (F := Ideal) x4 x5 = y4 at h4
  pointwise
  rw [h1, h2, h3, h4]
  rfl

/-- The convolution's gradient, a column of either half. -/
def d (j : Fin 11264) : Fin 2048 → EReal := if h : j.val < 5632 then dg (args x0 x1 x2 x3 x4 x5) ⟨j.val, h⟩ else du (args x0 x1 x2 x3 x4 x5) ⟨j.val - 5632, by omega⟩

theorem v51 (h : (args x0 x1 x2 x3 x4 x5).Finite) (i : Fin 2048) (j : Fin 11264) :
    val_main_v51 (F := Ideal) x0 x1 x2 x3 x4 x5 (ix2 i j) = d x0 x1 x2 x3 x4 x5 j i := by
  unfold d
  have h1 := v50 x0 x1 x2 x3 x4 x5 h i
  have h2 := v48 x0 x1 x2 x3 x4 x5 i
  unfold val_main_v51
  generalize val_main_v50 (F := Ideal) x0 x1 x2 x3 x4 x5 = y1 at h1
  generalize val_main_v48 (F := Ideal) x0 x1 x2 x3 x4 x5 = y2 at h2
  pointwise
  by_cases hj : j.val < 5632
  · rw [dif_pos hj, dif_pos hj]; exact h1 _
  · rw [dif_neg hj, dif_neg hj]; exact h2 _

/-- The up projection's gradient. -/
theorem v89 (h : (args x0 x1 x2 x3 x4 x5).Finite) (i : Fin 2048) (j : Fin 11264) :
    val_main_v89 (F := Ideal) x0 x1 x2 x3 x4 x5 (ix2 i j) = convT (tap (args x0 x1 x2 x3 x4 x5) j) (d x0 x1 x2 x3 x4 x5 j) i := by
  have h1 := fun i => v51 x0 x1 x2 x3 x4 x5 h i j
  have w0 := fun i => v78 x0 x1 x2 x3 x4 x5 i j
  have w1 := fun i => v67 x0 x1 x2 x3 x4 x5 i j
  have w2 := fun i => v58 x0 x1 x2 x3 x4 x5 i j
  unfold val_main_v89 val_main_v87 val_main_v85 val_main_v84 val_main_v74 val_main_v73 val_main_v63 val_main_v59 val_main_v68 val_main_v79
  unfold val_main_cst_8 val_main_cst_12 val_main_cst_16
  generalize val_main_v51 (F := Ideal) x0 x1 x2 x3 x4 x5 = y at h1
  generalize val_main_v78 (F := Ideal) x2 = z0 at w0
  generalize val_main_v67 (F := Ideal) x2 = z1 at w1
  generalize val_main_v58 (F := Ideal) x2 = z2 at w2
  pointwise
  simp only [h1, w0, w1, w2]
  have hi := i.isLt
  generalize d x0 x1 x2 x3 x4 x5 j = f
  generalize tap (args x0 x1 x2 x3 x4 x5) j = w
  have ep : (if h : 2 ≤ 1 + i.val ∧ 1 + i.val - 2 < 2048 then f ⟨1 + i.val - 2, h.2⟩ * w 2 else 0) = prev f i * w 2 := by
    unfold prev
    by_cases hi0 : i.val = 0
    · rw [dif_neg (by omega), if_pos hi0, zero_mul]
    · rw [dif_pos (by omega), if_neg hi0]
      exact congrArg (fun k => f k * w 2) (Fin.ext (by show 1 + i.val - 2 = i.val - 1; omega))
  have en : (if h : 1 + i.val < 2048 then f ⟨1 + i.val, h⟩ * w 0 else 0) = next f i * w 0 := by
    unfold next
    by_cases hi0 : i.val < 2047
    · rw [dif_pos (by omega), dif_pos hi0]
      exact congrArg (fun k => f k * w 0) (Fin.ext (Nat.add_comm 1 i.val))
    · rw [dif_neg (by omega), dif_neg hi0, zero_mul]
  rw [en]
  unfold convT
  rw [← ep]
  rw [add_comm, ← add_assoc, add_right_comm]

theorem d_lo (j : Fin 5632) : d x0 x1 x2 x3 x4 x5 (lo j) = dg (args x0 x1 x2 x3 x4 x5) j := dif_pos j.isLt
theorem d_hi (j : Fin 5632) : d x0 x1 x2 x3 x4 x5 (hi j) = du (args x0 x1 x2 x3 x4 x5) j :=
  (dif_neg (by show ¬(j.val + 5632 < 5632); omega)).trans (congrArg (du (args x0 x1 x2 x3 x4 x5)) (Fin.ext (by show j.val + 5632 - 5632 = j.val; omega)))

theorem v90 (h : (args x0 x1 x2 x3 x4 x5).Finite) (i : Fin 2048) (j : Fin 5632) : val_main_v90 (F := Ideal) x0 x1 x2 x3 x4 x5 (ix2 i j) = dug (args x0 x1 x2 x3 x4 x5) i j := by
  have e := v89 x0 x1 x2 x3 x4 x5 h i (lo j)
  rw [d_lo] at e
  refine Eq.trans ?_ e
  unfold val_main_v90
  generalize val_main_v89 (F := Ideal) x0 x1 x2 x3 x4 x5 = y
  pointwise
theorem v91 (h : (args x0 x1 x2 x3 x4 x5).Finite) (i : Fin 2048) (j : Fin 5632) : val_main_v91 (F := Ideal) x0 x1 x2 x3 x4 x5 (ix2 i j) = duu (args x0 x1 x2 x3 x4 x5) i j := by
  have e := v89 x0 x1 x2 x3 x4 x5 h i (hi j)
  rw [d_hi] at e
  refine Eq.trans ?_ e
  unfold val_main_v91
  generalize val_main_v89 (F := Ideal) x0 x1 x2 x3 x4 x5 = y
  pointwise
  exact congrArg (fun k => y (ix2 i k)) (Fin.ext (Nat.add_comm 5632 j.val))

/-- The gradients of the taps. -/
theorem v83 (h : (args x0 x1 x2 x3 x4 x5).Finite) (r : Fin 3) (j : Fin 11264) : val_main_v83 (F := Ideal) x0 x1 x2 x3 x4 x5 (ix2 r j) = dcw (args x0 x1 x2 x3 x4 x5) r j := by
  have e : dcw (args x0 x1 x2 x3 x4 x5) r j = dtap (d x0 x1 x2 x3 x4 x5 j) (up (args x0 x1 x2 x3 x4 x5) j) r := by
    unfold dcw d
    by_cases hj : j.val < 5632
    · rw [dif_pos hj, dif_pos hj]
    · rw [dif_neg hj, dif_neg hj]
  rw [e]
  have h1 := fun i => v29 x0 x1 x2 x3 x4 x5 i j
  have h2 := fun i => v22 x0 x1 x2 x3 x4 x5 i j
  have h3 := fun i => v16 x0 x1 x2 x3 x4 x5 i j
  have h4 := fun i => v51 x0 x1 x2 x3 x4 x5 h i j
  unfold val_main_v83 val_main_v82 val_main_v72 val_main_v62 val_main_v71 val_main_v61 val_main_v70 val_main_v81 val_main_v60 val_main_v69 val_main_v80 val_main_v57 val_main_v66 val_main_v77 val_main_v56 val_main_v65 val_main_v76 val_main_v55 val_main_v64 val_main_v75
  unfold val_main_cst_5 val_main_cst_6 val_main_cst_7 val_main_cst_9 val_main_cst_10 val_main_cst_11 val_main_cst_13 val_main_cst_14 val_main_cst_15
  generalize val_main_v29 (F := Ideal) x0 x1 = y1 at h1
  generalize val_main_v22 (F := Ideal) x0 x1 = y2 at h2
  generalize val_main_v16 (F := Ideal) x0 x1 = y3 at h3
  generalize val_main_v51 (F := Ideal) x0 x1 x2 x3 x4 x5 = y4 at h4
  pointwise
  simp only [h1, h2, h3, h4, Fin.sum_univ_one]
  fin_cases r
  · rw [dif_neg (by decide), dif_neg (by decide), dif_pos (by decide), zero_add, zero_add]; exact dtap_0' _ _
  · rw [dif_neg (by decide), dif_pos (by decide), dif_neg (by decide), zero_add, add_zero]; exact dtap_1' _ _
  · rw [dif_pos (by decide), dif_neg (by decide), dif_neg (by decide), add_zero, add_zero]; exact dtap_2' _ _

/-- The biases' gradient. -/
theorem v92 (h : (args x0 x1 x2 x3 x4 x5).Finite) (j : Fin 11264) : val_main_v92 (F := Ideal) x0 x1 x2 x3 x4 x5 (ix2 (0 : Fin 1) j) = dcb (args x0 x1 x2 x3 x4 x5) j := by
  have e : dcb (args x0 x1 x2 x3 x4 x5) j = ∑ i, d x0 x1 x2 x3 x4 x5 j i := by
    unfold dcb d
    by_cases hj : j.val < 5632
    · rw [dif_pos hj, dif_pos hj]
    · rw [dif_neg hj, dif_neg hj]
  rw [e]
  have h4 := fun i => v51 x0 x1 x2 x3 x4 x5 h i j
  unfold val_main_v92 val_main_v54 val_main_v53 val_main_v52 val_main_cst_3 val_main_cst_4
  generalize val_main_v51 (F := Ideal) x0 x1 x2 x3 x4 x5 = y4 at h4
  pointwise
  simp only [h4, Fin.sum_univ_one]

/-- The down projection's gradient. -/
theorem v95 (j : Fin 5632) (k : Fin 2048) : val_main_v95 (F := Ideal) x0 x1 x2 x3 x5 (ix3 (0 : Fin 1) j k) = dwd (args x0 x1 x2 x3 x4 x5) j k := by
  have h1 := fun i => v42 x0 x1 x2 x3 x4 x5 i j
  unfold val_main_v95 val_main_v94 val_main_v93 val_main_v46 val_main_v45 val_main_v44
  generalize val_main_v42 (F := Ideal) x0 x1 x2 x3 = y at h1
  pointwise
  exact sum_eq fun q => (mul_comm _ _).trans (by rw [h1]; rfl)

end Cert.FfnRefIdeal.Reference

end
-- ==== Proof.FfnClaim.lean ====
/-
  The certificate of the feed-forward layer's backward chain: the reference's frame, and the value claim, which sets
  the chain's five results beside the reference's through the specification both compute.
-/
module

public import proofs.«01_k».proof.Proof.FfnKernel
public import proofs.«01_k».proof.Proof.FfnReference
public import proofs.«01_k».proof.Proof.GqaClaim
public import proofs.«01_k».proof.Proof.Gen.FfnRefIdeal.Run
public import proofs.«01_k».proof.Proof.Gen.Pre_finite_ffn
public import proofs.«01_k».proof.Defs

@[expose] public section

set_option maxRecDepth 16384

noncomputable section

namespace Cert.Ffn

open Idealize.ShloMosaic Idealize.ShloMosaic.TcCoe Idealize.SL.Sem Idealize.ShloMosaic.StableHlo
open Cert.Taps

/-- A comparison of an absolute value with infinity that comes out true speaks of a real. -/
theorem real_of_bit (x : EReal) (h : BitVec.ofBool (decide (max x (-x) < ⊤)) = 1#1) : IsReal x := by
  by_cases hlt : max x (-x) < ⊤
  · exact Cert.Gqa.real_of_abs_lt x hlt
  · rw [decide_eq_false hlt] at h
    exact absurd h (by decide)

/-- The precondition makes every entry of every argument a real. -/
theorem finite_of_pre (x0 : Vec Ideal (⟨2, ![2048, 2048]⟩ : Shape) .bf16) (x1 : Vec Ideal (⟨3, ![4, 2048, 2816]⟩ : Shape) .bf16)
    (x2 : Vec Ideal (⟨3, ![4, 3, 2816]⟩ : Shape) .f32) (x3 : Vec Ideal (⟨2, ![1, 11264]⟩ : Shape) .f32)
    (x4 : Vec Ideal (⟨3, ![1, 5632, 2048]⟩ : Shape) .bf16) (x5 : Vec Ideal (⟨2, ![2048, 2048]⟩ : Shape) .bf16)
    (h0 : (Cert.Pre_finite_ffn.fn (F := Ideal) x0 x1 x2 x3 x4 x5).1 = fun _ => 1#1)
    (h1 : (Cert.Pre_finite_ffn.fn (F := Ideal) x0 x1 x2 x3 x4 x5).2.1 = fun _ => 1#1)
    (h2 : (Cert.Pre_finite_ffn.fn (F := Ideal) x0 x1 x2 x3 x4 x5).2.2.1 = fun _ => 1#1)
    (h3 : (Cert.Pre_finite_ffn.fn (F := Ideal) x0 x1 x2 x3 x4 x5).2.2.2.1 = fun _ => 1#1)
    (h4 : (Cert.Pre_finite_ffn.fn (F := Ideal) x0 x1 x2 x3 x4 x5).2.2.2.2.1 = fun _ => 1#1)
    (h5 : (Cert.Pre_finite_ffn.fn (F := Ideal) x0 x1 x2 x3 x4 x5).2.2.2.2.2 = fun _ => 1#1) :
    (Cert.FfnRefIdeal.Reference.args x0 x1 x2 x3 x4 x5).Finite := by
  unfold Cert.Pre_finite_ffn.fn Cert.Pre_finite_ffn.fn_part1 at h0 h1 h2 h3 h4 h5
  dsimp only at h0 h1 h2 h3 h4 h5
  refine ⟨fun i q => ?_, fun n q j => ?_, fun n r j => ?_, fun j => ?_, fun j q => ?_, fun i q => ?_⟩
  · have hi := congrFun h0 (ix2 i q)
    pointwise at hi
    rw [Cert.Gqa.ofBits_inf] at hi
    exact real_of_bit _ hi
  · have hi := congrFun h1 (ix3 n q j)
    pointwise at hi
    rw [Cert.Gqa.ofBits_inf] at hi
    exact real_of_bit _ hi
  · have hi := congrFun h2 (ix3 n r j)
    pointwise at hi
    rw [Cert.Gqa.ofBits_inf] at hi
    exact real_of_bit _ hi
  · have hi := congrFun h3 (ix2 (0 : Fin 1) j)
    pointwise at hi
    rw [Cert.Gqa.ofBits_inf] at hi
    exact real_of_bit _ hi
  · have hi := congrFun h4 (ix3 (0 : Fin 1) j q)
    pointwise at hi
    rw [Cert.Gqa.ofBits_inf] at hi
    exact real_of_bit _ hi
  · have hi := congrFun h5 (ix2 i q)
    pointwise at hi
    rw [Cert.Gqa.ofBits_inf] at hi
    exact real_of_bit _ hi

/-- The reference runs from any state, leaves its arguments as they were and its semaphores at zero. -/
theorem reference_frame : Cert.quiescent_FfnRefIdeal := fun m ρ _ =>
  (θ_run Cert.FfnRefIdeal.defs _ _).mono (fun r h => ⟨fun c => (h c).2.2.2.2.2, sem_eq_zero_of_no_sems (by decide) r.2⟩)
    (Cert.FfnRefIdeal.Value.run (F := Ideal) m ρ)

/-- The chain's five results are the reference's, wherever the arguments are finite. -/
theorem value : Cert.algebraic_FfnBwdIdeal_FfnRefIdeal_pre_finite_ffn := by
  intro m g m' g' hpre hargs
  refine ⟨fun c => Cert.FfnBwdIdeal.Gen.W7 m g c Cert.FfnBwdIdeal.main_v6_0, fun c => Cert.FfnBwdIdeal.Gen.W7 m g c Cert.FfnBwdIdeal.main_v6_1,
    fun c => Cert.FfnBwdIdeal.Gen.W7 m g c Cert.FfnBwdIdeal.main_v7, fun c => Cert.FfnBwdIdeal.Gen.W7 m g c Cert.FfnBwdIdeal.main_v8,
    fun c => Cert.FfnBwdIdeal.Gen.W7 m g c Cert.FfnBwdIdeal.main_v2,
    (θ_run Cert.FfnBwdIdeal.defs _ _).mono (fun r h c =>
      ⟨(h c).1.1, (h c).1.2.1, (h c).1.2.2.1, (h c).1.2.2.2.1, (h c).1.2.2.2.2, (h c).2⟩) (Cert.FfnBwdIdeal.Results.run m g), ?_⟩
  refine (θ_run _ _ _).mono (fun r h c => ?_) (Cert.FfnRefIdeal.Value.run (F := Ideal) m' g')
  obtain ⟨h0, h1, h2, h3, h4, ha⟩ := h c
  obtain ⟨e0, e1, e2, e3, e4, e5⟩ := hargs c
  obtain ⟨p0, p1, p2, p3, p4, p5⟩ := hpre c
  have hf := finite_of_pre _ _ _ _ _ _ p0 p1 p2 p3 p4 p5
  have q0 : launchContents m' c (Proc.devRef .tc Cert.FfnRefIdeal.main_arg0) = m ((c.tc : Thread Cert.FfnBwdIdeal.nD Cert.FfnBwdIdeal.τ).loc Cert.FfnBwdIdeal.main_arg0) := e0
  have q1 : launchContents m' c (Proc.devRef .tc Cert.FfnRefIdeal.main_arg1) = m ((c.tc : Thread Cert.FfnBwdIdeal.nD Cert.FfnBwdIdeal.τ).loc Cert.FfnBwdIdeal.main_arg1) := e1
  have q2 : launchContents m' c (Proc.devRef .tc Cert.FfnRefIdeal.main_arg2) = m ((c.tc : Thread Cert.FfnBwdIdeal.nD Cert.FfnBwdIdeal.τ).loc Cert.FfnBwdIdeal.main_arg2) := e2
  have q3 : launchContents m' c (Proc.devRef .tc Cert.FfnRefIdeal.main_arg3) = m ((c.tc : Thread Cert.FfnBwdIdeal.nD Cert.FfnBwdIdeal.τ).loc Cert.FfnBwdIdeal.main_arg3) := e3
  have q4 : launchContents m' c (Proc.devRef .tc Cert.FfnRefIdeal.main_arg4) = m ((c.tc : Thread Cert.FfnBwdIdeal.nD Cert.FfnBwdIdeal.τ).loc Cert.FfnBwdIdeal.main_arg4) := e4
  have q5 : launchContents m' c (Proc.devRef .tc Cert.FfnRefIdeal.main_arg5) = m ((c.tc : Thread Cert.FfnBwdIdeal.nD Cert.FfnBwdIdeal.τ).loc Cert.FfnBwdIdeal.main_arg5) := e5
  clear p0 p1 p2 p3 p4 p5 hpre hargs
  refine ⟨h0.trans ?_, h1.trans ?_, h2.trans ?_, h3.trans ?_, h4.trans ?_, ha⟩
  all_goals clear h0 h1 h2 h3 h4 ha h
  · rw [Cert.FfnRefIdeal.Read.val_main_v90_eq, q0, q1, q2, q3, q4, q5]
    funext i
    rw [eq_ix2 i]
    exact (Cert.FfnRefIdeal.Reference.v90 _ _ _ _ _ _ hf _ _).trans (Cert.FfnBwdIdeal.Kernel.res0 m g c _ _).symm
  · rw [Cert.FfnRefIdeal.Read.val_main_v91_eq, q0, q1, q2, q3, q4, q5]
    funext i
    rw [eq_ix2 i]
    exact (Cert.FfnRefIdeal.Reference.v91 _ _ _ _ _ _ hf _ _).trans (Cert.FfnBwdIdeal.Kernel.res1 m g c _ _).symm
  · rw [Cert.FfnRefIdeal.Read.val_main_v83_eq, q0, q1, q2, q3, q4, q5]
    funext i
    rw [eq_ix2 i]
    exact (Cert.FfnRefIdeal.Reference.v83 _ _ _ _ _ _ hf _ _).trans (Cert.FfnBwdIdeal.Kernel.res2 m g c _ _).symm
  · rw [Cert.FfnRefIdeal.Read.val_main_v92_eq, q0, q1, q2, q3, q4, q5]
    funext i
    obtain ⟨j, rfl⟩ : ∃ j : Fin 11264, i = ix2 (0 : Fin 1) j := ⟨i 1, by rw [eq_ix2 i]; exact congrArg (ix2 · _) (Subsingleton.elim _ _)⟩
    exact (Cert.FfnRefIdeal.Reference.v92 _ _ _ _ _ _ hf _).trans (Cert.FfnBwdIdeal.Kernel.res3 m g c _).symm
  · rw [Cert.FfnRefIdeal.Read.val_main_v95_eq, q0, q1, q2, q3, q5]
    funext i
    obtain ⟨j, k, rfl⟩ : ∃ (j : Fin 5632) (k : Fin 2048), i = ix3 (0 : Fin 1) j k :=
      ⟨i 1, i 2, by rw [eq_ix3 i]; exact congrArg (ix3 · _ _) (Subsingleton.elim _ _)⟩
    exact (Cert.FfnRefIdeal.Reference.v95 _ _ _ _ _ _ _ _).trans (Cert.FfnBwdIdeal.Kernel.res4 m g c _ _).symm

end Cert.Ffn

end
-- ==== Proof.DwUpKernel.lean ====
/-
  What the kernel of the up-projection's weight gradient leaves in its result over the extended reals, for all arguments:
  at every index the sum over the tokens of the layer's input times the gradient of the gates or of the values.
-/
module

public import proofs.«01_k».proof.Proof.Gen.DwUpIdeal.Value
public import proofs.«01_k».proof.Proof.Sums
public import Idealize.ShloMosaic.Lib.Pointwise

@[expose] public section

set_option maxRecDepth 16384

noncomputable section

namespace Cert.DwUpIdeal.Kernel

open Idealize.ShloMosaic Idealize.ShloMosaic.TcCoe Idealize.SL.Sem
open Cert.DwUpIdeal Cert.DwUpIdeal.Gen Cert.DwUpIdeal.Value Cert.Sums

/-! ## The two cases of a point -/

section cases
variable {F : FTy → Type} [FloatOps F]

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S2048x1024 .bf16) (harg3 : arg3.IsWhole)
  (arg4 : Memref sig .tc .vmem S2048x1408 .bf16) (harg4 : arg4.IsWhole)
  (arg5 : Memref sig .tc .vmem S2048x1408 .bf16) (harg5 : arg5.IsWhole)
  (arg6 : Memref sig .tc .vmem S1x1024x1408 .bf16) (harg6 : arg6.IsWhole)
  (x0 : Vec F S2048x1024 .bf16) (x1 : Vec F S2048x1408 .bf16) (x2 : Vec F S2048x1408 .bf16)

/-- A point over the gates' half reads the gates' gradient. -/
theorem out_A_eq (hc0 : cond0_0 i) (hc1 : ¬cond0_1 i) :
    out0_A_3 c i arg3 harg3 arg4 harg4 arg5 harg5 arg6 harg6 hc0 hc1 x0 x1 x2 = k0_pay1 x0 x1 := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_words
  simp only [View.canon_unit_zero (S := S1x1024x1408) hz3, View.readAt_eq_ld, harg3.read_unread, harg4.read_unread, harg5.read_unread,
    View.ld_unit_zero (S := S2048x1024) hz, View.ld_unit_zero (S := S2048x1408) hz]

/-- A point over the values' half reads the values' gradient. -/
theorem out_B_eq (hc0 : ¬cond0_0 i) (hc1 : cond0_1 i) :
    out0_B_3 c i arg3 harg3 arg4 harg4 arg5 harg5 arg6 harg6 hc0 hc1 x0 x1 x2 = k0_pay2 x0 x2 := by
  unfold out0_B_3
  rw [View.read_writes_eq_canon _ _ _ (cover0_B_3 c i arg3 harg3 arg4 harg4 arg5 harg5 arg6 harg6 hc0 hc1 x0 x1 x2)]
  unfold kernelRun0_B
  dsimp only
  sl_unfold_words
  simp only [View.canon_unit_zero (S := S1x1024x1408) hz3, View.readAt_eq_ld, harg3.read_unread, harg4.read_unread, harg5.read_unread,
    View.ld_unit_zero (S := S2048x1024) hz, View.ld_unit_zero (S := S2048x1408) hz]

end cases

/-! ## The payloads at an index -/

theorem pay1_apply (x : Vec Ideal S2048x1024 .bf16) (g : Vec Ideal S2048x1408 .bf16) (r : Fin 1024) (s : Fin 1408) :
    k0_pay1 x g (ix3 (0 : Fin 1) r s) = ∑ t : Fin 2048, x (ix2 t r) * g (ix2 t s) := by
  unfold k0_pay1
  pointwise

theorem pay2_apply (x : Vec Ideal S2048x1024 .bf16) (g : Vec Ideal S2048x1408 .bf16) (r : Fin 1024) (s : Fin 1408) :
    k0_pay2 x g (ix3 (0 : Fin 1) r s) = ∑ t : Fin 2048, x (ix2 t r) * g (ix2 t s) := by
  unfold k0_pay2
  pointwise

/-! ## The blocks -/

/-- The block index of each window at a grid point. -/
theorem idx0 : ∀ t : Fin grid0.N, win0_0.index t 0 = 0 ∧ win0_0.index t 1 = t.val / 8 := by decide +kernel
theorem idx1 : ∀ t : Fin grid0.N, win0_1.index t 0 = 0 ∧ win0_1.index t 1 = min (t.val % 8) 3 := by decide +kernel
theorem idx2 : ∀ t : Fin grid0.N, win0_2.index t 0 = 0 ∧ win0_2.index t 1 = t.val % 8 - 4 := by decide +kernel
theorem idx3 : ∀ t : Fin grid0.N,
    win0_3.index t 0 = t.val % 8 / 2 ∧ win0_3.index t 1 = t.val / 8 ∧ win0_3.index t 2 = t.val % 2 := by decide +kernel

/-- Every point writes its block back. -/
theorem flush3 : ∀ t : Fin cfg0.N, (cfg0.win 3).flush t = true :=
  (by decide +kernel : ∀ t : Fin grid0.N, win0_3.flush t = true)

variable (m : (ℓ : Loc nD τ sig) → Buf (Elt Ideal) ℓ) (c : Dev nD)

/-- The arguments the kernel is run on: the layer's input and the gradients of the gates and of the values. -/
abbrev argX : Vec Ideal S2048x2048 .bf16 := m ((c : Thread nD τ).loc main_arg0)
abbrev argG : Vec Ideal S2048x5632 .bf16 := m ((c : Thread nD τ).loc main_arg1)
abbrev argU : Vec Ideal S2048x5632 .bf16 := m ((c : Thread nD τ).loc main_arg2)

/-- A grid point is below 16. -/
theorem lt16 (t : Fin cfg0.N) : t.val < 16 := lt_of_lt_of_eq t.isLt N_0

/-- The block of the input. -/
theorem blk_x (t : Fin cfg0.N) (r : Fin 2048) (k : Fin 1024) (j : Fin 2048) (hj : j.val = t.val / 8 * 1024 + k.val) :
    (iblk m c 0 t : Vec Ideal S2048x1024 .bf16) (ix2 r k) = argX m c (ix2 r j) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 2048 + 1 * r.val = r.val; rw [h.1]; omega
  | ⟨1, _⟩ => show win0_0.index t 1 * 1024 + 1 * k.val = j.val; rw [h.2]; omega

/-- The block of the gates' gradient. -/
theorem blk_g (t : Fin cfg0.N) (ht : t.val % 8 ≤ 3) (r : Fin 2048) (k : Fin 1408) (j : Fin 5632) (hj : j.val = t.val % 8 * 1408 + k.val) :
    (iblk m c 1 t : Vec Ideal S2048x1408 .bf16) (ix2 r k) = argG m c (ix2 r j) := by
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 2048 + 1 * r.val = r.val; rw [h.1]; omega
  | ⟨1, _⟩ => show win0_1.index t 1 * 1408 + 1 * k.val = j.val; rw [h.2, Nat.min_eq_left ht]; omega

/-- The block of the values' gradient. -/
theorem blk_u (t : Fin cfg0.N) (r : Fin 2048) (k : Fin 1408) (j : Fin 5632) (hj : j.val = (t.val % 8 - 4) * 1408 + k.val) :
    (iblk m c 2 t : Vec Ideal S2048x1408 .bf16) (ix2 r k) = argU m c (ix2 r j) := by
  unfold iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 2048 + 1 * r.val = r.val; rw [h.1]; omega
  | ⟨1, _⟩ => show win0_2.index t 1 * 1408 + 1 * k.val = j.val; rw [h.2]; omega

/-- An entry of the result is the entry of the block its point writes back. -/
theorem entry (t : Fin cfg0.N) (r : Fin 1024) (s : Fin 1408) (n : Fin 4) (k : Fin 2048) (j : Fin 2816)
    (hn : n.val = t.val % 8 / 2) (hk : k.val = t.val / 8 * 1024 + r.val) (hj : j.val = t.val % 2 * 1408 + s.val) :
    ((dats m 0 c).arrAt 3 cfg0.N : Vec Ideal S4x2048x2816 .bf16) (ix3 n k j)
      = (outsAt0 m c t.val t.isLt : Vec Ideal S1x1024x1408 .bf16) (ix3 (0 : Fin 1) r s) := by
  have hb := congrFun (blocks3 m c t (flush3 t)) (ix3 (0 : Fin 1) r s)
  rw [flushed3, View.read_apply] at hb
  refine Eq.trans ?_ hb
  refine congrArg ((dats m 0 c).arrAt 3 cfg0.N) (funext fun a => Fin.ext ?_)
  have h := idx3 t
  match a with
  | ⟨0, _⟩ => show n.val = win0_3.index t 0 * 1 + 1 * 0; rw [h.1]; omega
  | ⟨1, _⟩ => show k.val = win0_3.index t 1 * 1024 + 1 * r.val; rw [h.2.1]; omega
  | ⟨2, _⟩ => show j.val = win0_3.index t 2 * 1408 + 1 * s.val; rw [h.2.2]; omega

/-- The weight's gradient, index by index: column `j` of shard `n` is column `2816 n + j` of the gates' and the values'
    gradients side by side. -/
theorem result_apply (n : Fin 4) (k : Fin 2048) (j : Fin 2816) :
    ((dats m 0 c).arrAt 3 cfg0.N : Vec Ideal S4x2048x2816 .bf16) (ix3 n k j)
      = ∑ r : Fin 2048, argX m c (ix2 r k) * (if h : n.val * 2816 + j.val < 5632 then argG m c (ix2 r ⟨n.val * 2816 + j.val, h⟩)
          else argU m c (ix2 r ⟨n.val * 2816 + j.val - 5632, by omega⟩)) := by
  have hn := n.isLt; have hk := k.isLt; have hj := j.isLt
  let t : Fin cfg0.N := ⟨k.val / 1024 * 8 + n.val * 2 + j.val / 1408, lt_of_lt_of_eq (by omega : _ < 16) N_0.symm⟩
  have ht : t.val = k.val / 1024 * 8 + n.val * 2 + j.val / 1408 := rfl
  rw [entry m c t ⟨k.val % 1024, by omega⟩ ⟨j.val % 1408, by omega⟩ n k j (by omega) (by show k.val = _ + k.val % 1024; omega)
    (by show j.val = _ + j.val % 1408; omega)]
  by_cases h : n.val * 2816 + j.val < 5632
  · rw [outsAt0_A m c t (by omega) (by omega)]
    dsimp only
    rw [out_A_eq, pay1_apply]
    refine sum_eq fun r => ?_
    rw [dif_pos h, blk_x m c t r _ k (by show _ = _ + k.val % 1024; omega),
      blk_g m c t (by omega) r _ ⟨n.val * 2816 + j.val, h⟩ (by show n.val * 2816 + j.val = _ + j.val % 1408; omega)]
  · rw [outsAt0_B m c t (by omega) (by omega)]
    dsimp only
    rw [out_B_eq, pay2_apply]
    refine sum_eq fun r => ?_
    rw [dif_neg h, blk_x m c t r _ k (by show _ = _ + k.val % 1024; omega),
      blk_u m c t r _ ⟨n.val * 2816 + j.val - 5632, by omega⟩ (by show n.val * 2816 + j.val - 5632 = _ + j.val % 1408; omega)]

end Cert.DwUpIdeal.Kernel

end
-- ==== Proof.DwUpClaim.lean ====
/-
  The certificate of the feed-forward layer's up-projection weight gradient: the value claim sets the kernel's result beside the reference's,
  index by index.
-/
module

public import proofs.«01_k».proof.Proof.DwUpKernel
public import proofs.«01_k».proof.Proof.Gen.DwUpRefIdeal.Run
public import proofs.«01_k».proof.Proof.Gen.DwUpRefIdeal.Read
public import proofs.«01_k».proof.Defs

@[expose] public section

set_option maxRecDepth 16384

noncomputable section

namespace Cert.DwUp

open Idealize.ShloMosaic Idealize.ShloMosaic.TcCoe Idealize.SL.Sem Idealize.ShloMosaic.StableHlo Cert.Sums

/-- The reference runs from any state, leaves its arguments as they were and its semaphores at zero. -/
theorem reference_frame : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

open Cert.DwUpRefIdeal Cert.DwUpRefIdeal.Read in
/-- The reference's result at an index: the sum over the tokens of the input's entry times the gradients' entry. -/
theorem reference_apply (x : Vec Ideal S2048x2048 .bf16) (y z : Vec Ideal S2048x5632 .bf16) (n : Fin 4) (k : Fin 2048) (j : Fin 2816) :
    val_main_v11 (F := Ideal) x y z (ix3 n k j)
      = ∑ r : Fin 2048, x (ix2 r k) * (if h : n.val * 2816 + j.val < 5632 then y (ix2 r ⟨n.val * 2816 + j.val, h⟩)
          else z (ix2 r ⟨n.val * 2816 + j.val - 5632, by have := n.isLt; have := j.isLt; omega⟩)) := by
  unfold val_main_v11 val_main_v10 val_main_v9 val_main_v7 val_main_v6 val_main_v3 val_main_v1 val_main_v2 val_main_v0
  pointwise
  exact sum_eq fun r => mul_comm _ _

/-- The kernel's weight gradient is the reference's. -/
theorem value : Cert.algebraic_DwUpIdeal_DwUpRefIdeal := by
  intro m g m' g' _ hargs
  refine ⟨fun c => (Cert.DwUpIdeal.Gen.dats m 0 c).arrAt 3 Cert.DwUpIdeal.cfg0.N, Cert.DwUpIdeal.Value.run_blocks m g, ?_⟩
  refine (θ_run _ _ _).mono (fun r h c => ?_) (Cert.DwUpRefIdeal.Value.run (F := Ideal) m' g')
  obtain ⟨h0, ha⟩ := h c
  obtain ⟨e0, e1, e2⟩ := hargs c
  refine ⟨h0.trans ?_, ha⟩
  rw [Cert.DwUpRefIdeal.Read.val_main_v11_eq, e0, e1, e2]
  funext i
  rw [eq_ix3 i]
  exact (reference_apply _ _ _ _ _ _).trans (Cert.DwUpIdeal.Kernel.result_apply m c _ _ _).symm

end Cert.DwUp

end
-- ==== Proof.DbKernel.lean ====
/-
  What the kernel of the feed-forward layer's input gradient leaves in its result over the extended reals, for all
  arguments: the sum over the up-projection's columns, a shard at a time, of the gradient of the gates or of the values
  times the weight.
-/
module

public import proofs.«01_k».proof.Proof.Gen.DbIdeal.Value
public import proofs.«01_k».proof.Proof.Sums
public import Idealize.ShloMosaic.Lib.Pointwise

@[expose] public section

set_option maxRecDepth 16384

noncomputable section

namespace Cert.DbIdeal.Kernel

open Idealize.ShloMosaic Idealize.ShloMosaic.TcCoe Idealize.SL.Sem
open Cert.DbIdeal Cert.DbIdeal.Gen Cert.DbIdeal.Value Cert.Sums

/-! ## The four cases of a point -/

section cases
variable {F : FTy → Type} [FloatOps F]

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1024x2816 .bf16) (harg3 : arg3.IsWhole)
  (arg4 : Memref sig .tc .vmem S1024x2816 .bf16) (harg4 : arg4.IsWhole)
  (arg5 : Memref sig .tc .vmem S1x1024x2816 .bf16) (harg5 : arg5.IsWhole)
  (arg6 : Memref sig .tc .vmem S1024x1024 .f32) (harg6 : arg6.IsWhole)
  (arg7 : Memref sig .tc .vmem S1024x1024 .f32) (harg7 : arg7.IsWhole)
  (x0 x1 : Vec F S1024x2816 .bf16) (x2 : Vec F S1x1024x2816 .bf16) (xs0 : Vec F S1024x1024 .f32)

/-- The accumulator after the first shard. -/
theorem sout_A_eq (hc0 : cond0_0 i) (hc1 : cond0_1 i) (hc2 : ¬cond0_2 i) (hc3 : ¬cond0_3 i) (hc4 : ¬cond0_4 i) :
    sout0_A_0 c i arg3 harg3 arg4 harg4 arg5 harg5 arg6 harg6 arg7 harg7 hc0 hc1 hc2 hc3 hc4 x0 x1 x2 = k0_pay2 x0 x2 := by
  unfold sout0_A_0
  rw [View.read_writes_eq_canon _ _ _ (scover0_A_0 c i arg3 harg3 arg4 harg4 arg5 harg5 arg6 harg6 arg7 harg7 hc0 hc1 hc2 hc3 hc4 x0 x1 x2)]
  unfold kernelRun0_A
  dsimp only
  sl_unfold_words
  simp only [View.canon_unit_zero (S := S1024x1024) hz, View.readAt_eq_ld, harg3.read_unread, harg4.read_unread, harg5.read_unread, harg7.read_unread,
    View.ld_unit_zero (S := S1024x2816) hz, View.ld_unit_zero (S := S1x1024x2816) hz3, View.ld_unit_zero (S := S1024x1024) hz]

/-- The accumulator after the second shard. -/
theorem sout_B_eq (hc0 : cond0_0 i) (hc1 : ¬cond0_1 i) (hc2 : cond0_2 i) (hc3 : ¬cond0_3 i) (hc4 : ¬cond0_4 i) :
    sout0_B_0 c i arg3 harg3 arg4 harg4 arg5 harg5 arg6 harg6 arg7 harg7 hc0 hc1 hc2 hc3 hc4 x0 x1 x2 xs0 = k0_pay3 x0 x2 xs0 := by
  unfold sout0_B_0
  rw [View.read_writes_eq_canon _ _ _ (scover0_B_0 c i arg3 harg3 arg4 harg4 arg5 harg5 arg6 harg6 arg7 harg7 hc0 hc1 hc2 hc3 hc4 x0 x1 x2 xs0)]
  unfold kernelRun0_B
  dsimp only
  sl_unfold_words
  simp only [View.canon_unit_zero (S := S1024x1024) hz, View.readAt_eq_ld, harg3.read_unread, harg4.read_unread, harg5.read_unread, harg7.read_unread,
    View.ld_unit_zero (S := S1024x2816) hz, View.ld_unit_zero (S := S1x1024x2816) hz3, View.ld_unit_zero (S := S1024x1024) hz]

/-- The accumulator after the third shard. -/
theorem sout_C_eq (hc0 : ¬cond0_0 i) (hc4 : cond0_4 i) (hc5 : ¬cond0_5 i) (hc6 : cond0_6 i) (hc7 : ¬cond0_7 i) :
    sout0_C_0 c i arg3 harg3 arg4 harg4 arg5 harg5 arg6 harg6 arg7 harg7 hc0 hc4 hc5 hc6 hc7 x0 x1 x2 xs0 = k0_pay6 x1 x2 xs0 := by
  unfold sout0_C_0
  rw [View.read_writes_eq_canon _ _ _ (scover0_C_0 c i arg3 harg3 arg4 harg4 arg5 harg5 arg6 harg6 arg7 harg7 hc0 hc4 hc5 hc6 hc7 x0 x1 x2 xs0)]
  unfold kernelRun0_C
  dsimp only
  sl_unfold_words
  simp only [View.canon_unit_zero (S := S1024x1024) hz, View.readAt_eq_ld, harg3.read_unread, harg4.read_unread, harg5.read_unread, harg7.read_unread,
    View.ld_unit_zero (S := S1024x2816) hz, View.ld_unit_zero (S := S1x1024x2816) hz3, View.ld_unit_zero (S := S1024x1024) hz]

/-- The result's block after the fourth shard. -/
theorem out_D_eq (hc0 : ¬cond0_0 i) (hc4 : cond0_4 i) (hc5 : ¬cond0_5 i) (hc6 : cond0_6 i) (hc7 : cond0_7 i) :
    out0_D_3 c i arg3 harg3 arg4 harg4 arg5 harg5 arg6 harg6 arg7 harg7 hc0 hc4 hc5 hc6 hc7 x0 x1 x2 xs0 = k0_pay6 x1 x2 xs0 := by
  unfold out0_D_3
  rw [View.read_writes_eq_canon _ _ _ (cover0_D_3 c i arg3 harg3 arg4 harg4 arg5 harg5 arg6 harg6 arg7 harg7 hc0 hc4 hc5 hc6 hc7 x0 x1 x2 xs0)]
  unfold kernelRun0_D
  dsimp only
  sl_unfold_words
  simp only [View.canon_unit_zero (S := S1024x1024) hz, View.canon_cons_unit_zero (S := S1024x1024) hz, View.readCov_unit_zero (S := S1024x1024) _ hz,
    View.readAt_eq_ld, harg3.read_unread, harg4.read_unread, harg5.read_unread, harg7.read_unread,
    View.ld_unit_zero (S := S1024x2816) hz, View.ld_unit_zero (S := S1x1024x2816) hz3, View.ld_unit_zero (S := S1024x1024) hz]

end cases

/-! ## The payloads at an index -/

theorem pay2_apply (x : Vec Ideal S1024x2816 .bf16) (w : Vec Ideal S1x1024x2816 .bf16) (r k : Fin 1024) :
    k0_pay2 x w (ix2 r k) = ∑ q : Fin 2816, x (ix2 r q) * w (ix3 (0 : Fin 1) k q) := by
  unfold k0_pay2 k0_pay1
  pointwise

theorem pay3_apply (x : Vec Ideal S1024x2816 .bf16) (w : Vec Ideal S1x1024x2816 .bf16) (a : Vec Ideal S1024x1024 .f32) (r k : Fin 1024) :
    k0_pay3 x w a (ix2 r k) = a (ix2 r k) + ∑ q : Fin 2816, x (ix2 r q) * w (ix3 (0 : Fin 1) k q) := by
  unfold k0_pay3 k0_pay1
  pointwise

theorem pay6_apply (x : Vec Ideal S1024x2816 .bf16) (w : Vec Ideal S1x1024x2816 .bf16) (a : Vec Ideal S1024x1024 .f32) (r k : Fin 1024) :
    k0_pay6 x w a (ix2 r k) = a (ix2 r k) + ∑ q : Fin 2816, x (ix2 r q) * w (ix3 (0 : Fin 1) k q) := by
  unfold k0_pay6 k0_pay4
  pointwise

/-! ## The blocks -/

/-- The block index of each window at a grid point. -/
theorem idx0 : ∀ t : Fin grid0.N, win0_0.index t 0 = t.val / 8 ∧ win0_0.index t 1 = min (t.val % 4) 1 := by decide +kernel
theorem idx1 : ∀ t : Fin grid0.N, win0_1.index t 0 = t.val / 8 ∧ win0_1.index t 1 = t.val % 4 - 2 := by decide +kernel
theorem idx2 : ∀ t : Fin grid0.N,
    win0_2.index t 0 = t.val % 4 ∧ win0_2.index t 1 = t.val / 4 % 2 ∧ win0_2.index t 2 = 0 := by decide +kernel

variable (m : (ℓ : Loc nD τ sig) → Buf (Elt Ideal) ℓ) (c : Dev nD)

/-- The arguments the kernel is run on: the gradients of the gates and of the values, and the weight. -/
abbrev argG : Vec Ideal S2048x5632 .bf16 := m ((c : Thread nD τ).loc main_arg0)
abbrev argU : Vec Ideal S2048x5632 .bf16 := m ((c : Thread nD τ).loc main_arg1)
abbrev argW : Vec Ideal S4x2048x2816 .bf16 := m ((c : Thread nD τ).loc main_arg2)

/-- Their blocks at a grid point. -/
abbrev bG (t : Fin cfg0.N) : Vec Ideal S1024x2816 .bf16 := iblk m c 0 t
abbrev bU (t : Fin cfg0.N) : Vec Ideal S1024x2816 .bf16 := iblk m c 1 t
abbrev bW (t : Fin cfg0.N) : Vec Ideal S1x1024x2816 .bf16 := iblk m c 2 t

/-- The block of the gates' gradient. -/
theorem blk_g (t : Fin cfg0.N) (r : Fin 1024) (q : Fin 2816) (i : Fin 2048) (j : Fin 5632) (ht : t.val % 4 ≤ 1)
    (hi : i.val = t.val / 8 * 1024 + r.val) (hj : j.val = t.val % 4 * 2816 + q.val) :
    bG m c t (ix2 r q) = argG m c (ix2 i j) := by
  unfold bG iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 1024 + 1 * r.val = i.val; rw [h.1]; omega
  | ⟨1, _⟩ => show win0_0.index t 1 * 2816 + 1 * q.val = j.val; rw [h.2, Nat.min_eq_left ht]; omega

/-- The block of the values' gradient. -/
theorem blk_u (t : Fin cfg0.N) (r : Fin 1024) (q : Fin 2816) (i : Fin 2048) (j : Fin 5632)
    (hi : i.val = t.val / 8 * 1024 + r.val) (hj : j.val = (t.val % 4 - 2) * 2816 + q.val) :
    bU m c t (ix2 r q) = argU m c (ix2 i j) := by
  unfold bU iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1024 + 1 * r.val = i.val; rw [h.1]; omega
  | ⟨1, _⟩ => show win0_1.index t 1 * 2816 + 1 * q.val = j.val; rw [h.2]; omega

/-- The block of the weight. -/
theorem blk_w (t : Fin cfg0.N) (k : Fin 1024) (q : Fin 2816) (s : Fin 4) (j : Fin 2048)
    (hs : s.val = t.val % 4) (hj : j.val = t.val / 4 % 2 * 1024 + k.val) :
    bW m c t (ix3 (0 : Fin 1) k q) = argW m c (ix3 s j q) := by
  unfold bW iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 1 + 1 * 0 = s.val; rw [h.1]; omega
  | ⟨1, _⟩ => show win0_2.index t 1 * 1024 + 1 * k.val = j.val; rw [h.2.1]; omega
  | ⟨2, _⟩ => show win0_2.index t 2 * 2816 + 1 * q.val = q.val; rw [h.2.2]; omega

/-! ## The result -/

/-- The gates' and the values' gradients side by side. -/
def both (i : Fin 2048) (q : ℕ) (hq : q < 11264) : EReal :=
  if h : q < 5632 then argG m c (ix2 i ⟨q, h⟩) else argU m c (ix2 i ⟨q - 5632, by omega⟩)

/-- One shard's part of the gradient. -/
def part (i j : Fin 2048) (s : Fin 4) : EReal :=
  ∑ q : Fin 2816, both m c i (s.val * 2816 + q.val) (by have := s.isLt; have := q.isLt; omega) * argW m c (ix3 s j q)

/-- A point of one of the first two shards multiplies the gates' gradient with the weight. -/
theorem part_g (t : Fin cfg0.N) (r k : Fin 1024) (i j : Fin 2048) (s : Fin 4) (ht : t.val % 4 ≤ 1) (hs : s.val = t.val % 4)
    (hi : i.val = t.val / 8 * 1024 + r.val) (hj : j.val = t.val / 4 % 2 * 1024 + k.val) :
    ∑ q : Fin 2816, bG m c t (ix2 r q) * bW m c t (ix3 (0 : Fin 1) k q)
      = part m c i j s := by
  refine sum_eq fun q => ?_
  have hq := q.isLt
  unfold both
  rw [dif_pos (by omega), blk_g m c t r q i ⟨s.val * 2816 + q.val, by omega⟩ ht hi (by show s.val * 2816 + q.val = _; omega),
    blk_w m c t k q s j hs hj]

/-- A point of one of the last two shards multiplies the values' gradient with the weight. -/
theorem part_u (t : Fin cfg0.N) (r k : Fin 1024) (i j : Fin 2048) (s : Fin 4) (ht : 2 ≤ t.val % 4) (hs : s.val = t.val % 4)
    (hi : i.val = t.val / 8 * 1024 + r.val) (hj : j.val = t.val / 4 % 2 * 1024 + k.val) :
    ∑ q : Fin 2816, bU m c t (ix2 r q) * bW m c t (ix3 (0 : Fin 1) k q)
      = part m c i j s := by
  refine sum_eq fun q => ?_
  have hq := q.isLt; have hs4 := s.isLt
  unfold both
  rw [dif_neg (by omega), blk_u m c t r q i ⟨s.val * 2816 + q.val - 5632, by omega⟩ hi (by show s.val * 2816 + q.val - 5632 = _; omega),
    blk_w m c t k q s j hs hj]

/-- The accumulator after the first shard, the first two and the first three. -/
theorem acc0 (t : Fin cfg0.N) (r k : Fin 1024) (i j : Fin 2048) (ht : t.val % 4 = 0)
    (hi : i.val = t.val / 8 * 1024 + r.val) (hj : j.val = t.val / 4 % 2 * 1024 + k.val) :
    (outsAt0 m c t.val t.isLt).2 (ix2 r k) = part m c i j 0 := by
  rw [outsAt0_A m c t (by omega) ht (by omega) (by omega) (by omega)]
  dsimp only
  rw [sout_A_eq, pay2_apply]
  exact part_g m c t r k i j 0 (by omega) ht.symm hi hj

theorem acc1 (t : Fin cfg0.N) (r k : Fin 1024) (i j : Fin 2048) (ht : t.val % 4 = 1)
    (hi : i.val = t.val / 8 * 1024 + r.val) (hj : j.val = t.val / 4 % 2 * 1024 + k.val) :
    (outsAt0 m c t.val t.isLt).2 (ix2 r k) = part m c i j 0 + part m c i j 1 := by
  rw [outsAt0_B m c t (by omega) (by omega) (by omega) (by omega) (by omega)]
  dsimp only
  rw [sout_B_eq, pay3_apply, acc0 m c ⟨t.val - 1, Nat.lt_of_le_of_lt (Nat.sub_le _ _) t.isLt⟩ r k i j (by show (t.val - 1) % 4 = 0; omega) (by show _ = (t.val - 1) / 8 * _ + _; omega)
    (by show _ = (t.val - 1) / 4 % 2 * _ + _; omega)]
  exact congrArg (part m c i j 0 + ·) (part_g m c t r k i j 1 (by omega) ht.symm hi hj)

theorem acc2 (t : Fin cfg0.N) (r k : Fin 1024) (i j : Fin 2048) (ht : t.val % 4 = 2)
    (hi : i.val = t.val / 8 * 1024 + r.val) (hj : j.val = t.val / 4 % 2 * 1024 + k.val) :
    (outsAt0 m c t.val t.isLt).2 (ix2 r k) = part m c i j 0 + part m c i j 1 + part m c i j 2 := by
  rw [outsAt0_C m c t (by omega) (by omega) (by omega) (by omega) (by omega)]
  dsimp only
  rw [sout_C_eq, pay6_apply, acc1 m c ⟨t.val - 1, Nat.lt_of_le_of_lt (Nat.sub_le _ _) t.isLt⟩ r k i j (by show (t.val - 1) % 4 = 1; omega) (by show _ = (t.val - 1) / 8 * _ + _; omega)
    (by show _ = (t.val - 1) / 4 % 2 * _ + _; omega)]
  exact congrArg (part m c i j 0 + part m c i j 1 + ·) (part_u m c t r k i j 2 (by omega) ht.symm hi hj)

/-- The block written back after the fourth shard. -/
theorem out3 (t : Fin cfg0.N) (r k : Fin 1024) (i j : Fin 2048) (ht : t.val % 4 = 3)
    (hi : i.val = t.val / 8 * 1024 + r.val) (hj : j.val = t.val / 4 % 2 * 1024 + k.val) :
    (outsAt0 m c t.val t.isLt).1 (ix2 r k) = part m c i j 0 + part m c i j 1 + part m c i j 2 + part m c i j 3 := by
  rw [outsAt0_D m c t (by omega) (by omega) (by omega) (by omega) (by omega)]
  dsimp only
  rw [out_D_eq, pay6_apply, acc2 m c ⟨t.val - 1, Nat.lt_of_le_of_lt (Nat.sub_le _ _) t.isLt⟩ r k i j (by show (t.val - 1) % 4 = 2; omega) (by show _ = (t.val - 1) / 8 * _ + _; omega)
    (by show _ = (t.val - 1) / 4 % 2 * _ + _; omega)]
  exact congrArg (part m c i j 0 + part m c i j 1 + part m c i j 2 + ·) (part_u m c t r k i j 3 (by omega) ht.symm hi hj)

/-- The input's gradient, index by index. -/
theorem G3_apply (i j : Fin 2048) : G3 m c (ix2 i j) = part m c i j 0 + part m c i j 1 + part m c i j 2 + part m c i j 3 := by
  have hi := i.isLt; have hj := j.isLt
  have hp : pt3Of (ix2 i j) = 8 * (i.val / 1024) + 4 * (j.val / 1024) + 3 := by
    show 4 * (2 * (i.val / 1024 - 0) + 1 * (j.val / 1024 - 0)) + 3 = _; omega
  have hN : pt3Of (ix2 i j) < cfg0.N := by rw [hp]; exact lt_of_lt_of_eq (by omega : _ < 16) N_0.symm
  unfold G3
  rw [dif_pos hN, ← outsAt0_sweep m c _ hN]
  have hl : loc3Of (ix2 i j) = ix2 (⟨i.val % 1024, by omega⟩ : Fin 1024) (⟨j.val % 1024, by omega⟩ : Fin 1024) := by
    funext a; match a with | ⟨0, _⟩ => rfl | ⟨1, _⟩ => rfl
  rw [hl]
  exact out3 m c ⟨_, hN⟩ _ _ i j (by show pt3Of (ix2 i j) % 4 = 3; rw [hp]; omega)
    (by show i.val = pt3Of (ix2 i j) / 8 * 1024 + i.val % 1024; rw [hp]; omega)
    (by show j.val = pt3Of (ix2 i j) / 4 % 2 * 1024 + j.val % 1024; rw [hp]; omega)

end Cert.DbIdeal.Kernel

end
-- ==== Proof.DbClaim.lean ====
/-
  The certificate of the feed-forward layer's input gradient: the value claim sets the kernel's result beside the reference's,
  index by index.
-/
module

public import proofs.«01_k».proof.Proof.DbKernel
public import proofs.«01_k».proof.Proof.Gen.DbRefIdeal.Run
public import proofs.«01_k».proof.Proof.Gen.DbRefIdeal.Read
public import proofs.«01_k».proof.Defs

@[expose] public section

set_option maxRecDepth 16384

noncomputable section

namespace Cert.Db

open Idealize.ShloMosaic Idealize.ShloMosaic.TcCoe Idealize.SL.Sem Idealize.ShloMosaic.StableHlo Cert.Sums

/-- The reference runs from any state, leaves its arguments as they were and its semaphores at zero. -/
theorem reference_frame : Cert.quiescent_DbRefIdeal := fun m ρ _ =>
  (θ_run Cert.DbRefIdeal.defs _ _).mono (fun r h => ⟨fun c => (h c).2, sem_eq_zero_of_no_sems (by decide) r.2⟩)
    (Cert.DbRefIdeal.Value.run (F := Ideal) m ρ)

open Cert.DbRefIdeal Cert.DbRefIdeal.Read in
/-- The reference's result at an index: the sum over the up projection's columns of the gradients' entry times the weight's. -/
theorem reference_apply (y z : Vec Ideal S2048x5632 .bf16) (w : Vec Ideal S4x2048x2816 .bf16) (i j : Fin 2048) :
    val_main_v10 (F := Ideal) y z w (ix2 i j)
      = ∑ q : Fin 11264, (if h : q.val < 5632 then y (ix2 i ⟨q.val, h⟩) else z (ix2 i ⟨q.val - 5632, by omega⟩))
          * w (ix3 (⟨q.val / 2816, by omega⟩ : Fin 4) j (⟨q.val % 2816, by omega⟩ : Fin 2816)) := by
  unfold val_main_v10 val_main_v5 val_main_v3 val_main_v4 val_main_v2 val_main_v1 val_main_v0
  pointwise

/-- The kernel's input gradient is the reference's. -/
theorem value : Cert.algebraic_DbIdeal_DbRefIdeal := by
  intro m g m' g' _ hargs
  refine ⟨fun c => Cert.DbIdeal.Value.G3 m c, Cert.DbIdeal.Value.run m g, ?_⟩
  refine (θ_run _ _ _).mono (fun r h c => ?_) (Cert.DbRefIdeal.Value.run (F := Ideal) m' g')
  obtain ⟨h0, ha⟩ := h c
  obtain ⟨e0, e1, e2⟩ := hargs c
  refine ⟨h0.trans ?_, ha⟩
  rw [Cert.DbRefIdeal.Read.val_main_v10_eq, e0, e1, e2]
  funext i
  rw [eq_ix2 i]
  refine (reference_apply _ _ _ _ _).trans (Eq.trans ?_ (Cert.DbIdeal.Kernel.G3_apply m c _ _).symm)
  rw [sum_four (b := 2816) rfl]
  have e (s : Fin 4) (q : Fin 2816) : (⟨(s.val * 2816 + q.val) / 2816, by omega⟩ : Fin 4) = s ∧ (⟨(s.val * 2816 + q.val) % 2816, by omega⟩ : Fin 2816) = q :=
    ⟨Fin.ext (by show (s.val * 2816 + q.val) / 2816 = s.val; omega), Fin.ext (by show (s.val * 2816 + q.val) % 2816 = q.val; omega)⟩
  have p (s : Fin 4) : ∑ q : Fin 2816, (if h : s.val * 2816 + q.val < 5632 then Cert.DbIdeal.Kernel.argG m c (ix2 (i 0) ⟨s.val * 2816 + q.val, h⟩)
        else Cert.DbIdeal.Kernel.argU m c (ix2 (i 0) ⟨s.val * 2816 + q.val - 5632, by omega⟩))
          * Cert.DbIdeal.Kernel.argW m c (ix3 (⟨(s.val * 2816 + q.val) / 2816, by omega⟩ : Fin 4) (i 1) (⟨(s.val * 2816 + q.val) % 2816, by omega⟩ : Fin 2816))
      = Cert.DbIdeal.Kernel.part m c (i 0) (i 1) s :=
    sum_eq fun q => by rw [(e s q).1, (e s q).2]; rfl
  exact congrArg₂ _ (congrArg₂ _ (congrArg₂ _ (p 0) (p 1)) (p 2)) (p 3)

end Cert.Db

end
-- ==== Proof.ScProducts.lean ====
/-
  The short-convolution mixer's four products at the buffers a launch is entered with: what the input projection, the
  gated convolution's gradient and the two weight gradients leave in their results, index by index.
-/
module

public import proofs.«01_k».proof.Proof.Gen.ScBwdIdeal.Frame
public import proofs.«01_k».proof.Proof.Sums
public import Idealize.ShloMosaic.Lib.Pointwise

@[expose] public section

set_option maxRecDepth 16384

noncomputable section

namespace Cert.ScBwdIdeal.Products

open Idealize.ShloMosaic Idealize.ShloMosaic.TcCoe Idealize.SL.Sem
open Cert.ScBwdIdeal Cert.ScBwdIdeal.Gen Cert.Sums

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)

/-! ## The input projection -/

theorem z_out (x : Vec Ideal S1024x2048 .bf16) (w : Vec Ideal S1x2048x1536 .bf16) (r : Fin 1024) (k : Fin 1536) :
    out0_2 x w (ix2 r k) = ∑ q : Fin 2048, x (ix2 r q) * w (ix3 (0 : Fin 1) q k) := by
  unfold out0_2
  rw [View.canon_unit_zero (S := S1024x1536) hz, View.ld_unit_zero (S := S1024x2048) hz, View.ld_unit_zero (S := S1x2048x1536) hz3]
  unfold k0_pay1
  pointwise

/-- The block index of each window at a grid point. -/
theorem z_i0 : ∀ t : Fin grid0.N, win0_0.index t 0 = t.val / 4 ∧ win0_0.index t 1 = 0 := by decide +kernel
theorem z_i1 : ∀ t : Fin grid0.N, win0_1.index t 0 = t.val % 4 ∧ win0_1.index t 1 = 0 ∧ win0_1.index t 2 = 0 := by decide +kernel
theorem z_i2 : ∀ t : Fin grid0.N, win0_2.index t 0 = t.val / 4 ∧ win0_2.index t 1 = t.val % 4 := by decide +kernel
theorem z_inj : ∀ t t' : Fin grid0.N, win0_2.index t = win0_2.index t' → t = t' := by decide +kernel
theorem z_flush : ∀ t : Fin grid0.N, win0_2.flush t = true := by decide +kernel

/-- The arrays the launch reads, and their blocks at a grid point. -/
abbrev zX : Vec Ideal S2048x2048 .bf16 := V c main_arg0
abbrev z_bX (t : Fin cfg0.N) : Vec Ideal S1024x2048 .bf16 := iblk0 V c 0 t
abbrev zW : Vec Ideal S4x2048x1536 .bf16 := V c main_arg1
abbrev z_bW (t : Fin cfg0.N) : Vec Ideal S1x2048x1536 .bf16 := iblk0 V c 1 t

theorem z_blkX (t : Fin cfg0.N) (r : Fin 1024) (q : Fin 2048) (i : Fin 2048) (hi : i.val = t.val / 4 * 1024 + r.val) :
    z_bX V c t (ix2 r q) = zX V c (ix2 i q) := by
  unfold z_bX iblk0
  rw [View.read_apply]
  refine congrArg (V c main_arg0) (funext fun a => Fin.ext ?_)
  have h := z_i0 t
  match a with
  | ⟨0, _⟩ => show win0_0.index t 0 * 1024 + 1 * r.val = i.val; rw [h.1]; omega
  | ⟨1, _⟩ => show win0_0.index t 1 * 2048 + 1 * q.val = q.val; rw [h.2]; omega

theorem z_blkW (t : Fin cfg0.N) (q : Fin 2048) (k : Fin 1536) (n : Fin 4) (hn : n.val = t.val % 4) :
    z_bW V c t (ix3 (0 : Fin 1) q k) = zW V c (ix3 n q k) := by
  unfold z_bW iblk0
  rw [View.read_apply]
  refine congrArg (V c main_arg1) (funext fun a => Fin.ext ?_)
  have h := z_i1 t
  match a with
  | ⟨0, _⟩ => show win0_1.index t 0 * 1 + 1 * 0 = n.val; rw [h.1]; omega
  | ⟨1, _⟩ => show win0_1.index t 1 * 2048 + 1 * q.val = q.val; rw [h.2.1]; omega
  | ⟨2, _⟩ => show win0_1.index t 2 * 1536 + 1 * k.val = k.val; rw [h.2.2]; omega

/-- An entry of the result is the entry of the block its point writes back. -/
theorem z_entry (t : Fin cfg0.N) (r : Fin 1024) (s : Fin 1536) (i : Fin 2048) (j : Fin 6144)
    (hi : i.val = t.val / 4 * 1024 + r.val) (hj : j.val = t.val % 4 * 1536 + s.val) :
    ((dat0 V c).arrAt 2 cfg0.N : Vec Ideal S2048x6144 .bf16) (ix2 i j) = out0_2 (z_bX V c t) (z_bW V c t) (ix2 r s) := by
  have hb := congrFun ((dat0 V c).read_blk_arrAt_eq_flushed 2
    (fun t t' _ _ hne => (cfg0.win 2).disjoint_blk fun h => hne (z_inj t t' h)) cfg0.N t t.isLt (z_flush t)) (ix2 r s)
  have hf : (dat0 V c).flushed 2 t = (cfg0.win 2).cut (grid0.coords t) (out0_2 (z_bX V c t) (z_bW V c t)) := by
    show (cfg0.win 2).cut (grid0.coords t) ((dat0 V c).after 2 t) = _
    rw [after0_2]
  rw [hf, View.read_apply] at hb
  refine Eq.trans ?_ hb
  refine congrArg ((dat0 V c).arrAt 2 cfg0.N) (funext fun a => Fin.ext ?_)
  have h := z_i2 t
  match a with
  | ⟨0, _⟩ => show i.val = win0_2.index t 0 * 1024 + 1 * r.val; rw [h.1]; omega
  | ⟨1, _⟩ => show j.val = win0_2.index t 1 * 1536 + 1 * s.val; rw [h.2]; omega

/-- The input projection, index by index: its column `j` is column `j % 1536` of the weight's shard `j / 1536`. -/
theorem z_apply (i : Fin 2048) (j : Fin 6144) :
    ((dat0 V c).arrAt 2 cfg0.N : Vec Ideal S2048x6144 .bf16) (ix2 i j)
      = ∑ q : Fin 2048, zX V c (ix2 i q) * zW V c (ix3 (⟨j.val / 1536, by omega⟩ : Fin 4) q (⟨j.val % 1536, by omega⟩ : Fin 1536)) := by
  have hi := i.isLt
  have hj := j.isLt
  let t : Fin cfg0.N := ⟨i.val / 1024 * 4 + j.val / 1536, lt_of_lt_of_eq (by omega : _ < 8) (by decide +kernel : 8 = grid0.N)⟩
  have ht : t.val = i.val / 1024 * 4 + j.val / 1536 := rfl
  rw [z_entry V c t ⟨i.val % 1024, by omega⟩ ⟨j.val % 1536, by omega⟩ i j (by show i.val = _ + i.val % 1024; omega)
    (by show j.val = _ + j.val % 1536; omega), z_out]
  refine sum_eq fun q => ?_
  rw [z_blkX V c t _ q i (by show i.val = _ + i.val % 1024; omega),
    z_blkW V c t q _ ⟨j.val / 1536, by omega⟩ (by show j.val / 1536 = _; omega)]

/-! ## The gated convolution's gradient -/

theorem d_out (x : Vec Ideal S1024x2048 .bf16) (w : Vec Ideal S1x1024x2048 .bf16) (y : Vec Ideal S16x128 .bf16) (r : Fin 1024) (k : Fin 1024) :
    out2_3 x w y (ix2 r k) = ∑ q : Fin 2048, x (ix2 r q) * w (ix3 (0 : Fin 1) k q) := by
  unfold out2_3
  rw [View.canon_unit_zero (S := S1024x1024) hz, View.ld_unit_zero (S := S1024x2048) hz, View.ld_unit_zero (S := S1x1024x2048) hz3]
  unfold k2_pay1
  pointwise

theorem d_i0 : ∀ t : Fin grid2.N, win2_0.index t 0 = t.val / 2 ∧ win2_0.index t 1 = 0 := by decide +kernel
theorem d_i1 : ∀ t : Fin grid2.N, win2_1.index t 0 = 0 ∧ win2_1.index t 1 = t.val % 2 ∧ win2_1.index t 2 = 0 := by decide +kernel
theorem d_i3 : ∀ t : Fin grid2.N, win2_3.index t 0 = t.val / 2 ∧ win2_3.index t 1 = t.val % 2 := by decide +kernel
theorem d_inj : ∀ t t' : Fin grid2.N, win2_3.index t = win2_3.index t' → t = t' := by decide +kernel
theorem d_flush : ∀ t : Fin grid2.N, win2_3.flush t = true := by decide +kernel

/-- The output's gradient and the output projection, and their blocks at a grid point. -/
abbrev dD : Vec Ideal S2048x2048 .bf16 := V c main_arg4
abbrev d_bD (t : Fin cfg2.N) : Vec Ideal S1024x2048 .bf16 := iblk2 V c 0 t
abbrev dW : Vec Ideal S1x2048x2048 .bf16 := V c main_arg3
abbrev d_bW (t : Fin cfg2.N) : Vec Ideal S1x1024x2048 .bf16 := iblk2 V c 1 t
abbrev d_bT (t : Fin cfg2.N) : Vec Ideal S16x128 .bf16 := iblk2 V c 2 t

theorem d_blkD (t : Fin cfg2.N) (r : Fin 1024) (q : Fin 2048) (i : Fin 2048) (hi : i.val = t.val / 2 * 1024 + r.val) :
    d_bD V c t (ix2 r q) = dD V c (ix2 i q) := by
  unfold d_bD iblk2
  rw [View.read_apply]
  refine congrArg (V c main_arg4) (funext fun a => Fin.ext ?_)
  have h := d_i0 t
  match a with
  | ⟨0, _⟩ => show win2_0.index t 0 * 1024 + 1 * r.val = i.val; rw [h.1]; omega
  | ⟨1, _⟩ => show win2_0.index t 1 * 2048 + 1 * q.val = q.val; rw [h.2]; omega

theorem d_blkW (t : Fin cfg2.N) (k : Fin 1024) (q : Fin 2048) (j : Fin 2048) (hj : j.val = t.val % 2 * 1024 + k.val) :
    d_bW V c t (ix3 (0 : Fin 1) k q) = dW V c (ix3 (0 : Fin 1) j q) := by
  unfold d_bW iblk2
  rw [View.read_apply]
  refine congrArg (V c main_arg3) (funext fun a => Fin.ext ?_)
  have h := d_i1 t
  match a with
  | ⟨0, _⟩ => show win2_1.index t 0 * 1 + 1 * 0 = 0; rw [h.1]
  | ⟨1, _⟩ => show win2_1.index t 1 * 1024 + 1 * k.val = j.val; rw [h.2.1]; omega
  | ⟨2, _⟩ => show win2_1.index t 2 * 2048 + 1 * q.val = q.val; rw [h.2.2]; omega

theorem d_entry (t : Fin cfg2.N) (r : Fin 1024) (s : Fin 1024) (i : Fin 2048) (j : Fin 2048)
    (hi : i.val = t.val / 2 * 1024 + r.val) (hj : j.val = t.val % 2 * 1024 + s.val) :
    ((dat2 V c).arrAt 3 cfg2.N : Vec Ideal S2048x2048 .bf16) (ix2 i j) = out2_3 (d_bD V c t) (d_bW V c t) (d_bT V c t) (ix2 r s) := by
  have hb := congrFun ((dat2 V c).read_blk_arrAt_eq_flushed 3
    (fun t t' _ _ hne => (cfg2.win 3).disjoint_blk fun h => hne (d_inj t t' h)) cfg2.N t t.isLt (d_flush t)) (ix2 r s)
  have hf : (dat2 V c).flushed 3 t = (cfg2.win 3).cut (grid2.coords t) (out2_3 (d_bD V c t) (d_bW V c t) (d_bT V c t)) := by
    show (cfg2.win 3).cut (grid2.coords t) ((dat2 V c).after 3 t) = _
    rw [after2_3]
  rw [hf, View.read_apply] at hb
  refine Eq.trans ?_ hb
  refine congrArg ((dat2 V c).arrAt 3 cfg2.N) (funext fun a => Fin.ext ?_)
  have h := d_i3 t
  match a with
  | ⟨0, _⟩ => show i.val = win2_3.index t 0 * 1024 + 1 * r.val; rw [h.1]; omega
  | ⟨1, _⟩ => show j.val = win2_3.index t 1 * 1024 + 1 * s.val; rw [h.2]; omega

/-- The gated convolution's gradient, index by index. -/
theorem d_apply (i : Fin 2048) (j : Fin 2048) :
    ((dat2 V c).arrAt 3 cfg2.N : Vec Ideal S2048x2048 .bf16) (ix2 i j)
      = ∑ q : Fin 2048, dD V c (ix2 i q) * dW V c (ix3 (0 : Fin 1) j q) := by
  have hi := i.isLt
  have hj := j.isLt
  let t : Fin cfg2.N := ⟨i.val / 1024 * 2 + j.val / 1024, lt_of_lt_of_eq (by omega : _ < 4) (by decide +kernel : 4 = grid2.N)⟩
  have ht : t.val = i.val / 1024 * 2 + j.val / 1024 := rfl
  rw [d_entry V c t ⟨i.val % 1024, by omega⟩ ⟨j.val % 1024, by omega⟩ i j (by show i.val = _ + i.val % 1024; omega)
    (by show j.val = _ + j.val % 1024; omega), d_out]
  refine sum_eq fun q => ?_
  rw [d_blkD V c t _ q i (by show i.val = _ + i.val % 1024; omega), d_blkW V c t _ q j (by show j.val = _ + j.val % 1024; omega)]

/-! ## The output projection's weight gradient -/

theorem dwo_out (x : Vec Ideal S2048x1024 .bf16) (y : Vec Ideal S2048x2048 .bf16) (r : Fin 1024) (k : Fin 2048) :
    out3_2 x y (ix3 (0 : Fin 1) r k) = ∑ q : Fin 2048, x (ix2 q r) * y (ix2 q k) := by
  unfold out3_2
  rw [View.canon_unit_zero (S := S1x1024x2048) hz3, View.ld_unit_zero (S := S2048x1024) hz, View.ld_unit_zero (S := S2048x2048) hz]
  unfold k3_pay1
  pointwise

theorem dwo_i0 : ∀ t : Fin grid3.N, win3_0.index t 0 = 0 ∧ win3_0.index t 1 = t.val := by decide +kernel
theorem dwo_i1 : ∀ t : Fin grid3.N, win3_1.index t 0 = 0 ∧ win3_1.index t 1 = 0 := by decide +kernel
theorem dwo_i2 : ∀ t : Fin grid3.N, win3_2.index t 0 = 0 ∧ win3_2.index t 1 = t.val ∧ win3_2.index t 2 = 0 := by decide +kernel
theorem dwo_inj : ∀ t t' : Fin grid3.N, win3_2.index t = win3_2.index t' → t = t' := by decide +kernel
theorem dwo_flush : ∀ t : Fin grid3.N, win3_2.flush t = true := by decide +kernel

/-- The gated convolution and the output's gradient, and their blocks at a grid point. -/
abbrev dwoO : Vec Ideal S2048x2048 .bf16 := V c main_v1
abbrev dwo_bO (t : Fin cfg3.N) : Vec Ideal S2048x1024 .bf16 := iblk3 V c 0 t
abbrev dwoD : Vec Ideal S2048x2048 .bf16 := V c main_arg4
abbrev dwo_bD (t : Fin cfg3.N) : Vec Ideal S2048x2048 .bf16 := iblk3 V c 1 t

theorem dwo_blkO (t : Fin cfg3.N) (q : Fin 2048) (r : Fin 1024) (j : Fin 2048) (hj : j.val = t.val * 1024 + r.val) :
    dwo_bO V c t (ix2 q r) = dwoO V c (ix2 q j) := by
  unfold dwo_bO iblk3
  rw [View.read_apply]
  refine congrArg (V c main_v1) (funext fun a => Fin.ext ?_)
  have h := dwo_i0 t
  match a with
  | ⟨0, _⟩ => show win3_0.index t 0 * 2048 + 1 * q.val = q.val; rw [h.1]; omega
  | ⟨1, _⟩ => show win3_0.index t 1 * 1024 + 1 * r.val = j.val; rw [h.2]; omega

theorem dwo_blkD (t : Fin cfg3.N) (q k : Fin 2048)  :
    dwo_bD V c t (ix2 q k) = dwoD V c (ix2 q k) := by
  unfold dwo_bD iblk3
  rw [View.read_apply]
  refine congrArg (V c main_arg4) (funext fun a => Fin.ext ?_)
  have h := dwo_i1 t
  match a with
  | ⟨0, _⟩ => show win3_1.index t 0 * 2048 + 1 * q.val = q.val; rw [h.1]; omega
  | ⟨1, _⟩ => show win3_1.index t 1 * 2048 + 1 * k.val = k.val; rw [h.2]; omega

theorem dwo_entry (t : Fin cfg3.N) (r : Fin 1024) (j : Fin 2048) (k : Fin 2048) (hj : j.val = t.val * 1024 + r.val) :
    ((dat3 V c).arrAt 2 cfg3.N : Vec Ideal S1x2048x2048 .bf16) (ix3 (0 : Fin 1) j k) = out3_2 (dwo_bO V c t) (dwo_bD V c t) (ix3 (0 : Fin 1) r k) := by
  have hb := congrFun ((dat3 V c).read_blk_arrAt_eq_flushed 2
    (fun t t' _ _ hne => (cfg3.win 2).disjoint_blk fun h => hne (dwo_inj t t' h)) cfg3.N t t.isLt (dwo_flush t)) (ix3 (0 : Fin 1) r k)
  have hf : (dat3 V c).flushed 2 t = (cfg3.win 2).cut (grid3.coords t) (out3_2 (dwo_bO V c t) (dwo_bD V c t)) := by
    show (cfg3.win 2).cut (grid3.coords t) ((dat3 V c).after 2 t) = _
    rw [after3_2]
  rw [hf, View.read_apply] at hb
  refine Eq.trans ?_ hb
  refine congrArg ((dat3 V c).arrAt 2 cfg3.N) (funext fun a => Fin.ext ?_)
  have h := dwo_i2 t
  match a with
  | ⟨0, _⟩ => show 0 = win3_2.index t 0 * 1 + 1 * 0; rw [h.1]
  | ⟨1, _⟩ => show j.val = win3_2.index t 1 * 1024 + 1 * r.val; rw [h.2.1]; omega
  | ⟨2, _⟩ => show k.val = win3_2.index t 2 * 2048 + 1 * k.val; rw [h.2.2]; omega

/-- The output projection's gradient, index by index. -/
theorem dwo_apply (j : Fin 2048) (k : Fin 2048) :
    ((dat3 V c).arrAt 2 cfg3.N : Vec Ideal S1x2048x2048 .bf16) (ix3 (0 : Fin 1) j k)
      = ∑ q : Fin 2048, dwoO V c (ix2 q j) * dwoD V c (ix2 q k) := by
  have hj := j.isLt
  let t : Fin cfg3.N := ⟨j.val / 1024, lt_of_lt_of_eq (by omega : _ < 2) (by decide +kernel : 2 = grid3.N)⟩
  have ht : t.val = j.val / 1024 := rfl
  rw [dwo_entry V c t ⟨j.val % 1024, by omega⟩ j k (by show j.val = _ + j.val % 1024; omega), dwo_out]
  refine sum_eq fun q => ?_
  rw [dwo_blkO V c t q _ j (by show j.val = _ + j.val % 1024; omega), dwo_blkD]

/-! ## The input projection's weight gradient -/

theorem dwi_out (x : Vec Ideal S2048x1024 .bf16) (y : Vec Ideal S2048x1536 .bf16) (r : Fin 1024) (s : Fin 1536) :
    out5_2 x y (ix3 (0 : Fin 1) r s) = ∑ q : Fin 2048, x (ix2 q r) * y (ix2 q s) := by
  unfold out5_2
  rw [View.canon_unit_zero (S := S1x1024x1536) hz3, View.ld_unit_zero (S := S2048x1024) hz, View.ld_unit_zero (S := S2048x1536) hz]
  unfold k5_pay1
  pointwise

theorem dwi_i0 : ∀ t : Fin grid5.N, win5_0.index t 0 = 0 ∧ win5_0.index t 1 = t.val / 4 := by decide +kernel
theorem dwi_i1 : ∀ t : Fin grid5.N, win5_1.index t 0 = 0 ∧ win5_1.index t 1 = t.val % 4 := by decide +kernel
theorem dwi_i2 : ∀ t : Fin grid5.N, win5_2.index t 0 = t.val % 4 ∧ win5_2.index t 1 = t.val / 4 ∧ win5_2.index t 2 = 0 := by decide +kernel
theorem dwi_inj : ∀ t t' : Fin grid5.N, win5_2.index t = win5_2.index t' → t = t' := by decide +kernel
theorem dwi_flush : ∀ t : Fin grid5.N, win5_2.flush t = true := by decide +kernel

/-- The layer's input and the projection's gradient, and their blocks at a grid point. -/
abbrev dwiA : Vec Ideal S2048x2048 .bf16 := V c main_arg0
abbrev dwi_bA (t : Fin cfg5.N) : Vec Ideal S2048x1024 .bf16 := iblk5 V c 0 t
abbrev dwiZ : Vec Ideal S2048x6144 .bf16 := V c main_v5
abbrev dwi_bZ (t : Fin cfg5.N) : Vec Ideal S2048x1536 .bf16 := iblk5 V c 1 t

theorem dwi_blkA (t : Fin cfg5.N) (q : Fin 2048) (r : Fin 1024) (k : Fin 2048) (hk : k.val = t.val / 4 * 1024 + r.val) :
    dwi_bA V c t (ix2 q r) = dwiA V c (ix2 q k) := by
  unfold dwi_bA iblk5
  rw [View.read_apply]
  refine congrArg (V c main_arg0) (funext fun a => Fin.ext ?_)
  have h := dwi_i0 t
  match a with
  | ⟨0, _⟩ => show win5_0.index t 0 * 2048 + 1 * q.val = q.val; rw [h.1]; omega
  | ⟨1, _⟩ => show win5_0.index t 1 * 1024 + 1 * r.val = k.val; rw [h.2]; omega

theorem dwi_blkZ (t : Fin cfg5.N) (q : Fin 2048) (s : Fin 1536) (j : Fin 6144) (hj : j.val = t.val % 4 * 1536 + s.val) :
    dwi_bZ V c t (ix2 q s) = dwiZ V c (ix2 q j) := by
  unfold dwi_bZ iblk5
  rw [View.read_apply]
  refine congrArg (V c main_v5) (funext fun a => Fin.ext ?_)
  have h := dwi_i1 t
  match a with
  | ⟨0, _⟩ => show win5_1.index t 0 * 2048 + 1 * q.val = q.val; rw [h.1]; omega
  | ⟨1, _⟩ => show win5_1.index t 1 * 1536 + 1 * s.val = j.val; rw [h.2]; omega

theorem dwi_entry (t : Fin cfg5.N) (r : Fin 1024) (n : Fin 4) (k : Fin 2048) (s : Fin 1536)
    (hn : n.val = t.val % 4) (hk : k.val = t.val / 4 * 1024 + r.val) :
    ((dat5 V c).arrAt 2 cfg5.N : Vec Ideal S4x2048x1536 .bf16) (ix3 n k s) = out5_2 (dwi_bA V c t) (dwi_bZ V c t) (ix3 (0 : Fin 1) r s) := by
  have hb := congrFun ((dat5 V c).read_blk_arrAt_eq_flushed 2
    (fun t t' _ _ hne => (cfg5.win 2).disjoint_blk fun h => hne (dwi_inj t t' h)) cfg5.N t t.isLt (dwi_flush t)) (ix3 (0 : Fin 1) r s)
  have hf : (dat5 V c).flushed 2 t = (cfg5.win 2).cut (grid5.coords t) (out5_2 (dwi_bA V c t) (dwi_bZ V c t)) := by
    show (cfg5.win 2).cut (grid5.coords t) ((dat5 V c).after 2 t) = _
    rw [after5_2]
  rw [hf, View.read_apply] at hb
  refine Eq.trans ?_ hb
  refine congrArg ((dat5 V c).arrAt 2 cfg5.N) (funext fun a => Fin.ext ?_)
  have h := dwi_i2 t
  match a with
  | ⟨0, _⟩ => show n.val = win5_2.index t 0 * 1 + 1 * 0; rw [h.1]; omega
  | ⟨1, _⟩ => show k.val = win5_2.index t 1 * 1024 + 1 * r.val; rw [h.2.1]; omega
  | ⟨2, _⟩ => show s.val = win5_2.index t 2 * 1536 + 1 * s.val; rw [h.2.2]; omega

/-- The input projection's gradient, index by index: shard `n`'s column `s` is column `n * 1536 + s`. -/
theorem dwi_apply (n : Fin 4) (k : Fin 2048) (s : Fin 1536) :
    ((dat5 V c).arrAt 2 cfg5.N : Vec Ideal S4x2048x1536 .bf16) (ix3 n k s)
      = ∑ q : Fin 2048, dwiA V c (ix2 q k) * dwiZ V c (ix2 q (⟨n.val * 1536 + s.val, by omega⟩ : Fin 6144)) := by
  have hn := n.isLt
  have hk := k.isLt
  let t : Fin cfg5.N := ⟨k.val / 1024 * 4 + n.val, lt_of_lt_of_eq (by omega : _ < 8) (by decide +kernel : 8 = grid5.N)⟩
  have ht : t.val = k.val / 1024 * 4 + n.val := rfl
  rw [dwi_entry V c t ⟨k.val % 1024, by omega⟩ n k s (by omega) (by show k.val = _ + k.val % 1024; omega), dwi_out]
  refine sum_eq fun q => ?_
  rw [dwi_blkA V c t q _ k (by show k.val = _ + k.val % 1024; omega),
    dwi_blkZ V c t q s ⟨n.val * 1536 + s.val, by omega⟩ (by show n.val * 1536 + s.val = _ + s.val; omega)]

end Cert.ScBwdIdeal.Products

end
-- ==== Proof.ScSpec.lean ====
/-
  The short-convolution mixer and its gradients as functions of the arguments' entries: the input projection, the
  gated convolution, and what the backward pass leaves, column by column.
-/
module

public import proofs.«01_k».proof.Proof.Taps

@[expose] public section

noncomputable section

namespace Cert.ScSpec

open Cert.Taps

/-- Column `j` of each third of the 6144. -/
abbrev c0 (j : Fin 2048) : Fin 6144 := ⟨j.val, by omega⟩
abbrev c1 (j : Fin 2048) : Fin 6144 := ⟨2048 + j.val, by omega⟩
abbrev c2 (j : Fin 2048) : Fin 6144 := ⟨4096 + j.val, by omega⟩

/-- The gradient of each tap, from the gradient `d` of the convolution and the column `x` it was taken of. -/
def taps (d x : Fin 2048 → EReal) (r : Fin 3) : EReal :=
  if r.val = 0 then ∑ i, d i * prev x i else if r.val = 1 then ∑ i, d i * x i else ∑ i, d i * next x i

theorem taps_0 (d x : Fin 2048 → EReal) : taps d x 0 = ∑ i, d i * prev x i := if_pos rfl
theorem taps_1 (d x : Fin 2048 → EReal) : taps d x 1 = ∑ i, d i * x i := (if_neg (by decide)).trans (if_pos rfl)
theorem taps_2 (d x : Fin 2048 → EReal) : taps d x 2 = ∑ i, d i * next x i := (if_neg (by decide)).trans (if_neg (by decide))

/-- The arguments' entries: the layer's input, the input projection's shards, the taps, the output projection and the
    output's gradient. -/
structure Args where
  a : Fin 2048 → Fin 2048 → EReal
  wi : Fin 4 → Fin 2048 → Fin 1536 → EReal
  cw : Fin 4 → Fin 3 → Fin 512 → EReal
  wo : Fin 2048 → Fin 2048 → EReal
  dh : Fin 2048 → Fin 2048 → EReal

variable (x : Args)

/-- The input projection's column `j`; the product of its second and third thirds, the taps, their convolution, and
    the gated convolution. -/
def z (j : Fin 6144) (i : Fin 2048) : EReal :=
  ∑ q, x.a i q * x.wi (⟨j.val / 1536, by omega⟩ : Fin 4) q (⟨j.val % 1536, by omega⟩ : Fin 1536)
def p (j : Fin 2048) (i : Fin 2048) : EReal := z x (c1 j) i * z x (c2 j) i
def tap (j : Fin 2048) (r : Fin 3) : EReal := x.cw (⟨j.val / 512, by omega⟩ : Fin 4) r (⟨j.val % 512, by omega⟩ : Fin 512)
def cv (j : Fin 2048) (i : Fin 2048) : EReal := conv (tap x j) (p x j) i
def o (j : Fin 2048) (i : Fin 2048) : EReal := z x (c0 j) i * cv x j i
/-- The gated convolution's gradient, the convolution's, and its argument's. -/
def dout (j : Fin 2048) (i : Fin 2048) : EReal := ∑ q, x.dh i q * x.wo j q
def dcv (j : Fin 2048) (i : Fin 2048) : EReal := dout x j i * z x (c0 j) i
def dp (j : Fin 2048) (i : Fin 2048) : EReal := convT (tap x j) (dcv x j) i
/-- The gradients of the three thirds. -/
def dgb (j : Fin 2048) (i : Fin 2048) : EReal := dout x j i * cv x j i
def dgc (j : Fin 2048) (i : Fin 2048) : EReal := dp x j i * z x (c2 j) i
def dhh (j : Fin 2048) (i : Fin 2048) : EReal := dp x j i * z x (c1 j) i
/-- The results: the gradients of the input projection, of the taps, of the output projection's weight and of the input
    projection's. -/
def dz (j : Fin 6144) (i : Fin 2048) : EReal :=
  if h : j.val < 2048 then dgb x ⟨j.val, h⟩ i
  else if h2 : j.val < 4096 then dgc x ⟨j.val - 2048, by omega⟩ i else dhh x ⟨j.val - 4096, by omega⟩ i
def dcw (r : Fin 3) (j : Fin 2048) : EReal := taps (dcv x j) (p x j) r
def dwo (j k : Fin 2048) : EReal := ∑ q, o x j q * x.dh q k
def dwi (n : Fin 4) (k : Fin 2048) (j : Fin 1536) : EReal := ∑ q, x.a q k * dz x ⟨n.val * 1536 + j.val, by omega⟩ q

end Cert.ScSpec

end
-- ==== Proof.ScGate.lean ====
/-
  The two gated-convolution kernels of the short-convolution mixer on their blocks: what each output block holds, column
  by column.
-/
module

public import proofs.«01_k».proof.Proof.Gen.ScBwdIdeal.Frame
public import proofs.«01_k».proof.Proof.ScSpec

@[expose] public section

set_option maxRecDepth 16384

noncomputable section

namespace Cert.ScBwdIdeal.Gate

open Idealize.ShloMosaic Idealize.ShloMosaic.TcCoe Idealize.SL.Sem
open Cert.ScBwdIdeal Cert.ScBwdIdeal.Gen Cert.Sums Cert.Taps

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

/-- The product of two blocks' columns, the taps of a column, the convolution, its gradient (from the output's gradient
    `d` and the first third `g`), and the convolution's transpose of that. -/
abbrev pc (x y : Vec Ideal S2048x256 .bf16) (k : Fin 256) (i : Fin 2048) : EReal := x (ix2 i k) * y (ix2 i k)
abbrev tap (w : Vec Ideal S1x3x256 .f32) (k : Fin 256) (r : Fin 3) : EReal := w (ix3 (0 : Fin 1) r k)
abbrev cvc (x y : Vec Ideal S2048x256 .bf16) (w : Vec Ideal S1x3x256 .f32) (k : Fin 256) (i : Fin 2048) : EReal := conv (tap w k) (pc x y k) i
abbrev dpc (g d : Vec Ideal S2048x256 .bf16) (w : Vec Ideal S1x3x256 .f32) (k : Fin 256) (i : Fin 2048) : EReal := convT (tap w k) (pc d g k) i

theorem pay2 (x : Vec Ideal S2048x256 .bf16) (i : Fin 2048) (k : Fin 256) : k4_pay2 x (ix2 i k) = x (ix2 i k) := by
  unfold k4_pay2
  pointwise
theorem pay3 (x : Vec Ideal S2048x256 .bf16) (i : Fin 2048) (k : Fin 256) : k4_pay3 x (ix2 i k) = x (ix2 i k) := by
  unfold k4_pay3
  pointwise
theorem pay4 (x : Vec Ideal S2048x256 .bf16) (i : Fin 2048) (k : Fin 256) : k4_pay4 x (ix2 i k) = x (ix2 i k) := by
  unfold k4_pay4
  pointwise
theorem pay9 (x : Vec Ideal S2048x256 .bf16) (i : Fin 2048) (k : Fin 256) : k4_pay9 x (ix2 i k) = x (ix2 i k) := by
  unfold k4_pay9
  pointwise
theorem pay5 (w : Vec Ideal S1x3x256 .f32) (r : Fin 3) (k : Fin 256) : k4_pay5 w (ix2 r k) = tap w k r := by
  unfold k4_pay5
  pointwise
theorem pay6 (x y : Vec Ideal S2048x256 .bf16) (i : Fin 2048) (k : Fin 256) : k4_pay6 x y (ix2 i k) = pc x y k i := by
  unfold k4_pay6 k4_pay3 k4_pay4
  pointwise
theorem pay7 (x y : Vec Ideal S2048x256 .bf16) (i : Fin 2048) (k : Fin 256) : k4_pay7 x y (ix2 i k) = prev (pc x y k) i :=
  (prev_apply (k4_pay6 x y) _ _ i k).trans (congrArg (fun f => prev f i) (funext fun r => pay6 x y r k))
theorem pay8 (x y : Vec Ideal S2048x256 .bf16) (i : Fin 2048) (k : Fin 256) : k4_pay8 x y (ix2 i k) = next (pc x y k) i :=
  (next_apply (k4_pay6 x y) _ _ i k).trans (congrArg (fun f => next f i) (funext fun r => pay6 x y r k))
theorem pay10 (x y : Vec Ideal S2048x256 .bf16) (w : Vec Ideal S1x3x256 .f32) (d : Vec Ideal S2048x256 .bf16) (i : Fin 2048) (k : Fin 256) :
    k4_pay10 x y w d (ix2 i k) = d (ix2 i k) * cvc x y w k i := by
  have e : k4_pay10 x y w d (ix2 i k) = k4_pay9 d (ix2 i k) * (k4_pay7 x y (ix2 i k) * k4_pay5 w (ix2 (0 : Fin 3) k)
      + k4_pay6 x y (ix2 i k) * k4_pay5 w (ix2 (1 : Fin 3) k) + k4_pay8 x y (ix2 i k) * k4_pay5 w (ix2 (2 : Fin 3) k)) := by
    unfold k4_pay10
    pointwise
  rw [e, pay9, pay7, pay6, pay8, pay5, pay5, pay5]
  rfl
theorem pay11 (u v : FVec Ideal S2048x256 .f32) (i : Fin 2048) (k : Fin 256) : k4_pay11 u v (ix2 i k) = v (ix2 i k) * u (ix2 i k) := by
  unfold k4_pay11
  pointwise
theorem pay12 (u : FVec Ideal S2048x256 .f32) (w : FVec Ideal S3x256 .f32) (v : FVec Ideal S2048x256 .f32) (i : Fin 2048) (k : Fin 256) :
    k4_pay12 u w v (ix2 i k) = convT (fun r => w (ix2 r k)) (fun r => k4_pay11 u v (ix2 r k)) i := by
  have e : k4_pay12 u w v (ix2 i k) = next (fun r => k4_pay11 u v (ix2 r k)) i * w (ix2 (0 : Fin 3) k)
      + k4_pay11 u v (ix2 i k) * w (ix2 (1 : Fin 3) k) + prev (fun r => k4_pay11 u v (ix2 r k)) i * w (ix2 (2 : Fin 3) k) := by
    unfold k4_pay12
    generalize k4_pay11 u v = y
    pointwise
    exact congrArg₂ (· + ·) (congrArg (· + _) (next_mul (fun i => y (ix2 i k)) _ i _)) (prev_mul (fun i => y (ix2 i k)) _ i _)
  exact e
theorem pay13 (u v : FVec Ideal S2048x256 .f32) (w v') (i : Fin 2048) (k : Fin 256) : k4_pay13 u v w v' (ix2 i k) = k4_pay12 u w v' (ix2 i k) * v (ix2 i k) := by
  unfold k4_pay13
  pointwise
theorem pay14 (u v : FVec Ideal S2048x256 .f32) (w v') (i : Fin 2048) (k : Fin 256) : k4_pay14 u v w v' (ix2 i k) = k4_pay12 u w v' (ix2 i k) * v (ix2 i k) := by
  unfold k4_pay14
  pointwise
theorem pay1 (v v' : FVec Ideal S2048x256 .f32) (i : Fin 1) (k : Fin 256) : k4_pay1 v v' (ix2 i k) = ∑ r, v' (ix2 r k) * v (ix2 r k) := by
  unfold k4_pay1
  pointwise
theorem pay15 (u v v' : FVec Ideal S2048x256 .f32) (i : Fin 1) (k : Fin 256) :
    k4_pay15 u v v' (ix2 i k) = ∑ r, k4_pay11 u v' (ix2 r k) * v (ix2 r k) := by
  unfold k4_pay15
  pointwise
theorem pay16 (u v v' : FVec Ideal S2048x256 .f32) (i : Fin 1) (k : Fin 256) :
    k4_pay16 u v v' (ix2 i k) = ∑ r, k4_pay11 u v' (ix2 r k) * v (ix2 r k) := by
  unfold k4_pay16
  pointwise

/-! Three rows stored one by one. -/

theorem notin1 (k : Fin 256) : (ix2 (1 : Fin 3) k : S3x256.Idx) ∉ r4_4.set := fun h => by
  obtain ⟨x, hx⟩ := r4_4.exists_idx_of_mem h
  have h0 := congrArg (fun y => (y 0).val) hx
  have : 2 + 1 * (x 0).val = 1 := h0
  omega
theorem notin0 (k : Fin 256) : (ix2 (0 : Fin 3) k : S3x256.Idx) ∉ r4_4.set := fun h => by
  obtain ⟨x, hx⟩ := r4_4.exists_idx_of_mem h
  have h0 := congrArg (fun y => (y 0).val) hx
  have : 2 + 1 * (x 0).val = 0 := h0
  omega
theorem notin0' (k : Fin 256) : (ix2 (0 : Fin 3) k : S3x256.Idx) ∉ r4_3.set := fun h => by
  obtain ⟨x, hx⟩ := r4_3.exists_idx_of_mem h
  have h0 := congrArg (fun y => (y 0).val) hx
  have : 1 + 1 * (x 0).val = 0 := h0
  omega
theorem in0 (k : Fin 256) : r4_2.emb (ix2 (0 : Fin 1) k : S1x256.Idx) = ix2 (0 : Fin 3) k := funext fun a => Fin.ext (by
  match a with
  | ⟨0, _⟩ => rfl
  | ⟨1, _⟩ => show 0 + 1 * k.val = k.val; omega)
theorem in1 (k : Fin 256) : r4_3.emb (ix2 (0 : Fin 1) k : S1x256.Idx) = ix2 (1 : Fin 3) k := funext fun a => Fin.ext (by
  match a with
  | ⟨0, _⟩ => rfl
  | ⟨1, _⟩ => show 0 + 1 * k.val = k.val; omega)
theorem in2 (k : Fin 256) : r4_4.emb (ix2 (0 : Fin 1) k : S1x256.Idx) = ix2 (2 : Fin 3) k := funext fun a => Fin.ext (by
  match a with
  | ⟨0, _⟩ => rfl
  | ⟨1, _⟩ => show 0 + 1 * k.val = k.val; omega)

/-- What three rows stored one by one leave. -/
abbrev three (p2 p1 p0 : Vec Ideal S1x256 .f32) : Vec Ideal S3x256 .f32 := View.canon [⟨r4_4, p2⟩, ⟨r4_3, p1⟩, ⟨r4_2, p0⟩]
theorem three_2 (p2 p1 p0 : Vec Ideal S1x256 .f32) (k : Fin 256) : three p2 p1 p0 (ix2 (2 : Fin 3) k) = p2 (ix2 (0 : Fin 1) k) := by
  rw [← in2 k]
  exact View.canon_cons_emb (Val := Elt Ideal) r4_4 p2 [⟨r4_3, p1⟩, ⟨r4_2, p0⟩] (ix2 (0 : Fin 1) k)
theorem three_1 (p2 p1 p0 : Vec Ideal S1x256 .f32) (k : Fin 256) : three p2 p1 p0 (ix2 (1 : Fin 3) k) = p1 (ix2 (0 : Fin 1) k) := by
  refine (View.canon_cons_of_not_mem (Val := Elt Ideal) ⟨r4_4, p2⟩ [⟨r4_3, p1⟩, ⟨r4_2, p0⟩] (notin1 k)).trans ?_
  rw [← in1 k]
  exact View.canon_cons_emb (Val := Elt Ideal) r4_3 p1 [⟨r4_2, p0⟩] (ix2 (0 : Fin 1) k)
theorem three_0 (p2 p1 p0 : Vec Ideal S1x256 .f32) (k : Fin 256) : three p2 p1 p0 (ix2 (0 : Fin 3) k) = p0 (ix2 (0 : Fin 1) k) := by
  refine (View.canon_cons_of_not_mem (Val := Elt Ideal) ⟨r4_4, p2⟩ [⟨r4_3, p1⟩, ⟨r4_2, p0⟩] (notin0 k)).trans ?_
  refine (View.canon_cons_of_not_mem (Val := Elt Ideal) ⟨r4_3, p1⟩ [⟨r4_2, p0⟩] (notin0' k)).trans ?_
  rw [← in0 k]
  exact View.canon_cons_emb (Val := Elt Ideal) r4_2 p0 [] (ix2 (0 : Fin 1) k)

theorem rows (p2 p1 p0 : Vec Ideal S1x256 .f32) (f : Fin 3 → EReal) (k : Fin 256) (h0 : p0 (ix2 (0 : Fin 1) k) = f 0)
    (h1 : p1 (ix2 (0 : Fin 1) k) = f 1) (h2 : p2 (ix2 (0 : Fin 1) k) = f 2) (r : Fin 3) : three p2 p1 p0 (ix2 r k) = f r := by
  match r with
  | ⟨0, _⟩ => exact (three_0 p2 p1 p0 k).trans h0
  | ⟨1, _⟩ => exact (three_1 p2 p1 p0 k).trans h1
  | ⟨2, _⟩ => exact (three_2 p2 p1 p0 k).trans h2

/-! ## What the two kernels leave -/

/-- The gated convolution. -/
theorem out_o (x0 x1 x2 : Vec Ideal S2048x256 .bf16) (x3 : Vec Ideal S1x3x256 .f32) (i : Fin 2048) (k : Fin 256) :
    out1_4 x0 x1 x2 x3 (ix2 i k) = x0 (ix2 i k) * cvc x1 x2 x3 k i := by
  unfold out1_4
  rw [View.canon_unit_zero (S := S2048x256) hz, View.ld_unit_zero (S := S2048x256) hz, View.ld_unit_zero (S := S2048x256) hz,
    View.ld_unit_zero (S := S2048x256) hz, View.ld_unit_zero (S := S1x3x256) hz3]
  exact pay10 x1 x2 x3 x0 i k

section
variable (x0 x1 x2 : Vec Ideal S2048x256 .bf16) (x3 : Vec Ideal S1x3x256 .f32) (x4 : Vec Ideal S2048x256 .bf16)

theorem e17 : k4_pay17 x0 x1 x2 x3 x4 = k4_pay2 x0 := by
  unfold k4_pay17; rw [View.ld_unit_zero (S := S2048x256) hz]
theorem e18 : k4_pay18 x0 x1 x2 x3 x4 = k4_pay5 x3 := by
  unfold k4_pay18; rw [View.ld_unit_zero (S := S1x3x256) hz3]
theorem e19 : k4_pay19 x0 x1 x2 x3 x4 = k4_pay9 x4 := by
  unfold k4_pay19; rw [View.ld_unit_zero (S := S2048x256) hz]
theorem dcv (i : Fin 2048) (k : Fin 256) : k4_pay11 (k4_pay2 x0) (k4_pay9 x4) (ix2 i k) = pc x4 x0 k i := by
  rw [pay11, pay9, pay2]
theorem dp (i : Fin 2048) (k : Fin 256) : k4_pay12 (k4_pay2 x0) (k4_pay5 x3) (k4_pay9 x4) (ix2 i k) = dpc x0 x4 x3 k i := by
  rw [pay12]
  exact congrArg₂ (fun w f => convT w f i) (funext fun r => pay5 x3 r k) (funext fun r => dcv x0 x4 r k)

theorem out_dgb (i : Fin 2048) (k : Fin 256) : out4_5 x0 x1 x2 x3 x4 (ix2 i k) = x4 (ix2 i k) * cvc x1 x2 x3 k i := by
  unfold out4_5
  rw [View.canon_unit_zero (S := S2048x256) hz, View.ld_unit_zero (S := S2048x256) hz, View.ld_unit_zero (S := S2048x256) hz,
    View.ld_unit_zero (S := S2048x256) hz, View.ld_unit_zero (S := S1x3x256) hz3]
  exact pay10 x1 x2 x3 x4 i k

theorem out_dgc (i : Fin 2048) (k : Fin 256) : out4_6 x0 x1 x2 x3 x4 (ix2 i k) = dpc x0 x4 x3 k i * x2 (ix2 i k) := by
  unfold out4_6
  rw [View.canon_unit_zero (S := S2048x256) hz, View.ld_unit_zero (S := S2048x256) hz, e17, e18, e19, pay13, dp, pay4]

theorem out_dhh (i : Fin 2048) (k : Fin 256) : out4_7 x0 x1 x2 x3 x4 (ix2 i k) = dpc x0 x4 x3 k i * x1 (ix2 i k) := by
  unfold out4_7
  rw [View.canon_unit_zero (S := S2048x256) hz, View.ld_unit_zero (S := S2048x256) hz, e17, e18, e19, pay14, dp, pay3]

theorem out_dcw (r : Fin 3) (k : Fin 256) : out4_8 x0 x1 x2 x3 x4 (ix2 r k) = ScSpec.taps (pc x4 x0 k) (pc x1 x2 k) r := by
  unfold out4_8
  refine rows _ _ _ (ScSpec.taps (pc x4 x0 k) (pc x1 x2 k)) k ?_ ?_ ?_ r
  · rw [e17, e19, View.ld_unit_zero (S := S2048x256) hz, View.ld_unit_zero (S := S2048x256) hz, pay15, ScSpec.taps_0]
    exact sum_eq fun i => by rw [dcv, pay7]
  · rw [e17, e19, View.ld_unit_zero (S := S2048x256) hz, View.ld_unit_zero (S := S2048x256) hz, pay16, ScSpec.taps_1]
    exact sum_eq fun i => by rw [dcv, pay6]
  · rw [e17, e19, View.ld_unit_zero (S := S2048x256) hz, View.ld_unit_zero (S := S2048x256) hz, pay1, ScSpec.taps_2]
    exact sum_eq fun i => by rw [dcv, pay8]
end

end Cert.ScBwdIdeal.Gate

end
-- ==== Proof.ScColumns.lean ====
/-
  The short-convolution mixer's two gated-convolution launches at the buffers they are entered with: every entry of their
  results, column by column. Column `j` lies in block `j / 256`; the projection's thirds are eight blocks apart.
-/
module

public import proofs.«01_k».proof.Proof.ScGate

@[expose] public section

set_option maxRecDepth 16384

noncomputable section

namespace Cert.ScBwdIdeal.Columns

open Idealize.ShloMosaic Idealize.ShloMosaic.TcCoe Idealize.SL.Sem
open Cert.ScBwdIdeal Cert.ScBwdIdeal.Gen Cert.ScBwdIdeal.Gate Cert.Sums Cert.Taps Cert.ScSpec

/-- The product of the second and third thirds' columns, the taps of a column (taken from its shard), the convolution, its
    gradient (from the output's gradient `D`), and the convolution's transpose of that. -/
abbrev pA (Z : Vec Ideal S2048x6144 .bf16) (j : Fin 2048) (i : Fin 2048) : EReal := Z (ix2 i (c1 j)) * Z (ix2 i (c2 j))
abbrev tapA (W : Vec Ideal S4x3x512 .f32) (j : Fin 2048) (r : Fin 3) : EReal :=
  W (ix3 (⟨j.val / 512, by omega⟩ : Fin 4) r (⟨j.val % 512, by omega⟩ : Fin 512))
abbrev cvA (Z : Vec Ideal S2048x6144 .bf16) (W : Vec Ideal S4x3x512 .f32) (j : Fin 2048) (i : Fin 2048) : EReal := conv (tapA W j) (pA Z j) i
abbrev dcvA (Z : Vec Ideal S2048x6144 .bf16) (D : Vec Ideal S2048x2048 .bf16) (j : Fin 2048) (i : Fin 2048) : EReal := D (ix2 i j) * Z (ix2 i (c0 j))
abbrev dpA (Z : Vec Ideal S2048x6144 .bf16) (W : Vec Ideal S4x3x512 .f32) (D : Vec Ideal S2048x2048 .bf16) (j : Fin 2048) (i : Fin 2048) : EReal :=
  convT (tapA W j) (dcvA Z D j) i

variable (V : (c : Dev nD) → (b : Ref sig .tc) → Buf (Elt Ideal) ((c : Thread nD τ).loc b)) (c : Dev nD)

abbrev aZ : Vec Ideal S2048x6144 .bf16 := V c main_v0
abbrev aW : Vec Ideal S4x3x512 .f32 := V c main_arg2
abbrev aD : Vec Ideal S2048x2048 .bf16 := V c main_v2

/-- The grid point whose block holds column `j`, and the column within it. -/
abbrev off (j : Fin 2048) : Fin 256 := ⟨j.val % 256, by omega⟩

/-! ## The forward launch -/

abbrev pt1 (j : Fin 2048) : Fin cfg1.N := ⟨j.val / 256, lt_of_lt_of_eq (by omega : _ < 8) (by decide +kernel : 8 = grid1.N)⟩
theorem pt1_eq (j : Fin 2048) : j.val = (pt1 j).val * 256 + (off j).val := by show j.val = j.val / 256 * 256 + j.val % 256; omega

theorem i1_0 : ∀ t : Fin grid1.N, win1_0.index t 0 = 0 ∧ win1_0.index t 1 = t.val := by decide +kernel
abbrev b1_0 (t : Fin cfg1.N) : Vec Ideal S2048x256 .bf16 := iblk1 V c 0 t
theorem col1_0 (t : Fin cfg1.N) (k : Fin 256) (j : Fin 2048) (hj : j.val = t.val * 256 + k.val) (i : Fin 2048) :
    b1_0 V c t (ix2 i k) = aZ V c (ix2 i (c0 j)) := by
  unfold b1_0 iblk1
  rw [View.read_apply]
  refine congrArg (V c main_v0) (funext fun a => Fin.ext ?_)
  have h := i1_0 t
  match a with
  | ⟨0, _⟩ => show win1_0.index t 0 * 2048 + 1 * i.val = i.val; rw [h.1]; omega
  | ⟨1, _⟩ => show win1_0.index t 1 * 256 + 1 * k.val = j.val; rw [h.2]; omega

theorem i1_1 : ∀ t : Fin grid1.N, win1_1.index t 0 = 0 ∧ win1_1.index t 1 = 8 + t.val := by decide +kernel
abbrev b1_1 (t : Fin cfg1.N) : Vec Ideal S2048x256 .bf16 := iblk1 V c 1 t
theorem col1_1 (t : Fin cfg1.N) (k : Fin 256) (j : Fin 2048) (hj : j.val = t.val * 256 + k.val) (i : Fin 2048) :
    b1_1 V c t (ix2 i k) = aZ V c (ix2 i (c1 j)) := by
  unfold b1_1 iblk1
  rw [View.read_apply]
  refine congrArg (V c main_v0) (funext fun a => Fin.ext ?_)
  have h := i1_1 t
  match a with
  | ⟨0, _⟩ => show win1_1.index t 0 * 2048 + 1 * i.val = i.val; rw [h.1]; omega
  | ⟨1, _⟩ => show win1_1.index t 1 * 256 + 1 * k.val = 2048 + j.val; rw [h.2]; omega

theorem i1_2 : ∀ t : Fin grid1.N, win1_2.index t 0 = 0 ∧ win1_2.index t 1 = 16 + t.val := by decide +kernel
abbrev b1_2 (t : Fin cfg1.N) : Vec Ideal S2048x256 .bf16 := iblk1 V c 2 t
theorem col1_2 (t : Fin cfg1.N) (k : Fin 256) (j : Fin 2048) (hj : j.val = t.val * 256 + k.val) (i : Fin 2048) :
    b1_2 V c t (ix2 i k) = aZ V c (ix2 i (c2 j)) := by
  unfold b1_2 iblk1
  rw [View.read_apply]
  refine congrArg (V c main_v0) (funext fun a => Fin.ext ?_)
  have h := i1_2 t
  match a with
  | ⟨0, _⟩ => show win1_2.index t 0 * 2048 + 1 * i.val = i.val; rw [h.1]; omega
  | ⟨1, _⟩ => show win1_2.index t 1 * 256 + 1 * k.val = 4096 + j.val; rw [h.2]; omega

theorem i1_3 : ∀ t : Fin grid1.N, win1_3.index t 0 = t.val / 2 ∧ win1_3.index t 1 = 0 ∧ win1_3.index t 2 = t.val % 2 := by decide +kernel
abbrev b1_3 (t : Fin cfg1.N) : Vec Ideal S1x3x256 .f32 := iblk1 V c 3 t
theorem tap1_3 (t : Fin cfg1.N) (k : Fin 256) (j : Fin 2048) (hj : j.val = t.val * 256 + k.val) (r : Fin 3) :
    b1_3 V c t (ix3 (0 : Fin 1) r k) = tapA (aW V c) j r := by
  unfold b1_3 iblk1
  rw [View.read_apply]
  refine congrArg (V c main_arg2) (funext fun a => Fin.ext ?_)
  have h := i1_3 t
  match a with
  | ⟨0, _⟩ => show win1_3.index t 0 * 1 + 1 * 0 = j.val / 512; rw [h.1]; omega
  | ⟨1, _⟩ => show win1_3.index t 1 * 3 + 1 * r.val = r.val; rw [h.2.1]; omega
  | ⟨2, _⟩ => show win1_3.index t 2 * 256 + 1 * k.val = j.val % 512; rw [h.2.2]; omega

theorem i1_4 : ∀ t : Fin grid1.N, win1_4.index t 0 = 0 ∧ win1_4.index t 1 = t.val := by decide +kernel
theorem inj1_4 : ∀ t t' : Fin grid1.N, win1_4.index t = win1_4.index t' → t = t' := by decide +kernel
theorem flush1_4 : ∀ t : Fin grid1.N, win1_4.flush t = true := by decide +kernel
theorem entry1_4 (t : Fin cfg1.N) (k : Fin 256) (j : Fin 2048) (hj : j.val = t.val * 256 + k.val) (i : Fin 2048) :
    ((dat1 V c).arrAt 4 cfg1.N : Vec Ideal S2048x2048 .bf16) (ix2 i j) = out1_4 (b1_0 V c t) (b1_1 V c t) (b1_2 V c t) (b1_3 V c t) (ix2 i k) := by
  have hb := congrFun ((dat1 V c).read_blk_arrAt_eq_flushed 4
    (fun t t' _ _ hne => (cfg1.win 4).disjoint_blk fun h => hne (inj1_4 t t' h)) cfg1.N t t.isLt (flush1_4 t)) (ix2 i k)
  have hf : (dat1 V c).flushed 4 t = (cfg1.win 4).cut (grid1.coords t) (out1_4 (b1_0 V c t) (b1_1 V c t) (b1_2 V c t) (b1_3 V c t)) := by
    show (cfg1.win 4).cut (grid1.coords t) ((dat1 V c).after 4 t) = _
    rw [after1_4]
  rw [hf, View.read_apply] at hb
  refine Eq.trans ?_ hb
  refine congrArg ((dat1 V c).arrAt 4 cfg1.N) (funext fun a => Fin.ext ?_)
  have h := i1_4 t
  match a with
  | ⟨0, _⟩ => show i.val = win1_4.index t 0 * 2048 + 1 * i.val; rw [h.1]; omega
  | ⟨1, _⟩ => show j.val = win1_4.index t 1 * 256 + 1 * k.val; rw [h.2]; omega

theorem p1_eq (j : Fin 2048) : pc (b1_1 V c (pt1 j)) (b1_2 V c (pt1 j)) (off j) = pA (aZ V c) j := by
  refine funext fun i => ?_
  unfold pc pA
  rw [col1_1 V c _ _ j (pt1_eq j), col1_2 V c _ _ j (pt1_eq j)]
theorem w1_eq (j : Fin 2048) : tap (b1_3 V c (pt1 j)) (off j) = tapA (aW V c) j := funext fun r => tap1_3 V c _ _ j (pt1_eq j) r

/-- The gated convolution. -/
theorem o_apply (i : Fin 2048) (j : Fin 2048) : ((dat1 V c).arrAt 4 cfg1.N : Vec Ideal S2048x2048 .bf16) (ix2 i j)
    = aZ V c (ix2 i (c0 j)) * cvA (aZ V c) (aW V c) j i := by
  rw [entry1_4 V c (pt1 j) (off j) j (pt1_eq j) i, out_o, col1_0 V c _ _ j (pt1_eq j)]
  unfold cvc cvA
  rw [p1_eq, w1_eq]

/-! ## The backward launch -/

abbrev pt4 (j : Fin 2048) : Fin cfg4.N := ⟨j.val / 256, lt_of_lt_of_eq (by omega : _ < 8) (by decide +kernel : 8 = grid4.N)⟩
theorem pt4_eq (j : Fin 2048) : j.val = (pt4 j).val * 256 + (off j).val := by show j.val = j.val / 256 * 256 + j.val % 256; omega

theorem i4_0 : ∀ t : Fin grid4.N, win4_0.index t 0 = 0 ∧ win4_0.index t 1 = t.val := by decide +kernel
abbrev b4_0 (t : Fin cfg4.N) : Vec Ideal S2048x256 .bf16 := iblk4 V c 0 t
theorem col4_0 (t : Fin cfg4.N) (k : Fin 256) (j : Fin 2048) (hj : j.val = t.val * 256 + k.val) (i : Fin 2048) :
    b4_0 V c t (ix2 i k) = aZ V c (ix2 i (c0 j)) := by
  unfold b4_0 iblk4
  rw [View.read_apply]
  refine congrArg (V c main_v0) (funext fun a => Fin.ext ?_)
  have h := i4_0 t
  match a with
  | ⟨0, _⟩ => show win4_0.index t 0 * 2048 + 1 * i.val = i.val; rw [h.1]; omega
  | ⟨1, _⟩ => show win4_0.index t 1 * 256 + 1 * k.val = j.val; rw [h.2]; omega

theorem i4_1 : ∀ t : Fin grid4.N, win4_1.index t 0 = 0 ∧ win4_1.index t 1 = 8 + t.val := by decide +kernel
abbrev b4_1 (t : Fin cfg4.N) : Vec Ideal S2048x256 .bf16 := iblk4 V c 1 t
theorem col4_1 (t : Fin cfg4.N) (k : Fin 256) (j : Fin 2048) (hj : j.val = t.val * 256 + k.val) (i : Fin 2048) :
    b4_1 V c t (ix2 i k) = aZ V c (ix2 i (c1 j)) := by
  unfold b4_1 iblk4
  rw [View.read_apply]
  refine congrArg (V c main_v0) (funext fun a => Fin.ext ?_)
  have h := i4_1 t
  match a with
  | ⟨0, _⟩ => show win4_1.index t 0 * 2048 + 1 * i.val = i.val; rw [h.1]; omega
  | ⟨1, _⟩ => show win4_1.index t 1 * 256 + 1 * k.val = 2048 + j.val; rw [h.2]; omega

theorem i4_2 : ∀ t : Fin grid4.N, win4_2.index t 0 = 0 ∧ win4_2.index t 1 = 16 + t.val := by decide +kernel
abbrev b4_2 (t : Fin cfg4.N) : Vec Ideal S2048x256 .bf16 := iblk4 V c 2 t
theorem col4_2 (t : Fin cfg4.N) (k : Fin 256) (j : Fin 2048) (hj : j.val = t.val * 256 + k.val) (i : Fin 2048) :
    b4_2 V c t (ix2 i k) = aZ V c (ix2 i (c2 j)) := by
  unfold b4_2 iblk4
  rw [View.read_apply]
  refine congrArg (V c main_v0) (funext fun a => Fin.ext ?_)
  have h := i4_2 t
  match a with
  | ⟨0, _⟩ => show win4_2.index t 0 * 2048 + 1 * i.val = i.val; rw [h.1]; omega
  | ⟨1, _⟩ => show win4_2.index t 1 * 256 + 1 * k.val = 4096 + j.val; rw [h.2]; omega

theorem i4_3 : ∀ t : Fin grid4.N, win4_3.index t 0 = t.val / 2 ∧ win4_3.index t 1 = 0 ∧ win4_3.index t 2 = t.val % 2 := by decide +kernel
abbrev b4_3 (t : Fin cfg4.N) : Vec Ideal S1x3x256 .f32 := iblk4 V c 3 t
theorem tap4_3 (t : Fin cfg4.N) (k : Fin 256) (j : Fin 2048) (hj : j.val = t.val * 256 + k.val) (r : Fin 3) :
    b4_3 V c t (ix3 (0 : Fin 1) r k) = tapA (aW V c) j r := by
  unfold b4_3 iblk4
  rw [View.read_apply]
  refine congrArg (V c main_arg2) (funext fun a => Fin.ext ?_)
  have h := i4_3 t
  match a with
  | ⟨0, _⟩ => show win4_3.index t 0 * 1 + 1 * 0 = j.val / 512; rw [h.1]; omega
  | ⟨1, _⟩ => show win4_3.index t 1 * 3 + 1 * r.val = r.val; rw [h.2.1]; omega
  | ⟨2, _⟩ => show win4_3.index t 2 * 256 + 1 * k.val = j.val % 512; rw [h.2.2]; omega

theorem i4_4 : ∀ t : Fin grid4.N, win4_4.index t 0 = 0 ∧ win4_4.index t 1 = t.val := by decide +kernel
abbrev b4_4 (t : Fin cfg4.N) : Vec Ideal S2048x256 .bf16 := iblk4 V c 4 t
theorem col4_4 (t : Fin cfg4.N) (k : Fin 256) (j : Fin 2048) (hj : j.val = t.val * 256 + k.val) (i : Fin 2048) :
    b4_4 V c t (ix2 i k) = aD V c (ix2 i j) := by
  unfold b4_4 iblk4
  rw [View.read_apply]
  refine congrArg (V c main_v2) (funext fun a => Fin.ext ?_)
  have h := i4_4 t
  match a with
  | ⟨0, _⟩ => show win4_4.index t 0 * 2048 + 1 * i.val = i.val; rw [h.1]; omega
  | ⟨1, _⟩ => show win4_4.index t 1 * 256 + 1 * k.val = j.val; rw [h.2]; omega

theorem i4_5 : ∀ t : Fin grid4.N, win4_5.index t 0 = 0 ∧ win4_5.index t 1 = t.val := by decide +kernel
theorem inj4_5 : ∀ t t' : Fin grid4.N, win4_5.index t = win4_5.index t' → t = t' := by decide +kernel
theorem flush4_5 : ∀ t : Fin grid4.N, win4_5.flush t = true := by decide +kernel
theorem entry4_5 (t : Fin cfg4.N) (k : Fin 256) (j : Fin 2048) (hj : j.val = t.val * 256 + k.val) (i : Fin 2048) :
    ((dat4 V c).arrAt 5 cfg4.N : Vec Ideal S2048x2048 .bf16) (ix2 i j) = out4_5 (b4_0 V c t) (b4_1 V c t) (b4_2 V c t) (b4_3 V c t) (b4_4 V c t) (ix2 i k) := by
  have hb := congrFun ((dat4 V c).read_blk_arrAt_eq_flushed 5
    (fun t t' _ _ hne => (cfg4.win 5).disjoint_blk fun h => hne (inj4_5 t t' h)) cfg4.N t t.isLt (flush4_5 t)) (ix2 i k)
  have hf : (dat4 V c).flushed 5 t = (cfg4.win 5).cut (grid4.coords t) (out4_5 (b4_0 V c t) (b4_1 V c t) (b4_2 V c t) (b4_3 V c t) (b4_4 V c t)) := by
    show (cfg4.win 5).cut (grid4.coords t) ((dat4 V c).after 5 t) = _
    rw [after4_5]
  rw [hf, View.read_apply] at hb
  refine Eq.trans ?_ hb
  refine congrArg ((dat4 V c).arrAt 5 cfg4.N) (funext fun a => Fin.ext ?_)
  have h := i4_5 t
  match a with
  | ⟨0, _⟩ => show i.val = win4_5.index t 0 * 2048 + 1 * i.val; rw [h.1]; omega
  | ⟨1, _⟩ => show j.val = win4_5.index t 1 * 256 + 1 * k.val; rw [h.2]; omega

theorem i4_6 : ∀ t : Fin grid4.N, win4_6.index t 0 = 0 ∧ win4_6.index t 1 = t.val := by decide +kernel
theorem inj4_6 : ∀ t t' : Fin grid4.N, win4_6.index t = win4_6.index t' → t = t' := by decide +kernel
theorem flush4_6 : ∀ t : Fin grid4.N, win4_6.flush t = true := by decide +kernel
theorem entry4_6 (t : Fin cfg4.N) (k : Fin 256) (j : Fin 2048) (hj : j.val = t.val * 256 + k.val) (i : Fin 2048) :
    ((dat4 V c).arrAt 6 cfg4.N : Vec Ideal S2048x2048 .bf16) (ix2 i j) = out4_6 (b4_0 V c t) (b4_1 V c t) (b4_2 V c t) (b4_3 V c t) (b4_4 V c t) (ix2 i k) := by
  have hb := congrFun ((dat4 V c).read_blk_arrAt_eq_flushed 6
    (fun t t' _ _ hne => (cfg4.win 6).disjoint_blk fun h => hne (inj4_6 t t' h)) cfg4.N t t.isLt (flush4_6 t)) (ix2 i k)
  have hf : (dat4 V c).flushed 6 t = (cfg4.win 6).cut (grid4.coords t) (out4_6 (b4_0 V c t) (b4_1 V c t) (b4_2 V c t) (b4_3 V c t) (b4_4 V c t)) := by
    show (cfg4.win 6).cut (grid4.coords t) ((dat4 V c).after 6 t) = _
    rw [after4_6]
  rw [hf, View.read_apply] at hb
  refine Eq.trans ?_ hb
  refine congrArg ((dat4 V c).arrAt 6 cfg4.N) (funext fun a => Fin.ext ?_)
  have h := i4_6 t
  match a with
  | ⟨0, _⟩ => show i.val = win4_6.index t 0 * 2048 + 1 * i.val; rw [h.1]; omega
  | ⟨1, _⟩ => show j.val = win4_6.index t 1 * 256 + 1 * k.val; rw [h.2]; omega

theorem i4_7 : ∀ t : Fin grid4.N, win4_7.index t 0 = 0 ∧ win4_7.index t 1 = t.val := by decide +kernel
theorem inj4_7 : ∀ t t' : Fin grid4.N, win4_7.index t = win4_7.index t' → t = t' := by decide +kernel
theorem flush4_7 : ∀ t : Fin grid4.N, win4_7.flush t = true := by decide +kernel
theorem entry4_7 (t : Fin cfg4.N) (k : Fin 256) (j : Fin 2048) (hj : j.val = t.val * 256 + k.val) (i : Fin 2048) :
    ((dat4 V c).arrAt 7 cfg4.N : Vec Ideal S2048x2048 .bf16) (ix2 i j) = out4_7 (b4_0 V c t) (b4_1 V c t) (b4_2 V c t) (b4_3 V c t) (b4_4 V c t) (ix2 i k) := by
  have hb := congrFun ((dat4 V c).read_blk_arrAt_eq_flushed 7
    (fun t t' _ _ hne => (cfg4.win 7).disjoint_blk fun h => hne (inj4_7 t t' h)) cfg4.N t t.isLt (flush4_7 t)) (ix2 i k)
  have hf : (dat4 V c).flushed 7 t = (cfg4.win 7).cut (grid4.coords t) (out4_7 (b4_0 V c t) (b4_1 V c t) (b4_2 V c t) (b4_3 V c t) (b4_4 V c t)) := by
    show (cfg4.win 7).cut (grid4.coords t) ((dat4 V c).after 7 t) = _
    rw [after4_7]
  rw [hf, View.read_apply] at hb
  refine Eq.trans ?_ hb
  refine congrArg ((dat4 V c).arrAt 7 cfg4.N) (funext fun a => Fin.ext ?_)
  have h := i4_7 t
  match a with
  | ⟨0, _⟩ => show i.val = win4_7.index t 0 * 2048 + 1 * i.val; rw [h.1]; omega
  | ⟨1, _⟩ => show j.val = win4_7.index t 1 * 256 + 1 * k.val; rw [h.2]; omega

theorem i4_8 : ∀ t : Fin grid4.N, win4_8.index t 0 = 0 ∧ win4_8.index t 1 = t.val := by decide +kernel
theorem inj4_8 : ∀ t t' : Fin grid4.N, win4_8.index t = win4_8.index t' → t = t' := by decide +kernel
theorem flush4_8 : ∀ t : Fin grid4.N, win4_8.flush t = true := by decide +kernel
theorem entry4_8 (t : Fin cfg4.N) (k : Fin 256) (j : Fin 2048) (hj : j.val = t.val * 256 + k.val) (i : Fin 3) :
    ((dat4 V c).arrAt 8 cfg4.N : Vec Ideal S3x2048 .f32) (ix2 i j) = out4_8 (b4_0 V c t) (b4_1 V c t) (b4_2 V c t) (b4_3 V c t) (b4_4 V c t) (ix2 i k) := by
  have hb := congrFun ((dat4 V c).read_blk_arrAt_eq_flushed 8
    (fun t t' _ _ hne => (cfg4.win 8).disjoint_blk fun h => hne (inj4_8 t t' h)) cfg4.N t t.isLt (flush4_8 t)) (ix2 i k)
  have hf : (dat4 V c).flushed 8 t = (cfg4.win 8).cut (grid4.coords t) (out4_8 (b4_0 V c t) (b4_1 V c t) (b4_2 V c t) (b4_3 V c t) (b4_4 V c t)) := by
    show (cfg4.win 8).cut (grid4.coords t) ((dat4 V c).after 8 t) = _
    rw [after4_8]
  rw [hf, View.read_apply] at hb
  refine Eq.trans ?_ hb
  refine congrArg ((dat4 V c).arrAt 8 cfg4.N) (funext fun a => Fin.ext ?_)
  have h := i4_8 t
  match a with
  | ⟨0, _⟩ => show i.val = win4_8.index t 0 * 3 + 1 * i.val; rw [h.1]; omega
  | ⟨1, _⟩ => show j.val = win4_8.index t 1 * 256 + 1 * k.val; rw [h.2]; omega

theorem p4_eq (j : Fin 2048) : pc (b4_1 V c (pt4 j)) (b4_2 V c (pt4 j)) (off j) = pA (aZ V c) j := by
  refine funext fun i => ?_
  unfold pc pA
  rw [col4_1 V c _ _ j (pt4_eq j), col4_2 V c _ _ j (pt4_eq j)]
theorem w4_eq (j : Fin 2048) : tap (b4_3 V c (pt4 j)) (off j) = tapA (aW V c) j := funext fun r => tap4_3 V c _ _ j (pt4_eq j) r

theorem dcv_eq (j : Fin 2048) : pc (b4_4 V c (pt4 j)) (b4_0 V c (pt4 j)) (off j) = dcvA (aZ V c) (aD V c) j := by
  refine funext fun i => ?_
  unfold pc dcvA
  rw [col4_4 V c _ _ j (pt4_eq j), col4_0 V c _ _ j (pt4_eq j)]

/-- The gradient of the first third. -/
theorem dgb_apply (i : Fin 2048) (j : Fin 2048) : ((dat4 V c).arrAt 5 cfg4.N : Vec Ideal S2048x2048 .bf16) (ix2 i j)
    = aD V c (ix2 i j) * cvA (aZ V c) (aW V c) j i := by
  rw [entry4_5 V c (pt4 j) (off j) j (pt4_eq j) i, out_dgb, col4_4 V c _ _ j (pt4_eq j)]
  unfold cvc cvA
  rw [p4_eq, w4_eq]
/-- The gradient of the second third. -/
theorem dgc_apply (i : Fin 2048) (j : Fin 2048) : ((dat4 V c).arrAt 6 cfg4.N : Vec Ideal S2048x2048 .bf16) (ix2 i j)
    = dpA (aZ V c) (aW V c) (aD V c) j i * aZ V c (ix2 i (c2 j)) := by
  rw [entry4_6 V c (pt4 j) (off j) j (pt4_eq j) i, out_dgc, col4_2 V c _ _ j (pt4_eq j)]
  unfold dpc dpA
  rw [dcv_eq, w4_eq]
/-- The gradient of the last third. -/
theorem dhh_apply (i : Fin 2048) (j : Fin 2048) : ((dat4 V c).arrAt 7 cfg4.N : Vec Ideal S2048x2048 .bf16) (ix2 i j)
    = dpA (aZ V c) (aW V c) (aD V c) j i * aZ V c (ix2 i (c1 j)) := by
  rw [entry4_7 V c (pt4 j) (off j) j (pt4_eq j) i, out_dhh, col4_1 V c _ _ j (pt4_eq j)]
  unfold dpc dpA
  rw [dcv_eq, w4_eq]
/-- The taps' gradients. -/
theorem dcw_apply (r : Fin 3) (j : Fin 2048) : ((dat4 V c).arrAt 8 cfg4.N : Vec Ideal S3x2048 .f32) (ix2 r j)
    = taps (dcvA (aZ V c) (aD V c) j) (pA (aZ V c) j) r := by
  rw [entry4_8 V c (pt4 j) (off j) j (pt4_eq j) r, out_dcw, dcv_eq, p4_eq]

end Cert.ScBwdIdeal.Columns

end
-- ==== Proof.ScRun.lean ====
/-
  The short-convolution mixer's backward run, keeping what it leaves in its four results.
-/
module

public import proofs.«01_k».proof.Proof.Gen.ScBwdIdeal.Frame

@[expose] public section

set_option maxRecDepth 16384

noncomputable section

namespace Cert.ScBwdIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScBwdIdeal Cert.ScBwdIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution ends with the arguments as launched and the four results at the last boundary's contents. -/
theorem run : θ_run defs (onTc (τ := τ) (main (F := F))) ⟨m, fun _ => 0, ρ⟩ (fun r => ∀ c : Dev nD,
      (r.2.mem ((c.tc : Thread nD τ).loc main_v5) = W7 m ρ c main_v5
        ∧ r.2.mem ((c.tc : Thread nD τ).loc main_v4_3) = W7 m ρ c main_v4_3
        ∧ r.2.mem ((c.tc : Thread nD τ).loc main_v3) = W7 m ρ c main_v3
        ∧ r.2.mem ((c.tc : Thread nD τ).loc main_v6) = W7 m ρ c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨⟨h c _ (mem_uc main_v5 (by decide)), h c _ (mem_uc main_v4_3 (by decide)), h c _ (mem_uc main_v3 (by decide)), h c _ (mem_uc main_v6 (by decide))⟩,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.ScBwdIdeal.Results

end
-- ==== Proof.ScKernel.lean ====
/-
  The short-convolution mixer's results: each launch's results at the buffers the launches before it leave, down to the
  arguments.
-/
module

public import proofs.«01_k».proof.Proof.ScProducts
public import proofs.«01_k».proof.Proof.ScColumns
public import proofs.«01_k».proof.Proof.ScRun

@[expose] public section

set_option maxRecDepth 16384

noncomputable section

namespace Cert.ScBwdIdeal.Kernel

open Idealize.ShloMosaic Idealize.ShloMosaic.TcCoe Idealize.SL.Sem
open Cert.ScBwdIdeal Cert.ScBwdIdeal.Gen Cert.ScBwdIdeal.Products Cert.ScBwdIdeal.Columns Cert.Sums Cert.Taps
open Cert.ScSpec (c0 c1 c2)

variable (m : (ℓ : Loc nD τ sig) → Buf (Elt Ideal) ℓ) (ρ : Dev nD → PrngReg) (c : Dev nD)

/-- The arguments as launched, and their entries. -/
abbrev gA : Vec Ideal S2048x2048 .bf16 := m ((c.tc : Thread nD τ).loc main_arg0)
abbrev gWi : Vec Ideal S4x2048x1536 .bf16 := m ((c.tc : Thread nD τ).loc main_arg1)
abbrev gCw : Vec Ideal S4x3x512 .f32 := m ((c.tc : Thread nD τ).loc main_arg2)
abbrev gWo : Vec Ideal S1x2048x2048 .bf16 := m ((c.tc : Thread nD τ).loc main_arg3)
abbrev gDh : Vec Ideal S2048x2048 .bf16 := m ((c.tc : Thread nD τ).loc main_arg4)
def args : ScSpec.Args where
  a i q := gA m c (ix2 i q)
  wi n q j := gWi m c (ix3 n q j)
  cw n r j := gCw m c (ix3 n r j)
  wo j q := gWo m c (ix3 (0 : Fin 1) j q)
  dh i q := gDh m c (ix2 i q)

/-! ## The input projection, wherever it is read -/

theorem z1 : W1 m ρ c main_v0 = (dat0 (V0 m ρ) c).arrAt 2 cfg0.N := W1_arr m ρ c 2
theorem z4 : W4 m ρ c main_v0 = (dat0 (V0 m ρ) c).arrAt 2 cfg0.N :=
  (W4_of m ρ c main_v0 (by decide +kernel)).trans ((W3_of m ρ c main_v0 (by decide +kernel)).trans
    ((W2_of m ρ c main_v0 (by decide +kernel)).trans (z1 m ρ c)))

theorem z_eq (V : (c : Dev nD) → (b : Ref sig .tc) → Buf (Elt Ideal) ((c : Thread nD τ).loc b))
    (h : V c main_v0 = (dat0 (V0 m ρ) c).arrAt 2 cfg0.N) (i : Fin 2048) (j : Fin 6144) : aZ V c (ix2 i j) = ScSpec.z (args m c) j i := by
  show (V c main_v0 : Vec Ideal S2048x6144 .bf16) (ix2 i j) = _
  rw [h]
  exact z_apply (V0 m ρ) c i j
theorem p_eq (V : (c : Dev nD) → (b : Ref sig .tc) → Buf (Elt Ideal) ((c : Thread nD τ).loc b))
    (h : V c main_v0 = (dat0 (V0 m ρ) c).arrAt 2 cfg0.N) (j : Fin 2048) : pA (aZ V c) j = ScSpec.p (args m c) j := by
  refine funext fun i => ?_
  unfold pA ScSpec.p
  rw [z_eq m ρ c V h, z_eq m ρ c V h]
theorem cv_eq (V : (c : Dev nD) → (b : Ref sig .tc) → Buf (Elt Ideal) ((c : Thread nD τ).loc b))
    (h : V c main_v0 = (dat0 (V0 m ρ) c).arrAt 2 cfg0.N) (hw : aW V c = gCw m c) (j : Fin 2048) (i : Fin 2048) :
    cvA (aZ V c) (aW V c) j i = ScSpec.cv (args m c) j i := by
  unfold cvA ScSpec.cv
  rw [p_eq m ρ c V h, hw]
  rfl

/-! ## The gated convolution and its gradient -/

theorem o_eq (i : Fin 2048) (j : Fin 2048) : ((dat1 (V1 m ρ) c).arrAt 4 cfg1.N : Vec Ideal S2048x2048 .bf16) (ix2 i j) = ScSpec.o (args m c) j i := by
  refine (o_apply (V1 m ρ) c i j).trans ?_
  rw [z_eq m ρ c (V1 m ρ) (z1 m ρ c), cv_eq m ρ c (V1 m ρ) (z1 m ρ c) (W1_args m ρ c main_arg2 (by decide +kernel))]
  rfl
theorem d4 : W4 m ρ c main_v2 = (dat2 (V2 m ρ) c).arrAt 3 cfg2.N := (W4_of m ρ c main_v2 (by decide +kernel)).trans (W3_arr m ρ c 3)
theorem d_eq (i : Fin 2048) (j : Fin 2048) : aD (V4 m ρ) c (ix2 i j) = ScSpec.dout (args m c) j i := by
  show (W4 m ρ c main_v2 : Vec Ideal S2048x2048 .bf16) (ix2 i j) = _
  rw [d4, d_apply (V2 m ρ) c i j,
    show dD (V2 m ρ) c = gDh m c from W2_args m ρ c main_arg4 (by decide +kernel),
    show dW (V2 m ρ) c = gWo m c from W2_args m ρ c main_arg3 (by decide +kernel)]
  rfl
theorem dcv_eq' (j : Fin 2048) : dcvA (aZ (V4 m ρ) c) (aD (V4 m ρ) c) j = ScSpec.dcv (args m c) j := by
  refine funext fun i => ?_
  unfold dcvA ScSpec.dcv
  rw [d_eq, z_eq m ρ c (V4 m ρ) (z4 m ρ c)]
theorem dp_eq (j : Fin 2048) (i : Fin 2048) : dpA (aZ (V4 m ρ) c) (aW (V4 m ρ) c) (aD (V4 m ρ) c) j i = ScSpec.dp (args m c) j i := by
  unfold dpA ScSpec.dp
  rw [dcv_eq', show aW (V4 m ρ) c = gCw m c from W4_args m ρ c main_arg2 (by decide +kernel)]
  rfl

/-! ## The projection's gradient -/

theorem gb5 (i : Fin 2048) (j : Fin 2048) : (W5 m ρ c main_v4_0 : Vec Ideal S2048x2048 .bf16) (ix2 i j) = ScSpec.dgb (args m c) j i := by
  rw [show W5 m ρ c main_v4_0 = (dat4 (V4 m ρ) c).arrAt 5 cfg4.N from W5_arr m ρ c 5]
  refine (dgb_apply (V4 m ρ) c i j).trans ?_
  rw [d_eq, cv_eq m ρ c (V4 m ρ) (z4 m ρ c) (W4_args m ρ c main_arg2 (by decide +kernel))]
  rfl
theorem gc5 (i : Fin 2048) (j : Fin 2048) : (W5 m ρ c main_v4_1 : Vec Ideal S2048x2048 .bf16) (ix2 i j) = ScSpec.dgc (args m c) j i := by
  rw [show W5 m ρ c main_v4_1 = (dat4 (V4 m ρ) c).arrAt 6 cfg4.N from W5_arr m ρ c 6]
  refine (dgc_apply (V4 m ρ) c i j).trans ?_
  rw [dp_eq, z_eq m ρ c (V4 m ρ) (z4 m ρ c)]
  rfl
theorem hh5 (i : Fin 2048) (j : Fin 2048) : (W5 m ρ c main_v4_2 : Vec Ideal S2048x2048 .bf16) (ix2 i j) = ScSpec.dhh (args m c) j i := by
  rw [show W5 m ρ c main_v4_2 = (dat4 (V4 m ρ) c).arrAt 7 cfg4.N from W5_arr m ρ c 7]
  refine (dhh_apply (V4 m ρ) c i j).trans ?_
  rw [dp_eq, z_eq m ρ c (V4 m ρ) (z4 m ρ c)]
  rfl
theorem cat6 : W6 m ρ c main_v5 = concatenate S2048x6144 1
    [⟨S2048x2048, (W5 m ρ c main_v4_0 : Vec Ideal S2048x2048 .bf16)⟩, ⟨S2048x2048, (W5 m ρ c main_v4_1 : Vec Ideal S2048x2048 .bf16)⟩,
      ⟨S2048x2048, (W5 m ρ c main_v4_2 : Vec Ideal S2048x2048 .bf16)⟩]
    concatenates_S2048x2048_S2048x2048_S2048x2048_S2048x6144_d1 := rfl
theorem cat_apply (x y w : Vec Ideal S2048x2048 .bf16) (i : Fin 2048) (j : Fin 6144) :
    concatenate S2048x6144 1 [⟨S2048x2048, x⟩, ⟨S2048x2048, y⟩, ⟨S2048x2048, w⟩] concatenates_S2048x2048_S2048x2048_S2048x2048_S2048x6144_d1 (ix2 i j)
      = if h : j.val < 2048 then x (ix2 i ⟨j.val, h⟩) else if h2 : j.val < 4096 then y (ix2 i ⟨j.val - 2048, by omega⟩)
        else w (ix2 i ⟨j.val - 4096, by omega⟩) := by
  pointwise
  refine dite_congr rfl (fun _ => rfl) fun h0 => dite_congr (propext ⟨fun h => by omega, fun h => by omega⟩) (fun _ => rfl) fun _ => ?_
  exact congrArg (fun k => w (ix2 i k)) (Fin.ext (Nat.sub_sub j.val 2048 2048))
theorem dz6 (i : Fin 2048) (j : Fin 6144) : (W6 m ρ c main_v5 : Vec Ideal S2048x6144 .bf16) (ix2 i j) = ScSpec.dz (args m c) j i := by
  rw [cat6]
  refine (cat_apply _ _ _ i j).trans ?_
  unfold ScSpec.dz
  exact dite_congr rfl (fun _ => gb5 m ρ c _ _) fun _ => dite_congr rfl (fun _ => gc5 m ρ c _ _) fun _ => hh5 m ρ c _ _

/-! ## The results -/

/-- The gradient of the input projection. -/
theorem res0 (i : Fin 2048) (j : Fin 6144) : (W7 m ρ c main_v5 : Vec Ideal S2048x6144 .bf16) (ix2 i j) = ScSpec.dz (args m c) j i := by
  rw [show W7 m ρ c main_v5 = W6 m ρ c main_v5 from W7_of m ρ c main_v5 (by decide +kernel)]
  exact dz6 m ρ c i j
/-- The taps' gradients. -/
theorem res1 (r : Fin 3) (j : Fin 2048) : (W7 m ρ c main_v4_3 : Vec Ideal S3x2048 .f32) (ix2 r j) = ScSpec.dcw (args m c) r j := by
  rw [show W7 m ρ c main_v4_3 = (dat4 (V4 m ρ) c).arrAt 8 cfg4.N from
    (W7_of m ρ c main_v4_3 (by decide +kernel)).trans ((W6_of m ρ c main_v4_3 (by decide +kernel)).trans (W5_arr m ρ c 8))]
  refine (dcw_apply (V4 m ρ) c r j).trans ?_
  rw [dcv_eq', p_eq m ρ c (V4 m ρ) (z4 m ρ c)]
  rfl
/-- The output projection's gradient. -/
theorem res2 (j : Fin 2048) (k : Fin 2048) : (W7 m ρ c main_v3 : Vec Ideal S1x2048x2048 .bf16) (ix3 (0 : Fin 1) j k) = ScSpec.dwo (args m c) j k := by
  rw [show W7 m ρ c main_v3 = (dat3 (V3 m ρ) c).arrAt 2 cfg3.N from
    (W7_of m ρ c main_v3 (by decide +kernel)).trans ((W6_of m ρ c main_v3 (by decide +kernel)).trans
      ((W5_of m ρ c main_v3 (by decide +kernel)).trans (W4_arr m ρ c 2)))]
  refine (dwo_apply (V3 m ρ) c j k).trans (sum_eq fun q => ?_)
  rw [show dwoD (V3 m ρ) c = gDh m c from W3_args m ρ c main_arg4 (by decide +kernel),
    show dwoO (V3 m ρ) c = (dat1 (V1 m ρ) c).arrAt 4 cfg1.N from (W3_of m ρ c main_v1 (by decide +kernel)).trans (W2_arr m ρ c 4), o_eq]
  rfl
/-- The input projection's weight's gradient. -/
theorem res3 (n : Fin 4) (k : Fin 2048) (s : Fin 1536) : (W7 m ρ c main_v6 : Vec Ideal S4x2048x1536 .bf16) (ix3 n k s) = ScSpec.dwi (args m c) n k s := by
  rw [show W7 m ρ c main_v6 = (dat5 (V6 m ρ) c).arrAt 2 cfg5.N from W7_arr m ρ c 2]
  refine (dwi_apply (V6 m ρ) c n k s).trans (sum_eq fun q => ?_)
  rw [show dwiA (V6 m ρ) c = gA m c from W6_args m ρ c main_arg0 (by decide +kernel)]
  exact congrArg (_ * ·) (dz6 m ρ c q _)

end Cert.ScBwdIdeal.Kernel

end
-- ==== Proof.ScReference.lean ====
/-
  What the reference of the short-convolution mixer's backward pass computes, stage by stage, as the specification's
  functions of the arguments' entries.
-/
module

public import proofs.«01_k».proof.Proof.ScSpec
public import proofs.«01_k».proof.Proof.Gen.ScRefIdeal.Read

@[expose] public section

set_option maxRecDepth 16384

noncomputable section

namespace Cert.ScRefIdeal.Reference

open Idealize.ShloMosaic Idealize.ShloMosaic.TcCoe Idealize.SL.Sem
open Cert.ScRefIdeal Cert.ScRefIdeal.Read Cert.Sums Cert.Taps Cert.ScSpec

variable (x0 : Vec Ideal S2048x2048 .bf16) (x1 : Vec Ideal S4x2048x1536 .bf16) (x2 : Vec Ideal S4x3x512 .f32)
  (x3 : Vec Ideal S1x2048x2048 .bf16) (x4 : Vec Ideal S2048x2048 .bf16)

/-- The arguments' entries. -/
def args : ScSpec.Args where
  a i q := x0 (ix2 i q)
  wi n q j := x1 (ix3 n q j)
  cw n r j := x2 (ix3 n r j)
  wo j q := x3 (ix3 (0 : Fin 1) j q)
  dh i q := x4 (ix2 i q)

/-! ## The forward lines -/

/-- The input projection and its thirds. -/
theorem v4 (i : Fin 2048) (j : Fin 6144) : val_main_v4 (F := Ideal) x0 x1 (ix2 i j) = z (args x0 x1 x2 x3 x4) j i := by
  unfold val_main_v4 val_main_v3 val_main_v2 val_main_v1 val_main_v0
  pointwise
  rfl
theorem v10 (i : Fin 2048) (j : Fin 2048) : val_main_v10 (F := Ideal) x0 x1 (ix2 i j) = z (args x0 x1 x2 x3 x4) (c0 j) i := by
  rw [← v4]
  unfold val_main_v10
  generalize val_main_v4 (F := Ideal) x0 x1 = y
  pointwise
theorem v11 (i : Fin 2048) (j : Fin 2048) : val_main_v11 (F := Ideal) x0 x1 (ix2 i j) = z (args x0 x1 x2 x3 x4) (c1 j) i := by
  rw [← v4]
  unfold val_main_v11
  generalize val_main_v4 (F := Ideal) x0 x1 = y
  pointwise
theorem v12 (i : Fin 2048) (j : Fin 2048) : val_main_v12 (F := Ideal) x0 x1 (ix2 i j) = z (args x0 x1 x2 x3 x4) (c2 j) i := by
  rw [← v4]
  unfold val_main_v12
  generalize val_main_v4 (F := Ideal) x0 x1 = y
  pointwise
theorem v13 (i : Fin 2048) (j : Fin 2048) : val_main_v13 (F := Ideal) x0 x1 (ix2 i j) = p (args x0 x1 x2 x3 x4) j i := by
  have h1 := v11 x0 x1 x2 x3 x4 i j
  have h2 := v12 x0 x1 x2 x3 x4 i j
  unfold val_main_v13
  generalize val_main_v11 (F := Ideal) x0 x1 = y1 at h1
  generalize val_main_v12 (F := Ideal) x0 x1 = y2 at h2
  pointwise
  rw [h1, h2]
  rfl

/-- The product's rows shifted by the padding: the row before, the row, the row after. -/
theorem v19 (i : Fin 2048) (j : Fin 2048) : val_main_v19 (F := Ideal) x0 x1 (ix2 i j) = prev (p (args x0 x1 x2 x3 x4) j) i := by
  have e : p (args x0 x1 x2 x3 x4) j = fun i => val_main_v13 (F := Ideal) x0 x1 (ix2 i j) := funext fun i => (v13 x0 x1 x2 x3 x4 i j).symm
  rw [e]
  unfold val_main_v19 val_main_v16 val_main_v15 val_main_v14 val_main_cst val_main_cst_0
  generalize val_main_v13 (F := Ideal) x0 x1 = y
  pointwise
  have hi := i.isLt
  unfold prev
  by_cases h : i.val = 0
  · rw [dif_pos (by omega), if_pos h]
  · rw [dif_neg (by omega), dif_pos (by omega), if_neg h]
theorem v25 (i : Fin 2048) (j : Fin 2048) : val_main_v25 (F := Ideal) x0 x1 (ix2 i j) = p (args x0 x1 x2 x3 x4) j i := by
  rw [← v13 x0 x1 x2 x3 x4 i j]
  unfold val_main_v25 val_main_v16 val_main_v15 val_main_v14 val_main_cst val_main_cst_0
  generalize val_main_v13 (F := Ideal) x0 x1 = y
  pointwise
theorem v32 (i : Fin 2048) (j : Fin 2048) : val_main_v32 (F := Ideal) x0 x1 (ix2 i j) = next (p (args x0 x1 x2 x3 x4) j) i := by
  have e : p (args x0 x1 x2 x3 x4) j = fun i => val_main_v13 (F := Ideal) x0 x1 (ix2 i j) := funext fun i => (v13 x0 x1 x2 x3 x4 i j).symm
  rw [e]
  unfold val_main_v32 val_main_v16 val_main_v15 val_main_v14 val_main_cst val_main_cst_0
  generalize val_main_v13 (F := Ideal) x0 x1 = y
  pointwise
  have hi := i.isLt
  unfold next
  rw [dif_neg (by omega)]
  by_cases h : i.val < 2047
  · rw [dif_pos (by omega), dif_pos h]
    exact congrArg (fun k => y (ix2 k j)) (Fin.ext (by show 2 + i.val - 1 = i.val + 1; omega))
  · rw [dif_neg (by omega), dif_neg h]

/-- The taps along the rows. -/
theorem v23 (i : Fin 2048) (j : Fin 2048) : val_main_v23 (F := Ideal) x2 (ix2 i j) = tap (args x0 x1 x2 x3 x4) j 0 := by
  unfold val_main_v23 val_main_v22 val_main_v21 val_main_v20 val_main_v6 val_main_v5
  pointwise
  rfl
theorem v29 (i : Fin 2048) (j : Fin 2048) : val_main_v29 (F := Ideal) x2 (ix2 i j) = tap (args x0 x1 x2 x3 x4) j 1 := by
  unfold val_main_v29 val_main_v28 val_main_v27 val_main_v26 val_main_v6 val_main_v5
  pointwise
  rfl
theorem v36 (i : Fin 2048) (j : Fin 2048) : val_main_v36 (F := Ideal) x2 (ix2 i j) = tap (args x0 x1 x2 x3 x4) j 2 := by
  unfold val_main_v36 val_main_v35 val_main_v34 val_main_v33 val_main_v6 val_main_v5
  pointwise
  rfl
theorem v70 (i : Fin 2048) (j : Fin 2048) : val_main_v70 (F := Ideal) x2 (ix2 i j) = tap (args x0 x1 x2 x3 x4) j 0 := v23 x0 x1 x2 x3 x4 i j
theorem v59 (i : Fin 2048) (j : Fin 2048) : val_main_v59 (F := Ideal) x2 (ix2 i j) = tap (args x0 x1 x2 x3 x4) j 1 := v29 x0 x1 x2 x3 x4 i j
theorem v50 (i : Fin 2048) (j : Fin 2048) : val_main_v50 (F := Ideal) x2 (ix2 i j) = tap (args x0 x1 x2 x3 x4) j 2 := v36 x0 x1 x2 x3 x4 i j

/-- The convolution, and the gated convolution. -/
theorem v38 (i : Fin 2048) (j : Fin 2048) : val_main_v38 (F := Ideal) x0 x1 x2 (ix2 i j) = cv (args x0 x1 x2 x3 x4) j i := by
  have h1 := v19 x0 x1 x2 x3 x4 i j
  have h2 := v25 x0 x1 x2 x3 x4 i j
  have h3 := v32 x0 x1 x2 x3 x4 i j
  have w1 := v23 x0 x1 x2 x3 x4 i j
  have w2 := v29 x0 x1 x2 x3 x4 i j
  have w3 := v36 x0 x1 x2 x3 x4 i j
  unfold val_main_v38 val_main_v37 val_main_v31 val_main_v30 val_main_v24
  generalize val_main_v19 (F := Ideal) x0 x1 = y1 at h1
  generalize val_main_v25 (F := Ideal) x0 x1 = y2 at h2
  generalize val_main_v32 (F := Ideal) x0 x1 = y3 at h3
  generalize val_main_v23 (F := Ideal) x2 = z1 at w1
  generalize val_main_v29 (F := Ideal) x2 = z2 at w2
  generalize val_main_v36 (F := Ideal) x2 = z3 at w3
  pointwise
  rw [h1, h2, h3, w1, w2, w3]
  rfl
theorem v39 (i : Fin 2048) (j : Fin 2048) : val_main_v39 (F := Ideal) x0 x1 x2 (ix2 i j) = o (args x0 x1 x2 x3 x4) j i := by
  have h1 := v10 x0 x1 x2 x3 x4 i j
  have h2 := v38 x0 x1 x2 x3 x4 i j
  unfold val_main_v39
  generalize val_main_v10 (F := Ideal) x0 x1 = y1 at h1
  generalize val_main_v38 (F := Ideal) x0 x1 x2 = y2 at h2
  pointwise
  rw [h1, h2]
  rfl

/-! ## The backward lines -/

/-- The gated convolution's gradient, and the convolution's. -/
theorem v44 (i : Fin 2048) (j : Fin 2048) : val_main_v44 (F := Ideal) x3 x4 (ix2 i j) = dout (args x0 x1 x2 x3 x4) j i := by
  unfold val_main_v44 val_main_v41 val_main_v9 val_main_v8 val_main_v7
  pointwise
  rfl
theorem v45 (i : Fin 2048) (j : Fin 2048) : val_main_v45 (F := Ideal) x0 x1 x3 x4 (ix2 i j) = dcv (args x0 x1 x2 x3 x4) j i := by
  have h1 := v10 x0 x1 x2 x3 x4 i j
  have h2 := v44 x0 x1 x2 x3 x4 i j
  unfold val_main_v45
  generalize val_main_v10 (F := Ideal) x0 x1 = y1 at h1
  generalize val_main_v44 (F := Ideal) x3 x4 = y2 at h2
  pointwise
  rw [h1, h2]
  exact mul_comm _ _
theorem v46 (i : Fin 2048) (j : Fin 2048) : val_main_v46 (F := Ideal) x0 x1 x2 x3 x4 (ix2 i j) = dgb (args x0 x1 x2 x3 x4) j i := by
  have h1 := v44 x0 x1 x2 x3 x4 i j
  have h2 := v38 x0 x1 x2 x3 x4 i j
  unfold val_main_v46
  generalize val_main_v44 (F := Ideal) x3 x4 = y1 at h1
  generalize val_main_v38 (F := Ideal) x0 x1 x2 = y2 at h2
  pointwise
  rw [h1, h2]
  rfl

/-- The gradient of the convolution's argument. -/
theorem v79 (i : Fin 2048) (j : Fin 2048) : val_main_v79 (F := Ideal) x0 x1 x2 x3 x4 (ix2 i j) = dp (args x0 x1 x2 x3 x4) j i := by
  have h1 := fun i => v45 x0 x1 x2 x3 x4 i j
  have w0 := fun i => v70 x0 x1 x2 x3 x4 i j
  have w1 := fun i => v59 x0 x1 x2 x3 x4 i j
  have w2 := fun i => v50 x0 x1 x2 x3 x4 i j
  unfold val_main_v79 val_main_v77 val_main_v76 val_main_v66 val_main_v65 val_main_v55 val_main_v51 val_main_v60 val_main_v71
  unfold val_main_cst_6 val_main_cst_10 val_main_cst_14
  generalize val_main_v45 (F := Ideal) x0 x1 x3 x4 = y at h1
  generalize val_main_v70 (F := Ideal) x2 = z0 at w0
  generalize val_main_v59 (F := Ideal) x2 = z1 at w1
  generalize val_main_v50 (F := Ideal) x2 = z2 at w2
  pointwise
  simp only [h1, w0, w1, w2]
  have hi := i.isLt
  unfold dp
  generalize dcv (args x0 x1 x2 x3 x4) j = f
  generalize tap (args x0 x1 x2 x3 x4) j = w
  have ep : (if h : 2 ≤ 1 + i.val ∧ 1 + i.val - 2 < 2048 then f ⟨1 + i.val - 2, h.2⟩ * w 2 else 0) = prev f i * w 2 := by
    unfold prev
    by_cases hi0 : i.val = 0
    · rw [dif_neg (by omega), if_pos hi0, zero_mul]
    · rw [dif_pos (by omega), if_neg hi0]
      exact congrArg (fun k => f k * w 2) (Fin.ext (by show 1 + i.val - 2 = i.val - 1; omega))
  have en : (if h : 1 + i.val < 2048 then f ⟨1 + i.val, h⟩ * w 0 else 0) = next f i * w 0 := by
    unfold next
    by_cases hi0 : i.val < 2047
    · rw [dif_pos (by omega), dif_pos hi0]
      exact congrArg (fun k => f k * w 0) (Fin.ext (Nat.add_comm 1 i.val))
    · rw [dif_neg (by omega), dif_neg hi0, zero_mul]
  rw [en]
  unfold convT
  rw [← ep]
  rw [add_comm, ← add_assoc, add_right_comm]
theorem v81 (i : Fin 2048) (j : Fin 2048) : val_main_v81 (F := Ideal) x0 x1 x2 x3 x4 (ix2 i j) = dhh (args x0 x1 x2 x3 x4) j i := by
  have h1 := v11 x0 x1 x2 x3 x4 i j
  have h2 := v79 x0 x1 x2 x3 x4 i j
  unfold val_main_v81
  generalize val_main_v11 (F := Ideal) x0 x1 = y1 at h1
  generalize val_main_v79 (F := Ideal) x0 x1 x2 x3 x4 = y2 at h2
  pointwise
  rw [h1, h2]
  exact mul_comm _ _
theorem v82 (i : Fin 2048) (j : Fin 2048) : val_main_v82 (F := Ideal) x0 x1 x2 x3 x4 (ix2 i j) = dgc (args x0 x1 x2 x3 x4) j i := by
  have h1 := v12 x0 x1 x2 x3 x4 i j
  have h2 := v79 x0 x1 x2 x3 x4 i j
  unfold val_main_v82
  generalize val_main_v12 (F := Ideal) x0 x1 = y1 at h1
  generalize val_main_v79 (F := Ideal) x0 x1 x2 x3 x4 = y2 at h2
  pointwise
  rw [h1, h2]
  rfl

/-- The projection's gradient: the three thirds side by side. -/
theorem v83 (i : Fin 2048) (j : Fin 6144) : val_main_v83 (F := Ideal) x0 x1 x2 x3 x4 (ix2 i j) = dz (args x0 x1 x2 x3 x4) j i := by
  have h1 := v46 x0 x1 x2 x3 x4 i
  have h2 := v82 x0 x1 x2 x3 x4 i
  have h3 := v81 x0 x1 x2 x3 x4 i
  unfold val_main_v83
  generalize val_main_v46 (F := Ideal) x0 x1 x2 x3 x4 = y1 at h1
  generalize val_main_v82 (F := Ideal) x0 x1 x2 x3 x4 = y2 at h2
  generalize val_main_v81 (F := Ideal) x0 x1 x2 x3 x4 = y3 at h3
  pointwise
  simp only [h1, h2, h3]
  unfold dz
  refine dite_congr rfl (fun _ => rfl) fun h0 => dite_congr (propext ⟨fun h => by omega, fun h => by omega⟩) (fun _ => rfl) fun _ => ?_
  exact congrArg (fun k => dhh (args x0 x1 x2 x3 x4) k i) (Fin.ext (Nat.sub_sub j.val 2048 2048))
theorem v88 (i : Fin 2048) (j : Fin 6144) : val_main_v88 (F := Ideal) x0 x1 x2 x3 x4 (ix2 i j) = dz (args x0 x1 x2 x3 x4) j i := by
  rw [← v83]
  unfold val_main_v88
  generalize val_main_v83 (F := Ideal) x0 x1 x2 x3 x4 = y
  pointwise

/-- The gradients of the taps. -/
theorem v75 (r : Fin 3) (j : Fin 2048) : val_main_v75 (F := Ideal) x0 x1 x3 x4 (ix2 r j) = dcw (args x0 x1 x2 x3 x4) r j := by
  have h1 := fun i => v32 x0 x1 x2 x3 x4 i j
  have h2 := fun i => v25 x0 x1 x2 x3 x4 i j
  have h3 := fun i => v19 x0 x1 x2 x3 x4 i j
  have h4 := fun i => v45 x0 x1 x2 x3 x4 i j
  unfold val_main_v75 val_main_v74 val_main_v64 val_main_v54 val_main_v63 val_main_v53 val_main_v62 val_main_v73 val_main_v52 val_main_v61 val_main_v72 val_main_v49 val_main_v58 val_main_v69 val_main_v48 val_main_v57 val_main_v68 val_main_v47 val_main_v56 val_main_v67
  unfold val_main_cst_3 val_main_cst_4 val_main_cst_5 val_main_cst_7 val_main_cst_8 val_main_cst_9 val_main_cst_11 val_main_cst_12 val_main_cst_13
  generalize val_main_v32 (F := Ideal) x0 x1 = y1 at h1
  generalize val_main_v25 (F := Ideal) x0 x1 = y2 at h2
  generalize val_main_v19 (F := Ideal) x0 x1 = y3 at h3
  generalize val_main_v45 (F := Ideal) x0 x1 x3 x4 = y4 at h4
  pointwise
  simp only [h1, h2, h3, h4, Fin.sum_univ_one]
  unfold dcw
  fin_cases r
  · rw [dif_neg (by decide), dif_neg (by decide), dif_pos (by decide), zero_add, zero_add]
    exact (sum_eq fun i => mul_comm _ _).trans (taps_0 _ _).symm
  · rw [dif_neg (by decide), dif_pos (by decide), dif_neg (by decide), zero_add, add_zero]
    exact (sum_eq fun i => mul_comm _ _).trans (taps_1 _ _).symm
  · rw [dif_pos (by decide), dif_neg (by decide), dif_neg (by decide), add_zero, add_zero]
    exact (sum_eq fun i => mul_comm _ _).trans (taps_2 _ _).symm

/-- The output projection's gradient. -/
theorem v91 (j k : Fin 2048) : val_main_v91 (F := Ideal) x0 x1 x2 x4 (ix3 (0 : Fin 1) j k) = dwo (args x0 x1 x2 x3 x4) j k := by
  have h1 := fun i => v39 x0 x1 x2 x3 x4 i j
  unfold val_main_v91 val_main_v90 val_main_v89 val_main_v43 val_main_v42 val_main_v41
  generalize val_main_v39 (F := Ideal) x0 x1 x2 = y at h1
  pointwise
  exact sum_eq fun q => (mul_comm _ _).trans (by rw [h1]; rfl)

/-- The input projection's weight's gradient. -/
theorem v94 (n : Fin 4) (k : Fin 2048) (s : Fin 1536) : val_main_v94 (F := Ideal) x0 x1 x2 x3 x4 (ix3 n k s) = dwi (args x0 x1 x2 x3 x4) n k s := by
  have h1 := fun i => v83 x0 x1 x2 x3 x4 i ⟨n.val * 1536 + s.val, by omega⟩
  unfold val_main_v94 val_main_v93 val_main_v92 val_main_v86 val_main_v85 val_main_v0
  generalize val_main_v83 (F := Ideal) x0 x1 x2 x3 x4 = y at h1
  pointwise
  exact sum_eq fun q => (mul_comm _ _).trans (by rw [h1]; rfl)

end Cert.ScRefIdeal.Reference

end
-- ==== Proof.ScClaim.lean ====
/-
  The certificate of the short-convolution mixer's backward chain: the reference's frame, and the value claim, which sets
  the chain's four results beside the reference's through the specification both compute.
-/
module

public import proofs.«01_k».proof.Proof.ScKernel
public import proofs.«01_k».proof.Proof.ScReference
public import proofs.«01_k».proof.Proof.Gen.ScRefIdeal.Run
public import proofs.«01_k».proof.Defs

@[expose] public section

set_option maxRecDepth 16384

noncomputable section

namespace Cert.Sc

open Idealize.ShloMosaic Idealize.ShloMosaic.TcCoe Idealize.SL.Sem Idealize.ShloMosaic.StableHlo

/-- The reference runs from any state, leaves its arguments as they were and its semaphores at zero. -/
theorem reference_frame : Cert.quiescent_ScRefIdeal := fun m ρ _ =>
  (θ_run Cert.ScRefIdeal.defs _ _).mono (fun r h => ⟨fun c => (h c).2.2.2.2, sem_eq_zero_of_no_sems (by decide) r.2⟩)
    (Cert.ScRefIdeal.Value.run (F := Ideal) m ρ)

/-- The chain's four results are the reference's, whatever the arguments. -/
theorem value : Cert.algebraic_ScBwdIdeal_ScRefIdeal := by
  intro m g m' g' _ hargs
  refine ⟨fun c => Cert.ScBwdIdeal.Gen.W7 m g c Cert.ScBwdIdeal.main_v5, fun c => Cert.ScBwdIdeal.Gen.W7 m g c Cert.ScBwdIdeal.main_v4_3,
    fun c => Cert.ScBwdIdeal.Gen.W7 m g c Cert.ScBwdIdeal.main_v3, fun c => Cert.ScBwdIdeal.Gen.W7 m g c Cert.ScBwdIdeal.main_v6,
    (θ_run Cert.ScBwdIdeal.defs _ _).mono (fun r h c =>
      ⟨(h c).1.1, (h c).1.2.1, (h c).1.2.2.1, (h c).1.2.2.2, (h c).2⟩) (Cert.ScBwdIdeal.Results.run m g), ?_⟩
  refine (θ_run _ _ _).mono (fun r h c => ?_) (Cert.ScRefIdeal.Value.run (F := Ideal) m' g')
  obtain ⟨h0, h1, h2, h3, ha⟩ := h c
  obtain ⟨e0, e1, e2, e3, e4, e5⟩ := hargs c
  clear hargs
  refine ⟨h0.trans ?_, h1.trans ?_, h2.trans ?_, h3.trans ?_, ha⟩
  all_goals clear h0 h1 h2 h3 ha h
  · rw [Cert.ScRefIdeal.Read.val_main_v88_eq, e0, e1, e2, e3, e4]
    funext i
    rw [eq_ix2 i]
    exact (Cert.ScRefIdeal.Reference.v88 _ _ _ _ _ _ _).trans (Cert.ScBwdIdeal.Kernel.res0 m g c _ _).symm
  · rw [Cert.ScRefIdeal.Read.val_main_v75_eq, e0, e1, e3, e4]
    funext i
    rw [eq_ix2 i]
    exact (Cert.ScRefIdeal.Reference.v75 _ _ _ _ _ _ _).trans (Cert.ScBwdIdeal.Kernel.res1 m g c _ _).symm
  · rw [Cert.ScRefIdeal.Read.val_main_v91_eq, e0, e1, e2, e4]
    funext i
    obtain ⟨j, k, rfl⟩ : ∃ (j : Fin 2048) (k : Fin 2048), i = ix3 (0 : Fin 1) j k :=
      ⟨i 1, i 2, by rw [eq_ix3 i]; exact congrArg (ix3 · _ _) (Subsingleton.elim _ _)⟩
    exact (Cert.ScRefIdeal.Reference.v91 _ _ _ _ _ _ _).trans (Cert.ScBwdIdeal.Kernel.res2 m g c _ _).symm
  · rw [Cert.ScRefIdeal.Read.val_main_v94_eq, e0, e1, e2, e3, e4]
    funext i
    rw [eq_ix3 i]
    exact (Cert.ScRefIdeal.Reference.v94 _ _ _ _ _ _ _ _).trans (Cert.ScBwdIdeal.Kernel.res3 m g c _ _ _).symm

end Cert.Sc

end
-- ==== Proof.DaKernel.lean ====
/-
  What the kernel of a mixer's input gradient leaves in its result over the extended reals, for all arguments: the sum over
  the input projection's columns, a shard at a time, of the gradient of the projection's result times the weight.
-/
module

public import proofs.«01_k».proof.Proof.Gen.DaIdeal.Value
public import proofs.«01_k».proof.Proof.Sums
public import Idealize.ShloMosaic.Lib.Pointwise

@[expose] public section

set_option maxRecDepth 16384

noncomputable section

namespace Cert.DaIdeal.Kernel

open Idealize.ShloMosaic Idealize.ShloMosaic.TcCoe Idealize.SL.Sem
open Cert.DaIdeal Cert.DaIdeal.Gen Cert.DaIdeal.Value Cert.Sums

/-! ## The three cases of a point -/

section cases
variable {F : FTy → Type} [FloatOps F]

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1024x1536 .bf16) (harg3 : arg3.IsWhole)
  (arg4 : Memref sig .tc .vmem S1x1024x1536 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec F S1024x1536 .bf16) (x1 : Vec F S1x1024x1536 .bf16) (xs0 : Vec F S1024x1024 .f32)

/-- The accumulator after the first shard. -/
theorem sout_A_eq (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.canon_unit_zero (S := S1024x1024) hz, View.readAt_eq_ld, harg3.read_unread, harg4.read_unread, harg6.read_unread,
    View.ld_unit_zero (S := S1024x1536) hz, View.ld_unit_zero (S := S1x1024x1536) hz3, View.ld_unit_zero (S := S1024x1024) hz]

/-- The accumulator after an inner shard. -/
theorem sout_B_eq (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  simp only [View.canon_unit_zero (S := S1024x1024) hz, View.readAt_eq_ld, harg3.read_unread, harg4.read_unread, harg6.read_unread,
    View.ld_unit_zero (S := S1024x1536) hz, View.ld_unit_zero (S := S1x1024x1536) hz3, View.ld_unit_zero (S := S1024x1024) hz]

/-- The result's block after the last shard. -/
theorem out_C_eq (hc0 : ¬cond0_0 i) (hc1 : cond0_1 i) (hc2 : cond0_2 i) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  simp only [View.canon_unit_zero (S := S1024x1024) hz, View.canon_cons_unit_zero (S := S1024x1024) hz, View.readCov_unit_zero (S := S1024x1024) _ hz,
    View.readAt_eq_ld, harg3.read_unread, harg4.read_unread, harg6.read_unread,
    View.ld_unit_zero (S := S1024x1536) hz, View.ld_unit_zero (S := S1x1024x1536) hz3, View.ld_unit_zero (S := S1024x1024) hz]

end cases

/-! ## The payloads at an index -/

theorem pay2_apply (x : Vec Ideal S1024x1536 .bf16) (w : Vec Ideal S1x1024x1536 .bf16) (r k : Fin 1024) :
    k0_pay2 x w (ix2 r k) = ∑ q : Fin 1536, x (ix2 r q) * w (ix3 (0 : Fin 1) k q) := by
  unfold k0_pay2 k0_pay1
  pointwise

theorem pay3_apply (x : Vec Ideal S1024x1536 .bf16) (w : Vec Ideal S1x1024x1536 .bf16) (a : Vec Ideal S1024x1024 .f32) (r k : Fin 1024) :
    k0_pay3 x w a (ix2 r k) = a (ix2 r k) + ∑ q : Fin 1536, x (ix2 r q) * w (ix3 (0 : Fin 1) k q) := by
  unfold k0_pay3 k0_pay1
  pointwise

/-! ## The blocks -/

/-- The block index of each window at a grid point. -/
theorem idx0 : ∀ t : Fin grid0.N, win0_0.index t 0 = t.val / 8 ∧ win0_0.index t 1 = t.val % 4 := by decide +kernel
theorem idx1 : ∀ t : Fin grid0.N,
    win0_1.index t 0 = t.val % 4 ∧ win0_1.index t 1 = t.val / 4 % 2 ∧ win0_1.index t 2 = 0 := by decide +kernel

variable (m : (ℓ : Loc nD τ sig) → Buf (Elt Ideal) ℓ) (c : Dev nD)

/-- The arguments the kernel is run on: the gradient of the projection's result, and the weight. -/
abbrev argZ : Vec Ideal S2048x6144 .bf16 := m ((c : Thread nD τ).loc main_arg0)
abbrev argW : Vec Ideal S4x2048x1536 .bf16 := m ((c : Thread nD τ).loc main_arg1)

/-- Their blocks at a grid point. -/
abbrev bZ (t : Fin cfg0.N) : Vec Ideal S1024x1536 .bf16 := iblk m c 0 t
abbrev bW (t : Fin cfg0.N) : Vec Ideal S1x1024x1536 .bf16 := iblk m c 1 t

/-- The block of the gradient. -/
theorem blk_z (t : Fin cfg0.N) (r : Fin 1024) (q : Fin 1536) (i : Fin 2048) (j : Fin 6144)
    (hi : i.val = t.val / 8 * 1024 + r.val) (hj : j.val = t.val % 4 * 1536 + q.val) :
    bZ m c t (ix2 r q) = argZ m c (ix2 i j) := by
  unfold bZ iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 1024 + 1 * r.val = i.val; rw [h.1]; omega
  | ⟨1, _⟩ => show win0_0.index t 1 * 1536 + 1 * q.val = j.val; rw [h.2]; omega

/-- The block of the weight. -/
theorem blk_w (t : Fin cfg0.N) (k : Fin 1024) (q : Fin 1536) (s : Fin 4) (j : Fin 2048)
    (hs : s.val = t.val % 4) (hj : j.val = t.val / 4 % 2 * 1024 + k.val) :
    bW m c t (ix3 (0 : Fin 1) k q) = argW m c (ix3 s j q) := by
  unfold bW iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = s.val; rw [h.1]; omega
  | ⟨1, _⟩ => show win0_1.index t 1 * 1024 + 1 * k.val = j.val; rw [h.2.1]; omega
  | ⟨2, _⟩ => show win0_1.index t 2 * 1536 + 1 * q.val = q.val; rw [h.2.2]; omega

/-! ## The result -/

/-- One shard's part of the gradient. -/
def part (i j : Fin 2048) (s : Fin 4) : EReal :=
  ∑ q : Fin 1536, argZ m c (ix2 i ⟨s.val * 1536 + q.val, by have := s.isLt; have := q.isLt; omega⟩) * argW m c (ix3 s j q)

/-- A point's product of blocks is its shard's part. -/
theorem part_eq (t : Fin cfg0.N) (r k : Fin 1024) (i j : Fin 2048) (s : Fin 4) (hs : s.val = t.val % 4)
    (hi : i.val = t.val / 8 * 1024 + r.val) (hj : j.val = t.val / 4 % 2 * 1024 + k.val) :
    ∑ q : Fin 1536, bZ m c t (ix2 r q) * bW m c t (ix3 (0 : Fin 1) k q) = part m c i j s := by
  refine sum_eq fun q => ?_
  have hq := q.isLt; have := s.isLt
  rw [blk_z m c t r q i ⟨s.val * 1536 + q.val, by omega⟩ hi (by show s.val * 1536 + q.val = _; omega), blk_w m c t k q s j hs hj]

/-- The accumulator after the first shard, the first two and the first three. -/
theorem acc0 (t : Fin cfg0.N) (r k : Fin 1024) (i j : Fin 2048) (ht : t.val % 4 = 0)
    (hi : i.val = t.val / 8 * 1024 + r.val) (hj : j.val = t.val / 4 % 2 * 1024 + k.val) :
    (outsAt0 m c t.val t.isLt).2 (ix2 r k) = part m c i j 0 := by
  rw [outsAt0_A m c t ht (by omega) (by omega)]
  dsimp only
  rw [sout_A_eq, pay2_apply]
  exact part_eq m c t r k i j 0 ht.symm hi hj

theorem acc1 (t : Fin cfg0.N) (r k : Fin 1024) (i j : Fin 2048) (ht : t.val % 4 = 1)
    (hi : i.val = t.val / 8 * 1024 + r.val) (hj : j.val = t.val / 4 % 2 * 1024 + k.val) :
    (outsAt0 m c t.val t.isLt).2 (ix2 r k) = part m c i j 0 + part m c i j 1 := by
  rw [outsAt0_B m c t (by omega) (by omega) (by omega)]
  dsimp only
  rw [sout_B_eq, pay3_apply, acc0 m c ⟨t.val - 1, Nat.lt_of_le_of_lt (Nat.sub_le _ _) t.isLt⟩ r k i j (by show (t.val - 1) % 4 = 0; omega) (by show _ = (t.val - 1) / 8 * _ + _; omega)
    (by show _ = (t.val - 1) / 4 % 2 * _ + _; omega)]
  exact congrArg (part m c i j 0 + ·) (part_eq m c t r k i j 1 ht.symm hi hj)

theorem acc2 (t : Fin cfg0.N) (r k : Fin 1024) (i j : Fin 2048) (ht : t.val % 4 = 2)
    (hi : i.val = t.val / 8 * 1024 + r.val) (hj : j.val = t.val / 4 % 2 * 1024 + k.val) :
    (outsAt0 m c t.val t.isLt).2 (ix2 r k) = part m c i j 0 + part m c i j 1 + part m c i j 2 := by
  rw [outsAt0_B m c t (by omega) (by omega) (by omega)]
  dsimp only
  rw [sout_B_eq, pay3_apply, acc1 m c ⟨t.val - 1, Nat.lt_of_le_of_lt (Nat.sub_le _ _) t.isLt⟩ r k i j (by show (t.val - 1) % 4 = 1; omega) (by show _ = (t.val - 1) / 8 * _ + _; omega)
    (by show _ = (t.val - 1) / 4 % 2 * _ + _; omega)]
  exact congrArg (part m c i j 0 + part m c i j 1 + ·) (part_eq m c t r k i j 2 ht.symm hi hj)

/-- The block written back after the fourth shard. -/
theorem out3 (t : Fin cfg0.N) (r k : Fin 1024) (i j : Fin 2048) (ht : t.val % 4 = 3)
    (hi : i.val = t.val / 8 * 1024 + r.val) (hj : j.val = t.val / 4 % 2 * 1024 + k.val) :
    (outsAt0 m c t.val t.isLt).1 (ix2 r k) = part m c i j 0 + part m c i j 1 + part m c i j 2 + part m c i j 3 := by
  rw [outsAt0_C m c t (by omega) (by omega) ht]
  dsimp only
  rw [out_C_eq, pay3_apply, acc2 m c ⟨t.val - 1, Nat.lt_of_le_of_lt (Nat.sub_le _ _) t.isLt⟩ r k i j (by show (t.val - 1) % 4 = 2; omega) (by show _ = (t.val - 1) / 8 * _ + _; omega)
    (by show _ = (t.val - 1) / 4 % 2 * _ + _; omega)]
  exact congrArg (part m c i j 0 + part m c i j 1 + part m c i j 2 + ·) (part_eq m c t r k i j 3 ht.symm hi hj)

/-- The input's gradient, index by index. -/
theorem G2_apply (i j : Fin 2048) : G2 m c (ix2 i j) = part m c i j 0 + part m c i j 1 + part m c i j 2 + part m c i j 3 := by
  have hi := i.isLt; have hj := j.isLt
  have hp : pt2Of (ix2 i j) = 8 * (i.val / 1024) + 4 * (j.val / 1024) + 3 := by
    show 4 * (2 * (i.val / 1024 - 0) + 1 * (j.val / 1024 - 0)) + 3 = _; omega
  have hN : pt2Of (ix2 i j) < cfg0.N := by rw [hp]; exact lt_of_lt_of_eq (by omega : _ < 16) N_0.symm
  unfold G2
  rw [dif_pos hN, ← outsAt0_sweep m c _ hN]
  have hl : loc2Of (ix2 i j) = ix2 (⟨i.val % 1024, by omega⟩ : Fin 1024) (⟨j.val % 1024, by omega⟩ : Fin 1024) := by
    funext a; match a with | ⟨0, _⟩ => rfl | ⟨1, _⟩ => rfl
  rw [hl]
  exact out3 m c ⟨_, hN⟩ _ _ i j (by show pt2Of (ix2 i j) % 4 = 3; rw [hp]; omega)
    (by show i.val = pt2Of (ix2 i j) / 8 * 1024 + i.val % 1024; rw [hp]; omega)
    (by show j.val = pt2Of (ix2 i j) / 4 % 2 * 1024 + j.val % 1024; rw [hp]; omega)

end Cert.DaIdeal.Kernel

end
-- ==== Proof.DaClaim.lean ====
/-
  The certificate of a mixer's input gradient: the value claim sets the kernel's result beside the reference's,
  index by index.
-/
module

public import proofs.«01_k».proof.Proof.DaKernel
public import proofs.«01_k».proof.Proof.Gen.DaRefIdeal.Run
public import proofs.«01_k».proof.Proof.Gen.DaRefIdeal.Read
public import proofs.«01_k».proof.Defs

@[expose] public section

set_option maxRecDepth 16384

noncomputable section

namespace Cert.Da

open Idealize.ShloMosaic Idealize.ShloMosaic.TcCoe Idealize.SL.Sem Idealize.ShloMosaic.StableHlo Cert.Sums

/-- The reference runs from any state, leaves its arguments as they were and its semaphores at zero. -/
theorem reference_frame : Cert.quiescent_DaRefIdeal := fun m ρ _ =>
  (θ_run Cert.DaRefIdeal.defs _ _).mono (fun r h => ⟨fun c => (h c).2, sem_eq_zero_of_no_sems (by decide) r.2⟩)
    (Cert.DaRefIdeal.Value.run (F := Ideal) m ρ)

open Cert.DaRefIdeal Cert.DaRefIdeal.Read in
/-- The reference's result at an index: the sum over the input projection's columns of the gradient's entry times the weight's. -/
theorem reference_apply (z : Vec Ideal S2048x6144 .bf16) (w : Vec Ideal S4x2048x1536 .bf16) (i j : Fin 2048) :
    val_main_v8 (F := Ideal) z w (ix2 i j)
      = ∑ q : Fin 6144, z (ix2 i q) * w (ix3 (⟨q.val / 1536, by omega⟩ : Fin 4) j (⟨q.val % 1536, by omega⟩ : Fin 1536)) := by
  unfold val_main_v8 val_main_v3 val_main_v2 val_main_v1 val_main_v0
  pointwise

/-- The kernel's input gradient is the reference's. -/
theorem value : Cert.algebraic_DaIdeal_DaRefIdeal := by
  intro m g m' g' _ hargs
  refine ⟨fun c => Cert.DaIdeal.Value.G2 m c, Cert.DaIdeal.Value.run m g, ?_⟩
  refine (θ_run _ _ _).mono (fun r h c => ?_) (Cert.DaRefIdeal.Value.run (F := Ideal) m' g')
  obtain ⟨h0, ha⟩ := h c
  obtain ⟨e0, e1⟩ := hargs c
  refine ⟨h0.trans ?_, ha⟩
  rw [Cert.DaRefIdeal.Read.val_main_v8_eq, e0, e1]
  funext i
  rw [eq_ix2 i]
  refine (reference_apply _ _ _ _).trans (Eq.trans ?_ (Cert.DaIdeal.Kernel.G2_apply m c _ _).symm)
  rw [sum_four (b := 1536) rfl]
  have e (s : Fin 4) (q : Fin 1536) : (⟨(s.val * 1536 + q.val) / 1536, by omega⟩ : Fin 4) = s ∧ (⟨(s.val * 1536 + q.val) % 1536, by omega⟩ : Fin 1536) = q :=
    ⟨Fin.ext (by show (s.val * 1536 + q.val) / 1536 = s.val; omega), Fin.ext (by show (s.val * 1536 + q.val) % 1536 = q.val; omega)⟩
  have p (s : Fin 4) : ∑ q : Fin 1536, Cert.DaIdeal.Kernel.argZ m c (ix2 (i 0) ⟨s.val * 1536 + q.val, by omega⟩)
          * Cert.DaIdeal.Kernel.argW m c (ix3 (⟨(s.val * 1536 + q.val) / 1536, by omega⟩ : Fin 4) (i 1) (⟨(s.val * 1536 + q.val) % 1536, by omega⟩ : Fin 1536))
      = Cert.DaIdeal.Kernel.part m c (i 0) (i 1) s :=
    sum_eq fun q => by rw [(e s q).1, (e s q).2]
  exact congrArg₂ _ (congrArg₂ _ (congrArg₂ _ (p 0) (p 1)) (p 2)) (p 3)

end Cert.Da

end
-- ==== Proof.MixProducts.lean ====
/-
  A mixer's products at the buffers a launch is entered with: what the input projection, the output projection on the
  residual stream, the mixing's gradient and the two weight gradients leave in their results, index by index.
-/
module

public import proofs.«01_k».proof.Proof.Gen.MixIdeal.Frame
public import proofs.«01_k».proof.Proof.Sums
public import Idealize.ShloMosaic.Lib.Pointwise

@[expose] public section

set_option maxRecDepth 16384

noncomputable section

namespace Cert.MixIdeal.Products

open Idealize.ShloMosaic Idealize.ShloMosaic.TcCoe Idealize.SL.Sem
open Cert.MixIdeal Cert.MixIdeal.Gen Cert.Sums

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)

/-! ## The input projection -/

theorem z_out (x : Vec Ideal S1024x2048 .bf16) (w : Vec Ideal S1x2048x1536 .bf16) (r : Fin 1024) (k : Fin 1536) :
    out0_2 x w (ix2 r k) = ∑ q : Fin 2048, x (ix2 r q) * w (ix3 (0 : Fin 1) q k) := by
  unfold out0_2
  rw [View.canon_unit_zero (S := S1024x1536) hz, View.ld_unit_zero (S := S1024x2048) hz, View.ld_unit_zero (S := S1x2048x1536) hz3]
  unfold k0_pay1
  pointwise

/-- The block index of each window at a grid point. -/
theorem z_i0 : ∀ t : Fin grid0.N, win0_0.index t 0 = t.val / 4 ∧ win0_0.index t 1 = 0 := by decide +kernel
theorem z_i1 : ∀ t : Fin grid0.N, win0_1.index t 0 = t.val % 4 ∧ win0_1.index t 1 = 0 ∧ win0_1.index t 2 = 0 := by decide +kernel
theorem z_i2 : ∀ t : Fin grid0.N, win0_2.index t 0 = t.val / 4 ∧ win0_2.index t 1 = t.val % 4 := by decide +kernel
theorem z_inj : ∀ t t' : Fin grid0.N, win0_2.index t = win0_2.index t' → t = t' := by decide +kernel
theorem z_flush : ∀ t : Fin grid0.N, win0_2.flush t = true := by decide +kernel

/-- The arrays the launch reads, and their blocks at a grid point. -/
abbrev zX : Vec Ideal S2048x2048 .bf16 := V c main_arg0
abbrev z_bX (t : Fin cfg0.N) : Vec Ideal S1024x2048 .bf16 := iblk0 V c 0 t
abbrev zW : Vec Ideal S4x2048x1536 .bf16 := V c main_arg1
abbrev z_bW (t : Fin cfg0.N) : Vec Ideal S1x2048x1536 .bf16 := iblk0 V c 1 t

theorem z_blkX (t : Fin cfg0.N) (r : Fin 1024) (q : Fin 2048) (i : Fin 2048) (hi : i.val = t.val / 4 * 1024 + r.val) :
    z_bX V c t (ix2 r q) = zX V c (ix2 i q) := by
  unfold z_bX iblk0
  rw [View.read_apply]
  refine congrArg (V c main_arg0) (funext fun a => Fin.ext ?_)
  have h := z_i0 t
  match a with
  | ⟨0, _⟩ => show win0_0.index t 0 * 1024 + 1 * r.val = i.val; rw [h.1]; omega
  | ⟨1, _⟩ => show win0_0.index t 1 * 2048 + 1 * q.val = q.val; rw [h.2]; omega

theorem z_blkW (t : Fin cfg0.N) (q : Fin 2048) (k : Fin 1536) (n : Fin 4) (hn : n.val = t.val % 4) :
    z_bW V c t (ix3 (0 : Fin 1) q k) = zW V c (ix3 n q k) := by
  unfold z_bW iblk0
  rw [View.read_apply]
  refine congrArg (V c main_arg1) (funext fun a => Fin.ext ?_)
  have h := z_i1 t
  match a with
  | ⟨0, _⟩ => show win0_1.index t 0 * 1 + 1 * 0 = n.val; rw [h.1]; omega
  | ⟨1, _⟩ => show win0_1.index t 1 * 2048 + 1 * q.val = q.val; rw [h.2.1]; omega
  | ⟨2, _⟩ => show win0_1.index t 2 * 1536 + 1 * k.val = k.val; rw [h.2.2]; omega

/-- An entry of the result is the entry of the block its point writes back. -/
theorem z_entry (t : Fin cfg0.N) (r : Fin 1024) (s : Fin 1536) (i : Fin 2048) (j : Fin 6144)
    (hi : i.val = t.val / 4 * 1024 + r.val) (hj : j.val = t.val % 4 * 1536 + s.val) :
    ((dat0 V c).arrAt 2 cfg0.N : Vec Ideal S2048x6144 .bf16) (ix2 i j) = out0_2 (z_bX V c t) (z_bW V c t) (ix2 r s) := by
  have hb := congrFun ((dat0 V c).read_blk_arrAt_eq_flushed 2
    (fun t t' _ _ hne => (cfg0.win 2).disjoint_blk fun h => hne (z_inj t t' h)) cfg0.N t t.isLt (z_flush t)) (ix2 r s)
  have hf : (dat0 V c).flushed 2 t = (cfg0.win 2).cut (grid0.coords t) (out0_2 (z_bX V c t) (z_bW V c t)) := by
    show (cfg0.win 2).cut (grid0.coords t) ((dat0 V c).after 2 t) = _
    rw [after0_2]
  rw [hf, View.read_apply] at hb
  refine Eq.trans ?_ hb
  refine congrArg ((dat0 V c).arrAt 2 cfg0.N) (funext fun a => Fin.ext ?_)
  have h := z_i2 t
  match a with
  | ⟨0, _⟩ => show i.val = win0_2.index t 0 * 1024 + 1 * r.val; rw [h.1]; omega
  | ⟨1, _⟩ => show j.val = win0_2.index t 1 * 1536 + 1 * s.val; rw [h.2]; omega

/-- The input projection, index by index: its column `j` is column `j % 1536` of the weight's shard `j / 1536`. -/
theorem z_apply (i : Fin 2048) (j : Fin 6144) :
    ((dat0 V c).arrAt 2 cfg0.N : Vec Ideal S2048x6144 .bf16) (ix2 i j)
      = ∑ q : Fin 2048, zX V c (ix2 i q) * zW V c (ix3 (⟨j.val / 1536, by omega⟩ : Fin 4) q (⟨j.val % 1536, by omega⟩ : Fin 1536)) := by
  have hi := i.isLt
  have hj := j.isLt
  let t : Fin cfg0.N := ⟨i.val / 1024 * 4 + j.val / 1536, lt_of_lt_of_eq (by omega : _ < 8) (by decide +kernel : 8 = grid0.N)⟩
  have ht : t.val = i.val / 1024 * 4 + j.val / 1536 := rfl
  rw [z_entry V c t ⟨i.val % 1024, by omega⟩ ⟨j.val % 1536, by omega⟩ i j (by show i.val = _ + i.val % 1024; omega)
    (by show j.val = _ + j.val % 1536; omega), z_out]
  refine sum_eq fun q => ?_
  rw [z_blkX V c t _ q i (by show i.val = _ + i.val % 1024; omega),
    z_blkW V c t q _ ⟨j.val / 1536, by omega⟩ (by show j.val / 1536 = _; omega)]

/-! ## The output projection on the residual stream -/

theorem h_out (x : Vec Ideal S1024x2048 .bf16) (w : Vec Ideal S1x2048x1024 .bf16) (y : Vec Ideal S1024x1024 .f32) (r : Fin 1024) (k : Fin 1024) :
    out1_3 x w y (ix2 r k) = ∑ q : Fin 2048, x (ix2 r q) * w (ix3 (0 : Fin 1) q k) + y (ix2 r k) := by
  unfold out1_3
  rw [View.canon_unit_zero (S := S1024x1024) hz, View.ld_unit_zero (S := S1024x2048) hz, View.ld_unit_zero (S := S1x2048x1024) hz3,
    View.ld_unit_zero (S := S1024x1024) hz]
  unfold k1_pay1
  pointwise

theorem h_i0 : ∀ t : Fin grid1.N, win1_0.index t 0 = t.val / 2 ∧ win1_0.index t 1 = 0 := by decide +kernel
theorem h_i1 : ∀ t : Fin grid1.N, win1_1.index t 0 = 0 ∧ win1_1.index t 1 = 0 ∧ win1_1.index t 2 = t.val % 2 := by decide +kernel
theorem h_i2 : ∀ t : Fin grid1.N, win1_2.index t 0 = t.val / 2 ∧ win1_2.index t 1 = t.val % 2 := by decide +kernel
theorem h_i3 : ∀ t : Fin grid1.N, win1_3.index t 0 = t.val / 2 ∧ win1_3.index t 1 = t.val % 2 := by decide +kernel
theorem h_inj : ∀ t t' : Fin grid1.N, win1_3.index t = win1_3.index t' → t = t' := by decide +kernel
theorem h_flush : ∀ t : Fin grid1.N, win1_3.flush t = true := by decide +kernel

/-- The mixing's result, the output projection and the residual stream, and their blocks at a grid point. -/
abbrev hO : Vec Ideal S2048x2048 .bf16 := V c main_arg2
abbrev h_bO (t : Fin cfg1.N) : Vec Ideal S1024x2048 .bf16 := iblk1 V c 0 t
abbrev hW : Vec Ideal S1x2048x2048 .bf16 := V c main_arg3
abbrev h_bW (t : Fin cfg1.N) : Vec Ideal S1x2048x1024 .bf16 := iblk1 V c 1 t
abbrev hH : Vec Ideal S2048x2048 .f32 := V c main_arg4
abbrev h_bH (t : Fin cfg1.N) : Vec Ideal S1024x1024 .f32 := iblk1 V c 2 t

theorem h_blkO (t : Fin cfg1.N) (r : Fin 1024) (q : Fin 2048) (i : Fin 2048) (hi : i.val = t.val / 2 * 1024 + r.val) :
    h_bO V c t (ix2 r q) = hO V c (ix2 i q) := by
  unfold h_bO iblk1
  rw [View.read_apply]
  refine congrArg (V c main_arg2) (funext fun a => Fin.ext ?_)
  have h := h_i0 t
  match a with
  | ⟨0, _⟩ => show win1_0.index t 0 * 1024 + 1 * r.val = i.val; rw [h.1]; omega
  | ⟨1, _⟩ => show win1_0.index t 1 * 2048 + 1 * q.val = q.val; rw [h.2]; omega

theorem h_blkW (t : Fin cfg1.N) (q : Fin 2048) (k : Fin 1024) (j : Fin 2048) (hj : j.val = t.val % 2 * 1024 + k.val) :
    h_bW V c t (ix3 (0 : Fin 1) q k) = hW V c (ix3 (0 : Fin 1) q j) := by
  unfold h_bW iblk1
  rw [View.read_apply]
  refine congrArg (V c main_arg3) (funext fun a => Fin.ext ?_)
  have h := h_i1 t
  match a with
  | ⟨0, _⟩ => show win1_1.index t 0 * 1 + 1 * 0 = 0; rw [h.1]
  | ⟨1, _⟩ => show win1_1.index t 1 * 2048 + 1 * q.val = q.val; rw [h.2.1]; omega
  | ⟨2, _⟩ => show win1_1.index t 2 * 1024 + 1 * k.val = j.val; rw [h.2.2]; omega

theorem h_blkH (t : Fin cfg1.N) (r k : Fin 1024) (i j : Fin 2048) (hi : i.val = t.val / 2 * 1024 + r.val)
    (hj : j.val = t.val % 2 * 1024 + k.val) : h_bH V c t (ix2 r k) = hH V c (ix2 i j) := by
  unfold h_bH iblk1
  rw [View.read_apply]
  refine congrArg (V c main_arg4) (funext fun a => Fin.ext ?_)
  have h := h_i2 t
  match a with
  | ⟨0, _⟩ => show win1_2.index t 0 * 1024 + 1 * r.val = i.val; rw [h.1]; omega
  | ⟨1, _⟩ => show win1_2.index t 1 * 1024 + 1 * k.val = j.val; rw [h.2]; omega

theorem h_entry (t : Fin cfg1.N) (r s : Fin 1024) (i j : Fin 2048)
    (hi : i.val = t.val / 2 * 1024 + r.val) (hj : j.val = t.val % 2 * 1024 + s.val) :
    ((dat1 V c).arrAt 3 cfg1.N : Vec Ideal S2048x2048 .f32) (ix2 i j) = out1_3 (h_bO V c t) (h_bW V c t) (h_bH V c t) (ix2 r s) := by
  have hb := congrFun ((dat1 V c).read_blk_arrAt_eq_flushed 3
    (fun t t' _ _ hne => (cfg1.win 3).disjoint_blk fun h => hne (h_inj t t' h)) cfg1.N t t.isLt (h_flush t)) (ix2 r s)
  have hf : (dat1 V c).flushed 3 t = (cfg1.win 3).cut (grid1.coords t) (out1_3 (h_bO V c t) (h_bW V c t) (h_bH V c t)) := by
    show (cfg1.win 3).cut (grid1.coords t) ((dat1 V c).after 3 t) = _
    rw [after1_3]
  rw [hf, View.read_apply] at hb
  refine Eq.trans ?_ hb
  refine congrArg ((dat1 V c).arrAt 3 cfg1.N) (funext fun a => Fin.ext ?_)
  have h := h_i3 t
  match a with
  | ⟨0, _⟩ => show i.val = win1_3.index t 0 * 1024 + 1 * r.val; rw [h.1]; omega
  | ⟨1, _⟩ => show j.val = win1_3.index t 1 * 1024 + 1 * s.val; rw [h.2]; omega

/-- The residual stream past the mixer, index by index. -/
theorem h_apply (i j : Fin 2048) :
    ((dat1 V c).arrAt 3 cfg1.N : Vec Ideal S2048x2048 .f32) (ix2 i j)
      = ∑ q : Fin 2048, hO V c (ix2 i q) * hW V c (ix3 (0 : Fin 1) q j) + hH V c (ix2 i j) := by
  have hi := i.isLt
  have hj := j.isLt
  let t : Fin cfg1.N := ⟨i.val / 1024 * 2 + j.val / 1024, lt_of_lt_of_eq (by omega : _ < 4) (by decide +kernel : 4 = grid1.N)⟩
  have ht : t.val = i.val / 1024 * 2 + j.val / 1024 := rfl
  have ei : i.val = t.val / 2 * 1024 + i.val % 1024 := by omega
  have ej : j.val = t.val % 2 * 1024 + j.val % 1024 := by omega
  rw [h_entry V c t ⟨i.val % 1024, by omega⟩ ⟨j.val % 1024, by omega⟩ i j ei ej, h_out, h_blkH V c t _ _ i j ei ej]
  refine congrArg (· + hH V c (ix2 i j)) (sum_eq fun q => ?_)
  rw [h_blkO V c t _ q i ei, h_blkW V c t q _ j ej]

/-! ## The mixing's gradient -/

theorem d_out (x : Vec Ideal S1024x2048 .bf16) (w : Vec Ideal S1x1024x2048 .bf16) (y : Vec Ideal S16x128 .bf16) (r : Fin 1024) (k : Fin 1024) :
    out2_3 x w y (ix2 r k) = ∑ q : Fin 2048, x (ix2 r q) * w (ix3 (0 : Fin 1) k q) := by
  unfold out2_3
  rw [View.canon_unit_zero (S := S1024x1024) hz, View.ld_unit_zero (S := S1024x2048) hz, View.ld_unit_zero (S := S1x1024x2048) hz3]
  unfold k2_pay1
  pointwise

theorem d_i0 : ∀ t : Fin grid2.N, win2_0.index t 0 = t.val / 2 ∧ win2_0.index t 1 = 0 := by decide +kernel
theorem d_i1 : ∀ t : Fin grid2.N, win2_1.index t 0 = 0 ∧ win2_1.index t 1 = t.val % 2 ∧ win2_1.index t 2 = 0 := by decide +kernel
theorem d_i3 : ∀ t : Fin grid2.N, win2_3.index t 0 = t.val / 2 ∧ win2_3.index t 1 = t.val % 2 := by decide +kernel
theorem d_inj : ∀ t t' : Fin grid2.N, win2_3.index t = win2_3.index t' → t = t' := by decide +kernel
theorem d_flush : ∀ t : Fin grid2.N, win2_3.flush t = true := by decide +kernel

/-- The output's gradient and the output projection, and their blocks at a grid point. -/
abbrev dD : Vec Ideal S2048x2048 .bf16 := V c main_arg5
abbrev d_bD (t : Fin cfg2.N) : Vec Ideal S1024x2048 .bf16 := iblk2 V c 0 t
abbrev dW : Vec Ideal S1x2048x2048 .bf16 := V c main_arg3
abbrev d_bW (t : Fin cfg2.N) : Vec Ideal S1x1024x2048 .bf16 := iblk2 V c 1 t
abbrev d_bT (t : Fin cfg2.N) : Vec Ideal S16x128 .bf16 := iblk2 V c 2 t

theorem d_blkD (t : Fin cfg2.N) (r : Fin 1024) (q : Fin 2048) (i : Fin 2048) (hi : i.val = t.val / 2 * 1024 + r.val) :
    d_bD V c t (ix2 r q) = dD V c (ix2 i q) := by
  unfold d_bD iblk2
  rw [View.read_apply]
  refine congrArg (V c main_arg5) (funext fun a => Fin.ext ?_)
  have h := d_i0 t
  match a with
  | ⟨0, _⟩ => show win2_0.index t 0 * 1024 + 1 * r.val = i.val; rw [h.1]; omega
  | ⟨1, _⟩ => show win2_0.index t 1 * 2048 + 1 * q.val = q.val; rw [h.2]; omega

theorem d_blkW (t : Fin cfg2.N) (k : Fin 1024) (q : Fin 2048) (j : Fin 2048) (hj : j.val = t.val % 2 * 1024 + k.val) :
    d_bW V c t (ix3 (0 : Fin 1) k q) = dW V c (ix3 (0 : Fin 1) j q) := by
  unfold d_bW iblk2
  rw [View.read_apply]
  refine congrArg (V c main_arg3) (funext fun a => Fin.ext ?_)
  have h := d_i1 t
  match a with
  | ⟨0, _⟩ => show win2_1.index t 0 * 1 + 1 * 0 = 0; rw [h.1]
  | ⟨1, _⟩ => show win2_1.index t 1 * 1024 + 1 * k.val = j.val; rw [h.2.1]; omega
  | ⟨2, _⟩ => show win2_1.index t 2 * 2048 + 1 * q.val = q.val; rw [h.2.2]; omega

theorem d_entry (t : Fin cfg2.N) (r : Fin 1024) (s : Fin 1024) (i : Fin 2048) (j : Fin 2048)
    (hi : i.val = t.val / 2 * 1024 + r.val) (hj : j.val = t.val % 2 * 1024 + s.val) :
    ((dat2 V c).arrAt 3 cfg2.N : Vec Ideal S2048x2048 .bf16) (ix2 i j) = out2_3 (d_bD V c t) (d_bW V c t) (d_bT V c t) (ix2 r s) := by
  have hb := congrFun ((dat2 V c).read_blk_arrAt_eq_flushed 3
    (fun t t' _ _ hne => (cfg2.win 3).disjoint_blk fun h => hne (d_inj t t' h)) cfg2.N t t.isLt (d_flush t)) (ix2 r s)
  have hf : (dat2 V c).flushed 3 t = (cfg2.win 3).cut (grid2.coords t) (out2_3 (d_bD V c t) (d_bW V c t) (d_bT V c t)) := by
    show (cfg2.win 3).cut (grid2.coords t) ((dat2 V c).after 3 t) = _
    rw [after2_3]
  rw [hf, View.read_apply] at hb
  refine Eq.trans ?_ hb
  refine congrArg ((dat2 V c).arrAt 3 cfg2.N) (funext fun a => Fin.ext ?_)
  have h := d_i3 t
  match a with
  | ⟨0, _⟩ => show i.val = win2_3.index t 0 * 1024 + 1 * r.val; rw [h.1]; omega
  | ⟨1, _⟩ => show j.val = win2_3.index t 1 * 1024 + 1 * s.val; rw [h.2]; omega

/-- The mixing's gradient, index by index. -/
theorem d_apply (i : Fin 2048) (j : Fin 2048) :
    ((dat2 V c).arrAt 3 cfg2.N : Vec Ideal S2048x2048 .bf16) (ix2 i j)
      = ∑ q : Fin 2048, dD V c (ix2 i q) * dW V c (ix3 (0 : Fin 1) j q) := by
  have hi := i.isLt
  have hj := j.isLt
  let t : Fin cfg2.N := ⟨i.val / 1024 * 2 + j.val / 1024, lt_of_lt_of_eq (by omega : _ < 4) (by decide +kernel : 4 = grid2.N)⟩
  have ht : t.val = i.val / 1024 * 2 + j.val / 1024 := rfl
  rw [d_entry V c t ⟨i.val % 1024, by omega⟩ ⟨j.val % 1024, by omega⟩ i j (by show i.val = _ + i.val % 1024; omega)
    (by show j.val = _ + j.val % 1024; omega), d_out]
  refine sum_eq fun q => ?_
  rw [d_blkD V c t _ q i (by show i.val = _ + i.val % 1024; omega), d_blkW V c t _ q j (by show j.val = _ + j.val % 1024; omega)]

/-! ## The output projection's weight gradient -/

theorem dwo_out (x : Vec Ideal S2048x1024 .bf16) (y : Vec Ideal S2048x2048 .bf16) (r : Fin 1024) (k : Fin 2048) :
    out3_2 x y (ix3 (0 : Fin 1) r k) = ∑ q : Fin 2048, x (ix2 q r) * y (ix2 q k) := by
  unfold out3_2
  rw [View.canon_unit_zero (S := S1x1024x2048) hz3, View.ld_unit_zero (S := S2048x1024) hz, View.ld_unit_zero (S := S2048x2048) hz]
  unfold k3_pay1
  pointwise

theorem dwo_i0 : ∀ t : Fin grid3.N, win3_0.index t 0 = 0 ∧ win3_0.index t 1 = t.val := by decide +kernel
theorem dwo_i1 : ∀ t : Fin grid3.N, win3_1.index t 0 = 0 ∧ win3_1.index t 1 = 0 := by decide +kernel
theorem dwo_i2 : ∀ t : Fin grid3.N, win3_2.index t 0 = 0 ∧ win3_2.index t 1 = t.val ∧ win3_2.index t 2 = 0 := by decide +kernel
theorem dwo_inj : ∀ t t' : Fin grid3.N, win3_2.index t = win3_2.index t' → t = t' := by decide +kernel
theorem dwo_flush : ∀ t : Fin grid3.N, win3_2.flush t = true := by decide +kernel

/-- The mixing's result and the output's gradient, and their blocks at a grid point. -/
abbrev dwoO : Vec Ideal S2048x2048 .bf16 := V c main_arg2
abbrev dwo_bO (t : Fin cfg3.N) : Vec Ideal S2048x1024 .bf16 := iblk3 V c 0 t
abbrev dwoD : Vec Ideal S2048x2048 .bf16 := V c main_arg5
abbrev dwo_bD (t : Fin cfg3.N) : Vec Ideal S2048x2048 .bf16 := iblk3 V c 1 t

theorem dwo_blkO (t : Fin cfg3.N) (q : Fin 2048) (r : Fin 1024) (j : Fin 2048) (hj : j.val = t.val * 1024 + r.val) :
    dwo_bO V c t (ix2 q r) = dwoO V c (ix2 q j) := by
  unfold dwo_bO iblk3
  rw [View.read_apply]
  refine congrArg (V c main_arg2) (funext fun a => Fin.ext ?_)
  have h := dwo_i0 t
  match a with
  | ⟨0, _⟩ => show win3_0.index t 0 * 2048 + 1 * q.val = q.val; rw [h.1]; omega
  | ⟨1, _⟩ => show win3_0.index t 1 * 1024 + 1 * r.val = j.val; rw [h.2]; omega

theorem dwo_blkD (t : Fin cfg3.N) (q k : Fin 2048)  :
    dwo_bD V c t (ix2 q k) = dwoD V c (ix2 q k) := by
  unfold dwo_bD iblk3
  rw [View.read_apply]
  refine congrArg (V c main_arg5) (funext fun a => Fin.ext ?_)
  have h := dwo_i1 t
  match a with
  | ⟨0, _⟩ => show win3_1.index t 0 * 2048 + 1 * q.val = q.val; rw [h.1]; omega
  | ⟨1, _⟩ => show win3_1.index t 1 * 2048 + 1 * k.val = k.val; rw [h.2]; omega

theorem dwo_entry (t : Fin cfg3.N) (r : Fin 1024) (j : Fin 2048) (k : Fin 2048) (hj : j.val = t.val * 1024 + r.val) :
    ((dat3 V c).arrAt 2 cfg3.N : Vec Ideal S1x2048x2048 .bf16) (ix3 (0 : Fin 1) j k) = out3_2 (dwo_bO V c t) (dwo_bD V c t) (ix3 (0 : Fin 1) r k) := by
  have hb := congrFun ((dat3 V c).read_blk_arrAt_eq_flushed 2
    (fun t t' _ _ hne => (cfg3.win 2).disjoint_blk fun h => hne (dwo_inj t t' h)) cfg3.N t t.isLt (dwo_flush t)) (ix3 (0 : Fin 1) r k)
  have hf : (dat3 V c).flushed 2 t = (cfg3.win 2).cut (grid3.coords t) (out3_2 (dwo_bO V c t) (dwo_bD V c t)) := by
    show (cfg3.win 2).cut (grid3.coords t) ((dat3 V c).after 2 t) = _
    rw [after3_2]
  rw [hf, View.read_apply] at hb
  refine Eq.trans ?_ hb
  refine congrArg ((dat3 V c).arrAt 2 cfg3.N) (funext fun a => Fin.ext ?_)
  have h := dwo_i2 t
  match a with
  | ⟨0, _⟩ => show 0 = win3_2.index t 0 * 1 + 1 * 0; rw [h.1]
  | ⟨1, _⟩ => show j.val = win3_2.index t 1 * 1024 + 1 * r.val; rw [h.2.1]; omega
  | ⟨2, _⟩ => show k.val = win3_2.index t 2 * 2048 + 1 * k.val; rw [h.2.2]; omega

/-- The output projection's gradient, index by index. -/
theorem dwo_apply (j : Fin 2048) (k : Fin 2048) :
    ((dat3 V c).arrAt 2 cfg3.N : Vec Ideal S1x2048x2048 .bf16) (ix3 (0 : Fin 1) j k)
      = ∑ q : Fin 2048, dwoO V c (ix2 q j) * dwoD V c (ix2 q k) := by
  have hj := j.isLt
  let t : Fin cfg3.N := ⟨j.val / 1024, lt_of_lt_of_eq (by omega : _ < 2) (by decide +kernel : 2 = grid3.N)⟩
  have ht : t.val = j.val / 1024 := rfl
  rw [dwo_entry V c t ⟨j.val % 1024, by omega⟩ j k (by show j.val = _ + j.val % 1024; omega), dwo_out]
  refine sum_eq fun q => ?_
  rw [dwo_blkO V c t q _ j (by show j.val = _ + j.val % 1024; omega), dwo_blkD]

/-! ## The input projection's weight gradient -/

theorem dwi_out (x : Vec Ideal S2048x1024 .bf16) (y : Vec Ideal S2048x1536 .bf16) (r : Fin 1024) (s : Fin 1536) :
    out4_2 x y (ix3 (0 : Fin 1) r s) = ∑ q : Fin 2048, x (ix2 q r) * y (ix2 q s) := by
  unfold out4_2
  rw [View.canon_unit_zero (S := S1x1024x1536) hz3, View.ld_unit_zero (S := S2048x1024) hz, View.ld_unit_zero (S := S2048x1536) hz]
  unfold k4_pay1
  pointwise

theorem dwi_i0 : ∀ t : Fin grid4.N, win4_0.index t 0 = 0 ∧ win4_0.index t 1 = t.val / 4 := by decide +kernel
theorem dwi_i1 : ∀ t : Fin grid4.N, win4_1.index t 0 = 0 ∧ win4_1.index t 1 = t.val % 4 := by decide +kernel
theorem dwi_i2 : ∀ t : Fin grid4.N, win4_2.index t 0 = t.val % 4 ∧ win4_2.index t 1 = t.val / 4 ∧ win4_2.index t 2 = 0 := by decide +kernel
theorem dwi_inj : ∀ t t' : Fin grid4.N, win4_2.index t = win4_2.index t' → t = t' := by decide +kernel
theorem dwi_flush : ∀ t : Fin grid4.N, win4_2.flush t = true := by decide +kernel

/-- The layer's input and the projection's gradient, and their blocks at a grid point. -/
abbrev dwiA : Vec Ideal S2048x2048 .bf16 := V c main_arg0
abbrev dwi_bA (t : Fin cfg4.N) : Vec Ideal S2048x1024 .bf16 := iblk4 V c 0 t
abbrev dwiZ : Vec Ideal S2048x6144 .bf16 := V c main_arg6
abbrev dwi_bZ (t : Fin cfg4.N) : Vec Ideal S2048x1536 .bf16 := iblk4 V c 1 t

theorem dwi_blkA (t : Fin cfg4.N) (q : Fin 2048) (r : Fin 1024) (k : Fin 2048) (hk : k.val = t.val / 4 * 1024 + r.val) :
    dwi_bA V c t (ix2 q r) = dwiA V c (ix2 q k) := by
  unfold dwi_bA iblk4
  rw [View.read_apply]
  refine congrArg (V c main_arg0) (funext fun a => Fin.ext ?_)
  have h := dwi_i0 t
  match a with
  | ⟨0, _⟩ => show win4_0.index t 0 * 2048 + 1 * q.val = q.val; rw [h.1]; omega
  | ⟨1, _⟩ => show win4_0.index t 1 * 1024 + 1 * r.val = k.val; rw [h.2]; omega

theorem dwi_blkZ (t : Fin cfg4.N) (q : Fin 2048) (s : Fin 1536) (j : Fin 6144) (hj : j.val = t.val % 4 * 1536 + s.val) :
    dwi_bZ V c t (ix2 q s) = dwiZ V c (ix2 q j) := by
  unfold dwi_bZ iblk4
  rw [View.read_apply]
  refine congrArg (V c main_arg6) (funext fun a => Fin.ext ?_)
  have h := dwi_i1 t
  match a with
  | ⟨0, _⟩ => show win4_1.index t 0 * 2048 + 1 * q.val = q.val; rw [h.1]; omega
  | ⟨1, _⟩ => show win4_1.index t 1 * 1536 + 1 * s.val = j.val; rw [h.2]; omega

theorem dwi_entry (t : Fin cfg4.N) (r : Fin 1024) (n : Fin 4) (k : Fin 2048) (s : Fin 1536)
    (hn : n.val = t.val % 4) (hk : k.val = t.val / 4 * 1024 + r.val) :
    ((dat4 V c).arrAt 2 cfg4.N : Vec Ideal S4x2048x1536 .bf16) (ix3 n k s) = out4_2 (dwi_bA V c t) (dwi_bZ V c t) (ix3 (0 : Fin 1) r s) := by
  have hb := congrFun ((dat4 V c).read_blk_arrAt_eq_flushed 2
    (fun t t' _ _ hne => (cfg4.win 2).disjoint_blk fun h => hne (dwi_inj t t' h)) cfg4.N t t.isLt (dwi_flush t)) (ix3 (0 : Fin 1) r s)
  have hf : (dat4 V c).flushed 2 t = (cfg4.win 2).cut (grid4.coords t) (out4_2 (dwi_bA V c t) (dwi_bZ V c t)) := by
    show (cfg4.win 2).cut (grid4.coords t) ((dat4 V c).after 2 t) = _
    rw [after4_2]
  rw [hf, View.read_apply] at hb
  refine Eq.trans ?_ hb
  refine congrArg ((dat4 V c).arrAt 2 cfg4.N) (funext fun a => Fin.ext ?_)
  have h := dwi_i2 t
  match a with
  | ⟨0, _⟩ => show n.val = win4_2.index t 0 * 1 + 1 * 0; rw [h.1]; omega
  | ⟨1, _⟩ => show k.val = win4_2.index t 1 * 1024 + 1 * r.val; rw [h.2.1]; omega
  | ⟨2, _⟩ => show s.val = win4_2.index t 2 * 1536 + 1 * s.val; rw [h.2.2]; omega

/-- The input projection's gradient, index by index: shard `n`'s column `s` is column `n * 1536 + s`. -/
theorem dwi_apply (n : Fin 4) (k : Fin 2048) (s : Fin 1536) :
    ((dat4 V c).arrAt 2 cfg4.N : Vec Ideal S4x2048x1536 .bf16) (ix3 n k s)
      = ∑ q : Fin 2048, dwiA V c (ix2 q k) * dwiZ V c (ix2 q (⟨n.val * 1536 + s.val, by omega⟩ : Fin 6144)) := by
  have hn := n.isLt
  have hk := k.isLt
  let t : Fin cfg4.N := ⟨k.val / 1024 * 4 + n.val, lt_of_lt_of_eq (by omega : _ < 8) (by decide +kernel : 8 = grid4.N)⟩
  have ht : t.val = k.val / 1024 * 4 + n.val := rfl
  rw [dwi_entry V c t ⟨k.val % 1024, by omega⟩ n k s (by omega) (by show k.val = _ + k.val % 1024; omega), dwi_out]
  refine sum_eq fun q => ?_
  rw [dwi_blkA V c t q _ k (by show k.val = _ + k.val % 1024; omega),
    dwi_blkZ V c t q s ⟨n.val * 1536 + s.val, by omega⟩ (by show n.val * 1536 + s.val = _ + s.val; omega)]

end Cert.MixIdeal.Products

end
-- ==== Proof.MixRun.lean ====
/-
  A mixer's products run one after another, keeping what they leave in their five results.
-/
module

public import proofs.«01_k».proof.Proof.Gen.MixIdeal.Frame

@[expose] public section

set_option maxRecDepth 16384

noncomputable section

namespace Cert.MixIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution ends with the arguments as launched and the five results at the last boundary's contents. -/
theorem run : θ_run defs (onTc (τ := τ) (main (F := F))) ⟨m, fun _ => 0, ρ⟩ (fun r => ∀ c : Dev nD,
      (r.2.mem ((c.tc : Thread nD τ).loc main_v0) = W5 m ρ c main_v0
        ∧ r.2.mem ((c.tc : Thread nD τ).loc main_v1) = W5 m ρ c main_v1
        ∧ r.2.mem ((c.tc : Thread nD τ).loc main_v2) = W5 m ρ c main_v2
        ∧ r.2.mem ((c.tc : Thread nD τ).loc main_v3) = W5 m ρ c main_v3
        ∧ r.2.mem ((c.tc : Thread nD τ).loc main_v4) = W5 m ρ c main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨⟨h c _ (mem_uc main_v0 (by decide)), h c _ (mem_uc main_v1 (by decide)), h c _ (mem_uc main_v2 (by decide)), h c _ (mem_uc main_v3 (by decide)), h c _ (mem_uc main_v4 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.MixIdeal.Results

end
-- ==== Proof.MixClaim.lean ====
/-
  The certificate of a mixer's products: the five results down to the arguments, the reference's results index by index,
  and the value claim, which sets them beside each other.
-/
module

public import proofs.«01_k».proof.Proof.MixProducts
public import proofs.«01_k».proof.Proof.MixRun
public import proofs.«01_k».proof.Proof.Gen.MixRefIdeal.Run
public import proofs.«01_k».proof.Proof.Gen.MixRefIdeal.Read
public import proofs.«01_k».proof.Defs

@[expose] public section

set_option maxRecDepth 16384

noncomputable section

/-! ## The results down to the arguments -/

namespace Cert.MixIdeal.Kernel

open Idealize.ShloMosaic Idealize.ShloMosaic.TcCoe Idealize.SL.Sem
open Cert.MixIdeal Cert.MixIdeal.Gen Cert.MixIdeal.Products Cert.Sums

variable (m : (ℓ : Loc nD τ sig) → Buf (Elt Ideal) ℓ) (ρ : Dev nD → PrngReg) (c : Dev nD)

/-- The arguments as launched. -/
abbrev gA : Vec Ideal S2048x2048 .bf16 := m ((c.tc : Thread nD τ).loc main_arg0)
abbrev gWi : Vec Ideal S4x2048x1536 .bf16 := m ((c.tc : Thread nD τ).loc main_arg1)
abbrev gO : Vec Ideal S2048x2048 .bf16 := m ((c.tc : Thread nD τ).loc main_arg2)
abbrev gWo : Vec Ideal S1x2048x2048 .bf16 := m ((c.tc : Thread nD τ).loc main_arg3)
abbrev gH : Vec Ideal S2048x2048 .f32 := m ((c.tc : Thread nD τ).loc main_arg4)
abbrev gDh : Vec Ideal S2048x2048 .bf16 := m ((c.tc : Thread nD τ).loc main_arg5)
abbrev gDz : Vec Ideal S2048x6144 .bf16 := m ((c.tc : Thread nD τ).loc main_arg6)

/-- The input projection. -/
theorem res_z (i : Fin 2048) (j : Fin 6144) : (W5 m ρ c main_v0 : Vec Ideal S2048x6144 .bf16) (ix2 i j)
    = ∑ q : Fin 2048, gA m c (ix2 i q) * gWi m c (ix3 (⟨j.val / 1536, by omega⟩ : Fin 4) q (⟨j.val % 1536, by omega⟩ : Fin 1536)) := by
  rw [show W5 m ρ c main_v0 = (dat0 (V0 m ρ) c).arrAt 2 cfg0.N from
    (W5_of m ρ c main_v0 (by decide +kernel)).trans ((W4_of m ρ c main_v0 (by decide +kernel)).trans ((W3_of m ρ c main_v0 (by decide +kernel)).trans ((W2_of m ρ c main_v0 (by decide +kernel)).trans (W1_arr m ρ c 2))))]
  exact z_apply (V0 m ρ) c i j
/-- The residual stream past the mixer. -/
theorem res_h (i j : Fin 2048) : (W5 m ρ c main_v1 : Vec Ideal S2048x2048 .f32) (ix2 i j)
    = ∑ q : Fin 2048, gO m c (ix2 i q) * gWo m c (ix3 (0 : Fin 1) q j) + gH m c (ix2 i j) := by
  rw [show W5 m ρ c main_v1 = (dat1 (V1 m ρ) c).arrAt 3 cfg1.N from
    (W5_of m ρ c main_v1 (by decide +kernel)).trans ((W4_of m ρ c main_v1 (by decide +kernel)).trans ((W3_of m ρ c main_v1 (by decide +kernel)).trans (W2_arr m ρ c 3)))]
  refine (h_apply (V1 m ρ) c i j).trans ?_
  rw [show hO (V1 m ρ) c = gO m c from W1_args m ρ c main_arg2 (by decide +kernel),
    show hW (V1 m ρ) c = gWo m c from W1_args m ρ c main_arg3 (by decide +kernel),
    show hH (V1 m ρ) c = gH m c from W1_args m ρ c main_arg4 (by decide +kernel)]
/-- The mixing's gradient. -/
theorem res_d (i j : Fin 2048) : (W5 m ρ c main_v2 : Vec Ideal S2048x2048 .bf16) (ix2 i j)
    = ∑ q : Fin 2048, gDh m c (ix2 i q) * gWo m c (ix3 (0 : Fin 1) j q) := by
  rw [show W5 m ρ c main_v2 = (dat2 (V2 m ρ) c).arrAt 3 cfg2.N from
    (W5_of m ρ c main_v2 (by decide +kernel)).trans ((W4_of m ρ c main_v2 (by decide +kernel)).trans (W3_arr m ρ c 3))]
  refine (d_apply (V2 m ρ) c i j).trans ?_
  rw [show dD (V2 m ρ) c = gDh m c from W2_args m ρ c main_arg5 (by decide +kernel),
    show dW (V2 m ρ) c = gWo m c from W2_args m ρ c main_arg3 (by decide +kernel)]
/-- The output projection's weight's gradient. -/
theorem res_dwo (j k : Fin 2048) : (W5 m ρ c main_v3 : Vec Ideal S1x2048x2048 .bf16) (ix3 (0 : Fin 1) j k)
    = ∑ q : Fin 2048, gO m c (ix2 q j) * gDh m c (ix2 q k) := by
  rw [show W5 m ρ c main_v3 = (dat3 (V3 m ρ) c).arrAt 2 cfg3.N from
    (W5_of m ρ c main_v3 (by decide +kernel)).trans (W4_arr m ρ c 2)]
  refine (dwo_apply (V3 m ρ) c j k).trans ?_
  rw [show dwoO (V3 m ρ) c = gO m c from W3_args m ρ c main_arg2 (by decide +kernel),
    show dwoD (V3 m ρ) c = gDh m c from W3_args m ρ c main_arg5 (by decide +kernel)]
/-- The input projection's weight's gradient. -/
theorem res_dwi (n : Fin 4) (k : Fin 2048) (s : Fin 1536) : (W5 m ρ c main_v4 : Vec Ideal S4x2048x1536 .bf16) (ix3 n k s)
    = ∑ q : Fin 2048, gA m c (ix2 q k) * gDz m c (ix2 q (⟨n.val * 1536 + s.val, by omega⟩ : Fin 6144)) := by
  rw [show W5 m ρ c main_v4 = (dat4 (V4 m ρ) c).arrAt 2 cfg4.N from W5_arr m ρ c 2]
  refine (dwi_apply (V4 m ρ) c n k s).trans ?_
  rw [show dwiA (V4 m ρ) c = gA m c from W4_args m ρ c main_arg0 (by decide +kernel),
    show dwiZ (V4 m ρ) c = gDz m c from W4_args m ρ c main_arg6 (by decide +kernel)]

end Cert.MixIdeal.Kernel

/-! ## The reference, index by index -/

namespace Cert.MixRefIdeal.Reference

open Idealize.ShloMosaic Idealize.SL.Sem Cert.MixRefIdeal Cert.MixRefIdeal.Gen Cert.MixRefIdeal.Read Cert.Sums

/-- The input projection. -/
theorem v19 (x0 : Vec Ideal S2048x2048 .bf16) (x1 : Vec Ideal S4x2048x1536 .bf16) (i : Fin 2048) (j : Fin 6144) :
    val_main_v19 (F := Ideal) x0 x1 (ix2 i j)
      = ∑ q : Fin 2048, x0 (ix2 i q) * x1 (ix3 (⟨j.val / 1536, by omega⟩ : Fin 4) q (⟨j.val % 1536, by omega⟩ : Fin 1536)) := by
  unfold val_main_v19 val_main_v18 val_main_v3 val_main_v2 val_main_v1 val_main_v0
  pointwise
/-- The residual stream past the mixer. -/
theorem v21 (x2 : Vec Ideal S2048x2048 .bf16) (x3 : Vec Ideal S1x2048x2048 .bf16) (x4 : Vec Ideal S2048x2048 .f32) (i j : Fin 2048) :
    val_main_v21 (F := Ideal) x2 x3 x4 (ix2 i j) = ∑ q : Fin 2048, x2 (ix2 i q) * x3 (ix3 (0 : Fin 1) q j) + x4 (ix2 i j) := by
  unfold val_main_v21 val_main_v20 val_main_v7 val_main_v6 val_main_v5 val_main_v4
  pointwise
  exact add_comm _ _
/-- The mixing's gradient. -/
theorem v22 (x3 : Vec Ideal S1x2048x2048 .bf16) (x5 : Vec Ideal S2048x2048 .bf16) (i j : Fin 2048) :
    val_main_v22 (F := Ideal) x3 x5 (ix2 i j) = ∑ q : Fin 2048, x5 (ix2 i q) * x3 (ix3 (0 : Fin 1) j q) := by
  unfold val_main_v22 val_main_v17 val_main_v13 val_main_v7 val_main_v6 val_main_v5
  pointwise
/-- The output projection's weight's gradient. -/
theorem v25 (x2 x5 : Vec Ideal S2048x2048 .bf16) (j k : Fin 2048) :
    val_main_v25 (F := Ideal) x2 x5 (ix3 (0 : Fin 1) j k) = ∑ q : Fin 2048, x2 (ix2 q j) * x5 (ix2 q k) := by
  unfold val_main_v25 val_main_v24 val_main_v23 val_main_v16 val_main_v15 val_main_v13 val_main_v4
  pointwise
  exact sum_eq fun q => mul_comm _ _
/-- The input projection's weight's gradient. -/
theorem v28 (x0 : Vec Ideal S2048x2048 .bf16) (x6 : Vec Ideal S2048x6144 .bf16) (n : Fin 4) (k : Fin 2048) (s : Fin 1536) :
    val_main_v28 (F := Ideal) x0 x6 (ix3 n k s) = ∑ q : Fin 2048, x0 (ix2 q k) * x6 (ix2 q (⟨n.val * 1536 + s.val, by omega⟩ : Fin 6144)) := by
  unfold val_main_v28 val_main_v27 val_main_v26 val_main_v11 val_main_v10 val_main_v8 val_main_v0
  pointwise
  exact sum_eq fun q => mul_comm _ _

end Cert.MixRefIdeal.Reference

/-! ## The claims -/

namespace Cert.Mix

open Idealize.ShloMosaic Idealize.ShloMosaic.TcCoe Idealize.SL.Sem Idealize.ShloMosaic.StableHlo

/-- The reference runs from any state, leaves its arguments as they were and its semaphores at zero. -/
theorem reference_frame : Cert.quiescent_MixRefIdeal := fun m ρ _ =>
  (θ_run Cert.MixRefIdeal.defs _ _).mono (fun r h => ⟨fun c => (h c).2.2.2.2.2, sem_eq_zero_of_no_sems (by decide) r.2⟩)
    (Cert.MixRefIdeal.Value.run (F := Ideal) m ρ)

/-- The chain's results are the reference's, whatever the arguments. -/
theorem value : Cert.algebraic_MixIdeal_MixRefIdeal := by
  intro m g m' g' _ hargs
  refine ⟨fun c => Cert.MixIdeal.Gen.W5 m g c Cert.MixIdeal.main_v0, fun c => Cert.MixIdeal.Gen.W5 m g c Cert.MixIdeal.main_v1, fun c => Cert.MixIdeal.Gen.W5 m g c Cert.MixIdeal.main_v2, fun c => Cert.MixIdeal.Gen.W5 m g c Cert.MixIdeal.main_v3, fun c => Cert.MixIdeal.Gen.W5 m g c Cert.MixIdeal.main_v4,
    (θ_run Cert.MixIdeal.defs _ _).mono (fun r h c => ⟨(h c).1.1, (h c).1.2.1, (h c).1.2.2.1, (h c).1.2.2.2.1, (h c).1.2.2.2.2, (h c).2⟩) (Cert.MixIdeal.Results.run m g), ?_⟩
  refine (θ_run _ _ _).mono (fun r h c => ?_) (Cert.MixRefIdeal.Value.run (F := Ideal) m' g')
  obtain ⟨h0, h1, h2, h3, h4, ha⟩ := h c
  obtain ⟨e0, e1, e2, e3, e4, e5, e6, e7⟩ := hargs c
  clear hargs
  refine ⟨h0.trans ?_, h1.trans ?_, h2.trans ?_, h3.trans ?_, h4.trans ?_, ha⟩
  all_goals clear h0 h1 h2 h3 h4 ha h
  · rw [Cert.MixRefIdeal.Read.val_main_v19_eq, e0, e1]
    funext i
    rw [eq_ix2 i]
    exact (Cert.MixRefIdeal.Reference.v19 _ _ _ _).trans (Cert.MixIdeal.Kernel.res_z m g c _ _).symm
  · rw [Cert.MixRefIdeal.Read.val_main_v21_eq, e2, e3, e4]
    funext i
    rw [eq_ix2 i]
    exact (Cert.MixRefIdeal.Reference.v21 _ _ _ _ _).trans (Cert.MixIdeal.Kernel.res_h m g c _ _).symm
  · rw [Cert.MixRefIdeal.Read.val_main_v22_eq, e3, e5]
    funext i
    rw [eq_ix2 i]
    exact (Cert.MixRefIdeal.Reference.v22 _ _ _ _).trans (Cert.MixIdeal.Kernel.res_d m g c _ _).symm
  · rw [Cert.MixRefIdeal.Read.val_main_v25_eq, e2, e5]
    funext i
    obtain ⟨j, k, rfl⟩ : ∃ (j : Fin 2048) (k : Fin 2048), i = ix3 (0 : Fin 1) j k :=
      ⟨i 1, i 2, by rw [eq_ix3 i]; exact congrArg (ix3 · _ _) (Subsingleton.elim _ _)⟩
    exact (Cert.MixRefIdeal.Reference.v25 _ _ _ _).trans (Cert.MixIdeal.Kernel.res_dwo m g c _ _).symm
  · rw [Cert.MixRefIdeal.Read.val_main_v28_eq, e0, e6]
    funext i
    rw [eq_ix3 i]
    exact (Cert.MixRefIdeal.Reference.v28 _ _ _ _ _).trans (Cert.MixIdeal.Kernel.res_dwi m g c _ _ _).symm

end Cert.Mix

end
-- ==== Proof.GqaPrProducts.lean ====
/-
  The grouped-query attention's input projection and its weight gradient at the buffers a launch is entered with, index by
  index.
-/
module

public import proofs.«01_k».proof.Proof.Gen.GqaPrIdeal.Frame
public import proofs.«01_k».proof.Proof.Sums
public import Idealize.ShloMosaic.Lib.Pointwise

@[expose] public section

set_option maxRecDepth 16384

noncomputable section

namespace Cert.GqaPrIdeal.Products

open Idealize.ShloMosaic Idealize.ShloMosaic.TcCoe Idealize.SL.Sem
open Cert.GqaPrIdeal Cert.GqaPrIdeal.Gen Cert.Sums

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)

/-! ## The input projection -/

theorem z_out (x : Vec Ideal S1024x2048 .bf16) (w : Vec Ideal S1x2048x768 .bf16) (r : Fin 1024) (k : Fin 768) :
    out0_2 x w (ix2 r k) = ∑ q : Fin 2048, x (ix2 r q) * w (ix3 (0 : Fin 1) q k) := by
  unfold out0_2
  rw [View.canon_unit_zero (S := S1024x768) hz, View.ld_unit_zero (S := S1024x2048) hz, View.ld_unit_zero (S := S1x2048x768) hz3]
  unfold k0_pay1
  pointwise

/-- The block index of each window at a grid point. -/
theorem z_i0 : ∀ t : Fin grid0.N, win0_0.index t 0 = t.val / 4 ∧ win0_0.index t 1 = 0 := by decide +kernel
theorem z_i1 : ∀ t : Fin grid0.N, win0_1.index t 0 = t.val % 4 ∧ win0_1.index t 1 = 0 ∧ win0_1.index t 2 = 0 := by decide +kernel
theorem z_i2 : ∀ t : Fin grid0.N, win0_2.index t 0 = t.val / 4 ∧ win0_2.index t 1 = t.val % 4 := by decide +kernel
theorem z_inj : ∀ t t' : Fin grid0.N, win0_2.index t = win0_2.index t' → t = t' := by decide +kernel
theorem z_flush : ∀ t : Fin grid0.N, win0_2.flush t = true := by decide +kernel

/-- The arrays the launch reads, and their blocks at a grid point. -/
abbrev zX : Vec Ideal S2048x2048 .bf16 := V c main_arg0
abbrev z_bX (t : Fin cfg0.N) : Vec Ideal S1024x2048 .bf16 := iblk0 V c 0 t
abbrev zW : Vec Ideal S4x2048x768 .bf16 := V c main_arg1
abbrev z_bW (t : Fin cfg0.N) : Vec Ideal S1x2048x768 .bf16 := iblk0 V c 1 t

theorem z_blkX (t : Fin cfg0.N) (r : Fin 1024) (q : Fin 2048) (i : Fin 2048) (hi : i.val = t.val / 4 * 1024 + r.val) :
    z_bX V c t (ix2 r q) = zX V c (ix2 i q) := by
  unfold z_bX iblk0
  rw [View.read_apply]
  refine congrArg (V c main_arg0) (funext fun a => Fin.ext ?_)
  have h := z_i0 t
  match a with
  | ⟨0, _⟩ => show win0_0.index t 0 * 1024 + 1 * r.val = i.val; rw [h.1]; omega
  | ⟨1, _⟩ => show win0_0.index t 1 * 2048 + 1 * q.val = q.val; rw [h.2]; omega

theorem z_blkW (t : Fin cfg0.N) (q : Fin 2048) (k : Fin 768) (n : Fin 4) (hn : n.val = t.val % 4) :
    z_bW V c t (ix3 (0 : Fin 1) q k) = zW V c (ix3 n q k) := by
  unfold z_bW iblk0
  rw [View.read_apply]
  refine congrArg (V c main_arg1) (funext fun a => Fin.ext ?_)
  have h := z_i1 t
  match a with
  | ⟨0, _⟩ => show win0_1.index t 0 * 1 + 1 * 0 = n.val; rw [h.1]; omega
  | ⟨1, _⟩ => show win0_1.index t 1 * 2048 + 1 * q.val = q.val; rw [h.2.1]; omega
  | ⟨2, _⟩ => show win0_1.index t 2 * 768 + 1 * k.val = k.val; rw [h.2.2]; omega

/-- An entry of the result is the entry of the block its point writes back. -/
theorem z_entry (t : Fin cfg0.N) (r : Fin 1024) (s : Fin 768) (i : Fin 2048) (j : Fin 3072)
    (hi : i.val = t.val / 4 * 1024 + r.val) (hj : j.val = t.val % 4 * 768 + s.val) :
    ((dat0 V c).arrAt 2 cfg0.N : Vec Ideal S2048x3072 .bf16) (ix2 i j) = out0_2 (z_bX V c t) (z_bW V c t) (ix2 r s) := by
  have hb := congrFun ((dat0 V c).read_blk_arrAt_eq_flushed 2
    (fun t t' _ _ hne => (cfg0.win 2).disjoint_blk fun h => hne (z_inj t t' h)) cfg0.N t t.isLt (z_flush t)) (ix2 r s)
  have hf : (dat0 V c).flushed 2 t = (cfg0.win 2).cut (grid0.coords t) (out0_2 (z_bX V c t) (z_bW V c t)) := by
    show (cfg0.win 2).cut (grid0.coords t) ((dat0 V c).after 2 t) = _
    rw [after0_2]
  rw [hf, View.read_apply] at hb
  refine Eq.trans ?_ hb
  refine congrArg ((dat0 V c).arrAt 2 cfg0.N) (funext fun a => Fin.ext ?_)
  have h := z_i2 t
  match a with
  | ⟨0, _⟩ => show i.val = win0_2.index t 0 * 1024 + 1 * r.val; rw [h.1]; omega
  | ⟨1, _⟩ => show j.val = win0_2.index t 1 * 768 + 1 * s.val; rw [h.2]; omega

/-- The input projection, index by index: its column `j` is column `j % 768` of the weight's shard `j / 768`. -/
theorem z_apply (i : Fin 2048) (j : Fin 3072) :
    ((dat0 V c).arrAt 2 cfg0.N : Vec Ideal S2048x3072 .bf16) (ix2 i j)
      = ∑ q : Fin 2048, zX V c (ix2 i q) * zW V c (ix3 (⟨j.val / 768, by omega⟩ : Fin 4) q (⟨j.val % 768, by omega⟩ : Fin 768)) := by
  have hi := i.isLt
  have hj := j.isLt
  let t : Fin cfg0.N := ⟨i.val / 1024 * 4 + j.val / 768, lt_of_lt_of_eq (by omega : _ < 8) (by decide +kernel : 8 = grid0.N)⟩
  have ht : t.val = i.val / 1024 * 4 + j.val / 768 := rfl
  rw [z_entry V c t ⟨i.val % 1024, by omega⟩ ⟨j.val % 768, by omega⟩ i j (by show i.val = _ + i.val % 1024; omega)
    (by show j.val = _ + j.val % 768; omega), z_out]
  refine sum_eq fun q => ?_
  rw [z_blkX V c t _ q i (by show i.val = _ + i.val % 1024; omega),
    z_blkW V c t q _ ⟨j.val / 768, by omega⟩ (by show j.val / 768 = _; omega)]

/-! ## Its weight gradient -/

theorem dwi_out (x : Vec Ideal S2048x1024 .bf16) (y : Vec Ideal S2048x768 .bf16) (r : Fin 1024) (s : Fin 768) :
    out1_2 x y (ix3 (0 : Fin 1) r s) = ∑ q : Fin 2048, x (ix2 q r) * y (ix2 q s) := by
  unfold out1_2
  rw [View.canon_unit_zero (S := S1x1024x768) hz3, View.ld_unit_zero (S := S2048x1024) hz, View.ld_unit_zero (S := S2048x768) hz]
  unfold k1_pay1
  pointwise

theorem dwi_i0 : ∀ t : Fin grid1.N, win1_0.index t 0 = 0 ∧ win1_0.index t 1 = t.val / 4 := by decide +kernel
theorem dwi_i1 : ∀ t : Fin grid1.N, win1_1.index t 0 = 0 ∧ win1_1.index t 1 = t.val % 4 := by decide +kernel
theorem dwi_i2 : ∀ t : Fin grid1.N, win1_2.index t 0 = t.val % 4 ∧ win1_2.index t 1 = t.val / 4 ∧ win1_2.index t 2 = 0 := by decide +kernel
theorem dwi_inj : ∀ t t' : Fin grid1.N, win1_2.index t = win1_2.index t' → t = t' := by decide +kernel
theorem dwi_flush : ∀ t : Fin grid1.N, win1_2.flush t = true := by decide +kernel

/-- The layer's input and the projection's gradient, and their blocks at a grid point. -/
abbrev dwiA : Vec Ideal S2048x2048 .bf16 := V c main_arg0
abbrev dwi_bA (t : Fin cfg1.N) : Vec Ideal S2048x1024 .bf16 := iblk1 V c 0 t
abbrev dwiZ : Vec Ideal S2048x3072 .bf16 := V c main_arg2
abbrev dwi_bZ (t : Fin cfg1.N) : Vec Ideal S2048x768 .bf16 := iblk1 V c 1 t

theorem dwi_blkA (t : Fin cfg1.N) (q : Fin 2048) (r : Fin 1024) (k : Fin 2048) (hk : k.val = t.val / 4 * 1024 + r.val) :
    dwi_bA V c t (ix2 q r) = dwiA V c (ix2 q k) := by
  unfold dwi_bA iblk1
  rw [View.read_apply]
  refine congrArg (V c main_arg0) (funext fun a => Fin.ext ?_)
  have h := dwi_i0 t
  match a with
  | ⟨0, _⟩ => show win1_0.index t 0 * 2048 + 1 * q.val = q.val; rw [h.1]; omega
  | ⟨1, _⟩ => show win1_0.index t 1 * 1024 + 1 * r.val = k.val; rw [h.2]; omega

theorem dwi_blkZ (t : Fin cfg1.N) (q : Fin 2048) (s : Fin 768) (j : Fin 3072) (hj : j.val = t.val % 4 * 768 + s.val) :
    dwi_bZ V c t (ix2 q s) = dwiZ V c (ix2 q j) := by
  unfold dwi_bZ iblk1
  rw [View.read_apply]
  refine congrArg (V c main_arg2) (funext fun a => Fin.ext ?_)
  have h := dwi_i1 t
  match a with
  | ⟨0, _⟩ => show win1_1.index t 0 * 2048 + 1 * q.val = q.val; rw [h.1]; omega
  | ⟨1, _⟩ => show win1_1.index t 1 * 768 + 1 * s.val = j.val; rw [h.2]; omega

theorem dwi_entry (t : Fin cfg1.N) (r : Fin 1024) (n : Fin 4) (k : Fin 2048) (s : Fin 768)
    (hn : n.val = t.val % 4) (hk : k.val = t.val / 4 * 1024 + r.val) :
    ((dat1 V c).arrAt 2 cfg1.N : Vec Ideal S4x2048x768 .bf16) (ix3 n k s) = out1_2 (dwi_bA V c t) (dwi_bZ V c t) (ix3 (0 : Fin 1) r s) := by
  have hb := congrFun ((dat1 V c).read_blk_arrAt_eq_flushed 2
    (fun t t' _ _ hne => (cfg1.win 2).disjoint_blk fun h => hne (dwi_inj t t' h)) cfg1.N t t.isLt (dwi_flush t)) (ix3 (0 : Fin 1) r s)
  have hf : (dat1 V c).flushed 2 t = (cfg1.win 2).cut (grid1.coords t) (out1_2 (dwi_bA V c t) (dwi_bZ V c t)) := by
    show (cfg1.win 2).cut (grid1.coords t) ((dat1 V c).after 2 t) = _
    rw [after1_2]
  rw [hf, View.read_apply] at hb
  refine Eq.trans ?_ hb
  refine congrArg ((dat1 V c).arrAt 2 cfg1.N) (funext fun a => Fin.ext ?_)
  have h := dwi_i2 t
  match a with
  | ⟨0, _⟩ => show n.val = win1_2.index t 0 * 1 + 1 * 0; rw [h.1]; omega
  | ⟨1, _⟩ => show k.val = win1_2.index t 1 * 1024 + 1 * r.val; rw [h.2.1]; omega
  | ⟨2, _⟩ => show s.val = win1_2.index t 2 * 768 + 1 * s.val; rw [h.2.2]; omega

/-- The input projection's gradient, index by index: shard `n`'s column `s` is column `n * 768 + s`. -/
theorem dwi_apply (n : Fin 4) (k : Fin 2048) (s : Fin 768) :
    ((dat1 V c).arrAt 2 cfg1.N : Vec Ideal S4x2048x768 .bf16) (ix3 n k s)
      = ∑ q : Fin 2048, dwiA V c (ix2 q k) * dwiZ V c (ix2 q (⟨n.val * 768 + s.val, by omega⟩ : Fin 3072)) := by
  have hn := n.isLt
  have hk := k.isLt
  let t : Fin cfg1.N := ⟨k.val / 1024 * 4 + n.val, lt_of_lt_of_eq (by omega : _ < 8) (by decide +kernel : 8 = grid1.N)⟩
  have ht : t.val = k.val / 1024 * 4 + n.val := rfl
  rw [dwi_entry V c t ⟨k.val % 1024, by omega⟩ n k s (by omega) (by show k.val = _ + k.val % 1024; omega), dwi_out]
  refine sum_eq fun q => ?_
  rw [dwi_blkA V c t q _ k (by show k.val = _ + k.val % 1024; omega),
    dwi_blkZ V c t q s ⟨n.val * 768 + s.val, by omega⟩ (by show n.val * 768 + s.val = _ + s.val; omega)]

end Cert.GqaPrIdeal.Products

end
-- ==== Proof.GqaPrRun.lean ====
/-
  The grouped-query attention's projection products run one after the other, keeping what they leave in their two results.
-/
module

public import proofs.«01_k».proof.Proof.Gen.GqaPrIdeal.Frame

@[expose] public section

set_option maxRecDepth 16384

noncomputable section

namespace Cert.GqaPrIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GqaPrIdeal Cert.GqaPrIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution ends with the arguments as launched and the two results at the last boundary's contents. -/
theorem run : θ_run defs (onTc (τ := τ) (main (F := F))) ⟨m, fun _ => 0, ρ⟩ (fun r => ∀ c : Dev nD,
      (r.2.mem ((c.tc : Thread nD τ).loc main_v0) = W2 m ρ c main_v0
        ∧ r.2.mem ((c.tc : Thread nD τ).loc main_v1) = W2 m ρ c main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨⟨h c _ (mem_uc main_v0 (by decide)), h c _ (mem_uc main_v1 (by decide))⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.GqaPrIdeal.Results

end
-- ==== Proof.GqaPrClaim.lean ====
/-
  The certificate of the grouped-query attention's projection products: both results down to the arguments, the reference's
  results index by index, and the value claim, which sets them beside each other.
-/
module

public import proofs.«01_k».proof.Proof.GqaPrProducts
public import proofs.«01_k».proof.Proof.GqaPrRun
public import proofs.«01_k».proof.Proof.Gen.GqaPrRefIdeal.Run
public import proofs.«01_k».proof.Proof.Gen.GqaPrRefIdeal.Read
public import proofs.«01_k».proof.Defs

@[expose] public section

set_option maxRecDepth 16384

noncomputable section

/-! ## The results down to the arguments -/

namespace Cert.GqaPrIdeal.Kernel

open Idealize.ShloMosaic Idealize.ShloMosaic.TcCoe Idealize.SL.Sem
open Cert.GqaPrIdeal Cert.GqaPrIdeal.Gen Cert.GqaPrIdeal.Products Cert.Sums

variable (m : (ℓ : Loc nD τ sig) → Buf (Elt Ideal) ℓ) (ρ : Dev nD → PrngReg) (c : Dev nD)

/-- The arguments as launched. -/
abbrev gA : Vec Ideal S2048x2048 .bf16 := m ((c.tc : Thread nD τ).loc main_arg0)
abbrev gWi : Vec Ideal S4x2048x768 .bf16 := m ((c.tc : Thread nD τ).loc main_arg1)
abbrev gDz : Vec Ideal S2048x3072 .bf16 := m ((c.tc : Thread nD τ).loc main_arg2)

/-- The input projection. -/
theorem res_z (i : Fin 2048) (j : Fin 3072) : (W2 m ρ c main_v0 : Vec Ideal S2048x3072 .bf16) (ix2 i j)
    = ∑ q : Fin 2048, gA m c (ix2 i q) * gWi m c (ix3 (⟨j.val / 768, by omega⟩ : Fin 4) q (⟨j.val % 768, by omega⟩ : Fin 768)) := by
  rw [show W2 m ρ c main_v0 = (dat0 (V0 m ρ) c).arrAt 2 cfg0.N from
    (W2_of m ρ c main_v0 (by decide +kernel)).trans (W1_arr m ρ c 2)]
  exact z_apply (V0 m ρ) c i j
/-- The input projection's weight's gradient. -/
theorem res_dwi (n : Fin 4) (k : Fin 2048) (s : Fin 768) : (W2 m ρ c main_v1 : Vec Ideal S4x2048x768 .bf16) (ix3 n k s)
    = ∑ q : Fin 2048, gA m c (ix2 q k) * gDz m c (ix2 q (⟨n.val * 768 + s.val, by omega⟩ : Fin 3072)) := by
  rw [show W2 m ρ c main_v1 = (dat1 (V1 m ρ) c).arrAt 2 cfg1.N from W2_arr m ρ c 2]
  refine (dwi_apply (V1 m ρ) c n k s).trans ?_
  rw [show dwiA (V1 m ρ) c = gA m c from W1_args m ρ c main_arg0 (by decide +kernel),
    show dwiZ (V1 m ρ) c = gDz m c from W1_args m ρ c main_arg2 (by decide +kernel)]

end Cert.GqaPrIdeal.Kernel

/-! ## The reference, index by index -/

namespace Cert.GqaPrRefIdeal.Reference

open Idealize.ShloMosaic Idealize.SL.Sem Cert.GqaPrRefIdeal Cert.GqaPrRefIdeal.Gen Cert.GqaPrRefIdeal.Read Cert.Sums

/-- The input projection. -/
theorem v5 (x0 : Vec Ideal S2048x2048 .bf16) (x1 : Vec Ideal S4x2048x768 .bf16) (i : Fin 2048) (j : Fin 3072) :
    val_main_v5 (F := Ideal) x0 x1 (ix2 i j)
      = ∑ q : Fin 2048, x0 (ix2 i q) * x1 (ix3 (⟨j.val / 768, by omega⟩ : Fin 4) q (⟨j.val % 768, by omega⟩ : Fin 768)) := by
  unfold val_main_v5 val_main_v4 val_main_v3 val_main_v2 val_main_v1 val_main_v0
  pointwise
/-- The input projection's weight's gradient. -/
theorem v13 (x0 : Vec Ideal S2048x2048 .bf16) (x2 : Vec Ideal S2048x3072 .bf16) (n : Fin 4) (k : Fin 2048) (s : Fin 768) :
    val_main_v13 (F := Ideal) x0 x2 (ix3 n k s) = ∑ q : Fin 2048, x0 (ix2 q k) * x2 (ix2 q (⟨n.val * 768 + s.val, by omega⟩ : Fin 3072)) := by
  unfold val_main_v13 val_main_v12 val_main_v11 val_main_v9 val_main_v8 val_main_v6 val_main_v0
  pointwise
  exact sum_eq fun q => mul_comm _ _

end Cert.GqaPrRefIdeal.Reference

/-! ## The claims -/

namespace Cert.GqaPr

open Idealize.ShloMosaic Idealize.ShloMosaic.TcCoe Idealize.SL.Sem Idealize.ShloMosaic.StableHlo

/-- The reference runs from any state, leaves its arguments as they were and its semaphores at zero. -/
theorem reference_frame : Cert.quiescent_GqaPrRefIdeal := fun m ρ _ =>
  (θ_run Cert.GqaPrRefIdeal.defs _ _).mono (fun r h => ⟨fun c => (h c).2.2, sem_eq_zero_of_no_sems (by decide) r.2⟩)
    (Cert.GqaPrRefIdeal.Value.run (F := Ideal) m ρ)

/-- The chain's results are the reference's, whatever the arguments. -/
theorem value : Cert.algebraic_GqaPrIdeal_GqaPrRefIdeal := by
  intro m g m' g' _ hargs
  refine ⟨fun c => Cert.GqaPrIdeal.Gen.W2 m g c Cert.GqaPrIdeal.main_v0, fun c => Cert.GqaPrIdeal.Gen.W2 m g c Cert.GqaPrIdeal.main_v1,
    (θ_run Cert.GqaPrIdeal.defs _ _).mono (fun r h c => ⟨(h c).1.1, (h c).1.2, (h c).2⟩) (Cert.GqaPrIdeal.Results.run m g), ?_⟩
  refine (θ_run _ _ _).mono (fun r h c => ?_) (Cert.GqaPrRefIdeal.Value.run (F := Ideal) m' g')
  obtain ⟨h0, h1, ha⟩ := h c
  obtain ⟨e0, e1, e2⟩ := hargs c
  clear hargs
  refine ⟨h0.trans ?_, h1.trans ?_, ha⟩
  all_goals clear h0 h1 ha h
  · rw [Cert.GqaPrRefIdeal.Read.val_main_v5_eq, e0, e1]
    funext i
    rw [eq_ix2 i]
    exact (Cert.GqaPrRefIdeal.Reference.v5 _ _ _ _).trans (Cert.GqaPrIdeal.Kernel.res_z m g c _ _).symm
  · rw [Cert.GqaPrRefIdeal.Read.val_main_v13_eq, e0, e2]
    funext i
    rw [eq_ix3 i]
    exact (Cert.GqaPrRefIdeal.Reference.v13 _ _ _ _ _).trans (Cert.GqaPrIdeal.Kernel.res_dwi m g c _ _ _).symm

end Cert.GqaPr

end
-- ==== Proof.GqaDaKernel.lean ====
/-
  What the kernel of the grouped-query attention's input gradient leaves in its result over the extended reals, for all arguments: the sum over
  the input projection's columns, a shard at a time, of the gradient of the projection's result times the weight.
-/
module

public import proofs.«01_k».proof.Proof.Gen.GqaDaIdeal.Value
public import proofs.«01_k».proof.Proof.Sums
public import Idealize.ShloMosaic.Lib.Pointwise

@[expose] public section

set_option maxRecDepth 16384

noncomputable section

namespace Cert.GqaDaIdeal.Kernel

open Idealize.ShloMosaic Idealize.ShloMosaic.TcCoe Idealize.SL.Sem
open Cert.GqaDaIdeal Cert.GqaDaIdeal.Gen Cert.GqaDaIdeal.Value Cert.Sums

/-! ## The three cases of a point -/

section cases
variable {F : FTy → Type} [FloatOps F]

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1024x768 .bf16) (harg3 : arg3.IsWhole)
  (arg4 : Memref sig .tc .vmem S1x1024x768 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec F S1024x768 .bf16) (x1 : Vec F S1x1024x768 .bf16) (xs0 : Vec F S1024x1024 .f32)

/-- The accumulator after the first shard. -/
theorem sout_A_eq (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.canon_unit_zero (S := S1024x1024) hz, View.readAt_eq_ld, harg3.read_unread, harg4.read_unread, harg6.read_unread,
    View.ld_unit_zero (S := S1024x768) hz, View.ld_unit_zero (S := S1x1024x768) hz3, View.ld_unit_zero (S := S1024x1024) hz]

/-- The accumulator after an inner shard. -/
theorem sout_B_eq (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  simp only [View.canon_unit_zero (S := S1024x1024) hz, View.readAt_eq_ld, harg3.read_unread, harg4.read_unread, harg6.read_unread,
    View.ld_unit_zero (S := S1024x768) hz, View.ld_unit_zero (S := S1x1024x768) hz3, View.ld_unit_zero (S := S1024x1024) hz]

/-- The result's block after the last shard. -/
theorem out_C_eq (hc0 : ¬cond0_0 i) (hc1 : cond0_1 i) (hc2 : cond0_2 i) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  simp only [View.canon_unit_zero (S := S1024x1024) hz, View.canon_cons_unit_zero (S := S1024x1024) hz, View.readCov_unit_zero (S := S1024x1024) _ hz,
    View.readAt_eq_ld, harg3.read_unread, harg4.read_unread, harg6.read_unread,
    View.ld_unit_zero (S := S1024x768) hz, View.ld_unit_zero (S := S1x1024x768) hz3, View.ld_unit_zero (S := S1024x1024) hz]

end cases

/-! ## The payloads at an index -/

theorem pay2_apply (x : Vec Ideal S1024x768 .bf16) (w : Vec Ideal S1x1024x768 .bf16) (r k : Fin 1024) :
    k0_pay2 x w (ix2 r k) = ∑ q : Fin 768, x (ix2 r q) * w (ix3 (0 : Fin 1) k q) := by
  unfold k0_pay2 k0_pay1
  pointwise

theorem pay3_apply (x : Vec Ideal S1024x768 .bf16) (w : Vec Ideal S1x1024x768 .bf16) (a : Vec Ideal S1024x1024 .f32) (r k : Fin 1024) :
    k0_pay3 x w a (ix2 r k) = a (ix2 r k) + ∑ q : Fin 768, x (ix2 r q) * w (ix3 (0 : Fin 1) k q) := by
  unfold k0_pay3 k0_pay1
  pointwise

/-! ## The blocks -/

/-- The block index of each window at a grid point. -/
theorem idx0 : ∀ t : Fin grid0.N, win0_0.index t 0 = t.val / 8 ∧ win0_0.index t 1 = t.val % 4 := by decide +kernel
theorem idx1 : ∀ t : Fin grid0.N,
    win0_1.index t 0 = t.val % 4 ∧ win0_1.index t 1 = t.val / 4 % 2 ∧ win0_1.index t 2 = 0 := by decide +kernel

variable (m : (ℓ : Loc nD τ sig) → Buf (Elt Ideal) ℓ) (c : Dev nD)

/-- The arguments the kernel is run on: the gradient of the projection's result, and the weight. -/
abbrev argZ : Vec Ideal S2048x3072 .bf16 := m ((c : Thread nD τ).loc main_arg0)
abbrev argW : Vec Ideal S4x2048x768 .bf16 := m ((c : Thread nD τ).loc main_arg1)

/-- Their blocks at a grid point. -/
abbrev bZ (t : Fin cfg0.N) : Vec Ideal S1024x768 .bf16 := iblk m c 0 t
abbrev bW (t : Fin cfg0.N) : Vec Ideal S1x1024x768 .bf16 := iblk m c 1 t

/-- The block of the gradient. -/
theorem blk_z (t : Fin cfg0.N) (r : Fin 1024) (q : Fin 768) (i : Fin 2048) (j : Fin 3072)
    (hi : i.val = t.val / 8 * 1024 + r.val) (hj : j.val = t.val % 4 * 768 + q.val) :
    bZ m c t (ix2 r q) = argZ m c (ix2 i j) := by
  unfold bZ iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 1024 + 1 * r.val = i.val; rw [h.1]; omega
  | ⟨1, _⟩ => show win0_0.index t 1 * 768 + 1 * q.val = j.val; rw [h.2]; omega

/-- The block of the weight. -/
theorem blk_w (t : Fin cfg0.N) (k : Fin 1024) (q : Fin 768) (s : Fin 4) (j : Fin 2048)
    (hs : s.val = t.val % 4) (hj : j.val = t.val / 4 % 2 * 1024 + k.val) :
    bW m c t (ix3 (0 : Fin 1) k q) = argW m c (ix3 s j q) := by
  unfold bW iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = s.val; rw [h.1]; omega
  | ⟨1, _⟩ => show win0_1.index t 1 * 1024 + 1 * k.val = j.val; rw [h.2.1]; omega
  | ⟨2, _⟩ => show win0_1.index t 2 * 768 + 1 * q.val = q.val; rw [h.2.2]; omega

/-! ## The result -/

/-- One shard's part of the gradient. -/
def part (i j : Fin 2048) (s : Fin 4) : EReal :=
  ∑ q : Fin 768, argZ m c (ix2 i ⟨s.val * 768 + q.val, by have := s.isLt; have := q.isLt; omega⟩) * argW m c (ix3 s j q)

/-- A point's product of blocks is its shard's part. -/
theorem part_eq (t : Fin cfg0.N) (r k : Fin 1024) (i j : Fin 2048) (s : Fin 4) (hs : s.val = t.val % 4)
    (hi : i.val = t.val / 8 * 1024 + r.val) (hj : j.val = t.val / 4 % 2 * 1024 + k.val) :
    ∑ q : Fin 768, bZ m c t (ix2 r q) * bW m c t (ix3 (0 : Fin 1) k q) = part m c i j s := by
  refine sum_eq fun q => ?_
  have hq := q.isLt; have := s.isLt
  rw [blk_z m c t r q i ⟨s.val * 768 + q.val, by omega⟩ hi (by show s.val * 768 + q.val = _; omega), blk_w m c t k q s j hs hj]

/-- The accumulator after the first shard, the first two and the first three. -/
theorem acc0 (t : Fin cfg0.N) (r k : Fin 1024) (i j : Fin 2048) (ht : t.val % 4 = 0)
    (hi : i.val = t.val / 8 * 1024 + r.val) (hj : j.val = t.val / 4 % 2 * 1024 + k.val) :
    (outsAt0 m c t.val t.isLt).2 (ix2 r k) = part m c i j 0 := by
  rw [outsAt0_A m c t ht (by omega) (by omega)]
  dsimp only
  rw [sout_A_eq, pay2_apply]
  exact part_eq m c t r k i j 0 ht.symm hi hj

theorem acc1 (t : Fin cfg0.N) (r k : Fin 1024) (i j : Fin 2048) (ht : t.val % 4 = 1)
    (hi : i.val = t.val / 8 * 1024 + r.val) (hj : j.val = t.val / 4 % 2 * 1024 + k.val) :
    (outsAt0 m c t.val t.isLt).2 (ix2 r k) = part m c i j 0 + part m c i j 1 := by
  rw [outsAt0_B m c t (by omega) (by omega) (by omega)]
  dsimp only
  rw [sout_B_eq, pay3_apply, acc0 m c ⟨t.val - 1, Nat.lt_of_le_of_lt (Nat.sub_le _ _) t.isLt⟩ r k i j (by show (t.val - 1) % 4 = 0; omega) (by show _ = (t.val - 1) / 8 * _ + _; omega)
    (by show _ = (t.val - 1) / 4 % 2 * _ + _; omega)]
  exact congrArg (part m c i j 0 + ·) (part_eq m c t r k i j 1 ht.symm hi hj)

theorem acc2 (t : Fin cfg0.N) (r k : Fin 1024) (i j : Fin 2048) (ht : t.val % 4 = 2)
    (hi : i.val = t.val / 8 * 1024 + r.val) (hj : j.val = t.val / 4 % 2 * 1024 + k.val) :
    (outsAt0 m c t.val t.isLt).2 (ix2 r k) = part m c i j 0 + part m c i j 1 + part m c i j 2 := by
  rw [outsAt0_B m c t (by omega) (by omega) (by omega)]
  dsimp only
  rw [sout_B_eq, pay3_apply, acc1 m c ⟨t.val - 1, Nat.lt_of_le_of_lt (Nat.sub_le _ _) t.isLt⟩ r k i j (by show (t.val - 1) % 4 = 1; omega) (by show _ = (t.val - 1) / 8 * _ + _; omega)
    (by show _ = (t.val - 1) / 4 % 2 * _ + _; omega)]
  exact congrArg (part m c i j 0 + part m c i j 1 + ·) (part_eq m c t r k i j 2 ht.symm hi hj)

/-- The block written back after the fourth shard. -/
theorem out3 (t : Fin cfg0.N) (r k : Fin 1024) (i j : Fin 2048) (ht : t.val % 4 = 3)
    (hi : i.val = t.val / 8 * 1024 + r.val) (hj : j.val = t.val / 4 % 2 * 1024 + k.val) :
    (outsAt0 m c t.val t.isLt).1 (ix2 r k) = part m c i j 0 + part m c i j 1 + part m c i j 2 + part m c i j 3 := by
  rw [outsAt0_C m c t (by omega) (by omega) ht]
  dsimp only
  rw [out_C_eq, pay3_apply, acc2 m c ⟨t.val - 1, Nat.lt_of_le_of_lt (Nat.sub_le _ _) t.isLt⟩ r k i j (by show (t.val - 1) % 4 = 2; omega) (by show _ = (t.val - 1) / 8 * _ + _; omega)
    (by show _ = (t.val - 1) / 4 % 2 * _ + _; omega)]
  exact congrArg (part m c i j 0 + part m c i j 1 + part m c i j 2 + ·) (part_eq m c t r k i j 3 ht.symm hi hj)

/-- The input's gradient, index by index. -/
theorem G2_apply (i j : Fin 2048) : G2 m c (ix2 i j) = part m c i j 0 + part m c i j 1 + part m c i j 2 + part m c i j 3 := by
  have hi := i.isLt; have hj := j.isLt
  have hp : pt2Of (ix2 i j) = 8 * (i.val / 1024) + 4 * (j.val / 1024) + 3 := by
    show 4 * (2 * (i.val / 1024 - 0) + 1 * (j.val / 1024 - 0)) + 3 = _; omega
  have hN : pt2Of (ix2 i j) < cfg0.N := by rw [hp]; exact lt_of_lt_of_eq (by omega : _ < 16) N_0.symm
  unfold G2
  rw [dif_pos hN, ← outsAt0_sweep m c _ hN]
  have hl : loc2Of (ix2 i j) = ix2 (⟨i.val % 1024, by omega⟩ : Fin 1024) (⟨j.val % 1024, by omega⟩ : Fin 1024) := by
    funext a; match a with | ⟨0, _⟩ => rfl | ⟨1, _⟩ => rfl
  rw [hl]
  exact out3 m c ⟨_, hN⟩ _ _ i j (by show pt2Of (ix2 i j) % 4 = 3; rw [hp]; omega)
    (by show i.val = pt2Of (ix2 i j) / 8 * 1024 + i.val % 1024; rw [hp]; omega)
    (by show j.val = pt2Of (ix2 i j) / 4 % 2 * 1024 + j.val % 1024; rw [hp]; omega)

end Cert.GqaDaIdeal.Kernel

end
-- ==== Proof.GqaDaClaim.lean ====
/-
  The certificate of the grouped-query attention's input gradient: the value claim sets the kernel's result beside the reference's,
  index by index.
-/
module

public import proofs.«01_k».proof.Proof.GqaDaKernel
public import proofs.«01_k».proof.Proof.Gen.GqaDaRefIdeal.Run
public import proofs.«01_k».proof.Proof.Gen.GqaDaRefIdeal.Read
public import proofs.«01_k».proof.Defs

@[expose] public section

set_option maxRecDepth 16384

noncomputable section

namespace Cert.GqaDa

open Idealize.ShloMosaic Idealize.ShloMosaic.TcCoe Idealize.SL.Sem Idealize.ShloMosaic.StableHlo Cert.Sums

/-- The reference runs from any state, leaves its arguments as they were and its semaphores at zero. -/
theorem reference_frame : Cert.quiescent_GqaDaRefIdeal := fun m ρ _ =>
  (θ_run Cert.GqaDaRefIdeal.defs _ _).mono (fun r h => ⟨fun c => (h c).2, sem_eq_zero_of_no_sems (by decide) r.2⟩)
    (Cert.GqaDaRefIdeal.Value.run (F := Ideal) m ρ)

open Cert.GqaDaRefIdeal Cert.GqaDaRefIdeal.Read in
/-- The reference's result at an index: the sum over the input projection's columns of the gradient's entry times the weight's. -/
theorem reference_apply (z : Vec Ideal S2048x3072 .bf16) (w : Vec Ideal S4x2048x768 .bf16) (i j : Fin 2048) :
    val_main_v8 (F := Ideal) z w (ix2 i j)
      = ∑ q : Fin 3072, z (ix2 i q) * w (ix3 (⟨q.val / 768, by omega⟩ : Fin 4) j (⟨q.val % 768, by omega⟩ : Fin 768)) := by
  unfold val_main_v8 val_main_v3 val_main_v2 val_main_v1 val_main_v0
  pointwise

/-- The kernel's input gradient is the reference's. -/
theorem value : Cert.algebraic_GqaDaIdeal_GqaDaRefIdeal := by
  intro m g m' g' _ hargs
  refine ⟨fun c => Cert.GqaDaIdeal.Value.G2 m c, Cert.GqaDaIdeal.Value.run m g, ?_⟩
  refine (θ_run _ _ _).mono (fun r h c => ?_) (Cert.GqaDaRefIdeal.Value.run (F := Ideal) m' g')
  obtain ⟨h0, ha⟩ := h c
  obtain ⟨e0, e1⟩ := hargs c
  refine ⟨h0.trans ?_, ha⟩
  rw [Cert.GqaDaRefIdeal.Read.val_main_v8_eq, e0, e1]
  funext i
  rw [eq_ix2 i]
  refine (reference_apply _ _ _ _).trans (Eq.trans ?_ (Cert.GqaDaIdeal.Kernel.G2_apply m c _ _).symm)
  rw [sum_four (b := 768) rfl]
  have e (s : Fin 4) (q : Fin 768) : (⟨(s.val * 768 + q.val) / 768, by omega⟩ : Fin 4) = s ∧ (⟨(s.val * 768 + q.val) % 768, by omega⟩ : Fin 768) = q :=
    ⟨Fin.ext (by show (s.val * 768 + q.val) / 768 = s.val; omega), Fin.ext (by show (s.val * 768 + q.val) % 768 = q.val; omega)⟩
  have p (s : Fin 4) : ∑ q : Fin 768, Cert.GqaDaIdeal.Kernel.argZ m c (ix2 (i 0) ⟨s.val * 768 + q.val, by omega⟩)
          * Cert.GqaDaIdeal.Kernel.argW m c (ix3 (⟨(s.val * 768 + q.val) / 768, by omega⟩ : Fin 4) (i 1) (⟨(s.val * 768 + q.val) % 768, by omega⟩ : Fin 768))
      = Cert.GqaDaIdeal.Kernel.part m c (i 0) (i 1) s :=
    sum_eq fun q => by rw [(e s q).1, (e s q).2]
  exact congrArg₂ _ (congrArg₂ _ (congrArg₂ _ (p 0) (p 1)) (p 2)) (p 3)

end Cert.GqaDa

end
-- ==== Proof.DownKernel.lean ====
/-
  What the kernel of the feed-forward layer's second product leaves in its result over the extended reals, for all arguments:
  the sum over the hidden columns, a half at a time, of the activation times the weight, on top of the residual stream.
-/
module

public import proofs.«01_k».proof.Proof.Gen.DownIdeal.Value
public import proofs.«01_k».proof.Proof.Sums
public import Idealize.ShloMosaic.Lib.Pointwise

@[expose] public section

set_option maxRecDepth 16384

noncomputable section

namespace Cert.DownIdeal.Kernel

open Idealize.ShloMosaic Idealize.ShloMosaic.TcCoe Idealize.SL.Sem
open Cert.DownIdeal Cert.DownIdeal.Gen Cert.DownIdeal.Value Cert.Sums

/-! ## The two cases of a point -/

section cases
variable {F : FTy → Type} [FloatOps F]

/-- The offsets of a load or store of a whole window. -/
theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1024x2816 .bf16) (harg3 : arg3.IsWhole)
  (arg4 : Memref sig .tc .vmem S1x2816x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec F S1024x2816 .bf16) (x1 : Vec F S1x2816x1024 .bf16) (x2 : Vec F S1024x1024 .f32) (xs0 : Vec F S1024x1024 .f32)

/-- The accumulator after the first half. -/
theorem sout_A_eq (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  simp only [View.canon_unit_zero (S := S1024x1024) hz, View.readAt_eq_ld, harg3.read_unread, harg4.read_unread, harg7.read_unread,
    View.ld_unit_zero (S := S1024x2816) hz, View.ld_unit_zero (S := S1x2816x1024) hz3, View.ld_unit_zero (S := S1024x1024) hz]

/-- The result's block after the second half. -/
theorem out_B_eq (hc0 : ¬cond0_0 i) (hc1 : cond0_1 i) (hc2 : cond0_2 i) :
    out0_B_3 c i arg3 harg3 arg4 harg4 arg5 harg5 arg6 harg6 arg7 harg7 hc0 hc1 hc2 x0 x1 x2 xs0 = k0_pay4 (k0_pay3 x0 x1 xs0) x2 := by
  unfold out0_B_3
  rw [View.read_writes_eq_canon _ _ _ (cover0_B_3 c i arg3 harg3 arg4 harg4 arg5 harg5 arg6 harg6 arg7 harg7 hc0 hc1 hc2 x0 x1 x2 xs0)]
  unfold kernelRun0_B
  dsimp only
  sl_unfold_words
  simp only [View.canon_unit_zero (S := S1024x1024) hz, View.canon_cons_unit_zero (S := S1024x1024) hz, View.readCov_unit_zero (S := S1024x1024) _ hz,
    View.readAt_eq_ld, harg3.read_unread, harg4.read_unread, harg5.read_unread, harg7.read_unread,
    View.ld_unit_zero (S := S1024x2816) hz, View.ld_unit_zero (S := S1x2816x1024) hz3, View.ld_unit_zero (S := S1024x1024) hz]

end cases

/-! ## The payloads at an index -/

theorem pay2_apply (x : Vec Ideal S1024x2816 .bf16) (w : Vec Ideal S1x2816x1024 .bf16) (r k : Fin 1024) :
    k0_pay2 x w (ix2 r k) = ∑ q : Fin 2816, x (ix2 r q) * w (ix3 (0 : Fin 1) q k) := by
  unfold k0_pay2 k0_pay1
  pointwise

theorem pay3_apply (x : Vec Ideal S1024x2816 .bf16) (w : Vec Ideal S1x2816x1024 .bf16) (a : Vec Ideal S1024x1024 .f32) (r k : Fin 1024) :
    k0_pay3 x w a (ix2 r k) = a (ix2 r k) + ∑ q : Fin 2816, x (ix2 r q) * w (ix3 (0 : Fin 1) q k) := by
  unfold k0_pay3 k0_pay1
  pointwise

theorem pay4_apply (a b : Vec Ideal S1024x1024 .f32) (r k : Fin 1024) : k0_pay4 a b (ix2 r k) = a (ix2 r k) + b (ix2 r k) := by
  unfold k0_pay4
  pointwise

/-! ## The blocks -/

/-- The block index of each window at a grid point. -/
theorem idx0 : ∀ t : Fin grid0.N, win0_0.index t 0 = t.val / 4 ∧ win0_0.index t 1 = t.val % 2 := by decide +kernel
theorem idx1 : ∀ t : Fin grid0.N,
    win0_1.index t 0 = 0 ∧ win0_1.index t 1 = t.val % 2 ∧ win0_1.index t 2 = t.val / 2 % 2 := by decide +kernel
theorem idx2 : ∀ t : Fin grid0.N, win0_2.index t 0 = t.val / 4 ∧ win0_2.index t 1 = t.val / 2 % 2 := by decide +kernel

variable (m : (ℓ : Loc nD τ sig) → Buf (Elt Ideal) ℓ) (c : Dev nD)

/-- The arguments the kernel is run on: the activation, the weight and the residual stream. -/
abbrev argA : Vec Ideal S2048x5632 .bf16 := m ((c : Thread nD τ).loc main_arg0)
abbrev argW : Vec Ideal S1x5632x2048 .bf16 := m ((c : Thread nD τ).loc main_arg1)
abbrev argH : Vec Ideal S2048x2048 .f32 := m ((c : Thread nD τ).loc main_arg2)

/-- Their blocks at a grid point. -/
abbrev bA (t : Fin cfg0.N) : Vec Ideal S1024x2816 .bf16 := iblk m c 0 t
abbrev bW (t : Fin cfg0.N) : Vec Ideal S1x2816x1024 .bf16 := iblk m c 1 t
abbrev bH (t : Fin cfg0.N) : Vec Ideal S1024x1024 .f32 := iblk m c 2 t

/-- The block of the activation. -/
theorem blk_a (t : Fin cfg0.N) (r : Fin 1024) (q : Fin 2816) (i : Fin 2048) (j : Fin 5632)
    (hi : i.val = t.val / 4 * 1024 + r.val) (hj : j.val = t.val % 2 * 2816 + q.val) :
    bA m c t (ix2 r q) = argA m c (ix2 i j) := by
  unfold bA iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 1024 + 1 * r.val = i.val; rw [h.1]; omega
  | ⟨1, _⟩ => show win0_0.index t 1 * 2816 + 1 * q.val = j.val; rw [h.2]; omega

/-- The block of the weight. -/
theorem blk_w (t : Fin cfg0.N) (q : Fin 2816) (k : Fin 1024) (p : Fin 5632) (j : Fin 2048)
    (hp : p.val = t.val % 2 * 2816 + q.val) (hj : j.val = t.val / 2 % 2 * 1024 + k.val) :
    bW m c t (ix3 (0 : Fin 1) q k) = argW m c (ix3 (0 : Fin 1) p j) := by
  unfold bW iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = 0; rw [h.1]
  | ⟨1, _⟩ => show win0_1.index t 1 * 2816 + 1 * q.val = p.val; rw [h.2.1]; omega
  | ⟨2, _⟩ => show win0_1.index t 2 * 1024 + 1 * k.val = j.val; rw [h.2.2]; omega

/-- The block of the residual stream. -/
theorem blk_h (t : Fin cfg0.N) (r k : Fin 1024) (i j : Fin 2048)
    (hi : i.val = t.val / 4 * 1024 + r.val) (hj : j.val = t.val / 2 % 2 * 1024 + k.val) :
    bH m c t (ix2 r k) = argH m c (ix2 i j) := by
  unfold bH iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 1024 + 1 * r.val = i.val; rw [h.1]; omega
  | ⟨1, _⟩ => show win0_2.index t 1 * 1024 + 1 * k.val = j.val; rw [h.2]; omega

/-! ## The result -/

/-- One half's part of the product. -/
def part (i j : Fin 2048) (s : Fin 2) : EReal :=
  ∑ q : Fin 2816, argA m c (ix2 i ⟨s.val * 2816 + q.val, by have := s.isLt; have := q.isLt; omega⟩)
    * argW m c (ix3 (0 : Fin 1) (⟨s.val * 2816 + q.val, by have := s.isLt; have := q.isLt; omega⟩ : Fin 5632) j)

/-- A point's product of blocks is its half's part. -/
theorem part_eq (t : Fin cfg0.N) (r k : Fin 1024) (i j : Fin 2048) (s : Fin 2) (hs : s.val = t.val % 2)
    (hi : i.val = t.val / 4 * 1024 + r.val) (hj : j.val = t.val / 2 % 2 * 1024 + k.val) :
    ∑ q : Fin 2816, bA m c t (ix2 r q) * bW m c t (ix3 (0 : Fin 1) q k) = part m c i j s := by
  refine sum_eq fun q => ?_
  have hq := q.isLt; have := s.isLt
  rw [blk_a m c t r q i ⟨s.val * 2816 + q.val, by omega⟩ hi (by show s.val * 2816 + q.val = _; omega),
    blk_w m c t q k ⟨s.val * 2816 + q.val, by omega⟩ j (by show s.val * 2816 + q.val = _; omega) hj]

/-- The accumulator after the first half. -/
theorem acc0 (t : Fin cfg0.N) (r k : Fin 1024) (i j : Fin 2048) (ht : t.val % 2 = 0)
    (hi : i.val = t.val / 4 * 1024 + r.val) (hj : j.val = t.val / 2 % 2 * 1024 + k.val) :
    (outsAt0 m c t.val t.isLt).2 (ix2 r k) = part m c i j 0 := by
  rw [outsAt0_A m c t ht (by omega) (by omega)]
  dsimp only
  rw [sout_A_eq, pay2_apply]
  exact part_eq m c t r k i j 0 ht.symm hi hj

/-- The block written back after the second half. -/
theorem out1 (t : Fin cfg0.N) (r k : Fin 1024) (i j : Fin 2048) (ht : t.val % 2 = 1)
    (hi : i.val = t.val / 4 * 1024 + r.val) (hj : j.val = t.val / 2 % 2 * 1024 + k.val) :
    (outsAt0 m c t.val t.isLt).1 (ix2 r k) = part m c i j 0 + part m c i j 1 + argH m c (ix2 i j) := by
  rw [outsAt0_B m c t (by omega) (by omega) (by omega)]
  dsimp only
  rw [out_B_eq, pay4_apply, pay3_apply, acc0 m c ⟨t.val - 1, Nat.lt_of_le_of_lt (Nat.sub_le _ _) t.isLt⟩ r k i j (by show (t.val - 1) % 2 = 0; omega)
    (by show _ = (t.val - 1) / 4 * _ + _; omega) (by show _ = (t.val - 1) / 2 % 2 * _ + _; omega)]
  exact congrArg₂ (part m c i j 0 + · + ·) (part_eq m c t r k i j 1 ht.symm hi hj) (blk_h m c t r k i j hi hj)

/-- The residual stream past the layer, index by index. -/
theorem G3_apply (i j : Fin 2048) : G3 m c (ix2 i j) = part m c i j 0 + part m c i j 1 + argH m c (ix2 i j) := by
  have hi := i.isLt; have hj := j.isLt
  have hp : pt3Of (ix2 i j) = 4 * (i.val / 1024) + 2 * (j.val / 1024) + 1 := by
    show 2 * (2 * (i.val / 1024 - 0) + 1 * (j.val / 1024 - 0)) + 1 = _; omega
  have hN : pt3Of (ix2 i j) < cfg0.N := by rw [hp]; exact lt_of_lt_of_eq (by omega : _ < 8) N_0.symm
  unfold G3
  rw [dif_pos hN, ← outsAt0_sweep m c _ hN]
  have hl : loc3Of (ix2 i j) = ix2 (⟨i.val % 1024, by omega⟩ : Fin 1024) (⟨j.val % 1024, by omega⟩ : Fin 1024) := by
    funext a; match a with | ⟨0, _⟩ => rfl | ⟨1, _⟩ => rfl
  rw [hl]
  exact out1 m c ⟨_, hN⟩ _ _ i j (by show pt3Of (ix2 i j) % 2 = 1; rw [hp]; omega)
    (by show i.val = pt3Of (ix2 i j) / 4 * 1024 + i.val % 1024; rw [hp]; omega)
    (by show j.val = pt3Of (ix2 i j) / 2 % 2 * 1024 + j.val % 1024; rw [hp]; omega)

end Cert.DownIdeal.Kernel

end
-- ==== Proof.DownClaim.lean ====
/-
  The certificate of the feed-forward layer's second product: the value claim sets the kernel's result beside the
  reference's, index by index.
-/
module

public import proofs.«01_k».proof.Proof.DownKernel
public import proofs.«01_k».proof.Proof.Gen.DownRefIdeal.Run
public import proofs.«01_k».proof.Proof.Gen.DownRefIdeal.Read
public import proofs.«01_k».proof.Defs

@[expose] public section

set_option maxRecDepth 16384

noncomputable section

namespace Cert.Down

open Idealize.ShloMosaic Idealize.ShloMosaic.TcCoe Idealize.SL.Sem Idealize.ShloMosaic.StableHlo Cert.Sums

/-- The reference runs from any state, leaves its arguments as they were and its semaphores at zero. -/
theorem reference_frame : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

open Cert.DownRefIdeal Cert.DownRefIdeal.Read in
/-- The reference's result at an index: the residual stream plus the sum over the hidden columns. -/
theorem reference_apply (a : Vec Ideal S2048x5632 .bf16) (w : Vec Ideal S1x5632x2048 .bf16) (h : Vec Ideal S2048x2048 .f32) (i j : Fin 2048) :
    val_main_v5 (F := Ideal) a w h (ix2 i j) = h (ix2 i j) + ∑ q : Fin 5632, a (ix2 i q) * w (ix3 (0 : Fin 1) q j) := by
  unfold val_main_v5 val_main_v4 val_main_v3 val_main_v2 val_main_v1 val_main_v0
  pointwise

/-- A sum over the hidden columns, half by half. -/
theorem sum_halves (f : Fin 5632 → EReal) :
    ∑ i, f i = ∑ q : Fin 2816, f ⟨0 * 2816 + q.val, by omega⟩ + ∑ q : Fin 2816, f ⟨1 * 2816 + q.val, by omega⟩ := by
  rw [show (∑ i, f i) = ∑ i : Fin (2 * 2816), f i from rfl, sum_runs, Fin.sum_univ_two]
  exact congrArg₂ (· + ·) (sum_eq fun q => congrArg f (Fin.ext (by show q.val + 2816 * 0 = 0 * 2816 + q.val; omega)))
    (sum_eq fun q => congrArg f (Fin.ext (by show q.val + 2816 * 1 = 1 * 2816 + q.val; omega)))

/-- The kernel's result is the reference's. -/
theorem value : Cert.algebraic_DownIdeal_DownRefIdeal := by
  intro m g m' g' _ hargs
  refine ⟨fun c => Cert.DownIdeal.Value.G3 m c, Cert.DownIdeal.Value.run m g, ?_⟩
  refine (θ_run _ _ _).mono (fun r h c => ?_) (Cert.DownRefIdeal.Value.run (F := Ideal) m' g')
  obtain ⟨h0, ha⟩ := h c
  obtain ⟨e0, e1, e2⟩ := hargs c
  refine ⟨h0.trans ?_, ha⟩
  rw [Cert.DownRefIdeal.Read.val_main_v5_eq, e0, e1, e2]
  funext i
  rw [eq_ix2 i]
  refine (reference_apply _ _ _ _ _).trans (Eq.trans ?_ (Cert.DownIdeal.Kernel.G3_apply m c _ _).symm)
  rw [sum_halves]
  exact add_comm _ _

end Cert.Down

end
-- ==== Proof.GqaFwdKernel.lean ====
/-
  What the grouped-query attention's forward kernel leaves in its result over the extended reals, for all arguments: at
  every index the weighted sum of the values divided by the sum of the weights.
-/
module

public import proofs.«01_k».proof.Proof.Gen.GqaFwdIdeal.Value
public import proofs.«01_k».proof.Proof.GqaSpec
public import proofs.«01_k».proof.Proof.Sums
public import Idealize.ShloMosaic.Lib.Pointwise

@[expose] public section

set_option maxRecDepth 16384

noncomputable section

namespace Cert.GqaFwdIdeal.Kernel

open Idealize.ShloMosaic Idealize.ShloMosaic.TcCoe Idealize.SL.Sem
open Cert.GqaFwdIdeal Cert.GqaFwdIdeal.Gen Cert.GqaFwdIdeal.Value Cert.Rows Cert.Gqa Cert.Sums

/-! ## The payloads at an index -/

/-- The pattern of minus infinity denotes the least extended real. -/
theorem ofBits_bot : Ideal.ofBits .f32 4286578688#32 = ⊥ := by simp [Ideal.ofBits, Ideal.ieee]

/-- A head's weighted sum of the values over the sum of its weights. -/
def headOut (k v : Vec Ideal S2048x128 .bf16) (q : Fin 128 → EReal) (d : Fin 128) : EReal :=
  Ideal.div (∑ s : Fin 2048, wgt (fun u => ∑ e : Fin 128, q e * k (ix2 u e)) s * v (ix2 s d))
    (mass fun u => ∑ e : Fin 128, q e * k (ix2 u e))

theorem pay1_apply (k v : Vec Ideal S2048x128 .bf16) (q : Vec Ideal S512x128 .bf16) (r : Fin 512) (d : Fin 128) :
    k0_pay1 k v q (constant S512x2048 .f32 0x00000000#32) (ix2 r d) = headOut k v (fun e => q (ix2 r e)) d := by
  unfold k0_pay1 headOut mass wgt top
  pointwise [ofBits_bot]

theorem pay2_apply (k v : Vec Ideal S2048x128 .bf16) (q : Vec Ideal S512x128 .bf16) (r : Fin 512) (d : Fin 128) :
    k0_pay2 k v q (ix2 r d) = headOut k v (fun e => q (ix2 r e)) d := by
  unfold k0_pay2 headOut mass wgt top
  pointwise [ofBits_bot]

theorem pay3_apply (k v : Vec Ideal S2048x128 .bf16) (q : Vec Ideal S512x128 .bf16) (r : Fin 512) (d : Fin 128) :
    k0_pay3 k v q (ix2 r d) = headOut k v (fun e => q (ix2 r e)) d := by
  unfold k0_pay3 headOut mass wgt top
  pointwise [ofBits_bot]

theorem pay4_apply (k v : Vec Ideal S2048x128 .bf16) (q : Vec Ideal S512x128 .bf16) (r : Fin 512) (d : Fin 128) :
    k0_pay4 k v q (ix2 r d) = headOut k v (fun e => q (ix2 r e)) d := by
  unfold k0_pay4 headOut mass wgt top
  pointwise [ofBits_bot]

/-! ## The block a point leaves -/

theorem hz : (![0, 0] : Fin 2 → Nat) = fun _ => 0 := funext fun a => by fin_cases a <;> rfl

/-- The block a point leaves: column `j` belongs to head `j / 128` of the block's four. -/
def blockOut (x0 : Vec Ideal S512x512 .bf16) (k v : Vec Ideal S2048x128 .bf16) : Vec Ideal S512x512 .bf16 := fun i =>
  headOut k v (fun e => x0 (ix2 (i 0) (⟨128 * ((i 1).val / 128) + e.val, by
    have h : (i 1).val < 512 := (i 1).isLt; have := e.isLt; omega⟩ : Fin 512))) ⟨(i 1).val % 128, by omega⟩

/-- A piece of the block: the head at columns `128 g` and on. -/
theorem piece (x0 : Vec Ideal S512x512 .bf16) (k v : Vec Ideal S2048x128 .bf16) (g : Fin 4) (R : Rect S512x512)
    (f : R.shape.Idx → S512x512.Idx) (w : Vec Ideal S512x128 .bf16) (q : Vec Ideal S512x128 .bf16)
    (hw : ∀ r d, w (ix2 r d) = headOut k v (fun e => q (ix2 r e)) d)
    (hq : ∀ r e, q (ix2 r e) = x0 (ix2 r (⟨128 * g.val + e.val, by have := g.isLt; have := e.isLt; omega⟩ : Fin 512)))
    (r : Fin 512) (d : Fin 128) (y : S512x512.Idx) (h0 : (y 0).val = r.val) (h1 : (y 1).val = 128 * g.val + d.val) :
    w (ix2 r d) = blockOut x0 k v y := by
  rw [hw]
  unfold blockOut
  have hd := d.isLt
  have e0 : y 0 = r := Fin.ext h0
  have e1 : (⟨(y 1).val % 128, by omega⟩ : Fin 128) = d := Fin.ext (by show (y 1).val % 128 = d.val; rw [h1]; omega)
  rw [e1]
  refine congrArg (fun q => headOut k v q d) (funext fun e => ?_)
  rw [hq]
  refine congrArg x0 (funext fun a => Fin.ext ?_)
  match a with
  | ⟨0, _⟩ => exact h0.symm
  | ⟨1, _⟩ => show 128 * g.val + e.val = 128 * ((y 1).val / 128) + e.val; rw [h1]; omega

/-- The four pieces are the block. -/
theorem out_eq (x0 : Vec Ideal S512x512 .bf16) (k v : Vec Ideal S2048x128 .bf16) : out0_3 x0 k v = blockOut x0 k v := by
  funext y
  unfold out0_3
  rw [View.ld_unit_zero (S := S2048x128) hz, View.ld_unit_zero (S := S2048x128) hz]
  refine View.canon_apply_of_pieces (blockOut x0 k v) _ ?_ y (cover0_3 _ _ _ _ y)
  intro pc hpc
  rcases List.mem_cons.mp hpc with rfl | hpc
  · intro x
    rw [eq_ix2 x]
    refine piece x0 k v 3 r0_4 r0_4.idx _ (View.ld x0 r0_4) (pay2_apply k v _) (fun r e => congrArg x0 (funext fun a => Fin.ext ?_)) _ _ _ ?_ ?_
    · match a with
      | ⟨0, _⟩ => show 0 + 1 * r.val = r.val; omega
      | ⟨1, _⟩ => show 384 + 1 * e.val = 128 * 3 + e.val; omega
    · show 0 + 1 * (x 0).val = (x 0).val; omega
    · show 384 + 1 * (x 1).val = 128 * 3 + (x 1).val; omega
  rcases List.mem_cons.mp hpc with rfl | hpc
  · intro x
    rw [eq_ix2 x]
    refine piece x0 k v 2 r0_3 r0_3.idx _ (View.ld x0 r0_3) (pay1_apply k v _) (fun r e => congrArg x0 (funext fun a => Fin.ext ?_)) _ _ _ ?_ ?_
    · match a with
      | ⟨0, _⟩ => show 0 + 1 * r.val = r.val; omega
      | ⟨1, _⟩ => show 256 + 1 * e.val = 128 * 2 + e.val; omega
    · show 0 + 1 * (x 0).val = (x 0).val; omega
    · show 256 + 1 * (x 1).val = 128 * 2 + (x 1).val; omega
  rcases List.mem_cons.mp hpc with rfl | hpc
  · intro x
    rw [eq_ix2 x]
    refine piece x0 k v 1 r0_2 r0_2.idx _ (View.ld x0 r0_2) (pay4_apply k v _) (fun r e => congrArg x0 (funext fun a => Fin.ext ?_)) _ _ _ ?_ ?_
    · match a with
      | ⟨0, _⟩ => show 0 + 1 * r.val = r.val; omega
      | ⟨1, _⟩ => show 128 + 1 * e.val = 128 * 1 + e.val; omega
    · show 0 + 1 * (x 0).val = (x 0).val; omega
    · show 128 + 1 * (x 1).val = 128 * 1 + (x 1).val; omega
  rcases List.mem_cons.mp hpc with rfl | hpc
  · intro x
    rw [eq_ix2 x]
    refine piece x0 k v 0 r0_1 r0_1.idx _ (View.ld x0 r0_1) (pay3_apply k v _) (fun r e => congrArg x0 (funext fun a => Fin.ext ?_)) _ _ _ ?_ ?_
    · match a with
      | ⟨0, _⟩ => show 0 + 1 * r.val = r.val; omega
      | ⟨1, _⟩ => show 0 + 1 * e.val = 128 * 0 + e.val; omega
    · show 0 + 1 * (x 0).val = (x 0).val; omega
    · show 0 + 1 * (x 1).val = 128 * 0 + (x 1).val; omega
  nomatch hpc

/-! ## The blocks of the arguments and of the result -/

/-- The block index of each window at a grid point. -/
theorem idx0 : ∀ t : Fin grid0.N, win0_0.index t 0 = t.val % 4 ∧ win0_0.index t 1 = t.val / 4 := by decide +kernel
theorem idx1 : ∀ t : Fin grid0.N, win0_1.index t 0 = 0 ∧ win0_1.index t 1 = 16 + t.val / 4 := by decide +kernel
theorem idx2 : ∀ t : Fin grid0.N, win0_2.index t 0 = 0 ∧ win0_2.index t 1 = 20 + t.val / 4 := by decide +kernel
theorem idx3 : ∀ t : Fin grid0.N, win0_3.index t 0 = t.val % 4 ∧ win0_3.index t 1 = t.val / 4 := by decide +kernel

/-- Every point writes its block back. -/
theorem flush3 : ∀ t : Fin cfg0.N, (cfg0.win 3).flush t = true :=
  (by decide +kernel : ∀ t : Fin grid0.N, win0_3.flush t = true)

variable (m : (ℓ : Loc nD τ sig) → Buf (Elt Ideal) ℓ) (c : Dev nD)

/-- The arguments the kernel is run on. -/
abbrev argX : Arr 2048 2560 := m ((c : Thread nD τ).loc main_arg0)
abbrev argY : Arr 2048 3072 := m ((c : Thread nD τ).loc main_arg1)

/-- The blocks of queries and keys of a grid point, as arrays. -/
abbrev blkQ (t : Fin cfg0.N) : Vec Ideal S512x512 .bf16 := iblk m c 0 t
abbrev blkK (t : Fin cfg0.N) : Vec Ideal S2048x128 .bf16 := iblk m c 1 t

/-- The block of queries of a grid point. -/
theorem blk_q (t : Fin cfg0.N) (r : Fin 512) (j : Fin 512) (i : Fin 2048) (l : Fin 2560) (hi : i.val = 512 * (t.val % 4) + r.val)
    (hl : l.val = 512 * (t.val / 4) + j.val) : (iblk m c 0 t : Vec Ideal S512x512 .bf16) (ix2 r j) = argX m c (ix2 i l) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 512 + 1 * r.val = i.val; rw [h.1]; omega
  | ⟨1, _⟩ => show win0_0.index t 1 * 512 + 1 * j.val = l.val; rw [h.2]; omega

/-- The block of keys of a grid point. -/
theorem blk_k (t : Fin cfg0.N) (kv : Fin 4) (ht : t.val / 4 = kv.val) (s : Fin 2048) (d : Fin 128) :
    (iblk m c 1 t : Vec Ideal S2048x128 .bf16) (ix2 s d) = krow (argX m c) kv s d := by
  unfold iblk
  rw [View.read_apply]
  show V m c main_arg0 _ = _
  unfold V krow
  refine congrArg (m ((c : Thread nD τ).loc main_arg0)) (funext fun a => Fin.ext ?_)
  have h := idx1 t
  match a with
  | ⟨0, _⟩ => show win0_1.index t 0 * 2048 + 1 * s.val = s.val; rw [h.1]; omega
  | ⟨1, _⟩ => show win0_1.index t 1 * 128 + 1 * d.val = 2048 + 128 * kv.val + d.val; rw [h.2]; omega

/-- The block of values of a grid point. -/
theorem blk_v (t : Fin cfg0.N) (kv : Fin 4) (ht : t.val / 4 = kv.val) (s : Fin 2048) (d : Fin 128) :
    (iblk m c 2 t : Vec Ideal S2048x128 .bf16) (ix2 s d) = vrow (argY m c) kv s d := by
  unfold iblk
  rw [View.read_apply]
  show V m c main_arg1 _ = _
  unfold V vrow
  refine congrArg (m ((c : Thread nD τ).loc main_arg1)) (funext fun a => Fin.ext ?_)
  have h := idx2 t
  match a with
  | ⟨0, _⟩ => show win0_2.index t 0 * 2048 + 1 * s.val = s.val; rw [h.1]; omega
  | ⟨1, _⟩ => show win0_2.index t 1 * 128 + 1 * d.val = 2560 + 128 * kv.val + d.val; rw [h.2]; omega

/-- An entry of the result is the entry of the block its point writes back. -/
theorem entry (t : Fin cfg0.N) (r j : Fin 512) (i l : Fin 2048) (hi : i.val = 512 * (t.val % 4) + r.val)
    (hl : l.val = 512 * (t.val / 4) + j.val) :
    ((dats m 0 c).arrAt 3 cfg0.N : Vec Ideal S2048x2048 .bf16) (ix2 i l)
      = blockOut (iblk m c 0 t) (iblk m c 1 t) (iblk m c 2 t) (ix2 r j) := by
  have hb := congrFun (blocks3 m c t (flush3 t)) (ix2 r j)
  rw [flushed3, View.read_apply, out_eq] at hb
  refine Eq.trans ?_ hb
  refine congrArg ((dats m 0 c).arrAt 3 cfg0.N) (funext fun a => Fin.ext ?_)
  have h := idx3 t
  match a with
  | ⟨0, _⟩ => show i.val = win0_3.index t 0 * 512 + 1 * r.val; rw [h.1]; omega
  | ⟨1, _⟩ => show l.val = win0_3.index t 1 * 512 + 1 * j.val; rw [h.2]; omega

/-- The attention's result, index by index, by query head. -/
theorem result_apply (q : Fin 2048) (h : Fin 16) (d : Fin 128) :
    ((dats m 0 c).arrAt 3 cfg0.N : Vec Ideal S2048x2048 .bf16) (ix2 q (col h d))
      = Ideal.div (∑ s, wgt (sc (argX m c) h q) s * vrow (argY m c) (kvOf h) s d) (mass (sc (argX m c) h q)) := by
  have hq := q.isLt; have hh := h.isLt; have hd := d.isLt
  let t : Fin cfg0.N := ⟨h.val / 4 * 4 + q.val / 512, lt_of_lt_of_eq (by omega : _ < 16) N_0.symm⟩
  have ht : t.val = h.val / 4 * 4 + q.val / 512 := rfl
  have hk : t.val / 4 = (kvOf h).val := by rw [ht]; show _ = h.val / 4; omega
  rw [entry m c t (⟨q.val % 512, by omega⟩ : Fin 512) (⟨(128 * h.val + d.val) % 512, by omega⟩ : Fin 512) q (col h d)
    (by show q.val = 512 * (t.val % 4) + q.val % 512; rw [ht]; omega)
    (by show 128 * h.val + d.val = 512 * (t.val / 4) + (128 * h.val + d.val) % 512; rw [ht]; omega)]
  unfold blockOut headOut
  have e1 : (⟨(128 * h.val + d.val) % 512 % 128, by omega⟩ : Fin 128) = d := Fin.ext (by
    show (128 * h.val + d.val) % 512 % 128 = d.val; omega)
  have es : (fun u : Fin 2048 => ∑ e : Fin 128, blkQ m c t
        (ix2 (⟨q.val % 512, by omega⟩ : Fin 512) (⟨128 * ((128 * h.val + d.val) % 512 / 128) + e.val, by have := e.isLt; omega⟩ : Fin 512))
          * blkK m c t (ix2 u e)) = sc (argX m c) h q := by
    funext u
    unfold sc
    refine sum_eq fun e => ?_
    refine congrArg₂ (· * ·) ?_ (blk_k m c t (kvOf h) hk u e)
    exact (blk_q m c t _ _ q ⟨128 * h.val + e.val, by have := e.isLt; omega⟩
      (by show q.val = 512 * (t.val % 4) + q.val % 512; rw [ht]; omega)
      (by show 128 * h.val + e.val = 512 * (t.val / 4) + (128 * ((128 * h.val + d.val) % 512 / 128) + e.val); rw [ht]; omega)).trans rfl
  refine congrArg₂ Ideal.div (sum_eq fun s => congrArg₂ (· * ·) (congrArg (fun f => wgt f s) es) ?_) (congrArg mass es)
  refine (congrArg (fun x => (iblk m c 2 t : Vec Ideal S2048x128 .bf16) (ix2 s x)) e1).trans ?_
  exact blk_v m c t (kvOf h) hk s d

end Cert.GqaFwdIdeal.Kernel

end
-- ==== Proof.GqaFwdClaim.lean ====
/-
  The certificate of the grouped-query attention's forward kernel: the reference normalises every weight before the sum
  over the keys, the kernel divides the sum, and with finite scores the two agree.
-/
module

public import proofs.«01_k».proof.Proof.GqaFwdKernel
public import proofs.«01_k».proof.Proof.GqaClaim
public import proofs.«01_k».proof.Proof.Gen.GqaFwdRefIdeal.Read
public import proofs.«01_k».proof.Proof.Gen.Pre_finite_qk_fwd
public import proofs.«01_k».proof.Defs

@[expose] public section

set_option maxRecDepth 16384

noncomputable section

namespace Cert.GqaFwd

open Idealize.ShloMosaic Idealize.ShloMosaic.TcCoe Idealize.SL.Sem Idealize.ShloMosaic.StableHlo Cert.Sums Cert.Rows Cert.Gqa

/-- The reference runs from any state, leaves its arguments as they were and its semaphores at zero. -/
theorem reference_frame : Cert.quiescent_GqaFwdRefIdeal := fun m ρ _ =>
  (θ_run Cert.GqaFwdRefIdeal.defs _ _).mono (fun r h => ⟨fun c => (h c).2, sem_eq_zero_of_no_sems (by decide) r.2⟩)
    (Cert.GqaFwdRefIdeal.Value.run (F := Ideal) m ρ)

/-- The precondition makes every query and key a real. -/
theorem finite_of_pre_fwd (X : Arr 2048 2560) (Y : Arr 2048 3072)
    (h : Cert.Pre_finite_qk_fwd.fn (F := Ideal) X Y = fun _ => 1#1) : Cert.GqaRefIdeal.Stages.Finite X := by
  intro i
  have hi := congrFun h i
  unfold Cert.Pre_finite_qk_fwd.fn at hi
  pointwise at hi
  rw [ofBits_inf] at hi
  by_cases hlt : max (X i) (-(X i)) < ⊤
  · exact real_of_abs_lt _ hlt
  · have hd : decide ((FloatOps.absf (X i) : Ideal .f32) < ⊤) = false := decide_eq_false hlt
    rw [hd] at hi
    exact absurd hi (by decide)

section reference
open Cert.GqaFwdRefIdeal Cert.GqaFwdRefIdeal.Read Cert.GqaFwdRefIdeal.Gen

variable (X : Arr 2048 2560) (Y : Arr 2048 3072)

/-- The queries, by key head and query head. -/
theorem q_apply (q : Fin 2048) (a g : Fin 4) (d : Fin 128) :
    val_main_v2 (F := Ideal) X (ix4 q a g d) = qrow X (headOf a g) q d := by
  rw [val_main_v2_apply, val_main_v1_apply, val_main_v0_apply]
  have h0 := q.isLt; have h1 := a.isLt; have h2 := g.isLt; have h3 := d.isLt
  refine congrArg X (funext fun i => Fin.ext ?_)
  match i with
  | ⟨0, _⟩ => show (((q.val * 4 + a.val) * 4 + g.val) * 128 + d.val) / 2048 = q.val; omega
  | ⟨1, _⟩ => show (((q.val * 4 + a.val) * 4 + g.val) * 128 + d.val) % 2048 = 128 * (4 * a.val + g.val) + d.val; omega

/-- The keys, by key head. -/
theorem k_apply (s : Fin 2048) (a : Fin 4) (d : Fin 128) : val_main_v5 (F := Ideal) X (ix3 s a d) = krow X a s d := by
  rw [val_main_v5_apply, val_main_v4_apply, val_main_v3_apply]
  have h0 := s.isLt; have h1 := a.isLt; have h3 := d.isLt
  refine congrArg X (funext fun i => Fin.ext ?_)
  match i with
  | ⟨0, _⟩ => show ((s.val * 4 + a.val) * 128 + d.val) / 512 = s.val; omega
  | ⟨1, _⟩ => show 2048 + ((s.val * 4 + a.val) * 128 + d.val) % 512 = 2048 + 128 * a.val + d.val; omega

/-- The values, by key head. -/
theorem v_apply (s : Fin 2048) (a : Fin 4) (d : Fin 128) : val_main_v8 (F := Ideal) Y (ix3 s a d) = vrow Y a s d := by
  rw [val_main_v8_apply, val_main_v7_apply, val_main_v6_apply]
  have h0 := s.isLt; have h1 := a.isLt; have h3 := d.isLt
  refine congrArg Y (funext fun i => Fin.ext ?_)
  match i with
  | ⟨0, _⟩ => show ((s.val * 4 + a.val) * 128 + d.val) / 512 = s.val; omega
  | ⟨1, _⟩ => show 2560 + ((s.val * 4 + a.val) * 128 + d.val) % 512 = 2560 + 128 * a.val + d.val; omega

/-- The scores. -/
theorem sc_apply (a g : Fin 4) (q s : Fin 2048) :
    val_main_v10 (F := Ideal) X (ix4 a g q s) = sc X (headOf a g) q s := by
  unfold val_main_v10 val_main_v9 sc
  pointwise [q_apply, k_apply, Cert.GqaRefIdeal.Stages.kvOf_headOf]
  exact Finset.sum_congr rfl fun d _ => mul_comm _ _

/-- The maximum over the keys is the fold of the maximum over them. -/
theorem rowMax (x : FVec Ideal S4x4x2048x2048 .f32) (a g : Fin 4) (q : Fin 2048) :
    Host.reduce FloatOps.maximumf x (constant S_ .f32 0xFF800000#32) reducesTo_S4x4x2048x2048_S4x4x2048_d3 h_S_ (ix3 a g q)
      = Finset.univ.fold max (Ideal.ofBits .f32 0xFF800000#32) fun s => x (ix4 a g q s) := by
  have hr : S4x4x2048x2048.Reduces [3] S4x4x2048 := by decide
  rw [hostReduce_maximumf_eq_multiReduction x 0xFF800000#32 reducesTo_S4x4x2048x2048_S4x4x2048_d3 h_S_ hr (.inl rfl) rfl]
  pointwise

/-- The largest score of a query. -/
theorem max_apply (a g : Fin 4) (q : Fin 2048) :
    val_main_v11 (F := Ideal) X (ix3 a g q) = top (sc X (headOf a g) q) := by
  unfold val_main_v11 val_main_cst top
  rw [rowMax, Cert.GqaFwdIdeal.Kernel.ofBits_bot]
  exact congrArg (fun f => Finset.univ.fold max ⊥ f) (funext fun s => sc_apply X a g q s)

/-- The weights. -/
theorem wgt_apply (a g : Fin 4) (q s : Fin 2048) :
    val_main_v17 (F := Ideal) X (ix4 a g q s) = wgt (sc X (headOf a g) q) s := by
  have e : idx_main_v14 (idx_main_v15 (ix4 a g q s)) = ix3 a g q := funext fun i => match i with
    | ⟨0, _⟩ => rfl
    | ⟨1, _⟩ => rfl
    | ⟨2, _⟩ => rfl
  rw [val_main_v17_apply, val_main_v16_apply, val_main_v15_apply, val_main_v14_apply, val_main_v13_apply, val_main_v12_apply,
    val_main_cst_0_apply, e, sc_apply, max_apply, Ideal.ofBits_def, Cert.GqaFwdIdeal.Kernel.ofBits_bot, Ideal.maximumf_def, max_eq_right bot_le]
  rfl

/-- The probabilities. -/
theorem soft_apply (a g : Fin 4) (q s : Fin 2048) :
    val_main_v21 (F := Ideal) X (ix4 a g q s) = soft (sc X (headOf a g) q) s := by
  unfold val_main_v21 val_main_v20 val_main_v19 val_main_v18 val_main_cst_1 soft mass
  pointwise [wgt_apply]

/-- The attention's result, by key head and query head. -/
theorem out_apply (q : Fin 2048) (a g : Fin 4) (d : Fin 128) :
    val_main_v23 (F := Ideal) X Y (ix4 q a g d) = ∑ s, soft (sc X (headOf a g) q) s * vrow Y a s d := by
  unfold val_main_v23 val_main_v22
  pointwise [soft_apply, v_apply]
  exact Finset.sum_congr rfl fun s _ => mul_comm _ _

/-- The result's entry at a column. -/
theorem reference_apply (q : Fin 2048) (h : Fin 16) (d : Fin 128) :
    val_main_v25 (F := Ideal) X Y (ix2 q (col h d)) = ∑ s, soft (sc X h q) s * vrow Y (kvOf h) s d := by
  rw [val_main_v25_apply, val_main_v24_apply]
  have h1 := h.isLt; have h2 := d.isLt; have h3 := q.isLt
  have e : idx_main_v24 (ix2 q (col h d)) = ix4 q (kvOf h) (⟨h.val % 4, by omega⟩ : Fin 4) d :=
    funext fun a => Fin.ext (match a with
      | ⟨0, _⟩ => by show (q.val * 2048 + (128 * h.val + d.val)) / 2048 = q.val; omega
      | ⟨1, _⟩ => by show (q.val * 2048 + (128 * h.val + d.val)) / 512 % 4 = h.val / 4; omega
      | ⟨2, _⟩ => by show (q.val * 2048 + (128 * h.val + d.val)) / 128 % 4 = h.val % 4; omega
      | ⟨3, _⟩ => by show (q.val * 2048 + (128 * h.val + d.val)) % 128 = d.val; omega)
  have eh : headOf (kvOf h) (⟨h.val % 4, by omega⟩ : Fin 4) = h := Fin.ext (by show 4 * (h.val / 4) + h.val % 4 = h.val; omega)
  rw [e]
  refine (out_apply X Y q _ _ d).trans ?_
  rw [eh]

end reference

/-- A column of the result is a feature of a query head. -/
theorem col_of (j : Fin 2048) : j = col ⟨j.val / 128, by omega⟩ ⟨j.val % 128, by omega⟩ :=
  Fin.ext (by show j.val = 128 * (j.val / 128) + j.val % 128; omega)

/-- The kernel's attention is the reference's, wherever the queries and keys are finite. -/
theorem value : Cert.algebraic_GqaFwdIdeal_GqaFwdRefIdeal_pre_finite_qk_fwd := by
  intro m g m' g' hpre hargs
  refine ⟨fun c => (Cert.GqaFwdIdeal.Gen.dats m 0 c).arrAt 3 Cert.GqaFwdIdeal.cfg0.N, Cert.GqaFwdIdeal.Value.run_blocks m g, ?_⟩
  refine (θ_run _ _ _).mono (fun r h c => ?_) (Cert.GqaFwdRefIdeal.Value.run (F := Ideal) m' g')
  obtain ⟨h0, ha⟩ := h c
  obtain ⟨e0, e1⟩ := hargs c
  have hX := finite_of_pre_fwd _ _ (hpre c)
  refine ⟨h0.trans ?_, ha⟩
  rw [Cert.GqaFwdRefIdeal.Read.val_main_v25_eq, e0, e1]
  funext i
  rw [eq_ix2 i, col_of (i 1)]
  refine (reference_apply _ _ _ _ _).trans (Eq.trans ?_ (Cert.GqaFwdIdeal.Kernel.result_apply m c _ _ _).symm)
  exact soft_sum (by norm_num) _ _ fun s => Cert.GqaRefIdeal.Stages.sc_real hX _ _ s

end Cert.GqaFwd

end
-- ==== Proof.NormSpec.lean ====
/-
  The root-mean-square normalisation of one row over the extended reals, and its gradient: what the kernels compute and
  what the chain rule writes are equal for every row and every incoming gradient.
-/
module

public import Idealize.ShloMosaic.PureOps.Ideal.Laws
public import proofs.«01_k».proof.Proof.Sums

@[expose] public section

noncomputable section

namespace Cert.Norm

open Idealize.ShloMosaic

/-- The row's length as the programs' constant. -/
abbrev len : EReal := Ideal.ofBits .f32 0x45000000#32
/-- The constant added to the mean square. -/
abbrev eps : EReal := Ideal.ofBits .f32 0x358637BD#32

/-- The constant of the row's length is 2048. -/
theorem len_eq : len = ((2048 : ℝ) : EReal) := by
  simp [len, Ideal.ofBits, Ideal.ieee]
  rw [← EReal.coe_mul]
  norm_num

/-- The constant added to the mean square is a positive real. -/
theorem eps_eq : ∃ e : ℝ, 0 < e ∧ eps = (e : EReal) := by
  refine ⟨_, ?_, by simp [eps, Ideal.ofBits, Ideal.ieee]; rfl⟩
  positivity

/-- The mean square of a row plus the constant. -/
def ms (x : Fin 2048 → EReal) : EReal := Ideal.div (∑ j, x j * x j) len + eps

/-- The reciprocal of the root mean square of a row. -/
def rstd (x : Fin 2048 → EReal) : EReal := Ideal.rsqrt (ms x)

/-- The gradient of the normalised row with respect to the row, as the kernels compute it. -/
def grad (x w : Fin 2048 → EReal) (j : Fin 2048) : EReal :=
  rstd x * (w j - x j * rstd x * Ideal.div (∑ k, w k * (x k * rstd x)) len)

/-- The factor the chain rule writes in front of the row's own entry. -/
def coef (x w : Fin 2048 → EReal) : EReal :=
  Ideal.div ((∑ k, x k * w k) * (Ideal.ofBits .f32 0xBF000000#32 * Ideal.div (rstd x) (ms x))) len

/-- The same gradient as the chain rule writes it. -/
def gradChain (x w : Fin 2048 → EReal) (j : Fin 2048) : EReal :=
  w j * rstd x + x j * coef x w + coef x w * x j

/-- The constant minus one half. -/
theorem half_eq : Ideal.ofBits .f32 0xBF000000#32 = ((-(1 / 2) : ℝ) : EReal) := by
  simp [Ideal.ofBits, Ideal.ieee]
  rw [← EReal.coe_mul]
  norm_num

/-- Division by a nonzero real is multiplication by its inverse. -/
theorem div_coe (a : EReal) (b : ℝ) (hb : b ≠ 0) : Ideal.div a (b : EReal) = a * ((b⁻¹ : ℝ) : EReal) := by
  unfold Ideal.div
  rw [if_neg (by exact_mod_cast hb), ← EReal.coe_inv]

/-- A real that isn't negative comes out of a sum. -/
theorem sum_mul_coe {n : Nat} (f : Fin n → EReal) (r : ℝ) (hr : 0 ≤ r) : ∑ j, f j * (r : EReal) = (∑ j, f j) * (r : EReal) := by
  induction n with
  | zero => simp
  | succ n ih => rw [Fin.sum_univ_castSucc, Fin.sum_univ_castSucc, ih, mul_comm (_ + _), EReal.left_distrib_of_nonneg_of_ne_top (by exact_mod_cast hr) (EReal.coe_ne_top r), mul_comm _ (r : EReal), mul_comm _ (r : EReal)]

/-- Half of a product twice. -/
theorem twice (y : EReal) (a : ℝ) : y * (a : EReal) + y * (a : EReal) = y * ((2 * a : ℝ) : EReal) := by
  rw [EReal.coe_mul, show y * (((2 : ℝ) : EReal) * (a : EReal)) = ((2 : ℝ) : EReal) * (y * (a : EReal)) by ac_rfl]
  generalize y * (a : EReal) = z
  induction z with
  | bot => rw [EReal.coe_mul_bot_of_pos (by norm_num)]; rfl
  | top => rw [EReal.coe_mul_top_of_pos (by norm_num)]; rfl
  | coe z => rw [← EReal.coe_mul, ← EReal.coe_add]; exact congrArg _ (by ring)

/-- A square isn't negative. -/
theorem sq_nonneg' (x : EReal) : 0 ≤ x * x := by
  induction x with
  | bot => rw [EReal.bot_mul_bot]; exact le_top
  | top => rw [EReal.top_mul_top]; exact le_top
  | coe z => rw [← EReal.coe_mul]; exact_mod_cast mul_self_nonneg z

/-- The mean square plus the constant is infinite and the reciprocal root zero, or both are positive reals and the root's
square is the inverse. -/
theorem rstd_cases (x : Fin 2048 → EReal) : (ms x = ⊤ ∧ rstd x = 0)
    ∨ ∃ u r : ℝ, 0 < u ∧ 0 ≤ r ∧ r * r * u = 1 ∧ ms x = (u : EReal) ∧ rstd x = (r : EReal) := by
  obtain ⟨e, he, hE⟩ := eps_eq
  have hs : 0 ≤ ∑ j, x j * x j := Finset.sum_nonneg fun j _ => sq_nonneg' _
  unfold rstd ms
  generalize (∑ j, x j * x j) = z at hs
  rw [len_eq, hE, div_coe _ _ (by norm_num)]
  induction z with
  | bot => exact absurd hs (by simp)
  | top => left; rw [EReal.top_mul_coe_of_pos (by norm_num), EReal.top_add_coe]; exact ⟨rfl, rfl⟩
  | coe z =>
    right
    have hz : 0 ≤ z := by exact_mod_cast hs
    have hu : 0 < z * (2048 : ℝ)⁻¹ + e := by positivity
    rw [← EReal.coe_mul, ← EReal.coe_add]
    generalize z * (2048 : ℝ)⁻¹ + e = u at hu
    have h0 : Real.sqrt u ≠ 0 := (Real.sqrt_pos.mpr hu).ne'
    refine ⟨u, (Real.sqrt u)⁻¹, hu, inv_nonneg.mpr (Real.sqrt_nonneg u), ?_, rfl, ?_⟩
    · have h := Real.mul_self_sqrt hu.le
      rw [← mul_inv, h, inv_mul_cancel₀ hu.ne']
    · rw [Ideal.rsqrt_coe, if_neg (not_lt.mpr hu.le), if_neg hu.ne']

/-- What the kernels compute is what the chain rule writes. -/
theorem grad_eq (x w : Fin 2048 → EReal) (j : Fin 2048) : grad x w j = gradChain x w j := by
  unfold grad gradChain coef
  rcases rstd_cases x with ⟨hm, hR⟩ | ⟨u, r, hu, hr0, hr, hm, hR⟩
  · have h0 : Ideal.div (0 : EReal) len = 0 := by rw [len_eq, div_coe _ _ (by norm_num), zero_mul]
    have h1 : Ideal.div (0 : EReal) ⊤ = 0 := by unfold Ideal.div; rw [if_neg (by simp), zero_mul]
    simp only [hm, hR, h1, mul_zero, h0, zero_mul, add_zero]
  · rw [hm, hR, len_eq, half_eq, div_coe _ _ hu.ne', div_coe _ _ (by norm_num), div_coe _ _ (by norm_num)]
    have e1 : (∑ k, w k * (x k * (r : EReal))) = (∑ k, x k * w k) * (r : EReal) := by
      rw [← sum_mul_coe _ r hr0]
      exact Finset.sum_congr rfl fun k _ => by ac_rfl
    rw [e1]
    generalize (∑ k, x k * w k) = T
    generalize x j = y
    rw [sub_eq_add_neg, EReal.left_distrib_of_nonneg_of_ne_top (by exact_mod_cast hr0) (EReal.coe_ne_top r), add_assoc, mul_comm (w j)]
    refine congrArg ((r : EReal) * w j + ·) ?_
    have e2 : r * u⁻¹ = r * (r * r) := by
      rw [← div_eq_mul_inv, div_eq_iff hu.ne']
      linear_combination (-r) * hr
    have e3 : T * (((-(1 / 2) : ℝ) : EReal) * ((r : EReal) * ((u⁻¹ : ℝ) : EReal))) * ((2048⁻¹ : ℝ) : EReal)
        = T * ((-(1 / 2) * (r * (r * r)) * 2048⁻¹ : ℝ) : EReal) := by
      rw [← EReal.coe_mul, e2, ← EReal.coe_mul, mul_assoc, ← EReal.coe_mul]
    rw [e3, mul_comm (T * _) y, ← mul_assoc y T, twice]
    rw [show y * (r : EReal) * (T * (r : EReal) * ((2048⁻¹ : ℝ) : EReal)) = y * T * ((r : EReal) * (r : EReal) * ((2048⁻¹ : ℝ) : EReal)) by ac_rfl,
      mul_neg, show (r : EReal) * (y * T * ((r : EReal) * (r : EReal) * ((2048⁻¹ : ℝ) : EReal)))
        = y * T * ((r : EReal) * (r : EReal) * (r : EReal) * ((2048⁻¹ : ℝ) : EReal)) by ac_rfl,
      ← mul_neg, ← EReal.coe_mul, ← EReal.coe_mul, ← EReal.coe_mul, ← EReal.coe_neg]
    exact congrArg (fun z : ℝ => y * T * (z : EReal)) (by ring)

end Cert.Norm

end
-- ==== Proof.NormBwdKernel.lean ====
/-
  What the kernel of the normalisation's gradients leaves in its results over the extended reals, for all arguments: the
  residual's gradient plus the gradient of every row, and the scale's gradient summed over all rows.
-/
module

public import proofs.«01_k».proof.Proof.Gen.NormBwdIdeal.Value
public import proofs.«01_k».proof.Proof.NormSpec
public import Idealize.ShloMosaic.Lib.Pointwise

@[expose] public section

set_option maxRecDepth 16384

noncomputable section

namespace Cert.NormBwdIdeal.Kernel

open Idealize.ShloMosaic Idealize.ShloMosaic.TcCoe Idealize.SL.Sem
open Cert.NormBwdIdeal Cert.NormBwdIdeal.Gen Cert.NormBwdIdeal.Value Cert.Norm Cert.Sums

/-! ## The two cases of a point -/

section cases
variable {F : FTy → Type} [FloatOps F]

theorem hz : (![0, 0] : Fin 2 → Nat) = fun _ => 0 := funext fun a => by fin_cases a <;> rfl

variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (x0 : Vec F S256x2048 .f32) (x1 : Vec F S1x2048 .f32) (x2 x3 : Vec F S256x2048 .f32)

/-- The first point writes the gradient of its rows. -/
theorem out_A_4 (hc0 : cond0_0 i) (hc1 : ¬cond0_1 i) :
    out0_A_4 c i arg1 harg1 arg2 harg2 arg3 harg3 arg4 harg4 arg5 harg5 arg6 harg6 arg7 harg7 hc0 hc1 x0 x1 x2 x3 = k0_pay4 x0 x2 x1 x3 := by
  unfold out0_A_4
  rw [View.read_writes_eq_canon _ _ _ (cover0_A_4 c i arg1 harg1 arg2 harg2 arg3 harg3 arg4 harg4 arg5 harg5 arg6 harg6 arg7 harg7 hc0 hc1 x0 x1 x2 x3)]
  unfold kernelRun0_A
  dsimp only
  sl_unfold_words
  simp only [View.canon_unit_zero (S := S256x2048) hz, View.readAt_eq_ld, harg1.read_unread, harg2.read_unread, harg3.read_unread,
    harg4.read_unread, harg7.read_unread, View.ld_unit_zero (S := S256x2048) hz, View.ld_unit_zero (S := S1x2048) hz]

/-- The first point writes the same gradient a second time. -/
theorem out_A_5 (hc0 : cond0_0 i) (hc1 : ¬cond0_1 i) :
    out0_A_5 c i arg1 harg1 arg2 harg2 arg3 harg3 arg4 harg4 arg5 harg5 arg6 harg6 arg7 harg7 hc0 hc1 x0 x1 x2 x3 = k0_pay5 x0 x2 x1 x3 := by
  unfold out0_A_5
  rw [View.read_writes_eq_canon _ _ _ (cover0_A_5 c i arg1 harg1 arg2 harg2 arg3 harg3 arg4 harg4 arg5 harg5 arg6 harg6 arg7 harg7 hc0 hc1 x0 x1 x2 x3)]
  unfold kernelRun0_A
  dsimp only
  sl_unfold_words
  simp only [View.canon_unit_zero (S := S256x2048) hz, View.readAt_eq_ld, harg1.read_unread, harg2.read_unread, harg3.read_unread,
    harg4.read_unread, harg7.read_unread, View.ld_unit_zero (S := S256x2048) hz, View.ld_unit_zero (S := S1x2048) hz]

/-- A later point writes the gradient of its rows. -/
theorem out_B_4 (hc0 : ¬cond0_0 i) (hc1 : cond0_1 i) (xo : Vec F S1x2048 .f32) :
    out0_B_4 c i arg1 harg1 arg2 harg2 arg3 harg3 arg4 harg4 arg5 harg5 arg6 harg6 arg7 harg7 hc0 hc1 x0 x1 x2 x3 xo = k0_pay4 x0 x2 x1 x3 := by
  unfold out0_B_4
  rw [View.read_writes_eq_canon _ _ _ (cover0_B_4 c i arg1 harg1 arg2 harg2 arg3 harg3 arg4 harg4 arg5 harg5 arg6 harg6 arg7 harg7 hc0 hc1 x0 x1 x2 x3 xo)]
  unfold kernelRun0_B
  dsimp only
  sl_unfold_words
  simp only [View.canon_unit_zero (S := S256x2048) hz, View.readAt_eq_ld, harg1.read_unread, harg2.read_unread, harg3.read_unread,
    harg4.read_unread, harg7.read_unread, View.ld_unit_zero (S := S256x2048) hz, View.ld_unit_zero (S := S1x2048) hz]

/-- A later point writes the same gradient a second time. -/
theorem out_B_5 (hc0 : ¬cond0_0 i) (hc1 : cond0_1 i) (xo : Vec F S1x2048 .f32) :
    out0_B_5 c i arg1 harg1 arg2 harg2 arg3 harg3 arg4 harg4 arg5 harg5 arg6 harg6 arg7 harg7 hc0 hc1 x0 x1 x2 x3 xo = k0_pay5 x0 x2 x1 x3 := by
  unfold out0_B_5
  rw [View.read_writes_eq_canon _ _ _ (cover0_B_5 c i arg1 harg1 arg2 harg2 arg3 harg3 arg4 harg4 arg5 harg5 arg6 harg6 arg7 harg7 hc0 hc1 x0 x1 x2 x3 xo)]
  unfold kernelRun0_B
  dsimp only
  sl_unfold_words
  simp only [View.canon_unit_zero (S := S256x2048) hz, View.readAt_eq_ld, harg1.read_unread, harg2.read_unread, harg3.read_unread,
    harg4.read_unread, harg7.read_unread, View.ld_unit_zero (S := S256x2048) hz, View.ld_unit_zero (S := S1x2048) hz]

/-- The first point writes its part of the scale's gradient. -/
theorem out_A_6 (hc0 : cond0_0 i) (hc1 : ¬cond0_1 i) :
    out0_A_6 c i arg1 harg1 arg2 harg2 arg3 harg3 arg4 harg4 arg5 harg5 arg6 harg6 arg7 harg7 hc0 hc1 x0 x1 x2 x3 = k0_pay6 x0 x2 := by
  unfold out0_A_6
  rw [View.read_writes_eq_canon _ _ _ (cover0_A_6 c i arg1 harg1 arg2 harg2 arg3 harg3 arg4 harg4 arg5 harg5 arg6 harg6 arg7 harg7 hc0 hc1 x0 x1 x2 x3)]
  unfold kernelRun0_A
  dsimp only
  sl_unfold_words
  simp only [View.canon_unit_zero (S := S1x2048) hz, View.readAt_eq_ld, harg1.read_unread, harg2.read_unread, harg3.read_unread,
    harg4.read_unread, harg7.read_unread, View.ld_unit_zero (S := S256x2048) hz, View.ld_unit_zero (S := S1x2048) hz]

/-- A later point adds its part to what the points before left. -/
theorem out_B_6 (hc0 : ¬cond0_0 i) (hc1 : cond0_1 i) (xo : Vec F S1x2048 .f32) :
    out0_B_6 c i arg1 harg1 arg2 harg2 arg3 harg3 arg4 harg4 arg5 harg5 arg6 harg6 arg7 harg7 hc0 hc1 x0 x1 x2 x3 xo = k0_pay1 (k0_pay6 x0 x2) xo := by
  unfold out0_B_6
  rw [View.read_writes_eq_canon _ _ _ (cover0_B_6 c i arg1 harg1 arg2 harg2 arg3 harg3 arg4 harg4 arg5 harg5 arg6 harg6 arg7 harg7 hc0 hc1 x0 x1 x2 x3 xo)]
  unfold kernelRun0_B
  dsimp only
  sl_unfold_words
  simp only [View.canon_unit_zero (S := S1x2048) hz, View.readAt_eq_ld, harg1.read_unread, harg2.read_unread, harg3.read_unread,
    harg4.read_unread, harg7.read_unread, View.ld_unit_zero (S := S256x2048) hz, View.ld_unit_zero (S := S1x2048) hz]

end cases

/-! ## The payloads at an index -/

theorem rstd_apply (x : Vec Ideal S256x2048 .f32) (r : Fin 256) : k0_pay2 x (ix2 r (0 : Fin 1)) = rstd fun k => x (ix2 r k) := by
  unfold k0_pay2 rstd ms
  pointwise

theorem hat_apply (x : Vec Ideal S256x2048 .f32) (r : Fin 256) (j : Fin 2048) :
    k0_pay3 x (ix2 r j) = x (ix2 r j) * rstd fun k => x (ix2 r k) := by
  unfold k0_pay3
  have h := rstd_apply x
  generalize k0_pay2 x = y at h
  pointwise
  rw [h]

theorem pay4_apply (x dy : Vec Ideal S256x2048 .f32) (g : Vec Ideal S1x2048 .f32) (d : Vec Ideal S256x2048 .f32) (r : Fin 256) (j : Fin 2048) :
    k0_pay4 x dy g d (ix2 r j)
      = d (ix2 r j) + grad (fun k => x (ix2 r k)) (fun k => dy (ix2 r k) * g (ix2 (0 : Fin 1) k)) j := by
  unfold k0_pay4 grad
  have h := rstd_apply x
  have h3 := hat_apply x
  generalize k0_pay2 x = y at h
  generalize k0_pay3 x = z at h3
  pointwise [h, h3]

theorem pay5_apply (x dy : Vec Ideal S256x2048 .f32) (g : Vec Ideal S1x2048 .f32) (d : Vec Ideal S256x2048 .f32) (r : Fin 256) (j : Fin 2048) :
    k0_pay5 x dy g d (ix2 r j)
      = d (ix2 r j) + grad (fun k => x (ix2 r k)) (fun k => dy (ix2 r k) * g (ix2 (0 : Fin 1) k)) j := by
  unfold k0_pay5
  have h := pay4_apply x dy g d
  generalize k0_pay4 x dy g d = y at h
  pointwise
  exact h r j

theorem pay6_apply (x dy : Vec Ideal S256x2048 .f32) (j : Fin 2048) :
    k0_pay6 x dy (ix2 (0 : Fin 1) j) = ∑ r : Fin 256, dy (ix2 r j) * (x (ix2 r j) * rstd fun k => x (ix2 r k)) := by
  unfold k0_pay6
  have h3 := hat_apply x
  generalize k0_pay3 x = z at h3
  pointwise [h3]

theorem pay1_apply (p a : Vec Ideal S1x2048 .f32) (j : Fin 2048) :
    k0_pay1 p a (ix2 (0 : Fin 1) j) = a (ix2 (0 : Fin 1) j) + p (ix2 (0 : Fin 1) j) := by
  unfold k0_pay1
  pointwise

/-! ## The blocks -/

/-- The block index of each window at a grid point. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel

/-- Every point writes its rows' blocks back. -/
theorem flush4 : ∀ t : Fin cfg0.N, (cfg0.win 4).flush t = true :=
  (by decide +kernel : ∀ t : Fin grid0.N, win0_4.flush t = true)
theorem flush5 : ∀ t : Fin cfg0.N, (cfg0.win 5).flush t = true :=
  (by decide +kernel : ∀ t : Fin grid0.N, win0_5.flush t = true)
/-- The last point alone writes the scale's gradient back. -/
theorem flush6 : ∀ t : Fin cfg0.N, (cfg0.win 6).flush t = true ↔ t.val = 7 :=
  (by decide +kernel : ∀ t : Fin grid0.N, win0_6.flush t = true ↔ t.val = 7)

variable (m : (ℓ : Loc nD τ sig) → Buf (Elt Ideal) ℓ) (c : Dev nD)

/-- The arguments the kernel is run on: the rows, the scale, the incoming gradient and the residual's gradient. -/
abbrev argX : Vec Ideal S2048x2048 .f32 := m ((c : Thread nD τ).loc main_arg0)
abbrev argG : Vec Ideal S1x2048 .f32 := m ((c : Thread nD τ).loc main_arg1)
abbrev argY : Vec Ideal S2048x2048 .f32 := m ((c : Thread nD τ).loc main_arg2)
abbrev argD : Vec Ideal S2048x2048 .f32 := m ((c : Thread nD τ).loc main_arg3)

/-- A grid point is below 8. -/
theorem lt8 (t : Fin cfg0.N) : t.val < 8 := lt_of_lt_of_eq t.isLt N_0

/-- The block of the rows. -/
theorem blk_x (t : Fin cfg0.N) (r : Fin 256) (k : Fin 2048) (i : Fin 2048) (hi : i.val = t.val * 256 + r.val) :
    (iblk m c 0 t : Vec Ideal S256x2048 .f32) (ix2 r k) = argX m c (ix2 i k) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 256 + 1 * r.val = i.val; rw [h.1]; omega
  | ⟨1, _⟩ => show win0_0.index t 1 * 2048 + 1 * k.val = k.val; rw [h.2]; omega

/-- The block of the scale. -/
theorem blk_g (t : Fin cfg0.N) (k : Fin 2048) :
    (iblk m c 1 t : Vec Ideal S1x2048 .f32) (ix2 (0 : Fin 1) k) = argG m c (ix2 (0 : Fin 1) k) := by
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = 0; rw [h.1]
  | ⟨1, _⟩ => show win0_1.index t 1 * 2048 + 1 * k.val = k.val; rw [h.2]; omega

/-- The block of the incoming gradient. -/
theorem blk_y (t : Fin cfg0.N) (r : Fin 256) (k : Fin 2048) (i : Fin 2048) (hi : i.val = t.val * 256 + r.val) :
    (iblk m c 2 t : Vec Ideal S256x2048 .f32) (ix2 r k) = argY m c (ix2 i k) := by
  unfold iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 256 + 1 * r.val = i.val; rw [h.1]; omega
  | ⟨1, _⟩ => show win0_2.index t 1 * 2048 + 1 * k.val = k.val; rw [h.2]; omega

/-- The block of the residual's gradient. -/
theorem blk_d (t : Fin cfg0.N) (r : Fin 256) (k : Fin 2048) (i : Fin 2048) (hi : i.val = t.val * 256 + r.val) :
    (iblk m c 3 t : Vec Ideal S256x2048 .f32) (ix2 r k) = argD m c (ix2 i k) := by
  unfold iblk
  rw [View.read_apply]
  show V m c main_arg3 _ = _
  unfold V
  refine congrArg (m ((c : Thread nD τ).loc main_arg3)) (funext fun a => Fin.ext ?_)
  have h := idx3 t
  match a with
  | ⟨0, _⟩ => show win0_3.index t 0 * 256 + 1 * r.val = i.val; rw [h.1]; omega
  | ⟨1, _⟩ => show win0_3.index t 1 * 2048 + 1 * k.val = k.val; rw [h.2]; omega

/-- What a point leaves in its rows' blocks. -/
theorem rows_at (t : Fin cfg0.N) : (outsAt0 m c t.val t.isLt).1 = k0_pay4 (iblk m c 0 t) (iblk m c 2 t) (iblk m c 1 t) (iblk m c 3 t)
    ∧ (outsAt0 m c t.val t.isLt).2.1 = k0_pay5 (iblk m c 0 t) (iblk m c 2 t) (iblk m c 1 t) (iblk m c 3 t) := by
  have ht := lt8 t
  by_cases h : t.val = 0
  · rw [outsAt0_A m c t (by omega) (by omega)]
    dsimp only
    rw [out_A_4, out_A_5]
    exact ⟨rfl, rfl⟩
  · rw [outsAt0_B m c t (by omega) (by omega)]
    dsimp only
    rw [out_B_4, out_B_5]
    exact ⟨rfl, rfl⟩

/-- An entry of output 4 is the entry of the block its point writes back. -/
theorem entry4_blk (t : Fin cfg0.N) (r : Fin 256) (i j : Fin 2048) (hi : i.val = t.val * 256 + r.val) :
    ((dats m 0 c).arrAt 4 cfg0.N : Vec Ideal S2048x2048 .f32) (ix2 i j)
      = ((outsAt0 m c t.val t.isLt).1 : Vec Ideal S256x2048 .f32) (ix2 r j) := by
  have hb := congrFun (blocks4 m c t (flush4 t)) (ix2 r j)
  rw [flushed4, View.read_apply] at hb
  refine Eq.trans ?_ hb
  refine congrArg ((dats m 0 c).arrAt 4 cfg0.N) (funext fun a => Fin.ext ?_)
  have h := idx4 t
  match a with
  | ⟨0, _⟩ => show i.val = win0_4.index t 0 * 256 + 1 * r.val; rw [h.1]; omega
  | ⟨1, _⟩ => show j.val = win0_4.index t 1 * 2048 + 1 * j.val; rw [h.2]; omega

/-- An entry of output 5 is the entry of the block its point writes back. -/
theorem entry5_blk (t : Fin cfg0.N) (r : Fin 256) (i j : Fin 2048) (hi : i.val = t.val * 256 + r.val) :
    ((dats m 0 c).arrAt 5 cfg0.N : Vec Ideal S2048x2048 .bf16) (ix2 i j)
      = ((outsAt0 m c t.val t.isLt).2.1 : Vec Ideal S256x2048 .bf16) (ix2 r j) := by
  have hb := congrFun (blocks5 m c t (flush5 t)) (ix2 r j)
  rw [flushed5, View.read_apply] at hb
  refine Eq.trans ?_ hb
  refine congrArg ((dats m 0 c).arrAt 5 cfg0.N) (funext fun a => Fin.ext ?_)
  have h := idx5 t
  match a with
  | ⟨0, _⟩ => show i.val = win0_5.index t 0 * 256 + 1 * r.val; rw [h.1]; omega
  | ⟨1, _⟩ => show j.val = win0_5.index t 1 * 2048 + 1 * j.val; rw [h.2]; omega

/-- A row's gradient: the residual's plus the normalisation's. -/
def rowGrad (i j : Fin 2048) : EReal :=
  argD m c (ix2 i j) + grad (fun k => argX m c (ix2 i k)) (fun k => argY m c (ix2 i k) * argG m c (ix2 (0 : Fin 1) k)) j

/-- The payload at a point is the gradient of its rows. -/
theorem rowGrad_eq (t : Fin cfg0.N) (r : Fin 256) (i j : Fin 2048) (hi : i.val = t.val * 256 + r.val)
    (x dy d : Vec Ideal S256x2048 .f32) (g : Vec Ideal S1x2048 .f32) (hx : x = iblk m c 0 t) (hg : g = iblk m c 1 t) (hy : dy = iblk m c 2 t)
    (hd : d = iblk m c 3 t) :
    d (ix2 r j) + grad (fun k => x (ix2 r k)) (fun k => dy (ix2 r k) * g (ix2 (0 : Fin 1) k)) j = rowGrad m c i j := by
  subst hx hg hy hd
  unfold rowGrad
  refine congrArg₂ (· + ·) (blk_d m c t r j i hi) (congrArg₂ (fun x w => grad x w j) (funext fun k => blk_x m c t r k i hi)
    (funext fun k => congrArg₂ (· * ·) (blk_y m c t r k i hi) (blk_g m c t k)))

/-- The point and the row of its block a row of the arrays is in. -/
theorem place (i : Fin 2048) : ∃ (t : Fin cfg0.N) (r : Fin 256), i.val = t.val * 256 + r.val := by
  have hi := i.isLt
  refine ⟨⟨i.val / 256, by rw [show cfg0.N = 8 from N_0]; omega⟩, ⟨i.val % 256, by omega⟩, ?_⟩
  show i.val = i.val / 256 * 256 + i.val % 256
  omega

/-- An entry of the first result. -/
theorem result4 (i j : Fin 2048) : ((dats m 0 c).arrAt 4 cfg0.N : Vec Ideal S2048x2048 .f32) (ix2 i j) = rowGrad m c i j := by
  obtain ⟨t, r, hi⟩ := place i
  refine (entry4_blk m c t r i j hi).trans ?_
  rw [(rows_at m c t).1]
  exact (pay4_apply _ _ _ _ r j).trans (rowGrad_eq m c t r i j hi _ _ _ _ rfl rfl rfl rfl)

/-- An entry of the second result. -/
theorem result5 (i j : Fin 2048) : ((dats m 0 c).arrAt 5 cfg0.N : Vec Ideal S2048x2048 .bf16) (ix2 i j) = rowGrad m c i j := by
  obtain ⟨t, r, hi⟩ := place i
  refine (entry5_blk m c t r i j hi).trans ?_
  rw [(rows_at m c t).2]
  exact (pay5_apply _ _ _ _ r j).trans (rowGrad_eq m c t r i j hi _ _ _ _ rfl rfl rfl rfl)

/-! ## The scale's gradient -/

/-- A row's part of the scale's gradient. -/
def term (j i : Fin 2048) : EReal := argY m c (ix2 i j) * (argX m c (ix2 i j) * rstd fun k => argX m c (ix2 i k))

/-- The part of one point's rows. -/
def part (j : Fin 2048) (t : Fin 8) : EReal := ∑ r : Fin 256, term m c j ⟨t.val * 256 + r.val, by omega⟩

/-- A point's payload is its part. -/
theorem part_eq (t : Fin cfg0.N) (j : Fin 2048) :
    k0_pay6 (iblk m c 0 t : Vec Ideal S256x2048 .f32) (iblk m c 2 t : Vec Ideal S256x2048 .f32) (ix2 (0 : Fin 1) j) = part m c j ⟨t.val, lt8 t⟩ := by
  refine (pay6_apply _ _ j).trans ?_
  unfold part
  refine sum_eq fun r => ?_
  unfold term
  have ht := lt8 t
  exact congrArg₂ (· * ·) (blk_y m c t r j ⟨t.val * 256 + r.val, by omega⟩ rfl) (congrArg₂ (· * ·) (blk_x m c t r j ⟨t.val * 256 + r.val, by omega⟩ rfl)
    (congrArg rstd (funext fun k => blk_x m c t r k ⟨t.val * 256 + r.val, by omega⟩ rfl)))

/-- After a point the output holds the parts of the points so far. -/
theorem acc (j : Fin 2048) : ∀ (n : Nat) (hn : n < cfg0.N),
    ((outsAt0 m c n hn).2.2 : Vec Ideal S1x2048 .f32) (ix2 (0 : Fin 1) j)
      = ∑ p : Fin (n + 1), part m c j ⟨p.val, by have := lt_of_lt_of_eq hn N_0; omega⟩
  | 0, hn => by
    have h := outsAt0_A m c ⟨0, hn⟩ (by show 0 % 8 = 0; omega) (by show ¬1 ≤ 0; omega)
    dsimp only at h
    rw [out_A_6] at h
    rw [h, Fin.sum_univ_one]
    refine (part_eq m c ⟨0, hn⟩ j).trans ?_
    rfl
  | n + 1, hn => by
    have h8 := lt_of_lt_of_eq hn N_0
    have h := outsAt0_B m c ⟨n + 1, hn⟩ (by show ¬(n + 1) % 8 = 0; omega) (by show 1 ≤ n + 1; omega)
    dsimp only at h
    rw [out_B_6] at h
    rw [h, Fin.sum_univ_castSucc]
    refine (pay1_apply _ _ j).trans ?_
    exact congrArg₂ (· + ·) (acc j n (by omega)) (part_eq m c ⟨n + 1, hn⟩ j)

/-- The parts together are the sum over all rows. -/
theorem parts (j : Fin 2048) : ∑ p : Fin 8, part m c j p = ∑ i : Fin 2048, term m c j i := by
  rw [sum_runs (a := 8) (b := 256) (fun i => term m c j i)]
  refine sum_eq fun p => sum_eq fun q => congrArg (term m c j) (Fin.ext ?_)
  show p.val * 256 + q.val = q.val + 256 * p.val
  omega

/-- An entry of the third result: the sum over all rows. -/
theorem result6 (j : Fin 2048) : ((dats m 0 c).arrAt 6 cfg0.N : Vec Ideal S1x2048 .f32) (ix2 (0 : Fin 1) j) = ∑ i : Fin 2048, term m c j i := by
  have hN : 7 < cfg0.N := by rw [show cfg0.N = 8 from N_0]; omega
  have hb := congrFun ((dats m 0 c).read_blk_arrAt_eq_flushed 6
    (fun t t' h h' hne => absurd (Fin.ext (((flush6 t).mp h).trans ((flush6 t').mp h').symm)) hne) cfg0.N ⟨7, hN⟩ hN ((flush6 ⟨7, hN⟩).mpr rfl)) (ix2 (0 : Fin 1) j)
  rw [flushed6, View.read_apply] at hb
  refine Eq.trans ?_ (hb.trans ((acc m c j 7 hN).trans (parts m c j)))
  refine congrArg ((dats m 0 c).arrAt 6 cfg0.N) (funext fun a => Fin.ext ?_)
  have h := idx6 ⟨7, hN⟩
  match a with
  | ⟨0, _⟩ => show 0 = win0_6.index ⟨7, hN⟩ 0 * 1 + 1 * 0; rw [h.1]
  | ⟨1, _⟩ => show j.val = win0_6.index ⟨7, hN⟩ 1 * 2048 + 1 * j.val; rw [h.2]; omega

end Cert.NormBwdIdeal.Kernel

end
-- ==== Proof.NormBwdClaim.lean ====
/-
  The kernel of the normalisation's gradients computes the reference's: the residual's gradient plus the chain rule through
  the normalisation, and the scale's gradient.
-/
module

public import proofs.«01_k».proof.Proof.NormBwdKernel
public import proofs.«01_k».proof.Proof.Gen.NormBwdRefIdeal.Read
public import proofs.«01_k».proof.Defs

@[expose] public section

set_option maxRecDepth 16384

noncomputable section

namespace Cert.NormBwd

open Idealize.ShloMosaic Idealize.ShloMosaic.TcCoe Idealize.SL.Sem Cert.Norm Cert.Sums

/-- The reference runs from any state, leaves its arguments as they were and its semaphores at zero. -/
theorem reference_frame : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

section reference
open Cert.NormBwdRefIdeal Cert.NormBwdRefIdeal.Gen Cert.NormBwdRefIdeal.Read

variable (x dy d : Vec Ideal S2048x2048 .f32) (g : Vec Ideal S1x2048 .f32)

/-- A row's mean of squares, with the small constant added. -/
theorem ms_apply (i : Fin 2048) : val_main_v7 (F := Ideal) x (ix2 i (0 : Fin 1)) = ms fun k => x (ix2 i k) := by
  unfold val_main_v7 val_main_v6 val_main_v5 val_main_v4 val_main_v3 val_main_v2 val_main_v1 val_main_cst val_main_cst_0 val_main_cst_1 ms
  pointwise

/-- A row's factor. -/
theorem rstd_apply (i : Fin 2048) : val_main_v8 (F := Ideal) x (ix2 i (0 : Fin 1)) = rstd fun k => x (ix2 i k) := by
  unfold val_main_v8 rstd
  have h := ms_apply x
  generalize val_main_v7 (F := Ideal) x = y at h
  pointwise [h]

/-- The derivative of the factor by the mean of squares. -/
theorem half_apply (i : Fin 2048) : val_main_v11 (F := Ideal) x (ix2 i (0 : Fin 1))
    = Ideal.ofBits .f32 0xBF000000#32 * Ideal.div (rstd fun k => x (ix2 i k)) (ms fun k => x (ix2 i k)) := by
  unfold val_main_v11 val_main_v10 val_main_v9 val_main_cst_2
  have h := ms_apply x
  have h' := rstd_apply x
  generalize val_main_v7 (F := Ideal) x = y at h
  generalize val_main_v8 (F := Ideal) x = z at h'
  pointwise [h, h']

/-- The gradient at the normalised row: the incoming one times the scale. -/
theorem scaled_apply (i j : Fin 2048) : val_main_v21 (F := Ideal) g dy (ix2 i j) = dy (ix2 i j) * g (ix2 (0 : Fin 1) j) := by
  unfold val_main_v21 val_main_v20 val_main_v14 val_main_v0
  pointwise

/-- The gradient at a row's mean of squares, over the length of the row. -/
theorem coef_apply (i j : Fin 2048) : val_main_v32 (F := Ideal) x g dy (ix2 i j)
    = coef (fun k => x (ix2 i k)) (fun k => dy (ix2 i k) * g (ix2 (0 : Fin 1) k)) := by
  unfold val_main_v32 val_main_v31 val_main_v30 val_main_v29 val_main_v28 val_main_v25 val_main_v24 val_main_v23 val_main_cst_5
    val_main_cst_6 val_main_cst_7 coef
  have h := scaled_apply dy g
  have h' := half_apply x
  generalize val_main_v21 (F := Ideal) g dy = y at h
  generalize val_main_v11 (F := Ideal) x = z at h'
  pointwise [h]
  rw [Fin.sum_univ_one, h']

/-- An entry of the reference's first result. -/
theorem v37_apply (i j : Fin 2048) : val_main_v37 (F := Ideal) x g dy d (ix2 i j)
    = d (ix2 i j) + gradChain (fun k => x (ix2 i k)) (fun k => dy (ix2 i k) * g (ix2 (0 : Fin 1) k)) j := by
  unfold val_main_v37 val_main_v36 val_main_v35 val_main_v34 val_main_v33 val_main_v27 val_main_v26 gradChain
  have h := scaled_apply dy g
  have h' := rstd_apply x
  have h'' := coef_apply x dy g
  generalize val_main_v21 (F := Ideal) g dy = y at h
  generalize val_main_v8 (F := Ideal) x = z at h'
  generalize val_main_v32 (F := Ideal) x g dy = w at h''
  pointwise [h, h', h'']

/-- An entry of the reference's second result. -/
theorem v38_apply (i j : Fin 2048) : val_main_v38 (F := Ideal) x g dy d (ix2 i j)
    = d (ix2 i j) + gradChain (fun k => x (ix2 i k)) (fun k => dy (ix2 i k) * g (ix2 (0 : Fin 1) k)) j := by
  unfold val_main_v38
  have h := v37_apply x dy d g
  generalize val_main_v37 (F := Ideal) x g dy d = y at h
  pointwise [h]

/-- An entry of the reference's third result. -/
theorem v39_apply (j : Fin 2048) : val_main_v39 (F := Ideal) x dy (ix2 (0 : Fin 1) j)
    = ∑ i : Fin 2048, dy (ix2 i j) * (x (ix2 i j) * rstd fun k => x (ix2 i k)) := by
  unfold val_main_v39 val_main_v22 val_main_v19 val_main_v18 val_main_v17 val_main_v13 val_main_v12 val_main_cst_3 val_main_cst_4
  have h' := rstd_apply x
  generalize val_main_v8 (F := Ideal) x = z at h'
  pointwise [h']
  rw [Fin.sum_univ_one]
  exact sum_eq fun i => mul_comm _ _

end reference

/-- The kernel's three results are the reference's. -/
theorem value : Cert.algebraic_NormBwdIdeal_NormBwdRefIdeal := by
  intro m g m' g' _ hargs
  refine ⟨fun c => (Cert.NormBwdIdeal.Gen.dats m 0 c).arrAt 4 Cert.NormBwdIdeal.cfg0.N,
    fun c => (Cert.NormBwdIdeal.Gen.dats m 0 c).arrAt 5 Cert.NormBwdIdeal.cfg0.N,
    fun c => (Cert.NormBwdIdeal.Gen.dats m 0 c).arrAt 6 Cert.NormBwdIdeal.cfg0.N, Cert.NormBwdIdeal.Value.run_blocks m g, ?_⟩
  refine (θ_run _ _ _).mono (fun r h c => ?_) (Cert.NormBwdRefIdeal.Value.run (F := Ideal) m' g')
  obtain ⟨h0, h1, h2, ha⟩ := h c
  obtain ⟨e0, e1, e2, e3⟩ := hargs c
  refine ⟨h0.trans ?_, h1.trans ?_, h2.trans ?_, ha⟩
  · rw [Cert.NormBwdRefIdeal.Read.val_main_v37_eq, e0, e1, e2, e3]
    funext i
    rw [eq_ix2 i]
    refine (v37_apply _ _ _ _ _ _).trans (Eq.trans ?_ (Cert.NormBwdIdeal.Kernel.result4 m c _ _).symm)
    exact congrArg (Cert.NormBwdIdeal.Kernel.argD m c _ + ·) (grad_eq _ _ _).symm
  · rw [Cert.NormBwdRefIdeal.Read.val_main_v38_eq, e0, e1, e2, e3]
    funext i
    rw [eq_ix2 i]
    refine (v38_apply _ _ _ _ _ _).trans (Eq.trans ?_ (Cert.NormBwdIdeal.Kernel.result5 m c _ _).symm)
    exact congrArg (Cert.NormBwdIdeal.Kernel.argD m c _ + ·) (grad_eq _ _ _).symm
  · rw [Cert.NormBwdRefIdeal.Read.val_main_v39_eq, e0, e2]
    funext i
    obtain ⟨j, rfl⟩ : ∃ j : Fin 2048, i = ix2 (0 : Fin 1) j :=
      ⟨i 1, by rw [eq_ix2 i]; exact congrArg (ix2 · _) (Subsingleton.elim _ _)⟩
    exact (v39_apply _ _ _).trans (Cert.NormBwdIdeal.Kernel.result6 m c _).symm

end Cert.NormBwd

end
-- ==== Proof.NormFwdKernel.lean ====
/-
  What the normalisation's forward kernel leaves in its result over the extended reals, for all arguments: at every index
  the row's entry times the reciprocal root mean square of the row times the scale.
-/
module

public import proofs.«01_k».proof.Proof.Gen.NormFwdIdeal.Value
public import proofs.«01_k».proof.Proof.NormSpec
public import Idealize.ShloMosaic.Lib.Pointwise

@[expose] public section

set_option maxRecDepth 16384

noncomputable section

namespace Cert.NormFwdIdeal.Kernel

open Idealize.ShloMosaic Idealize.ShloMosaic.TcCoe Idealize.SL.Sem
open Cert.NormFwdIdeal Cert.NormFwdIdeal.Gen Cert.NormFwdIdeal.Value Cert.Norm

theorem hz : (![0, 0] : Fin 2 → Nat) = fun _ => 0 := funext fun a => by fin_cases a <;> rfl

/-- The payload at an index. -/
theorem pay_apply (x : Vec Ideal S512x2048 .f32) (g : Vec Ideal S1x2048 .f32) (r : Fin 512) (j : Fin 2048) :
    k0_pay1 x g (ix2 r j) = x (ix2 r j) * rstd (fun k => x (ix2 r k)) * g (ix2 (0 : Fin 1) j) := by
  unfold k0_pay1 rstd ms
  pointwise

/-- The block a point leaves. -/
theorem out_eq (x : Vec Ideal S512x2048 .f32) (g : Vec Ideal S1x2048 .f32) : out0_2 x g = k0_pay1 x g := by
  unfold out0_2
  rw [View.canon_unit_zero (S := S512x2048) hz, View.ld_unit_zero (S := S512x2048) hz, View.ld_unit_zero (S := S1x2048) hz]

/-- The block index of each window at a grid point. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- Every point writes its block back. -/
theorem flush2 : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The arguments the kernel is run on: the rows and the scale. -/
abbrev argX : Vec Ideal S2048x2048 .f32 := m ((c : Thread nD τ).loc main_arg0)
abbrev argG : Vec Ideal S1x2048 .f32 := m ((c : Thread nD τ).loc main_arg1)

/-- The block of the rows. -/
theorem blk_x (t : Fin cfg0.N) (r : Fin 512) (k : Fin 2048) (i : Fin 2048) (hi : i.val = t.val * 512 + r.val) :
    (iblk m c 0 t : Vec Ideal S512x2048 .f32) (ix2 r k) = argX m c (ix2 i k) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 512 + 1 * r.val = i.val; rw [h.1]; omega
  | ⟨1, _⟩ => show win0_0.index t 1 * 2048 + 1 * k.val = k.val; rw [h.2]; omega

/-- The block of the scale. -/
theorem blk_g (t : Fin cfg0.N) (k : Fin 2048) :
    (iblk m c 1 t : Vec Ideal S1x2048 .f32) (ix2 (0 : Fin 1) k) = argG m c (ix2 (0 : Fin 1) k) := by
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = 0; rw [h.1]
  | ⟨1, _⟩ => show win0_1.index t 1 * 2048 + 1 * k.val = k.val; rw [h.2]; omega

/-- An entry of the result. -/
theorem result_apply (i j : Fin 2048) :
    ((dats m 0 c).arrAt 2 cfg0.N : Vec Ideal S2048x2048 .bf16) (ix2 i j)
      = argX m c (ix2 i j) * rstd (fun k => argX m c (ix2 i k)) * argG m c (ix2 (0 : Fin 1) j) := by
  have hi := i.isLt
  have hN : i.val / 512 < cfg0.N := by rw [show cfg0.N = 4 from N_0]; omega
  obtain ⟨t, ht⟩ : ∃ t : Fin cfg0.N, t.val = i.val / 512 := ⟨⟨_, hN⟩, rfl⟩
  have hr : i.val = t.val * 512 + (⟨i.val % 512, by omega⟩ : Fin 512).val := by show i.val = t.val * 512 + i.val % 512; omega
  generalize (⟨i.val % 512, by omega⟩ : Fin 512) = r at hr
  have hb := congrFun (blocks2 m c t (flush2 t)) (ix2 r j)
  rw [flushed2, View.read_apply, out_eq] at hb
  refine Eq.trans ?_ (hb.trans ((pay_apply (iblk m c 0 t) (iblk m c 1 t) r j).trans ?_))
  · refine congrArg ((dats m 0 c).arrAt 2 cfg0.N) (funext fun a => Fin.ext ?_)
    have h := idx2 t
    match a with
    | ⟨0, _⟩ => show i.val = win0_2.index t 0 * 512 + 1 * r.val; rw [h.1]; omega
    | ⟨1, _⟩ => show j.val = win0_2.index t 1 * 2048 + 1 * j.val; rw [h.2]; omega
  · refine congrArg₂ (· * ·) (congrArg₂ (· * ·) (blk_x m c t r j i hr) (congrArg rstd (funext fun k => blk_x m c t r k i hr))) (blk_g m c t j)

end Cert.NormFwdIdeal.Kernel

end
-- ==== Proof.NormFwdClaim.lean ====
/-
  The normalisation's forward kernel computes the reference's normalisation.
-/
module

public import proofs.«01_k».proof.Proof.NormFwdKernel
public import proofs.«01_k».proof.Proof.Gen.NormFwdRefIdeal.Read
public import proofs.«01_k».proof.Defs

@[expose] public section

set_option maxRecDepth 16384

noncomputable section

namespace Cert.NormFwd

open Idealize.ShloMosaic Idealize.ShloMosaic.TcCoe Idealize.SL.Sem Cert.Norm

/-- The reference runs from any state, leaves its arguments as they were and its semaphores at zero. -/
theorem reference_frame : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

section reference
open Cert.NormFwdRefIdeal Cert.NormFwdRefIdeal.Gen Cert.NormFwdRefIdeal.Read

/-- An entry of the reference's result. -/
theorem reference_apply (x : Vec Ideal S2048x2048 .f32) (g : Vec Ideal S1x2048 .f32) (i j : Fin 2048) :
    val_main_v14 (F := Ideal) x g (ix2 i j) = x (ix2 i j) * rstd (fun k => x (ix2 i k)) * g (ix2 (0 : Fin 1) j) := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 rstd ms
  pointwise

end reference

/-- The kernel's normalisation is the reference's. -/
theorem value : Cert.algebraic_NormFwdIdeal_NormFwdRefIdeal := by
  intro m g m' g' _ hargs
  refine ⟨fun c => (Cert.NormFwdIdeal.Gen.dats m 0 c).arrAt 2 Cert.NormFwdIdeal.cfg0.N, Cert.NormFwdIdeal.Value.run_blocks m g, ?_⟩
  refine (θ_run _ _ _).mono (fun r h c => ?_) (Cert.NormFwdRefIdeal.Value.run (F := Ideal) m' g')
  obtain ⟨h0, ha⟩ := h c
  obtain ⟨e0, e1⟩ := hargs c
  refine ⟨h0.trans ?_, ha⟩
  rw [Cert.NormFwdRefIdeal.Read.val_main_v14_eq, e0, e1]
  funext i
  rw [eq_ix2 i]
  exact (reference_apply _ _ _ _).trans (Cert.NormFwdIdeal.Kernel.result_apply m c _ _).symm

end Cert.NormFwd

end
-- ==== Proof.LossHeadKernel.lean ====
/-
  What the loss head's kernel leaves in its results over the extended reals, for all arguments: the gradient of every row,
  the scale's gradient and the loss, the last two summed over all rows.
-/
module

public import proofs.«01_k».proof.Proof.Gen.LossHeadIdeal.Value
public import proofs.«01_k».proof.Proof.NormSpec
public import Idealize.ShloMosaic.Lib.Pointwise

@[expose] public section

set_option maxRecDepth 16384

noncomputable section

namespace Cert.LossHeadIdeal.Kernel

open Idealize.ShloMosaic Idealize.ShloMosaic.TcCoe Idealize.SL.Sem
open Cert.LossHeadIdeal Cert.LossHeadIdeal.Gen Cert.LossHeadIdeal.Value Cert.Norm Cert.Sums

/-! ## A row's error -/

/-- The scaled normalised row less the target. -/
def err (x g t : Fin 2048 → EReal) (j : Fin 2048) : EReal := x j * rstd x * g j - t j

/-- The gradient at the prediction: the error over the length of the row. -/
def dErr (x g t : Fin 2048 → EReal) (j : Fin 2048) : EReal := err x g t j * Ideal.ofBits .f32 0x3A000000#32

/-! ## The two cases of a point -/

section cases
variable {F : FTy → Type} [FloatOps F]

theorem hz : (![0, 0] : Fin 2 → Nat) = fun _ => 0 := funext fun a => by fin_cases a <;> rfl

variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S256x2048 .bf16) (harg5 : arg5.IsWhole)
  (arg6 : Memref sig .tc .vmem S1x2048 .f32) (harg6 : arg6.IsWhole)
  (arg7 : Memref sig .tc .vmem S1x128 .f32) (harg7 : arg7.IsWhole)
  (x0 : Vec F S256x2048 .f32) (x1 : Vec F S1x2048 .f32) (x2 : Vec F S256x2048 .f32)

/-- The first point writes the gradient of its rows. -/
theorem out_A_3 (hc0 : cond0_0 i) (hc1 : ¬cond0_1 i) :
    out0_A_3 c i arg1 harg1 arg2 harg2 arg3 harg3 arg4 harg4 arg5 harg5 arg6 harg6 arg7 harg7 hc0 hc1 x0 x1 x2 = k0_pay9 x0 x1 x2 := by
  unfold out0_A_3
  rw [View.read_writes_eq_canon _ _ _ (cover0_A_3 c i arg1 harg1 arg2 harg2 arg3 harg3 arg4 harg4 arg5 harg5 arg6 harg6 arg7 harg7 hc0 hc1 x0 x1 x2)]
  unfold kernelRun0_A
  dsimp only
  sl_unfold_words
  simp only [View.canon_unit_zero (S := S256x2048) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- The first point writes the same gradient a second time. -/
theorem out_A_4 (hc0 : cond0_0 i) (hc1 : ¬cond0_1 i) :
    out0_A_4 c i arg1 harg1 arg2 harg2 arg3 harg3 arg4 harg4 arg5 harg5 arg6 harg6 arg7 harg7 hc0 hc1 x0 x1 x2 = k0_pay10 x0 x1 x2 := by
  unfold out0_A_4
  rw [View.read_writes_eq_canon _ _ _ (cover0_A_4 c i arg1 harg1 arg2 harg2 arg3 harg3 arg4 harg4 arg5 harg5 arg6 harg6 arg7 harg7 hc0 hc1 x0 x1 x2)]
  unfold kernelRun0_A
  dsimp only
  sl_unfold_words
  simp only [View.canon_unit_zero (S := S256x2048) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- A later point writes the gradient of its rows. -/
theorem out_B_3 (hc0 : ¬cond0_0 i) (hc1 : cond0_1 i) (xo5 : Vec F S1x2048 .f32) (xo6 : Vec F S1x128 .f32) :
    out0_B_3 c i arg1 harg1 arg2 harg2 arg3 harg3 arg4 harg4 arg5 harg5 arg6 harg6 arg7 harg7 hc0 hc1 x0 x1 x2 xo5 xo6 = k0_pay9 x0 x1 x2 := by
  unfold out0_B_3
  rw [View.read_writes_eq_canon _ _ _ (cover0_B_3 c i arg1 harg1 arg2 harg2 arg3 harg3 arg4 harg4 arg5 harg5 arg6 harg6 arg7 harg7 hc0 hc1 x0 x1 x2 xo5 xo6)]
  unfold kernelRun0_B
  dsimp only
  sl_unfold_words
  simp only [View.canon_unit_zero (S := S256x2048) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- A later point writes the same gradient a second time. -/
theorem out_B_4 (hc0 : ¬cond0_0 i) (hc1 : cond0_1 i) (xo5 : Vec F S1x2048 .f32) (xo6 : Vec F S1x128 .f32) :
    out0_B_4 c i arg1 harg1 arg2 harg2 arg3 harg3 arg4 harg4 arg5 harg5 arg6 harg6 arg7 harg7 hc0 hc1 x0 x1 x2 xo5 xo6 = k0_pay10 x0 x1 x2 := by
  unfold out0_B_4
  rw [View.read_writes_eq_canon _ _ _ (cover0_B_4 c i arg1 harg1 arg2 harg2 arg3 harg3 arg4 harg4 arg5 harg5 arg6 harg6 arg7 harg7 hc0 hc1 x0 x1 x2 xo5 xo6)]
  unfold kernelRun0_B
  dsimp only
  sl_unfold_words
  simp only [View.canon_unit_zero (S := S256x2048) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- The first point writes its part of the scale's gradient. -/
theorem out_A_5 (hc0 : cond0_0 i) (hc1 : ¬cond0_1 i) :
    out0_A_5 c i arg1 harg1 arg2 harg2 arg3 harg3 arg4 harg4 arg5 harg5 arg6 harg6 arg7 harg7 hc0 hc1 x0 x1 x2 = k0_pay11 x0 x1 x2 := by
  unfold out0_A_5
  rw [View.read_writes_eq_canon _ _ _ (cover0_A_5 c i arg1 harg1 arg2 harg2 arg3 harg3 arg4 harg4 arg5 harg5 arg6 harg6 arg7 harg7 hc0 hc1 x0 x1 x2)]
  unfold kernelRun0_A
  dsimp only
  sl_unfold_words
  simp only [View.canon_unit_zero (S := S1x2048) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- A later point adds its part to what the points before left. -/
theorem out_B_5 (hc0 : ¬cond0_0 i) (hc1 : cond0_1 i) (xo5 : Vec F S1x2048 .f32) (xo6 : Vec F S1x128 .f32) :
    out0_B_5 c i arg1 harg1 arg2 harg2 arg3 harg3 arg4 harg4 arg5 harg5 arg6 harg6 arg7 harg7 hc0 hc1 x0 x1 x2 xo5 xo6 = k0_pay3 (k0_pay11 x0 x1 x2) xo5 := by
  unfold out0_B_5
  rw [View.read_writes_eq_canon _ _ _ (cover0_B_5 c i arg1 harg1 arg2 harg2 arg3 harg3 arg4 harg4 arg5 harg5 arg6 harg6 arg7 harg7 hc0 hc1 x0 x1 x2 xo5 xo6)]
  unfold kernelRun0_B
  dsimp only
  sl_unfold_words
  simp only [View.canon_unit_zero (S := S1x2048) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- The first point writes its part of the loss. -/
theorem out_A_6 (hc0 : cond0_0 i) (hc1 : ¬cond0_1 i) :
    out0_A_6 c i arg1 harg1 arg2 harg2 arg3 harg3 arg4 harg4 arg5 harg5 arg6 harg6 arg7 harg7 hc0 hc1 x0 x1 x2 = k0_pay2 (k0_pay12 x0 x1 x2) := by
  unfold out0_A_6
  rw [View.read_writes_eq_canon _ _ _ (cover0_A_6 c i arg1 harg1 arg2 harg2 arg3 harg3 arg4 harg4 arg5 harg5 arg6 harg6 arg7 harg7 hc0 hc1 x0 x1 x2)]
  unfold kernelRun0_A
  dsimp only
  sl_unfold_words
  simp only [View.canon_unit_zero (S := S1x128) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

/-- A later point adds its part of the loss to what the points before left. -/
theorem out_B_6 (hc0 : ¬cond0_0 i) (hc1 : cond0_1 i) (xo5 : Vec F S1x2048 .f32) (xo6 : Vec F S1x128 .f32) :
    out0_B_6 c i arg1 harg1 arg2 harg2 arg3 harg3 arg4 harg4 arg5 harg5 arg6 harg6 arg7 harg7 hc0 hc1 x0 x1 x2 xo5 xo6 = k0_pay4 (k0_pay12 x0 x1 x2) xo6 := by
  unfold out0_B_6
  rw [View.read_writes_eq_canon _ _ _ (cover0_B_6 c i arg1 harg1 arg2 harg2 arg3 harg3 arg4 harg4 arg5 harg5 arg6 harg6 arg7 harg7 hc0 hc1 x0 x1 x2 xo5 xo6)]
  unfold kernelRun0_B
  dsimp only
  sl_unfold_words
  simp only [View.canon_unit_zero (S := S1x128) hz, View.readAt_eq_ld, harg1.read_unread, harg2.read_unread, harg3.read_unread,
    harg6.read_unread, harg7.read_unread, View.ld_unit_zero (S := S256x2048) hz, View.ld_unit_zero (S := S1x2048) hz,
    View.ld_unit_zero (S := S1x128) hz]

end cases

/-! ## The payloads at an index -/

section payloads
variable (x t : Vec Ideal S256x2048 .f32) (g : Vec Ideal S1x2048 .f32)

theorem rstd_apply (r : Fin 256) : k0_pay5 x (ix2 r (0 : Fin 1)) = rstd fun k => x (ix2 r k) := by
  unfold k0_pay5 rstd ms
  pointwise

theorem hat_apply (r : Fin 256) (j : Fin 2048) : k0_pay6 x (ix2 r j) = x (ix2 r j) * rstd fun k => x (ix2 r k) := by
  unfold k0_pay6
  have h := rstd_apply x
  generalize k0_pay5 x = y at h
  pointwise
  rw [h]

theorem err_apply (r : Fin 256) (j : Fin 2048) :
    k0_pay7 x g t (ix2 r j) = err (fun k => x (ix2 r k)) (fun k => g (ix2 (0 : Fin 1) k)) (fun k => t (ix2 r k)) j := by
  unfold k0_pay7 err
  have h := hat_apply x
  generalize k0_pay6 x = y at h
  pointwise [h]

theorem dErr_apply (r : Fin 256) (j : Fin 2048) :
    k0_pay8 x g t (ix2 r j) = dErr (fun k => x (ix2 r k)) (fun k => g (ix2 (0 : Fin 1) k)) (fun k => t (ix2 r k)) j := by
  unfold k0_pay8 dErr
  have h := err_apply x t g
  generalize k0_pay7 x g t = y at h
  pointwise [h]

theorem pay9_apply (r : Fin 256) (j : Fin 2048) :
    k0_pay9 x g t (ix2 r j) = grad (fun k => x (ix2 r k))
      (fun k => dErr (fun k => x (ix2 r k)) (fun k => g (ix2 (0 : Fin 1) k)) (fun k => t (ix2 r k)) k * g (ix2 (0 : Fin 1) k)) j := by
  unfold k0_pay9 grad
  have h := rstd_apply x
  have h6 := hat_apply x
  have h8 := dErr_apply x t g
  generalize k0_pay5 x = y at h
  generalize k0_pay6 x = z at h6
  generalize k0_pay8 x g t = w at h8
  pointwise [h, h6, h8]

theorem pay10_apply (r : Fin 256) (j : Fin 2048) :
    k0_pay10 x g t (ix2 r j) = grad (fun k => x (ix2 r k))
      (fun k => dErr (fun k => x (ix2 r k)) (fun k => g (ix2 (0 : Fin 1) k)) (fun k => t (ix2 r k)) k * g (ix2 (0 : Fin 1) k)) j := by
  unfold k0_pay10
  have h := pay9_apply x t g
  generalize k0_pay9 x g t = y at h
  pointwise
  exact h r j

theorem pay11_apply (j : Fin 2048) :
    k0_pay11 x g t (ix2 (0 : Fin 1) j) = ∑ r : Fin 256,
      dErr (fun k => x (ix2 r k)) (fun k => g (ix2 (0 : Fin 1) k)) (fun k => t (ix2 r k)) j * (x (ix2 r j) * rstd fun k => x (ix2 r k)) := by
  unfold k0_pay11
  have h6 := hat_apply x
  have h8 := dErr_apply x t g
  generalize k0_pay6 x = z at h6
  generalize k0_pay8 x g t = w at h8
  pointwise [h6, h8]

theorem pay12_apply (r : Fin 256) :
    k0_pay12 x g t (ix2 r (0 : Fin 1)) = ∑ j : Fin 2048,
      err (fun k => x (ix2 r k)) (fun k => g (ix2 (0 : Fin 1) k)) (fun k => t (ix2 r k)) j
        * err (fun k => x (ix2 r k)) (fun k => g (ix2 (0 : Fin 1) k)) (fun k => t (ix2 r k)) j := by
  unfold k0_pay12
  have h := err_apply x t g
  generalize k0_pay7 x g t = y at h
  pointwise [h]

theorem pay1_apply (s : Vec Ideal S256x1 .f32) :
    k0_pay1 (F := Ideal) s (ix2 (0 : Fin 1) (0 : Fin 1)) = (∑ r : Fin 256, s (ix2 r (0 : Fin 1))) * Ideal.ofBits .f32 0x39800000#32 := by
  unfold k0_pay1
  pointwise

theorem pay2_apply (s : Vec Ideal S256x1 .f32) (j : Fin 128) :
    k0_pay2 (F := Ideal) s (ix2 (0 : Fin 1) j) = (∑ r : Fin 256, s (ix2 r (0 : Fin 1))) * Ideal.ofBits .f32 0x39800000#32 := by
  unfold k0_pay2
  have h := pay1_apply s
  generalize k0_pay1 (F := Ideal) s = y at h
  pointwise
  exact h

theorem pay4_apply (s : Vec Ideal S256x1 .f32) (a : Vec Ideal S1x128 .f32) (j : Fin 128) :
    k0_pay4 (F := Ideal) s a (ix2 (0 : Fin 1) j) = a (ix2 (0 : Fin 1) j) + k0_pay2 (F := Ideal) s (ix2 (0 : Fin 1) j) := by
  unfold k0_pay4 k0_pay2
  generalize k0_pay1 (F := Ideal) s = y
  pointwise

theorem pay3_apply (p a : Vec Ideal S1x2048 .f32) (j : Fin 2048) :
    k0_pay3 p a (ix2 (0 : Fin 1) j) = a (ix2 (0 : Fin 1) j) + p (ix2 (0 : Fin 1) j) := by
  unfold k0_pay3
  pointwise

end payloads

/-! ## The blocks -/

/-- The block index of each window at a grid point. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel

/-- Every point writes its rows' blocks back. -/
theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)
/-- The last point alone writes the scale's gradient and the loss back. -/
theorem flush5 : ∀ t : Fin cfg0.N, (cfg0.win 5).flush t = true ↔ t.val = 7 :=
  (by decide +kernel : ∀ t : Fin grid0.N, win0_5.flush t = true ↔ t.val = 7)
theorem flush6 : ∀ t : Fin cfg0.N, (cfg0.win 6).flush t = true ↔ t.val = 7 :=
  (by decide +kernel : ∀ t : Fin grid0.N, win0_6.flush t = true ↔ t.val = 7)

variable (m : (ℓ : Loc nD τ sig) → Buf (Elt Ideal) ℓ) (c : Dev nD)

/-- The arguments the kernel is run on: the rows, the scale and the target. -/
abbrev argX : Vec Ideal S2048x2048 .f32 := m ((c : Thread nD τ).loc main_arg0)
abbrev argG : Vec Ideal S1x2048 .f32 := m ((c : Thread nD τ).loc main_arg1)
abbrev argT : Vec Ideal S2048x2048 .f32 := m ((c : Thread nD τ).loc main_arg2)

/-- A row of the rows, the scale and a row of the target. -/
abbrev rowX (i : Fin 2048) : Fin 2048 → EReal := fun k => argX m c (ix2 i k)
abbrev rowG : Fin 2048 → EReal := fun k => argG m c (ix2 (0 : Fin 1) k)
abbrev rowT (i : Fin 2048) : Fin 2048 → EReal := fun k => argT m c (ix2 i k)

/-- A grid point is below 8. -/
theorem lt8 (t : Fin cfg0.N) : t.val < 8 := lt_of_lt_of_eq t.isLt N_0

/-- The block of the rows. -/
theorem blk_x (t : Fin cfg0.N) (r : Fin 256) (k : Fin 2048) (i : Fin 2048) (hi : i.val = t.val * 256 + r.val) :
    (iblk m c 0 t : Vec Ideal S256x2048 .f32) (ix2 r k) = argX m c (ix2 i k) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 256 + 1 * r.val = i.val; rw [h.1]; omega
  | ⟨1, _⟩ => show win0_0.index t 1 * 2048 + 1 * k.val = k.val; rw [h.2]; omega

/-- The block of the scale. -/
theorem blk_g (t : Fin cfg0.N) (k : Fin 2048) :
    (iblk m c 1 t : Vec Ideal S1x2048 .f32) (ix2 (0 : Fin 1) k) = argG m c (ix2 (0 : Fin 1) k) := by
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = 0; rw [h.1]
  | ⟨1, _⟩ => show win0_1.index t 1 * 2048 + 1 * k.val = k.val; rw [h.2]; omega

/-- The block of the target. -/
theorem blk_t (t : Fin cfg0.N) (r : Fin 256) (k : Fin 2048) (i : Fin 2048) (hi : i.val = t.val * 256 + r.val) :
    (iblk m c 2 t : Vec Ideal S256x2048 .f32) (ix2 r k) = argT m c (ix2 i k) := by
  unfold iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 256 + 1 * r.val = i.val; rw [h.1]; omega
  | ⟨1, _⟩ => show win0_2.index t 1 * 2048 + 1 * k.val = k.val; rw [h.2]; omega

/-- What a point leaves in its rows' blocks. -/
theorem rows_at (t : Fin cfg0.N) : (outsAt0 m c t.val t.isLt).1 = k0_pay9 (iblk m c 0 t) (iblk m c 1 t) (iblk m c 2 t)
    ∧ (outsAt0 m c t.val t.isLt).2.1 = k0_pay10 (iblk m c 0 t) (iblk m c 1 t) (iblk m c 2 t) := by
  have ht := lt8 t
  by_cases h : t.val = 0
  · rw [outsAt0_A m c t (by omega) (by omega)]
    dsimp only
    rw [out_A_3, out_A_4]
    exact ⟨rfl, rfl⟩
  · rw [outsAt0_B m c t (by omega) (by omega)]
    dsimp only
    rw [out_B_3, out_B_4]
    exact ⟨rfl, rfl⟩

/-- An entry of output 3 is the entry of the block its point writes back. -/
theorem entry3_blk (t : Fin cfg0.N) (r : Fin 256) (i j : Fin 2048) (hi : i.val = t.val * 256 + r.val) :
    ((dats m 0 c).arrAt 3 cfg0.N : Vec Ideal S2048x2048 .f32) (ix2 i j)
      = ((outsAt0 m c t.val t.isLt).1 : Vec Ideal S256x2048 .f32) (ix2 r j) := by
  have hb := congrFun (blocks3 m c t (flush3 t)) (ix2 r j)
  rw [flushed3, View.read_apply] at hb
  refine Eq.trans ?_ hb
  refine congrArg ((dats m 0 c).arrAt 3 cfg0.N) (funext fun a => Fin.ext ?_)
  have h := idx3 t
  match a with
  | ⟨0, _⟩ => show i.val = win0_3.index t 0 * 256 + 1 * r.val; rw [h.1]; omega
  | ⟨1, _⟩ => show j.val = win0_3.index t 1 * 2048 + 1 * j.val; rw [h.2]; omega

/-- An entry of output 4 is the entry of the block its point writes back. -/
theorem entry4_blk (t : Fin cfg0.N) (r : Fin 256) (i j : Fin 2048) (hi : i.val = t.val * 256 + r.val) :
    ((dats m 0 c).arrAt 4 cfg0.N : Vec Ideal S2048x2048 .bf16) (ix2 i j)
      = ((outsAt0 m c t.val t.isLt).2.1 : Vec Ideal S256x2048 .bf16) (ix2 r j) := by
  have hb := congrFun (blocks4 m c t (flush4 t)) (ix2 r j)
  rw [flushed4, View.read_apply] at hb
  refine Eq.trans ?_ hb
  refine congrArg ((dats m 0 c).arrAt 4 cfg0.N) (funext fun a => Fin.ext ?_)
  have h := idx4 t
  match a with
  | ⟨0, _⟩ => show i.val = win0_4.index t 0 * 256 + 1 * r.val; rw [h.1]; omega
  | ⟨1, _⟩ => show j.val = win0_4.index t 1 * 2048 + 1 * j.val; rw [h.2]; omega

/-- The gradient at a row. -/
def rowGrad (i j : Fin 2048) : EReal := grad (rowX m c i) (fun k => dErr (rowX m c i) (rowG m c) (rowT m c i) k * rowG m c k) j

/-- The rows a point reads are its rows of the arrays. -/
theorem rows_eq (t : Fin cfg0.N) (r : Fin 256) (i : Fin 2048) (hi : i.val = t.val * 256 + r.val)
    (x y : Vec Ideal S256x2048 .f32) (g : Vec Ideal S1x2048 .f32) (hx : x = iblk m c 0 t) (hg : g = iblk m c 1 t) (hy : y = iblk m c 2 t) :
    (fun k => x (ix2 r k)) = rowX m c i ∧ (fun k => g (ix2 (0 : Fin 1) k)) = rowG m c ∧ (fun k => y (ix2 r k)) = rowT m c i := by
  subst hx hg hy
  exact ⟨funext fun k => blk_x m c t r k i hi, funext fun k => blk_g m c t k, funext fun k => blk_t m c t r k i hi⟩

/-- The payload at a point is the gradient of its rows. -/
theorem rowGrad_eq (t : Fin cfg0.N) (r : Fin 256) (i j : Fin 2048) (hi : i.val = t.val * 256 + r.val)
    (x y : Vec Ideal S256x2048 .f32) (g : Vec Ideal S1x2048 .f32) (hx : x = iblk m c 0 t) (hg : g = iblk m c 1 t) (hy : y = iblk m c 2 t) :
    grad (fun k => x (ix2 r k))
      (fun k => dErr (fun k => x (ix2 r k)) (fun k => g (ix2 (0 : Fin 1) k)) (fun k => y (ix2 r k)) k * g (ix2 (0 : Fin 1) k)) j = rowGrad m c i j := by
  obtain ⟨ex, eg, ey⟩ := rows_eq m c t r i hi x y g hx hg hy
  have eg' : ∀ k, g (ix2 (0 : Fin 1) k) = rowG m c k := congrFun eg
  simp only [ex, ey, eg']
  rfl

/-- The point and the row of its block a row of the arrays is in. -/
theorem place (i : Fin 2048) : ∃ (t : Fin cfg0.N) (r : Fin 256), i.val = t.val * 256 + r.val := by
  have hi := i.isLt
  refine ⟨⟨i.val / 256, by rw [show cfg0.N = 8 from N_0]; omega⟩, ⟨i.val % 256, by omega⟩, ?_⟩
  show i.val = i.val / 256 * 256 + i.val % 256
  omega

/-- An entry of the first result. -/
theorem result3 (i j : Fin 2048) : ((dats m 0 c).arrAt 3 cfg0.N : Vec Ideal S2048x2048 .f32) (ix2 i j) = rowGrad m c i j := by
  obtain ⟨t, r, hi⟩ := place i
  refine (entry3_blk m c t r i j hi).trans ?_
  rw [(rows_at m c t).1]
  exact (pay9_apply _ _ _ r j).trans (rowGrad_eq m c t r i j hi _ _ _ rfl rfl rfl)

/-- An entry of the second result. -/
theorem result4 (i j : Fin 2048) : ((dats m 0 c).arrAt 4 cfg0.N : Vec Ideal S2048x2048 .bf16) (ix2 i j) = rowGrad m c i j := by
  obtain ⟨t, r, hi⟩ := place i
  refine (entry4_blk m c t r i j hi).trans ?_
  rw [(rows_at m c t).2]
  exact (pay10_apply _ _ _ r j).trans (rowGrad_eq m c t r i j hi _ _ _ rfl rfl rfl)

/-! ## The sums over all rows -/

/-- Rows summed in runs of 256 are the sum over all rows. -/
theorem parts (f : Fin 2048 → EReal) : ∑ p : Fin 8, ∑ r : Fin 256, f ⟨p.val * 256 + r.val, by omega⟩ = ∑ i : Fin 2048, f i := by
  rw [sum_runs (a := 8) (b := 256) f]
  refine sum_eq fun p => sum_eq fun q => congrArg f (Fin.ext ?_)
  show p.val * 256 + q.val = q.val + 256 * p.val
  omega

/-- A row's part of the scale's gradient. -/
def term (j i : Fin 2048) : EReal := dErr (rowX m c i) (rowG m c) (rowT m c i) j * (rowX m c i j * rstd (rowX m c i))

/-- The part of one point's rows. -/
def part (j : Fin 2048) (t : Fin 8) : EReal := ∑ r : Fin 256, term m c j ⟨t.val * 256 + r.val, by omega⟩

/-- A row's sum of squared errors. -/
def sq (i : Fin 2048) : EReal := ∑ j : Fin 2048, err (rowX m c i) (rowG m c) (rowT m c i) j * err (rowX m c i) (rowG m c) (rowT m c i) j

/-- The loss of one point's rows. -/
def lossPart (t : Fin 8) : EReal := (∑ r : Fin 256, sq m c ⟨t.val * 256 + r.val, by omega⟩) * Ideal.ofBits .f32 0x39800000#32

/-- A point's payload is its part of the scale's gradient. -/
theorem part_eq (t : Fin cfg0.N) (j : Fin 2048) :
    k0_pay11 (iblk m c 0 t : Vec Ideal S256x2048 .f32) (iblk m c 1 t : Vec Ideal S1x2048 .f32) (iblk m c 2 t : Vec Ideal S256x2048 .f32) (ix2 (0 : Fin 1) j)
      = part m c j ⟨t.val, lt8 t⟩ := by
  refine (pay11_apply _ _ _ j).trans ?_
  have ht := lt8 t
  refine sum_eq fun r => ?_
  obtain ⟨ex, eg, ey⟩ := rows_eq m c t r ⟨t.val * 256 + r.val, by omega⟩ rfl _ _ _ rfl rfl rfl
  unfold term
  exact congrArg₂ (· * ·) (congrFun (congr (congr (congrArg dErr ex) eg) ey) j) (congrArg₂ (· * ·) (congrFun ex j) (congrArg rstd ex))

/-- A point's payload is its part of the loss. -/
theorem lossPart_eq (t : Fin cfg0.N) (j : Fin 128) :
    k0_pay2 (F := Ideal) (k0_pay12 (iblk m c 0 t : Vec Ideal S256x2048 .f32) (iblk m c 1 t : Vec Ideal S1x2048 .f32) (iblk m c 2 t : Vec Ideal S256x2048 .f32)) (ix2 (0 : Fin 1) j)
      = lossPart m c ⟨t.val, lt8 t⟩ := by
  refine (pay2_apply _ j).trans ?_
  have ht := lt8 t
  unfold lossPart
  refine congrArg (· * Ideal.ofBits .f32 0x39800000#32) (sum_eq fun r => (pay12_apply _ _ _ r).trans ?_)
  obtain ⟨ex, eg, ey⟩ := rows_eq m c t r ⟨t.val * 256 + r.val, by omega⟩ rfl _ _ _ rfl rfl rfl
  refine sum_eq fun j => ?_
  have h := congrFun (congr (congr (congrArg err ex) eg) ey) j
  exact congrArg₂ (· * ·) h h

/-- The parts together are the sum over all rows. -/
theorem termParts (j : Fin 2048) : ∑ p : Fin 8, part m c j p = ∑ i : Fin 2048, term m c j i := by
  unfold part
  exact parts (term m c j)

/-- After a point the output holds the parts of the points so far. -/
theorem acc (j : Fin 2048) : ∀ (n : Nat) (hn : n < cfg0.N),
    ((outsAt0 m c n hn).2.2.1 : Vec Ideal S1x2048 .f32) (ix2 (0 : Fin 1) j)
      = ∑ p : Fin (n + 1), part m c j ⟨p.val, by have := lt_of_lt_of_eq hn N_0; omega⟩
  | 0, hn => by
    have h := outsAt0_A m c ⟨0, hn⟩ (by show 0 % 8 = 0; omega) (by show ¬1 ≤ 0; omega)
    dsimp only at h
    rw [out_A_5] at h
    rw [h, Fin.sum_univ_one]
    refine (part_eq m c ⟨0, hn⟩ j).trans ?_
    rfl
  | n + 1, hn => by
    have h8 := lt_of_lt_of_eq hn N_0
    have h := outsAt0_B m c ⟨n + 1, hn⟩ (by show ¬(n + 1) % 8 = 0; omega) (by show 1 ≤ n + 1; omega)
    dsimp only at h
    rw [out_B_5] at h
    rw [h, Fin.sum_univ_castSucc]
    refine (pay3_apply _ _ j).trans ?_
    exact congrArg₂ (· + ·) (acc j n (by omega)) (part_eq m c ⟨n + 1, hn⟩ j)

/-- After a point the output holds the loss of the points so far. -/
theorem lossAcc (j : Fin 128) : ∀ (n : Nat) (hn : n < cfg0.N),
    ((outsAt0 m c n hn).2.2.2 : Vec Ideal S1x128 .f32) (ix2 (0 : Fin 1) j)
      = ∑ p : Fin (n + 1), lossPart m c ⟨p.val, by have := lt_of_lt_of_eq hn N_0; omega⟩
  | 0, hn => by
    have h := outsAt0_A m c ⟨0, hn⟩ (by show 0 % 8 = 0; omega) (by show ¬1 ≤ 0; omega)
    dsimp only at h
    rw [out_A_6] at h
    rw [h, Fin.sum_univ_one]
    refine (lossPart_eq m c ⟨0, hn⟩ j).trans ?_
    rfl
  | n + 1, hn => by
    have h8 := lt_of_lt_of_eq hn N_0
    have h := outsAt0_B m c ⟨n + 1, hn⟩ (by show ¬(n + 1) % 8 = 0; omega) (by show 1 ≤ n + 1; omega)
    dsimp only at h
    rw [out_B_6] at h
    rw [h, Fin.sum_univ_castSucc]
    refine (pay4_apply _ _ j).trans ?_
    exact congrArg₂ (· + ·) (lossAcc j n (by omega)) (lossPart_eq m c ⟨n + 1, hn⟩ j)

/-- The last point's output is the array's. -/
theorem last5 (hN : 7 < cfg0.N) (j : Fin 2048) : ((dats m 0 c).arrAt 5 cfg0.N : Vec Ideal S1x2048 .f32) (ix2 (0 : Fin 1) j)
    = ((outsAt0 m c 7 hN).2.2.1 : Vec Ideal S1x2048 .f32) (ix2 (0 : Fin 1) j) := by
  have hb := congrFun ((dats m 0 c).read_blk_arrAt_eq_flushed 5
    (fun t t' h h' hne => absurd (Fin.ext (((flush5 t).mp h).trans ((flush5 t').mp h').symm)) hne) cfg0.N ⟨7, hN⟩ hN ((flush5 ⟨7, hN⟩).mpr rfl)) (ix2 (0 : Fin 1) j)
  rw [flushed5, View.read_apply] at hb
  refine Eq.trans ?_ hb
  refine congrArg ((dats m 0 c).arrAt 5 cfg0.N) (funext fun a => Fin.ext ?_)
  have h := idx5 ⟨7, hN⟩
  match a with
  | ⟨0, _⟩ => show 0 = win0_5.index ⟨7, hN⟩ 0 * 1 + 1 * 0; rw [h.1]
  | ⟨1, _⟩ => show j.val = win0_5.index ⟨7, hN⟩ 1 * 2048 + 1 * j.val; rw [h.2]; omega

/-- An entry of the third result: the sum over all rows. -/
theorem result5 (j : Fin 2048) : ((dats m 0 c).arrAt 5 cfg0.N : Vec Ideal S1x2048 .f32) (ix2 (0 : Fin 1) j) = ∑ i : Fin 2048, term m c j i := by
  have hN : 7 < cfg0.N := by rw [show cfg0.N = 8 from N_0]; omega
  rw [last5 m c hN j, acc m c j 7 hN, ← termParts]

/-- The factor of the loss: a half over the length of a row. -/
theorem factor_eq : Ideal.ofBits .f32 0x39800000#32 = ((1 / 4096 : ℝ) : EReal) := by
  simp [Ideal.ofBits, Ideal.ieee]
  rw [← EReal.coe_mul]
  norm_num

/-- The losses of the points together. -/
theorem lossParts : ∑ p : Fin 8, lossPart m c p = (∑ i : Fin 2048, sq m c i) * Ideal.ofBits .f32 0x39800000#32 := by
  unfold lossPart
  rw [factor_eq, sum_mul_coe _ _ (by norm_num)]
  exact congrArg (· * ((1 / 4096 : ℝ) : EReal)) (parts (sq m c))

/-- The last point's output is the array's. -/
theorem last6 (hN : 7 < cfg0.N) (j : Fin 128) : ((dats m 0 c).arrAt 6 cfg0.N : Vec Ideal S1x128 .f32) (ix2 (0 : Fin 1) j)
    = ((outsAt0 m c 7 hN).2.2.2 : Vec Ideal S1x128 .f32) (ix2 (0 : Fin 1) j) := by
  have hb := congrFun ((dats m 0 c).read_blk_arrAt_eq_flushed 6
    (fun t t' h h' hne => absurd (Fin.ext (((flush6 t).mp h).trans ((flush6 t').mp h').symm)) hne) cfg0.N ⟨7, hN⟩ hN ((flush6 ⟨7, hN⟩).mpr rfl)) (ix2 (0 : Fin 1) j)
  rw [flushed6, View.read_apply] at hb
  refine Eq.trans ?_ hb
  refine congrArg ((dats m 0 c).arrAt 6 cfg0.N) (funext fun a => Fin.ext ?_)
  have h := idx6 ⟨7, hN⟩
  match a with
  | ⟨0, _⟩ => show 0 = win0_6.index ⟨7, hN⟩ 0 * 1 + 1 * 0; rw [h.1]
  | ⟨1, _⟩ => show j.val = win0_6.index ⟨7, hN⟩ 1 * 128 + 1 * j.val; rw [h.2]; omega

/-- An entry of the fourth result: the loss. -/
theorem result6 (j : Fin 128) : ((dats m 0 c).arrAt 6 cfg0.N : Vec Ideal S1x128 .f32) (ix2 (0 : Fin 1) j)
    = (∑ i : Fin 2048, sq m c i) * Ideal.ofBits .f32 0x39800000#32 := by
  have hN : 7 < cfg0.N := by rw [show cfg0.N = 8 from N_0]; omega
  rw [last6 m c hN j, lossAcc m c j 7 hN, ← lossParts]

end Cert.LossHeadIdeal.Kernel

end
-- ==== Proof.LossHeadClaim.lean ====
/-
  The loss head's kernel computes the reference's loss and its gradients by the residual stream and by the scale.
-/
module

public import proofs.«01_k».proof.Proof.LossHeadKernel
public import proofs.«01_k».proof.Proof.Gen.LossHeadRefIdeal.Read
public import proofs.«01_k».proof.Defs

@[expose] public section

set_option maxRecDepth 16384

noncomputable section

namespace Cert.LossHead

open Idealize.ShloMosaic Idealize.ShloMosaic.TcCoe Idealize.SL.Sem Cert.Norm Cert.Sums
open Cert.LossHeadIdeal.Kernel (err dErr factor_eq)

/-- The reference runs from any state, leaves its arguments as they were and its semaphores at zero. -/
theorem reference_frame : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-! ## The constants -/

theorem c_two : Ideal.ofBits .f32 0x40000000#32 = ((2 : ℝ) : EReal) := by
  simp [Ideal.ofBits, Ideal.ieee]
  rw [← EReal.coe_mul]
  norm_num

theorem c_half : Ideal.ofBits .f32 0x3F000000#32 = ((1 / 2 : ℝ) : EReal) := by
  simp [Ideal.ofBits, Ideal.ieee]
  rw [← EReal.coe_mul]
  norm_num

theorem c_one : Ideal.ofBits .f32 0x3F800000#32 = ((1 : ℝ) : EReal) := by
  simp [Ideal.ofBits, Ideal.ieee]
  rw [← EReal.coe_mul]
  norm_num

theorem c_len : Ideal.ofBits .f32 0x45000000#32 = ((2048 : ℝ) : EReal) := len_eq

theorem c_inv : Ideal.ofBits .f32 0x3A000000#32 = ((1 / 2048 : ℝ) : EReal) := by
  simp [Ideal.ofBits, Ideal.ieee]
  rw [← EReal.coe_mul]
  norm_num

/-- The chain rule's factors at an error: a half over the length, and the two of the square. -/
theorem dErr_chain (e : EReal) :
    Ideal.div (Ideal.ofBits .f32 0x3F000000#32 * Ideal.ofBits .f32 0x3F800000#32) (Ideal.ofBits .f32 0x45000000#32)
      * (Ideal.ofBits .f32 0x40000000#32 * e) = e * Ideal.ofBits .f32 0x3A000000#32 := by
  rw [c_half, c_one, c_len, c_two, c_inv, div_coe _ _ (by norm_num), ← mul_assoc, ← EReal.coe_mul, ← EReal.coe_mul, ← EReal.coe_mul, mul_comm]
  norm_num

/-- A half of the sum of the means is the sum times the kernel's factor. -/
theorem loss_chain (s : Fin 2048 → EReal) :
    Ideal.ofBits .f32 0x3F000000#32 * ∑ i, Ideal.div (s i) (Ideal.ofBits .f32 0x45000000#32) = (∑ i, s i) * Ideal.ofBits .f32 0x39800000#32 := by
  rw [c_half, c_len, factor_eq]
  simp only [div_coe _ _ (show (2048 : ℝ) ≠ 0 by norm_num)]
  rw [sum_mul_coe _ _ (by norm_num), mul_comm, mul_assoc, ← EReal.coe_mul]
  norm_num

section reference
open Cert.LossHeadRefIdeal Cert.LossHeadRefIdeal.Gen Cert.LossHeadRefIdeal.Read

variable (x t : Vec Ideal S2048x2048 .f32) (g : Vec Ideal S1x2048 .f32)

/-- A row's mean of squares, with the small constant added. -/
theorem ms_apply (i : Fin 2048) : val_main_v7 (F := Ideal) x (ix2 i (0 : Fin 1)) = ms fun k => x (ix2 i k) := by
  unfold val_main_v7 val_main_v6 val_main_v5 val_main_v4 val_main_v3 val_main_v2 val_main_v1 val_main_cst val_main_cst_0 val_main_cst_1 ms
  pointwise

/-- A row's factor. -/
theorem rstd_apply (i : Fin 2048) : val_main_v8 (F := Ideal) x (ix2 i (0 : Fin 1)) = rstd fun k => x (ix2 i k) := by
  unfold val_main_v8 rstd
  have h := ms_apply x
  generalize val_main_v7 (F := Ideal) x = y at h
  pointwise [h]

/-- The derivative of the factor by the mean of squares. -/
theorem half_apply (i : Fin 2048) : val_main_v11 (F := Ideal) x (ix2 i (0 : Fin 1))
    = Ideal.ofBits .f32 0xBF000000#32 * Ideal.div (rstd fun k => x (ix2 i k)) (ms fun k => x (ix2 i k)) := by
  unfold val_main_v11 val_main_v10 val_main_v9 val_main_cst_2
  have h := ms_apply x
  have h' := rstd_apply x
  generalize val_main_v7 (F := Ideal) x = y at h
  generalize val_main_v8 (F := Ideal) x = z at h'
  pointwise [h, h']

/-- The normalised row. -/
theorem hat_apply (i j : Fin 2048) : val_main_v13 (F := Ideal) x (ix2 i j) = x (ix2 i j) * rstd fun k => x (ix2 i k) := by
  unfold val_main_v13 val_main_v12
  have h' := rstd_apply x
  generalize val_main_v8 (F := Ideal) x = z at h'
  pointwise [h']

/-- A row's error. -/
theorem err_apply (i j : Fin 2048) : val_main_v17 (F := Ideal) x g t (ix2 i j)
    = err (fun k => x (ix2 i k)) (fun k => g (ix2 (0 : Fin 1) k)) (fun k => t (ix2 i k)) j := by
  unfold val_main_v17 val_main_v16 val_main_v15 val_main_v14 val_main_v0 err
  have h := hat_apply x
  generalize val_main_v13 (F := Ideal) x = y at h
  pointwise [h]

/-- The gradient at the prediction. -/
theorem dErr_apply (i j : Fin 2048) : val_main_v31 (F := Ideal) x g t (ix2 i j)
    = dErr (fun k => x (ix2 i k)) (fun k => g (ix2 (0 : Fin 1) k)) (fun k => t (ix2 i k)) j := by
  unfold dErr
  rw [← dErr_chain]
  unfold val_main_v31 val_main_v30 val_main_v29 val_main_v28 val_main_v27 val_main_v26 val_main_v20 val_main_v19 val_main_cst_3 val_main_cst_8
    val_main_cst_9 val_main_cst_10
  have h := err_apply x t g
  generalize val_main_v17 (F := Ideal) x g t = y at h
  pointwise [h]

/-- The gradient at the normalised row. -/
theorem scaled_apply (i j : Fin 2048) : val_main_v36 (F := Ideal) x g t (ix2 i j)
    = dErr (fun k => x (ix2 i k)) (fun k => g (ix2 (0 : Fin 1) k)) (fun k => t (ix2 i k)) j * g (ix2 (0 : Fin 1) j) := by
  unfold val_main_v36 val_main_v35 val_main_v14 val_main_v0
  have h := dErr_apply x t g
  generalize val_main_v31 (F := Ideal) x g t = y at h
  pointwise [h]

/-- The gradient at a row's mean of squares, over the length of the row. -/
theorem coef_apply (i j : Fin 2048) : val_main_v47 (F := Ideal) x g t (ix2 i j)
    = coef (fun k => x (ix2 i k)) (fun k => dErr (fun k => x (ix2 i k)) (fun k => g (ix2 (0 : Fin 1) k)) (fun k => t (ix2 i k)) k * g (ix2 (0 : Fin 1) k)) := by
  unfold val_main_v47 val_main_v46 val_main_v45 val_main_v44 val_main_v43 val_main_v40 val_main_v39 val_main_v38 val_main_cst_13
    val_main_cst_14 val_main_cst_15 coef
  have h := scaled_apply x t g
  have h' := half_apply x
  generalize val_main_v36 (F := Ideal) x g t = y at h
  generalize val_main_v11 (F := Ideal) x = z at h'
  pointwise [h]
  rw [Fin.sum_univ_one, h']

/-- An entry of the reference's first result. -/
theorem v51_apply (i j : Fin 2048) : val_main_v51 (F := Ideal) x g t (ix2 i j)
    = gradChain (fun k => x (ix2 i k)) (fun k => dErr (fun k => x (ix2 i k)) (fun k => g (ix2 (0 : Fin 1) k)) (fun k => t (ix2 i k)) k * g (ix2 (0 : Fin 1) k)) j := by
  unfold val_main_v51 val_main_v50 val_main_v49 val_main_v48 val_main_v42 val_main_v41 gradChain
  have h := scaled_apply x t g
  have h' := rstd_apply x
  have h'' := coef_apply x t g
  generalize val_main_v36 (F := Ideal) x g t = y at h
  generalize val_main_v8 (F := Ideal) x = z at h'
  generalize val_main_v47 (F := Ideal) x g t = w at h''
  pointwise [h, h', h'']

/-- An entry of the reference's second result. -/
theorem v52_apply (i j : Fin 2048) : val_main_v52 (F := Ideal) x g t (ix2 i j)
    = gradChain (fun k => x (ix2 i k)) (fun k => dErr (fun k => x (ix2 i k)) (fun k => g (ix2 (0 : Fin 1) k)) (fun k => t (ix2 i k)) k * g (ix2 (0 : Fin 1) k)) j := by
  unfold val_main_v52
  have h := v51_apply x t g
  generalize val_main_v51 (F := Ideal) x g t = y at h
  pointwise [h]

/-- An entry of the reference's third result. -/
theorem v53_apply (j : Fin 2048) : val_main_v53 (F := Ideal) x g t (ix2 (0 : Fin 1) j)
    = ∑ i : Fin 2048, dErr (fun k => x (ix2 i k)) (fun k => g (ix2 (0 : Fin 1) k)) (fun k => t (ix2 i k)) j * (x (ix2 i j) * rstd fun k => x (ix2 i k)) := by
  unfold val_main_v53 val_main_v37 val_main_v34 val_main_v33 val_main_v32 val_main_cst_11 val_main_cst_12
  have h := dErr_apply x t g
  have h' := hat_apply x
  generalize val_main_v31 (F := Ideal) x g t = y at h
  generalize val_main_v13 (F := Ideal) x = z at h'
  pointwise [h, h']
  rw [Fin.sum_univ_one]
  exact sum_eq fun i => mul_comm _ _

/-- An entry of the reference's fourth result: the loss. -/
theorem v54_apply (j : Fin 128) : val_main_v54 (F := Ideal) x g t (ix2 (0 : Fin 1) j)
    = (∑ i : Fin 2048, ∑ k : Fin 2048, err (fun k => x (ix2 i k)) (fun k => g (ix2 (0 : Fin 1) k)) (fun k => t (ix2 i k)) k
        * err (fun k => x (ix2 i k)) (fun k => g (ix2 (0 : Fin 1) k)) (fun k => t (ix2 i k)) k) * Ideal.ofBits .f32 0x39800000#32 := by
  rw [← loss_chain]
  unfold val_main_v54 val_main_v25 val_main_v24 val_main_v23 val_main_v22 val_main_v21 val_main_v18 val_main_cst_4 val_main_cst_5 val_main_cst_6
    val_main_cst_7
  have h := err_apply x t g
  generalize val_main_v17 (F := Ideal) x g t = y at h
  pointwise [h]

end reference

/-- The kernel's four results are the reference's. -/
theorem value : Cert.algebraic_LossHeadIdeal_LossHeadRefIdeal := by
  intro m g m' g' _ hargs
  refine ⟨fun c => (Cert.LossHeadIdeal.Gen.dats m 0 c).arrAt 3 Cert.LossHeadIdeal.cfg0.N,
    fun c => (Cert.LossHeadIdeal.Gen.dats m 0 c).arrAt 4 Cert.LossHeadIdeal.cfg0.N,
    fun c => (Cert.LossHeadIdeal.Gen.dats m 0 c).arrAt 5 Cert.LossHeadIdeal.cfg0.N,
    fun c => (Cert.LossHeadIdeal.Gen.dats m 0 c).arrAt 6 Cert.LossHeadIdeal.cfg0.N, Cert.LossHeadIdeal.Value.run_blocks m g, ?_⟩
  refine (θ_run _ _ _).mono (fun r h c => ?_) (Cert.LossHeadRefIdeal.Value.run (F := Ideal) m' g')
  obtain ⟨h0, h1, h2, h3, ha⟩ := h c
  obtain ⟨e0, e1, e2⟩ := hargs c
  refine ⟨h0.trans ?_, h1.trans ?_, h2.trans ?_, h3.trans ?_, ha⟩
  · rw [Cert.LossHeadRefIdeal.Read.val_main_v51_eq, e0, e1, e2]
    funext i
    rw [eq_ix2 i]
    exact (v51_apply _ _ _ _ _).trans ((grad_eq _ _ _).symm.trans (Cert.LossHeadIdeal.Kernel.result3 m c _ _).symm)
  · rw [Cert.LossHeadRefIdeal.Read.val_main_v52_eq, e0, e1, e2]
    funext i
    rw [eq_ix2 i]
    exact (v52_apply _ _ _ _ _).trans ((grad_eq _ _ _).symm.trans (Cert.LossHeadIdeal.Kernel.result4 m c _ _).symm)
  · rw [Cert.LossHeadRefIdeal.Read.val_main_v53_eq, e0, e1, e2]
    funext i
    obtain ⟨j, rfl⟩ : ∃ j : Fin 2048, i = ix2 (0 : Fin 1) j :=
      ⟨i 1, by rw [eq_ix2 i]; exact congrArg (ix2 · _) (Subsingleton.elim _ _)⟩
    exact (v53_apply _ _ _ _).trans (Cert.LossHeadIdeal.Kernel.result5 m c _).symm
  · rw [Cert.LossHeadRefIdeal.Read.val_main_v54_eq, e0, e1, e2]
    funext i
    obtain ⟨j, rfl⟩ : ∃ j : Fin 128, i = ix2 (0 : Fin 1) j :=
      ⟨i 1, by rw [eq_ix2 i]; exact congrArg (ix2 · _) (Subsingleton.elim _ _)⟩
    exact (v54_apply _ _ _ _).trans (Cert.LossHeadIdeal.Kernel.result6 m c _).symm

end Cert.LossHead

end
-- ==== Proof.AdamSpec.lean ====
/-
  The optimiser's step of one entry: the gradient from the eight devices' parts, the two moments and the weight's step.
-/
module

public import Idealize.ShloMosaic.Lib.Pointwise

@[expose] public section

noncomputable section

namespace Cert.AdamSpec

open Idealize.ShloMosaic

/-- The gradient: the sum of the own parts and the sum of the sibling's. -/
def gradOf (o s : Fin 4 → EReal) : EReal := ∑ q, o q + ∑ q, s q

/-- The same eight parts added in pairs, one after another. -/
theorem gradOf_eq (o s : Fin 4 → EReal) : gradOf o s = o 0 + s 0 + (o 1 + s 1) + (o 2 + s 2) + (o 3 + s 3) := by
  unfold gradOf
  rw [Fin.sum_univ_four, Fin.sum_univ_four]
  ac_rfl

/-- The new first moment. -/
def newM (m g : EReal) : EReal := Ideal.ofBits .f32 0x3F666666#32 * m + Ideal.ofBits .f32 0x3DCCCCCD#32 * g

/-- The new second moment. -/
def newV (v g : EReal) : EReal := Ideal.ofBits .f32 0x3F7FBE77#32 * v + Ideal.ofBits .f32 0x3A83126F#32 * (g * g)

/-- The weight's step: the corrected first moment over the root of the corrected second, and the decay. -/
def delta (w m v g : EReal) : EReal :=
  Ideal.ofBits .f32 0xBA83126F#32 * (Ideal.div (Ideal.div (newM m g) (Ideal.ofBits .f32 0x3F26BD02#32))
    (Ideal.sqrt (Ideal.div (newV v g) (Ideal.ofBits .f32 0x3C231ACC#32)) + Ideal.ofBits .f32 0x322BCC77#32)
      + Ideal.ofBits .f32 0x3C23D70A#32 * w)

end Cert.AdamSpec

end
-- ==== Proof.AdamKernel.lean ====
/-
  What the optimiser's kernel for a mixer's projection leaves in its results over the extended reals, for all arguments:
  the gradient summed over the devices' parts, the weight's step and the two new moments.
-/
module

public import proofs.«01_k».proof.Proof.Gen.AdamIdeal.Value
public import proofs.«01_k».proof.Proof.AdamSpec
public import Idealize.ShloMosaic.Lib.Pointwise

@[expose] public section

set_option maxRecDepth 16384

noncomputable section

namespace Cert.AdamIdeal.Kernel

open Idealize.ShloMosaic Idealize.ShloMosaic.TcCoe Idealize.SL.Sem
open Cert.AdamIdeal Cert.AdamIdeal.Gen Cert.AdamIdeal.Value Cert.AdamSpec

/-! ## The payloads at an index -/

theorem hz : (![0, 0, 0] : Fin 3 → Nat) = fun _ => 0 := funext fun a => by fin_cases a <;> rfl

/-- One of the four parts a block holds. -/
theorem part0 (x : Vec Ideal S4x128x768 .bf16) (r : Fin 128) (j : Fin 768) : View.ld x r0_0 (ix3 (0 : Fin 1) r j) = x (ix3 (0 : Fin 4) r j) :=
  congrArg x (funext fun a => Fin.ext (by match a with | ⟨0, _⟩ => rfl | ⟨1, _⟩ => show 0 + 1 * r.val = r.val; omega | ⟨2, _⟩ => show 0 + 1 * j.val = j.val; omega))
theorem part1 (x : Vec Ideal S4x128x768 .bf16) (r : Fin 128) (j : Fin 768) : View.ld x r0_1 (ix3 (0 : Fin 1) r j) = x (ix3 (1 : Fin 4) r j) :=
  congrArg x (funext fun a => Fin.ext (by match a with | ⟨0, _⟩ => rfl | ⟨1, _⟩ => show 0 + 1 * r.val = r.val; omega | ⟨2, _⟩ => show 0 + 1 * j.val = j.val; omega))
theorem part2 (x : Vec Ideal S4x128x768 .bf16) (r : Fin 128) (j : Fin 768) : View.ld x r0_2 (ix3 (0 : Fin 1) r j) = x (ix3 (2 : Fin 4) r j) :=
  congrArg x (funext fun a => Fin.ext (by match a with | ⟨0, _⟩ => rfl | ⟨1, _⟩ => show 0 + 1 * r.val = r.val; omega | ⟨2, _⟩ => show 0 + 1 * j.val = j.val; omega))
theorem part3 (x : Vec Ideal S4x128x768 .bf16) (r : Fin 128) (j : Fin 768) : View.ld x r0_3 (ix3 (0 : Fin 1) r j) = x (ix3 (3 : Fin 4) r j) :=
  congrArg x (funext fun a => Fin.ext (by match a with | ⟨0, _⟩ => rfl | ⟨1, _⟩ => show 0 + 1 * r.val = r.val; omega | ⟨2, _⟩ => show 0 + 1 * j.val = j.val; omega))

/-- The gradient at an entry, the parts added in pairs. -/
theorem pay8_apply (x0 x1 x2 : Vec Ideal S1x128x768 .f32) (x3 x4 : Vec Ideal S4x128x768 .bf16) (x5 : Vec Ideal S16x128 .f32) (r : Fin 128) (j : Fin 768) :
    k0_pay8 (F := Ideal) x0 x1 x2 x3 x4 x5 (ix2 r j) = gradOf (fun q => x3 (ix3 q r j)) (fun q => x4 (ix3 q r j)) := by
  have a0 := part0 x3
  have a1 := part1 x3
  have a2 := part2 x3
  have a3 := part3 x3
  have b0 := part0 x4
  have b1 := part1 x4
  have b2 := part2 x4
  have b3 := part3 x4
  unfold k0_pay8
  generalize View.ld x3 r0_0 = p0 at a0 ⊢
  generalize View.ld x3 r0_1 = p1 at a1 ⊢
  generalize View.ld x3 r0_2 = p2 at a2 ⊢
  generalize View.ld x3 r0_3 = p3 at a3 ⊢
  generalize View.ld x4 r0_0 = q0 at b0 ⊢
  generalize View.ld x4 r0_1 = q1 at b1 ⊢
  generalize View.ld x4 r0_2 = q2 at b2 ⊢
  generalize View.ld x4 r0_3 = q3 at b3 ⊢
  rw [gradOf_eq, ← a0, ← a1, ← a2, ← a3, ← b0, ← b1, ← b2, ← b3]
  clear a0 a1 a2 a3 b0 b1 b2 b3
  unfold k0_pay3
  pointwise

theorem pay4_apply (g : Vec Ideal S128x768 .f32) (r : Fin 128) (j : Fin 768) : k0_pay4 (F := Ideal) g (ix3 (0 : Fin 1) r j) = g (ix2 r j) := by
  unfold k0_pay4
  pointwise

theorem pay5_apply (g : Vec Ideal S128x768 .f32) (m : Vec Ideal S1x128x768 .f32) (r : Fin 128) (j : Fin 768) :
    k0_pay5 (F := Ideal) g m (ix2 r j) = newM (m (ix3 (0 : Fin 1) r j)) (g (ix2 r j)) := by
  unfold k0_pay5 newM
  pointwise

theorem pay6_apply (g : Vec Ideal S128x768 .f32) (v : Vec Ideal S1x128x768 .f32) (r : Fin 128) (j : Fin 768) :
    k0_pay6 (F := Ideal) g v (ix2 r j) = newV (v (ix3 (0 : Fin 1) r j)) (g (ix2 r j)) := by
  unfold k0_pay6 newV
  pointwise

theorem pay1_apply (g : Vec Ideal S128x768 .f32) (r : Fin 128) (j : Fin 768) : k0_pay1 (F := Ideal) g (ix3 (0 : Fin 1) r j) = g (ix2 r j) := by
  unfold k0_pay1
  pointwise

theorem pay2_apply (g : Vec Ideal S128x768 .f32) (r : Fin 128) (j : Fin 768) : k0_pay2 (F := Ideal) g (ix3 (0 : Fin 1) r j) = g (ix2 r j) := by
  unfold k0_pay2
  pointwise

theorem pay7_apply (g : Vec Ideal S128x768 .f32) (w m v : Vec Ideal S1x128x768 .f32) (r : Fin 128) (j : Fin 768) :
    k0_pay7 (F := Ideal) g w m v (ix3 (0 : Fin 1) r j)
      = delta (w (ix3 (0 : Fin 1) r j)) (m (ix3 (0 : Fin 1) r j)) (v (ix3 (0 : Fin 1) r j)) (g (ix2 r j)) := by
  unfold k0_pay7 delta
  have h5 := pay5_apply g m
  have h6 := pay6_apply g v
  generalize k0_pay5 (F := Ideal) g m = y at h5
  generalize k0_pay6 (F := Ideal) g v = z at h6
  pointwise [h5, h6]

/-! ## What a point leaves in each output -/

section outs
variable (x0 x1 x2 : Vec Ideal S1x128x768 .f32) (x3 x4 : Vec Ideal S4x128x768 .bf16) (x5 : Vec Ideal S16x128 .f32) (r : Fin 128) (j : Fin 768)

/-- The gradient at an entry of the blocks. -/
abbrev gAt : EReal := gradOf (fun q => x3 (ix3 q r j)) (fun q => x4 (ix3 q r j))

theorem out6 : out0_6 x0 x1 x2 x3 x4 x5 (ix3 (0 : Fin 1) r j) = gAt x3 x4 r j := by
  unfold out0_6
  rw [View.canon_unit_zero (S := S1x128x768) hz, pay4_apply, pay8_apply]

theorem out7 : out0_7 x0 x1 x2 x3 x4 x5 (ix3 (0 : Fin 1) r j)
    = delta (x0 (ix3 (0 : Fin 1) r j)) (x1 (ix3 (0 : Fin 1) r j)) (x2 (ix3 (0 : Fin 1) r j)) (gAt x3 x4 r j) := by
  unfold out0_7
  simp only [View.ld_unit_zero (S := S1x128x768) hz]
  rw [View.canon_unit_zero (S := S1x128x768) hz, pay7_apply, pay8_apply]

theorem out8 : out0_8 x0 x1 x2 x3 x4 x5 (ix3 (0 : Fin 1) r j) = newM (x1 (ix3 (0 : Fin 1) r j)) (gAt x3 x4 r j) := by
  unfold out0_8
  simp only [View.ld_unit_zero (S := S1x128x768) hz]
  rw [View.canon_unit_zero (S := S1x128x768) hz, pay1_apply, pay5_apply, pay8_apply]

theorem out9 : out0_9 x0 x1 x2 x3 x4 x5 (ix3 (0 : Fin 1) r j) = newV (x2 (ix3 (0 : Fin 1) r j)) (gAt x3 x4 r j) := by
  unfold out0_9
  simp only [View.ld_unit_zero (S := S1x128x768) hz]
  rw [View.canon_unit_zero (S := S1x128x768) hz, pay2_apply, pay6_apply, pay8_apply]

end outs

/-! ## The blocks -/

/-- The block index of each window at a grid point. -/
theorem idx0 : ∀ t : Fin grid0.N, win0_0.index t 0 = 0 ∧ win0_0.index t 1 = t.val ∧ win0_0.index t 2 = 0 := by decide +kernel
theorem idx1 : ∀ t : Fin grid0.N, win0_1.index t 0 = 0 ∧ win0_1.index t 1 = t.val ∧ win0_1.index t 2 = 0 := by decide +kernel
theorem idx2 : ∀ t : Fin grid0.N, win0_2.index t 0 = 0 ∧ win0_2.index t 1 = t.val ∧ win0_2.index t 2 = 0 := by decide +kernel
theorem idx3 : ∀ t : Fin grid0.N, win0_3.index t 0 = 0 ∧ win0_3.index t 1 = t.val ∧ win0_3.index t 2 = 0 := by decide +kernel
theorem idx4 : ∀ t : Fin grid0.N, win0_4.index t 0 = 0 ∧ win0_4.index t 1 = t.val ∧ win0_4.index t 2 = 0 := by decide +kernel
theorem idx6 : ∀ t : Fin grid0.N, win0_6.index t 0 = 0 ∧ win0_6.index t 1 = t.val ∧ win0_6.index t 2 = 0 := by decide +kernel
theorem idx7 : ∀ t : Fin grid0.N, win0_7.index t 0 = 0 ∧ win0_7.index t 1 = t.val ∧ win0_7.index t 2 = 0 := by decide +kernel
theorem idx8 : ∀ t : Fin grid0.N, win0_8.index t 0 = 0 ∧ win0_8.index t 1 = t.val ∧ win0_8.index t 2 = 0 := by decide +kernel
theorem idx9 : ∀ t : Fin grid0.N, win0_9.index t 0 = 0 ∧ win0_9.index t 1 = t.val ∧ win0_9.index t 2 = 0 := by decide +kernel

/-- Every point writes its blocks back. -/
theorem flush6 : ∀ t : Fin cfg0.N, (cfg0.win 6).flush t = true :=
  (by decide +kernel : ∀ t : Fin grid0.N, win0_6.flush t = true)
theorem flush7 : ∀ t : Fin cfg0.N, (cfg0.win 7).flush t = true :=
  (by decide +kernel : ∀ t : Fin grid0.N, win0_7.flush t = true)
theorem flush8 : ∀ t : Fin cfg0.N, (cfg0.win 8).flush t = true :=
  (by decide +kernel : ∀ t : Fin grid0.N, win0_8.flush t = true)
theorem flush9 : ∀ t : Fin cfg0.N, (cfg0.win 9).flush t = true :=
  (by decide +kernel : ∀ t : Fin grid0.N, win0_9.flush t = true)

variable (m : (ℓ : Loc nD τ sig) → Buf (Elt Ideal) ℓ) (c : Dev nD)

/-- The arguments the kernel is run on: the weight, its two moments, and the parts of its gradient. -/
abbrev argW : Vec Ideal S1x2048x768 .f32 := m ((c : Thread nD τ).loc main_arg0)
abbrev argM : Vec Ideal S1x2048x768 .f32 := m ((c : Thread nD τ).loc main_arg1)
abbrev argV : Vec Ideal S1x2048x768 .f32 := m ((c : Thread nD τ).loc main_arg2)
abbrev argO : Vec Ideal S4x2048x768 .bf16 := m ((c : Thread nD τ).loc main_arg3)
abbrev argS : Vec Ideal S4x2048x768 .bf16 := m ((c : Thread nD τ).loc main_arg4)

section blocks
variable (t : Fin cfg0.N) (r : Fin 128) (j : Fin 768) (i : Fin 2048) (hi : i.val = t.val * 128 + r.val)
include hi

theorem blk0 : (iblk m c 0 t : Vec Ideal S1x128x768 .f32) (ix3 (0 : Fin 1) r j) = argW m c (ix3 (0 : Fin 1) i j) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 1 + 1 * 0 = 0; rw [h.1]
  | ⟨1, _⟩ => show win0_0.index t 1 * 128 + 1 * r.val = i.val; rw [h.2.1]; omega
  | ⟨2, _⟩ => show win0_0.index t 2 * 768 + 1 * j.val = j.val; rw [h.2.2]; omega

theorem blk1 : (iblk m c 1 t : Vec Ideal S1x128x768 .f32) (ix3 (0 : Fin 1) r j) = argM m c (ix3 (0 : Fin 1) i j) := by
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = 0; rw [h.1]
  | ⟨1, _⟩ => show win0_1.index t 1 * 128 + 1 * r.val = i.val; rw [h.2.1]; omega
  | ⟨2, _⟩ => show win0_1.index t 2 * 768 + 1 * j.val = j.val; rw [h.2.2]; omega

theorem blk2 : (iblk m c 2 t : Vec Ideal S1x128x768 .f32) (ix3 (0 : Fin 1) r j) = argV m c (ix3 (0 : Fin 1) i j) := by
  unfold iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 1 + 1 * 0 = 0; rw [h.1]
  | ⟨1, _⟩ => show win0_2.index t 1 * 128 + 1 * r.val = i.val; rw [h.2.1]; omega
  | ⟨2, _⟩ => show win0_2.index t 2 * 768 + 1 * j.val = j.val; rw [h.2.2]; omega

theorem blk3 (q : Fin 4) : (iblk m c 3 t : Vec Ideal S4x128x768 .bf16) (ix3 q r j) = argO m c (ix3 q i j) := by
  unfold iblk
  rw [View.read_apply]
  show V m c main_arg3 _ = _
  unfold V
  refine congrArg (m ((c : Thread nD τ).loc main_arg3)) (funext fun a => Fin.ext ?_)
  have h := idx3 t
  match a with
  | ⟨0, _⟩ => show win0_3.index t 0 * 4 + 1 * q.val = q.val; rw [h.1]; omega
  | ⟨1, _⟩ => show win0_3.index t 1 * 128 + 1 * r.val = i.val; rw [h.2.1]; omega
  | ⟨2, _⟩ => show win0_3.index t 2 * 768 + 1 * j.val = j.val; rw [h.2.2]; omega

theorem blk4 (q : Fin 4) : (iblk m c 4 t : Vec Ideal S4x128x768 .bf16) (ix3 q r j) = argS m c (ix3 q i j) := by
  unfold iblk
  rw [View.read_apply]
  show V m c main_arg4 _ = _
  unfold V
  refine congrArg (m ((c : Thread nD τ).loc main_arg4)) (funext fun a => Fin.ext ?_)
  have h := idx4 t
  match a with
  | ⟨0, _⟩ => show win0_4.index t 0 * 4 + 1 * q.val = q.val; rw [h.1]; omega
  | ⟨1, _⟩ => show win0_4.index t 1 * 128 + 1 * r.val = i.val; rw [h.2.1]; omega
  | ⟨2, _⟩ => show win0_4.index t 2 * 768 + 1 * j.val = j.val; rw [h.2.2]; omega

/-- The blocks' gradient is the arrays'. -/
theorem grad_blk (x3 x4 : Vec Ideal S4x128x768 .bf16) (h3 : x3 = iblk m c 3 t) (h4 : x4 = iblk m c 4 t) :
    gAt x3 x4 r j = gradOf (fun q => argO m c (ix3 q i j)) (fun q => argS m c (ix3 q i j)) := by
  subst h3 h4
  exact congrArg₂ gradOf (funext fun q => blk3 m c t r j i hi q) (funext fun q => blk4 m c t r j i hi q)

end blocks

/-- The point and the row of its block a row of the arrays is in. -/
theorem place (i : Fin 2048) : ∃ (t : Fin cfg0.N) (r : Fin 128), i.val = t.val * 128 + r.val := by
  have hi := i.isLt
  refine ⟨⟨i.val / 128, by rw [show cfg0.N = 16 from N_0]; omega⟩, ⟨i.val % 128, by omega⟩, ?_⟩
  show i.val = i.val / 128 * 128 + i.val % 128
  omega

/-- The gradient at an entry of the arrays. -/
abbrev gOf (i : Fin 2048) (j : Fin 768) : EReal := gradOf (fun q => argO m c (ix3 q i j)) (fun q => argS m c (ix3 q i j))

/-- An entry of the gradient. -/
theorem result6 (i : Fin 2048) (j : Fin 768) : ((dats m 0 c).arrAt 6 cfg0.N : Vec Ideal S1x2048x768 .f32) (ix3 (0 : Fin 1) i j)
    = gOf m c i j := by
  obtain ⟨t, r, hi⟩ := place i
  have hb := congrFun (blocks6 m c t (flush6 t)) (ix3 (0 : Fin 1) r j)
  rw [flushed6, View.read_apply] at hb
  refine Eq.trans ?_ (hb.trans ((out6 _ _ _ _ _ _ r j).trans ((grad_blk m c t r j i hi _ _ rfl rfl))))
  refine congrArg ((dats m 0 c).arrAt 6 cfg0.N) (funext fun a => Fin.ext ?_)
  have h := idx6 t
  match a with
  | ⟨0, _⟩ => show 0 = win0_6.index t 0 * 1 + 1 * 0; rw [h.1]
  | ⟨1, _⟩ => show i.val = win0_6.index t 1 * 128 + 1 * r.val; rw [h.2.1]; omega
  | ⟨2, _⟩ => show j.val = win0_6.index t 2 * 768 + 1 * j.val; rw [h.2.2]; omega

/-- An entry of the step. -/
theorem result7 (i : Fin 2048) (j : Fin 768) : ((dats m 0 c).arrAt 7 cfg0.N : Vec Ideal S1x2048x768 .f32) (ix3 (0 : Fin 1) i j)
    = delta (argW m c (ix3 (0 : Fin 1) i j)) (argM m c (ix3 (0 : Fin 1) i j)) (argV m c (ix3 (0 : Fin 1) i j)) (gOf m c i j) := by
  obtain ⟨t, r, hi⟩ := place i
  have hb := congrFun (blocks7 m c t (flush7 t)) (ix3 (0 : Fin 1) r j)
  rw [flushed7, View.read_apply] at hb
  refine Eq.trans ?_ (hb.trans ((out7 _ _ _ _ _ _ r j).trans (congr (congr (congr (congrArg delta (blk0 m c t r j i hi)) (blk1 m c t r j i hi)) (blk2 m c t r j i hi)) (grad_blk m c t r j i hi _ _ rfl rfl))))
  refine congrArg ((dats m 0 c).arrAt 7 cfg0.N) (funext fun a => Fin.ext ?_)
  have h := idx7 t
  match a with
  | ⟨0, _⟩ => show 0 = win0_7.index t 0 * 1 + 1 * 0; rw [h.1]
  | ⟨1, _⟩ => show i.val = win0_7.index t 1 * 128 + 1 * r.val; rw [h.2.1]; omega
  | ⟨2, _⟩ => show j.val = win0_7.index t 2 * 768 + 1 * j.val; rw [h.2.2]; omega

/-- An entry of the new first moment. -/
theorem result8 (i : Fin 2048) (j : Fin 768) : ((dats m 0 c).arrAt 8 cfg0.N : Vec Ideal S1x2048x768 .f32) (ix3 (0 : Fin 1) i j)
    = newM (argM m c (ix3 (0 : Fin 1) i j)) (gOf m c i j) := by
  obtain ⟨t, r, hi⟩ := place i
  have hb := congrFun (blocks8 m c t (flush8 t)) (ix3 (0 : Fin 1) r j)
  rw [flushed8, View.read_apply] at hb
  refine Eq.trans ?_ (hb.trans ((out8 _ _ _ _ _ _ r j).trans (congrArg₂ newM (blk1 m c t r j i hi) (grad_blk m c t r j i hi _ _ rfl rfl))))
  refine congrArg ((dats m 0 c).arrAt 8 cfg0.N) (funext fun a => Fin.ext ?_)
  have h := idx8 t
  match a with
  | ⟨0, _⟩ => show 0 = win0_8.index t 0 * 1 + 1 * 0; rw [h.1]
  | ⟨1, _⟩ => show i.val = win0_8.index t 1 * 128 + 1 * r.val; rw [h.2.1]; omega
  | ⟨2, _⟩ => show j.val = win0_8.index t 2 * 768 + 1 * j.val; rw [h.2.2]; omega

/-- An entry of the new second moment. -/
theorem result9 (i : Fin 2048) (j : Fin 768) : ((dats m 0 c).arrAt 9 cfg0.N : Vec Ideal S1x2048x768 .f32) (ix3 (0 : Fin 1) i j)
    = newV (argV m c (ix3 (0 : Fin 1) i j)) (gOf m c i j) := by
  obtain ⟨t, r, hi⟩ := place i
  have hb := congrFun (blocks9 m c t (flush9 t)) (ix3 (0 : Fin 1) r j)
  rw [flushed9, View.read_apply] at hb
  refine Eq.trans ?_ (hb.trans ((out9 _ _ _ _ _ _ r j).trans (congrArg₂ newV (blk2 m c t r j i hi) (grad_blk m c t r j i hi _ _ rfl rfl))))
  refine congrArg ((dats m 0 c).arrAt 9 cfg0.N) (funext fun a => Fin.ext ?_)
  have h := idx9 t
  match a with
  | ⟨0, _⟩ => show 0 = win0_9.index t 0 * 1 + 1 * 0; rw [h.1]
  | ⟨1, _⟩ => show i.val = win0_9.index t 1 * 128 + 1 * r.val; rw [h.2.1]; omega
  | ⟨2, _⟩ => show j.val = win0_9.index t 2 * 768 + 1 * j.val; rw [h.2.2]; omega

end Cert.AdamIdeal.Kernel

end
-- ==== Proof.AdamClaim.lean ====
/-
  The optimiser's kernel for a mixer's projection computes the reference's gradient, step and new moments.
-/
module

public import proofs.«01_k».proof.Proof.AdamKernel
public import proofs.«01_k».proof.Proof.Gen.AdamRefIdeal.Read
public import proofs.«01_k».proof.Defs

@[expose] public section

set_option maxRecDepth 16384

noncomputable section

namespace Cert.Adam

open Idealize.ShloMosaic Idealize.ShloMosaic.TcCoe Idealize.SL.Sem Cert.AdamSpec

/-- The reference runs from any state, leaves its arguments as they were and its semaphores at zero. -/
theorem reference_frame : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

section reference
open Cert.AdamRefIdeal Cert.AdamRefIdeal.Gen Cert.AdamRefIdeal.Read

variable (w m v : Vec Ideal S1x2048x768 .f32) (o s : Vec Ideal S4x2048x768 .bf16) (i : Fin 2048) (j : Fin 768)

/-- The gradient at an entry. -/
theorem v4_apply (i : Fin 2048) (j : Fin 768) : val_main_v4 (F := Ideal) o s (ix2 i j) = gradOf (fun q => o (ix3 q i j)) (fun q => s (ix3 q i j)) := by
  unfold val_main_v4 val_main_v3 val_main_v2 val_main_v1 val_main_v0 val_main_cst val_main_cst_0 gradOf
  pointwise

theorem v5_apply : val_main_v5 (F := Ideal) o s (ix3 (0 : Fin 1) i j) = gradOf (fun q => o (ix3 q i j)) (fun q => s (ix3 q i j)) := by
  unfold val_main_v5
  have h := v4_apply o s
  generalize val_main_v4 (F := Ideal) o s = y at h
  pointwise [h]

theorem v6_apply (i : Fin 2048) (j : Fin 768) : val_main_v6 (F := Ideal) o s (ix3 (0 : Fin 1) i j) = gradOf (fun q => o (ix3 q i j)) (fun q => s (ix3 q i j)) := by
  unfold val_main_v6
  have h := v4_apply o s
  generalize val_main_v4 (F := Ideal) o s = y at h
  pointwise [h]

/-- The new first moment at an entry. -/
theorem v11_apply (i : Fin 2048) (j : Fin 768) : val_main_v11 (F := Ideal) m o s (ix3 (0 : Fin 1) i j)
    = newM (m (ix3 (0 : Fin 1) i j)) (gradOf (fun q => o (ix3 q i j)) (fun q => s (ix3 q i j))) := by
  unfold val_main_v11 val_main_v10 val_main_v9 val_main_v8 val_main_v7 val_main_cst_1 val_main_cst_2 newM
  have h := v6_apply o s
  generalize val_main_v6 (F := Ideal) o s = y at h
  pointwise [h]

/-- The new second moment at an entry. -/
theorem v17_apply (i : Fin 2048) (j : Fin 768) : val_main_v17 (F := Ideal) v o s (ix3 (0 : Fin 1) i j)
    = newV (v (ix3 (0 : Fin 1) i j)) (gradOf (fun q => o (ix3 q i j)) (fun q => s (ix3 q i j))) := by
  unfold val_main_v17 val_main_v16 val_main_v15 val_main_v14 val_main_v13 val_main_v12 val_main_cst_3 val_main_cst_4 newV
  have h := v6_apply o s
  generalize val_main_v6 (F := Ideal) o s = y at h
  pointwise [h]

/-- The weight's step at an entry. -/
theorem v30_apply : val_main_v30 (F := Ideal) w m v o s (ix3 (0 : Fin 1) i j)
    = delta (w (ix3 (0 : Fin 1) i j)) (m (ix3 (0 : Fin 1) i j)) (v (ix3 (0 : Fin 1) i j)) (gradOf (fun q => o (ix3 q i j)) (fun q => s (ix3 q i j))) := by
  unfold val_main_v30 val_main_v29 val_main_v28 val_main_v27 val_main_v26 val_main_v25 val_main_v24 val_main_v23 val_main_v22 val_main_v21
    val_main_v20 val_main_v19 val_main_v18 val_main_cst_5 val_main_cst_6 val_main_cst_7 val_main_cst_8 val_main_cst_9 delta
  have h := v11_apply m o s
  have h' := v17_apply v o s
  generalize val_main_v11 (F := Ideal) m o s = y at h
  generalize val_main_v17 (F := Ideal) v o s = z at h'
  pointwise [h, h']

end reference

/-- The kernel's four results are the reference's. -/
theorem value : Cert.algebraic_AdamIdeal_AdamRefIdeal := by
  intro m g m' g' _ hargs
  refine ⟨fun c => (Cert.AdamIdeal.Gen.dats m 0 c).arrAt 6 Cert.AdamIdeal.cfg0.N,
    fun c => (Cert.AdamIdeal.Gen.dats m 0 c).arrAt 7 Cert.AdamIdeal.cfg0.N,
    fun c => (Cert.AdamIdeal.Gen.dats m 0 c).arrAt 8 Cert.AdamIdeal.cfg0.N,
    fun c => (Cert.AdamIdeal.Gen.dats m 0 c).arrAt 9 Cert.AdamIdeal.cfg0.N, Cert.AdamIdeal.Value.run_blocks m g, ?_⟩
  refine (θ_run _ _ _).mono (fun r h c => ?_) (Cert.AdamRefIdeal.Value.run (F := Ideal) m' g')
  obtain ⟨h0, h1, h2, h3, ha⟩ := h c
  obtain ⟨e0, e1, e2, e3, e4, e5⟩ := hargs c
  have at3 (i : Cert.AdamRefIdeal.S1x2048x768.Idx) : ∃ (a : Fin 2048) (b : Fin 768), i = ix3 (0 : Fin 1) a b :=
    ⟨i 1, i 2, by rw [eq_ix3 i]; exact congrArg (ix3 · _ _) (Subsingleton.elim _ _)⟩
  refine ⟨h0.trans ?_, h1.trans ?_, h2.trans ?_, h3.trans ?_, ha⟩
  · rw [Cert.AdamRefIdeal.Read.val_main_v5_eq, e3, e4]
    funext i
    obtain ⟨a, b, rfl⟩ := at3 i
    exact (v5_apply _ _ _ _).trans (Cert.AdamIdeal.Kernel.result6 m c _ _).symm
  · rw [Cert.AdamRefIdeal.Read.val_main_v30_eq, e0, e1, e2, e3, e4]
    funext i
    obtain ⟨a, b, rfl⟩ := at3 i
    exact (v30_apply _ _ _ _ _ _ _).trans (Cert.AdamIdeal.Kernel.result7 m c _ _).symm
  · rw [Cert.AdamRefIdeal.Read.val_main_v11_eq, e1, e3, e4]
    funext i
    obtain ⟨a, b, rfl⟩ := at3 i
    exact (v11_apply _ _ _ _ _).trans (Cert.AdamIdeal.Kernel.result8 m c _ _).symm
  · rw [Cert.AdamRefIdeal.Read.val_main_v17_eq, e2, e3, e4]
    funext i
    obtain ⟨a, b, rfl⟩ := at3 i
    exact (v17_apply _ _ _ _ _).trans (Cert.AdamIdeal.Kernel.result9 m c _ _).symm

end Cert.Adam

end
-- ==== Proof.NaFwdKernel.lean ====
/-
  The neighbourhood attention's forward kernel over the extended reals, for all arguments: every four grid rows' queries
  attend to the twelve grid rows around them, and the kernel leaves at every index the weighted sum of the values divided
  by the sum of the weights.
-/
module

public import proofs.«01_k».proof.Proof.Gen.NaFwdIdeal.Value
public import proofs.«01_k».proof.Proof.Rows
public import proofs.«01_k».proof.Proof.Sums
public import Idealize.ShloMosaic.Lib.Pointwise

@[expose] public section

set_option maxRecDepth 16384

noncomputable section

namespace Cert.NaFwdIdeal.Kernel

open Idealize.ShloMosaic Idealize.ShloMosaic.TcCoe Idealize.ShloMosaic.Tactic Idealize.SL.Sem
open Cert.NaFwdIdeal Cert.NaFwdIdeal.Gen Cert.NaFwdIdeal.Value Cert.Rows Cert.Sums

/-! ## The attention, read off its arguments -/

/-- The arguments: queries, keys and values of sixteen heads side by side; the bias of the first, an inner and the last step. -/
abbrev Heads : Type := S2048x6144.Idx → EReal
abbrev Bias : Type := S16x3x256x768.Idx → EReal

/-- The scale of the scores. -/
def scale : EReal := Ideal.ofBits .f32 0x3DB504F3#32

/-- The first key of the block step `t` attends to. -/
def first (t : ℕ) : ℕ := 64 * min (4 * t - 4) 20

theorem first_le (t : ℕ) : first t ≤ 1280 := by unfold first; omega

/-- Which of the three biases step `t` takes. -/
def pat (t : Fin 8) : Fin 3 := if t.val = 0 then 0 else if t.val = 7 then 2 else 1

/-- Key `u` of the block of step `t`. -/
def keyAt (t : Fin 8) (u : Fin 768) : Fin 2048 := ⟨first t.val + u.val, by have := first_le t.val; have := u.isLt; omega⟩

/-- Query `r` of step `t`. -/
def queryAt (t : Fin 8) (r : Fin 256) : Fin 2048 := ⟨256 * t.val + r.val, by have := t.isLt; have := r.isLt; omega⟩

/-- Feature `d` of head `h` in a third of the columns. -/
def colAt (a : Fin 3) (h : Fin 16) (d : Fin 128) : Fin 6144 :=
  ⟨2048 * a.val + (128 * h.val + d.val), by have := a.isLt; have := h.isLt; have := d.isLt; omega⟩

/-- The scores of a query. -/
def sc (X : Heads) (B : Bias) (h : Fin 16) (t : Fin 8) (r : Fin 256) (u : Fin 768) : EReal :=
  (∑ e : Fin 128, X (ix2 (queryAt t r) (colAt 0 h e)) * X (ix2 (keyAt t u) (colAt 1 h e))) * scale + B (ix4 h (pat t) r u)

/-- A value, feature `d`. -/
def val (X : Heads) (h : Fin 16) (t : Fin 8) (d : Fin 128) (u : Fin 768) : EReal := X (ix2 (keyAt t u) (colAt 2 h d))

/-! ## The payloads at an index -/

/-- The pattern of minus infinity denotes the least extended real. -/
theorem ofBits_bot : Ideal.ofBits .f32 4286578688#32 = ⊥ := by simp [Ideal.ofBits, Ideal.ieee]

/-- The scores of a query `q` against keys `k`, with bias `b`. -/
def scores (q : Fin 128 → EReal) (k : Fin 768 → Fin 128 → EReal) (b : Fin 768 → EReal) (u : Fin 768) : EReal :=
  (∑ e, q e * k u e) * scale + b u

/-- The weighted sum of the values over the sum of the weights. -/
def headOut (q : Fin 128 → EReal) (k v : Fin 768 → Fin 128 → EReal) (b : Fin 768 → EReal) (d : Fin 128) : EReal :=
  Ideal.div (∑ u, wgt (scores q k b) u * v u d) (mass (scores q k b))

theorem pay5_apply (q : Vec Ideal S256x128 .bf16) (k : Vec Ideal S768x128 .bf16) (b : Vec Ideal S1x1x256x768 .f32) (r : Fin 256)
    (u : Fin 768) : k0_pay5 q k b (ix2 r u)
      = wgt (scores (fun e => q (ix2 r e)) (fun u e => k (ix2 u e)) fun u => b (ix4 (0 : Fin 1) (0 : Fin 1) r u)) u := by
  unfold k0_pay5 wgt top scores scale
  pointwise [ofBits_bot]

theorem pay1_apply (q : Vec Ideal S256x128 .bf16) (k v : Vec Ideal S768x128 .bf16) (b : Vec Ideal S1x1x256x768 .f32) (r : Fin 256)
    (d : Fin 128) : k0_pay1 (k0_pay5 q k b) v (ix2 r d)
      = headOut (fun e => q (ix2 r e)) (fun u e => k (ix2 u e)) (fun u e => v (ix2 u e)) (fun u => b (ix4 (0 : Fin 1) (0 : Fin 1) r u)) d := by
  unfold k0_pay1 headOut mass
  have h := pay5_apply q k b
  generalize k0_pay5 q k b = y at h
  pointwise [h]

theorem pay2_apply (q : Vec Ideal S256x128 .bf16) (k v : Vec Ideal S768x128 .bf16) (b : Vec Ideal S1x1x256x768 .f32) (r : Fin 256)
    (d : Fin 128) : k0_pay2 q k b v (ix2 r d)
      = headOut (fun e => q (ix2 r e)) (fun u e => k (ix2 u e)) (fun u e => v (ix2 u e)) (fun u => b (ix4 (0 : Fin 1) (0 : Fin 1) r u)) d := by
  show k0_pay1 (k0_pay5 q k b) v (ix2 r d) = _
  exact pay1_apply q k v b r d

theorem pay3_apply (q : Vec Ideal S256x128 .bf16) (k v : Vec Ideal S768x128 .bf16) (b : Vec Ideal S1x1x256x768 .f32) (r : Fin 256)
    (d : Fin 128) : k0_pay3 q k b v (ix2 r d)
      = headOut (fun e => q (ix2 r e)) (fun u e => k (ix2 u e)) (fun u e => v (ix2 u e)) (fun u => b (ix4 (0 : Fin 1) (0 : Fin 1) r u)) d := by
  show k0_pay1 (k0_pay5 q k b) v (ix2 r d) = _
  exact pay1_apply q k v b r d

theorem pay4_apply (q : Vec Ideal S256x128 .bf16) (k v : Vec Ideal S768x128 .bf16) (b : Vec Ideal S1x1x256x768 .f32) (r : Fin 256)
    (d : Fin 128) : k0_pay4 q k b v (ix2 r d)
      = headOut (fun e => q (ix2 r e)) (fun u e => k (ix2 u e)) (fun u e => v (ix2 u e)) (fun u => b (ix4 (0 : Fin 1) (0 : Fin 1) r u)) d := by
  show k0_pay1 (k0_pay5 q k b) v (ix2 r d) = _
  exact pay1_apply q k v b r d

/-! ## The block a point leaves -/

/-- The block a point leaves from a block of keys beginning at `f`: column `j` belongs to head `j / 128` of the block's four. -/
def blockOut (f : ℕ) (hf : f ≤ 1280) (x0 : Vec Ideal S256x512 .bf16) (x1 x2 : Vec Ideal S2048x512 .bf16)
    (x3 : Vec Ideal S4x1x256x768 .f32) : Vec Ideal S256x512 .bf16 := fun i =>
  have h : (i 1).val < 512 := (i 1).isLt
  headOut (fun e => x0 (ix2 (i 0) (⟨128 * ((i 1).val / 128) + e.val, by have := e.isLt; omega⟩ : Fin 512)))
    (fun u e => x1 (ix2 (⟨f + u.val, by have := u.isLt; omega⟩ : Fin 2048) (⟨128 * ((i 1).val / 128) + e.val, by have := e.isLt; omega⟩ : Fin 512)))
    (fun u e => x2 (ix2 (⟨f + u.val, by have := u.isLt; omega⟩ : Fin 2048) (⟨128 * ((i 1).val / 128) + e.val, by have := e.isLt; omega⟩ : Fin 512)))
    (fun u => x3 (ix4 (⟨(i 1).val / 128, by omega⟩ : Fin 4) (0 : Fin 1) (i 0) u)) ⟨(i 1).val % 128, by omega⟩

/-- A piece of the block: head `g` of the four, from the loads of its queries, keys, values and bias. -/
theorem piece (f : ℕ) (hf : f ≤ 1280) (x0 : Vec Ideal S256x512 .bf16) (x1 x2 : Vec Ideal S2048x512 .bf16)
    (x3 : Vec Ideal S4x1x256x768 .f32) (g : Fin 4) (w : Vec Ideal S256x128 .bf16)
    (q : Vec Ideal S256x128 .bf16) (k v : Vec Ideal S768x128 .bf16) (b : Vec Ideal S1x1x256x768 .f32)
    (hw : ∀ r d, w (ix2 r d) = headOut (fun e => q (ix2 r e)) (fun u e => k (ix2 u e)) (fun u e => v (ix2 u e))
      (fun u => b (ix4 (0 : Fin 1) (0 : Fin 1) r u)) d)
    (hq : ∀ r e, q (ix2 r e) = x0 (ix2 r (⟨128 * g.val + e.val, by have := g.isLt; have := e.isLt; omega⟩ : Fin 512)))
    (hk : ∀ u e, k (ix2 u e) = x1 (ix2 (⟨f + u.val, by have := u.isLt; omega⟩ : Fin 2048)
      (⟨128 * g.val + e.val, by have := g.isLt; have := e.isLt; omega⟩ : Fin 512)))
    (hv : ∀ u e, v (ix2 u e) = x2 (ix2 (⟨f + u.val, by have := u.isLt; omega⟩ : Fin 2048)
      (⟨128 * g.val + e.val, by have := g.isLt; have := e.isLt; omega⟩ : Fin 512)))
    (hb : ∀ r u, b (ix4 (0 : Fin 1) (0 : Fin 1) r u) = x3 (ix4 g (0 : Fin 1) r u))
    (r : Fin 256) (d : Fin 128) (y : S256x512.Idx) (h0 : (y 0).val = r.val) (h1 : (y 1).val = 128 * g.val + d.val) :
    w (ix2 r d) = blockOut f hf x0 x1 x2 x3 y := by
  rw [hw]
  have hd := d.isLt
  have hg := g.isLt
  have e0 : r = y 0 := Fin.ext h0.symm
  have e1 : g.val = (y 1).val / 128 := by rw [h1]; omega
  have e2 : d.val = (y 1).val % 128 := by rw [h1]; omega
  obtain ⟨g, hg'⟩ := g
  obtain ⟨d, hd'⟩ := d
  subst e0
  dsimp only at e1 e2
  subst e1 e2
  unfold blockOut
  exact congr (congr (congr (congrArg₂ headOut (funext fun e => hq (y 0) e) (funext fun u => funext fun e => hk u e))
    (funext fun u => funext fun e => hv u e)) (funext fun u => hb (y 0) u)) rfl

/-- The offsets of the loads of keys and values. -/
theorem off1 : ∀ t : Fin grid0.N, k0_off1 (grid0.coords t) = ![first (t.val % 8), 0] := by decide +kernel
theorem off2 : ∀ t : Fin grid0.N, k0_off2 (grid0.coords t) = ![first (t.val % 8), 128] := by decide +kernel
theorem off3 : ∀ t : Fin grid0.N, k0_off3 (grid0.coords t) = ![first (t.val % 8), 256] := by decide +kernel
theorem off4 : ∀ t : Fin grid0.N, k0_off4 (grid0.coords t) = ![first (t.val % 8), 384] := by decide +kernel

/-- A load of queries, of keys or values, and of the bias, at an index. -/
theorem ldq (x : Vec Ideal S256x512 .bf16) (o : Fin 2 → ℕ) (ho : ∀ a, o a + S256x128.size a ≤ S256x512.size a) (g : Fin 4)
    (h : o = ![0, 128 * g.val]) (r : Fin 256) (e : Fin 128) :
    View.ld x (Rect.unit (s := S256x512) o S256x128.size ho) (ix2 r e)
      = x (ix2 r (⟨128 * g.val + e.val, by have := g.isLt; have := e.isLt; omega⟩ : Fin 512)) := by
  subst h
  refine congrArg x (funext fun a => Fin.ext ?_)
  match a with
  | ⟨0, _⟩ => show 0 + 1 * r.val = r.val; omega
  | ⟨1, _⟩ => show 128 * g.val + 1 * e.val = 128 * g.val + e.val; omega

theorem ldk (x : Vec Ideal S2048x512 .bf16) (f : ℕ) (hf : f ≤ 1280) (o : Fin 2 → ℕ) (ho : ∀ a, o a + S768x128.size a ≤ S2048x512.size a)
    (g : Fin 4) (h : o = ![f, 128 * g.val]) (u : Fin 768) (e : Fin 128) :
    View.ld x (Rect.unit (s := S2048x512) o S768x128.size ho) (ix2 u e)
      = x (ix2 (⟨f + u.val, by have := u.isLt; omega⟩ : Fin 2048) (⟨128 * g.val + e.val, by have := g.isLt; have := e.isLt; omega⟩ : Fin 512)) := by
  subst h
  refine congrArg x (funext fun a => Fin.ext ?_)
  match a with
  | ⟨0, _⟩ => show f + 1 * u.val = f + u.val; omega
  | ⟨1, _⟩ => show 128 * g.val + 1 * e.val = 128 * g.val + e.val; omega

theorem ldb (x : Vec Ideal S4x1x256x768 .f32) (o : Fin 4 → ℕ) (ho : ∀ a, o a + S1x1x256x768.size a ≤ S4x1x256x768.size a) (g : Fin 4)
    (h : o = ![g.val, 0, 0, 0]) (r : Fin 256) (u : Fin 768) :
    View.ld x (Rect.unit (s := S4x1x256x768) o S1x1x256x768.size ho) (ix4 (0 : Fin 1) (0 : Fin 1) r u) = x (ix4 g (0 : Fin 1) r u) := by
  subst h
  refine congrArg x (funext fun a => Fin.ext ?_)
  match a with
  | ⟨0, _⟩ => show g.val + 1 * 0 = g.val; omega
  | ⟨1, _⟩ => show 0 + 1 * 0 = 0; omega
  | ⟨2, _⟩ => show 0 + 1 * r.val = r.val; omega
  | ⟨3, _⟩ => show 0 + 1 * u.val = u.val; omega

section block
variable (c : Dev nD) (i : grid0.Coords)
  (arg2 : Memref sig .tc .vmem S256x512 .bf16) (harg2 : arg2.IsWhole) (arg3 : Memref sig .tc .vmem S2048x512 .bf16) (harg3 : arg3.IsWhole)
  (arg4 : Memref sig .tc .vmem S2048x512 .bf16) (harg4 : arg4.IsWhole) (arg5 : Memref sig .tc .vmem S4x1x256x768 .f32) (harg5 : arg5.IsWhole)
  (arg6 : Memref sig .tc .vmem S256x512 .bf16) (harg6 : arg6.IsWhole)
  (x0 : Vec Ideal S256x512 .bf16) (x1 x2 : Vec Ideal S2048x512 .bf16) (x3 : Vec Ideal S4x1x256x768 .f32)

/-- The four pieces are the block. -/
theorem out_eq (f : ℕ) (hf : f ≤ 1280) (o1 : k0_off1 i = ![f, 0]) (o2 : k0_off2 i = ![f, 128]) (o3 : k0_off3 i = ![f, 256])
    (o4 : k0_off4 i = ![f, 384]) :
    out0_A_4 c i arg2 harg2 arg3 harg3 arg4 harg4 arg5 harg5 arg6 harg6 x0 x1 x2 x3 = blockOut f hf x0 x1 x2 x3 := by
  have hc := cover0_A_4 c i arg2 harg2 arg3 harg3 arg4 harg4 arg5 harg5 arg6 harg6 x0 x1 x2 x3
  unfold out0_A_4
  rw [View.read_writes_eq_canon _ _ _ hc]
  revert hc
  unfold kernelRun0_A
  dsimp only
  sl_unfold_words
  simp only [View.readAt_eq_ld, harg2.read_unread, harg3.read_unread, harg4.read_unread, harg5.read_unread]
  intro hc
  funext y
  refine View.canon_apply_of_pieces (blockOut f hf x0 x1 x2 x3) _ ?_ y (hc y)
  intro pc hpc
  rcases List.mem_cons.mp hpc with rfl | hpc
  · intro x
    rw [eq_ix2 x]
    refine piece f hf x0 x1 x2 x3 3 _ _ _ _ _ (pay2_apply _ _ _ _) (ldq x0 _ _ 3 rfl) (ldk x1 f hf _ _ 3 o4) (ldk x2 f hf _ _ 3 o4)
      (ldb x3 _ _ 3 rfl) _ _ _ ?_ ?_
    · show 0 + 1 * (x 0).val = (x 0).val; omega
    · show 384 + 1 * (x 1).val = 128 * 3 + (x 1).val; omega
  rcases List.mem_cons.mp hpc with rfl | hpc
  · intro x
    rw [eq_ix2 x]
    refine piece f hf x0 x1 x2 x3 2 _ _ _ _ _ (pay1_apply _ _ _ _) (ldq x0 _ _ 2 rfl) (ldk x1 f hf _ _ 2 o3) (ldk x2 f hf _ _ 2 o3)
      (ldb x3 _ _ 2 rfl) _ _ _ ?_ ?_
    · show 0 + 1 * (x 0).val = (x 0).val; omega
    · show 256 + 1 * (x 1).val = 128 * 2 + (x 1).val; omega
  rcases List.mem_cons.mp hpc with rfl | hpc
  · intro x
    rw [eq_ix2 x]
    refine piece f hf x0 x1 x2 x3 1 _ _ _ _ _ (pay4_apply _ _ _ _) (ldq x0 _ _ 1 rfl) (ldk x1 f hf _ _ 1 o2) (ldk x2 f hf _ _ 1 o2)
      (ldb x3 _ _ 1 rfl) _ _ _ ?_ ?_
    · show 0 + 1 * (x 0).val = (x 0).val; omega
    · show 128 + 1 * (x 1).val = 128 * 1 + (x 1).val; omega
  rcases List.mem_cons.mp hpc with rfl | hpc
  · intro x
    rw [eq_ix2 x]
    refine piece f hf x0 x1 x2 x3 0 _ _ _ _ _ (pay3_apply _ _ _ _) (ldq x0 _ _ 0 rfl) (ldk x1 f hf _ _ 0 o1) (ldk x2 f hf _ _ 0 o1)
      (ldb x3 _ _ 0 rfl) _ _ _ ?_ ?_
    · show 0 + 1 * (x 0).val = (x 0).val; omega
    · show 0 + 1 * (x 1).val = 128 * 0 + (x 1).val; omega
  nomatch hpc

end block

/-! ## The blocks of the arguments and of the result -/

/-- The block index of each window at a grid point. -/
theorem idx0 : ∀ t : Fin grid0.N, win0_0.index t 0 = t.val % 8 ∧ win0_0.index t 1 = t.val / 8 := by decide +kernel
theorem idx1 : ∀ t : Fin grid0.N, win0_1.index t 0 = 0 ∧ win0_1.index t 1 = 4 + t.val / 8 := by decide +kernel
theorem idx2 : ∀ t : Fin grid0.N, win0_2.index t 0 = 0 ∧ win0_2.index t 1 = 8 + t.val / 8 := by decide +kernel
theorem idx3 : ∀ t : Fin grid0.N, win0_3.index t 0 = t.val / 8 ∧ win0_3.index t 1 = (pat ⟨t.val % 8, Nat.mod_lt _ (by decide)⟩).val
    ∧ win0_3.index t 2 = 0 ∧ win0_3.index t 3 = 0 := by decide +kernel
theorem idx4 : ∀ t : Fin grid0.N, win0_4.index t 0 = t.val % 8 ∧ win0_4.index t 1 = t.val / 8 := by decide +kernel

/-- Every point writes its block back. -/
theorem flush4 : ∀ t : Fin cfg0.N, (cfg0.win 4).flush t = true :=
  (by decide +kernel : ∀ t : Fin grid0.N, win0_4.flush t = true)

variable (m : (ℓ : Loc nD τ sig) → Buf (Elt Ideal) ℓ) (c : Dev nD)

/-- The arguments the kernel is run on. -/
abbrev argX : Heads := m ((c : Thread nD τ).loc main_arg0)
abbrev argB : Bias := m ((c : Thread nD τ).loc main_arg1)

/-- The block of queries of a grid point. -/
theorem blk_q (t : Fin cfg0.N) (r : Fin 256) (j : Fin 512) (i : Fin 2048) (l : Fin 6144) (hi : i.val = 256 * (t.val % 8) + r.val)
    (hl : l.val = 512 * (t.val / 8) + j.val) : (iblk m c 0 t : Vec Ideal S256x512 .bf16) (ix2 r j) = argX m c (ix2 i l) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 256 + 1 * r.val = i.val; rw [h.1]; omega
  | ⟨1, _⟩ => show win0_0.index t 1 * 512 + 1 * j.val = l.val; rw [h.2]; omega

/-- The block of keys of a grid point. -/
theorem blk_k (t : Fin cfg0.N) (i : Fin 2048) (j : Fin 512) (l : Fin 6144) (hl : l.val = 2048 + 512 * (t.val / 8) + j.val) :
    (iblk m c 1 t : Vec Ideal S2048x512 .bf16) (ix2 i j) = argX m c (ix2 i l) := by
  unfold iblk
  rw [View.read_apply]
  show V m c main_arg0 _ = _
  unfold V
  refine congrArg (m ((c : Thread nD τ).loc main_arg0)) (funext fun a => Fin.ext ?_)
  have h := idx1 t
  match a with
  | ⟨0, _⟩ => show win0_1.index t 0 * 2048 + 1 * i.val = i.val; rw [h.1]; omega
  | ⟨1, _⟩ => show win0_1.index t 1 * 512 + 1 * j.val = l.val; rw [h.2]; omega

/-- The block of values of a grid point. -/
theorem blk_v (t : Fin cfg0.N) (i : Fin 2048) (j : Fin 512) (l : Fin 6144) (hl : l.val = 4096 + 512 * (t.val / 8) + j.val) :
    (iblk m c 2 t : Vec Ideal S2048x512 .bf16) (ix2 i j) = argX m c (ix2 i l) := by
  unfold iblk
  rw [View.read_apply]
  show V m c main_arg0 _ = _
  unfold V
  refine congrArg (m ((c : Thread nD τ).loc main_arg0)) (funext fun a => Fin.ext ?_)
  have h := idx2 t
  match a with
  | ⟨0, _⟩ => show win0_2.index t 0 * 2048 + 1 * i.val = i.val; rw [h.1]; omega
  | ⟨1, _⟩ => show win0_2.index t 1 * 512 + 1 * j.val = l.val; rw [h.2]; omega

/-- The block of the bias of a grid point. -/
theorem blk_b (t : Fin cfg0.N) (g : Fin 4) (h : Fin 16) (s : Fin 8) (r : Fin 256) (u : Fin 768) (hh : h.val = 4 * (t.val / 8) + g.val)
    (hs : t.val % 8 = s.val) : (iblk m c 3 t : Vec Ideal S4x1x256x768 .f32) (ix4 g (0 : Fin 1) r u) = argB m c (ix4 h (pat s) r u) := by
  unfold iblk
  rw [View.read_apply]
  show V m c main_arg1 _ = _
  unfold V
  refine congrArg (m ((c : Thread nD τ).loc main_arg1)) (funext fun a => Fin.ext ?_)
  have e := idx3 t
  have es : (⟨t.val % 8, Nat.mod_lt _ (by decide)⟩ : Fin 8) = s := Fin.ext hs
  rw [es] at e
  match a with
  | ⟨0, _⟩ => show win0_3.index t 0 * 4 + 1 * g.val = h.val; rw [e.1]; omega
  | ⟨1, _⟩ => show win0_3.index t 1 * 1 + 1 * 0 = (pat s).val; rw [e.2.1]; omega
  | ⟨2, _⟩ => show win0_3.index t 2 * 256 + 1 * r.val = r.val; rw [e.2.2.1]; omega
  | ⟨3, _⟩ => show win0_3.index t 3 * 768 + 1 * u.val = u.val; rw [e.2.2.2]; omega

/-- An entry of the result is the entry of the block its point writes back. -/
theorem entry (t : Fin cfg0.N) (r : Fin 256) (j : Fin 512) (i l : Fin 2048) (hi : i.val = 256 * (t.val % 8) + r.val)
    (hl : l.val = 512 * (t.val / 8) + j.val) :
    ((dats m 0 c).arrAt 4 cfg0.N : Vec Ideal S2048x2048 .bf16) (ix2 i l)
      = blockOut (first (t.val % 8)) (first_le _) (iblk m c 0 t) (iblk m c 1 t) (iblk m c 2 t) (iblk m c 3 t) (ix2 r j) := by
  have hb := congrFun (blocks4 m c t (flush4 t)) (ix2 r j)
  rw [flushed4_A, View.read_apply, out_eq _ _ _ _ _ _ _ _ _ _ _ _ _ _ _ _ _ (first_le _) (off1 t) (off2 t) (off3 t) (off4 t)] at hb
  refine Eq.trans ?_ hb
  refine congrArg ((dats m 0 c).arrAt 4 cfg0.N) (funext fun a => Fin.ext ?_)
  have h := idx4 t
  match a with
  | ⟨0, _⟩ => show i.val = win0_4.index t 0 * 256 + 1 * r.val; rw [h.1]; omega
  | ⟨1, _⟩ => show l.val = win0_4.index t 1 * 512 + 1 * j.val; rw [h.2]; omega

/-- The column of feature `d` of head `h` in the result. -/
def col (h : Fin 16) (d : Fin 128) : Fin 2048 := ⟨128 * h.val + d.val, by have := h.isLt; have := d.isLt; omega⟩

/-- The attention's result, index by index. -/
theorem result_apply (s : Fin 8) (r : Fin 256) (h : Fin 16) (d : Fin 128) :
    ((dats m 0 c).arrAt 4 cfg0.N : Vec Ideal S2048x2048 .bf16) (ix2 (queryAt s r) (col h d))
      = Ideal.div (∑ u, wgt (sc (argX m c) (argB m c) h s r) u * val (argX m c) h s d u) (mass (sc (argX m c) (argB m c) h s r)) := by
  have hs := s.isLt; have hr := r.isLt; have hh := h.isLt; have hd := d.isLt
  let t : Fin cfg0.N := ⟨h.val / 4 * 8 + s.val, lt_of_lt_of_eq (by omega : _ < 32) N_0.symm⟩
  have ht : t.val = h.val / 4 * 8 + s.val := rfl
  have hm : t.val % 8 = s.val := by rw [ht]; omega
  have hq : t.val / 8 = h.val / 4 := by rw [ht]; omega
  rw [entry m c t r (⟨(128 * h.val + d.val) % 512, by omega⟩ : Fin 512) (queryAt s r) (col h d)
    (by show 256 * s.val + r.val = _; rw [hm])
    (by show 128 * h.val + d.val = 512 * (t.val / 8) + (128 * h.val + d.val) % 512; rw [hq]; omega)]
  have e4 : (128 * h.val + d.val) % 512 / 128 = h.val % 4 := by omega
  have e5 : (128 * h.val + d.val) % 512 % 128 = d.val := by omega
  unfold blockOut headOut
  have es : scores (fun e => (iblk m c 0 t : Vec Ideal S256x512 .bf16) (ix2 r (⟨128 * ((128 * h.val + d.val) % 512 / 128) + e.val, by
          have := e.isLt; omega⟩ : Fin 512)))
      (fun u e => (iblk m c 1 t : Vec Ideal S2048x512 .bf16) (ix2 (⟨first (t.val % 8) + u.val, by
          have := first_le (t.val % 8); have := u.isLt; omega⟩ : Fin 2048) (⟨128 * ((128 * h.val + d.val) % 512 / 128) + e.val, by
          have := e.isLt; omega⟩ : Fin 512)))
      (fun u => (iblk m c 3 t : Vec Ideal S4x1x256x768 .f32) (ix4 (⟨(128 * h.val + d.val) % 512 / 128, by omega⟩ : Fin 4) (0 : Fin 1) r u))
      = sc (argX m c) (argB m c) h s r := by
    funext u
    unfold scores sc
    refine congrArg₂ (· + ·) (congrArg (· * scale) (sum_eq fun e => congrArg₂ (· * ·) ?_ ?_)) ?_
    · exact blk_q m c t r _ (queryAt s r) (colAt 0 h e) (by show 256 * s.val + r.val = _; rw [hm])
        (by show 2048 * 0 + (128 * h.val + e.val) = 512 * (t.val / 8) + (128 * ((128 * h.val + d.val) % 512 / 128) + e.val); rw [hq, e4]; omega)
    · refine (blk_k m c t _ _ (colAt 1 h e)
        (by show 2048 * 1 + (128 * h.val + e.val) = 2048 + 512 * (t.val / 8) + (128 * ((128 * h.val + d.val) % 512 / 128) + e.val); rw [hq, e4]; omega)).trans ?_
      exact congrArg (fun i => argX m c (ix2 i (colAt 1 h e))) (Fin.ext (by show first (t.val % 8) + u.val = first s.val + u.val; rw [hm]))
    · exact blk_b m c t _ h s r u (by show h.val = 4 * (t.val / 8) + (128 * h.val + d.val) % 512 / 128; rw [hq, e4]; omega) hm
  refine congrArg₂ Ideal.div (sum_eq fun u => congrArg₂ (· * ·) (congrArg (fun f => wgt f u) es) ?_) (congrArg mass es)
  refine (blk_v m c t _ _ (colAt 2 h d)
    (by show 2048 * 2 + (128 * h.val + d.val) = 4096 + 512 * (t.val / 8) + (128 * ((128 * h.val + d.val) % 512 / 128) + (128 * h.val + d.val) % 512 % 128)
        rw [hq, e4, e5]; omega)).trans ?_
  exact congrArg (fun i => argX m c (ix2 i (colAt 2 h d))) (Fin.ext (by show first (t.val % 8) + u.val = first s.val + u.val; rw [hm]))

end Cert.NaFwdIdeal.Kernel

end
-- ==== Proof.NaFwdClaim.lean ====
/-
  The certificate of the neighbourhood attention's forward kernel: the reference normalises every weight before the sum
  over the keys, the kernel divides the sum, and with finite scores the two agree.
-/
module

public import proofs.«01_k».proof.Proof.NaFwdKernel
public import proofs.«01_k».proof.Proof.FfnClaim
public import proofs.«01_k».proof.Proof.Gen.NaFwdRefIdeal.Read
public import proofs.«01_k».proof.Proof.Gen.Pre_finite_na
public import proofs.«01_k».proof.Defs

@[expose] public section

set_option maxRecDepth 16384

noncomputable section

namespace Cert.NaFwd

open Idealize.ShloMosaic Idealize.ShloMosaic.TcCoe Idealize.SL.Sem Idealize.ShloMosaic.StableHlo Cert.Sums Cert.Rows
open Cert.NaFwdIdeal.Kernel (Heads Bias first pat keyAt queryAt colAt sc val scale col)

/-- The reference runs from any state, leaves its arguments as they were and its semaphores at zero. -/
theorem reference_frame : Cert.quiescent_NaFwdRefIdeal := fun m ρ _ =>
  (θ_run Cert.NaFwdRefIdeal.defs _ _).mono (fun r h => ⟨fun c => (h c).2, sem_eq_zero_of_no_sems (by decide) r.2⟩)
    (Cert.NaFwdRefIdeal.Value.run (F := Ideal) m ρ)

/-- The precondition makes every query, key and value a real. -/
theorem finite_x (X : Heads) (B : Bias) (h : (Cert.Pre_finite_na.fn (F := Ideal) X B).1 = fun _ => 1#1) (i : Fin 2048) (j : Fin 6144) :
    ∃ r : ℝ, X (ix2 i j) = r := by
  unfold Cert.Pre_finite_na.fn at h
  dsimp only at h
  have hi := congrFun h (ix2 i j)
  pointwise at hi
  rw [Cert.Gqa.ofBits_inf] at hi
  exact Cert.Ffn.real_of_bit _ hi

/-- The precondition makes every entry of the bias a real. -/
theorem finite_b (X : Heads) (B : Bias) (h : (Cert.Pre_finite_na.fn (F := Ideal) X B).2 = fun _ => 1#1) (g : Fin 16) (p : Fin 3)
    (r : Fin 256) (u : Fin 768) : ∃ x : ℝ, B (ix4 g p r u) = x := by
  unfold Cert.Pre_finite_na.fn at h
  dsimp only at h
  have hi := congrFun h (ix4 g p r u)
  pointwise at hi
  rw [Cert.Gqa.ofBits_inf] at hi
  exact Cert.Ffn.real_of_bit _ hi

/-- The scale of the scores is a real. -/
theorem scale_real : ∃ r : ℝ, scale = r := by
  unfold scale
  simp only [Ideal.ofBits, Ideal.ieee]
  exact ⟨_, rfl⟩

/-- With finite arguments every score is a real. -/
theorem sc_real (X : Heads) (B : Bias) (hX : ∀ i j, ∃ r : ℝ, X (ix2 i j) = r) (hB : ∀ g p r u, ∃ x : ℝ, B (ix4 g p r u) = x)
    (h : Fin 16) (t : Fin 8) (r : Fin 256) (u : Fin 768) : ∃ x : ℝ, sc X B h t r u = x := by
  obtain ⟨a, ha⟩ := dot_real (fun e => X (ix2 (queryAt t r) (colAt 0 h e))) (fun e => X (ix2 (keyAt t u) (colAt 1 h e)))
    (fun e => hX _ _) fun e => hX _ _
  obtain ⟨b, hb⟩ := hB h (pat t) r u
  obtain ⟨s, hs⟩ := scale_real
  refine ⟨a * s + b, ?_⟩
  unfold sc
  rw [ha, hb, hs, EReal.coe_add, EReal.coe_mul]

section reference
open Cert.NaFwdRefIdeal Cert.NaFwdRefIdeal.Read Cert.NaFwdRefIdeal.Gen

/-! ## Eight pieces side by side -/

theorem cat_rows (p0 p1 p2 p3 p4 p5 p6 p7 : Vec Ideal S1x768x16x128 .f32) (t : Fin 8) (u : Fin 768) (h : Fin 16) (d : Fin 128) :
    concatenate S8x768x16x128 0 [⟨S1x768x16x128, p0⟩, ⟨S1x768x16x128, p1⟩, ⟨S1x768x16x128, p2⟩, ⟨S1x768x16x128, p3⟩, ⟨S1x768x16x128, p4⟩, ⟨S1x768x16x128, p5⟩, ⟨S1x768x16x128, p6⟩, ⟨S1x768x16x128, p7⟩]
      concatenates_S1x768x16x128_S1x768x16x128_S1x768x16x128_S1x768x16x128_S1x768x16x128_S1x768x16x128_S1x768x16x128_S1x768x16x128_S8x768x16x128_d0
      (ix4 t u h d) = (![p0, p1, p2, p3, p4, p5, p6, p7] : Fin 8 → Vec Ideal S1x768x16x128 .f32) t (ix4 (0 : Fin 1) u h d) := match t with
  | ⟨0, _⟩ => by pointwise
  | ⟨1, _⟩ => by pointwise
  | ⟨2, _⟩ => by pointwise
  | ⟨3, _⟩ => by pointwise
  | ⟨4, _⟩ => by pointwise
  | ⟨5, _⟩ => by pointwise
  | ⟨6, _⟩ => by pointwise
  | ⟨7, _⟩ => by pointwise

theorem cat_bias (p0 p1 p2 p3 p4 p5 p6 p7 : Vec Ideal S1x16x256x768 .f32) (t : Fin 8) (h : Fin 16) (r : Fin 256) (u : Fin 768) :
    concatenate S8x16x256x768 0 [⟨S1x16x256x768, p0⟩, ⟨S1x16x256x768, p1⟩, ⟨S1x16x256x768, p2⟩, ⟨S1x16x256x768, p3⟩, ⟨S1x16x256x768, p4⟩, ⟨S1x16x256x768, p5⟩, ⟨S1x16x256x768, p6⟩, ⟨S1x16x256x768, p7⟩]
      concatenates_S1x16x256x768_S1x16x256x768_S1x16x256x768_S1x16x256x768_S1x16x256x768_S1x16x256x768_S1x16x256x768_S1x16x256x768_S8x16x256x768_d0
      (ix4 t h r u) = (![p0, p1, p2, p3, p4, p5, p6, p7] : Fin 8 → Vec Ideal S1x16x256x768 .f32) t (ix4 (0 : Fin 1) h r u) := match t with
  | ⟨0, _⟩ => by pointwise
  | ⟨1, _⟩ => by pointwise
  | ⟨2, _⟩ => by pointwise
  | ⟨3, _⟩ => by pointwise
  | ⟨4, _⟩ => by pointwise
  | ⟨5, _⟩ => by pointwise
  | ⟨6, _⟩ => by pointwise
  | ⟨7, _⟩ => by pointwise

variable (X : Heads) (B : Bias)

/-! ## Queries, keys and values by head -/

theorem q_row (s : Fin 2048) (h : Fin 16) (d : Fin 128) : val_main_v4 (F := Ideal) X (ix3 s h d) = X (ix2 s (colAt 0 h d)) := by
  rw [val_main_v4_apply, val_main_v1_apply, val_main_v0_apply]
  have h0 := s.isLt; have h2 := h.isLt; have h3 := d.isLt
  refine congrArg X (funext fun i => Fin.ext ?_)
  match i with
  | ⟨0, _⟩ => show ((s.val * 16 + h.val) * 128 + d.val) / 2048 = s.val; omega
  | ⟨1, _⟩ => show ((s.val * 16 + h.val) * 128 + d.val) % 2048 = 2048 * 0 + (128 * h.val + d.val); omega

theorem q_apply (t : Fin 8) (r : Fin 256) (h : Fin 16) (d : Fin 128) :
    val_main_v7 (F := Ideal) X (ix4 t r h d) = X (ix2 (queryAt t r) (colAt 0 h d)) := by
  rw [val_main_v7_apply]
  have h0 := t.isLt; have h1 := r.isLt; have h2 := h.isLt; have h3 := d.isLt
  refine Eq.trans (congrArg (val_main_v4 (F := Ideal) X) (funext fun i => Fin.ext ?_)) (q_row X (queryAt t r) h d)
  match i with
  | ⟨0, _⟩ => show (((t.val * 256 + r.val) * 16 + h.val) * 128 + d.val) / 2048 = 256 * t.val + r.val; omega
  | ⟨1, _⟩ => show (((t.val * 256 + r.val) * 16 + h.val) * 128 + d.val) / 128 % 16 = h.val; omega
  | ⟨2, _⟩ => show (((t.val * 256 + r.val) * 16 + h.val) * 128 + d.val) % 128 = d.val; omega

theorem k_apply (s : Fin 2048) (h : Fin 16) (d : Fin 128) : val_main_v5 (F := Ideal) X (ix3 s h d) = X (ix2 s (colAt 1 h d)) := by
  rw [val_main_v5_apply, val_main_v2_apply, val_main_v0_apply]
  have h0 := s.isLt; have h2 := h.isLt; have h3 := d.isLt
  refine congrArg X (funext fun i => Fin.ext ?_)
  match i with
  | ⟨0, _⟩ => show ((s.val * 16 + h.val) * 128 + d.val) / 2048 = s.val; omega
  | ⟨1, _⟩ => show 2048 + ((s.val * 16 + h.val) * 128 + d.val) % 2048 = 2048 * 1 + (128 * h.val + d.val); omega

theorem v_apply (s : Fin 2048) (h : Fin 16) (d : Fin 128) : val_main_v6 (F := Ideal) X (ix3 s h d) = X (ix2 s (colAt 2 h d)) := by
  rw [val_main_v6_apply, val_main_v3_apply, val_main_v0_apply]
  have h0 := s.isLt; have h2 := h.isLt; have h3 := d.isLt
  refine congrArg X (funext fun i => Fin.ext ?_)
  match i with
  | ⟨0, _⟩ => show ((s.val * 16 + h.val) * 128 + d.val) / 2048 = s.val; omega
  | ⟨1, _⟩ => show 4096 + ((s.val * 16 + h.val) * 128 + d.val) % 2048 = 2048 * 2 + (128 * h.val + d.val); omega

/-! ## The blocks of keys and values and the bias of every step -/

/-- The keys of the steps begin at these rows. -/
theorem keys_of (t : Fin 8) (u : Fin 768) : (keyAt t u).val = ![0, 0, 256, 512, 768, 1024, 1280, 1280] t + u.val := by
  show first t.val + u.val = _
  exact congrArg (· + u.val) ((by decide +kernel : ∀ t : Fin 8, first t.val = ![0, 0, 256, 512, 768, 1024, 1280, 1280] t) t)

theorem keys_apply (t : Fin 8) (u : Fin 768) (h : Fin 16) (d : Fin 128) :
    val_main_v39 (F := Ideal) X (ix4 t u h d) = X (ix2 (keyAt t u) (colAt 1 h d)) := by
  refine Eq.trans ?_ (k_apply X (keyAt t u) h d)
  unfold val_main_v39
  refine (cat_rows _ _ _ _ _ _ _ _ t u h d).trans ?_
  match t with
  | ⟨0, _⟩ =>
    refine (val_main_v31_apply (F := Ideal) X (ix4 (0 : Fin 1) u h d)).trans ((val_main_v23_apply (F := Ideal) X _).trans ?_)
    refine congrArg (val_main_v5 (F := Ideal) X) (funext fun a => Fin.ext ?_)
    match a with
    | ⟨0, _⟩ => exact Eq.trans (by show u.val = 0 + u.val; omega) (keys_of 0 u).symm
    | ⟨1, _⟩ => rfl
    | ⟨2, _⟩ => rfl
  | ⟨1, _⟩ =>
    refine (val_main_v32_apply (F := Ideal) X (ix4 (0 : Fin 1) u h d)).trans ((val_main_v24_apply (F := Ideal) X _).trans ?_)
    refine congrArg (val_main_v5 (F := Ideal) X) (funext fun a => Fin.ext ?_)
    match a with
    | ⟨0, _⟩ => exact Eq.trans (by show u.val = 0 + u.val; omega) (keys_of 1 u).symm
    | ⟨1, _⟩ => rfl
    | ⟨2, _⟩ => rfl
  | ⟨2, _⟩ =>
    refine (val_main_v33_apply (F := Ideal) X (ix4 (0 : Fin 1) u h d)).trans ((val_main_v25_apply (F := Ideal) X _).trans ?_)
    refine congrArg (val_main_v5 (F := Ideal) X) (funext fun a => Fin.ext ?_)
    match a with
    | ⟨0, _⟩ => exact Eq.trans (by show 256 + u.val = 256 + u.val; omega) (keys_of 2 u).symm
    | ⟨1, _⟩ => rfl
    | ⟨2, _⟩ => rfl
  | ⟨3, _⟩ =>
    refine (val_main_v34_apply (F := Ideal) X (ix4 (0 : Fin 1) u h d)).trans ((val_main_v26_apply (F := Ideal) X _).trans ?_)
    refine congrArg (val_main_v5 (F := Ideal) X) (funext fun a => Fin.ext ?_)
    match a with
    | ⟨0, _⟩ => exact Eq.trans (by show 512 + u.val = 512 + u.val; omega) (keys_of 3 u).symm
    | ⟨1, _⟩ => rfl
    | ⟨2, _⟩ => rfl
  | ⟨4, _⟩ =>
    refine (val_main_v35_apply (F := Ideal) X (ix4 (0 : Fin 1) u h d)).trans ((val_main_v27_apply (F := Ideal) X _).trans ?_)
    refine congrArg (val_main_v5 (F := Ideal) X) (funext fun a => Fin.ext ?_)
    match a with
    | ⟨0, _⟩ => exact Eq.trans (by show 768 + u.val = 768 + u.val; omega) (keys_of 4 u).symm
    | ⟨1, _⟩ => rfl
    | ⟨2, _⟩ => rfl
  | ⟨5, _⟩ =>
    refine (val_main_v36_apply (F := Ideal) X (ix4 (0 : Fin 1) u h d)).trans ((val_main_v28_apply (F := Ideal) X _).trans ?_)
    refine congrArg (val_main_v5 (F := Ideal) X) (funext fun a => Fin.ext ?_)
    match a with
    | ⟨0, _⟩ => exact Eq.trans (by show 1024 + u.val = 1024 + u.val; omega) (keys_of 5 u).symm
    | ⟨1, _⟩ => rfl
    | ⟨2, _⟩ => rfl
  | ⟨6, _⟩ =>
    refine (val_main_v37_apply (F := Ideal) X (ix4 (0 : Fin 1) u h d)).trans ((val_main_v29_apply (F := Ideal) X _).trans ?_)
    refine congrArg (val_main_v5 (F := Ideal) X) (funext fun a => Fin.ext ?_)
    match a with
    | ⟨0, _⟩ => exact Eq.trans (by show 1280 + u.val = 1280 + u.val; omega) (keys_of 6 u).symm
    | ⟨1, _⟩ => rfl
    | ⟨2, _⟩ => rfl
  | ⟨7, _⟩ =>
    refine (val_main_v38_apply (F := Ideal) X (ix4 (0 : Fin 1) u h d)).trans ((val_main_v30_apply (F := Ideal) X _).trans ?_)
    refine congrArg (val_main_v5 (F := Ideal) X) (funext fun a => Fin.ext ?_)
    match a with
    | ⟨0, _⟩ => exact Eq.trans (by show 1280 + u.val = 1280 + u.val; omega) (keys_of 7 u).symm
    | ⟨1, _⟩ => rfl
    | ⟨2, _⟩ => rfl

theorem values_apply (t : Fin 8) (u : Fin 768) (h : Fin 16) (d : Fin 128) :
    val_main_v71 (F := Ideal) X (ix4 t u h d) = val X h t d u := by
  refine Eq.trans ?_ (v_apply X (keyAt t u) h d)
  unfold val_main_v71
  refine (cat_rows _ _ _ _ _ _ _ _ t u h d).trans ?_
  match t with
  | ⟨0, _⟩ =>
    refine (val_main_v63_apply (F := Ideal) X (ix4 (0 : Fin 1) u h d)).trans ((val_main_v55_apply (F := Ideal) X _).trans ?_)
    refine congrArg (val_main_v6 (F := Ideal) X) (funext fun a => Fin.ext ?_)
    match a with
    | ⟨0, _⟩ => exact Eq.trans (by show u.val = 0 + u.val; omega) (keys_of 0 u).symm
    | ⟨1, _⟩ => rfl
    | ⟨2, _⟩ => rfl
  | ⟨1, _⟩ =>
    refine (val_main_v64_apply (F := Ideal) X (ix4 (0 : Fin 1) u h d)).trans ((val_main_v56_apply (F := Ideal) X _).trans ?_)
    refine congrArg (val_main_v6 (F := Ideal) X) (funext fun a => Fin.ext ?_)
    match a with
    | ⟨0, _⟩ => exact Eq.trans (by show u.val = 0 + u.val; omega) (keys_of 1 u).symm
    | ⟨1, _⟩ => rfl
    | ⟨2, _⟩ => rfl
  | ⟨2, _⟩ =>
    refine (val_main_v65_apply (F := Ideal) X (ix4 (0 : Fin 1) u h d)).trans ((val_main_v57_apply (F := Ideal) X _).trans ?_)
    refine congrArg (val_main_v6 (F := Ideal) X) (funext fun a => Fin.ext ?_)
    match a with
    | ⟨0, _⟩ => exact Eq.trans (by show 256 + u.val = 256 + u.val; omega) (keys_of 2 u).symm
    | ⟨1, _⟩ => rfl
    | ⟨2, _⟩ => rfl
  | ⟨3, _⟩ =>
    refine (val_main_v66_apply (F := Ideal) X (ix4 (0 : Fin 1) u h d)).trans ((val_main_v58_apply (F := Ideal) X _).trans ?_)
    refine congrArg (val_main_v6 (F := Ideal) X) (funext fun a => Fin.ext ?_)
    match a with
    | ⟨0, _⟩ => exact Eq.trans (by show 512 + u.val = 512 + u.val; omega) (keys_of 3 u).symm
    | ⟨1, _⟩ => rfl
    | ⟨2, _⟩ => rfl
  | ⟨4, _⟩ =>
    refine (val_main_v67_apply (F := Ideal) X (ix4 (0 : Fin 1) u h d)).trans ((val_main_v59_apply (F := Ideal) X _).trans ?_)
    refine congrArg (val_main_v6 (F := Ideal) X) (funext fun a => Fin.ext ?_)
    match a with
    | ⟨0, _⟩ => exact Eq.trans (by show 768 + u.val = 768 + u.val; omega) (keys_of 4 u).symm
    | ⟨1, _⟩ => rfl
    | ⟨2, _⟩ => rfl
  | ⟨5, _⟩ =>
    refine (val_main_v68_apply (F := Ideal) X (ix4 (0 : Fin 1) u h d)).trans ((val_main_v60_apply (F := Ideal) X _).trans ?_)
    refine congrArg (val_main_v6 (F := Ideal) X) (funext fun a => Fin.ext ?_)
    match a with
    | ⟨0, _⟩ => exact Eq.trans (by show 1024 + u.val = 1024 + u.val; omega) (keys_of 5 u).symm
    | ⟨1, _⟩ => rfl
    | ⟨2, _⟩ => rfl
  | ⟨6, _⟩ =>
    refine (val_main_v69_apply (F := Ideal) X (ix4 (0 : Fin 1) u h d)).trans ((val_main_v61_apply (F := Ideal) X _).trans ?_)
    refine congrArg (val_main_v6 (F := Ideal) X) (funext fun a => Fin.ext ?_)
    match a with
    | ⟨0, _⟩ => exact Eq.trans (by show 1280 + u.val = 1280 + u.val; omega) (keys_of 6 u).symm
    | ⟨1, _⟩ => rfl
    | ⟨2, _⟩ => rfl
  | ⟨7, _⟩ =>
    refine (val_main_v70_apply (F := Ideal) X (ix4 (0 : Fin 1) u h d)).trans ((val_main_v62_apply (F := Ideal) X _).trans ?_)
    refine congrArg (val_main_v6 (F := Ideal) X) (funext fun a => Fin.ext ?_)
    match a with
    | ⟨0, _⟩ => exact Eq.trans (by show 1280 + u.val = 1280 + u.val; omega) (keys_of 7 u).symm
    | ⟨1, _⟩ => rfl
    | ⟨2, _⟩ => rfl

theorem bias_apply (t : Fin 8) (h : Fin 16) (r : Fin 256) (u : Fin 768) :
    val_main_v22 (F := Ideal) B (ix4 t h r u) = B (ix4 h (pat t) r u) := by
  unfold val_main_v22
  refine (cat_bias _ _ _ _ _ _ _ _ t h r u).trans ?_
  have hh := h.isLt; have hr := r.isLt; have hu := u.isLt
  match t with
  | ⟨0, _⟩ =>
    refine (val_main_v14_apply (F := Ideal) B (ix4 (0 : Fin 1) h r u)).trans ((val_main_v9_apply (F := Ideal) B _).trans ((val_main_v8_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 0 = (pat 0).val)
    | ⟨2, _⟩ => show ((h.val * 256 + r.val) * 768 + u.val) / 768 % 256 = r.val; omega
    | ⟨3, _⟩ => show ((h.val * 256 + r.val) * 768 + u.val) % 768 = u.val; omega
  | ⟨1, _⟩ =>
    refine (val_main_v15_apply (F := Ideal) B (ix4 (0 : Fin 1) h r u)).trans ((val_main_v11_apply (F := Ideal) B _).trans ((val_main_v10_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 1 = (pat 1).val)
    | ⟨2, _⟩ => show ((h.val * 256 + r.val) * 768 + u.val) / 768 % 256 = r.val; omega
    | ⟨3, _⟩ => show ((h.val * 256 + r.val) * 768 + u.val) % 768 = u.val; omega
  | ⟨2, _⟩ =>
    refine (val_main_v16_apply (F := Ideal) B (ix4 (0 : Fin 1) h r u)).trans ((val_main_v11_apply (F := Ideal) B _).trans ((val_main_v10_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 1 = (pat 2).val)
    | ⟨2, _⟩ => show ((h.val * 256 + r.val) * 768 + u.val) / 768 % 256 = r.val; omega
    | ⟨3, _⟩ => show ((h.val * 256 + r.val) * 768 + u.val) % 768 = u.val; omega
  | ⟨3, _⟩ =>
    refine (val_main_v17_apply (F := Ideal) B (ix4 (0 : Fin 1) h r u)).trans ((val_main_v11_apply (F := Ideal) B _).trans ((val_main_v10_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 1 = (pat 3).val)
    | ⟨2, _⟩ => show ((h.val * 256 + r.val) * 768 + u.val) / 768 % 256 = r.val; omega
    | ⟨3, _⟩ => show ((h.val * 256 + r.val) * 768 + u.val) % 768 = u.val; omega
  | ⟨4, _⟩ =>
    refine (val_main_v18_apply (F := Ideal) B (ix4 (0 : Fin 1) h r u)).trans ((val_main_v11_apply (F := Ideal) B _).trans ((val_main_v10_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 1 = (pat 4).val)
    | ⟨2, _⟩ => show ((h.val * 256 + r.val) * 768 + u.val) / 768 % 256 = r.val; omega
    | ⟨3, _⟩ => show ((h.val * 256 + r.val) * 768 + u.val) % 768 = u.val; omega
  | ⟨5, _⟩ =>
    refine (val_main_v19_apply (F := Ideal) B (ix4 (0 : Fin 1) h r u)).trans ((val_main_v11_apply (F := Ideal) B _).trans ((val_main_v10_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 1 = (pat 5).val)
    | ⟨2, _⟩ => show ((h.val * 256 + r.val) * 768 + u.val) / 768 % 256 = r.val; omega
    | ⟨3, _⟩ => show ((h.val * 256 + r.val) * 768 + u.val) % 768 = u.val; omega
  | ⟨6, _⟩ =>
    refine (val_main_v20_apply (F := Ideal) B (ix4 (0 : Fin 1) h r u)).trans ((val_main_v11_apply (F := Ideal) B _).trans ((val_main_v10_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 1 = (pat 6).val)
    | ⟨2, _⟩ => show ((h.val * 256 + r.val) * 768 + u.val) / 768 % 256 = r.val; omega
    | ⟨3, _⟩ => show ((h.val * 256 + r.val) * 768 + u.val) % 768 = u.val; omega
  | ⟨7, _⟩ =>
    refine (val_main_v21_apply (F := Ideal) B (ix4 (0 : Fin 1) h r u)).trans ((val_main_v13_apply (F := Ideal) B _).trans ((val_main_v12_apply (F := Ideal) B _).trans ?_))
    refine congrArg B (funext fun a => Fin.ext ?_)
    match a with
    | ⟨0, _⟩ => show ((h.val * 256 + r.val) * 768 + u.val) / 196608 = h.val; omega
    | ⟨1, _⟩ => exact (by decide : 2 = (pat 7).val)
    | ⟨2, _⟩ => show ((h.val * 256 + r.val) * 768 + u.val) / 768 % 256 = r.val; omega
    | ⟨3, _⟩ => show ((h.val * 256 + r.val) * 768 + u.val) % 768 = u.val; omega

/-! ## The attention -/

/-- The scores. -/
theorem sc_apply (t : Fin 8) (h : Fin 16) (r : Fin 256) (u : Fin 768) :
    val_main_v43 (F := Ideal) X B (ix4 t h r u) = sc X B h t r u := by
  unfold val_main_v43 val_main_v42 val_main_v41 val_main_cst val_main_v40 sc scale
  pointwise [q_apply, keys_apply, bias_apply]

/-- The maximum over the keys is the fold of the maximum over them. -/
theorem rowMax (x : FVec Ideal S8x16x256x768 .f32) (t : Fin 8) (h : Fin 16) (r : Fin 256) :
    Host.reduce FloatOps.maximumf x (constant S_ .f32 0xFF800000#32) reducesTo_S8x16x256x768_S8x16x256_d3 h_S_ (ix3 t h r)
      = Finset.univ.fold max (Ideal.ofBits .f32 0xFF800000#32) fun u => x (ix4 t h r u) := by
  have hr : S8x16x256x768.Reduces [3] S8x16x256 := by decide
  rw [hostReduce_maximumf_eq_multiReduction x 0xFF800000#32 reducesTo_S8x16x256x768_S8x16x256_d3 h_S_ hr (.inl rfl) rfl]
  pointwise

/-- The largest score of a query. -/
theorem max_apply (t : Fin 8) (h : Fin 16) (r : Fin 256) : val_main_v44 (F := Ideal) X B (ix3 t h r) = top (sc X B h t r) := by
  unfold val_main_v44 val_main_cst_0 top
  rw [rowMax, Cert.NaFwdIdeal.Kernel.ofBits_bot]
  exact congrArg (fun f => Finset.univ.fold max ⊥ f) (funext fun u => sc_apply X B t h r u)

/-- The weights. -/
theorem wgt_apply (t : Fin 8) (h : Fin 16) (r : Fin 256) (u : Fin 768) :
    val_main_v50 (F := Ideal) X B (ix4 t h r u) = wgt (sc X B h t r) u := by
  have e : idx_main_v47 (idx_main_v48 (ix4 t h r u)) = ix3 t h r := funext fun i => match i with
    | ⟨0, _⟩ => rfl
    | ⟨1, _⟩ => rfl
    | ⟨2, _⟩ => rfl
  rw [val_main_v50_apply, val_main_v49_apply, val_main_v48_apply, val_main_v47_apply, val_main_v46_apply, val_main_v45_apply,
    val_main_cst_1_apply, e, sc_apply, max_apply, Ideal.ofBits_def, Cert.NaFwdIdeal.Kernel.ofBits_bot, Ideal.maximumf_def, max_eq_right bot_le]
  rfl

/-- The probabilities. -/
theorem soft_apply (t : Fin 8) (h : Fin 16) (r : Fin 256) (u : Fin 768) :
    val_main_v54 (F := Ideal) X B (ix4 t h r u) = soft (sc X B h t r) u := by
  unfold val_main_v54 val_main_v53 val_main_v52 val_main_v51 val_main_cst_2 soft mass
  pointwise [wgt_apply]

/-- The attention's result, by step and head. -/
theorem out_apply (t : Fin 8) (r : Fin 256) (h : Fin 16) (d : Fin 128) :
    val_main_v73 (F := Ideal) X B (ix4 t r h d) = ∑ u, soft (sc X B h t r) u * val X h t d u := by
  unfold val_main_v73 val_main_v72
  pointwise [soft_apply, values_apply]
  exact Finset.sum_congr rfl fun s _ => mul_comm _ _

/-- The result's entry at a row and column. -/
theorem reference_apply (t : Fin 8) (r : Fin 256) (h : Fin 16) (d : Fin 128) :
    val_main_v76 (F := Ideal) X B (ix2 (queryAt t r) (col h d)) = ∑ u, soft (sc X B h t r) u * val X h t d u := by
  rw [val_main_v76_apply, val_main_v75_apply]
  have h0 := t.isLt; have h1 := r.isLt; have h2 := h.isLt; have h3 := d.isLt
  refine Eq.trans (congrArg (val_main_v74 (F := Ideal) X B) (?_ : _ = ix3 (queryAt t r) h d)) ?_
  · funext a
    apply Fin.ext
    match a with
    | ⟨0, _⟩ => show ((256 * t.val + r.val) * 2048 + (128 * h.val + d.val)) / 2048 = 256 * t.val + r.val; omega
    | ⟨1, _⟩ => show ((256 * t.val + r.val) * 2048 + (128 * h.val + d.val)) / 128 % 16 = h.val; omega
    | ⟨2, _⟩ => show ((256 * t.val + r.val) * 2048 + (128 * h.val + d.val)) % 128 = d.val; omega
  rw [val_main_v74_apply]
  refine Eq.trans (congrArg (val_main_v73 (F := Ideal) X B) (?_ : _ = ix4 t r h d)) (out_apply X B t r h d)
  funext a
  apply Fin.ext
  match a with
  | ⟨0, _⟩ => show (((256 * t.val + r.val) * 16 + h.val) * 128 + d.val) / 524288 = t.val; omega
  | ⟨1, _⟩ => show (((256 * t.val + r.val) * 16 + h.val) * 128 + d.val) / 2048 % 256 = r.val; omega
  | ⟨2, _⟩ => show (((256 * t.val + r.val) * 16 + h.val) * 128 + d.val) / 128 % 16 = h.val; omega
  | ⟨3, _⟩ => show (((256 * t.val + r.val) * 16 + h.val) * 128 + d.val) % 128 = d.val; omega

end reference

/-- A row of the result is a query of a step, a column a feature of a head. -/
theorem row_of (i : Fin 2048) : i = queryAt ⟨i.val / 256, by omega⟩ ⟨i.val % 256, by omega⟩ :=
  Fin.ext (by show i.val = 256 * (i.val / 256) + i.val % 256; omega)
theorem col_of (j : Fin 2048) : j = col ⟨j.val / 128, by omega⟩ ⟨j.val % 128, by omega⟩ :=
  Fin.ext (by show j.val = 128 * (j.val / 128) + j.val % 128; omega)

/-- The kernel's attention is the reference's, wherever the queries, keys, values and bias are finite. -/
theorem value : Cert.algebraic_NaFwdIdeal_NaFwdRefIdeal_pre_finite_na := by
  intro m g m' g' hpre hargs
  refine ⟨fun c => (Cert.NaFwdIdeal.Gen.dats m 0 c).arrAt 4 Cert.NaFwdIdeal.cfg0.N, Cert.NaFwdIdeal.Value.run_blocks m g, ?_⟩
  refine (θ_run _ _ _).mono (fun r h c => ?_) (Cert.NaFwdRefIdeal.Value.run (F := Ideal) m' g')
  obtain ⟨h0, ha⟩ := h c
  obtain ⟨e0, e1⟩ := hargs c
  obtain ⟨p0, p1⟩ := hpre c
  have hX := finite_x _ _ p0
  have hB := finite_b _ _ p1
  refine ⟨h0.trans ?_, ha⟩
  rw [Cert.NaFwdRefIdeal.Read.val_main_v76_eq, e0, e1]
  funext i
  rw [eq_ix2 i, row_of (i 0), col_of (i 1)]
  refine (reference_apply _ _ _ _ _ _).trans (Eq.trans ?_ (Cert.NaFwdIdeal.Kernel.result_apply m c _ _ _ _).symm)
  exact soft_sum (by norm_num) _ _ fun u => sc_real _ _ hX hB _ _ _ u

end Cert.NaFwd

end
-- ==== Proof.PrepSpec.lean ====
/-
  One row of the preparation of the grouped-query attention's q and k over the extended reals: the normalisation of the
  head's 128 entries, the rotation of their quarters, and the scale of the queries.
-/
module

public import Idealize.ShloMosaic.PureOps.Ideal.Laws

@[expose] public section

noncomputable section

namespace Cert.Prep

open Idealize.ShloMosaic

/-- A row divided by its root mean square, times the scale. -/
def normed (x g : Fin 128 → EReal) (j : Fin 128) : EReal :=
  x j * Ideal.rsqrt (Ideal.div (∑ k, x k * x k) (Ideal.ofBits .f32 0x43000000#32) + Ideal.ofBits .f32 0x358637BD#32) * g j

/-- In each half of the row, the second quarter negated in place of the first and the first in place of the second. -/
def turned (y : Fin 128 → EReal) (j : Fin 128) : EReal :=
  if j.val % 64 < 32 then -(y ⟨(j.val + 32) % 128, by omega⟩) else y ⟨(j.val + 96) % 128, by omega⟩

/-- The row normalised and rotated. -/
def rotated (x g cs sn : Fin 128 → EReal) (j : Fin 128) : EReal :=
  normed x g j * cs j + turned (normed x g) j * sn j

/-- The scale of the queries. -/
abbrev scale : EReal := Ideal.ofBits .f32 0x3DB504F3#32

end Cert.Prep

end
-- ==== Proof.PrepKernel.lean ====
/-
  What the kernel preparing the grouped-query attention's q and k leaves in its result over the extended reals, for all
  arguments: every head's rows normalised and rotated, the queries scaled.
-/
module

public import proofs.«01_k».proof.Proof.Gen.PrepIdeal.Value
public import proofs.«01_k».proof.Proof.PrepSpec
public import Idealize.ShloMosaic.Lib.Pointwise

@[expose] public section

set_option maxRecDepth 16384

noncomputable section

namespace Cert.PrepIdeal.Kernel

open Idealize.ShloMosaic Idealize.ShloMosaic.TcCoe Idealize.SL.Sem
open Cert.PrepIdeal Cert.PrepIdeal.Gen Cert.PrepIdeal.Value Cert.Prep

theorem hz : (![0, 0] : Fin 2 → Nat) = fun _ => 0 := funext fun a => by fin_cases a <;> rfl

/-- Whether a column lies in the first quarter of its half, as the kernel computes it. -/
theorem low_apply (r : Fin 2048) (j : Fin 128) : k0_pay4 (ix2 r j) = if j.val % 64 < 32 then 1#1 else 0#1 := by
  unfold k0_pay4
  pointwise
  revert j
  decide +kernel

/-- The normalised rows. -/
theorem pay2_apply (i : grid0.Coords) (x : Vec Ideal S2048x128 .bf16) (gq gk : Vec Ideal S1x128 .f32) (r : Fin 2048) (j : Fin 128) :
    k0_pay2 i x gq gk (ix2 r j)
      = normed (fun e => x (ix2 r e))
          (fun e => (Scalar.select (Scalar.cmpi .slt (BitVec.ofNat 32 (i 0).val) 16#32) gq gk : Vec Ideal S1x128 .f32) (ix2 (0 : Fin 1) e)) j := by
  unfold k0_pay2 normed
  generalize (Scalar.select (Scalar.cmpi .slt (BitVec.ofNat 32 (i 0).val) 16#32) gq gk : Vec Ideal S1x128 .f32) = g
  pointwise

/-- The payload of normalised rows `y`, their products `z` with the cosines and the sines `sn`. -/
theorem pay1_apply (v0 : BitVec 1) (y z sn : Vec Ideal S2048x128 .f32) (r : Fin 2048) (j : Fin 128) :
    k0_pay1 v0 y z k0_pay4 96#32 sn (ix2 r j)
      = (z (ix2 r j) + turned (fun e => y (ix2 r e)) j * sn (ix2 r j)) * Scalar.select v0 scale (Ideal.ofBits .f32 0x3F800000#32) := by
  have hl := low_apply r j
  unfold k0_pay1 turned
  generalize k0_pay4 = p at hl
  pointwise
  rw [hl]
  have h1 : j.val + 128 - 96 = j.val + 32 := by omega
  have h2 : j.val + 128 - 32 = j.val + 96 := by omega
  simp only [h1, h2]
  refine congrArg₂ (· * ·) (congrArg₂ (· + ·) rfl (congrArg₂ (· * ·) ?_ rfl)) rfl
  by_cases h : j.val % 64 < 32
  · rw [if_pos h, if_pos h]
    exact zero_sub _
  · rw [if_neg h, if_neg h]
    rfl

/-- The block a point leaves. -/
theorem out_apply (i : grid0.Coords) (x : Vec Ideal S2048x128 .bf16) (gq gk : Vec Ideal S1x128 .f32) (cs sn : Vec Ideal S2048x128 .f32)
    (r : Fin 2048) (j : Fin 128) :
    out0_5 i x gq gk cs sn (ix2 r j)
      = rotated (fun e => x (ix2 r e))
          (fun e => (Scalar.select (Scalar.cmpi .slt (BitVec.ofNat 32 (i 0).val) 16#32) gq gk : Vec Ideal S1x128 .f32) (ix2 (0 : Fin 1) e))
          (fun e => cs (ix2 r e)) (fun e => sn (ix2 r e)) j
        * Scalar.select (Scalar.cmpi .slt (BitVec.ofNat 32 (i 0).val) 16#32) scale (Ideal.ofBits .f32 0x3F800000#32) := by
  unfold out0_5
  rw [View.canon_unit_zero (S := S2048x128) hz, View.ld_unit_zero (S := S2048x128) hz, View.ld_unit_zero (S := S1x128) hz,
    View.ld_unit_zero (S := S1x128) hz, View.ld_unit_zero (S := S2048x128) hz, View.ld_unit_zero (S := S2048x128) hz]
  rw [pay1_apply]
  unfold rotated
  refine congrArg₂ (· * ·) (congrArg₂ (· + ·) ?_ (congrArg₂ (· * ·) (congrArg (fun y => turned y j) (funext fun e => pay2_apply i x gq gk r e)) rfl)) rfl
  unfold k0_pay3
  exact congrArg₂ (· * ·) (pay2_apply i x gq gk r j) rfl

/-! ## The blocks of the arguments and of the result -/

/-- The block index of each window at a grid point. -/
theorem idx0 : ∀ t : Fin grid0.N, win0_0.index t 0 = 0 ∧ win0_0.index t 1 = t.val := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = t.val := by decide +kernel

/-- Whether a point's head is one of the queries', as the kernel computes it. -/
theorem isq : ∀ t : Fin grid0.N, Scalar.cmpi .slt (BitVec.ofNat 32 (grid0.coords t 0).val) 16#32 = if t.val < 16 then 1#1 else 0#1 := by
  decide +kernel

/-- Every point writes its block back. -/
theorem flush5 : ∀ t : Fin cfg0.N, (cfg0.win 5).flush t = true :=
  (by decide +kernel : ∀ t : Fin grid0.N, win0_5.flush t = true)

variable (m : (ℓ : Loc nD τ sig) → Buf (Elt Ideal) ℓ) (c : Dev nD)

/-- The arguments the kernel is run on: the projection, the two scales, the cosines and the sines. -/
abbrev argX : Vec Ideal S2048x3072 .bf16 := m ((c : Thread nD τ).loc main_arg0)
abbrev argQ : Vec Ideal S1x128 .f32 := m ((c : Thread nD τ).loc main_arg1)
abbrev argK : Vec Ideal S1x128 .f32 := m ((c : Thread nD τ).loc main_arg2)
abbrev argC : Vec Ideal S2048x128 .f32 := m ((c : Thread nD τ).loc main_arg3)
abbrev argS : Vec Ideal S2048x128 .f32 := m ((c : Thread nD τ).loc main_arg4)

/-- The block of a head. -/
theorem blk_x (t : Fin cfg0.N) (r : Fin 2048) (e : Fin 128) (l : Fin 3072) (hl : l.val = 128 * t.val + e.val) :
    (iblk m c 0 t : Vec Ideal S2048x128 .bf16) (ix2 r e) = argX m c (ix2 r l) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 2048 + 1 * r.val = r.val; rw [h.1]; omega
  | ⟨1, _⟩ => show win0_0.index t 1 * 128 + 1 * e.val = l.val; rw [h.2]; omega

/-- The block of the queries' scale is the whole array. -/
theorem blk_q (t : Fin cfg0.N) : (iblk m c 1 t : Vec Ideal S1x128 .f32) = argQ m c := by
  funext i
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * (i 0).val = (i 0).val; rw [h.1]; omega
  | ⟨1, _⟩ => show win0_1.index t 1 * 128 + 1 * (i 1).val = (i 1).val; rw [h.2]; omega

/-- The block of the keys' scale is the whole array. -/
theorem blk_k (t : Fin cfg0.N) : (iblk m c 2 t : Vec Ideal S1x128 .f32) = argK m c := by
  funext i
  unfold iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 1 + 1 * (i 0).val = (i 0).val; rw [h.1]; omega
  | ⟨1, _⟩ => show win0_2.index t 1 * 128 + 1 * (i 1).val = (i 1).val; rw [h.2]; omega

/-- The block of the cosines is the whole array. -/
theorem blk_c (t : Fin cfg0.N) : (iblk m c 3 t : Vec Ideal S2048x128 .f32) = argC m c := by
  funext i
  unfold iblk
  rw [View.read_apply]
  show V m c main_arg3 _ = _
  unfold V
  refine congrArg (m ((c : Thread nD τ).loc main_arg3)) (funext fun a => Fin.ext ?_)
  have h := idx3 t
  match a with
  | ⟨0, _⟩ => show win0_3.index t 0 * 2048 + 1 * (i 0).val = (i 0).val; rw [h.1]; omega
  | ⟨1, _⟩ => show win0_3.index t 1 * 128 + 1 * (i 1).val = (i 1).val; rw [h.2]; omega

/-- The block of the sines is the whole array. -/
theorem blk_s (t : Fin cfg0.N) : (iblk m c 4 t : Vec Ideal S2048x128 .f32) = argS m c := by
  funext i
  unfold iblk
  rw [View.read_apply]
  show V m c main_arg4 _ = _
  unfold V
  refine congrArg (m ((c : Thread nD τ).loc main_arg4)) (funext fun a => Fin.ext ?_)
  have h := idx4 t
  match a with
  | ⟨0, _⟩ => show win0_4.index t 0 * 2048 + 1 * (i 0).val = (i 0).val; rw [h.1]; omega
  | ⟨1, _⟩ => show win0_4.index t 1 * 128 + 1 * (i 1).val = (i 1).val; rw [h.2]; omega

/-- An entry of the result, by head. -/
theorem result_apply (i : Fin 2048) (h : Fin 20) (d : Fin 128) (l : Fin 2560) (hl : l.val = 128 * h.val + d.val) :
    ((dats m 0 c).arrAt 5 cfg0.N : Vec Ideal S2048x2560 .bf16) (ix2 i l)
      = rotated (fun e => argX m c (ix2 i (⟨128 * h.val + e.val, by have := h.isLt; have := e.isLt; omega⟩ : Fin 3072)))
          (fun e => (if h.val < 16 then argQ m c else argK m c) (ix2 (0 : Fin 1) e))
          (fun e => argC m c (ix2 i e)) (fun e => argS m c (ix2 i e)) d
        * (if h.val < 16 then scale else Ideal.ofBits .f32 0x3F800000#32) := by
  let t : Fin cfg0.N := ⟨h.val, lt_of_lt_of_eq h.isLt N_0.symm⟩
  have ht : t.val = h.val := rfl
  have hb := congrFun (blocks5 m c t (flush5 t)) (ix2 i d)
  rw [flushed5, View.read_apply] at hb
  refine Eq.trans ?_ (hb.trans ((out_apply (grid0.coords t) (iblk m c 0 t) (iblk m c 1 t) (iblk m c 2 t) (iblk m c 3 t) (iblk m c 4 t) i d).trans ?_))
  · refine congrArg ((dats m 0 c).arrAt 5 cfg0.N) (funext fun a => Fin.ext ?_)
    have h := idx5 t
    match a with
    | ⟨0, _⟩ => show i.val = win0_5.index t 0 * 2048 + 1 * i.val; rw [h.1]; omega
    | ⟨1, _⟩ => show l.val = win0_5.index t 1 * 128 + 1 * d.val; rw [h.2, hl, ht]; omega
  · have hx : (fun e : Fin 128 => (iblk m c 0 t : Vec Ideal S2048x128 .bf16) (ix2 i e))
        = fun e => argX m c (ix2 i (⟨128 * h.val + e.val, by have := h.isLt; have := e.isLt; omega⟩ : Fin 3072)) :=
      funext fun e => blk_x m c t i e _ rfl
    rw [hx, blk_q, blk_k, blk_c, blk_s, isq t]
    by_cases hh : t.val < 16
    · have hh' : h.val < 16 := hh
      rw [if_pos hh, if_pos hh', if_pos hh']; rfl
    · have hh' : ¬ h.val < 16 := hh
      rw [if_neg hh, if_neg hh', if_neg hh']; rfl

end Cert.PrepIdeal.Kernel

end
-- ==== Proof.PrepClaim.lean ====
/-
  The kernel preparing the grouped-query attention's q and k computes the reference's normalisation and rotation.
-/
module

public import proofs.«01_k».proof.Proof.PrepKernel
public import proofs.«01_k».proof.Proof.Gen.PrepRefIdeal.Read
public import proofs.«01_k».proof.Defs

@[expose] public section

set_option maxRecDepth 16384

noncomputable section

namespace Cert.Prep

open Idealize.ShloMosaic Idealize.ShloMosaic.TcCoe Idealize.SL.Sem

/-- The reference runs from any state, leaves its arguments as they were and its semaphores at zero. -/
theorem reference_frame : Cert.quiescent_PrepRefIdeal := fun m ρ _ =>
  (θ_run Cert.PrepRefIdeal.defs _ _).mono (fun r h => ⟨fun c => (h c).2, sem_eq_zero_of_no_sems (by decide) r.2⟩)
    (Cert.PrepRefIdeal.Value.run (F := Ideal) m ρ)

section reference
open Cert.PrepRefIdeal Cert.PrepRefIdeal.Gen Cert.PrepRefIdeal.Read

variable (x : Vec Ideal S2048x3072 .bf16) (gq gk : Vec Ideal S1x128 .f32) (cs sn : Vec Ideal S2048x128 .f32)

/-- The queries' rows, normalised. -/
theorem normed_q (i : Fin 2048) (h : Fin 16) (d : Fin 128) :
    val_main_v19 (F := Ideal) x gq (ix3 i h d)
      = normed (fun e => x (ix2 i (⟨128 * h.val + e.val, by have := h.isLt; have := e.isLt; omega⟩ : Fin 3072)))
          (fun e => gq (ix2 (0 : Fin 1) e)) d := by
  unfold val_main_v19 val_main_v18 val_main_v17 val_main_v16 val_main_v15 val_main_v14 val_main_v13 val_main_v12 val_main_v11 val_main_v10 val_main_v9 val_main_v8 val_main_v7 val_main_v6
    val_main_v2 val_main_v1 val_main_v0 val_main_cst val_main_cst_0 val_main_cst_1 normed
  pointwise
  simp only [Nat.mul_comm h.val 128]

/-- The queries' rows, their quarters turned. -/
theorem turned_q (i : Fin 2048) (h : Fin 16) (d : Fin 128) :
    val_main_v32 (F := Ideal) x gq (ix3 i h d) = turned (fun e => val_main_v19 (F := Ideal) x gq (ix3 i h e)) d := by
  unfold val_main_v32 val_main_v31 val_main_v30 val_main_v29 val_main_v28 val_main_v27 val_main_v26 val_main_v25 val_main_v24 val_main_v23 turned
  generalize val_main_v19 (F := Ideal) x gq = y
  pointwise
  have hd := d.isLt
  by_cases hl : d.val % 64 < 32
  · rw [dif_pos (by omega), if_pos hl]
    refine congrArg (fun e => -y (ix3 i h e)) (Fin.ext ?_)
    show d.val / 64 * 64 + 32 + d.val % 32 = (d.val + 32) % 128
    omega
  · rw [dif_neg (by omega), if_neg hl]
    refine congrArg (fun e => y (ix3 i h e)) (Fin.ext ?_)
    show d.val / 64 * 64 + d.val % 32 = (d.val + 96) % 128
    omega

/-- The queries' rows, normalised and rotated. -/
theorem rotated_q (i : Fin 2048) (h : Fin 16) (d : Fin 128) :
    val_main_v36 (F := Ideal) x gq cs sn (ix3 i h d)
      = rotated (fun e => x (ix2 i (⟨128 * h.val + e.val, by have := h.isLt; have := e.isLt; omega⟩ : Fin 3072)))
          (fun e => gq (ix2 (0 : Fin 1) e)) (fun e => cs (ix2 i e)) (fun e => sn (ix2 i e)) d := by
  have hn := normed_q x gq i h d
  have ht := (turned_q x gq i h d).trans (congrArg (fun y => turned y d) (funext fun e => normed_q x gq i h e))
  unfold val_main_v36 val_main_v35 val_main_v34 val_main_v33 val_main_v22 val_main_v21 val_main_v20 rotated
  generalize val_main_v19 (F := Ideal) x gq = y at hn
  generalize val_main_v32 (F := Ideal) x gq = z at ht
  pointwise
  rw [hn, ht]

/-- The keys' rows, normalised. -/
theorem normed_k (i : Fin 2048) (h : Fin 4) (d : Fin 128) :
    val_main_v52 (F := Ideal) x gk (ix3 i h d)
      = normed (fun e => x (ix2 i (⟨128 * (16 + h.val) + e.val, by have := h.isLt; have := e.isLt; omega⟩ : Fin 3072)))
          (fun e => gk (ix2 (0 : Fin 1) e)) d := by
  unfold val_main_v52 val_main_v51 val_main_v50 val_main_v49 val_main_v48 val_main_v47 val_main_v46 val_main_v45 val_main_v44 val_main_v43 val_main_v42 val_main_v41 val_main_v40 val_main_v39
    val_main_v5 val_main_v4 val_main_v3 val_main_cst_3 val_main_cst_4 val_main_cst_5 normed
  pointwise
  have hk : ∀ a : ℕ, 2048 + (h.val * 128 + a) = 128 * (16 + h.val) + a := fun a => by omega
  simp only [hk]

/-- The keys' rows, their quarters turned. -/
theorem turned_k (i : Fin 2048) (h : Fin 4) (d : Fin 128) :
    val_main_v65 (F := Ideal) x gk (ix3 i h d) = turned (fun e => val_main_v52 (F := Ideal) x gk (ix3 i h e)) d := by
  unfold val_main_v65 val_main_v64 val_main_v63 val_main_v62 val_main_v61 val_main_v60 val_main_v59 val_main_v58 val_main_v57 val_main_v56 turned
  generalize val_main_v52 (F := Ideal) x gk = y
  pointwise
  have hd := d.isLt
  by_cases hl : d.val % 64 < 32
  · rw [dif_pos (by omega), if_pos hl]
    refine congrArg (fun e => -y (ix3 i h e)) (Fin.ext ?_)
    show d.val / 64 * 64 + 32 + d.val % 32 = (d.val + 32) % 128
    omega
  · rw [dif_neg (by omega), if_neg hl]
    refine congrArg (fun e => y (ix3 i h e)) (Fin.ext ?_)
    show d.val / 64 * 64 + d.val % 32 = (d.val + 96) % 128
    omega

/-- The keys' rows, normalised and rotated. -/
theorem rotated_k (i : Fin 2048) (h : Fin 4) (d : Fin 128) :
    val_main_v69 (F := Ideal) x gk cs sn (ix3 i h d)
      = rotated (fun e => x (ix2 i (⟨128 * (16 + h.val) + e.val, by have := h.isLt; have := e.isLt; omega⟩ : Fin 3072)))
          (fun e => gk (ix2 (0 : Fin 1) e)) (fun e => cs (ix2 i e)) (fun e => sn (ix2 i e)) d := by
  have hn := normed_k x gk i h d
  have ht := (turned_k x gk i h d).trans (congrArg (fun y => turned y d) (funext fun e => normed_k x gk i h e))
  unfold val_main_v69 val_main_v68 val_main_v67 val_main_v66 val_main_v55 val_main_v54 val_main_v53 rotated
  generalize val_main_v52 (F := Ideal) x gk = y at hn
  generalize val_main_v65 (F := Ideal) x gk = z at ht
  pointwise
  rw [hn, ht]

/-- An entry of the reference's result, by head. -/
theorem reference_apply (i : Fin 2048) (h : Fin 20) (d : Fin 128) (l : Fin 2560) (hl : l.val = 128 * h.val + d.val) :
    val_main_v72 (F := Ideal) x gq gk cs sn (ix2 i l)
      = rotated (fun e => x (ix2 i (⟨128 * h.val + e.val, by have := h.isLt; have := e.isLt; omega⟩ : Fin 3072)))
          (fun e => (if h.val < 16 then gq else gk) (ix2 (0 : Fin 1) e)) (fun e => cs (ix2 i e)) (fun e => sn (ix2 i e)) d
        * (if h.val < 16 then scale else Ideal.ofBits .f32 0x3F800000#32) := by
  have hh := h.isLt
  have hd := d.isLt
  have hq := rotated_q x gq cs sn i
  have hk := rotated_k x gk cs sn i
  unfold val_main_v72 val_main_v71 val_main_v70 val_main_v38 val_main_v37 val_main_cst_2
  generalize val_main_v36 (F := Ideal) x gq cs sn = y at hq
  generalize val_main_v69 (F := Ideal) x gk cs sn = z at hk
  pointwise
  have ed : (⟨l.val % 128, by omega⟩ : Fin 128) = d := Fin.ext (by show l.val % 128 = d.val; omega)
  by_cases h16 : h.val < 16
  · have eh : (⟨l.val / 128, by omega⟩ : Fin 16) = ⟨h.val, h16⟩ := Fin.ext (by show l.val / 128 = h.val; omega)
    rw [dif_pos (by omega), if_pos h16, if_pos h16, ed, eh, hq]
  · have eh : (⟨l.val / 128 - 16, by omega⟩ : Fin 4) = ⟨h.val - 16, by omega⟩ := Fin.ext (by show l.val / 128 - 16 = h.val - 16; omega)
    have e16 : 16 + (h.val - 16) = h.val := by omega
    rw [dif_neg (by omega), if_neg h16, if_neg h16, ed, eh, hk, mul_one]
    simp only [e16]

end reference

/-- The kernel's q and k are the reference's. -/
theorem value : Cert.algebraic_PrepIdeal_PrepRefIdeal := by
  intro m g m' g' _ hargs
  refine ⟨fun c => (Cert.PrepIdeal.Gen.dats m 0 c).arrAt 5 Cert.PrepIdeal.cfg0.N, Cert.PrepIdeal.Value.run_blocks m g, ?_⟩
  refine (θ_run _ _ _).mono (fun r h c => ?_) (Cert.PrepRefIdeal.Value.run (F := Ideal) m' g')
  obtain ⟨h0, ha⟩ := h c
  obtain ⟨e0, e1, e2, e3, e4⟩ := hargs c
  refine ⟨h0.trans ?_, ha⟩
  rw [Cert.PrepRefIdeal.Read.val_main_v72_eq, e0, e1, e2, e3, e4]
  funext i
  rw [eq_ix2 i]
  have hl := (i 1).isLt
  have hl' : (i 1).val < 2560 := hl
  have hc : (i 1).val = 128 * (⟨(i 1).val / 128, by omega⟩ : Fin 20).val + (⟨(i 1).val % 128, by omega⟩ : Fin 128).val := by
    show (i 1).val = 128 * ((i 1).val / 128) + (i 1).val % 128
    omega
  exact (reference_apply _ _ _ _ _ _ _ _ _ hc).trans (Cert.PrepIdeal.Kernel.result_apply m c _ _ _ _ hc).symm

end Cert.Prep

end
-- ==== Proof.AdamOutKernel.lean ====
/-
  What the optimiser's kernel for an output projection leaves in its results over the extended reals, for all arguments:
  the gradient summed over the devices' parts, the weight's step and the two new moments.
-/
module

public import proofs.«01_k».proof.Proof.Gen.AdamOutIdeal.Value
public import proofs.«01_k».proof.Proof.AdamSpec
public import Idealize.ShloMosaic.Lib.Pointwise

@[expose] public section

set_option maxRecDepth 16384

noncomputable section

namespace Cert.AdamOutIdeal.Kernel

open Idealize.ShloMosaic Idealize.ShloMosaic.TcCoe Idealize.SL.Sem
open Cert.AdamOutIdeal Cert.AdamOutIdeal.Gen Cert.AdamOutIdeal.Value Cert.AdamSpec

/-! ## The payloads at an index -/

theorem hz : (![0, 0, 0] : Fin 3 → Nat) = fun _ => 0 := funext fun a => by fin_cases a <;> rfl

/-- One of the four parts a block holds. -/
theorem part0 (x : Vec Ideal S4x128x2048 .bf16) (r : Fin 128) (j : Fin 2048) : View.ld x r0_0 (ix3 (0 : Fin 1) r j) = x (ix3 (0 : Fin 4) r j) :=
  congrArg x (funext fun a => Fin.ext (by match a with | ⟨0, _⟩ => rfl | ⟨1, _⟩ => show 0 + 1 * r.val = r.val; omega | ⟨2, _⟩ => show 0 + 1 * j.val = j.val; omega))
theorem part1 (x : Vec Ideal S4x128x2048 .bf16) (r : Fin 128) (j : Fin 2048) : View.ld x r0_1 (ix3 (0 : Fin 1) r j) = x (ix3 (1 : Fin 4) r j) :=
  congrArg x (funext fun a => Fin.ext (by match a with | ⟨0, _⟩ => rfl | ⟨1, _⟩ => show 0 + 1 * r.val = r.val; omega | ⟨2, _⟩ => show 0 + 1 * j.val = j.val; omega))
theorem part2 (x : Vec Ideal S4x128x2048 .bf16) (r : Fin 128) (j : Fin 2048) : View.ld x r0_2 (ix3 (0 : Fin 1) r j) = x (ix3 (2 : Fin 4) r j) :=
  congrArg x (funext fun a => Fin.ext (by match a with | ⟨0, _⟩ => rfl | ⟨1, _⟩ => show 0 + 1 * r.val = r.val; omega | ⟨2, _⟩ => show 0 + 1 * j.val = j.val; omega))
theorem part3 (x : Vec Ideal S4x128x2048 .bf16) (r : Fin 128) (j : Fin 2048) : View.ld x r0_3 (ix3 (0 : Fin 1) r j) = x (ix3 (3 : Fin 4) r j) :=
  congrArg x (funext fun a => Fin.ext (by match a with | ⟨0, _⟩ => rfl | ⟨1, _⟩ => show 0 + 1 * r.val = r.val; omega | ⟨2, _⟩ => show 0 + 1 * j.val = j.val; omega))

/-- The gradient at an entry, the parts added in pairs. -/
theorem pay8_apply (x0 x1 x2 : Vec Ideal S1x128x2048 .f32) (x3 x4 : Vec Ideal S4x128x2048 .bf16) (x5 : Vec Ideal S16x128 .f32) (r : Fin 128) (j : Fin 2048) :
    k0_pay8 (F := Ideal) x0 x1 x2 x3 x4 x5 (ix2 r j) = gradOf (fun q => x3 (ix3 q r j)) (fun q => x4 (ix3 q r j)) := by
  have a0 := part0 x3
  have a1 := part1 x3
  have a2 := part2 x3
  have a3 := part3 x3
  have b0 := part0 x4
  have b1 := part1 x4
  have b2 := part2 x4
  have b3 := part3 x4
  unfold k0_pay8
  generalize View.ld x3 r0_0 = p0 at a0 ⊢
  generalize View.ld x3 r0_1 = p1 at a1 ⊢
  generalize View.ld x3 r0_2 = p2 at a2 ⊢
  generalize View.ld x3 r0_3 = p3 at a3 ⊢
  generalize View.ld x4 r0_0 = q0 at b0 ⊢
  generalize View.ld x4 r0_1 = q1 at b1 ⊢
  generalize View.ld x4 r0_2 = q2 at b2 ⊢
  generalize View.ld x4 r0_3 = q3 at b3 ⊢
  rw [gradOf_eq, ← a0, ← a1, ← a2, ← a3, ← b0, ← b1, ← b2, ← b3]
  clear a0 a1 a2 a3 b0 b1 b2 b3
  unfold k0_pay3
  pointwise

theorem pay4_apply (g : Vec Ideal S128x2048 .f32) (r : Fin 128) (j : Fin 2048) : k0_pay4 (F := Ideal) g (ix3 (0 : Fin 1) r j) = g (ix2 r j) := by
  unfold k0_pay4
  pointwise

theorem pay5_apply (g : Vec Ideal S128x2048 .f32) (m : Vec Ideal S1x128x2048 .f32) (r : Fin 128) (j : Fin 2048) :
    k0_pay5 (F := Ideal) g m (ix2 r j) = newM (m (ix3 (0 : Fin 1) r j)) (g (ix2 r j)) := by
  unfold k0_pay5 newM
  pointwise

theorem pay6_apply (g : Vec Ideal S128x2048 .f32) (v : Vec Ideal S1x128x2048 .f32) (r : Fin 128) (j : Fin 2048) :
    k0_pay6 (F := Ideal) g v (ix2 r j) = newV (v (ix3 (0 : Fin 1) r j)) (g (ix2 r j)) := by
  unfold k0_pay6 newV
  pointwise

theorem pay1_apply (g : Vec Ideal S128x2048 .f32) (r : Fin 128) (j : Fin 2048) : k0_pay1 (F := Ideal) g (ix3 (0 : Fin 1) r j) = g (ix2 r j) := by
  unfold k0_pay1
  pointwise

theorem pay2_apply (g : Vec Ideal S128x2048 .f32) (r : Fin 128) (j : Fin 2048) : k0_pay2 (F := Ideal) g (ix3 (0 : Fin 1) r j) = g (ix2 r j) := by
  unfold k0_pay2
  pointwise

theorem pay7_apply (g : Vec Ideal S128x2048 .f32) (w m v : Vec Ideal S1x128x2048 .f32) (r : Fin 128) (j : Fin 2048) :
    k0_pay7 (F := Ideal) g w m v (ix3 (0 : Fin 1) r j)
      = delta (w (ix3 (0 : Fin 1) r j)) (m (ix3 (0 : Fin 1) r j)) (v (ix3 (0 : Fin 1) r j)) (g (ix2 r j)) := by
  unfold k0_pay7 delta
  have h5 := pay5_apply g m
  have h6 := pay6_apply g v
  generalize k0_pay5 (F := Ideal) g m = y at h5
  generalize k0_pay6 (F := Ideal) g v = z at h6
  pointwise [h5, h6]

/-! ## What a point leaves in each output -/

section outs
variable (x0 x1 x2 : Vec Ideal S1x128x2048 .f32) (x3 x4 : Vec Ideal S4x128x2048 .bf16) (x5 : Vec Ideal S16x128 .f32) (r : Fin 128) (j : Fin 2048)

/-- The gradient at an entry of the blocks. -/
abbrev gAt : EReal := gradOf (fun q => x3 (ix3 q r j)) (fun q => x4 (ix3 q r j))

theorem out6 : out0_6 x0 x1 x2 x3 x4 x5 (ix3 (0 : Fin 1) r j) = gAt x3 x4 r j := by
  unfold out0_6
  rw [View.canon_unit_zero (S := S1x128x2048) hz, pay4_apply, pay8_apply]

theorem out7 : out0_7 x0 x1 x2 x3 x4 x5 (ix3 (0 : Fin 1) r j)
    = delta (x0 (ix3 (0 : Fin 1) r j)) (x1 (ix3 (0 : Fin 1) r j)) (x2 (ix3 (0 : Fin 1) r j)) (gAt x3 x4 r j) := by
  unfold out0_7
  simp only [View.ld_unit_zero (S := S1x128x2048) hz]
  rw [View.canon_unit_zero (S := S1x128x2048) hz, pay7_apply, pay8_apply]

theorem out8 : out0_8 x0 x1 x2 x3 x4 x5 (ix3 (0 : Fin 1) r j) = newM (x1 (ix3 (0 : Fin 1) r j)) (gAt x3 x4 r j) := by
  unfold out0_8
  simp only [View.ld_unit_zero (S := S1x128x2048) hz]
  rw [View.canon_unit_zero (S := S1x128x2048) hz, pay1_apply, pay5_apply, pay8_apply]

theorem out9 : out0_9 x0 x1 x2 x3 x4 x5 (ix3 (0 : Fin 1) r j) = newV (x2 (ix3 (0 : Fin 1) r j)) (gAt x3 x4 r j) := by
  unfold out0_9
  simp only [View.ld_unit_zero (S := S1x128x2048) hz]
  rw [View.canon_unit_zero (S := S1x128x2048) hz, pay2_apply, pay6_apply, pay8_apply]

end outs

/-! ## The blocks -/

/-- The block index of each window at a grid point. -/
theorem idx0 : ∀ t : Fin grid0.N, win0_0.index t 0 = 0 ∧ win0_0.index t 1 = t.val ∧ win0_0.index t 2 = 0 := by decide +kernel
theorem idx1 : ∀ t : Fin grid0.N, win0_1.index t 0 = 0 ∧ win0_1.index t 1 = t.val ∧ win0_1.index t 2 = 0 := by decide +kernel
theorem idx2 : ∀ t : Fin grid0.N, win0_2.index t 0 = 0 ∧ win0_2.index t 1 = t.val ∧ win0_2.index t 2 = 0 := by decide +kernel
theorem idx3 : ∀ t : Fin grid0.N, win0_3.index t 0 = 0 ∧ win0_3.index t 1 = t.val ∧ win0_3.index t 2 = 0 := by decide +kernel
theorem idx4 : ∀ t : Fin grid0.N, win0_4.index t 0 = 0 ∧ win0_4.index t 1 = t.val ∧ win0_4.index t 2 = 0 := by decide +kernel
theorem idx6 : ∀ t : Fin grid0.N, win0_6.index t 0 = 0 ∧ win0_6.index t 1 = t.val ∧ win0_6.index t 2 = 0 := by decide +kernel
theorem idx7 : ∀ t : Fin grid0.N, win0_7.index t 0 = 0 ∧ win0_7.index t 1 = t.val ∧ win0_7.index t 2 = 0 := by decide +kernel
theorem idx8 : ∀ t : Fin grid0.N, win0_8.index t 0 = 0 ∧ win0_8.index t 1 = t.val ∧ win0_8.index t 2 = 0 := by decide +kernel
theorem idx9 : ∀ t : Fin grid0.N, win0_9.index t 0 = 0 ∧ win0_9.index t 1 = t.val ∧ win0_9.index t 2 = 0 := by decide +kernel

/-- Every point writes its blocks back. -/
theorem flush6 : ∀ t : Fin cfg0.N, (cfg0.win 6).flush t = true :=
  (by decide +kernel : ∀ t : Fin grid0.N, win0_6.flush t = true)
theorem flush7 : ∀ t : Fin cfg0.N, (cfg0.win 7).flush t = true :=
  (by decide +kernel : ∀ t : Fin grid0.N, win0_7.flush t = true)
theorem flush8 : ∀ t : Fin cfg0.N, (cfg0.win 8).flush t = true :=
  (by decide +kernel : ∀ t : Fin grid0.N, win0_8.flush t = true)
theorem flush9 : ∀ t : Fin cfg0.N, (cfg0.win 9).flush t = true :=
  (by decide +kernel : ∀ t : Fin grid0.N, win0_9.flush t = true)

variable (m : (ℓ : Loc nD τ sig) → Buf (Elt Ideal) ℓ) (c : Dev nD)

/-- The arguments the kernel is run on: the weight, its two moments, and the parts of its gradient. -/
abbrev argW : Vec Ideal S1x512x2048 .f32 := m ((c : Thread nD τ).loc main_arg0)
abbrev argM : Vec Ideal S1x512x2048 .f32 := m ((c : Thread nD τ).loc main_arg1)
abbrev argV : Vec Ideal S1x512x2048 .f32 := m ((c : Thread nD τ).loc main_arg2)
abbrev argO : Vec Ideal S4x512x2048 .bf16 := m ((c : Thread nD τ).loc main_arg3)
abbrev argS : Vec Ideal S4x512x2048 .bf16 := m ((c : Thread nD τ).loc main_arg4)

section blocks
variable (t : Fin cfg0.N) (r : Fin 128) (j : Fin 2048) (i : Fin 512) (hi : i.val = t.val * 128 + r.val)
include hi

theorem blk0 : (iblk m c 0 t : Vec Ideal S1x128x2048 .f32) (ix3 (0 : Fin 1) r j) = argW m c (ix3 (0 : Fin 1) i j) := by
  unfold iblk
  rw [View.read_apply]
  show V m c main_arg0 _ = _
  unfold V
  refine congrArg (m ((c : Thread nD τ).loc main_arg0)) (funext fun a => Fin.ext ?_)
  have h := idx0 t
  match a with
  | ⟨0, _⟩ => show win0_0.index t 0 * 1 + 1 * 0 = 0; rw [h.1]
  | ⟨1, _⟩ => show win0_0.index t 1 * 128 + 1 * r.val = i.val; rw [h.2.1]; omega
  | ⟨2, _⟩ => show win0_0.index t 2 * 2048 + 1 * j.val = j.val; rw [h.2.2]; omega

theorem blk1 : (iblk m c 1 t : Vec Ideal S1x128x2048 .f32) (ix3 (0 : Fin 1) r j) = argM m c (ix3 (0 : Fin 1) i j) := by
  unfold iblk
  rw [View.read_apply]
  show V m c main_arg1 _ = _
  unfold V
  refine congrArg (m ((c : Thread nD τ).loc main_arg1)) (funext fun a => Fin.ext ?_)
  have h := idx1 t
  match a with
  | ⟨0, _⟩ => show win0_1.index t 0 * 1 + 1 * 0 = 0; rw [h.1]
  | ⟨1, _⟩ => show win0_1.index t 1 * 128 + 1 * r.val = i.val; rw [h.2.1]; omega
  | ⟨2, _⟩ => show win0_1.index t 2 * 2048 + 1 * j.val = j.val; rw [h.2.2]; omega

theorem blk2 : (iblk m c 2 t : Vec Ideal S1x128x2048 .f32) (ix3 (0 : Fin 1) r j) = argV m c (ix3 (0 : Fin 1) i j) := by
  unfold iblk
  rw [View.read_apply]
  show V m c main_arg2 _ = _
  unfold V
  refine congrArg (m ((c : Thread nD τ).loc main_arg2)) (funext fun a => Fin.ext ?_)
  have h := idx2 t
  match a with
  | ⟨0, _⟩ => show win0_2.index t 0 * 1 + 1 * 0 = 0; rw [h.1]
  | ⟨1, _⟩ => show win0_2.index t 1 * 128 + 1 * r.val = i.val; rw [h.2.1]; omega
  | ⟨2, _⟩ => show win0_2.index t 2 * 2048 + 1 * j.val = j.val; rw [h.2.2]; omega

theorem blk3 (q : Fin 4) : (iblk m c 3 t : Vec Ideal S4x128x2048 .bf16) (ix3 q r j) = argO m c (ix3 q i j) := by
  unfold iblk
  rw [View.read_apply]
  show V m c main_arg3 _ = _
  unfold V
  refine congrArg (m ((c : Thread nD τ).loc main_arg3)) (funext fun a => Fin.ext ?_)
  have h := idx3 t
  match a with
  | ⟨0, _⟩ => show win0_3.index t 0 * 4 + 1 * q.val = q.val; rw [h.1]; omega
  | ⟨1, _⟩ => show win0_3.index t 1 * 128 + 1 * r.val = i.val; rw [h.2.1]; omega
  | ⟨2, _⟩ => show win0_3.index t 2 * 2048 + 1 * j.val = j.val; rw [h.2.2]; omega

theorem blk4 (q : Fin 4) : (iblk m c 4 t : Vec Ideal S4x128x2048 .bf16) (ix3 q r j) = argS m c (ix3 q i j) := by
  unfold iblk
  rw [View.read_apply]
  show V m c main_arg4 _ = _
  unfold V
  refine congrArg (m ((c : Thread nD τ).loc main_arg4)) (funext fun a => Fin.ext ?_)
  have h := idx4 t
  match a with
  | ⟨0, _⟩ => show win0_4.index t 0 * 4 + 1 * q.val = q.val; rw [h.1]; omega
  | ⟨1, _⟩ => show win0_4.index t 1 * 128 + 1 * r.val = i.val; rw [h.2.1]; omega
  | ⟨2, _⟩ => show win0_4.index t 2 * 2048 + 1 * j.val = j.val; rw [h.2.2]; omega

/-- The blocks' gradient is the arrays'. -/
theorem grad_blk (x3 x4 : Vec Ideal S4x128x2048 .bf16) (h3 : x3 = iblk m c 3 t) (h4 : x4 = iblk m c 4 t) :
    gAt x3 x4 r j = gradOf (fun q => argO m c (ix3 q i j)) (fun q => argS m c (ix3 q i j)) := by
  subst h3 h4
  exact congrArg₂ gradOf (funext fun q => blk3 m c t r j i hi q) (funext fun q => blk4 m c t r j i hi q)

end blocks

/-- The point and the row of its block a row of the arrays is in. -/
theorem place (i : Fin 512) : ∃ (t : Fin cfg0.N) (r : Fin 128), i.val = t.val * 128 + r.val := by
  have hi := i.isLt
  refine ⟨⟨i.val / 128, by rw [show cfg0.N = 4 from N_0]; omega⟩, ⟨i.val % 128, by omega⟩, ?_⟩
  show i.val = i.val / 128 * 128 + i.val % 128
  omega

/-- The gradient at an entry of the arrays. -/
abbrev gOf (i : Fin 512) (j : Fin 2048) : EReal := gradOf (fun q => argO m c (ix3 q i j)) (fun q => argS m c (ix3 q i j))

/-- An entry of the gradient. -/
theorem result6 (i : Fin 512) (j : Fin 2048) : ((dats m 0 c).arrAt 6 cfg0.N : Vec Ideal S1x512x2048 .f32) (ix3 (0 : Fin 1) i j)
    = gOf m c i j := by
  obtain ⟨t, r, hi⟩ := place i
  have hb := congrFun (blocks6 m c t (flush6 t)) (ix3 (0 : Fin 1) r j)
  rw [flushed6, View.read_apply] at hb
  refine Eq.trans ?_ (hb.trans ((out6 _ _ _ _ _ _ r j).trans ((grad_blk m c t r j i hi _ _ rfl rfl))))
  refine congrArg ((dats m 0 c).arrAt 6 cfg0.N) (funext fun a => Fin.ext ?_)
  have h := idx6 t
  match a with
  | ⟨0, _⟩ => show 0 = win0_6.index t 0 * 1 + 1 * 0; rw [h.1]
  | ⟨1, _⟩ => show i.val = win0_6.index t 1 * 128 + 1 * r.val; rw [h.2.1]; omega
  | ⟨2, _⟩ => show j.val = win0_6.index t 2 * 2048 + 1 * j.val; rw [h.2.2]; omega

/-- An entry of the step. -/
theorem result7 (i : Fin 512) (j : Fin 2048) : ((dats m 0 c).arrAt 7 cfg0.N : Vec Ideal S1x512x2048 .f32) (ix3 (0 : Fin 1) i j)
    = delta (argW m c (ix3 (0 : Fin 1) i j)) (argM m c (ix3 (0 : Fin 1) i j)) (argV m c (ix3 (0 : Fin 1) i j)) (gOf m c i j) := by
  obtain ⟨t, r, hi⟩ := place i
  have hb := congrFun (blocks7 m c t (flush7 t)) (ix3 (0 : Fin 1) r j)
  rw [flushed7, View.read_apply] at hb
  refine Eq.trans ?_ (hb.trans ((out7 _ _ _ _ _ _ r j).trans (congr (congr (congr (congrArg delta (blk0 m c t r j i hi)) (blk1 m c t r j i hi)) (blk2 m c t r j i hi)) (grad_blk m c t r j i hi _ _ rfl rfl))))
  refine congrArg ((dats m 0 c).arrAt 7 cfg0.N) (funext fun a => Fin.ext ?_)
  have h := idx7 t
  match a with
  | ⟨0, _⟩ => show 0 = win0_7.index t 0 * 1 + 1 * 0; rw [h.1]
  | ⟨1, _⟩ => show i.val = win0_7.index t 1 * 128 + 1 * r.val; rw [h.2.1]; omega
  | ⟨2, _⟩ => show j.val = win0_7.index t 2 * 2048 + 1 * j.val; rw [h.2.2]; omega

/-- An entry of the new first moment. -/
theorem result8 (i : Fin 512) (j : Fin 2048) : ((dats m 0 c).arrAt 8 cfg0.N : Vec Ideal S1x512x2048 .f32) (ix3 (0 : Fin 1) i j)
    = newM (argM m c (ix3 (0 : Fin 1) i j)) (gOf m c i j) := by
  obtain ⟨t, r, hi⟩ := place i
  have hb := congrFun (blocks8 m c t (flush8 t)) (ix3 (0 : Fin 1) r j)
  rw [flushed8, View.read_apply] at hb
  refine Eq.trans ?_ (hb.trans ((out8 _ _ _ _ _ _ r j).trans (congrArg₂ newM (blk1 m c t r j i hi) (grad_blk m c t r j i hi _ _ rfl rfl))))
  refine congrArg ((dats m 0 c).arrAt 8 cfg0.N) (funext fun a => Fin.ext ?_)
  have h := idx8 t
  match a with
  | ⟨0, _⟩ => show 0 = win0_8.index t 0 * 1 + 1 * 0; rw [h.1]
  | ⟨1, _⟩ => show i.val = win0_8.index t 1 * 128 + 1 * r.val; rw [h.2.1]; omega
  | ⟨2, _⟩ => show j.val = win0_8.index t 2 * 2048 + 1 * j.val; rw [h.2.2]; omega

/-- An entry of the new second moment. -/
theorem result9 (i : Fin 512) (j : Fin 2048) : ((dats m 0 c).arrAt 9 cfg0.N : Vec Ideal S1x512x2048 .f32) (ix3 (0 : Fin 1) i j)
    = newV (argV m c (ix3 (0 : Fin 1) i j)) (gOf m c i j) := by
  obtain ⟨t, r, hi⟩ := place i
  have hb := congrFun (blocks9 m c t (flush9 t)) (ix3 (0 : Fin 1) r j)
  rw [flushed9, View.read_apply] at hb
  refine Eq.trans ?_ (hb.trans ((out9 _ _ _ _ _ _ r j).trans (congrArg₂ newV (blk2 m c t r j i hi) (grad_blk m c t r j i hi _ _ rfl rfl))))
  refine congrArg ((dats m 0 c).arrAt 9 cfg0.N) (funext fun a => Fin.ext ?_)
  have h := idx9 t
  match a with
  | ⟨0, _⟩ => show 0 = win0_9.index t 0 * 1 + 1 * 0; rw [h.1]
  | ⟨1, _⟩ => show i.val = win0_9.index t 1 * 128 + 1 * r.val; rw [h.2.1]; omega
  | ⟨2, _⟩ => show j.val = win0_9.index t 2 * 2048 + 1 * j.val; rw [h.2.2]; omega

end Cert.AdamOutIdeal.Kernel

end
-- ==== Proof.AdamOutClaim.lean ====
/-
  The optimiser's kernel for an output projection computes the reference's gradient, step and new moments.
-/
module

public import proofs.«01_k».proof.Proof.AdamOutKernel
public import proofs.«01_k».proof.Proof.Gen.AdamOutRefIdeal.Read
public import proofs.«01_k».proof.Defs

@[expose] public section

set_option maxRecDepth 16384

noncomputable section

namespace Cert.AdamOut

open Idealize.ShloMosaic Idealize.ShloMosaic.TcCoe Idealize.SL.Sem Cert.AdamSpec

/-- The reference runs from any state, leaves its arguments as they were and its semaphores at zero. -/
theorem reference_frame : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

section reference
open Cert.AdamOutRefIdeal Cert.AdamOutRefIdeal.Gen Cert.AdamOutRefIdeal.Read

variable (w m v : Vec Ideal S1x512x2048 .f32) (o s : Vec Ideal S4x512x2048 .bf16) (i : Fin 512) (j : Fin 2048)

/-- The gradient at an entry. -/
theorem v4_apply (i : Fin 512) (j : Fin 2048) : val_main_v4 (F := Ideal) o s (ix2 i j) = gradOf (fun q => o (ix3 q i j)) (fun q => s (ix3 q i j)) := by
  unfold val_main_v4 val_main_v3 val_main_v2 val_main_v1 val_main_v0 val_main_cst val_main_cst_0 gradOf
  pointwise

theorem v5_apply : val_main_v5 (F := Ideal) o s (ix3 (0 : Fin 1) i j) = gradOf (fun q => o (ix3 q i j)) (fun q => s (ix3 q i j)) := by
  unfold val_main_v5
  have h := v4_apply o s
  generalize val_main_v4 (F := Ideal) o s = y at h
  pointwise [h]

theorem v6_apply (i : Fin 512) (j : Fin 2048) : val_main_v6 (F := Ideal) o s (ix3 (0 : Fin 1) i j) = gradOf (fun q => o (ix3 q i j)) (fun q => s (ix3 q i j)) := by
  unfold val_main_v6
  have h := v4_apply o s
  generalize val_main_v4 (F := Ideal) o s = y at h
  pointwise [h]

/-- The new first moment at an entry. -/
theorem v11_apply (i : Fin 512) (j : Fin 2048) : val_main_v11 (F := Ideal) m o s (ix3 (0 : Fin 1) i j)
    = newM (m (ix3 (0 : Fin 1) i j)) (gradOf (fun q => o (ix3 q i j)) (fun q => s (ix3 q i j))) := by
  unfold val_main_v11 val_main_v10 val_main_v9 val_main_v8 val_main_v7 val_main_cst_1 val_main_cst_2 newM
  have h := v6_apply o s
  generalize val_main_v6 (F := Ideal) o s = y at h
  pointwise [h]

/-- The new second moment at an entry. -/
theorem v17_apply (i : Fin 512) (j : Fin 2048) : val_main_v17 (F := Ideal) v o s (ix3 (0 : Fin 1) i j)
    = newV (v (ix3 (0 : Fin 1) i j)) (gradOf (fun q => o (ix3 q i j)) (fun q => s (ix3 q i j))) := by
  unfold val_main_v17 val_main_v16 val_main_v15 val_main_v14 val_main_v13 val_main_v12 val_main_cst_3 val_main_cst_4 newV
  have h := v6_apply o s
  generalize val_main_v6 (F := Ideal) o s = y at h
  pointwise [h]

/-- The weight's step at an entry. -/
theorem v30_apply : val_main_v30 (F := Ideal) w m v o s (ix3 (0 : Fin 1) i j)
    = delta (w (ix3 (0 : Fin 1) i j)) (m (ix3 (0 : Fin 1) i j)) (v (ix3 (0 : Fin 1) i j)) (gradOf (fun q => o (ix3 q i j)) (fun q => s (ix3 q i j))) := by
  unfold val_main_v30 val_main_v29 val_main_v28 val_main_v27 val_main_v26 val_main_v25 val_main_v24 val_main_v23 val_main_v22 val_main_v21
    val_main_v20 val_main_v19 val_main_v18 val_main_cst_5 val_main_cst_6 val_main_cst_7 val_main_cst_8 val_main_cst_9 delta
  have h := v11_apply m o s
  have h' := v17_apply v o s
  generalize val_main_v11 (F := Ideal) m o s = y at h
  generalize val_main_v17 (F := Ideal) v o s = z at h'
  pointwise [h, h']

end reference

/-- The kernel's four results are the reference's. -/
theorem value : Cert.algebraic_AdamOutIdeal_AdamOutRefIdeal := by
  intro m g m' g' _ hargs
  refine ⟨fun c => (Cert.AdamOutIdeal.Gen.dats m 0 c).arrAt 6 Cert.AdamOutIdeal.cfg0.N,
    fun c => (Cert.AdamOutIdeal.Gen.dats m 0 c).arrAt 7 Cert.AdamOutIdeal.cfg0.N,
    fun c => (Cert.AdamOutIdeal.Gen.dats m 0 c).arrAt 8 Cert.AdamOutIdeal.cfg0.N,
    fun c => (Cert.AdamOutIdeal.Gen.dats m 0 c).arrAt 9 Cert.AdamOutIdeal.cfg0.N, Cert.AdamOutIdeal.Value.run_blocks m g, ?_⟩
  refine (θ_run _ _ _).mono (fun r h c => ?_) (Cert.AdamOutRefIdeal.Value.run (F := Ideal) m' g')
  obtain ⟨h0, h1, h2, h3, ha⟩ := h c
  obtain ⟨e0, e1, e2, e3, e4, e5⟩ := hargs c
  have at3 (i : Cert.AdamOutRefIdeal.S1x512x2048.Idx) : ∃ (a : Fin 512) (b : Fin 2048), i = ix3 (0 : Fin 1) a b :=
    ⟨i 1, i 2, by rw [eq_ix3 i]; exact congrArg (ix3 · _ _) (Subsingleton.elim _ _)⟩
  refine ⟨h0.trans ?_, h1.trans ?_, h2.trans ?_, h3.trans ?_, ha⟩
  · rw [Cert.AdamOutRefIdeal.Read.val_main_v5_eq, e3, e4]
    funext i
    obtain ⟨a, b, rfl⟩ := at3 i
    exact (v5_apply _ _ _ _).trans (Cert.AdamOutIdeal.Kernel.result6 m c _ _).symm
  · rw [Cert.AdamOutRefIdeal.Read.val_main_v30_eq, e0, e1, e2, e3, e4]
    funext i
    obtain ⟨a, b, rfl⟩ := at3 i
    exact (v30_apply _ _ _ _ _ _ _).trans (Cert.AdamOutIdeal.Kernel.result7 m c _ _).symm
  · rw [Cert.AdamOutRefIdeal.Read.val_main_v11_eq, e1, e3, e4]
    funext i
    obtain ⟨a, b, rfl⟩ := at3 i
    exact (v11_apply _ _ _ _ _).trans (Cert.AdamOutIdeal.Kernel.result8 m c _ _).symm
  · rw [Cert.AdamOutRefIdeal.Read.val_main_v17_eq, e2, e3, e4]
    funext i
    obtain ⟨a, b, rfl⟩ := at3 i
    exact (v17_apply _ _ _ _ _).trans (Cert.AdamOutIdeal.Kernel.result9 m c _ _).symm

end Cert.AdamOut

end
-- ==== Proof.lean ====
/-
  The certificate: each conjunct's theorem, in the claim's order.
-/
module

public import proofs.«01_k».proof.Defs
public import proofs.«01_k».proof.Proof.Gen.GqaBwd
public import proofs.«01_k».proof.Proof.Gen.GqaBwd.Frame
public import proofs.«01_k».proof.Proof.Gen.GqaBwdIdeal
public import proofs.«01_k».proof.Proof.Gen.GqaBwdIdeal.Value
public import proofs.«01_k».proof.Proof.Gen.GqaBwdIdeal.Frame
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.DwUp
public import proofs.«01_k».proof.Proof.Gen.DwUp.Frame
public import proofs.«01_k».proof.Proof.Gen.DwUpIdeal
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.Db
public import proofs.«01_k».proof.Proof.Gen.Db.Frame
public import proofs.«01_k».proof.Proof.Gen.DbIdeal
public import proofs.«01_k».proof.Proof.Gen.DbIdeal.Value
public import proofs.«01_k».proof.Proof.Gen.DbRefIdeal
public import proofs.«01_k».proof.Proof.Gen.DbRefIdeal.Run
public import proofs.«01_k».proof.Proof.Gen.DbRefIdeal.Read
public import proofs.«01_k».proof.Proof.Gen.ScBwd
public import proofs.«01_k».proof.Proof.Gen.ScBwd.Frame
public import proofs.«01_k».proof.Proof.Gen.ScBwdIdeal
public import proofs.«01_k».proof.Proof.Gen.ScBwdIdeal.Frame
public import proofs.«01_k».proof.Proof.Gen.ScRefIdeal
public import proofs.«01_k».proof.Proof.Gen.ScRefIdeal.Run
public import proofs.«01_k».proof.Proof.Gen.ScRefIdeal.Read
public import proofs.«01_k».proof.Proof.Gen.Da
public import proofs.«01_k».proof.Proof.Gen.Da.Frame
public import proofs.«01_k».proof.Proof.Gen.DaIdeal
public import proofs.«01_k».proof.Proof.Gen.DaIdeal.Value
public import proofs.«01_k».proof.Proof.Gen.DaRefIdeal
public import proofs.«01_k».proof.Proof.Gen.DaRefIdeal.Run
public import proofs.«01_k».proof.Proof.Gen.DaRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.GqaPr
public import proofs.«01_k».proof.Proof.Gen.GqaPr.Frame
public import proofs.«01_k».proof.Proof.Gen.GqaPrIdeal
public import proofs.«01_k».proof.Proof.Gen.GqaPrIdeal.Frame
public import proofs.«01_k».proof.Proof.Gen.GqaPrRefIdeal
public import proofs.«01_k».proof.Proof.Gen.GqaPrRefIdeal.Run
public import proofs.«01_k».proof.Proof.Gen.GqaPrRefIdeal.Read
public import proofs.«01_k».proof.Proof.Gen.GqaDa
public import proofs.«01_k».proof.Proof.Gen.GqaDa.Frame
public import proofs.«01_k».proof.Proof.Gen.GqaDaIdeal
public import proofs.«01_k».proof.Proof.Gen.GqaDaIdeal.Value
public import proofs.«01_k».proof.Proof.Gen.GqaDaRefIdeal
public import proofs.«01_k».proof.Proof.Gen.GqaDaRefIdeal.Run
public import proofs.«01_k».proof.Proof.Gen.GqaDaRefIdeal.Read
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.GqaFwd
public import proofs.«01_k».proof.Proof.Gen.GqaFwd.Frame
public import proofs.«01_k».proof.Proof.Gen.GqaFwdIdeal
public import proofs.«01_k».proof.Proof.Gen.GqaFwdIdeal.Value
public import proofs.«01_k».proof.Proof.Gen.GqaFwdRefIdeal
public import proofs.«01_k».proof.Proof.Gen.GqaFwdRefIdeal.Run
public import proofs.«01_k».proof.Proof.Gen.GqaFwdRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Adam
public import proofs.«01_k».proof.Proof.Gen.Adam.Frame
public import proofs.«01_k».proof.Proof.Gen.AdamIdeal
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.NaFwd
public import proofs.«01_k».proof.Proof.Gen.NaFwd.Frame
public import proofs.«01_k».proof.Proof.Gen.NaFwdIdeal
public import proofs.«01_k».proof.Proof.Gen.NaFwdIdeal.Value
public import proofs.«01_k».proof.Proof.Gen.NaFwdRefIdeal
public import proofs.«01_k».proof.Proof.Gen.NaFwdRefIdeal.Run
public import proofs.«01_k».proof.Proof.Gen.NaFwdRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.Pre_finite_qk
public import proofs.«01_k».proof.Proof.Gen.Pre_finite_ffn
public import proofs.«01_k».proof.Proof.Gen.Pre_finite_qk_fwd
public import proofs.«01_k».proof.Proof.Gen.Pre_finite_na
public import proofs.«01_k».proof.Proof.GqaClaim
public import proofs.«01_k».proof.Proof.FfnClaim
public import proofs.«01_k».proof.Proof.DwUpClaim
public import proofs.«01_k».proof.Proof.DbClaim
public import proofs.«01_k».proof.Proof.ScClaim
public import proofs.«01_k».proof.Proof.DaClaim
public import proofs.«01_k».proof.Proof.MixClaim
public import proofs.«01_k».proof.Proof.GqaPrClaim
public import proofs.«01_k».proof.Proof.GqaDaClaim
public import proofs.«01_k».proof.Proof.DownClaim
public import proofs.«01_k».proof.Proof.GqaFwdClaim
public import proofs.«01_k».proof.Proof.NormBwdClaim
public import proofs.«01_k».proof.Proof.NormFwdClaim
public import proofs.«01_k».proof.Proof.LossHeadClaim
public import proofs.«01_k».proof.Proof.AdamClaim
public import proofs.«01_k».proof.Proof.NaFwdClaim
public import proofs.«01_k».proof.Proof.PrepClaim
public import proofs.«01_k».proof.Proof.AdamOutClaim
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.GqaBwd.Gen.facts, Cert.GqaBwdIdeal.Gen.facts, Cert.GqaRefIdeal.Gen.facts, Cert.FfnBwd.Gen.facts, Cert.FfnBwdIdeal.Gen.facts, Cert.FfnRefIdeal.Gen.facts, Cert.DwUp.Gen.facts, Cert.DwUpIdeal.Gen.facts, Cert.DwUpRefIdeal.Gen.facts, Cert.Db.Gen.facts, Cert.DbIdeal.Gen.facts, Cert.DbRefIdeal.Gen.facts, Cert.ScBwd.Gen.facts, Cert.ScBwdIdeal.Gen.facts, Cert.ScRefIdeal.Gen.facts, Cert.Da.Gen.facts, Cert.DaIdeal.Gen.facts, Cert.DaRefIdeal.Gen.facts, Cert.Mix.Gen.facts, Cert.MixIdeal.Gen.facts, Cert.MixRefIdeal.Gen.facts, Cert.GqaPr.Gen.facts, Cert.GqaPrIdeal.Gen.facts, Cert.GqaPrRefIdeal.Gen.facts, Cert.GqaDa.Gen.facts, Cert.GqaDaIdeal.Gen.facts, Cert.GqaDaRefIdeal.Gen.facts, Cert.Down.Gen.facts, Cert.DownIdeal.Gen.facts, Cert.DownRefIdeal.Gen.facts, Cert.GqaFwd.Gen.facts, Cert.GqaFwdIdeal.Gen.facts, Cert.GqaFwdRefIdeal.Gen.facts, Cert.NormBwd.Gen.facts, Cert.NormBwdIdeal.Gen.facts, Cert.NormBwdRefIdeal.Gen.facts, Cert.NormFwd.Gen.facts, Cert.NormFwdIdeal.Gen.facts, Cert.NormFwdRefIdeal.Gen.facts, Cert.LossHead.Gen.facts, Cert.LossHeadIdeal.Gen.facts, Cert.LossHeadRefIdeal.Gen.facts, Cert.Adam.Gen.facts, Cert.AdamIdeal.Gen.facts, Cert.AdamRefIdeal.Gen.facts, Cert.NaFwd.Gen.facts, Cert.NaFwdIdeal.Gen.facts, Cert.NaFwdRefIdeal.Gen.facts, Cert.Prep.Gen.facts, Cert.PrepIdeal.Gen.facts, Cert.PrepRefIdeal.Gen.facts, Cert.AdamOut.Gen.facts, Cert.AdamOutIdeal.Gen.facts, Cert.AdamOutRefIdeal.Gen.facts, Cert.Pre_finite_qk.Gen.facts, Cert.Pre_finite_ffn.Gen.facts, Cert.Pre_finite_qk_fwd.Gen.facts, Cert.Pre_finite_na.Gen.facts,
  fun m g _ => Cert.GqaBwd.Gen.frame m g,
  fun m g _ => Cert.GqaBwdIdeal.Gen.frame m g,
  fun m g _ => Cert.GqaBwdIdeal.Gen.frame m g,
  Cert.Gqa.frame_reference,
  fun m g _ => Cert.Gqa.frame_reference m g trivial,
  fun m g _ => Cert.FfnBwd.Gen.frame m g,
  fun m g _ => Cert.FfnBwdIdeal.Gen.frame m g,
  fun m g _ => Cert.FfnBwdIdeal.Gen.frame m g,
  Cert.Ffn.reference_frame,
  fun m g _ => Cert.Ffn.reference_frame m g trivial,
  fun m g _ => Cert.DwUp.Gen.frame m g,
  fun m g _ => Cert.DwUpIdeal.Gen.frame m g,
  Cert.DwUp.reference_frame,
  fun m g _ => Cert.Db.Gen.frame m g,
  fun m g _ => Cert.DbIdeal.Gen.frame m g,
  Cert.Db.reference_frame,
  fun m g _ => Cert.ScBwd.Gen.frame m g,
  fun m g _ => Cert.ScBwdIdeal.Gen.frame m g,
  Cert.Sc.reference_frame,
  fun m g _ => Cert.Da.Gen.frame m g,
  fun m g _ => Cert.DaIdeal.Gen.frame m g,
  Cert.Da.reference_frame,
  fun m g _ => Cert.Mix.Gen.frame m g,
  fun m g _ => Cert.MixIdeal.Gen.frame m g,
  Cert.Mix.reference_frame,
  fun m g _ => Cert.GqaPr.Gen.frame m g,
  fun m g _ => Cert.GqaPrIdeal.Gen.frame m g,
  Cert.GqaPr.reference_frame,
  fun m g _ => Cert.GqaDa.Gen.frame m g,
  fun m g _ => Cert.GqaDaIdeal.Gen.frame m g,
  Cert.GqaDa.reference_frame,
  fun m g _ => Cert.Down.Gen.frame m g,
  fun m g _ => Cert.DownIdeal.Gen.frame m g,
  Cert.Down.reference_frame,
  fun m g _ => Cert.GqaFwd.Gen.frame m g,
  fun m g _ => Cert.GqaFwdIdeal.Gen.frame m g,
  fun m g _ => Cert.GqaFwdIdeal.Gen.frame m g,
  Cert.GqaFwd.reference_frame,
  fun m g _ => Cert.GqaFwd.reference_frame m g trivial,
  fun m g _ => Cert.NormBwd.Gen.frame m g,
  fun m g _ => Cert.NormBwdIdeal.Gen.frame m g,
  Cert.NormBwd.reference_frame,
  fun m g _ => Cert.NormFwd.Gen.frame m g,
  fun m g _ => Cert.NormFwdIdeal.Gen.frame m g,
  Cert.NormFwd.reference_frame,
  fun m g _ => Cert.LossHead.Gen.frame m g,
  fun m g _ => Cert.LossHeadIdeal.Gen.frame m g,
  Cert.LossHead.reference_frame,
  fun m g _ => Cert.Adam.Gen.frame m g,
  fun m g _ => Cert.AdamIdeal.Gen.frame m g,
  Cert.Adam.reference_frame,
  fun m g _ => Cert.NaFwd.Gen.frame m g,
  fun m g _ => Cert.NaFwdIdeal.Gen.frame m g,
  fun m g _ => Cert.NaFwdIdeal.Gen.frame m g,
  Cert.NaFwd.reference_frame,
  fun m g _ => Cert.NaFwd.reference_frame m g trivial,
  fun m g _ => Cert.Prep.Gen.frame m g,
  fun m g _ => Cert.PrepIdeal.Gen.frame m g,
  Cert.Prep.reference_frame,
  fun m g _ => Cert.AdamOut.Gen.frame m g,
  fun m g _ => Cert.AdamOutIdeal.Gen.frame m g,
  Cert.AdamOut.reference_frame,
  trivial,
  Cert.Gqa.value,
  trivial,
  Cert.Ffn.value,
  trivial,
  Cert.DwUp.value,
  trivial,
  Cert.Db.value,
  trivial,
  Cert.Sc.value,
  trivial,
  Cert.Da.value,
  trivial,
  Cert.Mix.value,
  trivial,
  Cert.GqaPr.value,
  trivial,
  Cert.GqaDa.value,
  trivial,
  Cert.Down.value,
  trivial,
  Cert.GqaFwd.value,
  trivial,
  Cert.NormBwd.value,
  trivial,
  Cert.NormFwd.value,
  trivial,
  Cert.LossHead.value,
  trivial,
  Cert.Adam.value,
  trivial,
  Cert.NaFwd.value,
  trivial,
  Cert.Prep.value,
  trivial,
  Cert.AdamOut.value⟩

end Cert.Proof

end
